-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeIdeal_rope_finite [hPre_rope_finite : Cert.Pre_rope_finite.Facts] (m : (ℓ : Loc Cert.RopeIdeal.nD Cert.RopeIdeal.τ Cert.RopeIdeal.sig) → Buf (Elt Ideal) ℓ) : Prop :=
  ∀ c : Dev Cert.RopeIdeal.nD,
    (Cert.Pre_rope_finite.fn (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)) (m ((c.tc : Thread Cert.RopeIdeal.nD Cert.RopeIdeal.τ).loc Cert.RopeIdeal.main_arg2)) (m ((c.tc : Thread Cert.RopeIdeal.nD Cert.RopeIdeal.τ).loc Cert.RopeIdeal.main_arg3))) = (fun _ => 1#1)

def Pre_RopeRefIdeal (m : (ℓ : Loc Cert.RopeRefIdeal.nD Cert.RopeRefIdeal.τ Cert.RopeRefIdeal.sig) → Buf (Elt Ideal) ℓ) : Prop :=
  True

def Pre_RopeRefIdeal_rope_finite [hPre_rope_finite : Cert.Pre_rope_finite.Facts] (m : (ℓ : Loc Cert.RopeRefIdeal.nD Cert.RopeRefIdeal.τ Cert.RopeRefIdeal.sig) → Buf (Elt Ideal) ℓ) : Prop :=
  ∀ c : Dev Cert.RopeRefIdeal.nD,
    (Cert.Pre_rope_finite.fn (F := Ideal) (m ((c.tc : Thread Cert.RopeRefIdeal.nD Cert.RopeRefIdeal.τ).loc Cert.RopeRefIdeal.main_arg0)) (m ((c.tc : Thread Cert.RopeRefIdeal.nD Cert.RopeRefIdeal.τ).loc Cert.RopeRefIdeal.main_arg1)) (m ((c.tc : Thread Cert.RopeRefIdeal.nD Cert.RopeRefIdeal.τ).loc Cert.RopeRefIdeal.main_arg2)) (m ((c.tc : Thread Cert.RopeRefIdeal.nD Cert.RopeRefIdeal.τ).loc Cert.RopeRefIdeal.main_arg3))) = (fun _ => 1#1)

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaRefIdeal (m : (ℓ : Loc Cert.NaRefIdeal.nD Cert.NaRefIdeal.τ Cert.NaRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_mod_finite [hPre_mod_finite : Cert.Pre_mod_finite.Facts] (m : (ℓ : Loc Cert.ModIdeal.nD Cert.ModIdeal.τ Cert.ModIdeal.sig) → Buf (Elt Ideal) ℓ) : Prop :=
  ∀ c : Dev Cert.ModIdeal.nD,
    (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4)) (m ((c.tc : Thread Cert.ModIdeal.nD Cert.ModIdeal.τ).loc Cert.ModIdeal.main_arg5)) (m ((c.tc : Thread Cert.ModIdeal.nD Cert.ModIdeal.τ).loc Cert.ModIdeal.main_arg6))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_mod_finite [hPre_mod_finite : Cert.Pre_mod_finite.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4)) (m ((c.tc : Thread Cert.ModRefIdeal.nD Cert.ModRefIdeal.τ).loc Cert.ModRefIdeal.main_arg5)) (m ((c.tc : Thread Cert.ModRefIdeal.nD Cert.ModRefIdeal.τ).loc Cert.ModRefIdeal.main_arg6))) = (fun _ => 1#1)

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotIdeal_rot_finite [hPre_rot_finite : Cert.Pre_rot_finite.Facts] (m : (ℓ : Loc Cert.RotIdeal.nD Cert.RotIdeal.τ Cert.RotIdeal.sig) → Buf (Elt Ideal) ℓ) : Prop :=
  ∀ c : Dev Cert.RotIdeal.nD,
    (Cert.Pre_rot_finite.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1)) (m ((c.tc : Thread Cert.RotIdeal.nD Cert.RotIdeal.τ).loc Cert.RotIdeal.main_arg2))) = (fun _ => 1#1)

def Pre_RotRefIdeal (m : (ℓ : Loc Cert.RotRefIdeal.nD Cert.RotRefIdeal.τ Cert.RotRefIdeal.sig) → Buf (Elt Ideal) ℓ) : Prop :=
  True

def Pre_RotRefIdeal_rot_finite [hPre_rot_finite : Cert.Pre_rot_finite.Facts] (m : (ℓ : Loc Cert.RotRefIdeal.nD Cert.RotRefIdeal.τ Cert.RotRefIdeal.sig) → Buf (Elt Ideal) ℓ) : Prop :=
  ∀ c : Dev Cert.RotRefIdeal.nD,
    (Cert.Pre_rot_finite.fn (F := Ideal) (m ((c.tc : Thread Cert.RotRefIdeal.nD Cert.RotRefIdeal.τ).loc Cert.RotRefIdeal.main_arg0)) (m ((c.tc : Thread Cert.RotRefIdeal.nD Cert.RotRefIdeal.τ).loc Cert.RotRefIdeal.main_arg1)) (m ((c.tc : Thread Cert.RotRefIdeal.nD Cert.RotRefIdeal.τ).loc Cert.RotRefIdeal.main_arg2))) = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Prod (m : (ℓ : Loc Cert.Prod.nD Cert.Prod.τ Cert.Prod.sig) → Buf (Elt Bits) ℓ) : Prop :=
  True

def Pre_ProdIdeal (m : (ℓ : Loc Cert.ProdIdeal.nD Cert.ProdIdeal.τ Cert.ProdIdeal.sig) → Buf (Elt Ideal) ℓ) : Prop :=
  True

def Pre_ProdRefIdeal (m : (ℓ : Loc Cert.ProdRefIdeal.nD Cert.ProdRefIdeal.τ Cert.ProdRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeIdeal_pre_rope_finite [hRopeIdeal : Cert.RopeIdeal.Facts] [hPre_rope_finite : Cert.Pre_rope_finite.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal_rope_finite m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_RopeRefIdeal_pre_rope_finite [hRopeRefIdeal : Cert.RopeRefIdeal.Facts] [hPre_rope_finite : Cert.Pre_rope_finite.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal_rope_finite m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3)
      ∧ r.2.mem ((c.tc : Thread Cert.Na.nD Cert.Na.τ).loc Cert.Na.main_arg4) = m ((c.tc : Thread Cert.Na.nD Cert.Na.τ).loc Cert.Na.main_arg4)
      ∧ r.2.mem ((c.tc : Thread Cert.Na.nD Cert.Na.τ).loc Cert.Na.main_arg5) = m ((c.tc : Thread Cert.Na.nD Cert.Na.τ).loc Cert.Na.main_arg5)
      ∧ r.2.mem ((c.tc : Thread Cert.Na.nD Cert.Na.τ).loc Cert.Na.main_arg6) = m ((c.tc : Thread Cert.Na.nD Cert.Na.τ).loc Cert.Na.main_arg6))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4)
      ∧ r.2.mem ((c.tc : Thread Cert.NaIdeal.nD Cert.NaIdeal.τ).loc Cert.NaIdeal.main_arg5) = m ((c.tc : Thread Cert.NaIdeal.nD Cert.NaIdeal.τ).loc Cert.NaIdeal.main_arg5)
      ∧ r.2.mem ((c.tc : Thread Cert.NaIdeal.nD Cert.NaIdeal.τ).loc Cert.NaIdeal.main_arg6) = m ((c.tc : Thread Cert.NaIdeal.nD Cert.NaIdeal.τ).loc Cert.NaIdeal.main_arg6))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4)
      ∧ r.2.mem ((c.tc : Thread Cert.NaRefIdeal.nD Cert.NaRefIdeal.τ).loc Cert.NaRefIdeal.main_arg5) = m ((c.tc : Thread Cert.NaRefIdeal.nD Cert.NaRefIdeal.τ).loc Cert.NaRefIdeal.main_arg5)
      ∧ r.2.mem ((c.tc : Thread Cert.NaRefIdeal.nD Cert.NaRefIdeal.τ).loc Cert.NaRefIdeal.main_arg6) = m ((c.tc : Thread Cert.NaRefIdeal.nD Cert.NaRefIdeal.τ).loc Cert.NaRefIdeal.main_arg6))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5)
      ∧ r.2.mem ((c.tc : Thread Cert.Mod.nD Cert.Mod.τ).loc Cert.Mod.main_arg6) = m ((c.tc : Thread Cert.Mod.nD Cert.Mod.τ).loc Cert.Mod.main_arg6))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6))
      ∧ r.2.sem = fun _ => 0)

def quiescent_ModIdeal_pre_mod_finite [hModIdeal : Cert.ModIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_mod_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5)
      ∧ r.2.mem ((c.tc : Thread Cert.ModRefIdeal.nD Cert.ModRefIdeal.τ).loc Cert.ModRefIdeal.main_arg6) = m ((c.tc : Thread Cert.ModRefIdeal.nD Cert.ModRefIdeal.τ).loc Cert.ModRefIdeal.main_arg6))
      ∧ r.2.sem = fun _ => 0)

def quiescent_ModRefIdeal_pre_mod_finite [hModRefIdeal : Cert.ModRefIdeal.Facts] [hPre_mod_finite : Cert.Pre_mod_finite.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_mod_finite m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5)
      ∧ r.2.mem ((c.tc : Thread Cert.ModRefIdeal.nD Cert.ModRefIdeal.τ).loc Cert.ModRefIdeal.main_arg6) = m ((c.tc : Thread Cert.ModRefIdeal.nD Cert.ModRefIdeal.τ).loc Cert.ModRefIdeal.main_arg6))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1)
      ∧ r.2.mem ((c.tc : Thread Cert.Rot.nD Cert.Rot.τ).loc Cert.Rot.main_arg2) = m ((c.tc : Thread Cert.Rot.nD Cert.Rot.τ).loc Cert.Rot.main_arg2))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2))
      ∧ r.2.sem = fun _ => 0)

def quiescent_RotIdeal_pre_rot_finite [hRotIdeal : Cert.RotIdeal.Facts] [hPre_rot_finite : Cert.Pre_rot_finite.Facts] : Prop :=
  ∀ (m : (ℓ : Loc Cert.RotIdeal.nD Cert.RotIdeal.τ Cert.RotIdeal.sig) → Buf (Elt Ideal) ℓ) (g : Dev Cert.RotIdeal.nD → PrngReg), Pre_RotIdeal_rot_finite m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2))
      ∧ r.2.sem = fun _ => 0)

def quiescent_RotRefIdeal_pre_rot_finite [hRotRefIdeal : Cert.RotRefIdeal.Facts] [hPre_rot_finite : Cert.Pre_rot_finite.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal_rot_finite m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_Prod [hProd : Cert.Prod.Facts] : Prop :=
  ∀ (m : (ℓ : Loc Cert.Prod.nD Cert.Prod.τ Cert.Prod.sig) → Buf (Elt Bits) ℓ) (g : Dev Cert.Prod.nD → PrngReg), Pre_Prod m →
    θ_run (Cert.Prod.defs (F := Bits)) (onTc (τ := Cert.Prod.τ) (Cert.Prod.main (F := Bits))) ⟨m, fun _ => 0, g⟩ (fun r => (∀ c : Dev Cert.Prod.nD,
      r.2.mem ((c.tc : Thread Cert.Prod.nD Cert.Prod.τ).loc Cert.Prod.main_arg0) = m ((c.tc : Thread Cert.Prod.nD Cert.Prod.τ).loc Cert.Prod.main_arg0)
      ∧ r.2.mem ((c.tc : Thread Cert.Prod.nD Cert.Prod.τ).loc Cert.Prod.main_arg1) = m ((c.tc : Thread Cert.Prod.nD Cert.Prod.τ).loc Cert.Prod.main_arg1))
      ∧ r.2.sem = fun _ => 0)

def quiescent_ProdIdeal [hProdIdeal : Cert.ProdIdeal.Facts] : Prop :=
  ∀ (m : (ℓ : Loc Cert.ProdIdeal.nD Cert.ProdIdeal.τ Cert.ProdIdeal.sig) → Buf (Elt Ideal) ℓ) (g : Dev Cert.ProdIdeal.nD → PrngReg), Pre_ProdIdeal m →
    θ_run (Cert.ProdIdeal.defs (F := Ideal)) (onTc (τ := Cert.ProdIdeal.τ) (Cert.ProdIdeal.main (F := Ideal))) ⟨m, fun _ => 0, g⟩ (fun r => (∀ c : Dev Cert.ProdIdeal.nD,
      r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
      ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ r.2.sem = fun _ => 0)

def quiescent_ProdRefIdeal [hProdRefIdeal : Cert.ProdRefIdeal.Facts] : Prop :=
  ∀ (m : (ℓ : Loc Cert.ProdRefIdeal.nD Cert.ProdRefIdeal.τ Cert.ProdRefIdeal.sig) → Buf (Elt Ideal) ℓ) (g : Dev Cert.ProdRefIdeal.nD → PrngReg), Pre_ProdRefIdeal m →
    θ_run (Cert.ProdRefIdeal.defs (F := Ideal)) (onTc (τ := Cert.ProdRefIdeal.τ) (Cert.ProdRefIdeal.main (F := Ideal))) ⟨m, fun _ => 0, g⟩ (fun r => (∀ c : Dev Cert.ProdRefIdeal.nD,
      r.2.mem ((c.tc : Thread Cert.ProdRefIdeal.nD Cert.ProdRefIdeal.τ).loc Cert.ProdRefIdeal.main_arg0) = m ((c.tc : Thread Cert.ProdRefIdeal.nD Cert.ProdRefIdeal.τ).loc Cert.ProdRefIdeal.main_arg0)
      ∧ r.2.mem ((c.tc : Thread Cert.ProdRefIdeal.nD Cert.ProdRefIdeal.τ).loc Cert.ProdRefIdeal.main_arg1) = m ((c.tc : Thread Cert.ProdRefIdeal.nD Cert.ProdRefIdeal.τ).loc Cert.ProdRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v8_0)) (v1 : (c : Dev Cert.NormIdeal.nD) → Buf (Elt Ideal) ((c.tc : Thread Cert.NormIdeal.nD Cert.NormIdeal.τ).loc Cert.NormIdeal.main_v8_1)) (v2 : (c : Dev Cert.NormIdeal.nD) → Buf (Elt Ideal) ((c.tc : Thread Cert.NormIdeal.nD Cert.NormIdeal.τ).loc Cert.NormIdeal.main_v8_2)) (v3 : (c : Dev Cert.NormIdeal.nD) → Buf (Elt Ideal) ((c.tc : Thread Cert.NormIdeal.nD Cert.NormIdeal.τ).loc Cert.NormIdeal.main_v8_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8_0) = v0 c
          ∧ r.2.mem ((c.tc : Thread Cert.NormIdeal.nD Cert.NormIdeal.τ).loc Cert.NormIdeal.main_v8_1) = v1 c
          ∧ r.2.mem ((c.tc : Thread Cert.NormIdeal.nD Cert.NormIdeal.τ).loc Cert.NormIdeal.main_v8_2) = v2 c
          ∧ r.2.mem ((c.tc : Thread Cert.NormIdeal.nD Cert.NormIdeal.τ).loc Cert.NormIdeal.main_v8_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v113) = v0 c
          ∧ r.2.mem ((c.tc : Thread Cert.NormRefIdeal.nD Cert.NormRefIdeal.τ).loc Cert.NormRefIdeal.main_v114) = v1 c
          ∧ r.2.mem ((c.tc : Thread Cert.NormRefIdeal.nD Cert.NormRefIdeal.τ).loc Cert.NormRefIdeal.main_v118) = v2 c
          ∧ r.2.mem ((c.tc : Thread Cert.NormRefIdeal.nD Cert.NormRefIdeal.τ).loc Cert.NormRefIdeal.main_v122) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Rope_RopeIdeal : Prop :=
  True

def algebraic_RopeIdeal_RopeRefIdeal_pre_rope_finite [hRopeIdeal : Cert.RopeIdeal.Facts] [hRopeRefIdeal : Cert.RopeRefIdeal.Facts] [hPre_rope_finite : Cert.Pre_rope_finite.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal_rope_finite m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v39_0)) (v1 : (c : Dev Cert.RopeIdeal.nD) → Buf (Elt Ideal) ((c.tc : Thread Cert.RopeIdeal.nD Cert.RopeIdeal.τ).loc Cert.RopeIdeal.main_v39_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v39_0) = v0 c
          ∧ r.2.mem ((c.tc : Thread Cert.RopeIdeal.nD Cert.RopeIdeal.τ).loc Cert.RopeIdeal.main_v39_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v283) = v0 c
          ∧ r.2.mem ((c.tc : Thread Cert.RopeRefIdeal.nD Cert.RopeRefIdeal.τ).loc Cert.RopeRefIdeal.main_v286) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_Na_NaIdeal : Prop :=
  True

def preserves_Flash_FlashIdeal : Prop :=
  True

def algebraic_FlashIdeal_FlashRefIdeal_pre_flash_finite [hFlashIdeal : Cert.FlashIdeal.Facts] [hFlashRefIdeal : Cert.FlashRefIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v39_0)) (v1 : (c : Dev Cert.FlashIdeal.nD) → Buf (Elt Ideal) ((c.tc : Thread Cert.FlashIdeal.nD Cert.FlashIdeal.τ).loc Cert.FlashIdeal.main_v39_1)) (v2 : (c : Dev Cert.FlashIdeal.nD) → Buf (Elt Ideal) ((c.tc : Thread Cert.FlashIdeal.nD Cert.FlashIdeal.τ).loc Cert.FlashIdeal.main_v39_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v39_0) = v0 c
          ∧ r.2.mem ((c.tc : Thread Cert.FlashIdeal.nD Cert.FlashIdeal.τ).loc Cert.FlashIdeal.main_v39_1) = v1 c
          ∧ r.2.mem ((c.tc : Thread Cert.FlashIdeal.nD Cert.FlashIdeal.τ).loc Cert.FlashIdeal.main_v39_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v52) = v0 c
          ∧ r.2.mem ((c.tc : Thread Cert.FlashRefIdeal.nD Cert.FlashRefIdeal.τ).loc Cert.FlashRefIdeal.main_v49) = v1 c
          ∧ r.2.mem ((c.tc : Thread Cert.FlashRefIdeal.nD Cert.FlashRefIdeal.τ).loc Cert.FlashRefIdeal.main_v33) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Fwd_FwdIdeal : Prop :=
  True

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v12_0)) (v1 : (c : Dev Cert.FwdIdeal.nD) → Buf (Elt Ideal) ((c.tc : Thread Cert.FwdIdeal.nD Cert.FwdIdeal.τ).loc Cert.FwdIdeal.main_v12_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v12_0) = v0 c
          ∧ r.2.mem ((c.tc : Thread Cert.FwdIdeal.nD Cert.FwdIdeal.τ).loc Cert.FwdIdeal.main_v12_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v22) = v0 c
          ∧ r.2.mem ((c.tc : Thread Cert.FwdRefIdeal.nD Cert.FwdRefIdeal.τ).loc Cert.FwdRefIdeal.main_v23) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v13) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v2_0)) (v1 : (c : Dev Cert.ActIdeal.nD) → Buf (Elt Ideal) ((c.tc : Thread Cert.ActIdeal.nD Cert.ActIdeal.τ).loc Cert.ActIdeal.main_v2_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v2_0) = v0 c
          ∧ r.2.mem ((c.tc : Thread Cert.ActIdeal.nD Cert.ActIdeal.τ).loc Cert.ActIdeal.main_v2_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_v8) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Mod_ModIdeal : Prop :=
  True

def algebraic_ModIdeal_ModRefIdeal_pre_mod_finite [hModIdeal : Cert.ModIdeal.Facts] [hModRefIdeal : Cert.ModRefIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_mod_finite m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)
      ∧ m' ((c.tc : Thread Cert.ModRefIdeal.nD Cert.ModRefIdeal.τ).loc Cert.ModRefIdeal.main_arg5) = m ((c.tc : Thread Cert.ModIdeal.nD Cert.ModIdeal.τ).loc Cert.ModIdeal.main_arg5)
      ∧ m' ((c.tc : Thread Cert.ModRefIdeal.nD Cert.ModRefIdeal.τ).loc Cert.ModRefIdeal.main_arg6) = m ((c.tc : Thread Cert.ModIdeal.nD Cert.ModIdeal.τ).loc Cert.ModIdeal.main_arg6)) →
    ∃ (v0 : (c : Dev Cert.ModIdeal.nD) → Buf (Elt Ideal) ((c.tc : Thread Cert.ModIdeal.nD Cert.ModIdeal.τ).loc Cert.ModIdeal.main_v10)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v10) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
          ∧ r.2.mem ((c.tc : Thread Cert.ModIdeal.nD Cert.ModIdeal.τ).loc Cert.ModIdeal.main_arg6) = m ((c.tc : Thread Cert.ModIdeal.nD Cert.ModIdeal.τ).loc Cert.ModIdeal.main_arg6))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v43) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4)
          ∧ r.2.mem ((c.tc : Thread Cert.ModRefIdeal.nD Cert.ModRefIdeal.τ).loc Cert.ModRefIdeal.main_arg5) = m' ((c.tc : Thread Cert.ModRefIdeal.nD Cert.ModRefIdeal.τ).loc Cert.ModRefIdeal.main_arg5)
          ∧ r.2.mem ((c.tc : Thread Cert.ModRefIdeal.nD Cert.ModRefIdeal.τ).loc Cert.ModRefIdeal.main_arg6) = m' ((c.tc : Thread Cert.ModRefIdeal.nD Cert.ModRefIdeal.τ).loc Cert.ModRefIdeal.main_arg6))

def preserves_Rot_RotIdeal : Prop :=
  True

def algebraic_RotIdeal_RotRefIdeal_pre_rot_finite [hRotIdeal : Cert.RotIdeal.Facts] [hRotRefIdeal : Cert.RotRefIdeal.Facts] [hPre_rot_finite : Cert.Pre_rot_finite.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal_rot_finite m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)
      ∧ m' ((c.tc : Thread Cert.RotRefIdeal.nD Cert.RotRefIdeal.τ).loc Cert.RotRefIdeal.main_arg2) = m ((c.tc : Thread Cert.RotIdeal.nD Cert.RotIdeal.τ).loc Cert.RotIdeal.main_arg2)) →
    ∃ (v0 : (c : Dev Cert.RotIdeal.nD) → Buf (Elt Ideal) ((c.tc : Thread Cert.RotIdeal.nD Cert.RotIdeal.τ).loc Cert.RotIdeal.main_v39)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v39) = v0 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
          ∧ r.2.mem ((c.tc : Thread Cert.RotIdeal.nD Cert.RotIdeal.τ).loc Cert.RotIdeal.main_arg2) = m ((c.tc : Thread Cert.RotIdeal.nD Cert.RotIdeal.τ).loc Cert.RotIdeal.main_arg2))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v132) = v0 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2))

def preserves_Win_WinIdeal : Prop :=
  True

def preserves_Prod_ProdIdeal : Prop :=
  True

def algebraic_ProdIdeal_ProdRefIdeal [hProdIdeal : Cert.ProdIdeal.Facts] [hProdRefIdeal : Cert.ProdRefIdeal.Facts] : Prop :=
  ∀ (m : (ℓ : Loc Cert.ProdIdeal.nD Cert.ProdIdeal.τ Cert.ProdIdeal.sig) → Buf (Elt Ideal) ℓ) (g : Dev Cert.ProdIdeal.nD → PrngReg)
    (m' : (ℓ : Loc Cert.ProdRefIdeal.nD Cert.ProdRefIdeal.τ Cert.ProdRefIdeal.sig) → Buf (Elt Ideal) ℓ) (g' : Dev Cert.ProdRefIdeal.nD → PrngReg), Pre_ProdIdeal m →
    (∀ c : Dev Cert.ProdIdeal.nD,
      m' ((c.tc : Thread Cert.ProdRefIdeal.nD Cert.ProdRefIdeal.τ).loc Cert.ProdRefIdeal.main_arg0) = m ((c.tc : Thread Cert.ProdIdeal.nD Cert.ProdIdeal.τ).loc Cert.ProdIdeal.main_arg0)
      ∧ m' ((c.tc : Thread Cert.ProdRefIdeal.nD Cert.ProdRefIdeal.τ).loc Cert.ProdRefIdeal.main_arg1) = m ((c.tc : Thread Cert.ProdIdeal.nD Cert.ProdIdeal.τ).loc Cert.ProdIdeal.main_arg1)) →
    ∃ (v0 : (c : Dev Cert.ProdIdeal.nD) → Buf (Elt Ideal) ((c.tc : Thread Cert.ProdIdeal.nD Cert.ProdIdeal.τ).loc Cert.ProdIdeal.main_v2)),
      θ_run (Cert.ProdIdeal.defs (F := Ideal)) (onTc (τ := Cert.ProdIdeal.τ) (Cert.ProdIdeal.main (F := Ideal))) ⟨m, fun _ => 0, g⟩ (fun r => ∀ c : Dev Cert.ProdIdeal.nD,
          r.2.mem ((c.tc : Thread Cert.ProdIdeal.nD Cert.ProdIdeal.τ).loc Cert.ProdIdeal.main_v2) = v0 c
          ∧ r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
          ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ θ_run (Cert.ProdRefIdeal.defs (F := Ideal)) (onTc (τ := Cert.ProdRefIdeal.τ) (Cert.ProdRefIdeal.main (F := Ideal))) ⟨m', fun _ => 0, g'⟩ (fun r => ∀ c : Dev Cert.ProdRefIdeal.nD,
          r.2.mem ((c.tc : Thread Cert.ProdRefIdeal.nD Cert.ProdRefIdeal.τ).loc Cert.ProdRefIdeal.main_v0) = v0 c
          ∧ r.2.mem ((c.tc : Thread Cert.ProdRefIdeal.nD Cert.ProdRefIdeal.τ).loc Cert.ProdRefIdeal.main_arg0) = m' ((c.tc : Thread Cert.ProdRefIdeal.nD Cert.ProdRefIdeal.τ).loc Cert.ProdRefIdeal.main_arg0)
          ∧ r.2.mem ((c.tc : Thread Cert.ProdRefIdeal.nD Cert.ProdRefIdeal.τ).loc Cert.ProdRefIdeal.main_arg1) = m' ((c.tc : Thread Cert.ProdRefIdeal.nD Cert.ProdRefIdeal.τ).loc Cert.ProdRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v3) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v5)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v5) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v6) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v1)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v1) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hRope : Cert.Rope.Facts) (hRopeIdeal : Cert.RopeIdeal.Facts) (hRopeRefIdeal : Cert.RopeRefIdeal.Facts) (hNa : Cert.Na.Facts) (hNaIdeal : Cert.NaIdeal.Facts) (hNaRefIdeal : Cert.NaRefIdeal.Facts) (hFlash : Cert.Flash.Facts) (hFlashIdeal : Cert.FlashIdeal.Facts) (hFlashRefIdeal : Cert.FlashRefIdeal.Facts) (hFwd : Cert.Fwd.Facts) (hFwdIdeal : Cert.FwdIdeal.Facts) (hFwdRefIdeal : Cert.FwdRefIdeal.Facts) (hFfn : Cert.Ffn.Facts) (hFfnIdeal : Cert.FfnIdeal.Facts) (hFfnRefIdeal : Cert.FfnRefIdeal.Facts) (hAct : Cert.Act.Facts) (hActIdeal : Cert.ActIdeal.Facts) (hActRefIdeal : Cert.ActRefIdeal.Facts) (hMod : Cert.Mod.Facts) (hModIdeal : Cert.ModIdeal.Facts) (hModRefIdeal : Cert.ModRefIdeal.Facts) (hRot : Cert.Rot.Facts) (hRotIdeal : Cert.RotIdeal.Facts) (hRotRefIdeal : Cert.RotRefIdeal.Facts) (hWin : Cert.Win.Facts) (hWinIdeal : Cert.WinIdeal.Facts) (hWinRefIdeal : Cert.WinRefIdeal.Facts) (hProd : Cert.Prod.Facts) (hProdIdeal : Cert.ProdIdeal.Facts) (hProdRefIdeal : Cert.ProdRefIdeal.Facts) (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts) (hDh : Cert.Dh.Facts) (hDhIdeal : Cert.DhIdeal.Facts) (hDhRefIdeal : Cert.DhRefIdeal.Facts) (hSum : Cert.Sum.Facts) (hSumIdeal : Cert.SumIdeal.Facts) (hSumRefIdeal : Cert.SumRefIdeal.Facts) (hAdam : Cert.Adam.Facts) (hAdamIdeal : Cert.AdamIdeal.Facts) (hAdamRefIdeal : Cert.AdamRefIdeal.Facts) (hPre_norm_finite : Cert.Pre_norm_finite.Facts) (hPre_rope_finite : Cert.Pre_rope_finite.Facts) (hPre_flash_finite : Cert.Pre_flash_finite.Facts) (hPre_fwd_finite : Cert.Pre_fwd_finite.Facts) (hPre_ffn_finite : Cert.Pre_ffn_finite.Facts) (hPre_act_finite : Cert.Pre_act_finite.Facts) (hPre_mod_finite : Cert.Pre_mod_finite.Facts) (hPre_rot_finite : Cert.Pre_rot_finite.Facts),
    quiescent_Loss (hLoss := hLoss)
    ∧ quiescent_LossIdeal (hLossIdeal := hLossIdeal)
    ∧ quiescent_LossRefIdeal (hLossRefIdeal := hLossRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Rope (hRope := hRope)
    ∧ quiescent_RopeIdeal (hRopeIdeal := hRopeIdeal)
    ∧ quiescent_RopeIdeal_pre_rope_finite (hRopeIdeal := hRopeIdeal) (hPre_rope_finite := hPre_rope_finite)
    ∧ quiescent_RopeRefIdeal (hRopeRefIdeal := hRopeRefIdeal)
    ∧ quiescent_RopeRefIdeal_pre_rope_finite (hRopeRefIdeal := hRopeRefIdeal) (hPre_rope_finite := hPre_rope_finite)
    ∧ quiescent_Na (hNa := hNa)
    ∧ quiescent_NaIdeal (hNaIdeal := hNaIdeal)
    ∧ quiescent_NaRefIdeal (hNaRefIdeal := hNaRefIdeal)
    ∧ quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Mod (hMod := hMod)
    ∧ quiescent_ModIdeal (hModIdeal := hModIdeal)
    ∧ quiescent_ModIdeal_pre_mod_finite (hModIdeal := hModIdeal) (hPre_mod_finite := hPre_mod_finite)
    ∧ quiescent_ModRefIdeal (hModRefIdeal := hModRefIdeal)
    ∧ quiescent_ModRefIdeal_pre_mod_finite (hModRefIdeal := hModRefIdeal) (hPre_mod_finite := hPre_mod_finite)
    ∧ quiescent_Rot (hRot := hRot)
    ∧ quiescent_RotIdeal (hRotIdeal := hRotIdeal)
    ∧ quiescent_RotIdeal_pre_rot_finite (hRotIdeal := hRotIdeal) (hPre_rot_finite := hPre_rot_finite)
    ∧ quiescent_RotRefIdeal (hRotRefIdeal := hRotRefIdeal)
    ∧ quiescent_RotRefIdeal_pre_rot_finite (hRotRefIdeal := hRotRefIdeal) (hPre_rot_finite := hPre_rot_finite)
    ∧ quiescent_Win (hWin := hWin)
    ∧ quiescent_WinIdeal (hWinIdeal := hWinIdeal)
    ∧ quiescent_WinRefIdeal (hWinRefIdeal := hWinRefIdeal)
    ∧ quiescent_Prod (hProd := hProd)
    ∧ quiescent_ProdIdeal (hProdIdeal := hProdIdeal)
    ∧ quiescent_ProdRefIdeal (hProdRefIdeal := hProdRefIdeal)
    ∧ quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ quiescent_Dh (hDh := hDh)
    ∧ quiescent_DhIdeal (hDhIdeal := hDhIdeal)
    ∧ quiescent_DhRefIdeal (hDhRefIdeal := hDhRefIdeal)
    ∧ quiescent_Sum (hSum := hSum)
    ∧ quiescent_SumIdeal (hSumIdeal := hSumIdeal)
    ∧ quiescent_SumRefIdeal (hSumRefIdeal := hSumRefIdeal)
    ∧ quiescent_Adam (hAdam := hAdam)
    ∧ quiescent_AdamIdeal (hAdamIdeal := hAdamIdeal)
    ∧ quiescent_AdamRefIdeal (hAdamRefIdeal := hAdamRefIdeal)
    ∧ preserves_Loss_LossIdeal
    ∧ algebraic_LossIdeal_LossRefIdeal (hLossIdeal := hLossIdeal) (hLossRefIdeal := hLossRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Rope_RopeIdeal
    ∧ algebraic_RopeIdeal_RopeRefIdeal_pre_rope_finite (hRopeIdeal := hRopeIdeal) (hRopeRefIdeal := hRopeRefIdeal) (hPre_rope_finite := hPre_rope_finite)
    ∧ preserves_Na_NaIdeal
    ∧ preserves_Flash_FlashIdeal
    ∧ algebraic_FlashIdeal_FlashRefIdeal_pre_flash_finite (hFlashIdeal := hFlashIdeal) (hFlashRefIdeal := hFlashRefIdeal) (hPre_flash_finite := hPre_flash_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Act_ActIdeal
    ∧ algebraic_ActIdeal_ActRefIdeal_pre_act_finite (hActIdeal := hActIdeal) (hActRefIdeal := hActRefIdeal) (hPre_act_finite := hPre_act_finite)
    ∧ preserves_Mod_ModIdeal
    ∧ algebraic_ModIdeal_ModRefIdeal_pre_mod_finite (hModIdeal := hModIdeal) (hModRefIdeal := hModRefIdeal) (hPre_mod_finite := hPre_mod_finite)
    ∧ preserves_Rot_RotIdeal
    ∧ algebraic_RotIdeal_RotRefIdeal_pre_rot_finite (hRotIdeal := hRotIdeal) (hRotRefIdeal := hRotRefIdeal) (hPre_rot_finite := hPre_rot_finite)
    ∧ preserves_Win_WinIdeal
    ∧ preserves_Prod_ProdIdeal
    ∧ algebraic_ProdIdeal_ProdRefIdeal (hProdIdeal := hProdIdeal) (hProdRefIdeal := hProdRefIdeal)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
    ∧ preserves_Dh_DhIdeal
    ∧ algebraic_DhIdeal_DhRefIdeal (hDhIdeal := hDhIdeal) (hDhRefIdeal := hDhRefIdeal)
    ∧ preserves_Sum_SumIdeal
    ∧ algebraic_SumIdeal_SumRefIdeal (hSumIdeal := hSumIdeal) (hSumRefIdeal := hSumRefIdeal)
    ∧ preserves_Adam_AdamIdeal
    ∧ algebraic_AdamIdeal_AdamRefIdeal (hAdamIdeal := hAdamIdeal) (hAdamRefIdeal := hAdamRefIdeal)
-- ==== Pre_act_finite.lean ====
abbrev S8448x1024 : Shape := ⟨2, ![8448, 1024]⟩
abbrev S1024x5632 : Shape := ⟨2, ![1024, 5632]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S8448x1024 .f32) (main_arg1 : FVec F S1024x5632 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Pre_ffn_finite.lean ====
abbrev S8448x1024 : Shape := ⟨2, ![8448, 1024]⟩
abbrev S1024x5632 : Shape := ⟨2, ![1024, 5632]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S8448x1024 1) : IVec S_ 1 :=
  let main_c_5 : IVec S_ 1 := constantI S_ 1 1#1
  let main_v17 : IVec S_ 1 := (fun x v => Host.reduce IntOp.andi x v reducesTo_S8448x1024_S_d0_1 h_S_) main_v16 main_c_5
  let main_v18 : IVec S_ 1 := andi main_v13 main_v17
  main_v18

def fn {F : FTy → Type} [FloatOps F] (main_arg0 : FVec F S8448x1024 .f32) (main_arg1 : FVec F S1024x5632 .f32) (main_arg2 : FVec F S2816x1024 .f32) (main_arg3 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8448x1024 .f32 := Host.absf main_arg3
  let main_cst_4 : FVec F S_ .f32 := constant S_ .f32 0x7F800000#32
  let main_v15 : FVec F S8448x1024 .f32 := broadcastInDim S8448x1024 ![] bcast_S_S8448x1024 main_cst_4
  let main_v16 : IVec S8448x1024 1 := cmpf .olt main_v14 main_v15
  fn_part1 (F := F) main_v13 main_v16
-- ==== Pre_flash_finite.lean ====
abbrev S2x4x8192x64 : Shape := ⟨4, ![2, 4, 8192, 64]⟩
abbrev S2x8448x64 : Shape := ⟨3, ![2, 8448, 64]⟩
abbrev S_ : Shape := ⟨0, ![]⟩

class Facts : Prop where
  bcast_S_S2x4x8192x64 : S_.BroadcastsInDim S2x4x8192x64 (![] : Fin 0 → Fin S2x4x8192x64.rank)
  reducesTo_S2x4x8192x64_S_d0_1_2_3 : S2x4x8192x64.ReducesTo [0, 1, 2, 3] S_
  h_S_ : 0 < S_.numel
  bcast_S_S2x8448x64 : S_.BroadcastsInDim S2x8448x64 (![] : Fin 0 → Fin S2x8448x64.rank)
  reducesTo_S2x8448x64_S_d0_1_2 : S2x8448x64.ReducesTo [0, 1, 2] S_

variable [Facts]

def fn_part1 {F : FTy → Type} [FloatOps F] (main_v13 : IVec S_ 1) (main_v16 : IVec S2x4x8192x64 1) : IVec S_ 1 :=
  let main_c_5 : IVec S_ 1 := constantI S_ 1 1#1
  let main_v17 : IVec S_ 1 := (fun x v => Host.reduce IntOp.andi x v reducesTo_S2x4x8192x64_S_d0_1_2_3 h_S_) main_v16 main_c_5
  let main_v18 : IVec S_ 1 := andi main_v13 main_v17
  main_v18

def fn {F : FTy → Type} [FloatOps F] (main_arg0 : FVec F S2x4x8192x64 .f32) (main_arg1 : FVec F S2x8448x64 .f32) (main_arg2 : FVec F S2x8448x64 .f32) (main_arg3 : FVec F S2x4x8192x64 .f32) : IVec S_ 1 :=
  let main_v0 : FVec F S2x4x8192x64 .f32 := Host.absf main_arg0
  let main_cst : FVec F S_ .f32 := constant S_ .f32 0x7F800000#32
  let main_v1 : FVec F S2x4x8192x64 .f32 := broadcastInDim S2x4x8192x64 ![] bcast_S_S2x4x8192x64 main_cst
  let main_v2 : IVec S2x4x8192x64 1 := cmpf .olt main_v0 main_v1
  let main_c : IVec S_ 1 := constantI S_ 1 1#1
  let main_v3 : IVec S_ 1 := (fun x v => Host.reduce IntOp.andi x v reducesTo_S2x4x8192x64_S_d0_1_2_3 h_S_) main_v2 main_c
  let main_v4 : FVec F S2x8448x64 .f32 := Host.absf main_arg1
  let main_cst_0 : FVec F S_ .f32 := constant S_ .f32 0x7F800000#32
  let main_v5 : FVec F S2x8448x64 .f32 := broadcastInDim S2x8448x64 ![] bcast_S_S2x8448x64 main_cst_0
  let main_v6 : IVec S2x8448x64 1 := cmpf .olt main_v4 main_v5
  let main_c_1 : IVec S_ 1 := constantI S_ 1 1#1
  let main_v7 : IVec S_ 1 := (fun x v => Host.reduce IntOp.andi x v reducesTo_S2x8448x64_S_d0_1_2 h_S_) main_v6 main_c_1
  let main_v8 : IVec S_ 1 := andi main_v3 main_v7
  let main_v9 : FVec F S2x8448x64 .f32 := Host.absf main_arg2
  let main_cst_2 : FVec F S_ .f32 := constant S_ .f32 0x7F800000#32
  let main_v10 : FVec F S2x8448x64 .f32 := broadcastInDim S2x8448x64 ![] bcast_S_S2x8448x64 main_cst_2
  let main_v11 : IVec S2x8448x64 1 := cmpf .olt main_v9 main_v10
  let main_c_3 : IVec S_ 1 := constantI S_ 1 1#1
  let main_v12 : IVec S_ 1 := (fun x v => Host.reduce IntOp.andi x v reducesTo_S2x8448x64_S_d0_1_2 h_S_) main_v11 main_c_3
  let main_v13 : IVec S_ 1 := andi main_v8 main_v12
  let main_v14 : FVec F S2x4x8192x64 .f32 := Host.absf main_arg3
  let main_cst_4 : FVec F S_ .f32 := constant S_ .f32 0x7F800000#32
  let main_v15 : FVec F S2x4x8192x64 .f32 := broadcastInDim S2x4x8192x64 ![] bcast_S_S2x4x8192x64 main_cst_4
  let main_v16 : IVec S2x4x8192x64 1 := cmpf .olt main_v14 main_v15
  fn_part1 (F := F) main_v13 main_v16
-- ==== Pre_fwd_finite.lean ====
abbrev S2x4x8192x64 : Shape := ⟨4, ![2, 4, 8192, 64]⟩
abbrev S2x8448x64 : Shape := ⟨3, ![2, 8448, 64]⟩
abbrev S_ : Shape := ⟨0, ![]⟩

class Facts : Prop where
  bcast_S_S2x4x8192x64 : S_.BroadcastsInDim S2x4x8192x64 (![] : Fin 0 → Fin S2x4x8192x64.rank)
  reducesTo_S2x4x8192x64_S_d0_1_2_3 : S2x4x8192x64.ReducesTo [0, 1, 2, 3] S_
  h_S_ : 0 < S_.numel
  bcast_S_S2x8448x64 : S_.BroadcastsInDim S2x8448x64 (![] : Fin 0 → Fin S2x8448x64.rank)
  reducesTo_S2x8448x64_S_d0_1_2 : S2x8448x64.ReducesTo [0, 1, 2] S_

variable [Facts]

def fn {F : FTy → Type} [FloatOps F] (main_arg0 : FVec F S2x4x8192x64 .f32) (main_arg1 : FVec F S2x8448x64 .f32) (main_arg2 : FVec F S2x8448x64 .f32) : IVec S_ 1 :=
  let main_v0 : FVec F S2x4x8192x64 .f32 := Host.absf main_arg0
  let main_cst : FVec F S_ .f32 := constant S_ .f32 0x7F800000#32
  let main_v1 : FVec F S2x4x8192x64 .f32 := broadcastInDim S2x4x8192x64 ![] bcast_S_S2x4x8192x64 main_cst
  let main_v2 : IVec S2x4x8192x64 1 := cmpf .olt main_v0 main_v1
  let main_c : IVec S_ 1 := constantI S_ 1 1#1
  let main_v3 : IVec S_ 1 := (fun x v => Host.reduce IntOp.andi x v reducesTo_S2x4x8192x64_S_d0_1_2_3 h_S_) main_v2 main_c
  let main_v4 : FVec F S2x8448x64 .f32 := Host.absf main_arg1
  let main_cst_0 : FVec F S_ .f32 := constant S_ .f32 0x7F800000#32
  let main_v5 : FVec F S2x8448x64 .f32 := broadcastInDim S2x8448x64 ![] bcast_S_S2x8448x64 main_cst_0
  let main_v6 : IVec S2x8448x64 1 := cmpf .olt main_v4 main_v5
  let main_c_1 : IVec S_ 1 := constantI S_ 1 1#1
  let main_v7 : IVec S_ 1 := (fun x v => Host.reduce IntOp.andi x v reducesTo_S2x8448x64_S_d0_1_2 h_S_) main_v6 main_c_1
  let main_v8 : IVec S_ 1 := andi main_v3 main_v7
  let main_v9 : FVec F S2x8448x64 .f32 := Host.absf main_arg2
  let main_cst_2 : FVec F S_ .f32 := constant S_ .f32 0x7F800000#32
  let main_v10 : FVec F S2x8448x64 .f32 := broadcastInDim S2x8448x64 ![] bcast_S_S2x8448x64 main_cst_2
  let main_v11 : IVec S2x8448x64 1 := cmpf .olt main_v9 main_v10
  let main_c_3 : IVec S_ 1 := constantI S_ 1 1#1
  let main_v12 : IVec S_ 1 := (fun x v => Host.reduce IntOp.andi x v reducesTo_S2x8448x64_S_d0_1_2 h_S_) main_v11 main_c_3
  let main_v13 : IVec S_ 1 := andi main_v8 main_v12
  main_v13
-- ==== Pre_mod_finite.lean ====
abbrev S8192x1024 : Shape := ⟨2, ![8192, 1024]⟩
abbrev S256x1024 : Shape := ⟨2, ![256, 1024]⟩
abbrev S1024 : Shape := ⟨1, ![1024]⟩
abbrev S1x1x1024 : Shape := ⟨3, ![1, 1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn_part1 {F : FTy → Type} [FloatOps F] (main_arg4 : FVec F S1024 .f32) (main_arg5 : FVec F S1x1x1024 .f32) (main_arg6 : FVec F S1024 .f32) (main_v13 : IVec S_ 1) (main_v16 : IVec S1x1x1024 1) : IVec S_ 1 :=
  let main_c_5 : IVec S_ 1 := constantI S_ 1 1#1
  let main_v17 : IVec S_ 1 := (fun x v => Host.reduce IntOp.andi x v reducesTo_S1x1x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x1x1024 .f32 := Host.absf main_arg5
  let main_cst_8 : FVec F S_ .f32 := constant S_ .f32 0x7F800000#32
  let main_v25 : FVec F S1x1x1024 .f32 := broadcastInDim S1x1x1024 ![] bcast_S_S1x1x1024 main_cst_8
  let main_v26 : IVec S1x1x1024 1 := cmpf .olt main_v24 main_v25
  let main_c_9 : IVec S_ 1 := constantI S_ 1 1#1
  let main_v27 : IVec S_ 1 := (fun x v => Host.reduce IntOp.andi x v reducesTo_S1x1x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S256x1024 .f32) (main_arg2 : FVec F S1024 .f32) (main_arg3 : FVec F S1x1x1024 .f32) (main_arg4 : FVec F S1024 .f32) (main_arg5 : FVec F S1x1x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1x1024 .f32 := Host.absf main_arg3
  let main_cst_4 : FVec F S_ .f32 := constant S_ .f32 0x7F800000#32
  let main_v15 : FVec F S1x1x1024 .f32 := broadcastInDim S1x1x1024 ![] bcast_S_S1x1x1024 main_cst_4
  let main_v16 : IVec S1x1x1024 1 := cmpf .olt main_v14 main_v15
  fn_part1 (F := F) main_arg4 main_arg5 main_arg6 main_v13 main_v16
-- ==== Pre_norm_finite.lean ====
abbrev S8192x1024 : Shape := ⟨2, ![8192, 1024]⟩
abbrev S256x1024 : Shape := ⟨2, ![256, 1024]⟩
abbrev S1024 : Shape := ⟨1, ![1024]⟩
abbrev S1x1x1024 : Shape := ⟨3, ![1, 1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn_part1 {F : FTy → Type} [FloatOps F] (main_arg4 : FVec F S1024 .f32) (main_arg5 : FVec F S8192x1024 .f32) (main_arg6 : FVec F S256x1024 .f32) (main_v13 : IVec S_ 1) (main_v16 : IVec S1x1x1024 1) : IVec S_ 1 :=
  let main_c_5 : IVec S_ 1 := constantI S_ 1 1#1
  let main_v17 : IVec S_ 1 := (fun x v => Host.reduce IntOp.andi x v reducesTo_S1x1x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  main_v33

def fn {F : FTy → Type} [FloatOps F] (main_arg0 : FVec F S8192x1024 .f32) (main_arg1 : FVec F S256x1024 .f32) (main_arg2 : FVec F S1024 .f32) (main_arg3 : FVec F S1x1x1024 .f32) (main_arg4 : FVec F S1024 .f32) (main_arg5 : FVec F S8192x1024 .f32) (main_arg6 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1x1024 .f32 := Host.absf main_arg3
  let main_cst_4 : FVec F S_ .f32 := constant S_ .f32 0x7F800000#32
  let main_v15 : FVec F S1x1x1024 .f32 := broadcastInDim S1x1x1024 ![] bcast_S_S1x1x1024 main_cst_4
  let main_v16 : IVec S1x1x1024 1 := cmpf .olt main_v14 main_v15
  fn_part1 (F := F) main_arg4 main_arg5 main_arg6 main_v13 main_v16
-- ==== Pre_rope_finite.lean ====
abbrev S10x8448x64 : Shape := ⟨3, ![10, 8448, 64]⟩
abbrev S64 : Shape := ⟨1, ![64]⟩
abbrev S_ : Shape := ⟨0, ![]⟩

class Facts : Prop where
  bcast_S_S10x8448x64 : S_.BroadcastsInDim S10x8448x64 (![] : Fin 0 → Fin S10x8448x64.rank)
  reducesTo_S10x8448x64_S_d0_1_2 : S10x8448x64.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S10x8448x64 1) : IVec S_ 1 :=
  let main_c_5 : IVec S_ 1 := constantI S_ 1 1#1
  let main_v17 : IVec S_ 1 := (fun x v => Host.reduce IntOp.andi x v reducesTo_S10x8448x64_S_d0_1_2 h_S_) main_v16 main_c_5
  let main_v18 : IVec S_ 1 := andi main_v13 main_v17
  main_v18

def fn {F : FTy → Type} [FloatOps F] (main_arg0 : FVec F S10x8448x64 .f32) (main_arg1 : FVec F S64 .f32) (main_arg2 : FVec F S64 .f32) (main_arg3 : FVec F S10x8448x64 .f32) : IVec S_ 1 :=
  let main_v0 : FVec F S10x8448x64 .f32 := Host.absf main_arg0
  let main_cst : FVec F S_ .f32 := constant S_ .f32 0x7F800000#32
  let main_v1 : FVec F S10x8448x64 .f32 := broadcastInDim S10x8448x64 ![] bcast_S_S10x8448x64 main_cst
  let main_v2 : IVec S10x8448x64 1 := cmpf .olt main_v0 main_v1
  let main_c : IVec S_ 1 := constantI S_ 1 1#1
  let main_v3 : IVec S_ 1 := (fun x v => Host.reduce IntOp.andi x v reducesTo_S10x8448x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S10x8448x64 .f32 := Host.absf main_arg3
  let main_cst_4 : FVec F S_ .f32 := constant S_ .f32 0x7F800000#32
  let main_v15 : FVec F S10x8448x64 .f32 := broadcastInDim S10x8448x64 ![] bcast_S_S10x8448x64 main_cst_4
  let main_v16 : IVec S10x8448x64 1 := cmpf .olt main_v14 main_v15
  fn_part1 (F := F) main_v13 main_v16
-- ==== Pre_rot_finite.lean ====
abbrev S10x8448x64 : Shape := ⟨3, ![10, 8448, 64]⟩
abbrev S64 : Shape := ⟨1, ![64]⟩
abbrev S_ : Shape := ⟨0, ![]⟩

class Facts : Prop where
  bcast_S_S10x8448x64 : S_.BroadcastsInDim S10x8448x64 (![] : Fin 0 → Fin S10x8448x64.rank)
  reducesTo_S10x8448x64_S_d0_1_2 : S10x8448x64.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S10x8448x64 .f32) (main_arg1 : FVec F S64 .f32) (main_arg2 : FVec F S64 .f32) : IVec S_ 1 :=
  let main_v0 : FVec F S10x8448x64 .f32 := Host.absf main_arg0
  let main_cst : FVec F S_ .f32 := constant S_ .f32 0x7F800000#32
  let main_v1 : FVec F S10x8448x64 .f32 := broadcastInDim S10x8448x64 ![] bcast_S_S10x8448x64 main_cst
  let main_v2 : IVec S10x8448x64 1 := cmpf .olt main_v0 main_v1
  let main_c : IVec S_ 1 := constantI S_ 1 1#1
  let main_v3 : IVec S_ 1 := (fun x v => Host.reduce IntOp.andi x v reducesTo_S10x8448x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Loss.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Norm.lean ====
abbrev S8192x1024 : Shape := ⟨2, ![8192, 1024]⟩
abbrev S256x1024 : Shape := ⟨2, ![256, 1024]⟩
abbrev S1024 : Shape := ⟨1, ![1024]⟩
abbrev S1x1x1024 : Shape := ⟨3, ![1, 1, 1024]⟩
abbrev S8448x1024 : Shape := ⟨2, ![8448, 1024]⟩
abbrev S1x1024 : Shape := ⟨2, ![1, 1024]⟩
abbrev S2x1024 : Shape := ⟨2, ![2, 1024]⟩
abbrev S768x1024 : Shape := ⟨2, ![768, 1024]⟩
abbrev S768x1 : Shape := ⟨2, ![768, 1]⟩
abbrev S768 : Shape := ⟨1, ![768]⟩

abbrev nBuf : Space → Nat
  | .hbm => 19
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1x1x1024, .f32⟩
  | .hbm, ⟨4, _⟩ => ⟨S1024, .f32⟩
  | .hbm, ⟨5, _⟩ => ⟨S8192x1024, .f32⟩
  | .hbm, ⟨6, _⟩ => ⟨S256x1024, .f32⟩
  | .hbm, ⟨7, _⟩ => ⟨S8448x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | .hbm, ⟨12, _⟩ => ⟨S8448x1024, .f32⟩
  | .hbm, ⟨13, _⟩ => ⟨S8448x1024, .bf16⟩
  | .hbm, ⟨14, _⟩ => ⟨S1x1024, .f32⟩
  | .hbm, ⟨15, _⟩ => ⟨S8448x1024, .f32⟩
  | .hbm, ⟨16, _⟩ => ⟨S1x1024, .f32⟩
  | .hbm, ⟨17, _⟩ => ⟨S2x1024, .f32⟩
  | .hbm, ⟨18, _⟩ => ⟨S2x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S2x1024, .f32⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | .local _ .vmem, ⟨7, _⟩ => ⟨S768x1024, .f32⟩
  | .local _ .vmem, ⟨8, _⟩ => ⟨S1x1024, .f32⟩
  | .local _ .vmem, ⟨9, _⟩ => ⟨S2x1024, .f32⟩
  | .local _ .vmem, ⟨10, _⟩ => ⟨S2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormRefIdeal.lean ====
abbrev S8192x1024 : Shape := ⟨2, ![8192, 1024]⟩
abbrev S256x1024 : Shape := ⟨2, ![256, 1024]⟩
abbrev S1024 : Shape := ⟨1, ![1024]⟩
abbrev S1x1x1024 : Shape := ⟨3, ![1, 1, 1024]⟩
abbrev S_ : Shape := ⟨0, ![]⟩
abbrev S1x8192x1024 : Shape := ⟨3, ![1, 8192, 1024]⟩
abbrev S1x8192 : Shape := ⟨2, ![1, 8192]⟩
abbrev S1x8192x1 : Shape := ⟨3, ![1, 8192, 1]⟩
abbrev S1x256x1024 : Shape := ⟨3, ![1, 256, 1024]⟩
abbrev S1x256 : Shape := ⟨2, ![1, 256]⟩
abbrev S1x256x1 : Shape := ⟨3, ![1, 256, 1]⟩
abbrev S1x1024 : Shape := ⟨2, ![1, 1024]⟩
abbrev S256 : Shape := ⟨1, ![256]⟩
abbrev S8192 : Shape := ⟨1, ![8192]⟩
abbrev S8448x1024 : Shape := ⟨2, ![8448, 1024]⟩
abbrev S2x1024 : Shape := ⟨2, ![2, 1024]⟩

abbrev nBuf : Space → Nat
  | .hbm => 160
  | .vmem => 0
  | .smem => 0
  | _ => 0

abbrev hbmTy0_0 (i : Nat) : BufTy := match i % 128 with
  | 0 => ⟨S8192x1024, .f32⟩
  | 1 => ⟨S256x1024, .f32⟩
  | 2 => ⟨S1024, .f32⟩
  | 3 => ⟨S1x1x1024, .f32⟩
  | 4 => ⟨S1024, .f32⟩
  | 5 => ⟨S8192x1024, .f32⟩
  | 6 => ⟨S256x1024, .f32⟩
  | 7 => ⟨S_, .f32⟩
  | 8 => ⟨S1x1x1024, .f32⟩
  | 9 => ⟨S_, .f32⟩
  | 10 => ⟨S1024, .f32⟩
  | 11 => ⟨S1x8192x1024, .f32⟩
  | 12 => ⟨S1x8192x1024, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1, .f32⟩
  | 23 => ⟨S1x8192x1, .f32⟩
  | 24 => ⟨S_, .f32⟩
  | 25 => ⟨S1x8192x1, .f32⟩
  | 26 => ⟨S1x8192x1, .f32⟩
  | 27 => ⟨S1x8192x1024, .f32⟩
  | 28 => ⟨S1x8192x1024, .f32⟩
  | 29 => ⟨S1x1x1024, .f32⟩
  | 30 => ⟨S1x8192x1024, .f32⟩
  | 31 => ⟨S1x8192x1024, .f32⟩
  | 32 => ⟨S_, .f32⟩
  | 33 => ⟨S1x1x1024, .f32⟩
  | 34 => ⟨S1x1x1024, .f32⟩
  | 35 => ⟨S1x8192x1024, .f32⟩
  | 36 => ⟨S1x8192x1024, .f32⟩
  | 37 => ⟨S1x8192x1024, .f32⟩
  | 38 => ⟨S1x8192x1024, .f32⟩
  | 39 => ⟨S1x256x1024, .f32⟩
  | 40 => ⟨S1x256x1024, .f32⟩
  | 41 => ⟨S_, .f32⟩
  | 42 => ⟨S1x256, .f32⟩
  | 43 => ⟨S1x256x1, .f32⟩
  | 44 => ⟨S_, .f32⟩
  | 45 => ⟨S1x256x1, .f32⟩
  | 46 => ⟨S1x256x1, .f32⟩
  | 47 => ⟨S_, .f32⟩
  | 48 => ⟨S1x256x1, .f32⟩
  | 49 => ⟨S1x256x1, .f32⟩
  | 50 => ⟨S1x256x1, .f32⟩
  | 51 => ⟨S1x256x1, .f32⟩
  | 52 => ⟨S_, .f32⟩
  | 53 => ⟨S1x256x1, .f32⟩
  | 54 => ⟨S1x256x1, .f32⟩
  | 55 => ⟨S1x256x1024, .f32⟩
  | 56 => ⟨S1x256x1024, .f32⟩
  | 57 => ⟨S1x1x1024, .f32⟩
  | 58 => ⟨S1x256x1024, .f32⟩
  | 59 => ⟨S1x256x1024, .f32⟩
  | 60 => ⟨S_, .f32⟩
  | 61 => ⟨S1024, .f32⟩
  | 62 => ⟨S1024, .f32⟩
  | 63 => ⟨S1x1x1024, .f32⟩
  | 64 => ⟨S1x256x1024, .f32⟩
  | 65 => ⟨S1x256x1024, .f32⟩
  | 66 => ⟨S1x1x1024, .f32⟩
  | 67 => ⟨S1x256x1024, .f32⟩
  | 68 => ⟨S1x256x1024, .f32⟩
  | 69 => ⟨S1x8192x1024, .f32⟩
  | 70 => ⟨S1x256x1024, .f32⟩
  | 71 => ⟨S_, .f32⟩
  | 72 => ⟨S1x1024, .f32⟩
  | 73 => ⟨S1x1x1024, .f32⟩
  | 74 => ⟨S_, .f32⟩
  | 75 => ⟨S1024, .f32⟩
  | 76 => ⟨S1x256x1024, .f32⟩
  | 77 => ⟨S_, .f32⟩
  | 78 => ⟨S1x1024, .f32⟩
  | 79 => ⟨S1x1x1024, .f32⟩
  | 80 => ⟨S1x256x1024, .f32⟩
  | 81 => ⟨S1x256x1024, .f32⟩
  | 82 => ⟨S_, .f32⟩
  | 83 => ⟨S1024, .f32⟩
  | 84 => ⟨S1x256x1024, .f32⟩
  | 85 => ⟨S_, .f32⟩
  | 86 => ⟨S1x1024, .f32⟩
  | 87 => ⟨S1x1x1024, .f32⟩
  | 88 => ⟨S1x256x1024, .f32⟩
  | 89 => ⟨S1x256x1024, .f32⟩
  | 90 => ⟨S_, .f32⟩
  | 91 => ⟨S1024, .f32⟩
  | 92 => ⟨S1x256x1024, .f32⟩
  | 93 => ⟨S_, .f32⟩
  | 94 => ⟨S1x256, .f32⟩
  | 95 => ⟨S1x256x1, .f32⟩
  | 96 => ⟨S1x256x1024, .f32⟩
  | 97 => ⟨S1x256x1024, .f32⟩
  | 98 => ⟨S1x256x1, .f32⟩
  | 99 => ⟨S_, .f32⟩
  | 100 => ⟨S1x256x1, .f32⟩
  | 101 => ⟨S1x256x1, .f32⟩
  | 102 => ⟨S_, .f32⟩
  | 103 => ⟨S256, .f32⟩
  | 104 => ⟨S1x256, .f32⟩
  | 105 => ⟨S1x256x1024, .f32⟩
  | 106 => ⟨S1x256x1024, .f32⟩
  | 107 => ⟨S1x256x1024, .f32⟩
  | 108 => ⟨S1x256x1024, .f32⟩
  | 109 => ⟨S1x256x1024, .f32⟩
  | 110 => ⟨S_, .f32⟩
  | 111 => ⟨S256x1024, .f32⟩
  | 112 => ⟨S_, .f32⟩
  | 113 => ⟨S1x1024, .f32⟩
  | 114 => ⟨S1x1x1024, .f32⟩
  | 115 => ⟨S1x8192x1024, .f32⟩
  | 116 => ⟨S_, .f32⟩
  | 117 => ⟨S1x1024, .f32⟩
  | 118 => ⟨S1x1x1024, .f32⟩
  | 119 => ⟨S1x8192x1024, .f32⟩
  | 120 => ⟨S1x8192x1024, .f32⟩
  | 121 => ⟨S1x8192x1024, .f32⟩
  | 122 => ⟨S_, .f32⟩
  | 123 => ⟨S1x1024, .f32⟩
  | 124 => ⟨S1x1x1024, .f32⟩
  | 125 => ⟨S1x8192x1024, .f32⟩
  | 126 => ⟨S1x8192x1024, .f32⟩
  | 127 => ⟨S_, .f32⟩
  | _ => ⟨S8192x1024, .f32⟩

abbrev hbmTy0_1 (i : Nat) : BufTy := match i % 128 with
  | 0 => ⟨S1024, .f32⟩
  | 1 => ⟨S1024, .f32⟩
  | 2 => ⟨S1x8192x1024, .f32⟩
  | 3 => ⟨S_, .f32⟩
  | 4 => ⟨S1x8192, .f32⟩
  | 5 => ⟨S1x8192x1, .f32⟩
  | 6 => ⟨S1x8192x1024, .f32⟩
  | 7 => ⟨S1x8192x1024, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S8192, .f32⟩
  | 14 => ⟨S1x8192, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S_, .f32⟩
  | 21 => ⟨S8192x1024, .f32⟩
  | 22 => ⟨S8448x1024, .f32⟩
  | 23 => ⟨S1x1024, .f32⟩
  | 24 => ⟨S1024, .f32⟩
  | 25 => ⟨S1x1024, .f32⟩
  | 26 => ⟨S1x1024, .f32⟩
  | 27 => ⟨S2x1024, .f32⟩
  | 28 => ⟨S1024, .f32⟩
  | 29 => ⟨S1x1024, .f32⟩
  | 30 => ⟨S1x1024, .f32⟩
  | 31 => ⟨S2x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_cst_21 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_23 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_24 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_25 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_26 : Ref sig .tc := ⟨.hbm, 137, rfl⟩
abbrev main_v103 : Ref sig .tc := ⟨.hbm, 138, rfl⟩
abbrev main_v104 : Ref sig .tc := ⟨.hbm, 139, rfl⟩
abbrev main_cst_27 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_28 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]
-- ==== Rope.lean ====
abbrev S10x8448x64 : Shape := ⟨3, ![10, 8448, 64]⟩
abbrev S64 : Shape := ⟨1, ![64]⟩
abbrev S64x64 : Shape := ⟨2, ![64, 64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x2 : Shape := ⟨3, ![8192, 32, 2]⟩
abbrev S8192x64 : Shape := ⟨2, ![8192, 64]⟩
abbrev S256x64 : Shape := ⟨2, ![256, 64]⟩
abbrev S8448x64 : Shape := ⟨2, ![8448, 64]⟩
abbrev S1x64 : Shape := ⟨2, ![1, 64]⟩
abbrev S2x64 : Shape := ⟨2, ![2, 64]⟩
abbrev S1x2816x64 : Shape := ⟨3, ![1, 2816, 64]⟩
abbrev S2816x64 : Shape := ⟨2, ![2816, 64]⟩
abbrev S2816 : Shape := ⟨1, ![2816]⟩
abbrev S2816x1 : Shape := ⟨2, ![2816, 1]⟩
abbrev S2x1 : Shape := ⟨2, ![2, 1]⟩

abbrev nBuf : Space → Nat
  | .hbm => 90
  | .vmem => 13
  | .smem => 0
  | _ => 0

abbrev bufTy : (tb : Table) → Fin (tcTables nBuf tb) → BufTy
  | .hbm, ⟨0, _⟩ => ⟨S10x8448x64, .f32⟩
  | .hbm, ⟨1, _⟩ => ⟨S64, .f32⟩
  | .hbm, ⟨2, _⟩ => ⟨S64, .f32⟩
  | .hbm, ⟨3, _⟩ => ⟨S10x8448x64, .f32⟩
  | .hbm, ⟨4, _⟩ => ⟨S64x64, .f32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S_, .i1⟩
  | .hbm, ⟨41, _⟩ => ⟨S8192, .i1⟩
  | .hbm, ⟨42, _⟩ => ⟨S8192, .i1⟩
  | .hbm, ⟨43, _⟩ => ⟨S8192, .i1⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S8192x1, .f32⟩
  | .hbm, ⟨63, _⟩ => ⟨S1x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x1, .f32⟩
  | .hbm, ⟨68, _⟩ => ⟨S1x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x32, .f32⟩
  | .hbm, ⟨73, _⟩ => ⟨S8192x32, .f32⟩
  | .hbm, ⟨74, _⟩ => ⟨S8192x32x2, .f32⟩
  | .hbm, ⟨75, _⟩ => ⟨S8192x64, .f32⟩
  | .hbm, ⟨76, _⟩ => ⟨S8192x32, .f32⟩
  | .hbm, ⟨77, _⟩ => ⟨S8192x32x2, .f32⟩
  | .hbm, ⟨78, _⟩ => ⟨S8192x64, .f32⟩
  | .hbm, ⟨79, _⟩ => ⟨S_, .f32⟩
  | .hbm, ⟨80, _⟩ => ⟨S256x64, .f32⟩
  | .hbm, ⟨81, _⟩ => ⟨S8448x64, .f32⟩
  | .hbm, ⟨82, _⟩ => ⟨S_, .f32⟩
  | .hbm, ⟨83, _⟩ => ⟨S256x64, .f32⟩
  | .hbm, ⟨84, _⟩ => ⟨S8448x64, .f32⟩
  | .hbm, ⟨85, _⟩ => ⟨S1x64, .f32⟩
  | .hbm, ⟨86, _⟩ => ⟨S1x64, .f32⟩
  | .hbm, ⟨87, _⟩ => ⟨S2x64, .f32⟩
  | .hbm, ⟨88, _⟩ => ⟨S10x8448x64, .f32⟩
  | .hbm, ⟨89, _⟩ => ⟨S2x64, .f32⟩
  | .local _ .vmem, ⟨0, _⟩ => ⟨S1x2816x64, .f32⟩
  | .local _ .vmem, ⟨1, _⟩ => ⟨S1x2816x64, .f32⟩
  | .local _ .vmem, ⟨2, _⟩ => ⟨S2x64, .f32⟩
  | .local _ .vmem, ⟨3, _⟩ => ⟨S2816x64, .f32⟩
  | .local _ .vmem, ⟨4, _⟩ => ⟨S2816x64, .f32⟩
  | .local _ .vmem, ⟨5, _⟩ => ⟨S2816x64, .f32⟩
  | .local _ .vmem, ⟨6, _⟩ => ⟨S2816x64, .f32⟩
  | .local _ .vmem, ⟨7, _⟩ => ⟨S64x64, .f32⟩
  | .local _ .vmem, ⟨8, _⟩ => ⟨S1x2816x64, .f32⟩
  | .local _ .vmem, ⟨9, _⟩ => ⟨S1x2816x64, .f32⟩
  | .local _ .vmem, ⟨10, _⟩ => ⟨S1x2816x64, .f32⟩
  | .local _ .vmem, ⟨11, _⟩ => ⟨S1x2816x64, .f32⟩
  | .local _ .vmem, ⟨12, _⟩ => ⟨S2x64, .f32⟩
  | _, _ => ⟨S10x8448x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst_1 : Ref sig .tc := ⟨.hbm, 49, rfl⟩
abbrev main_v6 : Ref sig .tc := ⟨.hbm, 50, rfl⟩
abbrev main_v7 : Ref sig .tc := ⟨.hbm, 51, rfl⟩
abbrev main_cst_2 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_3 : Ref sig .tc := ⟨.hbm, 56, rfl⟩
abbrev main_v11 : Ref sig .tc := ⟨.hbm, 57, rfl⟩
abbrev main_v12 : Ref sig .tc := ⟨.hbm, 58, rfl⟩
abbrev main_cst_4 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_5 : Ref sig .tc := ⟨.hbm, 79, rfl⟩
abbrev main_v32 : Ref sig .tc := ⟨.hbm, 80, rfl⟩
abbrev main_v33 : Ref sig .tc := ⟨.hbm, 81, rfl⟩
abbrev main_cst_6 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39_0 : Ref sig .tc := ⟨.hbm, 88, rfl⟩
abbrev main_v39_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![10, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2816x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2816x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2816x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RopeRefIdeal.lean ====
abbrev S10x8448x64 : Shape := ⟨3, ![10, 8448, 64]⟩
abbrev S64 : Shape := ⟨1, ![64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8x8192x64 : Shape := ⟨3, ![8, 8192, 64]⟩
abbrev S8x8192 : Shape := ⟨2, ![8, 8192]⟩
abbrev S8x8192x1 : Shape := ⟨3, ![8, 8192, 1]⟩
abbrev S1x1x64 : Shape := ⟨3, ![1, 1, 64]⟩
abbrev S8x8192x32x2 : Shape := ⟨4, ![8, 8192, 32, 2]⟩
abbrev S8x8192x32x1 : Shape := ⟨4, ![8, 8192, 32, 1]⟩
abbrev S8x8192x32 : Shape := ⟨3, ![8, 8192, 32]⟩
abbrev S1x8192x32 : Shape := ⟨3, ![1, 8192, 32]⟩
abbrev S2x8192x64 : Shape := ⟨3, ![2, 8192, 64]⟩
abbrev S2x8192 : Shape := ⟨2, ![2, 8192]⟩
abbrev S2x8192x1 : Shape := ⟨3, ![2, 8192, 1]⟩
abbrev S2x8192x32x2 : Shape := ⟨4, ![2, 8192, 32, 2]⟩
abbrev S2x8192x32x1 : Shape := ⟨4, ![2, 8192, 32, 1]⟩
abbrev S2x8192x32 : Shape := ⟨3, ![2, 8192, 32]⟩
abbrev S8x256x64 : Shape := ⟨3, ![8, 256, 64]⟩
abbrev S8x256 : Shape := ⟨2, ![8, 256]⟩
abbrev S8x256x1 : Shape := ⟨3, ![8, 256, 1]⟩
abbrev S2x256x64 : Shape := ⟨3, ![2, 256, 64]⟩
abbrev S2x256 : Shape := ⟨2, ![2, 256]⟩
abbrev S2x256x1 : Shape := ⟨3, ![2, 256, 1]⟩
abbrev S8x8448x64 : Shape := ⟨3, ![8, 8448, 64]⟩
abbrev S2x8448x64 : Shape := ⟨3, ![2, 8448, 64]⟩
abbrev S1x64 : Shape := ⟨2, ![1, 64]⟩
abbrev S2x64 : Shape := ⟨2, ![2, 64]⟩

abbrev nBuf : Space → Nat
  | .hbm => 377
  | .vmem => 0
  | .smem => 0
  | _ => 0

abbrev hbmTy0_0 (i : Nat) : BufTy := match i % 128 with
  | 0 => ⟨S10x8448x64, .f32⟩
  | 1 => ⟨S64, .f32⟩
  | 2 => ⟨S64, .f32⟩
  | 3 => ⟨S10x8448x64, .f32⟩
  | 4 => ⟨S8192, .i32⟩
  | 5 => ⟨S_, .i32⟩
  | 6 => ⟨S_, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S8192, .i32⟩
  | 14 => ⟨S8192, .i32⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S8192, .i32⟩
  | 23 => ⟨S8192, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i1⟩
  | 35 => ⟨S_, .i32⟩
  | 36 => ⟨S8192, .i32⟩
  | 37 => ⟨S8192, .i1⟩
  | 38 => ⟨S_, .i32⟩
  | 39 => ⟨S_, .i1⟩
  | 40 => ⟨S8192, .i1⟩
  | 41 => ⟨S8192, .i1⟩
  | 42 => ⟨S8192, .i1⟩
  | 43 => ⟨S8192, .i32⟩
  | 44 => ⟨S8192, .i32⟩
  | 45 => ⟨S8192, .i32⟩
  | 46 => ⟨S8192, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S8192x1, .f32⟩
  | 62 => ⟨S1x16, .f32⟩
  | 63 => ⟨S8192x16, .f32⟩
  | 64 => ⟨S8192x16, .f32⟩
  | 65 => ⟨S8192x16, .f32⟩
  | 66 => ⟨S8192x1, .f32⟩
  | 67 => ⟨S1x16, .f32⟩
  | 68 => ⟨S8192x16, .f32⟩
  | 69 => ⟨S8192x16, .f32⟩
  | 70 => ⟨S8192x16, .f32⟩
  | 71 => ⟨S8192x32, .f32⟩
  | 72 => ⟨S8192x32, .f32⟩
  | 73 => ⟨S8192x32, .f32⟩
  | 74 => ⟨S8x8192x64, .f32⟩
  | 75 => ⟨S8x8192x64, .f32⟩
  | 76 => ⟨S_, .f32⟩
  | 77 => ⟨S8x8192, .f32⟩
  | 78 => ⟨S8x8192x1, .f32⟩
  | 79 => ⟨S_, .f32⟩
  | 80 => ⟨S8x8192x1, .f32⟩
  | 81 => ⟨S8x8192x1, .f32⟩
  | 82 => ⟨S_, .f32⟩
  | 83 => ⟨S8x8192x1, .f32⟩
  | 84 => ⟨S8x8192x1, .f32⟩
  | 85 => ⟨S8x8192x1, .f32⟩
  | 86 => ⟨S8x8192x1, .f32⟩
  | 87 => ⟨S_, .f32⟩
  | 88 => ⟨S8x8192x1, .f32⟩
  | 89 => ⟨S8x8192x1, .f32⟩
  | 90 => ⟨S8x8192x64, .f32⟩
  | 91 => ⟨S8x8192x64, .f32⟩
  | 92 => ⟨S1x1x64, .f32⟩
  | 93 => ⟨S8x8192x64, .f32⟩
  | 94 => ⟨S8x8192x64, .f32⟩
  | 95 => ⟨S8x8192x32x2, .f32⟩
  | 96 => ⟨S8x8192x32x1, .f32⟩
  | 97 => ⟨S8x8192x32, .f32⟩
  | 98 => ⟨S8x8192x32x1, .f32⟩
  | 99 => ⟨S8x8192x32, .f32⟩
  | 100 => ⟨S1x8192x32, .f32⟩
  | 101 => ⟨S8x8192x32, .f32⟩
  | 102 => ⟨S8x8192x32, .f32⟩
  | 103 => ⟨S1x8192x32, .f32⟩
  | 104 => ⟨S8x8192x32, .f32⟩
  | 105 => ⟨S8x8192x32, .f32⟩
  | 106 => ⟨S8x8192x32, .f32⟩
  | 107 => ⟨S1x8192x32, .f32⟩
  | 108 => ⟨S8x8192x32, .f32⟩
  | 109 => ⟨S8x8192x32, .f32⟩
  | 110 => ⟨S1x8192x32, .f32⟩
  | 111 => ⟨S8x8192x32, .f32⟩
  | 112 => ⟨S8x8192x32, .f32⟩
  | 113 => ⟨S8x8192x32, .f32⟩
  | 114 => ⟨S8x8192x32x1, .f32⟩
  | 115 => ⟨S8x8192x32x1, .f32⟩
  | 116 => ⟨S8x8192x32x2, .f32⟩
  | 117 => ⟨S8x8192x64, .f32⟩
  | 118 => ⟨S2x8192x64, .f32⟩
  | 119 => ⟨S2x8192x64, .f32⟩
  | 120 => ⟨S_, .f32⟩
  | 121 => ⟨S2x8192, .f32⟩
  | 122 => ⟨S2x8192x1, .f32⟩
  | 123 => ⟨S_, .f32⟩
  | 124 => ⟨S2x8192x1, .f32⟩
  | 125 => ⟨S2x8192x1, .f32⟩
  | 126 => ⟨S_, .f32⟩
  | 127 => ⟨S2x8192x1, .f32⟩
  | _ => ⟨S10x8448x64, .f32⟩

abbrev hbmTy0_1 (i : Nat) : BufTy := match i % 128 with
  | 0 => ⟨S2x8192x1, .f32⟩
  | 1 => ⟨S2x8192x1, .f32⟩
  | 2 => ⟨S2x8192x1, .f32⟩
  | 3 => ⟨S_, .f32⟩
  | 4 => ⟨S2x8192x1, .f32⟩
  | 5 => ⟨S2x8192x1, .f32⟩
  | 6 => ⟨S2x8192x64, .f32⟩
  | 7 => ⟨S2x8192x64, .f32⟩
  | 8 => ⟨S1x1x64, .f32⟩
  | 9 => ⟨S2x8192x64, .f32⟩
  | 10 => ⟨S2x8192x64, .f32⟩
  | 11 => ⟨S2x8192x32x2, .f32⟩
  | 12 => ⟨S2x8192x32x1, .f32⟩
  | 13 => ⟨S2x8192x32, .f32⟩
  | 14 => ⟨S2x8192x32x1, .f32⟩
  | 15 => ⟨S2x8192x32, .f32⟩
  | 16 => ⟨S1x8192x32, .f32⟩
  | 17 => ⟨S2x8192x32, .f32⟩
  | 18 => ⟨S2x8192x32, .f32⟩
  | 19 => ⟨S1x8192x32, .f32⟩
  | 20 => ⟨S2x8192x32, .f32⟩
  | 21 => ⟨S2x8192x32, .f32⟩
  | 22 => ⟨S2x8192x32, .f32⟩
  | 23 => ⟨S1x8192x32, .f32⟩
  | 24 => ⟨S2x8192x32, .f32⟩
  | 25 => ⟨S2x8192x32, .f32⟩
  | 26 => ⟨S1x8192x32, .f32⟩
  | 27 => ⟨S2x8192x32, .f32⟩
  | 28 => ⟨S2x8192x32, .f32⟩
  | 29 => ⟨S2x8192x32, .f32⟩
  | 30 => ⟨S2x8192x32x1, .f32⟩
  | 31 => ⟨S2x8192x32x1, .f32⟩
  | 32 => ⟨S2x8192x32x2, .f32⟩
  | 33 => ⟨S2x8192x64, .f32⟩
  | 34 => ⟨S8x256x64, .f32⟩
  | 35 => ⟨S8x256x64, .f32⟩
  | 36 => ⟨S_, .f32⟩
  | 37 => ⟨S8x256, .f32⟩
  | 38 => ⟨S8x256x1, .f32⟩
  | 39 => ⟨S_, .f32⟩
  | 40 => ⟨S8x256x1, .f32⟩
  | 41 => ⟨S8x256x1, .f32⟩
  | 42 => ⟨S_, .f32⟩
  | 43 => ⟨S8x256x1, .f32⟩
  | 44 => ⟨S8x256x1, .f32⟩
  | 45 => ⟨S8x256x1, .f32⟩
  | 46 => ⟨S8x256x1, .f32⟩
  | 47 => ⟨S_, .f32⟩
  | 48 => ⟨S8x256x1, .f32⟩
  | 49 => ⟨S8x256x1, .f32⟩
  | 50 => ⟨S8x256x64, .f32⟩
  | 51 => ⟨S8x256x64, .f32⟩
  | 52 => ⟨S1x1x64, .f32⟩
  | 53 => ⟨S8x256x64, .f32⟩
  | 54 => ⟨S8x256x64, .f32⟩
  | 55 => ⟨S2x256x64, .f32⟩
  | 56 => ⟨S2x256x64, .f32⟩
  | 57 => ⟨S_, .f32⟩
  | 58 => ⟨S2x256, .f32⟩
  | 59 => ⟨S2x256x1, .f32⟩
  | 60 => ⟨S_, .f32⟩
  | 61 => ⟨S2x256x1, .f32⟩
  | 62 => ⟨S2x256x1, .f32⟩
  | 63 => ⟨S_, .f32⟩
  | 64 => ⟨S2x256x1, .f32⟩
  | 65 => ⟨S2x256x1, .f32⟩
  | 66 => ⟨S2x256x1, .f32⟩
  | 67 => ⟨S2x256x1, .f32⟩
  | 68 => ⟨S_, .f32⟩
  | 69 => ⟨S2x256x1, .f32⟩
  | 70 => ⟨S2x256x1, .f32⟩
  | 71 => ⟨S2x256x64, .f32⟩
  | 72 => ⟨S2x256x64, .f32⟩
  | 73 => ⟨S1x1x64, .f32⟩
  | 74 => ⟨S2x256x64, .f32⟩
  | 75 => ⟨S2x256x64, .f32⟩
  | 76 => ⟨S8x8448x64, .f32⟩
  | 77 => ⟨S2x8448x64, .f32⟩
  | 78 => ⟨S10x8448x64, .f32⟩
  | 79 => ⟨S8x8448x64, .f32⟩
  | 80 => ⟨S2x8448x64, .f32⟩
  | 81 => ⟨S2x8192x64, .f32⟩
  | 82 => ⟨S2x256x64, .f32⟩
  | 83 => ⟨S8x8192x64, .f32⟩
  | 84 => ⟨S8x256x64, .f32⟩
  | 85 => ⟨S2x256x64, .f32⟩
  | 86 => ⟨S_, .f32⟩
  | 87 => ⟨S64, .f32⟩
  | 88 => ⟨S1x1x64, .f32⟩
  | 89 => ⟨S2x256x64, .f32⟩
  | 90 => ⟨S2x256x64, .f32⟩
  | 91 => ⟨S_, .f32⟩
  | 92 => ⟨S64, .f32⟩
  | 93 => ⟨S2x256x64, .f32⟩
  | 94 => ⟨S_, .f32⟩
  | 95 => ⟨S2x256, .f32⟩
  | 96 => ⟨S2x256x1, .f32⟩
  | 97 => ⟨S2x256x64, .f32⟩
  | 98 => ⟨S2x256x64, .f32⟩
  | 99 => ⟨S2x256x1, .f32⟩
  | 100 => ⟨S_, .f32⟩
  | 101 => ⟨S2x256x1, .f32⟩
  | 102 => ⟨S2x256x1, .f32⟩
  | 103 => ⟨S_, .f32⟩
  | 104 => ⟨S2x256, .f32⟩
  | 105 => ⟨S2x256x64, .f32⟩
  | 106 => ⟨S2x256x64, .f32⟩
  | 107 => ⟨S2x256x64, .f32⟩
  | 108 => ⟨S2x256x64, .f32⟩
  | 109 => ⟨S2x256x64, .f32⟩
  | 110 => ⟨S_, .f32⟩
  | 111 => ⟨S10x8448x64, .f32⟩
  | 112 => ⟨S8x256x64, .f32⟩
  | 113 => ⟨S_, .f32⟩
  | 114 => ⟨S64, .f32⟩
  | 115 => ⟨S1x1x64, .f32⟩
  | 116 => ⟨S8x256x64, .f32⟩
  | 117 => ⟨S8x256x64, .f32⟩
  | 118 => ⟨S_, .f32⟩
  | 119 => ⟨S64, .f32⟩
  | 120 => ⟨S8x256x64, .f32⟩
  | 121 => ⟨S_, .f32⟩
  | 122 => ⟨S8x256, .f32⟩
  | 123 => ⟨S8x256x1, .f32⟩
  | 124 => ⟨S8x256x64, .f32⟩
  | 125 => ⟨S8x256x64, .f32⟩
  | 126 => ⟨S8x256x1, .f32⟩
  | 127 => ⟨S_, .f32⟩
  | _ => ⟨S10x8448x64, .f32⟩

abbrev hbmTy0_2 (i : Nat) : BufTy := match i % 128 with
  | 0 => ⟨S8x256x1, .f32⟩
  | 1 => ⟨S8x256x1, .f32⟩
  | 2 => ⟨S_, .f32⟩
  | 3 => ⟨S8x256, .f32⟩
  | 4 => ⟨S8x256x64, .f32⟩
  | 5 => ⟨S8x256x64, .f32⟩
  | 6 => ⟨S8x256x64, .f32⟩
  | 7 => ⟨S8x256x64, .f32⟩
  | 8 => ⟨S8x256x64, .f32⟩
  | 9 => ⟨S_, .f32⟩
  | 10 => ⟨S10x8448x64, .f32⟩
  | 11 => ⟨S10x8448x64, .f32⟩
  | 12 => ⟨S2x8192x32x2, .f32⟩
  | 13 => ⟨S2x8192x32x1, .f32⟩
  | 14 => ⟨S2x8192x32, .f32⟩
  | 15 => ⟨S2x8192x32x1, .f32⟩
  | 16 => ⟨S2x8192x32, .f32⟩
  | 17 => ⟨S2x8192x32, .f32⟩
  | 18 => ⟨S2x8192x32, .f32⟩
  | 19 => ⟨S2x8192x32, .f32⟩
  | 20 => ⟨S2x8192x32, .f32⟩
  | 21 => ⟨S2x8192x32, .f32⟩
  | 22 => ⟨S2x8192x32, .f32⟩
  | 23 => ⟨S2x8192x32, .f32⟩
  | 24 => ⟨S2x8192x32, .f32⟩
  | 25 => ⟨S2x8192x32, .f32⟩
  | 26 => ⟨S2x8192x32, .f32⟩
  | 27 => ⟨S2x8192x32, .f32⟩
  | 28 => ⟨S2x8192x32x1, .f32⟩
  | 29 => ⟨S_, .f32⟩
  | 30 => ⟨S2x8192x32x2, .f32⟩
  | 31 => ⟨S2x8192x32x1, .f32⟩
  | 32 => ⟨S_, .f32⟩
  | 33 => ⟨S2x8192x32x2, .f32⟩
  | 34 => ⟨S2x8192x32x2, .f32⟩
  | 35 => ⟨S2x8192x64, .f32⟩
  | 36 => ⟨S2x8192x64, .f32⟩
  | 37 => ⟨S_, .f32⟩
  | 38 => ⟨S64, .f32⟩
  | 39 => ⟨S1x1x64, .f32⟩
  | 40 => ⟨S2x8192x64, .f32⟩
  | 41 => ⟨S2x8192x64, .f32⟩
  | 42 => ⟨S_, .f32⟩
  | 43 => ⟨S64, .f32⟩
  | 44 => ⟨S64, .f32⟩
  | 45 => ⟨S2x8192x64, .f32⟩
  | 46 => ⟨S_, .f32⟩
  | 47 => ⟨S2x8192, .f32⟩
  | 48 => ⟨S2x8192x1, .f32⟩
  | 49 => ⟨S2x8192x64, .f32⟩
  | 50 => ⟨S2x8192x64, .f32⟩
  | 51 => ⟨S2x8192x1, .f32⟩
  | 52 => ⟨S_, .f32⟩
  | 53 => ⟨S2x8192x1, .f32⟩
  | 54 => ⟨S2x8192x1, .f32⟩
  | 55 => ⟨S_, .f32⟩
  | 56 => ⟨S2x8192, .f32⟩
  | 57 => ⟨S2x8192x64, .f32⟩
  | 58 => ⟨S2x8192x64, .f32⟩
  | 59 => ⟨S2x8192x64, .f32⟩
  | 60 => ⟨S2x8192x64, .f32⟩
  | 61 => ⟨S2x8192x64, .f32⟩
  | 62 => ⟨S_, .f32⟩
  | 63 => ⟨S10x8448x64, .f32⟩
  | 64 => ⟨S10x8448x64, .f32⟩
  | 65 => ⟨S8x8192x32x2, .f32⟩
  | 66 => ⟨S8x8192x32x1, .f32⟩
  | 67 => ⟨S8x8192x32, .f32⟩
  | 68 => ⟨S8x8192x32x1, .f32⟩
  | 69 => ⟨S8x8192x32, .f32⟩
  | 70 => ⟨S8x8192x32, .f32⟩
  | 71 => ⟨S8x8192x32, .f32⟩
  | 72 => ⟨S8x8192x32, .f32⟩
  | 73 => ⟨S8x8192x32, .f32⟩
  | 74 => ⟨S8x8192x32, .f32⟩
  | 75 => ⟨S8x8192x32, .f32⟩
  | 76 => ⟨S8x8192x32, .f32⟩
  | 77 => ⟨S8x8192x32, .f32⟩
  | 78 => ⟨S8x8192x32, .f32⟩
  | 79 => ⟨S8x8192x32, .f32⟩
  | 80 => ⟨S8x8192x32, .f32⟩
  | 81 => ⟨S8x8192x32x1, .f32⟩
  | 82 => ⟨S_, .f32⟩
  | 83 => ⟨S8x8192x32x2, .f32⟩
  | 84 => ⟨S8x8192x32x1, .f32⟩
  | 85 => ⟨S_, .f32⟩
  | 86 => ⟨S8x8192x32x2, .f32⟩
  | 87 => ⟨S8x8192x32x2, .f32⟩
  | 88 => ⟨S8x8192x64, .f32⟩
  | 89 => ⟨S8x8192x64, .f32⟩
  | 90 => ⟨S_, .f32⟩
  | 91 => ⟨S64, .f32⟩
  | 92 => ⟨S1x1x64, .f32⟩
  | 93 => ⟨S8x8192x64, .f32⟩
  | 94 => ⟨S8x8192x64, .f32⟩
  | 95 => ⟨S_, .f32⟩
  | 96 => ⟨S64, .f32⟩
  | 97 => ⟨S64, .f32⟩
  | 98 => ⟨S8x8192x64, .f32⟩
  | 99 => ⟨S_, .f32⟩
  | 100 => ⟨S8x8192, .f32⟩
  | 101 => ⟨S8x8192x1, .f32⟩
  | 102 => ⟨S8x8192x64, .f32⟩
  | 103 => ⟨S8x8192x64, .f32⟩
  | 104 => ⟨S8x8192x1, .f32⟩
  | 105 => ⟨S_, .f32⟩
  | 106 => ⟨S8x8192x1, .f32⟩
  | 107 => ⟨S8x8192x1, .f32⟩
  | 108 => ⟨S_, .f32⟩
  | 109 => ⟨S8x8192, .f32⟩
  | 110 => ⟨S8x8192x64, .f32⟩
  | 111 => ⟨S8x8192x64, .f32⟩
  | 112 => ⟨S8x8192x64, .f32⟩
  | 113 => ⟨S8x8192x64, .f32⟩
  | 114 => ⟨S8x8192x64, .f32⟩
  | 115 => ⟨S_, .f32⟩
  | 116 => ⟨S10x8448x64, .f32⟩
  | 117 => ⟨S10x8448x64, .f32⟩
  | 118 => ⟨S1x64, .f32⟩
  | 119 => ⟨S1x64, .f32⟩
  | 120 => ⟨S2x64, .f32⟩
  | _ => ⟨S10x8448x64, .f32⟩

abbrev hbmTy (i : Nat) : BufTy := match i / 128 with
  | 0 => hbmTy0_0 i
  | 1 => hbmTy0_1 i
  | 2 => hbmTy0_2 i
  | _ => ⟨S10x8448x64, .f32⟩

abbrev bufTy : (tb : Table) → Fin (tcTables nBuf tb) → BufTy
  | .hbm, ⟨i, _⟩ => hbmTy i
  | _, _ => ⟨S10x8448x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_cst_5 : Ref sig .tc := ⟨.hbm, 79, rfl⟩
abbrev main_v32 : Ref sig .tc := ⟨.hbm, 80, rfl⟩
abbrev main_v33 : Ref sig .tc := ⟨.hbm, 81, rfl⟩
abbrev main_cst_6 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_7 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_8 : Ref sig .tc := ⟨.hbm, 120, rfl⟩
abbrev main_v70 : Ref sig .tc := ⟨.hbm, 121, rfl⟩
abbrev main_v71 : Ref sig .tc := ⟨.hbm, 122, rfl⟩
abbrev main_cst_9 : Ref sig .tc := ⟨.hbm, 123, rfl⟩
abbrev main_v72 : Ref sig .tc := ⟨.hbm, 124, rfl⟩
abbrev main_v73 : Ref sig .tc := ⟨.hbm, 125, rfl⟩
abbrev main_cst_10 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_11 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_12 : Ref sig .tc := ⟨.hbm, 164, rfl⟩
abbrev main_v110 : Ref sig .tc := ⟨.hbm, 165, rfl⟩
abbrev main_v111 : Ref sig .tc := ⟨.hbm, 166, rfl⟩
abbrev main_cst_13 : Ref sig .tc := ⟨.hbm, 167, rfl⟩
abbrev main_v112 : Ref sig .tc := ⟨.hbm, 168, rfl⟩
abbrev main_v113 : Ref sig .tc := ⟨.hbm, 169, rfl⟩
abbrev main_cst_14 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_15 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_16 : Ref sig .tc := ⟨.hbm, 185, rfl⟩
abbrev main_v127 : Ref sig .tc := ⟨.hbm, 186, rfl⟩
abbrev main_v128 : Ref sig .tc := ⟨.hbm, 187, rfl⟩
abbrev main_cst_17 : Ref sig .tc := ⟨.hbm, 188, rfl⟩
abbrev main_v129 : Ref sig .tc := ⟨.hbm, 189, rfl⟩
abbrev main_v130 : Ref sig .tc := ⟨.hbm, 190, rfl⟩
abbrev main_cst_18 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_19 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_20 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_cst_21 : Ref sig .tc := ⟨.hbm, 219, rfl⟩
abbrev main_v156 : Ref sig .tc := ⟨.hbm, 220, rfl⟩
abbrev main_v157 : Ref sig .tc := ⟨.hbm, 221, rfl⟩
abbrev main_cst_22 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_23 : Ref sig .tc := ⟨.hbm, 228, rfl⟩
abbrev main_v163 : Ref sig .tc := ⟨.hbm, 229, rfl⟩
abbrev main_v164 : Ref sig .tc := ⟨.hbm, 230, rfl⟩
abbrev main_cst_24 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_25 : Ref sig .tc := ⟨.hbm, 238, rfl⟩
abbrev main_v171 : Ref sig .tc := ⟨.hbm, 239, rfl⟩
abbrev main_v172 : Ref sig .tc := ⟨.hbm, 240, rfl⟩
abbrev main_cst_26 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_cst_27 : Ref sig .tc := ⟨.hbm, 246, rfl⟩
abbrev main_v177 : Ref sig .tc := ⟨.hbm, 247, rfl⟩
abbrev main_v178 : Ref sig .tc := ⟨.hbm, 248, rfl⟩
abbrev main_cst_28 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_cst_29 : Ref sig .tc := ⟨.hbm, 255, rfl⟩
abbrev main_v184 : Ref sig .tc := ⟨.hbm, 256, rfl⟩
abbrev main_v185 : Ref sig .tc := ⟨.hbm, 257, rfl⟩
abbrev main_cst_30 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_31 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_cst_32 : Ref sig .tc := ⟨.hbm, 285, rfl⟩
abbrev main_v211 : Ref sig .tc := ⟨.hbm, 286, rfl⟩
abbrev main_v212 : Ref sig .tc := ⟨.hbm, 287, rfl⟩
abbrev main_cst_33 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_cst_34 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_cst_35 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_36 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_cst_37 : Ref sig .tc := ⟨.hbm, 308, rfl⟩
abbrev main_v229 : Ref sig .tc := ⟨.hbm, 309, rfl⟩
abbrev main_v230 : Ref sig .tc := ⟨.hbm, 310, rfl⟩
abbrev main_cst_38 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_39 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_cst_40 : Ref sig .tc := ⟨.hbm, 338, rfl⟩
abbrev main_v256 : Ref sig .tc := ⟨.hbm, 339, rfl⟩
abbrev main_v257 : Ref sig .tc := ⟨.hbm, 340, rfl⟩
abbrev main_cst_41 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_cst_42 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_cst_43 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_cst_44 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_cst_45 : Ref sig .tc := ⟨.hbm, 361, rfl⟩
abbrev main_v274 : Ref sig .tc := ⟨.hbm, 362, rfl⟩
abbrev main_v275 : Ref sig .tc := ⟨.hbm, 363, rfl⟩
abbrev main_cst_46 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_cst_47 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩

abbrev nD : Nat := 1
abbrev τ : Topo := Topo.v7x

variable {F : FTy → Type} [FloatOps F]
-- ==== Na.lean ====
abbrev S8x8192x64 : Shape := ⟨3, ![8, 8192, 64]⟩
abbrev S8x256x64 : Shape := ⟨3, ![8, 256, 64]⟩
abbrev S8x15x31 : Shape := ⟨3, ![8, 15, 31]⟩
abbrev S12 : Shape := ⟨1, ![12]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S1x1x64x1x64 : Shape := ⟨5, ![1, 1, 64, 1, 64]⟩
abbrev S8x128x64x64 : Shape := ⟨4, ![8, 128, 64, 64]⟩
abbrev S128x8x1 : Shape := ⟨3, ![128, 8, 1]⟩
abbrev S8x128x8x64x64 : Shape := ⟨5, ![8, 128, 8, 64, 64]⟩
abbrev S8x128x64x512 : Shape := ⟨4, ![8, 128, 64, 512]⟩
abbrev S8x128x64x256 : Shape := ⟨4, ![8, 128, 64, 256]⟩
abbrev S8x128x64x768 : Shape := ⟨4, ![8, 128, 64, 768]⟩
abbrev S8x128x64 : Shape := ⟨3, ![8, 128, 64]⟩
abbrev S8x128x64x1 : Shape := ⟨4, ![8, 128, 64, 1]⟩
abbrev S8x8192x1 : Shape := ⟨3, ![8, 8192, 1]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S64x64x8x15 : Shape := ⟨4, ![64, 64, 8, 15]⟩
abbrev S8x64x15x64 : Shape := ⟨4, ![8, 64, 15, 64]⟩
abbrev S8x64x8x64 : Shape := ⟨4, ![8, 64, 8, 64]⟩
abbrev S8x64x12x64 : Shape := ⟨4, ![8, 64, 12, 64]⟩
abbrev S1x1x12x1 : Shape := ⟨4, ![1, 1, 12, 1]⟩
abbrev S8x64x768 : Shape := ⟨3, ![8, 64, 768]⟩
abbrev S8x64x9x64 : Shape := ⟨4, ![8, 64, 9, 64]⟩
abbrev S8x64x10x64 : Shape := ⟨4, ![8, 64, 10, 64]⟩
abbrev S8x64x11x64 : Shape := ⟨4, ![8, 64, 11, 64]⟩
abbrev S8x1x64x768 : Shape := ⟨4, ![8, 1, 64, 768]⟩
abbrev S8x4x64x768 : Shape := ⟨4, ![8, 4, 64, 768]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S1x512x64 : Shape := ⟨3, ![1, 512, 64]⟩
abbrev S1x8192x64 : Shape := ⟨3, ![1, 8192, 64]⟩
abbrev S1x256x64 : Shape := ⟨3, ![1, 256, 64]⟩
abbrev S1x1x256x768 : Shape := ⟨4, ![1, 1, 256, 768]⟩
abbrev S1x512x1 : Shape := ⟨3, ![1, 512, 1]⟩
abbrev S8192x64 : Shape := ⟨2, ![8192, 64]⟩
abbrev S256x64 : Shape := ⟨2, ![256, 64]⟩
abbrev S256x768 : Shape := ⟨2, ![256, 768]⟩
abbrev S1x768x64 : Shape := ⟨3, ![1, 768, 64]⟩
abbrev S768x64 : Shape := ⟨2, ![768, 64]⟩
abbrev S1x256x1 : Shape := ⟨3, ![1, 256, 1]⟩
abbrev S256x1 : Shape := ⟨2, ![256, 1]⟩
abbrev S256 : Shape := ⟨1, ![256]⟩
abbrev S256x256 : Shape := ⟨2, ![256, 256]⟩

abbrev nBuf : Space → Nat
  | .hbm => 445
  | .vmem => 34
  | .smem => 0
  | _ => 0

abbrev hbmTy0_0 (i : Nat) : BufTy := match i % 128 with
  | 0 => ⟨S8x8192x64, .f32⟩
  | 1 => ⟨S8x8192x64, .f32⟩
  | 2 => ⟨S8x8192x64, .f32⟩
  | 3 => ⟨S8x256x64, .f32⟩
  | 4 => ⟨S8x256x64, .f32⟩
  | 5 => ⟨S8x15x31, .f32⟩
  | 6 => ⟨S8x8192x64, .f32⟩
  | 7 => ⟨S12, .i1⟩
  | 8 => ⟨S12, .i1⟩
  | 9 => ⟨S12, .i1⟩
  | 10 => ⟨S12, .i1⟩
  | 11 => ⟨S12, .i1⟩
  | 12 => ⟨S12, .i1⟩
  | 13 => ⟨S12, .i1⟩
  | 14 => ⟨S12, .i1⟩
  | 15 => ⟨S12, .i1⟩
  | 16 => ⟨S12, .i1⟩
  | 17 => ⟨S12, .i1⟩
  | 18 => ⟨S12, .i1⟩
  | 19 => ⟨S128, .i32⟩
  | 20 => ⟨S64, .i32⟩
  | 21 => ⟨S_, .i32⟩
  | 22 => ⟨S128, .i32⟩
  | 23 => ⟨S128, .i32⟩
  | 24 => ⟨S_, .i32⟩
  | 25 => ⟨S_, .i32⟩
  | 26 => ⟨S_, .i32⟩
  | 27 => ⟨S128, .i32⟩
  | 28 => ⟨S128, .i32⟩
  | 29 => ⟨S_, .i32⟩
  | 30 => ⟨S128, .i32⟩
  | 31 => ⟨S128, .i32⟩
  | 32 => ⟨S128x1, .i32⟩
  | 33 => ⟨S8, .i32⟩
  | 34 => ⟨S1x8, .i32⟩
  | 35 => ⟨S128x8, .i32⟩
  | 36 => ⟨S128x8, .i32⟩
  | 37 => ⟨S128x8, .i32⟩
  | 38 => ⟨S_, .i32⟩
  | 39 => ⟨S64, .i32⟩
  | 40 => ⟨S64, .i32⟩
  | 41 => ⟨S_, .i32⟩
  | 42 => ⟨S_, .i32⟩
  | 43 => ⟨S_, .i32⟩
  | 44 => ⟨S64, .i32⟩
  | 45 => ⟨S64, .i32⟩
  | 46 => ⟨S_, .i32⟩
  | 47 => ⟨S64, .i32⟩
  | 48 => ⟨S64, .i32⟩
  | 49 => ⟨S1x64, .i32⟩
  | 50 => ⟨S64x1, .i32⟩
  | 51 => ⟨S64x64, .i32⟩
  | 52 => ⟨S64x64, .i32⟩
  | 53 => ⟨S64x64, .i1⟩
  | 54 => ⟨S1x64, .i32⟩
  | 55 => ⟨S64x1, .i32⟩
  | 56 => ⟨S_, .i32⟩
  | 57 => ⟨S64x1, .i32⟩
  | 58 => ⟨S64x1, .i32⟩
  | 59 => ⟨S64x64, .i32⟩
  | 60 => ⟨S64x64, .i32⟩
  | 61 => ⟨S64x64, .i1⟩
  | 62 => ⟨S64x64, .i1⟩
  | 63 => ⟨S128x1, .i32⟩
  | 64 => ⟨S128x8, .i32⟩
  | 65 => ⟨S128x8, .i32⟩
  | 66 => ⟨S_, .i32⟩
  | 67 => ⟨S128x8, .i32⟩
  | 68 => ⟨S128x8, .i32⟩
  | 69 => ⟨S1x64, .i32⟩
  | 70 => ⟨S64x1, .i32⟩
  | 71 => ⟨S64x64, .i32⟩
  | 72 => ⟨S64x64, .i32⟩
  | 73 => ⟨S64x64, .i32⟩
  | 74 => ⟨S_, .i32⟩
  | 75 => ⟨S_, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S_, .i32⟩
  | 83 => ⟨S64x64, .i32⟩
  | 84 => ⟨S64x64, .i32⟩
  | 85 => ⟨S128x1x8x1, .i32⟩
  | 86 => ⟨S1x64x1x64, .i32⟩
  | 87 => ⟨S_, .i32⟩
  | 88 => ⟨S128x1x8x1, .i32⟩
  | 89 => ⟨S128x1x8x1, .i1⟩
  | 90 => ⟨S_, .i32⟩
  | 91 => ⟨S128x1x8x1, .i32⟩
  | 92 => ⟨S128x1x8x1, .i32⟩
  | 93 => ⟨S128x1x8x1, .i32⟩
  | 94 => ⟨S_, .i32⟩
  | 95 => ⟨S1x64x1x64, .i32⟩
  | 96 => ⟨S1x64x1x64, .i1⟩
  | 97 => ⟨S_, .i32⟩
  | 98 => ⟨S1x64x1x64, .i32⟩
  | 99 => ⟨S1x64x1x64, .i32⟩
  | 100 => ⟨S1x64x1x64, .i32⟩
  | 101 => ⟨S128x64x8x64, .i32⟩
  | 102 => ⟨S128x64x8x64, .i32⟩
  | 103 => ⟨S128x64x8x64x1, .i32⟩
  | 104 => ⟨S128x64x8x64x1, .i32⟩
  | 105 => ⟨S128x64x8x64x2, .i32⟩
  | 106 => ⟨S8x128x64x8x64, .f32⟩
  | 107 => ⟨S1x1x64x1x64, .i1⟩
  | 108 => ⟨S_, .f32⟩
  | 109 => ⟨S_, .f32⟩
  | 110 => ⟨S8x128x64x8x64, .i1⟩
  | 111 => ⟨S8x128x64x8x64, .f32⟩
  | 112 => ⟨S8x128x64x8x64, .f32⟩
  | 113 => ⟨S8x128x64x64, .f32⟩
  | 114 => ⟨S8x128x64x64, .f32⟩
  | 115 => ⟨S_, .i32⟩
  | 116 => ⟨S128x8, .i32⟩
  | 117 => ⟨S128x8, .i1⟩
  | 118 => ⟨S_, .i32⟩
  | 119 => ⟨S128x8, .i32⟩
  | 120 => ⟨S128x8, .i32⟩
  | 121 => ⟨S128x8, .i32⟩
  | 122 => ⟨S128x8x1, .i32⟩
  | 123 => ⟨S8x128x8x64x64, .f32⟩
  | 124 => ⟨S8x128x64x8x64, .f32⟩
  | 125 => ⟨S_, .f32⟩
  | 126 => ⟨S8x128x64x8x64, .f32⟩
  | 127 => ⟨S8x128x64x8x64, .f32⟩
  | _ => ⟨S8x8192x64, .f32⟩

abbrev hbmTy0_1 (i : Nat) : BufTy := match i % 128 with
  | 0 => ⟨S8x128x64x8x64, .f32⟩
  | 1 => ⟨S8x128x64x512, .f32⟩
  | 2 => ⟨S8x128x64x256, .f32⟩
  | 3 => ⟨S_, .f32⟩
  | 4 => ⟨S8x128x64x256, .f32⟩
  | 5 => ⟨S8x128x64x256, .f32⟩
  | 6 => ⟨S8x128x64x768, .f32⟩
  | 7 => ⟨S_, .f32⟩
  | 8 => ⟨S8x128x64, .f32⟩
  | 9 => ⟨S8x128x64x1, .f32⟩
  | 10 => ⟨S8x128x64x768, .f32⟩
  | 11 => ⟨S8x128x64x768, .f32⟩
  | 12 => ⟨S8x128x64x768, .f32⟩
  | 13 => ⟨S_, .f32⟩
  | 14 => ⟨S8x128x64, .f32⟩
  | 15 => ⟨S8x128x64, .f32⟩
  | 16 => ⟨S8x128x64, .f32⟩
  | 17 => ⟨S8x8192x1, .f32⟩
  | 18 => ⟨S8x128x64x64, .f32⟩
  | 19 => ⟨S8x128x64x64, .f32⟩
  | 20 => ⟨S_, .i32⟩
  | 21 => ⟨S128x8, .i32⟩
  | 22 => ⟨S128x8, .i1⟩
  | 23 => ⟨S_, .i32⟩
  | 24 => ⟨S128x8, .i32⟩
  | 25 => ⟨S128x8, .i32⟩
  | 26 => ⟨S128x8, .i32⟩
  | 27 => ⟨S128x8x1, .i32⟩
  | 28 => ⟨S8x128x8x64x64, .f32⟩
  | 29 => ⟨S8x128x64x64, .f32⟩
  | 30 => ⟨S_, .i32⟩
  | 31 => ⟨S128x8, .i32⟩
  | 32 => ⟨S128x8, .i1⟩
  | 33 => ⟨S_, .i32⟩
  | 34 => ⟨S128x8, .i32⟩
  | 35 => ⟨S128x8, .i32⟩
  | 36 => ⟨S128x8, .i32⟩
  | 37 => ⟨S128x8x1, .i32⟩
  | 38 => ⟨S8x128x8x64x64, .f32⟩
  | 39 => ⟨S8x128x64x8x64, .f32⟩
  | 40 => ⟨S_, .f32⟩
  | 41 => ⟨S8x128x64x8x64, .f32⟩
  | 42 => ⟨S8x128x64x8x64, .f32⟩
  | 43 => ⟨S8x128x64x8x64, .f32⟩
  | 44 => ⟨S8x128x64x512, .f32⟩
  | 45 => ⟨S8x128x64x256, .f32⟩
  | 46 => ⟨S_, .f32⟩
  | 47 => ⟨S8x128x64x256, .f32⟩
  | 48 => ⟨S8x128x64x256, .f32⟩
  | 49 => ⟨S8x128x64x768, .f32⟩
  | 50 => ⟨S_, .f32⟩
  | 51 => ⟨S8x128x64, .f32⟩
  | 52 => ⟨S_, .f32⟩
  | 53 => ⟨S8x128x64, .f32⟩
  | 54 => ⟨S8x128x64, .f32⟩
  | 55 => ⟨S8x128x64x1, .f32⟩
  | 56 => ⟨S8x128x64x768, .f32⟩
  | 57 => ⟨S8x128x64x768, .f32⟩
  | 58 => ⟨S8x128x64x768, .f32⟩
  | 59 => ⟨S_, .f32⟩
  | 60 => ⟨S8x128x64, .f32⟩
  | 61 => ⟨S8x128x64x1, .f32⟩
  | 62 => ⟨S8x128x64x768, .f32⟩
  | 63 => ⟨S8x128x64x768, .f32⟩
  | 64 => ⟨S8x128x64x512, .f32⟩
  | 65 => ⟨S8x128x64x8x64, .f32⟩
  | 66 => ⟨S8x128x64x256, .f32⟩
  | 67 => ⟨S8x128x64x64, .f32⟩
  | 68 => ⟨S8x128x64x64, .f32⟩
  | 69 => ⟨S8x128x64x64, .f32⟩
  | 70 => ⟨S8x8192x64, .f32⟩
  | 71 => ⟨S64, .i32⟩
  | 72 => ⟨S_, .i32⟩
  | 73 => ⟨S64, .i32⟩
  | 74 => ⟨S64, .i32⟩
  | 75 => ⟨S_, .i32⟩
  | 76 => ⟨S_, .i32⟩
  | 77 => ⟨S_, .i32⟩
  | 78 => ⟨S64, .i32⟩
  | 79 => ⟨S64, .i32⟩
  | 80 => ⟨S_, .i32⟩
  | 81 => ⟨S64, .i32⟩
  | 82 => ⟨S64, .i32⟩
  | 83 => ⟨S1x64, .i32⟩
  | 84 => ⟨S64x1, .i32⟩
  | 85 => ⟨S64x64, .i32⟩
  | 86 => ⟨S64x64, .i32⟩
  | 87 => ⟨S64x64, .i1⟩
  | 88 => ⟨S1x64, .i32⟩
  | 89 => ⟨S64x1, .i32⟩
  | 90 => ⟨S_, .i32⟩
  | 91 => ⟨S64x1, .i32⟩
  | 92 => ⟨S64x1, .i32⟩
  | 93 => ⟨S64x64, .i32⟩
  | 94 => ⟨S64x64, .i32⟩
  | 95 => ⟨S64x64, .i1⟩
  | 96 => ⟨S64x64, .i1⟩
  | 97 => ⟨S1x64, .i32⟩
  | 98 => ⟨S64x1, .i32⟩
  | 99 => ⟨S64x64, .i32⟩
  | 100 => ⟨S64x64, .i32⟩
  | 101 => ⟨S64x64, .i32⟩
  | 102 => ⟨S_, .i32⟩
  | 103 => ⟨S_, .i32⟩
  | 104 => ⟨S_, .i32⟩
  | 105 => ⟨S64x64, .i32⟩
  | 106 => ⟨S64x64, .i32⟩
  | 107 => ⟨S_, .i32⟩
  | 108 => ⟨S64x64, .i32⟩
  | 109 => ⟨S64x64, .i32⟩
  | 110 => ⟨S_, .i32⟩
  | 111 => ⟨S64x64, .i32⟩
  | 112 => ⟨S64x64, .i32⟩
  | 113 => ⟨S_, .i32⟩
  | 114 => ⟨S64x64, .i32⟩
  | 115 => ⟨S64x64, .i32⟩
  | 116 => ⟨S64x64x1, .i1⟩
  | 117 => ⟨S64x64x1, .i32⟩
  | 118 => ⟨S31, .i32⟩
  | 119 => ⟨S1x1x31, .i32⟩
  | 120 => ⟨S64x64x31, .i32⟩
  | 121 => ⟨S64x64x31, .i32⟩
  | 122 => ⟨S64x64x31, .i1⟩
  | 123 => ⟨S64x64x31, .i1⟩
  | 124 => ⟨S64x64x31, .i1⟩
  | 125 => ⟨S64x64x31, .f32⟩
  | 126 => ⟨S_, .f32⟩
  | 127 => ⟨S_, .f32⟩
  | _ => ⟨S8x8192x64, .f32⟩

abbrev hbmTy0_2 (i : Nat) : BufTy := match i % 128 with
  | 0 => ⟨S64x64, .f32⟩
  | 1 => ⟨S64x64, .f32⟩
  | 2 => ⟨S64x64, .f32⟩
  | 3 => ⟨S64x64, .f32⟩
  | 4 => ⟨S64x64x8x15, .f32⟩
  | 5 => ⟨S8x64x15x64, .f32⟩
  | 6 => ⟨S1x64x1x64, .f32⟩
  | 7 => ⟨S8x64x15x64, .f32⟩
  | 8 => ⟨S8x64x15x64, .f32⟩
  | 9 => ⟨S8x64x8x64, .f32⟩
  | 10 => ⟨S_, .f32⟩
  | 11 => ⟨S_, .f32⟩
  | 12 => ⟨S8x64x12x64, .f32⟩
  | 13 => ⟨S1x1x12x1, .i1⟩
  | 14 => ⟨S_, .f32⟩
  | 15 => ⟨S_, .f32⟩
  | 16 => ⟨S8x64x12x64, .i1⟩
  | 17 => ⟨S8x64x12x64, .f32⟩
  | 18 => ⟨S8x64x12x64, .f32⟩
  | 19 => ⟨S8x64x768, .f32⟩
  | 20 => ⟨S8x64x9x64, .f32⟩
  | 21 => ⟨S_, .f32⟩
  | 22 => ⟨S_, .f32⟩
  | 23 => ⟨S8x64x12x64, .f32⟩
  | 24 => ⟨S1x1x12x1, .i1⟩
  | 25 => ⟨S_, .f32⟩
  | 26 => ⟨S_, .f32⟩
  | 27 => ⟨S8x64x12x64, .i1⟩
  | 28 => ⟨S8x64x12x64, .f32⟩
  | 29 => ⟨S8x64x12x64, .f32⟩
  | 30 => ⟨S8x64x768, .f32⟩
  | 31 => ⟨S8x64x10x64, .f32⟩
  | 32 => ⟨S_, .f32⟩
  | 33 => ⟨S_, .f32⟩
  | 34 => ⟨S8x64x12x64, .f32⟩
  | 35 => ⟨S1x1x12x1, .i1⟩
  | 36 => ⟨S_, .f32⟩
  | 37 => ⟨S_, .f32⟩
  | 38 => ⟨S8x64x12x64, .i1⟩
  | 39 => ⟨S8x64x12x64, .f32⟩
  | 40 => ⟨S8x64x12x64, .f32⟩
  | 41 => ⟨S8x64x768, .f32⟩
  | 42 => ⟨S8x64x11x64, .f32⟩
  | 43 => ⟨S_, .f32⟩
  | 44 => ⟨S_, .f32⟩
  | 45 => ⟨S8x64x12x64, .f32⟩
  | 46 => ⟨S1x1x12x1, .i1⟩
  | 47 => ⟨S_, .f32⟩
  | 48 => ⟨S_, .f32⟩
  | 49 => ⟨S8x64x12x64, .i1⟩
  | 50 => ⟨S8x64x12x64, .f32⟩
  | 51 => ⟨S8x64x12x64, .f32⟩
  | 52 => ⟨S8x64x768, .f32⟩
  | 53 => ⟨S8x1x64x768, .f32⟩
  | 54 => ⟨S8x1x64x768, .f32⟩
  | 55 => ⟨S8x1x64x768, .f32⟩
  | 56 => ⟨S8x1x64x768, .f32⟩
  | 57 => ⟨S8x4x64x768, .f32⟩
  | 58 => ⟨S8x256x768, .f32⟩
  | 59 => ⟨S8x64x12x64, .f32⟩
  | 60 => ⟨S_, .f32⟩
  | 61 => ⟨S_, .f32⟩
  | 62 => ⟨S8x64x12x64, .f32⟩
  | 63 => ⟨S1x1x12x1, .i1⟩
  | 64 => ⟨S_, .f32⟩
  | 65 => ⟨S_, .f32⟩
  | 66 => ⟨S8x64x12x64, .i1⟩
  | 67 => ⟨S8x64x12x64, .f32⟩
  | 68 => ⟨S8x64x12x64, .f32⟩
  | 69 => ⟨S8x64x768, .f32⟩
  | 70 => ⟨S8x64x12x64, .f32⟩
  | 71 => ⟨S_, .f32⟩
  | 72 => ⟨S_, .f32⟩
  | 73 => ⟨S8x64x12x64, .f32⟩
  | 74 => ⟨S1x1x12x1, .i1⟩
  | 75 => ⟨S_, .f32⟩
  | 76 => ⟨S_, .f32⟩
  | 77 => ⟨S8x64x12x64, .i1⟩
  | 78 => ⟨S8x64x12x64, .f32⟩
  | 79 => ⟨S8x64x12x64, .f32⟩
  | 80 => ⟨S8x64x768, .f32⟩
  | 81 => ⟨S8x64x12x64, .f32⟩
  | 82 => ⟨S_, .f32⟩
  | 83 => ⟨S_, .f32⟩
  | 84 => ⟨S8x64x12x64, .f32⟩
  | 85 => ⟨S1x1x12x1, .i1⟩
  | 86 => ⟨S_, .f32⟩
  | 87 => ⟨S_, .f32⟩
  | 88 => ⟨S8x64x12x64, .i1⟩
  | 89 => ⟨S8x64x12x64, .f32⟩
  | 90 => ⟨S8x64x12x64, .f32⟩
  | 91 => ⟨S8x64x768, .f32⟩
  | 92 => ⟨S8x64x12x64, .f32⟩
  | 93 => ⟨S_, .f32⟩
  | 94 => ⟨S_, .f32⟩
  | 95 => ⟨S8x64x12x64, .f32⟩
  | 96 => ⟨S1x1x12x1, .i1⟩
  | 97 => ⟨S_, .f32⟩
  | 98 => ⟨S_, .f32⟩
  | 99 => ⟨S8x64x12x64, .i1⟩
  | 100 => ⟨S8x64x12x64, .f32⟩
  | 101 => ⟨S8x64x12x64, .f32⟩
  | 102 => ⟨S8x64x768, .f32⟩
  | 103 => ⟨S8x1x64x768, .f32⟩
  | 104 => ⟨S8x1x64x768, .f32⟩
  | 105 => ⟨S8x1x64x768, .f32⟩
  | 106 => ⟨S8x1x64x768, .f32⟩
  | 107 => ⟨S8x4x64x768, .f32⟩
  | 108 => ⟨S8x256x768, .f32⟩
  | 109 => ⟨S8x64x11x64, .f32⟩
  | 110 => ⟨S_, .f32⟩
  | 111 => ⟨S_, .f32⟩
  | 112 => ⟨S8x64x12x64, .f32⟩
  | 113 => ⟨S1x1x12x1, .i1⟩
  | 114 => ⟨S_, .f32⟩
  | 115 => ⟨S_, .f32⟩
  | 116 => ⟨S8x64x12x64, .i1⟩
  | 117 => ⟨S8x64x12x64, .f32⟩
  | 118 => ⟨S8x64x12x64, .f32⟩
  | 119 => ⟨S8x64x768, .f32⟩
  | 120 => ⟨S8x64x10x64, .f32⟩
  | 121 => ⟨S_, .f32⟩
  | 122 => ⟨S_, .f32⟩
  | 123 => ⟨S8x64x12x64, .f32⟩
  | 124 => ⟨S1x1x12x1, .i1⟩
  | 125 => ⟨S_, .f32⟩
  | 126 => ⟨S_, .f32⟩
  | 127 => ⟨S8x64x12x64, .i1⟩
  | _ => ⟨S8x8192x64, .f32⟩

abbrev hbmTy0_3 (i : Nat) : BufTy := match i % 128 with
  | 0 => ⟨S8x64x12x64, .f32⟩
  | 1 => ⟨S8x64x12x64, .f32⟩
  | 2 => ⟨S8x64x768, .f32⟩
  | 3 => ⟨S8x64x9x64, .f32⟩
  | 4 => ⟨S_, .f32⟩
  | 5 => ⟨S_, .f32⟩
  | 6 => ⟨S8x64x12x64, .f32⟩
  | 7 => ⟨S1x1x12x1, .i1⟩
  | 8 => ⟨S_, .f32⟩
  | 9 => ⟨S_, .f32⟩
  | 10 => ⟨S8x64x12x64, .i1⟩
  | 11 => ⟨S8x64x12x64, .f32⟩
  | 12 => ⟨S8x64x12x64, .f32⟩
  | 13 => ⟨S8x64x768, .f32⟩
  | 14 => ⟨S8x64x8x64, .f32⟩
  | 15 => ⟨S_, .f32⟩
  | 16 => ⟨S_, .f32⟩
  | 17 => ⟨S8x64x12x64, .f32⟩
  | 18 => ⟨S1x1x12x1, .i1⟩
  | 19 => ⟨S_, .f32⟩
  | 20 => ⟨S_, .f32⟩
  | 21 => ⟨S8x64x12x64, .i1⟩
  | 22 => ⟨S8x64x12x64, .f32⟩
  | 23 => ⟨S8x64x12x64, .f32⟩
  | 24 => ⟨S8x64x768, .f32⟩
  | 25 => ⟨S8x1x64x768, .f32⟩
  | 26 => ⟨S8x1x64x768, .f32⟩
  | 27 => ⟨S8x1x64x768, .f32⟩
  | 28 => ⟨S8x1x64x768, .f32⟩
  | 29 => ⟨S8x4x64x768, .f32⟩
  | 30 => ⟨S8x256x768, .f32⟩
  | 31 => ⟨S1x8x256x768, .f32⟩
  | 32 => ⟨S1x8x256x768, .f32⟩
  | 33 => ⟨S1x8x256x768, .f32⟩
  | 34 => ⟨S3x8x256x768, .f32⟩
  | 35 => ⟨S8x8192x64, .bf16⟩
  | 36 => ⟨S8x8192x64, .bf16⟩
  | 37 => ⟨S8x8192x64, .bf16⟩
  | 38 => ⟨S8x256x64, .bf16⟩
  | 39 => ⟨S8x256x64, .bf16⟩
  | 40 => ⟨S8x8192x64, .bf16⟩
  | 41 => ⟨S8x8192x64, .f32⟩
  | 42 => ⟨S8x8192x64, .f32⟩
  | 43 => ⟨S8x8192x64, .f32⟩
  | 44 => ⟨S8x256x64, .f32⟩
  | 45 => ⟨S8x256x64, .f32⟩
  | 46 => ⟨S3x8x256x768, .f32⟩
  | 47 => ⟨S3x8x256x768, .f32⟩
  | 48 => ⟨S1x8x256x768, .f32⟩
  | 49 => ⟨S8x256x768, .f32⟩
  | 50 => ⟨S1x8x256x768, .f32⟩
  | 51 => ⟨S8x256x768, .f32⟩
  | 52 => ⟨S1x8x256x768, .f32⟩
  | 53 => ⟨S8x256x768, .f32⟩
  | 54 => ⟨S8x256x768, .f32⟩
  | 55 => ⟨S1x8x256x768, .f32⟩
  | 56 => ⟨S8x256x768, .f32⟩
  | 57 => ⟨S1x8x256x768, .f32⟩
  | 58 => ⟨S1x8x256x768, .f32⟩
  | 59 => ⟨S1x8x256x768, .f32⟩
  | 60 => ⟨S3x8x256x768, .f32⟩
  | _ => ⟨S8x8192x64, .f32⟩

abbrev hbmTy (i : Nat) : BufTy := match i / 128 with
  | 0 => hbmTy0_0 i
  | 1 => hbmTy0_1 i
  | 2 => hbmTy0_2 i
  | 3 => hbmTy0_3 i
  | _ => ⟨S8x8192x64, .f32⟩

abbrev bufTy : (tb : Table) → Fin (tcTables nBuf tb) → BufTy
  | .hbm, ⟨i, _⟩ => hbmTy i
  | .local _ .vmem, ⟨0, _⟩ => ⟨S1x512x64, .bf16⟩
  | .local _ .vmem, ⟨1, _⟩ => ⟨S1x512x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x256x64, .bf16⟩
  | .local _ .vmem, ⟨7, _⟩ => ⟨S1x256x64, .bf16⟩
  | .local _ .vmem, ⟨8, _⟩ => ⟨S1x256x64, .bf16⟩
  | .local _ .vmem, ⟨9, _⟩ => ⟨S1x256x64, .bf16⟩
  | .local _ .vmem, ⟨10, _⟩ => ⟨S1x1x256x768, .f32⟩
  | .local _ .vmem, ⟨11, _⟩ => ⟨S1x1x256x768, .f32⟩
  | .local _ .vmem, ⟨12, _⟩ => ⟨S1x1x256x768, .f32⟩
  | .local _ .vmem, ⟨13, _⟩ => ⟨S1x1x256x768, .f32⟩
  | .local _ .vmem, ⟨14, _⟩ => ⟨S1x512x64, .bf16⟩
  | .local _ .vmem, ⟨15, _⟩ => ⟨S1x512x64, .bf16⟩
  | .local _ .vmem, ⟨16, _⟩ => ⟨S1x512x64, .f32⟩
  | .local _ .vmem, ⟨17, _⟩ => ⟨S1x512x64, .f32⟩
  | .local _ .vmem, ⟨18, _⟩ => ⟨S1x512x1, .f32⟩
  | .local _ .vmem, ⟨19, _⟩ => ⟨S1x512x1, .f32⟩
  | .local _ .vmem, ⟨20, _⟩ => ⟨S1x512x64, .f32⟩
  | .local _ .vmem, ⟨21, _⟩ => ⟨S1x512x64, .f32⟩
  | .local _ .vmem, ⟨22, _⟩ => ⟨S1x8192x64, .f32⟩
  | .local _ .vmem, ⟨23, _⟩ => ⟨S1x8192x64, .f32⟩
  | .local _ .vmem, ⟨24, _⟩ => ⟨S1x8192x64, .f32⟩
  | .local _ .vmem, ⟨25, _⟩ => ⟨S1x8192x64, .f32⟩
  | .local _ .vmem, ⟨26, _⟩ => ⟨S1x256x64, .f32⟩
  | .local _ .vmem, ⟨27, _⟩ => ⟨S1x256x64, .f32⟩
  | .local _ .vmem, ⟨28, _⟩ => ⟨S1x256x64, .f32⟩
  | .local _ .vmem, ⟨29, _⟩ => ⟨S1x256x64, .f32⟩
  | .local _ .vmem, ⟨30, _⟩ => ⟨S1x1x256x768, .f32⟩
  | .local _ .vmem, ⟨31, _⟩ => ⟨S1x1x256x768, .f32⟩
  | .local _ .vmem, ⟨32, _⟩ => ⟨S1x1x256x768, .f32⟩
  | .local _ .vmem, ⟨33, _⟩ => ⟨S1x1x256x768, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_c_7 : Ref sig .tc := ⟨.hbm, 15, rfl⟩
abbrev main_c_8 : Ref sig .tc := ⟨.hbm, 16, rfl⟩
abbrev main_c_9 : Ref sig .tc := ⟨.hbm, 17, rfl⟩
abbrev main_c_10 : Ref sig .tc := ⟨.hbm, 18, rfl⟩
abbrev main_v0 : Ref sig .tc := ⟨.hbm, 19, rfl⟩
abbrev main_v1 : Ref sig .tc := ⟨.hbm, 20, rfl⟩
abbrev main_c_11 : Ref sig .tc := ⟨.hbm, 21, rfl⟩
abbrev main_v2 : Ref sig .tc := ⟨.hbm, 22, rfl⟩
abbrev main_v3 : Ref sig .tc := ⟨.hbm, 23, rfl⟩
abbrev main_c_12 : Ref sig .tc := ⟨.hbm, 24, rfl⟩
abbrev main_c_13 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_14 : Ref sig .tc := ⟨.hbm, 38, rfl⟩
abbrev main_v11 : Ref sig .tc := ⟨.hbm, 39, rfl⟩
abbrev main_v12 : Ref sig .tc := ⟨.hbm, 40, rfl⟩
abbrev main_c_15 : Ref sig .tc := ⟨.hbm, 41, rfl⟩
abbrev main_c_16 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_17 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_18 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_19 : Ref sig .tc := ⟨.hbm, 74, rfl⟩
abbrev main_c_20 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v37 : Ref sig .tc := ⟨.hbm, 81, rfl⟩
abbrev main_c_21 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_22 : Ref sig .tc := ⟨.hbm, 87, rfl⟩
abbrev main_v42 : Ref sig .tc := ⟨.hbm, 88, rfl⟩
abbrev main_v43 : Ref sig .tc := ⟨.hbm, 89, rfl⟩
abbrev main_c_23 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_24 : Ref sig .tc := ⟨.hbm, 94, rfl⟩
abbrev main_v47 : Ref sig .tc := ⟨.hbm, 95, rfl⟩
abbrev main_v48 : Ref sig .tc := ⟨.hbm, 96, rfl⟩
abbrev main_c_25 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_c_26 : Ref sig .tc := ⟨.hbm, 115, rfl⟩
abbrev main_v62 : Ref sig .tc := ⟨.hbm, 116, rfl⟩
abbrev main_v63 : Ref sig .tc := ⟨.hbm, 117, rfl⟩
abbrev main_c_27 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_28 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_29 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_30 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_31 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c_32 : Ref sig .tc := ⟨.hbm, 148, rfl⟩
abbrev main_v89 : Ref sig .tc := ⟨.hbm, 149, rfl⟩
abbrev main_v90 : Ref sig .tc := ⟨.hbm, 150, rfl⟩
abbrev main_c_33 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_c_34 : Ref sig .tc := ⟨.hbm, 158, rfl⟩
abbrev main_v97 : Ref sig .tc := ⟨.hbm, 159, rfl⟩
abbrev main_v98 : Ref sig .tc := ⟨.hbm, 160, rfl⟩
abbrev main_c_35 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_36 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_37 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_38 : Ref sig .tc := ⟨.hbm, 178, rfl⟩
abbrev main_v113 : Ref sig .tc := ⟨.hbm, 179, rfl⟩
abbrev main_cst_39 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_cst_40 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_c_41 : Ref sig .tc := ⟨.hbm, 200, rfl⟩
abbrev main_v132 : Ref sig .tc := ⟨.hbm, 201, rfl⟩
abbrev main_v133 : Ref sig .tc := ⟨.hbm, 202, rfl⟩
abbrev main_c_42 : Ref sig .tc := ⟨.hbm, 203, rfl⟩
abbrev main_c_43 : Ref sig .tc := ⟨.hbm, 204, rfl⟩
abbrev main_call4_v0 : Ref sig .tc := ⟨.hbm, 205, rfl⟩
abbrev main_call4_v1 : Ref sig .tc := ⟨.hbm, 206, rfl⟩
abbrev main_call4_v2 : Ref sig .tc := ⟨.hbm, 207, rfl⟩
abbrev main_call4_v3 : Ref sig .tc := ⟨.hbm, 208, rfl⟩
abbrev main_call4_v4 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_c_44 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_c_45 : Ref sig .tc := ⟨.hbm, 230, rfl⟩
abbrev main_c_46 : Ref sig .tc := ⟨.hbm, 231, rfl⟩
abbrev main_call5_v0 : Ref sig .tc := ⟨.hbm, 232, rfl⟩
abbrev main_call5_v1 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_v153 : Ref sig .tc := ⟨.hbm, 237, rfl⟩
abbrev main_c_47 : Ref sig .tc := ⟨.hbm, 238, rfl⟩
abbrev main_v154 : Ref sig .tc := ⟨.hbm, 239, rfl⟩
abbrev main_v155 : Ref sig .tc := ⟨.hbm, 240, rfl⟩
abbrev main_c_48 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_49 : Ref sig .tc := ⟨.hbm, 254, rfl⟩
abbrev main_cst_50 : Ref sig .tc := ⟨.hbm, 255, rfl⟩
abbrev main_call6_v0 : Ref sig .tc := ⟨.hbm, 256, rfl⟩
abbrev main_call6_v1 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_cst_51 : Ref sig .tc := ⟨.hbm, 266, rfl⟩
abbrev main_call7_v0 : Ref sig .tc := ⟨.hbm, 267, rfl⟩
abbrev main_v176 : Ref sig .tc := ⟨.hbm, 268, rfl⟩
abbrev main_v177 : Ref sig .tc := ⟨.hbm, 269, rfl⟩
abbrev main_cst_52 : Ref sig .tc := ⟨.hbm, 270, rfl⟩
abbrev main_call8_v0 : Ref sig .tc := ⟨.hbm, 271, rfl⟩
abbrev main_call8_v1 : Ref sig .tc := ⟨.hbm, 272, rfl⟩
abbrev main_call8_v2 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_cst_53 : Ref sig .tc := ⟨.hbm, 277, rfl⟩
abbrev main_call9_v0 : Ref sig .tc := ⟨.hbm, 278, rfl⟩
abbrev main_v181 : Ref sig .tc := ⟨.hbm, 279, rfl⟩
abbrev main_v182 : Ref sig .tc := ⟨.hbm, 280, rfl⟩
abbrev main_cst_54 : Ref sig .tc := ⟨.hbm, 281, rfl⟩
abbrev main_call10_v0 : Ref sig .tc := ⟨.hbm, 282, rfl⟩
abbrev main_call10_v1 : Ref sig .tc := ⟨.hbm, 283, rfl⟩
abbrev main_call10_v2 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_cst_55 : Ref sig .tc := ⟨.hbm, 288, rfl⟩
abbrev main_call11_v0 : Ref sig .tc := ⟨.hbm, 289, rfl⟩
abbrev main_v186 : Ref sig .tc := ⟨.hbm, 290, rfl⟩
abbrev main_v187 : Ref sig .tc := ⟨.hbm, 291, rfl⟩
abbrev main_cst_56 : Ref sig .tc := ⟨.hbm, 292, rfl⟩
abbrev main_call12_v0 : Ref sig .tc := ⟨.hbm, 293, rfl⟩
abbrev main_call12_v1 : Ref sig .tc := ⟨.hbm, 294, rfl⟩
abbrev main_call12_v2 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_cst_57 : Ref sig .tc := ⟨.hbm, 299, rfl⟩
abbrev main_call13_v0 : Ref sig .tc := ⟨.hbm, 300, rfl⟩
abbrev main_v191 : Ref sig .tc := ⟨.hbm, 301, rfl⟩
abbrev main_v192 : Ref sig .tc := ⟨.hbm, 302, rfl⟩
abbrev main_cst_58 : Ref sig .tc := ⟨.hbm, 303, rfl⟩
abbrev main_call14_v0 : Ref sig .tc := ⟨.hbm, 304, rfl⟩
abbrev main_call14_v1 : Ref sig .tc := ⟨.hbm, 305, rfl⟩
abbrev main_call14_v2 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_cst_59 : Ref sig .tc := ⟨.hbm, 316, rfl⟩
abbrev main_call15_v0 : Ref sig .tc := ⟨.hbm, 317, rfl⟩
abbrev main_v202 : Ref sig .tc := ⟨.hbm, 318, rfl⟩
abbrev main_v203 : Ref sig .tc := ⟨.hbm, 319, rfl⟩
abbrev main_cst_60 : Ref sig .tc := ⟨.hbm, 320, rfl⟩
abbrev main_call16_v0 : Ref sig .tc := ⟨.hbm, 321, rfl⟩
abbrev main_call16_v1 : Ref sig .tc := ⟨.hbm, 322, rfl⟩
abbrev main_call16_v2 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_cst_61 : Ref sig .tc := ⟨.hbm, 327, rfl⟩
abbrev main_call17_v0 : Ref sig .tc := ⟨.hbm, 328, rfl⟩
abbrev main_v207 : Ref sig .tc := ⟨.hbm, 329, rfl⟩
abbrev main_v208 : Ref sig .tc := ⟨.hbm, 330, rfl⟩
abbrev main_cst_62 : Ref sig .tc := ⟨.hbm, 331, rfl⟩
abbrev main_call18_v0 : Ref sig .tc := ⟨.hbm, 332, rfl⟩
abbrev main_call18_v1 : Ref sig .tc := ⟨.hbm, 333, rfl⟩
abbrev main_call18_v2 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_cst_63 : Ref sig .tc := ⟨.hbm, 338, rfl⟩
abbrev main_call19_v0 : Ref sig .tc := ⟨.hbm, 339, rfl⟩
abbrev main_v212 : Ref sig .tc := ⟨.hbm, 340, rfl⟩
abbrev main_v213 : Ref sig .tc := ⟨.hbm, 341, rfl⟩
abbrev main_cst_64 : Ref sig .tc := ⟨.hbm, 342, rfl⟩
abbrev main_call20_v0 : Ref sig .tc := ⟨.hbm, 343, rfl⟩
abbrev main_call20_v1 : Ref sig .tc := ⟨.hbm, 344, rfl⟩
abbrev main_call20_v2 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_cst_65 : Ref sig .tc := ⟨.hbm, 349, rfl⟩
abbrev main_call21_v0 : Ref sig .tc := ⟨.hbm, 350, rfl⟩
abbrev main_v217 : Ref sig .tc := ⟨.hbm, 351, rfl⟩
abbrev main_v218 : Ref sig .tc := ⟨.hbm, 352, rfl⟩
abbrev main_cst_66 : Ref sig .tc := ⟨.hbm, 353, rfl⟩
abbrev main_call22_v0 : Ref sig .tc := ⟨.hbm, 354, rfl⟩
abbrev main_call22_v1 : Ref sig .tc := ⟨.hbm, 355, rfl⟩
abbrev main_call22_v2 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_cst_67 : Ref sig .tc := ⟨.hbm, 366, rfl⟩
abbrev main_call23_v0 : Ref sig .tc := ⟨.hbm, 367, rfl⟩
abbrev main_v228 : Ref sig .tc := ⟨.hbm, 368, rfl⟩
abbrev main_v229 : Ref sig .tc := ⟨.hbm, 369, rfl⟩
abbrev main_cst_68 : Ref sig .tc := ⟨.hbm, 370, rfl⟩
abbrev main_call24_v0 : Ref sig .tc := ⟨.hbm, 371, rfl⟩
abbrev main_call24_v1 : Ref sig .tc := ⟨.hbm, 372, rfl⟩
abbrev main_call24_v2 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_cst_69 : Ref sig .tc := ⟨.hbm, 377, rfl⟩
abbrev main_call25_v0 : Ref sig .tc := ⟨.hbm, 378, rfl⟩
abbrev main_v233 : Ref sig .tc := ⟨.hbm, 379, rfl⟩
abbrev main_v234 : Ref sig .tc := ⟨.hbm, 380, rfl⟩
abbrev main_cst_70 : Ref sig .tc := ⟨.hbm, 381, rfl⟩
abbrev main_call26_v0 : Ref sig .tc := ⟨.hbm, 382, rfl⟩
abbrev main_call26_v1 : Ref sig .tc := ⟨.hbm, 383, rfl⟩
abbrev main_call26_v2 : Ref sig .tc := ⟨.hbm, 384, rfl⟩
abbrev main_v235 : Ref sig .tc := ⟨.hbm, 385, rfl⟩
abbrev main_v236 : Ref sig .tc := ⟨.hbm, 386, rfl⟩
abbrev main_v237 : Ref sig .tc := ⟨.hbm, 387, rfl⟩
abbrev main_cst_71 : Ref sig .tc := ⟨.hbm, 388, rfl⟩
abbrev main_call27_v0 : Ref sig .tc := ⟨.hbm, 389, rfl⟩
abbrev main_v238 : Ref sig .tc := ⟨.hbm, 390, rfl⟩
abbrev main_v239 : Ref sig .tc := ⟨.hbm, 391, rfl⟩
abbrev main_cst_72 : Ref sig .tc := ⟨.hbm, 392, rfl⟩
abbrev main_call28_v0 : Ref sig .tc := ⟨.hbm, 393, rfl⟩
abbrev main_call28_v1 : Ref sig .tc := ⟨.hbm, 394, rfl⟩
abbrev main_call28_v2 : Ref sig .tc := ⟨.hbm, 395, rfl⟩
abbrev main_v240 : Ref sig .tc := ⟨.hbm, 396, rfl⟩
abbrev main_v241 : Ref sig .tc := ⟨.hbm, 397, rfl⟩
abbrev main_v242 : Ref sig .tc := ⟨.hbm, 398, rfl⟩
abbrev main_cst_73 : Ref sig .tc := ⟨.hbm, 399, rfl⟩
abbrev main_call29_v0 : Ref sig .tc := ⟨.hbm, 400, rfl⟩
abbrev main_v243 : Ref sig .tc := ⟨.hbm, 401, rfl⟩
abbrev main_v244 : Ref sig .tc := ⟨.hbm, 402, rfl⟩
abbrev main_cst_74 : Ref sig .tc := ⟨.hbm, 403, rfl⟩
abbrev main_call30_v0 : Ref sig .tc := ⟨.hbm, 404, rfl⟩
abbrev main_call30_v1 : Ref sig .tc := ⟨.hbm, 405, rfl⟩
abbrev main_call30_v2 : Ref sig .tc := ⟨.hbm, 406, rfl⟩
abbrev main_v245 : Ref sig .tc := ⟨.hbm, 407, rfl⟩
abbrev main_v246 : Ref sig .tc := ⟨.hbm, 408, rfl⟩
abbrev main_v247 : Ref sig .tc := ⟨.hbm, 409, rfl⟩
abbrev main_v248 : Ref sig .tc := ⟨.hbm, 410, rfl⟩
abbrev main_v249 : Ref sig .tc := ⟨.hbm, 411, rfl⟩
abbrev main_v250 : Ref sig .tc := ⟨.hbm, 412, rfl⟩
abbrev main_v251 : Ref sig .tc := ⟨.hbm, 413, rfl⟩
abbrev main_v252 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_v262 : Ref sig .tc := ⟨.hbm, 424, rfl⟩
abbrev main_v263_0 : Ref sig .tc := ⟨.hbm, 425, rfl⟩
abbrev main_v263_1 : Ref sig .tc := ⟨.hbm, 426, rfl⟩
abbrev main_v263_2 : Ref sig .tc := ⟨.hbm, 427, rfl⟩
abbrev main_v263_3 : Ref sig .tc := ⟨.hbm, 428, rfl⟩
abbrev main_v263_4 : Ref sig .tc := ⟨.hbm, 429, rfl⟩
abbrev main_v263_5 : Ref sig .tc := ⟨.hbm, 430, rfl⟩
abbrev main_v263_6 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_v267 : Ref sig .tc := ⟨.hbm, 435, rfl⟩
abbrev main_v268 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_v275 : Ref sig .tc := ⟨.hbm, 443, rfl⟩
abbrev main_v276 : Ref sig .tc := ⟨.hbm, 444, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c116_i32 : BitVec 32 := 116#32
  let c0_i32_11 : BitVec 32 := 0#32
  let c4_i32 : BitVec 32 := 4#32
  let c2_i32 : BitVec 32 := 2#32
  let arg1 : BitVec 32 := BitVec.ofNat 32 (i 1).val
  let v15 : BitVec 32 := Scalar.muli c2_i32 arg1
  let c0_i32_9 : BitVec 32 := 0#32
  let v16 : BitVec 32 := Scalar.addi v15 c0_i32_9
  let v17 : BitVec 32 := Scalar.muli c4_i32 v16
  let c4_i32_10 : BitVec 32 := 4#32
  let v18 : BitVec 32 := Scalar.subi v17 c4_i32_10
  let v19 : BitVec 32 := Scalar.maxsi c0_i32_11 v18
  let v20 : BitVec 32 := Scalar.minsi c116_i32 v19
  let c64_i32 : BitVec 32 := 64#32
  let v21 : BitVec 32 := Scalar.muli v20 c64_i32
  v21
def k0_off1 (i : grid0.Coords) (c0_i32_9 : BitVec 32) : Fin 3 → Nat :=
  let c0_15 : Index := 0#32
  let c116_i32 : BitVec 32 := 116#32
  let c0_i32_11 : BitVec 32 := 0#32
  let c4_i32 : BitVec 32 := 4#32
  let c2_i32 : BitVec 32 := 2#32
  let arg1 : BitVec 32 := BitVec.ofNat 32 (i 1).val
  let v15 : BitVec 32 := Scalar.muli c2_i32 arg1
  let v16 : BitVec 32 := Scalar.addi v15 c0_i32_9
  let v17 : BitVec 32 := Scalar.muli c4_i32 v16
  let c4_i32_10 : BitVec 32 := 4#32
  let v18 : BitVec 32 := Scalar.subi v17 c4_i32_10
  let v19 : BitVec 32 := Scalar.maxsi c0_i32_11 v18
  let v20 : BitVec 32 := Scalar.minsi c116_i32 v19
  let c64_i32 : BitVec 32 := 64#32
  let v21 : BitVec 32 := Scalar.muli v20 c64_i32
  let v22 : BitVec 32 := v21
  let v27 : Index := Scalar.indexCast v22
  let c0_16 : Index := 0#32
  ![0, v27.toNat, 0]
def k0_mult2 (i : grid0.Coords) : BitVec 32 :=
  let c116_i32_80 : BitVec 32 := 116#32
  let c0_i32_79 : BitVec 32 := 0#32
  let c4_i32_77 : BitVec 32 := 4#32
  let c2_i32_75 : BitVec 32 := 2#32
  let arg1 : BitVec 32 := BitVec.ofNat 32 (i 1).val
  let v112 : BitVec 32 := Scalar.muli c2_i32_75 arg1
  let c1_i32_76 : BitVec 32 := 1#32
  let v113 : BitVec 32 := Scalar.addi v112 c1_i32_76
  let v114 : BitVec 32 := Scalar.muli c4_i32_77 v113
  let c4_i32_78 : BitVec 32 := 4#32
  let v115 : BitVec 32 := Scalar.subi v114 c4_i32_78
  let v116 : BitVec 32 := Scalar.maxsi c0_i32_79 v115
  let v117 : BitVec 32 := Scalar.minsi c116_i32_80 v116
  let c64_i32_81 : BitVec 32 := 64#32
  let v118 : BitVec 32 := Scalar.muli v117 c64_i32_81
  v118
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let v2 : BitVec 1 := Scalar.cmpi .eq v1 c0_i32_0
  let c31_i32 : BitVec 32 := 31#32
  let v3 : BitVec 1 := Scalar.cmpi .eq v1 c31_i32
  let c2_i32_1 : BitVec 32 := 2#32
  let c1_i32 : BitVec 32 := 1#32
  let v4 : BitVec 32 := Scalar.select v3 c2_i32_1 c1_i32
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  ![v5.toNat, arg0.toNat, c0_i32_3.toNat, c0_i32_4.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let v2 : BitVec 1 := Scalar.cmpi .eq v1 c0_i32
  let c31_i32 : BitVec 32 := 31#32
  let v3 : BitVec 1 := Scalar.cmpi .eq v1 c31_i32
  let c2_i32_0 : BitVec 32 := 2#32
  let c1_i32_1 : BitVec 32 := 1#32
  let v4 : BitVec 32 := Scalar.select v3 c2_i32_0 c1_i32_1
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  ![v5.toNat, arg0.toNat, c0_i32_3.toNat, c0_i32_4.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let v2 : BitVec 1 := Scalar.cmpi .eq v1 c0_i32_0
  let c31_i32 : BitVec 32 := 31#32
  let v3 : BitVec 1 := Scalar.cmpi .eq v1 c31_i32
  let c2_i32_1 : BitVec 32 := 2#32
  let c1_i32 : BitVec 32 := 1#32
  let v4 : BitVec 32 := Scalar.select v3 c2_i32_1 c1_i32
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  ![v5.toNat, arg0.toNat, c0_i32_3.toNat, c0_i32_4.toNat]

def cc0_transform_16 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let v2 : BitVec 1 := Scalar.cmpi .eq v1 c0_i32
  let c31_i32 : BitVec 32 := 31#32
  let v3 : BitVec 1 := Scalar.cmpi .eq v1 c31_i32
  let c2_i32_0 : BitVec 32 := 2#32
  let c1_i32_1 : BitVec 32 := 1#32
  let v4 : BitVec 32 := Scalar.select v3 c2_i32_0 c1_i32_1
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  ![v5.toNat, arg0.toNat, c0_i32_3.toNat, c0_i32_4.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8192x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8192x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== NaRefIdeal.lean ====
abbrev S8x8192x64 : Shape := ⟨3, ![8, 8192, 64]⟩
abbrev S8x256x64 : Shape := ⟨3, ![8, 256, 64]⟩
abbrev S8x15x31 : Shape := ⟨3, ![8, 15, 31]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S1x1x64x1x64 : Shape := ⟨5, ![1, 1, 64, 1, 64]⟩
abbrev S8x128x64x64 : Shape := ⟨4, ![8, 128, 64, 64]⟩
abbrev S128x8x1 : Shape := ⟨3, ![128, 8, 1]⟩
abbrev S8x128x8x64x64 : Shape := ⟨5, ![8, 128, 8, 64, 64]⟩
abbrev S8x128x64x512 : Shape := ⟨4, ![8, 128, 64, 512]⟩
abbrev S8x128x64x256 : Shape := ⟨4, ![8, 128, 64, 256]⟩
abbrev S8x128x64x768 : Shape := ⟨4, ![8, 128, 64, 768]⟩
abbrev S8x128x64 : Shape := ⟨3, ![8, 128, 64]⟩
abbrev S8x128x64x1 : Shape := ⟨4, ![8, 128, 64, 1]⟩
abbrev S8x64x256 : Shape := ⟨3, ![8, 64, 256]⟩

abbrev nBuf : Space → Nat
  | .hbm => 236
  | .vmem => 0
  | .smem => 0
  | _ => 0

abbrev hbmTy0_0 (i : Nat) : BufTy := match i % 128 with
  | 0 => ⟨S8x8192x64, .f32⟩
  | 1 => ⟨S8x8192x64, .f32⟩
  | 2 => ⟨S8x8192x64, .f32⟩
  | 3 => ⟨S8x256x64, .f32⟩
  | 4 => ⟨S8x256x64, .f32⟩
  | 5 => ⟨S8x15x31, .f32⟩
  | 6 => ⟨S8x8192x64, .f32⟩
  | 7 => ⟨S128, .i32⟩
  | 8 => ⟨S64, .i32⟩
  | 9 => ⟨S_, .i32⟩
  | 10 => ⟨S128, .i32⟩
  | 11 => ⟨S128, .i32⟩
  | 12 => ⟨S_, .i32⟩
  | 13 => ⟨S_, .i32⟩
  | 14 => ⟨S_, .i32⟩
  | 15 => ⟨S128, .i32⟩
  | 16 => ⟨S128, .i32⟩
  | 17 => ⟨S_, .i32⟩
  | 18 => ⟨S128, .i32⟩
  | 19 => ⟨S128, .i32⟩
  | 20 => ⟨S128x1, .i32⟩
  | 21 => ⟨S8, .i32⟩
  | 22 => ⟨S1x8, .i32⟩
  | 23 => ⟨S128x8, .i32⟩
  | 24 => ⟨S128x8, .i32⟩
  | 25 => ⟨S128x8, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S1x64, .i32⟩
  | 38 => ⟨S64x1, .i32⟩
  | 39 => ⟨S64x64, .i32⟩
  | 40 => ⟨S64x64, .i32⟩
  | 41 => ⟨S64x64, .i1⟩
  | 42 => ⟨S1x64, .i32⟩
  | 43 => ⟨S64x1, .i32⟩
  | 44 => ⟨S_, .i32⟩
  | 45 => ⟨S64x1, .i32⟩
  | 46 => ⟨S64x1, .i32⟩
  | 47 => ⟨S64x64, .i32⟩
  | 48 => ⟨S64x64, .i32⟩
  | 49 => ⟨S64x64, .i1⟩
  | 50 => ⟨S64x64, .i1⟩
  | 51 => ⟨S128x1, .i32⟩
  | 52 => ⟨S128x8, .i32⟩
  | 53 => ⟨S128x8, .i32⟩
  | 54 => ⟨S_, .i32⟩
  | 55 => ⟨S128x8, .i32⟩
  | 56 => ⟨S128x8, .i32⟩
  | 57 => ⟨S1x64, .i32⟩
  | 58 => ⟨S64x1, .i32⟩
  | 59 => ⟨S64x64, .i32⟩
  | 60 => ⟨S64x64, .i32⟩
  | 61 => ⟨S64x64, .i32⟩
  | 62 => ⟨S_, .i32⟩
  | 63 => ⟨S_, .i32⟩
  | 64 => ⟨S_, .i32⟩
  | 65 => ⟨S64x64, .i32⟩
  | 66 => ⟨S64x64, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S128x1x8x1, .i32⟩
  | 74 => ⟨S1x64x1x64, .i32⟩
  | 75 => ⟨S_, .i32⟩
  | 76 => ⟨S128x1x8x1, .i32⟩
  | 77 => ⟨S128x1x8x1, .i1⟩
  | 78 => ⟨S_, .i32⟩
  | 79 => ⟨S128x1x8x1, .i32⟩
  | 80 => ⟨S128x1x8x1, .i32⟩
  | 81 => ⟨S128x1x8x1, .i32⟩
  | 82 => ⟨S_, .i32⟩
  | 83 => ⟨S1x64x1x64, .i32⟩
  | 84 => ⟨S1x64x1x64, .i1⟩
  | 85 => ⟨S_, .i32⟩
  | 86 => ⟨S1x64x1x64, .i32⟩
  | 87 => ⟨S1x64x1x64, .i32⟩
  | 88 => ⟨S1x64x1x64, .i32⟩
  | 89 => ⟨S128x64x8x64, .i32⟩
  | 90 => ⟨S128x64x8x64, .i32⟩
  | 91 => ⟨S128x64x8x64x1, .i32⟩
  | 92 => ⟨S128x64x8x64x1, .i32⟩
  | 93 => ⟨S128x64x8x64x2, .i32⟩
  | 94 => ⟨S8x128x64x8x64, .f32⟩
  | 95 => ⟨S1x1x64x1x64, .i1⟩
  | 96 => ⟨S_, .f32⟩
  | 97 => ⟨S_, .f32⟩
  | 98 => ⟨S8x128x64x8x64, .i1⟩
  | 99 => ⟨S8x128x64x8x64, .f32⟩
  | 100 => ⟨S8x128x64x8x64, .f32⟩
  | 101 => ⟨S_, .f32⟩
  | 102 => ⟨S8x128x64x8x64, .f32⟩
  | 103 => ⟨S8x128x64x64, .f32⟩
  | 104 => ⟨S8x128x64x64, .f32⟩
  | 105 => ⟨S_, .i32⟩
  | 106 => ⟨S128x8, .i32⟩
  | 107 => ⟨S128x8, .i1⟩
  | 108 => ⟨S_, .i32⟩
  | 109 => ⟨S128x8, .i32⟩
  | 110 => ⟨S128x8, .i32⟩
  | 111 => ⟨S128x8, .i32⟩
  | 112 => ⟨S128x8x1, .i32⟩
  | 113 => ⟨S8x128x8x64x64, .f32⟩
  | 114 => ⟨S8x128x64x64, .f32⟩
  | 115 => ⟨S_, .i32⟩
  | 116 => ⟨S128x8, .i32⟩
  | 117 => ⟨S128x8, .i1⟩
  | 118 => ⟨S_, .i32⟩
  | 119 => ⟨S128x8, .i32⟩
  | 120 => ⟨S128x8, .i32⟩
  | 121 => ⟨S128x8, .i32⟩
  | 122 => ⟨S128x8x1, .i32⟩
  | 123 => ⟨S8x128x8x64x64, .f32⟩
  | 124 => ⟨S8x128x64x8x64, .f32⟩
  | 125 => ⟨S_, .f32⟩
  | 126 => ⟨S8x128x64x8x64, .f32⟩
  | 127 => ⟨S8x128x64x8x64, .f32⟩
  | _ => ⟨S8x8192x64, .f32⟩

abbrev hbmTy0_1 (i : Nat) : BufTy := match i % 128 with
  | 0 => ⟨S8x128x64x8x64, .f32⟩
  | 1 => ⟨S8x128x64x512, .f32⟩
  | 2 => ⟨S8x128x64x256, .f32⟩
  | 3 => ⟨S_, .f32⟩
  | 4 => ⟨S8x128x64x256, .f32⟩
  | 5 => ⟨S8x128x64x256, .f32⟩
  | 6 => ⟨S8x128x64x768, .f32⟩
  | 7 => ⟨S_, .f32⟩
  | 8 => ⟨S8x128x64, .f32⟩
  | 9 => ⟨S8x128x64x1, .f32⟩
  | 10 => ⟨S8x128x64x768, .f32⟩
  | 11 => ⟨S8x128x64x768, .i1⟩
  | 12 => ⟨S8x128x64x768, .f32⟩
  | 13 => ⟨S_, .f32⟩
  | 14 => ⟨S8x128x64, .f32⟩
  | 15 => ⟨S_, .f32⟩
  | 16 => ⟨S8x128x64, .f32⟩
  | 17 => ⟨S8x128x64, .f32⟩
  | 18 => ⟨S_, .f32⟩
  | 19 => ⟨S8x128x64, .f32⟩
  | 20 => ⟨S8x128x64, .i1⟩
  | 21 => ⟨S_, .f32⟩
  | 22 => ⟨S8x128x64, .f32⟩
  | 23 => ⟨S8x128x64, .i1⟩
  | 24 => ⟨S_, .f32⟩
  | 25 => ⟨S8x128x64, .f32⟩
  | 26 => ⟨S_, .f32⟩
  | 27 => ⟨S8x128x64, .f32⟩
  | 28 => ⟨S_, .f32⟩
  | 29 => ⟨S8x128x64, .f32⟩
  | 30 => ⟨S8x128x64, .f32⟩
  | 31 => ⟨S8x128x64, .f32⟩
  | 32 => ⟨S8x128x64x1, .f32⟩
  | 33 => ⟨S8x128x64x768, .f32⟩
  | 34 => ⟨S8x128x64x768, .f32⟩
  | 35 => ⟨S8x128x64x768, .f32⟩
  | 36 => ⟨S_, .f32⟩
  | 37 => ⟨S8x128x64, .f32⟩
  | 38 => ⟨S8x128x64x1, .f32⟩
  | 39 => ⟨S8x128x64x768, .f32⟩
  | 40 => ⟨S8x128x64x768, .f32⟩
  | 41 => ⟨S8x128x64x1, .f32⟩
  | 42 => ⟨S_, .f32⟩
  | 43 => ⟨S8x128x64x1, .f32⟩
  | 44 => ⟨S8x128x64x1, .f32⟩
  | 45 => ⟨S8x128x64x512, .f32⟩
  | 46 => ⟨S8x128x64x8x64, .f32⟩
  | 47 => ⟨S8x128x64x256, .f32⟩
  | 48 => ⟨S8x128x64x64, .f32⟩
  | 49 => ⟨S8x128x64x64, .f32⟩
  | 50 => ⟨S8x128x64x64, .f32⟩
  | 51 => ⟨S8x8192x64, .f32⟩
  | 52 => ⟨S8x128x64x64, .f32⟩
  | 53 => ⟨S8x64x256, .f32⟩
  | 54 => ⟨S8x256x64, .f32⟩
  | 55 => ⟨S8x128x64x256, .f32⟩
  | 56 => ⟨S8x128x64x8x64, .f32⟩
  | 57 => ⟨S8x128x8x64x64, .f32⟩
  | 58 => ⟨S8x128x64x8x64, .f32⟩
  | 59 => ⟨S_, .f32⟩
  | 60 => ⟨S8x128x64x768, .f32⟩
  | 61 => ⟨S8x128x64x512, .f32⟩
  | 62 => ⟨S_, .f32⟩
  | 63 => ⟨S8x128x64x768, .f32⟩
  | 64 => ⟨S8x128x64x768, .f32⟩
  | 65 => ⟨S8x128x64x768, .f32⟩
  | 66 => ⟨S8x128x64x768, .f32⟩
  | 67 => ⟨S8x128x64x768, .f32⟩
  | 68 => ⟨S_, .f32⟩
  | 69 => ⟨S8x128x64, .f32⟩
  | 70 => ⟨S8x128x64x1, .f32⟩
  | 71 => ⟨S8x128x64x1, .f32⟩
  | 72 => ⟨S8x128x64x768, .f32⟩
  | 73 => ⟨S8x128x64x768, .f32⟩
  | 74 => ⟨S_, .f32⟩
  | 75 => ⟨S8x128x64, .f32⟩
  | 76 => ⟨S8x128x64x768, .f32⟩
  | 77 => ⟨S8x128x64x768, .f32⟩
  | 78 => ⟨S8x128x64x768, .f32⟩
  | 79 => ⟨S8x128x64x512, .f32⟩
  | 80 => ⟨S8x128x64x256, .f32⟩
  | 81 => ⟨S_, .f32⟩
  | 82 => ⟨S8x128x64x256, .f32⟩
  | 83 => ⟨S8x128x64x256, .f32⟩
  | 84 => ⟨S8x256x64, .f32⟩
  | 85 => ⟨S8x128x64x64, .f32⟩
  | 86 => ⟨S8x128x64x8x64, .f32⟩
  | 87 => ⟨S_, .f32⟩
  | 88 => ⟨S8x128x64x8x64, .f32⟩
  | 89 => ⟨S8x128x64x8x64, .f32⟩
  | 90 => ⟨S8x128x8x64x64, .f32⟩
  | 91 => ⟨S8x128x64x64, .f32⟩
  | 92 => ⟨S8x128x64x64, .f32⟩
  | 93 => ⟨S_, .f32⟩
  | 94 => ⟨S8x128x64x64, .f32⟩
  | 95 => ⟨S8x128x64x64, .f32⟩
  | 96 => ⟨S8x8192x64, .f32⟩
  | 97 => ⟨S_, .f32⟩
  | 98 => ⟨S8x128x64x64, .f32⟩
  | 99 => ⟨S8x128x64x64, .f32⟩
  | 100 => ⟨S8x8192x64, .f32⟩
  | 101 => ⟨S8x8192x64, .f32⟩
  | 102 => ⟨S_, .f32⟩
  | 103 => ⟨S8x128x64x8x64, .f32⟩
  | 104 => ⟨S8x128x64x8x64, .f32⟩
  | 105 => ⟨S_, .f32⟩
  | 106 => ⟨S8x15x31, .f32⟩
  | 107 => ⟨S8x15x31, .f32⟩
  | _ => ⟨S8x8192x64, .f32⟩

abbrev hbmTy (i : Nat) : BufTy := match i / 128 with
  | 0 => hbmTy0_0 i
  | 1 => hbmTy0_1 i
  | _ => ⟨S8x8192x64, .f32⟩

abbrev bufTy : (tb : Table) → Fin (tcTables nBuf tb) → BufTy
  | .hbm, ⟨i, _⟩ => hbmTy i
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_c_8 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_10 : Ref sig .tc := ⟨.hbm, 75, rfl⟩
abbrev main_v42 : Ref sig .tc := ⟨.hbm, 76, rfl⟩
abbrev main_v43 : Ref sig .tc := ⟨.hbm, 77, rfl⟩
abbrev main_c_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_12 : Ref sig .tc := ⟨.hbm, 82, rfl⟩
abbrev main_v47 : Ref sig .tc := ⟨.hbm, 83, rfl⟩
abbrev main_v48 : Ref sig .tc := ⟨.hbm, 84, rfl⟩
abbrev main_c_13 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst : Ref sig .tc := ⟨.hbm, 96, rfl⟩
abbrev main_call3_v0 : Ref sig .tc := ⟨.hbm, 97, rfl⟩
abbrev main_v59_1 : Ref sig .tc := ⟨.hbm, 98, rfl⟩
abbrev main_call3_v2 : Ref sig .tc := ⟨.hbm, 99, rfl⟩
abbrev main_v59_0 : Ref sig .tc := ⟨.hbm, 100, rfl⟩
abbrev main_call3_cst : Ref sig .tc := ⟨.hbm, 101, rfl⟩
abbrev main_v59_2 : Ref sig .tc := ⟨.hbm, 102, rfl⟩
abbrev main_v60 : Ref sig .tc := ⟨.hbm, 103, rfl⟩
abbrev main_v61 : Ref sig .tc := ⟨.hbm, 104, rfl⟩
abbrev main_c_14 : Ref sig .tc := ⟨.hbm, 105, rfl⟩
abbrev main_v62 : Ref sig .tc := ⟨.hbm, 106, rfl⟩
abbrev main_v63 : Ref sig .tc := ⟨.hbm, 107, rfl⟩
abbrev main_c_15 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_16 : Ref sig .tc := ⟨.hbm, 115, rfl⟩
abbrev main_v70 : Ref sig .tc := ⟨.hbm, 116, rfl⟩
abbrev main_v71 : Ref sig .tc := ⟨.hbm, 117, rfl⟩
abbrev main_c_17 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_18 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_19 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_20 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_21 : Ref sig .tc := ⟨.hbm, 141, rfl⟩
abbrev main_v91 : Ref sig .tc := ⟨.hbm, 142, rfl⟩
abbrev main_cst_22 : Ref sig .tc := ⟨.hbm, 143, rfl⟩
abbrev main_v92 : Ref sig .tc := ⟨.hbm, 144, rfl⟩
abbrev main_v93 : Ref sig .tc := ⟨.hbm, 145, rfl⟩
abbrev main_cst_23 : Ref sig .tc := ⟨.hbm, 146, rfl⟩
abbrev main_v94 : Ref sig .tc := ⟨.hbm, 147, rfl⟩
abbrev main_v95 : Ref sig .tc := ⟨.hbm, 148, rfl⟩
abbrev main_cst_24 : Ref sig .tc := ⟨.hbm, 149, rfl⟩
abbrev main_v96 : Ref sig .tc := ⟨.hbm, 150, rfl⟩
abbrev main_v97 : Ref sig .tc := ⟨.hbm, 151, rfl⟩
abbrev main_cst_25 : Ref sig .tc := ⟨.hbm, 152, rfl⟩
abbrev main_v98 : Ref sig .tc := ⟨.hbm, 153, rfl⟩
abbrev main_cst_26 : Ref sig .tc := ⟨.hbm, 154, rfl⟩
abbrev main_v99 : Ref sig .tc := ⟨.hbm, 155, rfl⟩
abbrev main_cst_27 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_28 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_29 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_30 : Ref sig .tc := ⟨.hbm, 187, rfl⟩
abbrev main_v128 : Ref sig .tc := ⟨.hbm, 188, rfl⟩
abbrev main_v129 : Ref sig .tc := ⟨.hbm, 189, rfl⟩
abbrev main_cst_31 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_32 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_33 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_34 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_35 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_cst_36 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_37 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_call4_cst : Ref sig .tc := ⟨.hbm, 230, rfl⟩
abbrev main_call4_v0 : Ref sig .tc := ⟨.hbm, 231, rfl⟩
abbrev main_v163 : Ref sig .tc := ⟨.hbm, 232, rfl⟩
abbrev main_cst_38 : Ref sig .tc := ⟨.hbm, 233, rfl⟩
abbrev main_v164 : Ref sig .tc := ⟨.hbm, 234, rfl⟩
abbrev main_v165 : Ref sig .tc := ⟨.hbm, 235, rfl⟩

abbrev nD : Nat := 1
abbrev τ : Topo := Topo.v7x

variable {F : FTy → Type} [FloatOps F]
-- ==== Flash.lean ====
abbrev S2x4x8192x64 : Shape := ⟨4, ![2, 4, 8192, 64]⟩
abbrev S2x8448x64 : Shape := ⟨3, ![2, 8448, 64]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x1x32768 : Shape := ⟨3, ![2, 1, 32768]⟩
abbrev S2x32768x64 : Shape := ⟨3, ![2, 32768, 64]⟩
abbrev S2x64x32768 : Shape := ⟨3, ![2, 64, 32768]⟩
abbrev S2x33x256x64 : Shape := ⟨4, ![2, 33, 256, 64]⟩
abbrev S2x33x64x256 : Shape := ⟨4, ![2, 33, 64, 256]⟩
abbrev S1x512x64 : Shape := ⟨3, ![1, 512, 64]⟩
abbrev S1x64x512 : Shape := ⟨3, ![1, 64, 512]⟩
abbrev S1x8448x64 : Shape := ⟨3, ![1, 8448, 64]⟩
abbrev S1x33x64x256 : Shape := ⟨4, ![1, 33, 64, 256]⟩
abbrev S1x1x512 : Shape := ⟨3, ![1, 1, 512]⟩
abbrev S8448x64 : Shape := ⟨2, ![8448, 64]⟩
abbrev S512x64 : Shape := ⟨2, ![512, 64]⟩
abbrev S64x512 : Shape := ⟨2, ![64, 512]⟩
abbrev S512 : Shape := ⟨1, ![512]⟩
abbrev S1x512 : Shape := ⟨2, ![1, 512]⟩
abbrev S1x256x64 : Shape := ⟨3, ![1, 256, 64]⟩
abbrev S256x64 : Shape := ⟨2, ![256, 64]⟩
abbrev S256x512 : Shape := ⟨2, ![256, 512]⟩
abbrev S1x1x64x256 : Shape := ⟨4, ![1, 1, 64, 256]⟩
abbrev S64x256 : Shape := ⟨2, ![64, 256]⟩

abbrev nBuf : Space → Nat
  | .hbm => 53
  | .vmem => 24
  | .smem => 0
  | _ => 0

abbrev bufTy : (tb : Table) → Fin (tcTables nBuf tb) → BufTy
  | .hbm, ⟨0, _⟩ => ⟨S2x4x8192x64, .f32⟩
  | .hbm, ⟨1, _⟩ => ⟨S2x8448x64, .f32⟩
  | .hbm, ⟨2, _⟩ => ⟨S2x8448x64, .f32⟩
  | .hbm, ⟨3, _⟩ => ⟨S2x4x8192x64, .f32⟩
  | .hbm, ⟨4, _⟩ => ⟨S2x4x8192x8448, .f32⟩
  | .hbm, ⟨5, _⟩ => ⟨S_, .f32⟩
  | .hbm, ⟨6, _⟩ => ⟨S2x4x8192x8448, .f32⟩
  | .hbm, ⟨7, _⟩ => ⟨S2x4x8192x8448, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8448, .f32⟩
  | .hbm, ⟨12, _⟩ => ⟨S2x4x8192x8448, .f32⟩
  | .hbm, ⟨13, _⟩ => ⟨S2x4x8192x8448, .f32⟩
  | .hbm, ⟨14, _⟩ => ⟨S_, .f32⟩
  | .hbm, ⟨15, _⟩ => ⟨S2x4x8192, .f32⟩
  | .hbm, ⟨16, _⟩ => ⟨S2x4x8192x8448, .f32⟩
  | .hbm, ⟨17, _⟩ => ⟨S_, .f32⟩
  | .hbm, ⟨18, _⟩ => ⟨S2x4x8192x8448, .f32⟩
  | .hbm, ⟨19, _⟩ => ⟨S2x4x8192x8448, .f32⟩
  | .hbm, ⟨20, _⟩ => ⟨S_, .f32⟩
  | .hbm, ⟨21, _⟩ => ⟨S2x4x8192, .f32⟩
  | .hbm, ⟨22, _⟩ => ⟨S_, .f32⟩
  | .hbm, ⟨23, _⟩ => ⟨S2x4x8192, .f32⟩
  | .hbm, ⟨24, _⟩ => ⟨S2x4x8192, .f32⟩
  | .hbm, ⟨25, _⟩ => ⟨S2x4x8192x1, .f32⟩
  | .hbm, ⟨26, _⟩ => ⟨S2x4x8192x8448, .f32⟩
  | .hbm, ⟨27, _⟩ => ⟨S2x4x8192x8448, .f32⟩
  | .hbm, ⟨28, _⟩ => ⟨S2x4x8192x8448, .f32⟩
  | .hbm, ⟨29, _⟩ => ⟨S_, .f32⟩
  | .hbm, ⟨30, _⟩ => ⟨S2x4x8192, .f32⟩
  | .hbm, ⟨31, _⟩ => ⟨S2x4x8192x1, .f32⟩
  | .hbm, ⟨32, _⟩ => ⟨S2x4x8192x8448, .f32⟩
  | .hbm, ⟨33, _⟩ => ⟨S2x4x8192x8448, .f32⟩
  | .hbm, ⟨34, _⟩ => ⟨S2x4x8192x64, .f32⟩
  | .hbm, ⟨35, _⟩ => ⟨S2x4x8192, .f32⟩
  | .hbm, ⟨36, _⟩ => ⟨S2x4x8192, .f32⟩
  | .hbm, ⟨37, _⟩ => ⟨S2x1x32768, .f32⟩
  | .hbm, ⟨38, _⟩ => ⟨S2x32768x64, .f32⟩
  | .hbm, ⟨39, _⟩ => ⟨S2x64x32768, .f32⟩
  | .hbm, ⟨40, _⟩ => ⟨S2x32768x64, .f32⟩
  | .hbm, ⟨41, _⟩ => ⟨S2x32768x64, .bf16⟩
  | .hbm, ⟨42, _⟩ => ⟨S2x8448x64, .bf16⟩
  | .hbm, ⟨43, _⟩ => ⟨S2x8448x64, .bf16⟩
  | .hbm, ⟨44, _⟩ => ⟨S2x32768x64, .f32⟩
  | .hbm, ⟨45, _⟩ => ⟨S2x32768x64, .bf16⟩
  | .hbm, ⟨46, _⟩ => ⟨S2x64x32768, .bf16⟩
  | .hbm, ⟨47, _⟩ => ⟨S2x33x256x64, .bf16⟩
  | .hbm, ⟨48, _⟩ => ⟨S2x33x64x256, .bf16⟩
  | .hbm, ⟨49, _⟩ => ⟨S2x64x32768, .bf16⟩
  | .hbm, ⟨50, _⟩ => ⟨S2x64x32768, .f32⟩
  | .hbm, ⟨51, _⟩ => ⟨S2x8448x64, .f32⟩
  | .hbm, ⟨52, _⟩ => ⟨S2x8448x64, .f32⟩
  | .local _ .vmem, ⟨0, _⟩ => ⟨S1x512x64, .bf16⟩
  | .local _ .vmem, ⟨1, _⟩ => ⟨S1x512x64, .bf16⟩
  | .local _ .vmem, ⟨2, _⟩ => ⟨S1x64x512, .bf16⟩
  | .local _ .vmem, ⟨3, _⟩ => ⟨S1x64x512, .bf16⟩
  | .local _ .vmem, ⟨4, _⟩ => ⟨S1x8448x64, .bf16⟩
  | .local _ .vmem, ⟨5, _⟩ => ⟨S1x8448x64, .bf16⟩
  | .local _ .vmem, ⟨6, _⟩ => ⟨S1x33x64x256, .bf16⟩
  | .local _ .vmem, ⟨7, _⟩ => ⟨S1x33x64x256, .bf16⟩
  | .local _ .vmem, ⟨8, _⟩ => ⟨S1x8448x64, .bf16⟩
  | .local _ .vmem, ⟨9, _⟩ => ⟨S1x8448x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x64x512, .bf16⟩
  | .local _ .vmem, ⟨13, _⟩ => ⟨S1x64x512, .bf16⟩
  | .local _ .vmem, ⟨14, _⟩ => ⟨S1x64x512, .f32⟩
  | .local _ .vmem, ⟨15, _⟩ => ⟨S1x64x512, .f32⟩
  | .local _ .vmem, ⟨16, _⟩ => ⟨S1x1x512, .f32⟩
  | .local _ .vmem, ⟨17, _⟩ => ⟨S1x1x512, .f32⟩
  | .local _ .vmem, ⟨18, _⟩ => ⟨S1x64x512, .f32⟩
  | .local _ .vmem, ⟨19, _⟩ => ⟨S1x64x512, .f32⟩
  | .local _ .vmem, ⟨20, _⟩ => ⟨S1x8448x64, .f32⟩
  | .local _ .vmem, ⟨21, _⟩ => ⟨S1x8448x64, .f32⟩
  | .local _ .vmem, ⟨22, _⟩ => ⟨S1x8448x64, .f32⟩
  | .local _ .vmem, ⟨23, _⟩ => ⟨S1x8448x64, .f32⟩
  | _, _ => ⟨S2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_21 : BitVec 32 := 0#32
  let c3_i32 : BitVec 32 := 3#32
  let v24 : BitVec 32 := Scalar.addi c0_i32_21 c3_i32
  let c1_i32 : BitVec 32 := 1#32
  ⟨c0_i32_21, v24, c1_i32⟩
def k0_mult1 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32 : BitVec 32 := 11#32
  let v31 : BitVec 32 := Scalar.muli arg14 c11_i32
  let c0_i32_27 : BitVec 32 := 0#32
  let v32 : BitVec 32 := Scalar.addi v31 c0_i32_27
  let c256_i32 : BitVec 32 := 256#32
  let v33 : BitVec 32 := Scalar.muli v32 c256_i32
  v33
def k0_off1 (k0_t1 : Fin k0_t1_loop.trips) (c0_i32_27 : BitVec 32) : Fin 3 → Nat :=
  let c0_28 : Index := 0#32
  let c0_i32_21 : BitVec 32 := 0#32
  let c1_i32 : BitVec 32 := 1#32
  let arg14 : BitVec 32 := Scf.iv c0_i32_21 c1_i32 k0_t1
  let c11_i32 : BitVec 32 := 11#32
  let v31 : BitVec 32 := Scalar.muli arg14 c11_i32
  let v32 : BitVec 32 := Scalar.addi v31 c0_i32_27
  let c256_i32 : BitVec 32 := 256#32
  let v33 : BitVec 32 := Scalar.muli v32 c256_i32
  let v34 : BitVec 32 := v33
  let v35 : Index := Scalar.indexCast v34
  let c0_29 : Index := 0#32
  ![0, v35.toNat, 0]
def k0_off2 (k0_t1 : Fin k0_t1_loop.trips) (c0_i32_27 : BitVec 32) : Fin 4 → Nat :=
  let c0_44 : Index := 0#32
  let c0_i32_21 : BitVec 32 := 0#32
  let c1_i32 : BitVec 32 := 1#32
  let arg14 : BitVec 32 := Scf.iv c0_i32_21 c1_i32 k0_t1
  let c11_i32 : BitVec 32 := 11#32
  let v31 : BitVec 32 := Scalar.muli arg14 c11_i32
  let v32 : BitVec 32 := Scalar.addi v31 c0_i32_27
  let v69 : Index := Scalar.indexCast v32
  let c0_45 : Index := 0#32
  let c0_46 : Index := 0#32
  ![0, v69.toNat, 0, 0]
def k0_mult2 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_48 : BitVec 32 := 11#32
  let v74 : BitVec 32 := Scalar.muli arg14 c11_i32_48
  let c1_i32_49 : BitVec 32 := 1#32
  let v75 : BitVec 32 := Scalar.addi v74 c1_i32_49
  let c256_i32_50 : BitVec 32 := 256#32
  let v76 : BitVec 32 := Scalar.muli v75 c256_i32_50
  v76
def k0_mult3 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_71 : BitVec 32 := 11#32
  let v117 : BitVec 32 := Scalar.muli arg14 c11_i32_71
  let c2_i32 : BitVec 32 := 2#32
  let v118 : BitVec 32 := Scalar.addi v117 c2_i32
  let c256_i32_72 : BitVec 32 := 256#32
  let v119 : BitVec 32 := Scalar.muli v118 c256_i32_72
  v119
def k0_mult4 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_93 : BitVec 32 := 11#32
  let v160 : BitVec 32 := Scalar.muli arg14 c11_i32_93
  let c3_i32_94 : BitVec 32 := 3#32
  let v161 : BitVec 32 := Scalar.addi v160 c3_i32_94
  let c256_i32_95 : BitVec 32 := 256#32
  let v162 : BitVec 32 := Scalar.muli v161 c256_i32_95
  v162
def k0_mult5 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_116 : BitVec 32 := 11#32
  let v203 : BitVec 32 := Scalar.muli arg14 c11_i32_116
  let c4_i32 : BitVec 32 := 4#32
  let v204 : BitVec 32 := Scalar.addi v203 c4_i32
  let c256_i32_117 : BitVec 32 := 256#32
  let v205 : BitVec 32 := Scalar.muli v204 c256_i32_117
  v205
def k0_mult6 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_138 : BitVec 32 := 11#32
  let v246 : BitVec 32 := Scalar.muli arg14 c11_i32_138
  let c5_i32 : BitVec 32 := 5#32
  let v247 : BitVec 32 := Scalar.addi v246 c5_i32
  let c256_i32_139 : BitVec 32 := 256#32
  let v248 : BitVec 32 := Scalar.muli v247 c256_i32_139
  v248
def k0_mult7 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_160 : BitVec 32 := 11#32
  let v289 : BitVec 32 := Scalar.muli arg14 c11_i32_160
  let c6_i32 : BitVec 32 := 6#32
  let v290 : BitVec 32 := Scalar.addi v289 c6_i32
  let c256_i32_161 : BitVec 32 := 256#32
  let v291 : BitVec 32 := Scalar.muli v290 c256_i32_161
  v291
def k0_mult8 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_182 : BitVec 32 := 11#32
  let v332 : BitVec 32 := Scalar.muli arg14 c11_i32_182
  let c7_i32 : BitVec 32 := 7#32
  let v333 : BitVec 32 := Scalar.addi v332 c7_i32
  let c256_i32_183 : BitVec 32 := 256#32
  let v334 : BitVec 32 := Scalar.muli v333 c256_i32_183
  v334
def k0_mult9 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_204 : BitVec 32 := 11#32
  let v375 : BitVec 32 := Scalar.muli arg14 c11_i32_204
  let c8_i32 : BitVec 32 := 8#32
  let v376 : BitVec 32 := Scalar.addi v375 c8_i32
  let c256_i32_205 : BitVec 32 := 256#32
  let v377 : BitVec 32 := Scalar.muli v376 c256_i32_205
  v377
def k0_mult10 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_226 : BitVec 32 := 11#32
  let v418 : BitVec 32 := Scalar.muli arg14 c11_i32_226
  let c9_i32 : BitVec 32 := 9#32
  let v419 : BitVec 32 := Scalar.addi v418 c9_i32
  let c256_i32_227 : BitVec 32 := 256#32
  let v420 : BitVec 32 := Scalar.muli v419 c256_i32_227
  v420
def k0_mult11 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c11_i32_248 : BitVec 32 := 11#32
  let v461 : BitVec 32 := Scalar.muli arg14 c11_i32_248
  let c10_i32 : BitVec 32 := 10#32
  let v462 : BitVec 32 := Scalar.addi v461 c10_i32
  let c256_i32_249 : BitVec 32 := 256#32
  let v463 : BitVec 32 := Scalar.muli v462 c256_i32_249
  v463
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x33x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8448x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8448x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8448x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FlashRefIdeal.lean ====
abbrev S2x4x8192x64 : Shape := ⟨4, ![2, 4, 8192, 64]⟩
abbrev S2x8448x64 : Shape := ⟨3, ![2, 8448, 64]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x64x8448 : Shape := ⟨3, ![2, 64, 8448]⟩
abbrev S2x32768x64 : Shape := ⟨3, ![2, 32768, 64]⟩
abbrev S2x64x32768 : Shape := ⟨3, ![2, 64, 32768]⟩

abbrev nBuf : Space → Nat
  | .hbm => 71
  | .vmem => 0
  | .smem => 0
  | _ => 0

abbrev bufTy : (tb : Table) → Fin (tcTables nBuf tb) → BufTy
  | .hbm, ⟨0, _⟩ => ⟨S2x4x8192x64, .f32⟩
  | .hbm, ⟨1, _⟩ => ⟨S2x8448x64, .f32⟩
  | .hbm, ⟨2, _⟩ => ⟨S2x8448x64, .f32⟩
  | .hbm, ⟨3, _⟩ => ⟨S2x4x8192x64, .f32⟩
  | .hbm, ⟨4, _⟩ => ⟨S2x4x8192x8448, .f32⟩
  | .hbm, ⟨5, _⟩ => ⟨S_, .f32⟩
  | .hbm, ⟨6, _⟩ => ⟨S2x4x8192x8448, .f32⟩
  | .hbm, ⟨7, _⟩ => ⟨S2x4x8192x8448, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8448, .f32⟩
  | .hbm, ⟨12, _⟩ => ⟨S2x4x8192x8448, .i1⟩
  | .hbm, ⟨13, _⟩ => ⟨S2x4x8192x8448, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S_, .f32⟩
  | .hbm, ⟨20, _⟩ => ⟨S2x4x8192, .f32⟩
  | .hbm, ⟨21, _⟩ => ⟨S2x4x8192, .i1⟩
  | .hbm, ⟨22, _⟩ => ⟨S_, .f32⟩
  | .hbm, ⟨23, _⟩ => ⟨S2x4x8192, .f32⟩
  | .hbm, ⟨24, _⟩ => ⟨S2x4x8192, .i1⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8448, .f32⟩
  | .hbm, ⟨35, _⟩ => ⟨S2x4x8192x8448, .f32⟩
  | .hbm, ⟨36, _⟩ => ⟨S2x4x8192x8448, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8448, .f32⟩
  | .hbm, ⟨41, _⟩ => ⟨S2x4x8192x8448, .f32⟩
  | .hbm, ⟨42, _⟩ => ⟨S2x4x8192x1, .f32⟩
  | .hbm, ⟨43, _⟩ => ⟨S_, .f32⟩
  | .hbm, ⟨44, _⟩ => ⟨S2x4x8192x1, .f32⟩
  | .hbm, ⟨45, _⟩ => ⟨S2x4x8192x1, .f32⟩
  | .hbm, ⟨46, _⟩ => ⟨S2x4x8192x64, .f32⟩
  | .hbm, ⟨47, _⟩ => ⟨S2x64x8448, .f32⟩
  | .hbm, ⟨48, _⟩ => ⟨S2x8448x64, .f32⟩
  | .hbm, ⟨49, _⟩ => ⟨S2x4x8192x8448, .f32⟩
  | .hbm, ⟨50, _⟩ => ⟨S2x4x8192x8448, .f32⟩
  | .hbm, ⟨51, _⟩ => ⟨S2x4x8192x8448, .f32⟩
  | .hbm, ⟨52, _⟩ => ⟨S2x4x8192x8448, .f32⟩
  | .hbm, ⟨53, _⟩ => ⟨S_, .f32⟩
  | .hbm, ⟨54, _⟩ => ⟨S2x4x8192, .f32⟩
  | .hbm, ⟨55, _⟩ => ⟨S2x4x8192x1, .f32⟩
  | .hbm, ⟨56, _⟩ => ⟨S2x4x8192x1, .f32⟩
  | .hbm, ⟨57, _⟩ => ⟨S2x4x8192x8448, .f32⟩
  | .hbm, ⟨58, _⟩ => ⟨S2x4x8192x8448, .f32⟩
  | .hbm, ⟨59, _⟩ => ⟨S_, .f32⟩
  | .hbm, ⟨60, _⟩ => ⟨S2x4x8192, .f32⟩
  | .hbm, ⟨61, _⟩ => ⟨S2x4x8192x8448, .f32⟩
  | .hbm, ⟨62, _⟩ => ⟨S2x4x8192x8448, .f32⟩
  | .hbm, ⟨63, _⟩ => ⟨S2x4x8192x8448, .f32⟩
  | .hbm, ⟨64, _⟩ => ⟨S_, .f32⟩
  | .hbm, ⟨65, _⟩ => ⟨S2x4x8192x8448, .f32⟩
  | .hbm, ⟨66, _⟩ => ⟨S2x4x8192x8448, .f32⟩
  | .hbm, ⟨67, _⟩ => ⟨S2x8448x64, .f32⟩
  | .hbm, ⟨68, _⟩ => ⟨S2x4x8192x64, .f32⟩
  | .hbm, ⟨69, _⟩ => ⟨S2x32768x64, .f32⟩
  | .hbm, ⟨70, _⟩ => ⟨S2x64x32768, .f32⟩
  | _, _ => ⟨S2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Fwd.lean ====
abbrev S2x4x8192x64 : Shape := ⟨4, ![2, 4, 8192, 64]⟩
abbrev S2x8448x64 : Shape := ⟨3, ![2, 8448, 64]⟩
abbrev S2x32768x64 : Shape := ⟨3, ![2, 32768, 64]⟩
abbrev S2x64x32768 : Shape := ⟨3, ![2, 64, 32768]⟩
abbrev S2x33x256x64 : Shape := ⟨4, ![2, 33, 256, 64]⟩
abbrev S2x33x64x256 : Shape := ⟨4, ![2, 33, 64, 256]⟩
abbrev S_ : Shape := ⟨0, ![]⟩
abbrev S2x33x16x256 : Shape := ⟨4, ![2, 33, 16, 256]⟩
abbrev S1 : Shape := ⟨1, ![1]⟩
abbrev S2x33x256 : Shape := ⟨3, ![2, 33, 256]⟩
abbrev S2x33x80x256 : Shape := ⟨4, ![2, 33, 80, 256]⟩
abbrev S2x1x32768 : Shape := ⟨3, ![2, 1, 32768]⟩
abbrev S1x64x1024 : Shape := ⟨3, ![1, 64, 1024]⟩
abbrev S1x8448x64 : Shape := ⟨3, ![1, 8448, 64]⟩
abbrev S1x33x80x256 : Shape := ⟨4, ![1, 33, 80, 256]⟩
abbrev S1x1x1024 : Shape := ⟨3, ![1, 1, 1024]⟩
abbrev S2x3x256x1024 : Shape := ⟨4, ![2, 3, 256, 1024]⟩
abbrev S64x1024 : Shape := ⟨2, ![64, 1024]⟩
abbrev S1x256x64 : Shape := ⟨3, ![1, 256, 64]⟩
abbrev S256x64 : Shape := ⟨2, ![256, 64]⟩
abbrev S256x1024 : Shape := ⟨2, ![256, 1024]⟩
abbrev S1x1x256x1024 : Shape := ⟨4, ![1, 1, 256, 1024]⟩
abbrev S1x1024 : Shape := ⟨2, ![1, 1024]⟩
abbrev S80x1024 : Shape := ⟨2, ![80, 1024]⟩
abbrev S1024 : Shape := ⟨1, ![1024]⟩
abbrev S1x1x80x256 : Shape := ⟨4, ![1, 1, 80, 256]⟩
abbrev S80x256 : Shape := ⟨2, ![80, 256]⟩

abbrev nBuf : Space → Nat
  | .hbm => 20
  | .vmem => 11
  | .smem => 0
  | _ => 0

abbrev bufTy : (tb : Table) → Fin (tcTables nBuf tb) → BufTy
  | .hbm, ⟨0, _⟩ => ⟨S2x4x8192x64, .f32⟩
  | .hbm, ⟨1, _⟩ => ⟨S2x8448x64, .f32⟩
  | .hbm, ⟨2, _⟩ => ⟨S2x8448x64, .f32⟩
  | .hbm, ⟨3, _⟩ => ⟨S2x32768x64, .f32⟩
  | .hbm, ⟨4, _⟩ => ⟨S2x32768x64, .bf16⟩
  | .hbm, ⟨5, _⟩ => ⟨S2x8448x64, .bf16⟩
  | .hbm, ⟨6, _⟩ => ⟨S2x8448x64, .bf16⟩
  | .hbm, ⟨7, _⟩ => ⟨S2x64x32768, .bf16⟩
  | .hbm, ⟨8, _⟩ => ⟨S2x33x256x64, .bf16⟩
  | .hbm, ⟨9, _⟩ => ⟨S2x33x64x256, .bf16⟩
  | .hbm, ⟨10, _⟩ => ⟨S_, .bf16⟩
  | .hbm, ⟨11, _⟩ => ⟨S2x33x16x256, .bf16⟩
  | .hbm, ⟨12, _⟩ => ⟨S_, .i32⟩
  | .hbm, ⟨13, _⟩ => ⟨S1, .i32⟩
  | .hbm, ⟨14, _⟩ => ⟨S_, .bf16⟩
  | .hbm, ⟨15, _⟩ => ⟨S2x33x256, .bf16⟩
  | .hbm, ⟨16, _⟩ => ⟨S2x33x16x256, .bf16⟩
  | .hbm, ⟨17, _⟩ => ⟨S2x33x80x256, .bf16⟩
  | .hbm, ⟨18, _⟩ => ⟨S2x64x32768, .f32⟩
  | .hbm, ⟨19, _⟩ => ⟨S2x1x32768, .f32⟩
  | .local _ .vmem, ⟨0, _⟩ => ⟨S1x64x1024, .bf16⟩
  | .local _ .vmem, ⟨1, _⟩ => ⟨S1x64x1024, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x33x80x256, .bf16⟩
  | .local _ .vmem, ⟨5, _⟩ => ⟨S1x33x80x256, .bf16⟩
  | .local _ .vmem, ⟨6, _⟩ => ⟨S1x64x1024, .f32⟩
  | .local _ .vmem, ⟨7, _⟩ => ⟨S1x64x1024, .f32⟩
  | .local _ .vmem, ⟨8, _⟩ => ⟨S1x1x1024, .f32⟩
  | .local _ .vmem, ⟨9, _⟩ => ⟨S1x1x1024, .f32⟩
  | .local _ .vmem, ⟨10, _⟩ => ⟨S2x3x256x1024, .f32⟩
  | _, _ => ⟨S2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
@[reducible] def k0_t1_loop : Scf.Loop 32 :=
  let c0_i32_23 : BitVec 32 := 0#32
  let c5_i32 : BitVec 32 := 5#32
  let v30 : BitVec 32 := Scalar.addi c0_i32_23 c5_i32
  let c1_i32 : BitVec 32 := 1#32
  ⟨c0_i32_23, v30, c1_i32⟩
def k0_mult4 (k0_t1 : Fin k0_t1_loop.trips) : BitVec 32 :=
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c1_i32_59 : BitVec 32 := 1#32
  let v90 : BitVec 32 := Scalar.addi v89 c1_i32_59
  let c3_i32 : BitVec 32 := 3#32
  let v91 : BitVec 32 := Scalar.muli v90 c3_i32
  let c0_i32_60 : BitVec 32 := 0#32
  let v92 : BitVec 32 := Scalar.addi v91 c0_i32_60
  let c256_i32_61 : BitVec 32 := 256#32
  let v93 : BitVec 32 := Scalar.muli v92 c256_i32_61
  v93
def k0_off1 (k0_t1 : Fin k0_t1_loop.trips) (c1_i32_59 : BitVec 32) (c0_i32_60 : BitVec 32) : Fin 3 → Nat :=
  let c0_62 : Index := 0#32
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let v90 : BitVec 32 := Scalar.addi v89 c1_i32_59
  let c3_i32 : BitVec 32 := 3#32
  let v91 : BitVec 32 := Scalar.muli v90 c3_i32
  let v92 : BitVec 32 := Scalar.addi v91 c0_i32_60
  let c256_i32_61 : BitVec 32 := 256#32
  let v93 : BitVec 32 := Scalar.muli v92 c256_i32_61
  let v94 : BitVec 32 := v93
  let v95 : Index := Scalar.indexCast v94
  let c0_63 : Index := 0#32
  ![0, v95.toNat, 0]
def k0_mult5 (k0_t1 : Fin k0_t1_loop.trips) : BitVec 32 :=
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c1_i32_59 : BitVec 32 := 1#32
  let v90 : BitVec 32 := Scalar.addi v89 c1_i32_59
  let c3_i32_69 : BitVec 32 := 3#32
  let v102 : BitVec 32 := Scalar.muli v90 c3_i32_69
  let c1_i32_70 : BitVec 32 := 1#32
  let v103 : BitVec 32 := Scalar.addi v102 c1_i32_70
  let c256_i32_71 : BitVec 32 := 256#32
  let v104 : BitVec 32 := Scalar.muli v103 c256_i32_71
  v104
def k0_mult6 (k0_t1 : Fin k0_t1_loop.trips) : BitVec 32 :=
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c1_i32_59 : BitVec 32 := 1#32
  let v90 : BitVec 32 := Scalar.addi v89 c1_i32_59
  let c3_i32_79 : BitVec 32 := 3#32
  let v113 : BitVec 32 := Scalar.muli v90 c3_i32_79
  let c2_i32_80 : BitVec 32 := 2#32
  let v114 : BitVec 32 := Scalar.addi v113 c2_i32_80
  let c256_i32_81 : BitVec 32 := 256#32
  let v115 : BitVec 32 := Scalar.muli v114 c256_i32_81
  v115
def k0_off2 (k0_t1 : Fin k0_t1_loop.trips) (c0_i32_105 : BitVec 32) : Fin 4 → Nat :=
  let c0_106 : Index := 0#32
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c3_i32_104 : BitVec 32 := 3#32
  let v152 : BitVec 32 := Scalar.muli v89 c3_i32_104
  let v153 : BitVec 32 := Scalar.addi v152 c0_i32_105
  let v154 : Index := Scalar.indexCast v153
  let c0_107 : Index := 0#32
  let c0_108 : Index := 0#32
  ![0, v154.toNat, 0, 0]
def k0_mult7 (k0_t1 : Fin k0_t1_loop.trips) : BitVec 32 :=
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c2_i32_123 : BitVec 32 := 2#32
  let v178 : BitVec 32 := Scalar.addi v89 c2_i32_123
  let c3_i32_124 : BitVec 32 := 3#32
  let v179 : BitVec 32 := Scalar.muli v178 c3_i32_124
  let c0_i32_125 : BitVec 32 := 0#32
  let v180 : BitVec 32 := Scalar.addi v179 c0_i32_125
  let c256_i32_126 : BitVec 32 := 256#32
  let v181 : BitVec 32 := Scalar.muli v180 c256_i32_126
  v181
def k0_mult8 (k0_t1 : Fin k0_t1_loop.trips) : BitVec 32 :=
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c2_i32_123 : BitVec 32 := 2#32
  let v178 : BitVec 32 := Scalar.addi v89 c2_i32_123
  let c3_i32_134 : BitVec 32 := 3#32
  let v190 : BitVec 32 := Scalar.muli v178 c3_i32_134
  let c1_i32_135 : BitVec 32 := 1#32
  let v191 : BitVec 32 := Scalar.addi v190 c1_i32_135
  let c256_i32_136 : BitVec 32 := 256#32
  let v192 : BitVec 32 := Scalar.muli v191 c256_i32_136
  v192
def k0_mult9 (k0_t1 : Fin k0_t1_loop.trips) : BitVec 32 :=
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c2_i32_123 : BitVec 32 := 2#32
  let v178 : BitVec 32 := Scalar.addi v89 c2_i32_123
  let c3_i32_144 : BitVec 32 := 3#32
  let v201 : BitVec 32 := Scalar.muli v178 c3_i32_144
  let c2_i32_145 : BitVec 32 := 2#32
  let v202 : BitVec 32 := Scalar.addi v201 c2_i32_145
  let c256_i32_146 : BitVec 32 := 256#32
  let v203 : BitVec 32 := Scalar.muli v202 c256_i32_146
  v203
def k0_off3 (k0_t1 : Fin k0_t1_loop.trips) (c0_i32_171 : BitVec 32) : Fin 4 → Nat :=
  let c0_172 : Index := 0#32
  let c2_i32 : BitVec 32 := 2#32
  let c0_i32_23 : BitVec 32 := 0#32
  let c1_i32 : BitVec 32 := 1#32
  let arg8 : BitVec 32 := Scf.iv c0_i32_23 c1_i32 k0_t1
  let v89 : BitVec 32 := Scalar.muli c2_i32 arg8
  let c1_i32_154 : BitVec 32 := 1#32
  let v212 : BitVec 32 := Scalar.addi v89 c1_i32_154
  let c3_i32_170 : BitVec 32 := 3#32
  let v241 : BitVec 32 := Scalar.muli v212 c3_i32_170
  let v242 : BitVec 32 := Scalar.addi v241 c0_i32_171
  let v243 : Index := Scalar.indexCast v242
  let c0_173 : Index := 0#32
  let c0_174 : Index := 0#32
  ![0, v243.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x33x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdRefIdeal.lean ====
abbrev S2x4x8192x64 : Shape := ⟨4, ![2, 4, 8192, 64]⟩
abbrev S2x8448x64 : Shape := ⟨3, ![2, 8448, 64]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x32768x64 : Shape := ⟨3, ![2, 32768, 64]⟩
abbrev S2x64x32768 : Shape := ⟨3, ![2, 64, 32768]⟩
abbrev S2x1x32768 : Shape := ⟨3, ![2, 1, 32768]⟩

abbrev nBuf : Space → Nat
  | .hbm => 33
  | .vmem => 0
  | .smem => 0
  | _ => 0

abbrev bufTy : (tb : Table) → Fin (tcTables nBuf tb) → BufTy
  | .hbm, ⟨0, _⟩ => ⟨S2x4x8192x64, .f32⟩
  | .hbm, ⟨1, _⟩ => ⟨S2x8448x64, .f32⟩
  | .hbm, ⟨2, _⟩ => ⟨S2x8448x64, .f32⟩
  | .hbm, ⟨3, _⟩ => ⟨S2x4x8192x8448, .f32⟩
  | .hbm, ⟨4, _⟩ => ⟨S_, .f32⟩
  | .hbm, ⟨5, _⟩ => ⟨S2x4x8192x8448, .f32⟩
  | .hbm, ⟨6, _⟩ => ⟨S2x4x8192x8448, .f32⟩
  | .hbm, ⟨7, _⟩ => ⟨S2x4x8192x8448, .f32⟩
  | .hbm, ⟨8, _⟩ => ⟨S_, .f32⟩
  | .hbm, ⟨9, _⟩ => ⟨S2x4x8192, .f32⟩
  | .hbm, ⟨10, _⟩ => ⟨S2x4x8192, .f32⟩
  | .hbm, ⟨11, _⟩ => ⟨S2x4x8192x8448, .f32⟩
  | .hbm, ⟨12, _⟩ => ⟨S_, .f32⟩
  | .hbm, ⟨13, _⟩ => ⟨S2x4x8192x8448, .f32⟩
  | .hbm, ⟨14, _⟩ => ⟨S2x4x8192x8448, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S2x4x8192x1, .f32⟩
  | .hbm, ⟨21, _⟩ => ⟨S2x4x8192x8448, .f32⟩
  | .hbm, ⟨22, _⟩ => ⟨S2x4x8192x8448, .f32⟩
  | .hbm, ⟨23, _⟩ => ⟨S2x4x8192x8448, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x8448, .f32⟩
  | .hbm, ⟨28, _⟩ => ⟨S2x4x8192x8448, .f32⟩
  | .hbm, ⟨29, _⟩ => ⟨S2x4x8192x64, .f32⟩
  | .hbm, ⟨30, _⟩ => ⟨S2x32768x64, .f32⟩
  | .hbm, ⟨31, _⟩ => ⟨S2x64x32768, .f32⟩
  | .hbm, ⟨32, _⟩ => ⟨S2x1x32768, .f32⟩
  | _, _ => ⟨S2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Ffn.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S1x8448x2816 : Shape := ⟨3, ![1, 8448, 2816]⟩
abbrev S2x8448x2816 : Shape := ⟨3, ![2, 8448, 2816]⟩
abbrev S384x1024 : Shape := ⟨2, ![384, 1024]⟩
abbrev S1408x1024 : Shape := ⟨2, ![1408, 1024]⟩
abbrev S2x384x1408 : Shape := ⟨3, ![2, 384, 1408]⟩
abbrev S384x1408 : Shape := ⟨2, ![384, 1408]⟩
abbrev S1x384x1408 : Shape := ⟨3, ![1, 384, 1408]⟩

abbrev nBuf : Space → Nat
  | .hbm => 15
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x1024, .bf16⟩
  | .hbm, ⟨5, _⟩ => ⟨S1024x5632, .bf16⟩
  | .hbm, ⟨6, _⟩ => ⟨S8448x5632, .f32⟩
  | .hbm, ⟨7, _⟩ => ⟨S8448x2816, .f32⟩
  | .hbm, ⟨8, _⟩ => ⟨S8448x2816, .f32⟩
  | .hbm, ⟨9, _⟩ => ⟨S8448x1024, .bf16⟩
  | .hbm, ⟨10, _⟩ => ⟨S2816x1024, .bf16⟩
  | .hbm, ⟨11, _⟩ => ⟨S1x8448x2816, .f32⟩
  | .hbm, ⟨12, _⟩ => ⟨S1x8448x2816, .f32⟩
  | .hbm, ⟨13, _⟩ => ⟨S2x8448x2816, .f32⟩
  | .hbm, ⟨14, _⟩ => ⟨S2x8448x2816, .bf16⟩
  | .local _ .vmem, ⟨0, _⟩ => ⟨S384x1024, .bf16⟩
  | .local _ .vmem, ⟨1, _⟩ => ⟨S384x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x384x1408, .f32⟩
  | .local _ .vmem, ⟨5, _⟩ => ⟨S2x384x1408, .f32⟩
  | .local _ .vmem, ⟨6, _⟩ => ⟨S2x384x1408, .bf16⟩
  | .local _ .vmem, ⟨7, _⟩ => ⟨S2x384x1408, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x384x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1x8448x2816 : Shape := ⟨3, ![1, 8448, 2816]⟩
abbrev S2x8448x2816 : Shape := ⟨3, ![2, 8448, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x1024, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S1x8448x2816, .f32⟩
  | .hbm, ⟨30, _⟩ => ⟨S1x8448x2816, .f32⟩
  | .hbm, ⟨31, _⟩ => ⟨S2x8448x2816, .f32⟩
  | .hbm, ⟨32, _⟩ => ⟨S2x8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Act.lean ====
abbrev S8448x1024 : Shape := ⟨2, ![8448, 1024]⟩
abbrev S1024x5632 : Shape := ⟨2, ![1024, 5632]⟩
abbrev S8448x2816 : Shape := ⟨2, ![8448, 2816]⟩
abbrev S2x8448x2816 : Shape := ⟨3, ![2, 8448, 2816]⟩
abbrev S384x1024 : Shape := ⟨2, ![384, 1024]⟩
abbrev S1024x1408 : Shape := ⟨2, ![1024, 1408]⟩
abbrev S384x1408 : Shape := ⟨2, ![384, 1408]⟩
abbrev S2x384x1408 : Shape := ⟨3, ![2, 384, 1408]⟩
abbrev S1x384x1408 : Shape := ⟨3, ![1, 384, 1408]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x1024, .bf16⟩
  | .hbm, ⟨3, _⟩ => ⟨S1024x5632, .bf16⟩
  | .hbm, ⟨4, _⟩ => ⟨S8448x2816, .bf16⟩
  | .hbm, ⟨5, _⟩ => ⟨S2x8448x2816, .f32⟩
  | .local _ .vmem, ⟨0, _⟩ => ⟨S384x1024, .bf16⟩
  | .local _ .vmem, ⟨1, _⟩ => ⟨S384x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S384x1408, .bf16⟩
  | .local _ .vmem, ⟨7, _⟩ => ⟨S384x1408, .bf16⟩
  | .local _ .vmem, ⟨8, _⟩ => ⟨S2x384x1408, .f32⟩
  | .local _ .vmem, ⟨9, _⟩ => ⟨S2x384x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x384x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActRefIdeal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩
abbrev S1x8448x2816 : Shape := ⟨3, ![1, 8448, 2816]⟩
abbrev S2x8448x2816 : Shape := ⟨3, ![2, 8448, 2816]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x2816, .bf16⟩
  | .hbm, ⟨16, _⟩ => ⟨S1x8448x2816, .f32⟩
  | .hbm, ⟨17, _⟩ => ⟨S1x8448x2816, .f32⟩
  | .hbm, ⟨18, _⟩ => ⟨S2x8448x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Mod.lean ====
abbrev S8192x1024 : Shape := ⟨2, ![8192, 1024]⟩
abbrev S256x1024 : Shape := ⟨2, ![256, 1024]⟩
abbrev S1024 : Shape := ⟨1, ![1024]⟩
abbrev S1x1x1024 : Shape := ⟨3, ![1, 1, 1024]⟩
abbrev S8448x1024 : Shape := ⟨2, ![8448, 1024]⟩
abbrev S1x1024 : Shape := ⟨2, ![1, 1024]⟩
abbrev S2x1024 : Shape := ⟨2, ![2, 1024]⟩
abbrev S768x1024 : Shape := ⟨2, ![768, 1024]⟩
abbrev S768x1 : Shape := ⟨2, ![768, 1]⟩
abbrev S768 : Shape := ⟨1, ![768]⟩

abbrev nBuf : Space → Nat
  | .hbm => 18
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1x1x1024, .f32⟩
  | .hbm, ⟨4, _⟩ => ⟨S1024, .f32⟩
  | .hbm, ⟨5, _⟩ => ⟨S1x1x1024, .f32⟩
  | .hbm, ⟨6, _⟩ => ⟨S1024, .f32⟩
  | .hbm, ⟨7, _⟩ => ⟨S8448x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S2x1024, .f32⟩
  | .hbm, ⟨17, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S2x1024, .f32⟩
  | .local _ .vmem, ⟨4, _⟩ => ⟨S2x1024, .f32⟩
  | .local _ .vmem, ⟨5, _⟩ => ⟨S768x1024, .bf16⟩
  | .local _ .vmem, ⟨6, _⟩ => ⟨S768x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S8192x1024 : Shape := ⟨2, ![8192, 1024]⟩
abbrev S256x1024 : Shape := ⟨2, ![256, 1024]⟩
abbrev S1024 : Shape := ⟨1, ![1024]⟩
abbrev S1x1x1024 : Shape := ⟨3, ![1, 1, 1024]⟩
abbrev S1x8192x1024 : Shape := ⟨3, ![1, 8192, 1024]⟩
abbrev S_ : Shape := ⟨0, ![]⟩
abbrev S1x8192 : Shape := ⟨2, ![1, 8192]⟩
abbrev S1x8192x1 : Shape := ⟨3, ![1, 8192, 1]⟩
abbrev S256 : Shape := ⟨1, ![256]⟩
abbrev S256x1 : Shape := ⟨2, ![256, 1]⟩
abbrev S1x1024 : Shape := ⟨2, ![1, 1024]⟩
abbrev S8448x1024 : Shape := ⟨2, ![8448, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1x1x1024, .f32⟩
  | .hbm, ⟨4, _⟩ => ⟨S1024, .f32⟩
  | .hbm, ⟨5, _⟩ => ⟨S1x1x1024, .f32⟩
  | .hbm, ⟨6, _⟩ => ⟨S1024, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S256x1024, .f32⟩
  | .hbm, ⟨52, _⟩ => ⟨S256x1024, .f32⟩
  | .hbm, ⟨53, _⟩ => ⟨S1x1024, .f32⟩
  | .hbm, ⟨54, _⟩ => ⟨S256x1024, .f32⟩
  | .hbm, ⟨55, _⟩ => ⟨S256x1024, .f32⟩
  | .hbm, ⟨56, _⟩ => ⟨S8192x1024, .f32⟩
  | .hbm, ⟨57, _⟩ => ⟨S8448x1024, .f32⟩
  | .hbm, ⟨58, _⟩ => ⟨S8448x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Rot.lean ====
abbrev S10x8448x64 : Shape := ⟨3, ![10, 8448, 64]⟩
abbrev S64 : Shape := ⟨1, ![64]⟩
abbrev S64x64 : Shape := ⟨2, ![64, 64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x2 : Shape := ⟨3, ![8192, 32, 2]⟩
abbrev S8192x64 : Shape := ⟨2, ![8192, 64]⟩
abbrev S256x64 : Shape := ⟨2, ![256, 64]⟩
abbrev S8448x64 : Shape := ⟨2, ![8448, 64]⟩
abbrev S1x64 : Shape := ⟨2, ![1, 64]⟩
abbrev S2x64 : Shape := ⟨2, ![2, 64]⟩
abbrev S1x2816x64 : Shape := ⟨3, ![1, 2816, 64]⟩
abbrev S2816x64 : Shape := ⟨2, ![2816, 64]⟩
abbrev S2816 : Shape := ⟨1, ![2816]⟩
abbrev S2816x1 : Shape := ⟨2, ![2816, 1]⟩

abbrev nBuf : Space → Nat
  | .hbm => 88
  | .vmem => 10
  | .smem => 0
  | _ => 0

abbrev bufTy : (tb : Table) → Fin (tcTables nBuf tb) → BufTy
  | .hbm, ⟨0, _⟩ => ⟨S10x8448x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S_, .i1⟩
  | .hbm, ⟨40, _⟩ => ⟨S8192, .i1⟩
  | .hbm, ⟨41, _⟩ => ⟨S8192, .i1⟩
  | .hbm, ⟨42, _⟩ => ⟨S8192, .i1⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S8192x1, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x1, .f32⟩
  | .hbm, ⟨67, _⟩ => ⟨S1x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x32, .f32⟩
  | .hbm, ⟨72, _⟩ => ⟨S8192x32, .f32⟩
  | .hbm, ⟨73, _⟩ => ⟨S8192x32x2, .f32⟩
  | .hbm, ⟨74, _⟩ => ⟨S8192x64, .f32⟩
  | .hbm, ⟨75, _⟩ => ⟨S8192x32, .f32⟩
  | .hbm, ⟨76, _⟩ => ⟨S8192x32x2, .f32⟩
  | .hbm, ⟨77, _⟩ => ⟨S8192x64, .f32⟩
  | .hbm, ⟨78, _⟩ => ⟨S_, .f32⟩
  | .hbm, ⟨79, _⟩ => ⟨S256x64, .f32⟩
  | .hbm, ⟨80, _⟩ => ⟨S8448x64, .f32⟩
  | .hbm, ⟨81, _⟩ => ⟨S_, .f32⟩
  | .hbm, ⟨82, _⟩ => ⟨S256x64, .f32⟩
  | .hbm, ⟨83, _⟩ => ⟨S8448x64, .f32⟩
  | .hbm, ⟨84, _⟩ => ⟨S1x64, .f32⟩
  | .hbm, ⟨85, _⟩ => ⟨S1x64, .f32⟩
  | .hbm, ⟨86, _⟩ => ⟨S2x64, .f32⟩
  | .hbm, ⟨87, _⟩ => ⟨S10x8448x64, .f32⟩
  | .local _ .vmem, ⟨0, _⟩ => ⟨S1x2816x64, .f32⟩
  | .local _ .vmem, ⟨1, _⟩ => ⟨S1x2816x64, .f32⟩
  | .local _ .vmem, ⟨2, _⟩ => ⟨S2x64, .f32⟩
  | .local _ .vmem, ⟨3, _⟩ => ⟨S2816x64, .f32⟩
  | .local _ .vmem, ⟨4, _⟩ => ⟨S2816x64, .f32⟩
  | .local _ .vmem, ⟨5, _⟩ => ⟨S2816x64, .f32⟩
  | .local _ .vmem, ⟨6, _⟩ => ⟨S2816x64, .f32⟩
  | .local _ .vmem, ⟨7, _⟩ => ⟨S64x64, .f32⟩
  | .local _ .vmem, ⟨8, _⟩ => ⟨S1x2816x64, .f32⟩
  | .local _ .vmem, ⟨9, _⟩ => ⟨S1x2816x64, .f32⟩
  | _, _ => ⟨S10x8448x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_cst_6 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![10, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2816x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2816x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RotRefIdeal.lean ====
abbrev S10x8448x64 : Shape := ⟨3, ![10, 8448, 64]⟩
abbrev S64 : Shape := ⟨1, ![64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8x8192x64 : Shape := ⟨3, ![8, 8192, 64]⟩
abbrev S8x8192 : Shape := ⟨2, ![8, 8192]⟩
abbrev S8x8192x1 : Shape := ⟨3, ![8, 8192, 1]⟩
abbrev S1x1x64 : Shape := ⟨3, ![1, 1, 64]⟩
abbrev S8x8192x32x2 : Shape := ⟨4, ![8, 8192, 32, 2]⟩
abbrev S8x8192x32x1 : Shape := ⟨4, ![8, 8192, 32, 1]⟩
abbrev S8x8192x32 : Shape := ⟨3, ![8, 8192, 32]⟩
abbrev S1x8192x32 : Shape := ⟨3, ![1, 8192, 32]⟩
abbrev S2x8192x64 : Shape := ⟨3, ![2, 8192, 64]⟩
abbrev S2x8192 : Shape := ⟨2, ![2, 8192]⟩
abbrev S2x8192x1 : Shape := ⟨3, ![2, 8192, 1]⟩
abbrev S2x8192x32x2 : Shape := ⟨4, ![2, 8192, 32, 2]⟩
abbrev S2x8192x32x1 : Shape := ⟨4, ![2, 8192, 32, 1]⟩
abbrev S2x8192x32 : Shape := ⟨3, ![2, 8192, 32]⟩
abbrev S8x256x64 : Shape := ⟨3, ![8, 256, 64]⟩
abbrev S8x256 : Shape := ⟨2, ![8, 256]⟩
abbrev S8x256x1 : Shape := ⟨3, ![8, 256, 1]⟩
abbrev S2x256x64 : Shape := ⟨3, ![2, 256, 64]⟩
abbrev S2x256 : Shape := ⟨2, ![2, 256]⟩
abbrev S2x256x1 : Shape := ⟨3, ![2, 256, 1]⟩
abbrev S8x8448x64 : Shape := ⟨3, ![8, 8448, 64]⟩
abbrev S2x8448x64 : Shape := ⟨3, ![2, 8448, 64]⟩

abbrev nBuf : Space → Nat
  | .hbm => 190
  | .vmem => 0
  | .smem => 0
  | _ => 0

abbrev hbmTy0_0 (i : Nat) : BufTy := match i % 128 with
  | 0 => ⟨S10x8448x64, .f32⟩
  | 1 => ⟨S64, .f32⟩
  | 2 => ⟨S64, .f32⟩
  | 3 => ⟨S8192, .i32⟩
  | 4 => ⟨S_, .i32⟩
  | 5 => ⟨S_, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S8192, .i32⟩
  | 13 => ⟨S8192, .i32⟩
  | 14 => ⟨S_, .i32⟩
  | 15 => ⟨S8192, .i32⟩
  | 16 => ⟨S8192, .i1⟩
  | 17 => ⟨S8192, .i1⟩
  | 18 => ⟨S_, .i32⟩
  | 19 => ⟨S8192, .i32⟩
  | 20 => ⟨S8192, .i32⟩
  | 21 => ⟨S8192, .i32⟩
  | 22 => ⟨S8192, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i1⟩
  | 37 => ⟨S_, .i32⟩
  | 38 => ⟨S_, .i1⟩
  | 39 => ⟨S8192, .i1⟩
  | 40 => ⟨S8192, .i1⟩
  | 41 => ⟨S8192, .i1⟩
  | 42 => ⟨S8192, .i32⟩
  | 43 => ⟨S8192, .i32⟩
  | 44 => ⟨S8192, .i32⟩
  | 45 => ⟨S8192, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S8192x1, .f32⟩
  | 61 => ⟨S1x16, .f32⟩
  | 62 => ⟨S8192x16, .f32⟩
  | 63 => ⟨S8192x16, .f32⟩
  | 64 => ⟨S8192x16, .f32⟩
  | 65 => ⟨S8192x1, .f32⟩
  | 66 => ⟨S1x16, .f32⟩
  | 67 => ⟨S8192x16, .f32⟩
  | 68 => ⟨S8192x16, .f32⟩
  | 69 => ⟨S8192x16, .f32⟩
  | 70 => ⟨S8192x32, .f32⟩
  | 71 => ⟨S8192x32, .f32⟩
  | 72 => ⟨S8192x32, .f32⟩
  | 73 => ⟨S8x8192x64, .f32⟩
  | 74 => ⟨S8x8192x64, .f32⟩
  | 75 => ⟨S_, .f32⟩
  | 76 => ⟨S8x8192, .f32⟩
  | 77 => ⟨S8x8192x1, .f32⟩
  | 78 => ⟨S_, .f32⟩
  | 79 => ⟨S8x8192x1, .f32⟩
  | 80 => ⟨S8x8192x1, .f32⟩
  | 81 => ⟨S_, .f32⟩
  | 82 => ⟨S8x8192x1, .f32⟩
  | 83 => ⟨S8x8192x1, .f32⟩
  | 84 => ⟨S8x8192x1, .f32⟩
  | 85 => ⟨S8x8192x64, .f32⟩
  | 86 => ⟨S8x8192x64, .f32⟩
  | 87 => ⟨S1x1x64, .f32⟩
  | 88 => ⟨S8x8192x64, .f32⟩
  | 89 => ⟨S8x8192x64, .f32⟩
  | 90 => ⟨S8x8192x32x2, .f32⟩
  | 91 => ⟨S8x8192x32x1, .f32⟩
  | 92 => ⟨S8x8192x32, .f32⟩
  | 93 => ⟨S8x8192x32x1, .f32⟩
  | 94 => ⟨S8x8192x32, .f32⟩
  | 95 => ⟨S1x8192x32, .f32⟩
  | 96 => ⟨S8x8192x32, .f32⟩
  | 97 => ⟨S8x8192x32, .f32⟩
  | 98 => ⟨S1x8192x32, .f32⟩
  | 99 => ⟨S8x8192x32, .f32⟩
  | 100 => ⟨S8x8192x32, .f32⟩
  | 101 => ⟨S8x8192x32, .f32⟩
  | 102 => ⟨S1x8192x32, .f32⟩
  | 103 => ⟨S8x8192x32, .f32⟩
  | 104 => ⟨S8x8192x32, .f32⟩
  | 105 => ⟨S1x8192x32, .f32⟩
  | 106 => ⟨S8x8192x32, .f32⟩
  | 107 => ⟨S8x8192x32, .f32⟩
  | 108 => ⟨S8x8192x32, .f32⟩
  | 109 => ⟨S8x8192x32x1, .f32⟩
  | 110 => ⟨S8x8192x32x1, .f32⟩
  | 111 => ⟨S8x8192x32x2, .f32⟩
  | 112 => ⟨S8x8192x64, .f32⟩
  | 113 => ⟨S2x8192x64, .f32⟩
  | 114 => ⟨S2x8192x64, .f32⟩
  | 115 => ⟨S_, .f32⟩
  | 116 => ⟨S2x8192, .f32⟩
  | 117 => ⟨S2x8192x1, .f32⟩
  | 118 => ⟨S_, .f32⟩
  | 119 => ⟨S2x8192x1, .f32⟩
  | 120 => ⟨S2x8192x1, .f32⟩
  | 121 => ⟨S_, .f32⟩
  | 122 => ⟨S2x8192x1, .f32⟩
  | 123 => ⟨S2x8192x1, .f32⟩
  | 124 => ⟨S2x8192x1, .f32⟩
  | 125 => ⟨S2x8192x64, .f32⟩
  | 126 => ⟨S2x8192x64, .f32⟩
  | 127 => ⟨S1x1x64, .f32⟩
  | _ => ⟨S10x8448x64, .f32⟩

abbrev hbmTy0_1 (i : Nat) : BufTy := match i % 128 with
  | 0 => ⟨S2x8192x64, .f32⟩
  | 1 => ⟨S2x8192x64, .f32⟩
  | 2 => ⟨S2x8192x32x2, .f32⟩
  | 3 => ⟨S2x8192x32x1, .f32⟩
  | 4 => ⟨S2x8192x32, .f32⟩
  | 5 => ⟨S2x8192x32x1, .f32⟩
  | 6 => ⟨S2x8192x32, .f32⟩
  | 7 => ⟨S1x8192x32, .f32⟩
  | 8 => ⟨S2x8192x32, .f32⟩
  | 9 => ⟨S2x8192x32, .f32⟩
  | 10 => ⟨S1x8192x32, .f32⟩
  | 11 => ⟨S2x8192x32, .f32⟩
  | 12 => ⟨S2x8192x32, .f32⟩
  | 13 => ⟨S2x8192x32, .f32⟩
  | 14 => ⟨S1x8192x32, .f32⟩
  | 15 => ⟨S2x8192x32, .f32⟩
  | 16 => ⟨S2x8192x32, .f32⟩
  | 17 => ⟨S1x8192x32, .f32⟩
  | 18 => ⟨S2x8192x32, .f32⟩
  | 19 => ⟨S2x8192x32, .f32⟩
  | 20 => ⟨S2x8192x32, .f32⟩
  | 21 => ⟨S2x8192x32x1, .f32⟩
  | 22 => ⟨S2x8192x32x1, .f32⟩
  | 23 => ⟨S2x8192x32x2, .f32⟩
  | 24 => ⟨S2x8192x64, .f32⟩
  | 25 => ⟨S8x256x64, .f32⟩
  | 26 => ⟨S8x256x64, .f32⟩
  | 27 => ⟨S_, .f32⟩
  | 28 => ⟨S8x256, .f32⟩
  | 29 => ⟨S8x256x1, .f32⟩
  | 30 => ⟨S_, .f32⟩
  | 31 => ⟨S8x256x1, .f32⟩
  | 32 => ⟨S8x256x1, .f32⟩
  | 33 => ⟨S_, .f32⟩
  | 34 => ⟨S8x256x1, .f32⟩
  | 35 => ⟨S8x256x1, .f32⟩
  | 36 => ⟨S8x256x1, .f32⟩
  | 37 => ⟨S8x256x64, .f32⟩
  | 38 => ⟨S8x256x64, .f32⟩
  | 39 => ⟨S1x1x64, .f32⟩
  | 40 => ⟨S8x256x64, .f32⟩
  | 41 => ⟨S8x256x64, .f32⟩
  | 42 => ⟨S2x256x64, .f32⟩
  | 43 => ⟨S2x256x64, .f32⟩
  | 44 => ⟨S_, .f32⟩
  | 45 => ⟨S2x256, .f32⟩
  | 46 => ⟨S2x256x1, .f32⟩
  | 47 => ⟨S_, .f32⟩
  | 48 => ⟨S2x256x1, .f32⟩
  | 49 => ⟨S2x256x1, .f32⟩
  | 50 => ⟨S_, .f32⟩
  | 51 => ⟨S2x256x1, .f32⟩
  | 52 => ⟨S2x256x1, .f32⟩
  | 53 => ⟨S2x256x1, .f32⟩
  | 54 => ⟨S2x256x64, .f32⟩
  | 55 => ⟨S2x256x64, .f32⟩
  | 56 => ⟨S1x1x64, .f32⟩
  | 57 => ⟨S2x256x64, .f32⟩
  | 58 => ⟨S2x256x64, .f32⟩
  | 59 => ⟨S8x8448x64, .f32⟩
  | 60 => ⟨S2x8448x64, .f32⟩
  | 61 => ⟨S10x8448x64, .f32⟩
  | _ => ⟨S10x8448x64, .f32⟩

abbrev hbmTy (i : Nat) : BufTy := match i / 128 with
  | 0 => hbmTy0_0 i
  | 1 => hbmTy0_1 i
  | _ => ⟨S10x8448x64, .f32⟩

abbrev bufTy : (tb : Table) → Fin (tcTables nBuf tb) → BufTy
  | .hbm, ⟨i, _⟩ => hbmTy i
  | _, _ => ⟨S10x8448x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_4 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_cst_6 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_7 : Ref sig .tc := ⟨.hbm, 115, rfl⟩
abbrev main_v67 : Ref sig .tc := ⟨.hbm, 116, rfl⟩
abbrev main_v68 : Ref sig .tc := ⟨.hbm, 117, rfl⟩
abbrev main_cst_8 : Ref sig .tc := ⟨.hbm, 118, rfl⟩
abbrev main_v69 : Ref sig .tc := ⟨.hbm, 119, rfl⟩
abbrev main_v70 : Ref sig .tc := ⟨.hbm, 120, rfl⟩
abbrev main_cst_9 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_10 : Ref sig .tc := ⟨.hbm, 155, rfl⟩
abbrev main_v104 : Ref sig .tc := ⟨.hbm, 156, rfl⟩
abbrev main_v105 : Ref sig .tc := ⟨.hbm, 157, rfl⟩
abbrev main_cst_11 : Ref sig .tc := ⟨.hbm, 158, rfl⟩
abbrev main_v106 : Ref sig .tc := ⟨.hbm, 159, rfl⟩
abbrev main_v107 : Ref sig .tc := ⟨.hbm, 160, rfl⟩
abbrev main_cst_12 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_13 : Ref sig .tc := ⟨.hbm, 172, rfl⟩
abbrev main_v118 : Ref sig .tc := ⟨.hbm, 173, rfl⟩
abbrev main_v119 : Ref sig .tc := ⟨.hbm, 174, rfl⟩
abbrev main_cst_14 : Ref sig .tc := ⟨.hbm, 175, rfl⟩
abbrev main_v120 : Ref sig .tc := ⟨.hbm, 176, rfl⟩
abbrev main_v121 : Ref sig .tc := ⟨.hbm, 177, rfl⟩
abbrev main_cst_15 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩

abbrev nD : Nat := 1
abbrev τ : Topo := Topo.v7x

variable {F : FTy → Type} [FloatOps F]
-- ==== Win.lean ====
abbrev S8x8192x64 : Shape := ⟨3, ![8, 8192, 64]⟩
abbrev S8x256x64 : Shape := ⟨3, ![8, 256, 64]⟩
abbrev S8x15x31 : Shape := ⟨3, ![8, 15, 31]⟩
abbrev S12 : Shape := ⟨1, ![12]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S64x64x8x15 : Shape := ⟨4, ![64, 64, 8, 15]⟩
abbrev S8x64x15x64 : Shape := ⟨4, ![8, 64, 15, 64]⟩
abbrev S1x64x1x64 : Shape := ⟨4, ![1, 64, 1, 64]⟩
abbrev S8x64x8x64 : Shape := ⟨4, ![8, 64, 8, 64]⟩
abbrev S8x64x12x64 : Shape := ⟨4, ![8, 64, 12, 64]⟩
abbrev S1x1x12x1 : Shape := ⟨4, ![1, 1, 12, 1]⟩
abbrev S8x64x768 : Shape := ⟨3, ![8, 64, 768]⟩
abbrev S8x64x9x64 : Shape := ⟨4, ![8, 64, 9, 64]⟩
abbrev S8x64x10x64 : Shape := ⟨4, ![8, 64, 10, 64]⟩
abbrev S8x64x11x64 : Shape := ⟨4, ![8, 64, 11, 64]⟩
abbrev S8x1x64x768 : Shape := ⟨4, ![8, 1, 64, 768]⟩
abbrev S8x4x64x768 : Shape := ⟨4, ![8, 4, 64, 768]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S8x8192x1 : Shape := ⟨3, ![8, 8192, 1]⟩
abbrev S4x256x64 : Shape := ⟨3, ![4, 256, 64]⟩
abbrev S4x8192x64 : Shape := ⟨3, ![4, 8192, 64]⟩
abbrev S1x4x256x768 : Shape := ⟨4, ![1, 4, 256, 768]⟩
abbrev S4x256x1 : Shape := ⟨3, ![4, 256, 1]⟩
abbrev S1x256x64 : Shape := ⟨3, ![1, 256, 64]⟩
abbrev S256x64 : Shape := ⟨2, ![256, 64]⟩
abbrev S1x768x64 : Shape := ⟨3, ![1, 768, 64]⟩
abbrev S768x64 : Shape := ⟨2, ![768, 64]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩

abbrev nBuf : Space → Nat
  | .hbm => 245
  | .vmem => 16
  | .smem => 0
  | _ => 0

abbrev hbmTy0_0 (i : Nat) : BufTy := match i % 128 with
  | 0 => ⟨S8x8192x64, .f32⟩
  | 1 => ⟨S8x8192x64, .f32⟩
  | 2 => ⟨S8x8192x64, .f32⟩
  | 3 => ⟨S8x256x64, .f32⟩
  | 4 => ⟨S8x256x64, .f32⟩
  | 5 => ⟨S8x15x31, .f32⟩
  | 6 => ⟨S12, .i1⟩
  | 7 => ⟨S12, .i1⟩
  | 8 => ⟨S12, .i1⟩
  | 9 => ⟨S12, .i1⟩
  | 10 => ⟨S12, .i1⟩
  | 11 => ⟨S12, .i1⟩
  | 12 => ⟨S12, .i1⟩
  | 13 => ⟨S12, .i1⟩
  | 14 => ⟨S12, .i1⟩
  | 15 => ⟨S12, .i1⟩
  | 16 => ⟨S12, .i1⟩
  | 17 => ⟨S12, .i1⟩
  | 18 => ⟨S64, .i32⟩
  | 19 => ⟨S_, .i32⟩
  | 20 => ⟨S64, .i32⟩
  | 21 => ⟨S64, .i32⟩
  | 22 => ⟨S_, .i32⟩
  | 23 => ⟨S_, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S1x64, .i32⟩
  | 31 => ⟨S64x1, .i32⟩
  | 32 => ⟨S64x64, .i32⟩
  | 33 => ⟨S64x64, .i32⟩
  | 34 => ⟨S64x64, .i1⟩
  | 35 => ⟨S1x64, .i32⟩
  | 36 => ⟨S64x1, .i32⟩
  | 37 => ⟨S_, .i32⟩
  | 38 => ⟨S64x1, .i32⟩
  | 39 => ⟨S64x1, .i32⟩
  | 40 => ⟨S64x64, .i32⟩
  | 41 => ⟨S64x64, .i32⟩
  | 42 => ⟨S64x64, .i1⟩
  | 43 => ⟨S64x64, .i1⟩
  | 44 => ⟨S1x64, .i32⟩
  | 45 => ⟨S64x1, .i32⟩
  | 46 => ⟨S64x64, .i32⟩
  | 47 => ⟨S64x64, .i32⟩
  | 48 => ⟨S64x64, .i32⟩
  | 49 => ⟨S_, .i32⟩
  | 50 => ⟨S_, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S_, .i32⟩
  | 58 => ⟨S64x64, .i32⟩
  | 59 => ⟨S64x64, .i32⟩
  | 60 => ⟨S_, .i32⟩
  | 61 => ⟨S64x64, .i32⟩
  | 62 => ⟨S64x64, .i32⟩
  | 63 => ⟨S64x64x1, .i1⟩
  | 64 => ⟨S64x64x1, .i32⟩
  | 65 => ⟨S31, .i32⟩
  | 66 => ⟨S1x1x31, .i32⟩
  | 67 => ⟨S64x64x31, .i32⟩
  | 68 => ⟨S64x64x31, .i32⟩
  | 69 => ⟨S64x64x31, .i1⟩
  | 70 => ⟨S64x64x31, .i1⟩
  | 71 => ⟨S64x64x31, .i1⟩
  | 72 => ⟨S64x64x31, .f32⟩
  | 73 => ⟨S_, .f32⟩
  | 74 => ⟨S_, .f32⟩
  | 75 => ⟨S64x64, .f32⟩
  | 76 => ⟨S64x64, .f32⟩
  | 77 => ⟨S64x64, .f32⟩
  | 78 => ⟨S64x64, .f32⟩
  | 79 => ⟨S64x64x8x15, .f32⟩
  | 80 => ⟨S8x64x15x64, .f32⟩
  | 81 => ⟨S1x64x1x64, .f32⟩
  | 82 => ⟨S8x64x15x64, .f32⟩
  | 83 => ⟨S8x64x15x64, .f32⟩
  | 84 => ⟨S8x64x8x64, .f32⟩
  | 85 => ⟨S_, .f32⟩
  | 86 => ⟨S_, .f32⟩
  | 87 => ⟨S8x64x12x64, .f32⟩
  | 88 => ⟨S1x1x12x1, .i1⟩
  | 89 => ⟨S_, .f32⟩
  | 90 => ⟨S_, .f32⟩
  | 91 => ⟨S8x64x12x64, .i1⟩
  | 92 => ⟨S8x64x12x64, .f32⟩
  | 93 => ⟨S8x64x12x64, .f32⟩
  | 94 => ⟨S8x64x768, .f32⟩
  | 95 => ⟨S8x64x9x64, .f32⟩
  | 96 => ⟨S_, .f32⟩
  | 97 => ⟨S_, .f32⟩
  | 98 => ⟨S8x64x12x64, .f32⟩
  | 99 => ⟨S1x1x12x1, .i1⟩
  | 100 => ⟨S_, .f32⟩
  | 101 => ⟨S_, .f32⟩
  | 102 => ⟨S8x64x12x64, .i1⟩
  | 103 => ⟨S8x64x12x64, .f32⟩
  | 104 => ⟨S8x64x12x64, .f32⟩
  | 105 => ⟨S8x64x768, .f32⟩
  | 106 => ⟨S8x64x10x64, .f32⟩
  | 107 => ⟨S_, .f32⟩
  | 108 => ⟨S_, .f32⟩
  | 109 => ⟨S8x64x12x64, .f32⟩
  | 110 => ⟨S1x1x12x1, .i1⟩
  | 111 => ⟨S_, .f32⟩
  | 112 => ⟨S_, .f32⟩
  | 113 => ⟨S8x64x12x64, .i1⟩
  | 114 => ⟨S8x64x12x64, .f32⟩
  | 115 => ⟨S8x64x12x64, .f32⟩
  | 116 => ⟨S8x64x768, .f32⟩
  | 117 => ⟨S8x64x11x64, .f32⟩
  | 118 => ⟨S_, .f32⟩
  | 119 => ⟨S_, .f32⟩
  | 120 => ⟨S8x64x12x64, .f32⟩
  | 121 => ⟨S1x1x12x1, .i1⟩
  | 122 => ⟨S_, .f32⟩
  | 123 => ⟨S_, .f32⟩
  | 124 => ⟨S8x64x12x64, .i1⟩
  | 125 => ⟨S8x64x12x64, .f32⟩
  | 126 => ⟨S8x64x12x64, .f32⟩
  | 127 => ⟨S8x64x768, .f32⟩
  | _ => ⟨S8x8192x64, .f32⟩

abbrev hbmTy0_1 (i : Nat) : BufTy := match i % 128 with
  | 0 => ⟨S8x1x64x768, .f32⟩
  | 1 => ⟨S8x1x64x768, .f32⟩
  | 2 => ⟨S8x1x64x768, .f32⟩
  | 3 => ⟨S8x1x64x768, .f32⟩
  | 4 => ⟨S8x4x64x768, .f32⟩
  | 5 => ⟨S8x256x768, .f32⟩
  | 6 => ⟨S8x64x12x64, .f32⟩
  | 7 => ⟨S_, .f32⟩
  | 8 => ⟨S_, .f32⟩
  | 9 => ⟨S8x64x12x64, .f32⟩
  | 10 => ⟨S1x1x12x1, .i1⟩
  | 11 => ⟨S_, .f32⟩
  | 12 => ⟨S_, .f32⟩
  | 13 => ⟨S8x64x12x64, .i1⟩
  | 14 => ⟨S8x64x12x64, .f32⟩
  | 15 => ⟨S8x64x12x64, .f32⟩
  | 16 => ⟨S8x64x768, .f32⟩
  | 17 => ⟨S8x64x12x64, .f32⟩
  | 18 => ⟨S_, .f32⟩
  | 19 => ⟨S_, .f32⟩
  | 20 => ⟨S8x64x12x64, .f32⟩
  | 21 => ⟨S1x1x12x1, .i1⟩
  | 22 => ⟨S_, .f32⟩
  | 23 => ⟨S_, .f32⟩
  | 24 => ⟨S8x64x12x64, .i1⟩
  | 25 => ⟨S8x64x12x64, .f32⟩
  | 26 => ⟨S8x64x12x64, .f32⟩
  | 27 => ⟨S8x64x768, .f32⟩
  | 28 => ⟨S8x64x12x64, .f32⟩
  | 29 => ⟨S_, .f32⟩
  | 30 => ⟨S_, .f32⟩
  | 31 => ⟨S8x64x12x64, .f32⟩
  | 32 => ⟨S1x1x12x1, .i1⟩
  | 33 => ⟨S_, .f32⟩
  | 34 => ⟨S_, .f32⟩
  | 35 => ⟨S8x64x12x64, .i1⟩
  | 36 => ⟨S8x64x12x64, .f32⟩
  | 37 => ⟨S8x64x12x64, .f32⟩
  | 38 => ⟨S8x64x768, .f32⟩
  | 39 => ⟨S8x64x12x64, .f32⟩
  | 40 => ⟨S_, .f32⟩
  | 41 => ⟨S_, .f32⟩
  | 42 => ⟨S8x64x12x64, .f32⟩
  | 43 => ⟨S1x1x12x1, .i1⟩
  | 44 => ⟨S_, .f32⟩
  | 45 => ⟨S_, .f32⟩
  | 46 => ⟨S8x64x12x64, .i1⟩
  | 47 => ⟨S8x64x12x64, .f32⟩
  | 48 => ⟨S8x64x12x64, .f32⟩
  | 49 => ⟨S8x64x768, .f32⟩
  | 50 => ⟨S8x1x64x768, .f32⟩
  | 51 => ⟨S8x1x64x768, .f32⟩
  | 52 => ⟨S8x1x64x768, .f32⟩
  | 53 => ⟨S8x1x64x768, .f32⟩
  | 54 => ⟨S8x4x64x768, .f32⟩
  | 55 => ⟨S8x256x768, .f32⟩
  | 56 => ⟨S8x64x11x64, .f32⟩
  | 57 => ⟨S_, .f32⟩
  | 58 => ⟨S_, .f32⟩
  | 59 => ⟨S8x64x12x64, .f32⟩
  | 60 => ⟨S1x1x12x1, .i1⟩
  | 61 => ⟨S_, .f32⟩
  | 62 => ⟨S_, .f32⟩
  | 63 => ⟨S8x64x12x64, .i1⟩
  | 64 => ⟨S8x64x12x64, .f32⟩
  | 65 => ⟨S8x64x12x64, .f32⟩
  | 66 => ⟨S8x64x768, .f32⟩
  | 67 => ⟨S8x64x10x64, .f32⟩
  | 68 => ⟨S_, .f32⟩
  | 69 => ⟨S_, .f32⟩
  | 70 => ⟨S8x64x12x64, .f32⟩
  | 71 => ⟨S1x1x12x1, .i1⟩
  | 72 => ⟨S_, .f32⟩
  | 73 => ⟨S_, .f32⟩
  | 74 => ⟨S8x64x12x64, .i1⟩
  | 75 => ⟨S8x64x12x64, .f32⟩
  | 76 => ⟨S8x64x12x64, .f32⟩
  | 77 => ⟨S8x64x768, .f32⟩
  | 78 => ⟨S8x64x9x64, .f32⟩
  | 79 => ⟨S_, .f32⟩
  | 80 => ⟨S_, .f32⟩
  | 81 => ⟨S8x64x12x64, .f32⟩
  | 82 => ⟨S1x1x12x1, .i1⟩
  | 83 => ⟨S_, .f32⟩
  | 84 => ⟨S_, .f32⟩
  | 85 => ⟨S8x64x12x64, .i1⟩
  | 86 => ⟨S8x64x12x64, .f32⟩
  | 87 => ⟨S8x64x12x64, .f32⟩
  | 88 => ⟨S8x64x768, .f32⟩
  | 89 => ⟨S8x64x8x64, .f32⟩
  | 90 => ⟨S_, .f32⟩
  | 91 => ⟨S_, .f32⟩
  | 92 => ⟨S8x64x12x64, .f32⟩
  | 93 => ⟨S1x1x12x1, .i1⟩
  | 94 => ⟨S_, .f32⟩
  | 95 => ⟨S_, .f32⟩
  | 96 => ⟨S8x64x12x64, .i1⟩
  | 97 => ⟨S8x64x12x64, .f32⟩
  | 98 => ⟨S8x64x12x64, .f32⟩
  | 99 => ⟨S8x64x768, .f32⟩
  | 100 => ⟨S8x1x64x768, .f32⟩
  | 101 => ⟨S8x1x64x768, .f32⟩
  | 102 => ⟨S8x1x64x768, .f32⟩
  | 103 => ⟨S8x1x64x768, .f32⟩
  | 104 => ⟨S8x4x64x768, .f32⟩
  | 105 => ⟨S8x256x768, .f32⟩
  | 106 => ⟨S1x8x256x768, .f32⟩
  | 107 => ⟨S1x8x256x768, .f32⟩
  | 108 => ⟨S1x8x256x768, .f32⟩
  | 109 => ⟨S3x8x256x768, .f32⟩
  | 110 => ⟨S8x8192x64, .bf16⟩
  | 111 => ⟨S8x8192x64, .bf16⟩
  | 112 => ⟨S8x8192x64, .bf16⟩
  | 113 => ⟨S8x256x64, .bf16⟩
  | 114 => ⟨S8x256x64, .bf16⟩
  | 115 => ⟨S8x8192x64, .f32⟩
  | 116 => ⟨S8x8192x1, .f32⟩
  | _ => ⟨S8x8192x64, .f32⟩

abbrev hbmTy (i : Nat) : BufTy := match i / 128 with
  | 0 => hbmTy0_0 i
  | 1 => hbmTy0_1 i
  | _ => ⟨S8x8192x64, .f32⟩

abbrev bufTy : (tb : Table) → Fin (tcTables nBuf tb) → BufTy
  | .hbm, ⟨i, _⟩ => hbmTy i
  | .local _ .vmem, ⟨0, _⟩ => ⟨S4x256x64, .bf16⟩
  | .local _ .vmem, ⟨1, _⟩ => ⟨S4x256x64, .bf16⟩
  | .local _ .vmem, ⟨2, _⟩ => ⟨S4x8192x64, .bf16⟩
  | .local _ .vmem, ⟨3, _⟩ => ⟨S4x8192x64, .bf16⟩
  | .local _ .vmem, ⟨4, _⟩ => ⟨S4x8192x64, .bf16⟩
  | .local _ .vmem, ⟨5, _⟩ => ⟨S4x8192x64, .bf16⟩
  | .local _ .vmem, ⟨6, _⟩ => ⟨S4x256x64, .bf16⟩
  | .local _ .vmem, ⟨7, _⟩ => ⟨S4x256x64, .bf16⟩
  | .local _ .vmem, ⟨8, _⟩ => ⟨S4x256x64, .bf16⟩
  | .local _ .vmem, ⟨9, _⟩ => ⟨S4x256x64, .bf16⟩
  | .local _ .vmem, ⟨10, _⟩ => ⟨S1x4x256x768, .f32⟩
  | .local _ .vmem, ⟨11, _⟩ => ⟨S1x4x256x768, .f32⟩
  | .local _ .vmem, ⟨12, _⟩ => ⟨S4x256x64, .f32⟩
  | .local _ .vmem, ⟨13, _⟩ => ⟨S4x256x64, .f32⟩
  | .local _ .vmem, ⟨14, _⟩ => ⟨S4x256x1, .f32⟩
  | .local _ .vmem, ⟨15, _⟩ => ⟨S4x256x1, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_c_8 : Ref sig .tc := ⟨.hbm, 15, rfl⟩
abbrev main_c_9 : Ref sig .tc := ⟨.hbm, 16, rfl⟩
abbrev main_c_10 : Ref sig .tc := ⟨.hbm, 17, rfl⟩
abbrev main_v0 : Ref sig .tc := ⟨.hbm, 18, rfl⟩
abbrev main_c_11 : Ref sig .tc := ⟨.hbm, 19, rfl⟩
abbrev main_v1 : Ref sig .tc := ⟨.hbm, 20, rfl⟩
abbrev main_v2 : Ref sig .tc := ⟨.hbm, 21, rfl⟩
abbrev main_c_12 : Ref sig .tc := ⟨.hbm, 22, rfl⟩
abbrev main_c_13 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_14 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_15 : Ref sig .tc := ⟨.hbm, 49, rfl⟩
abbrev main_c_16 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v22 : Ref sig .tc := ⟨.hbm, 56, rfl⟩
abbrev main_c_17 : Ref sig .tc := ⟨.hbm, 57, rfl⟩
abbrev main_v23 : Ref sig .tc := ⟨.hbm, 58, rfl⟩
abbrev main_v24 : Ref sig .tc := ⟨.hbm, 59, rfl⟩
abbrev main_c_18 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst : Ref sig .tc := ⟨.hbm, 73, rfl⟩
abbrev main_cst_19 : Ref sig .tc := ⟨.hbm, 74, rfl⟩
abbrev main_call2_v0 : Ref sig .tc := ⟨.hbm, 75, rfl⟩
abbrev main_call2_v1 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_20 : Ref sig .tc := ⟨.hbm, 85, rfl⟩
abbrev main_call3_v0 : Ref sig .tc := ⟨.hbm, 86, rfl⟩
abbrev main_v45 : Ref sig .tc := ⟨.hbm, 87, rfl⟩
abbrev main_v46 : Ref sig .tc := ⟨.hbm, 88, rfl⟩
abbrev main_cst_21 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_22 : Ref sig .tc := ⟨.hbm, 96, rfl⟩
abbrev main_call5_v0 : Ref sig .tc := ⟨.hbm, 97, rfl⟩
abbrev main_v50 : Ref sig .tc := ⟨.hbm, 98, rfl⟩
abbrev main_v51 : Ref sig .tc := ⟨.hbm, 99, rfl⟩
abbrev main_cst_23 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_24 : Ref sig .tc := ⟨.hbm, 107, rfl⟩
abbrev main_call7_v0 : Ref sig .tc := ⟨.hbm, 108, rfl⟩
abbrev main_v55 : Ref sig .tc := ⟨.hbm, 109, rfl⟩
abbrev main_v56 : Ref sig .tc := ⟨.hbm, 110, rfl⟩
abbrev main_cst_25 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_26 : Ref sig .tc := ⟨.hbm, 118, rfl⟩
abbrev main_call9_v0 : Ref sig .tc := ⟨.hbm, 119, rfl⟩
abbrev main_v60 : Ref sig .tc := ⟨.hbm, 120, rfl⟩
abbrev main_v61 : Ref sig .tc := ⟨.hbm, 121, rfl⟩
abbrev main_cst_27 : Ref sig .tc := ⟨.hbm, 122, rfl⟩
abbrev main_call10_v0 : Ref sig .tc := ⟨.hbm, 123, rfl⟩
abbrev main_call10_v1 : Ref sig .tc := ⟨.hbm, 124, rfl⟩
abbrev main_call10_v2 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_cst_28 : Ref sig .tc := ⟨.hbm, 135, rfl⟩
abbrev main_call11_v0 : Ref sig .tc := ⟨.hbm, 136, rfl⟩
abbrev main_v71 : Ref sig .tc := ⟨.hbm, 137, rfl⟩
abbrev main_v72 : Ref sig .tc := ⟨.hbm, 138, rfl⟩
abbrev main_cst_29 : Ref sig .tc := ⟨.hbm, 139, rfl⟩
abbrev main_call12_v0 : Ref sig .tc := ⟨.hbm, 140, rfl⟩
abbrev main_call12_v1 : Ref sig .tc := ⟨.hbm, 141, rfl⟩
abbrev main_call12_v2 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_cst_30 : Ref sig .tc := ⟨.hbm, 146, rfl⟩
abbrev main_call13_v0 : Ref sig .tc := ⟨.hbm, 147, rfl⟩
abbrev main_v76 : Ref sig .tc := ⟨.hbm, 148, rfl⟩
abbrev main_v77 : Ref sig .tc := ⟨.hbm, 149, rfl⟩
abbrev main_cst_31 : Ref sig .tc := ⟨.hbm, 150, rfl⟩
abbrev main_call14_v0 : Ref sig .tc := ⟨.hbm, 151, rfl⟩
abbrev main_call14_v1 : Ref sig .tc := ⟨.hbm, 152, rfl⟩
abbrev main_call14_v2 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_cst_32 : Ref sig .tc := ⟨.hbm, 157, rfl⟩
abbrev main_call15_v0 : Ref sig .tc := ⟨.hbm, 158, rfl⟩
abbrev main_v81 : Ref sig .tc := ⟨.hbm, 159, rfl⟩
abbrev main_v82 : Ref sig .tc := ⟨.hbm, 160, rfl⟩
abbrev main_cst_33 : Ref sig .tc := ⟨.hbm, 161, rfl⟩
abbrev main_call16_v0 : Ref sig .tc := ⟨.hbm, 162, rfl⟩
abbrev main_call16_v1 : Ref sig .tc := ⟨.hbm, 163, rfl⟩
abbrev main_call16_v2 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_34 : Ref sig .tc := ⟨.hbm, 168, rfl⟩
abbrev main_call17_v0 : Ref sig .tc := ⟨.hbm, 169, rfl⟩
abbrev main_v86 : Ref sig .tc := ⟨.hbm, 170, rfl⟩
abbrev main_v87 : Ref sig .tc := ⟨.hbm, 171, rfl⟩
abbrev main_cst_35 : Ref sig .tc := ⟨.hbm, 172, rfl⟩
abbrev main_call18_v0 : Ref sig .tc := ⟨.hbm, 173, rfl⟩
abbrev main_call18_v1 : Ref sig .tc := ⟨.hbm, 174, rfl⟩
abbrev main_call18_v2 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_cst_36 : Ref sig .tc := ⟨.hbm, 185, rfl⟩
abbrev main_call19_v0 : Ref sig .tc := ⟨.hbm, 186, rfl⟩
abbrev main_v97 : Ref sig .tc := ⟨.hbm, 187, rfl⟩
abbrev main_v98 : Ref sig .tc := ⟨.hbm, 188, rfl⟩
abbrev main_cst_37 : Ref sig .tc := ⟨.hbm, 189, rfl⟩
abbrev main_call20_v0 : Ref sig .tc := ⟨.hbm, 190, rfl⟩
abbrev main_call20_v1 : Ref sig .tc := ⟨.hbm, 191, rfl⟩
abbrev main_call20_v2 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_cst_38 : Ref sig .tc := ⟨.hbm, 196, rfl⟩
abbrev main_call21_v0 : Ref sig .tc := ⟨.hbm, 197, rfl⟩
abbrev main_v102 : Ref sig .tc := ⟨.hbm, 198, rfl⟩
abbrev main_v103 : Ref sig .tc := ⟨.hbm, 199, rfl⟩
abbrev main_cst_39 : Ref sig .tc := ⟨.hbm, 200, rfl⟩
abbrev main_call22_v0 : Ref sig .tc := ⟨.hbm, 201, rfl⟩
abbrev main_call22_v1 : Ref sig .tc := ⟨.hbm, 202, rfl⟩
abbrev main_call22_v2 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_40 : Ref sig .tc := ⟨.hbm, 207, rfl⟩
abbrev main_call23_v0 : Ref sig .tc := ⟨.hbm, 208, rfl⟩
abbrev main_v107 : Ref sig .tc := ⟨.hbm, 209, rfl⟩
abbrev main_v108 : Ref sig .tc := ⟨.hbm, 210, rfl⟩
abbrev main_cst_41 : Ref sig .tc := ⟨.hbm, 211, rfl⟩
abbrev main_call24_v0 : Ref sig .tc := ⟨.hbm, 212, rfl⟩
abbrev main_call24_v1 : Ref sig .tc := ⟨.hbm, 213, rfl⟩
abbrev main_call24_v2 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_cst_42 : Ref sig .tc := ⟨.hbm, 218, rfl⟩
abbrev main_call25_v0 : Ref sig .tc := ⟨.hbm, 219, rfl⟩
abbrev main_v112 : Ref sig .tc := ⟨.hbm, 220, rfl⟩
abbrev main_v113 : Ref sig .tc := ⟨.hbm, 221, rfl⟩
abbrev main_cst_43 : Ref sig .tc := ⟨.hbm, 222, rfl⟩
abbrev main_call26_v0 : Ref sig .tc := ⟨.hbm, 223, rfl⟩
abbrev main_call26_v1 : Ref sig .tc := ⟨.hbm, 224, rfl⟩
abbrev main_call26_v2 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131_0 : Ref sig .tc := ⟨.hbm, 243, rfl⟩
abbrev main_v131_1 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let c116_i32 : BitVec 32 := 116#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  v4
def k0_off1 (i : grid0.Coords) : Fin 3 → Nat :=
  let c0_3 : Index := 0#32
  let c116_i32 : BitVec 32 := 116#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v10 : Index := Scalar.indexCast v5
  let c0_4 : Index := 0#32
  ![0, v10.toNat, 0]
def k0_off2 (i : grid0.Coords) : Fin 3 → Nat :=
  let c1_34 : Index := 1#32
  let c116_i32 : BitVec 32 := 116#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v60 : Index := Scalar.indexCast v5
  let c0_35 : Index := 0#32
  ![1, v60.toNat, 0]
def k0_off3 (i : grid0.Coords) : Fin 3 → Nat :=
  let c2_65 : Index := 2#32
  let c116_i32 : BitVec 32 := 116#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v110 : Index := Scalar.indexCast v5
  let c0_66 : Index := 0#32
  ![2, v110.toNat, 0]
def k0_off4 (i : grid0.Coords) : Fin 3 → Nat :=
  let c3_96 : Index := 3#32
  let c116_i32 : BitVec 32 := 116#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v160 : Index := Scalar.indexCast v5
  let c0_97 : Index := 0#32
  ![3, v160.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c31_i32 : BitVec 32 := 31#32
  let v1 : BitVec 1 := Scalar.cmpi .eq arg1 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== WinRefIdeal.lean ====
abbrev S8x8192x64 : Shape := ⟨3, ![8, 8192, 64]⟩
abbrev S8x256x64 : Shape := ⟨3, ![8, 256, 64]⟩
abbrev S8x15x31 : Shape := ⟨3, ![8, 15, 31]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S1x1x64x1x64 : Shape := ⟨5, ![1, 1, 64, 1, 64]⟩
abbrev S8x128x64x64 : Shape := ⟨4, ![8, 128, 64, 64]⟩
abbrev S128x8x1 : Shape := ⟨3, ![128, 8, 1]⟩
abbrev S8x128x8x64x64 : Shape := ⟨5, ![8, 128, 8, 64, 64]⟩
abbrev S8x128x64x512 : Shape := ⟨4, ![8, 128, 64, 512]⟩
abbrev S8x128x64x256 : Shape := ⟨4, ![8, 128, 64, 256]⟩
abbrev S8x128x64x768 : Shape := ⟨4, ![8, 128, 64, 768]⟩
abbrev S8x128x64 : Shape := ⟨3, ![8, 128, 64]⟩
abbrev S8x128x64x1 : Shape := ⟨4, ![8, 128, 64, 1]⟩

abbrev nBuf : Space → Nat
  | .hbm => 153
  | .vmem => 0
  | .smem => 0
  | _ => 0

abbrev hbmTy0_0 (i : Nat) : BufTy := match i % 128 with
  | 0 => ⟨S8x8192x64, .f32⟩
  | 1 => ⟨S8x8192x64, .f32⟩
  | 2 => ⟨S8x8192x64, .f32⟩
  | 3 => ⟨S8x256x64, .f32⟩
  | 4 => ⟨S8x256x64, .f32⟩
  | 5 => ⟨S8x15x31, .f32⟩
  | 6 => ⟨S128, .i32⟩
  | 7 => ⟨S64, .i32⟩
  | 8 => ⟨S_, .i32⟩
  | 9 => ⟨S128, .i32⟩
  | 10 => ⟨S128, .i32⟩
  | 11 => ⟨S_, .i32⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128x1, .i32⟩
  | 20 => ⟨S8, .i32⟩
  | 21 => ⟨S1x8, .i32⟩
  | 22 => ⟨S128x8, .i32⟩
  | 23 => ⟨S128x8, .i32⟩
  | 24 => ⟨S128x8, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S1x64, .i32⟩
  | 37 => ⟨S64x1, .i32⟩
  | 38 => ⟨S64x64, .i32⟩
  | 39 => ⟨S64x64, .i32⟩
  | 40 => ⟨S64x64, .i1⟩
  | 41 => ⟨S1x64, .i32⟩
  | 42 => ⟨S64x1, .i32⟩
  | 43 => ⟨S_, .i32⟩
  | 44 => ⟨S64x1, .i32⟩
  | 45 => ⟨S64x1, .i32⟩
  | 46 => ⟨S64x64, .i32⟩
  | 47 => ⟨S64x64, .i32⟩
  | 48 => ⟨S64x64, .i1⟩
  | 49 => ⟨S64x64, .i1⟩
  | 50 => ⟨S128x1, .i32⟩
  | 51 => ⟨S128x8, .i32⟩
  | 52 => ⟨S128x8, .i32⟩
  | 53 => ⟨S_, .i32⟩
  | 54 => ⟨S128x8, .i32⟩
  | 55 => ⟨S128x8, .i32⟩
  | 56 => ⟨S1x64, .i32⟩
  | 57 => ⟨S64x1, .i32⟩
  | 58 => ⟨S64x64, .i32⟩
  | 59 => ⟨S64x64, .i32⟩
  | 60 => ⟨S64x64, .i32⟩
  | 61 => ⟨S_, .i32⟩
  | 62 => ⟨S_, .i32⟩
  | 63 => ⟨S_, .i32⟩
  | 64 => ⟨S64x64, .i32⟩
  | 65 => ⟨S64x64, .i32⟩
  | 66 => ⟨S_, .i32⟩
  | 67 => ⟨S64x64, .i32⟩
  | 68 => ⟨S64x64, .i32⟩
  | 69 => ⟨S_, .i32⟩
  | 70 => ⟨S64x64, .i32⟩
  | 71 => ⟨S64x64, .i32⟩
  | 72 => ⟨S128x1x8x1, .i32⟩
  | 73 => ⟨S1x64x1x64, .i32⟩
  | 74 => ⟨S_, .i32⟩
  | 75 => ⟨S128x1x8x1, .i32⟩
  | 76 => ⟨S128x1x8x1, .i1⟩
  | 77 => ⟨S_, .i32⟩
  | 78 => ⟨S128x1x8x1, .i32⟩
  | 79 => ⟨S128x1x8x1, .i32⟩
  | 80 => ⟨S128x1x8x1, .i32⟩
  | 81 => ⟨S_, .i32⟩
  | 82 => ⟨S1x64x1x64, .i32⟩
  | 83 => ⟨S1x64x1x64, .i1⟩
  | 84 => ⟨S_, .i32⟩
  | 85 => ⟨S1x64x1x64, .i32⟩
  | 86 => ⟨S1x64x1x64, .i32⟩
  | 87 => ⟨S1x64x1x64, .i32⟩
  | 88 => ⟨S128x64x8x64, .i32⟩
  | 89 => ⟨S128x64x8x64, .i32⟩
  | 90 => ⟨S128x64x8x64x1, .i32⟩
  | 91 => ⟨S128x64x8x64x1, .i32⟩
  | 92 => ⟨S128x64x8x64x2, .i32⟩
  | 93 => ⟨S8x128x64x8x64, .f32⟩
  | 94 => ⟨S1x1x64x1x64, .i1⟩
  | 95 => ⟨S_, .f32⟩
  | 96 => ⟨S_, .f32⟩
  | 97 => ⟨S8x128x64x8x64, .i1⟩
  | 98 => ⟨S8x128x64x8x64, .f32⟩
  | 99 => ⟨S8x128x64x8x64, .f32⟩
  | 100 => ⟨S8x128x64x64, .f32⟩
  | 101 => ⟨S8x128x64x64, .f32⟩
  | 102 => ⟨S_, .i32⟩
  | 103 => ⟨S128x8, .i32⟩
  | 104 => ⟨S128x8, .i1⟩
  | 105 => ⟨S_, .i32⟩
  | 106 => ⟨S128x8, .i32⟩
  | 107 => ⟨S128x8, .i32⟩
  | 108 => ⟨S128x8, .i32⟩
  | 109 => ⟨S128x8x1, .i32⟩
  | 110 => ⟨S8x128x8x64x64, .f32⟩
  | 111 => ⟨S8x128x64x64, .f32⟩
  | 112 => ⟨S_, .i32⟩
  | 113 => ⟨S128x8, .i32⟩
  | 114 => ⟨S128x8, .i1⟩
  | 115 => ⟨S_, .i32⟩
  | 116 => ⟨S128x8, .i32⟩
  | 117 => ⟨S128x8, .i32⟩
  | 118 => ⟨S128x8, .i32⟩
  | 119 => ⟨S128x8x1, .i32⟩
  | 120 => ⟨S8x128x8x64x64, .f32⟩
  | 121 => ⟨S8x128x64x8x64, .f32⟩
  | 122 => ⟨S_, .f32⟩
  | 123 => ⟨S8x128x64x8x64, .f32⟩
  | 124 => ⟨S8x128x64x8x64, .f32⟩
  | 125 => ⟨S8x128x64x8x64, .f32⟩
  | 126 => ⟨S8x128x64x512, .f32⟩
  | 127 => ⟨S8x128x64x256, .f32⟩
  | _ => ⟨S8x8192x64, .f32⟩

abbrev hbmTy0_1 (i : Nat) : BufTy := match i % 128 with
  | 0 => ⟨S_, .f32⟩
  | 1 => ⟨S8x128x64x256, .f32⟩
  | 2 => ⟨S8x128x64x256, .f32⟩
  | 3 => ⟨S8x128x64x768, .f32⟩
  | 4 => ⟨S_, .f32⟩
  | 5 => ⟨S8x128x64, .f32⟩
  | 6 => ⟨S_, .f32⟩
  | 7 => ⟨S8x128x64, .f32⟩
  | 8 => ⟨S8x128x64, .f32⟩
  | 9 => ⟨S8x128x64x1, .f32⟩
  | 10 => ⟨S8x128x64x768, .f32⟩
  | 11 => ⟨S8x128x64x768, .f32⟩
  | 12 => ⟨S8x128x64x768, .f32⟩
  | 13 => ⟨S_, .f32⟩
  | 14 => ⟨S8x128x64, .f32⟩
  | 15 => ⟨S8x128x64x1, .f32⟩
  | 16 => ⟨S8x128x64x768, .f32⟩
  | 17 => ⟨S8x128x64x768, .f32⟩
  | 18 => ⟨S8x128x64x512, .f32⟩
  | 19 => ⟨S8x128x64x8x64, .f32⟩
  | 20 => ⟨S8x128x64x256, .f32⟩
  | 21 => ⟨S8x128x64x64, .f32⟩
  | 22 => ⟨S8x128x64x64, .f32⟩
  | 23 => ⟨S8x128x64x64, .f32⟩
  | 24 => ⟨S8x8192x64, .f32⟩
  | _ => ⟨S8x8192x64, .f32⟩

abbrev hbmTy (i : Nat) : BufTy := match i / 128 with
  | 0 => hbmTy0_0 i
  | 1 => hbmTy0_1 i
  | _ => ⟨S8x8192x64, .f32⟩

abbrev bufTy : (tb : Table) → Fin (tcTables nBuf tb) → BufTy
  | .hbm, ⟨i, _⟩ => hbmTy i
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_c_8 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_c_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_14 : Ref sig .tc := ⟨.hbm, 102, rfl⟩
abbrev main_v62 : Ref sig .tc := ⟨.hbm, 103, rfl⟩
abbrev main_v63 : Ref sig .tc := ⟨.hbm, 104, rfl⟩
abbrev main_c_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_16 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_18 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_19 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_20 : Ref sig .tc := ⟨.hbm, 132, rfl⟩
abbrev main_v86 : Ref sig .tc := ⟨.hbm, 133, rfl⟩
abbrev main_cst_21 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_22 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩

abbrev nD : Nat := 1
abbrev τ : Topo := Topo.v7x

variable {F : FTy → Type} [FloatOps F]
-- ==== Prod.lean ====
abbrev S8448x1024 : Shape := ⟨2, ![8448, 1024]⟩
abbrev S1024x4352 : Shape := ⟨2, ![1024, 4352]⟩
abbrev S8448x4352 : Shape := ⟨2, ![8448, 4352]⟩
abbrev S768x1024 : Shape := ⟨2, ![768, 1024]⟩
abbrev S1024x2176 : Shape := ⟨2, ![1024, 2176]⟩
abbrev S768x2176 : Shape := ⟨2, ![768, 2176]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x1024, .bf16⟩
  | .hbm, ⟨3, _⟩ => ⟨S1024x4352, .bf16⟩
  | .hbm, ⟨4, _⟩ => ⟨S8448x4352, .f32⟩
  | .local _ .vmem, ⟨0, _⟩ => ⟨S768x1024, .bf16⟩
  | .local _ .vmem, ⟨1, _⟩ => ⟨S768x1024, .bf16⟩
  | .local _ .vmem, ⟨2, _⟩ => ⟨S1024x2176, .bf16⟩
  | .local _ .vmem, ⟨3, _⟩ => ⟨S1024x2176, .bf16⟩
  | .local _ .vmem, ⟨4, _⟩ => ⟨S768x2176, .f32⟩
  | .local _ .vmem, ⟨5, _⟩ => ⟨S768x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProdRefIdeal.lean ====
abbrev S8448x1024 : Shape := ⟨2, ![8448, 1024]⟩
abbrev S1024x4352 : Shape := ⟨2, ![1024, 4352]⟩
abbrev S8448x4352 : Shape := ⟨2, ![8448, 4352]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dx.lean ====
abbrev S1024x4352 : Shape := ⟨2, ![1024, 4352]⟩
abbrev S8448x4352 : Shape := ⟨2, ![8448, 4352]⟩
abbrev S8448x1024 : Shape := ⟨2, ![8448, 1024]⟩
abbrev S768x2176 : Shape := ⟨2, ![768, 2176]⟩
abbrev S1024x2176 : Shape := ⟨2, ![1024, 2176]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x4352, .f32⟩
  | .hbm, ⟨1, _⟩ => ⟨S8448x4352, .f32⟩
  | .hbm, ⟨2, _⟩ => ⟨S8448x4352, .bf16⟩
  | .hbm, ⟨3, _⟩ => ⟨S1024x4352, .bf16⟩
  | .hbm, ⟨4, _⟩ => ⟨S8448x1024, .bf16⟩
  | .local _ .vmem, ⟨0, _⟩ => ⟨S768x2176, .bf16⟩
  | .local _ .vmem, ⟨1, _⟩ => ⟨S768x2176, .bf16⟩
  | .local _ .vmem, ⟨2, _⟩ => ⟨S1024x2176, .bf16⟩
  | .local _ .vmem, ⟨3, _⟩ => ⟨S1024x2176, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S1024x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRefIdeal.lean ====
abbrev S1024x4352 : Shape := ⟨2, ![1024, 4352]⟩
abbrev S8448x4352 : Shape := ⟨2, ![8448, 4352]⟩
abbrev S_ : Shape := ⟨0, ![]⟩
abbrev S8448x1024 : Shape := ⟨2, ![8448, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x4352, .f32⟩
  | .hbm, ⟨1, _⟩ => ⟨S8448x4352, .f32⟩
  | .hbm, ⟨2, _⟩ => ⟨S_, .f32⟩
  | .hbm, ⟨3, _⟩ => ⟨S8448x1024, .f32⟩
  | .hbm, ⟨4, _⟩ => ⟨S8448x4352, .f32⟩
  | .hbm, ⟨5, _⟩ => ⟨S8448x1024, .f32⟩
  | .hbm, ⟨6, _⟩ => ⟨S8448x1024, .bf16⟩
  | _, _ => ⟨S1024x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dw.lean ====
abbrev S8448x1024 : Shape := ⟨2, ![8448, 1024]⟩
abbrev S8448x4352 : Shape := ⟨2, ![8448, 4352]⟩
abbrev S1024x4352 : Shape := ⟨2, ![1024, 4352]⟩
abbrev S1408x512 : Shape := ⟨2, ![1408, 512]⟩
abbrev S1408x2176 : Shape := ⟨2, ![1408, 2176]⟩
abbrev S512x2176 : Shape := ⟨2, ![512, 2176]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x4352, .f32⟩
  | .hbm, ⟨2, _⟩ => ⟨S8448x1024, .bf16⟩
  | .hbm, ⟨3, _⟩ => ⟨S8448x4352, .bf16⟩
  | .hbm, ⟨4, _⟩ => ⟨S1024x4352, .bf16⟩
  | .local _ .vmem, ⟨0, _⟩ => ⟨S1408x512, .bf16⟩
  | .local _ .vmem, ⟨1, _⟩ => ⟨S1408x512, .bf16⟩
  | .local _ .vmem, ⟨2, _⟩ => ⟨S1408x2176, .bf16⟩
  | .local _ .vmem, ⟨3, _⟩ => ⟨S1408x2176, .bf16⟩
  | .local _ .vmem, ⟨4, _⟩ => ⟨S512x2176, .bf16⟩
  | .local _ .vmem, ⟨5, _⟩ => ⟨S512x2176, .bf16⟩
  | .local _ .vmem, ⟨6, _⟩ => ⟨S512x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8448x1024 : Shape := ⟨2, ![8448, 1024]⟩
abbrev S8448x4352 : Shape := ⟨2, ![8448, 4352]⟩
abbrev S_ : Shape := ⟨0, ![]⟩
abbrev S1024x4352 : Shape := ⟨2, ![1024, 4352]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x4352, .f32⟩
  | .hbm, ⟨2, _⟩ => ⟨S_, .f32⟩
  | .hbm, ⟨3, _⟩ => ⟨S1024x4352, .f32⟩
  | .hbm, ⟨4, _⟩ => ⟨S8448x4352, .f32⟩
  | .hbm, ⟨5, _⟩ => ⟨S4352x1024, .f32⟩
  | .hbm, ⟨6, _⟩ => ⟨S1024x4352, .f32⟩
  | .hbm, ⟨7, _⟩ => ⟨S1024x4352, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dh.lean ====
abbrev S1024x5632 : Shape := ⟨2, ![1024, 5632]⟩
abbrev S8448x2816 : Shape := ⟨2, ![8448, 2816]⟩
abbrev S1x8448x2816 : Shape := ⟨3, ![1, 8448, 2816]⟩
abbrev S2x8448x2816 : Shape := ⟨3, ![2, 8448, 2816]⟩
abbrev S8448x1024 : Shape := ⟨2, ![8448, 1024]⟩
abbrev S2x384x2816 : Shape := ⟨3, ![2, 384, 2816]⟩
abbrev S384x1024 : Shape := ⟨2, ![384, 1024]⟩
abbrev S1x384x1408 : Shape := ⟨3, ![1, 384, 1408]⟩
abbrev S384x1408 : Shape := ⟨2, ![384, 1408]⟩
abbrev S1024x1408 : Shape := ⟨2, ![1024, 1408]⟩

abbrev nBuf : Space → Nat
  | .hbm => 9
  | .vmem => 5
  | .smem => 0
  | _ => 0

abbrev bufTy : (tb : Table) → Fin (tcTables nBuf tb) → BufTy
  | .hbm, ⟨0, _⟩ => ⟨S1024x5632, .f32⟩
  | .hbm, ⟨1, _⟩ => ⟨S8448x2816, .f32⟩
  | .hbm, ⟨2, _⟩ => ⟨S8448x2816, .f32⟩
  | .hbm, ⟨3, _⟩ => ⟨S1x8448x2816, .f32⟩
  | .hbm, ⟨4, _⟩ => ⟨S1x8448x2816, .f32⟩
  | .hbm, ⟨5, _⟩ => ⟨S2x8448x2816, .f32⟩
  | .hbm, ⟨6, _⟩ => ⟨S2x8448x2816, .bf16⟩
  | .hbm, ⟨7, _⟩ => ⟨S1024x5632, .bf16⟩
  | .hbm, ⟨8, _⟩ => ⟨S8448x1024, .bf16⟩
  | .local _ .vmem, ⟨0, _⟩ => ⟨S2x384x2816, .bf16⟩
  | .local _ .vmem, ⟨1, _⟩ => ⟨S2x384x2816, .bf16⟩
  | .local _ .vmem, ⟨2, _⟩ => ⟨S1024x5632, .bf16⟩
  | .local _ .vmem, ⟨3, _⟩ => ⟨S384x1024, .bf16⟩
  | .local _ .vmem, ⟨4, _⟩ => ⟨S384x1024, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DhRefIdeal.lean ====
abbrev S1024x5632 : Shape := ⟨2, ![1024, 5632]⟩
abbrev S8448x2816 : Shape := ⟨2, ![8448, 2816]⟩
abbrev S_ : Shape := ⟨0, ![]⟩
abbrev S8448x1024 : Shape := ⟨2, ![8448, 1024]⟩
abbrev S8448x5632 : Shape := ⟨2, ![8448, 5632]⟩

abbrev nBuf : Space → Nat
  | .hbm => 11
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8448x2816, .f32⟩
  | .hbm, ⟨2, _⟩ => ⟨S8448x2816, .f32⟩
  | .hbm, ⟨3, _⟩ => ⟨S_, .f32⟩
  | .hbm, ⟨4, _⟩ => ⟨S8448x1024, .f32⟩
  | .hbm, ⟨5, _⟩ => ⟨S8448x5632, .f32⟩
  | .hbm, ⟨6, _⟩ => ⟨S8448x2816, .f32⟩
  | .hbm, ⟨7, _⟩ => ⟨S8448x2816, .f32⟩
  | .hbm, ⟨8, _⟩ => ⟨S8448x5632, .f32⟩
  | .hbm, ⟨9, _⟩ => ⟨S8448x1024, .f32⟩
  | .hbm, ⟨10, _⟩ => ⟨S8448x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Sum.lean ====
abbrev S8x1312x1024 : Shape := ⟨3, ![8, 1312, 1024]⟩
abbrev S1312x1024 : Shape := ⟨2, ![1312, 1024]⟩
abbrev S8x328x1024 : Shape := ⟨3, ![8, 328, 1024]⟩
abbrev S328x1024 : Shape := ⟨2, ![328, 1024]⟩
abbrev S1x328x1024 : Shape := ⟨3, ![1, 328, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x1312x1024, .f32⟩
  | .hbm, ⟨1, _⟩ => ⟨S8x1312x1024, .bf16⟩
  | .hbm, ⟨2, _⟩ => ⟨S1312x1024, .f32⟩
  | .local _ .vmem, ⟨0, _⟩ => ⟨S8x328x1024, .bf16⟩
  | .local _ .vmem, ⟨1, _⟩ => ⟨S8x328x1024, .bf16⟩
  | .local _ .vmem, ⟨2, _⟩ => ⟨S328x1024, .f32⟩
  | .local _ .vmem, ⟨3, _⟩ => ⟨S328x1024, .f32⟩
  | _, _ => ⟨S8x1312x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x328x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S328x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x1312x1024 : Shape := ⟨3, ![8, 1312, 1024]⟩
abbrev S_ : Shape := ⟨0, ![]⟩
abbrev S1312x1024 : Shape := ⟨2, ![1312, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x1312x1024, .f32⟩
  | .hbm, ⟨1, _⟩ => ⟨S_, .f32⟩
  | .hbm, ⟨2, _⟩ => ⟨S1312x1024, .f32⟩
  | _, _ => ⟨S8x1312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.NaIdealBody.lean ====
/- Hand-written, untrusted: the windowed attention's backward kernel at one grid point, and the whole program around it: it ends, leaves its arguments as they were and every counter at zero. -/
module

public import proofs.«01_k».proof.Proof.Gen.NaIdeal.Frame
public import proofs.«01_k».proof.Proof.Gen.NaIdeal.Skeleton
public import proofs.«01_k».proof.Proof.Gen.NaIdeal.Points
public import Idealize.ShloMosaic.Lib.Tactic
public import Idealize.ShloMosaic.Lib.Claim

@[expose] public section

set_option maxRecDepth 16384

noncomputable section

namespace Cert.NaIdeal.Body

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point -/

/-- The seventeen windows of the kernel, each held whole at some contents. -/
def held (c : Dev nD) (arg2 : Memref sig .tc .vmem S1x512x64 .bf16)
    (arg3 : Memref sig .tc .vmem S1x8192x64 .bf16)
    (arg4 : Memref sig .tc .vmem S1x8192x64 .bf16)
    (arg5 : Memref sig .tc .vmem S1x256x64 .bf16)
    (arg6 : Memref sig .tc .vmem S1x256x64 .bf16)
    (arg7 : Memref sig .tc .vmem S1x1x256x768 .f32)
    (arg8 : Memref sig .tc .vmem S1x1x256x768 .f32)
    (arg9 : Memref sig .tc .vmem S1x512x64 .bf16)
    (arg10 : Memref sig .tc .vmem S1x512x64 .f32)
    (arg11 : Memref sig .tc .vmem S1x512x1 .f32)
    (arg12 : Memref sig .tc .vmem S1x512x64 .f32)
    (arg13 : Memref sig .tc .vmem S1x8192x64 .f32)
    (arg14 : Memref sig .tc .vmem S1x8192x64 .f32)
    (arg15 : Memref sig .tc .vmem S1x256x64 .f32)
    (arg16 : Memref sig .tc .vmem S1x256x64 .f32)
    (arg17 : Memref sig .tc .vmem S1x1x256x768 .f32)
    (arg18 : Memref sig .tc .vmem S1x1x256x768 .f32) : sProp 𝕄 :=
  iprop((∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d))

set_option maxHeartbeats 1000000 in
/-- The part of the kernel that reads the grid coordinate, clears the sums where its conditions hold, and loads the first window, from the windows at any contents to the windows at any contents. -/
theorem part1 (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole)  (E : Set ℕ) (K : _ → sProp 𝕄) :
    iprop(held c arg2 arg3 arg4 arg5 arg6 arg7 arg8 arg9 arg10 arg11 arg12 arg13 arg14 arg15 arg16 arg17 arg18 ∗ (∀ v, held c arg2 arg3 arg4 arg5 arg6 arg7 arg8 arg9 arg10 arg11 arg12 arg13 arg14 arg15 arg16 arg17 arg18 -∗ K v))
      ⊢ wp frame (wpE (defs₀ (F := F)) Variants.none c none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) K := by
  rw [k0_part1_eq_skeleton]
  unfold k0_part1_skel
  unfold held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  sl_exec
  split <;> sl_exec <;> split <;> sl_exec <;> split <;> sl_exec
  all_goals sl_step
  all_goals iapply Hk
  all_goals (isplitl [H0]; (iexists _; iexists _; isplitr; swap; (iexact H0); (ipureintro; rfl)))
  all_goals (isplitl [H1]; (iexists _; iexists _; isplitr; swap; (iexact H1); (ipureintro; rfl)))
  all_goals (isplitl [H2]; (iexists _; iexists _; isplitr; swap; (iexact H2); (ipureintro; rfl)))
  all_goals (isplitl [H3]; (iexists _; iexists _; isplitr; swap; (iexact H3); (ipureintro; rfl)))
  all_goals (isplitl [H4]; (iexists _; iexists _; isplitr; swap; (iexact H4); (ipureintro; rfl)))
  all_goals (isplitl [H5]; (iexists _; iexists _; isplitr; swap; (iexact H5); (ipureintro; rfl)))
  all_goals (isplitl [H6]; (iexists _; iexists _; isplitr; swap; (iexact H6); (ipureintro; rfl)))
  all_goals (isplitl [H7]; (iexists _; iexists _; isplitr; swap; (iexact H7); (ipureintro; rfl)))
  all_goals (isplitl [H8]; (iexists _; iexists _; isplitr; swap; (iexact H8); (ipureintro; rfl)))
  all_goals (isplitl [H9]; (iexists _; iexists _; isplitr; swap; (iexact H9); (ipureintro; rfl)))
  all_goals (isplitl [H10]; (iexists _; iexists _; isplitr; swap; (iexact H10); (ipureintro; rfl)))
  all_goals (isplitl [H11]; (iexists _; iexists _; isplitr; swap; (iexact H11); (ipureintro; rfl)))
  all_goals (isplitl [H12]; (iexists _; iexists _; isplitr; swap; (iexact H12); (ipureintro; rfl)))
  all_goals (isplitl [H13]; (iexists _; iexists _; isplitr; swap; (iexact H13); (ipureintro; rfl)))
  all_goals (isplitl [H14]; (iexists _; iexists _; isplitr; swap; (iexact H14); (ipureintro; rfl)))
  all_goals (isplitl [H15]; (iexists _; iexists _; isplitr; swap; (iexact H15); (ipureintro; rfl)))
  all_goals (iexists _; iexists _; isplitr; swap; (iexact H16); (ipureintro; rfl))

set_option maxHeartbeats 1000000 in
/-- The part of the kernel that computes the first half's probabilities and their gradient, from the windows at any contents to the windows at any contents. -/
theorem part2 (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole) (v12 : FVec F S256x64 .bf16) (v14 : FVec F S256x64 .bf16) (v22 : BitVec 32) (v26 : FVec F S256x64 .bf16) (v28 : Vec F S1x768x64 .bf16) (E : Set ℕ) (K : _ → sProp 𝕄) :
    iprop(held c arg2 arg3 arg4 arg5 arg6 arg7 arg8 arg9 arg10 arg11 arg12 arg13 arg14 arg15 arg16 arg17 arg18 ∗ (∀ v, held c arg2 arg3 arg4 arg5 arg6 arg7 arg8 arg9 arg10 arg11 arg12 arg13 arg14 arg15 arg16 arg17 arg18 -∗ K v))
      ⊢ wp frame (wpE (defs₀ (F := F)) Variants.none c none) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v14 v22 v26 v28) K := by
  rw [k0_part2_eq_skeleton]
  unfold k0_part2_skel
  unfold held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

set_option maxHeartbeats 1000000 in
/-- The part of the kernel that adds the first half's sums to the outputs, from the windows at any contents to the windows at any contents. -/
theorem part3 (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole) (v12 : FVec F S256x64 .bf16) (v22 : BitVec 32) (v26 : FVec F S256x64 .bf16) (v29 : FVec F S768x64 .bf16) (v34 : FVec F S256x64 .bf16) (v49 : FVec F S256x768 .f32) (v57 : FVec F S256x768 .f32) (v61 : FVec F S256x256 .f32) (v64 : FVec F S256x768 .f32) (E : Set ℕ) (K : _ → sProp 𝕄) :
    iprop(held c arg2 arg3 arg4 arg5 arg6 arg7 arg8 arg9 arg10 arg11 arg12 arg13 arg14 arg15 arg16 arg17 arg18 ∗ (∀ v, held c arg2 arg3 arg4 arg5 arg6 arg7 arg8 arg9 arg10 arg11 arg12 arg13 arg14 arg15 arg16 arg17 arg18 -∗ K v))
      ⊢ wp frame (wpE (defs₀ (F := F)) Variants.none c none) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v22 v26 v29 v34 v49 v57 v61 v64) K := by
  rw [k0_part3_eq_skeleton]
  unfold k0_part3_skel
  unfold held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

set_option maxHeartbeats 1000000 in
/-- The part of the kernel that adds the first half's sums over the context and loads the second window, from the windows at any contents to the windows at any contents. -/
theorem part4 (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole) (arg1 : BitVec 32) (v26 : FVec F S256x64 .bf16) (v34 : FVec F S256x64 .bf16) (v53 : FVec F S256x256 .f32) (v69 : FVec F S256x256 .bf16) (v97 : Vec F S1x256x64 .f32) (E : Set ℕ) (K : _ → sProp 𝕄) :
    iprop(held c arg2 arg3 arg4 arg5 arg6 arg7 arg8 arg9 arg10 arg11 arg12 arg13 arg14 arg15 arg16 arg17 arg18 ∗ (∀ v, held c arg2 arg3 arg4 arg5 arg6 arg7 arg8 arg9 arg10 arg11 arg12 arg13 arg14 arg15 arg16 arg17 arg18 -∗ K v))
      ⊢ wp frame (wpE (defs₀ (F := F)) Variants.none c none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v34 v53 v69 v97) K := by
  rw [k0_part4_eq_skeleton]
  unfold k0_part4_skel
  unfold held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

set_option maxHeartbeats 1000000 in
/-- The part of the kernel that computes the second half's probabilities and their gradient, from the windows at any contents to the windows at any contents. -/
theorem part5 (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole) (v12 : FVec F S256x64 .bf16) (v14 : FVec F S256x64 .bf16) (v123 : FVec F S256x64 .bf16) (v126 : FVec F S768x64 .bf16) (v129 : FVec F S768x64 .bf16) (E : Set ℕ) (K : _ → sProp 𝕄) :
    iprop(held c arg2 arg3 arg4 arg5 arg6 arg7 arg8 arg9 arg10 arg11 arg12 arg13 arg14 arg15 arg16 arg17 arg18 ∗ (∀ v, held c arg2 arg3 arg4 arg5 arg6 arg7 arg8 arg9 arg10 arg11 arg12 arg13 arg14 arg15 arg16 arg17 arg18 -∗ K v))
      ⊢ wp frame (wpE (defs₀ (F := F)) Variants.none c none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v14 v123 v126 v129) K := by
  rw [k0_part5_eq_skeleton]
  unfold k0_part5_skel
  unfold held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

set_option maxHeartbeats 1000000 in
/-- The part of the kernel that adds the second half's sums to the outputs, from the windows at any contents to the windows at any contents. -/
theorem part6 (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole) (v12 : FVec F S256x64 .bf16) (v119 : BitVec 32) (v123 : FVec F S256x64 .bf16) (v126 : FVec F S768x64 .bf16) (v131 : FVec F S256x64 .bf16) (v146 : FVec F S256x768 .f32) (v154 : FVec F S256x768 .f32) (v158 : FVec F S256x256 .f32) (v161 : FVec F S256x768 .f32) (E : Set ℕ) (K : _ → sProp 𝕄) :
    iprop(held c arg2 arg3 arg4 arg5 arg6 arg7 arg8 arg9 arg10 arg11 arg12 arg13 arg14 arg15 arg16 arg17 arg18 ∗ (∀ v, held c arg2 arg3 arg4 arg5 arg6 arg7 arg8 arg9 arg10 arg11 arg12 arg13 arg14 arg15 arg16 arg17 arg18 -∗ K v))
      ⊢ wp frame (wpE (defs₀ (F := F)) Variants.none c none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v12 v119 v123 v126 v131 v146 v154 v158 v161) K := by
  rw [k0_part6_eq_skeleton]
  unfold k0_part6_skel
  unfold held owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

set_option maxHeartbeats 1000000 in
/-- The kernel at one grid point: from the windows at any contents to the windows at any contents, whichever of its three conditions hold. -/
theorem kernel (c : Dev nD) (i : grid0.Coords) (arg2 : Memref sig .tc .vmem S1x512x64 .bf16) (harg2 : arg2.IsWhole)
    (arg3 : Memref sig .tc .vmem S1x8192x64 .bf16) (harg3 : arg3.IsWhole)
    (arg4 : Memref sig .tc .vmem S1x8192x64 .bf16) (harg4 : arg4.IsWhole)
    (arg5 : Memref sig .tc .vmem S1x256x64 .bf16) (harg5 : arg5.IsWhole)
    (arg6 : Memref sig .tc .vmem S1x256x64 .bf16) (harg6 : arg6.IsWhole)
    (arg7 : Memref sig .tc .vmem S1x1x256x768 .f32) (harg7 : arg7.IsWhole)
    (arg8 : Memref sig .tc .vmem S1x1x256x768 .f32) (harg8 : arg8.IsWhole)
    (arg9 : Memref sig .tc .vmem S1x512x64 .bf16) (harg9 : arg9.IsWhole)
    (arg10 : Memref sig .tc .vmem S1x512x64 .f32) (harg10 : arg10.IsWhole)
    (arg11 : Memref sig .tc .vmem S1x512x1 .f32) (harg11 : arg11.IsWhole)
    (arg12 : Memref sig .tc .vmem S1x512x64 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S1x256x64 .f32) (harg15 : arg15.IsWhole)
    (arg16 : Memref sig .tc .vmem S1x256x64 .f32) (harg16 : arg16.IsWhole)
    (arg17 : Memref sig .tc .vmem S1x1x256x768 .f32) (harg17 : arg17.IsWhole)
    (arg18 : Memref sig .tc .vmem S1x1x256x768 .f32) (harg18 : arg18.IsWhole) (E : Set ℕ) (K : PUnit → sProp 𝕄) :
    iprop(held c arg2 arg3 arg4 arg5 arg6 arg7 arg8 arg9 arg10 arg11 arg12 arg13 arg14 arg15 arg16 arg17 arg18 ∗ (held c arg2 arg3 arg4 arg5 arg6 arg7 arg8 arg9 arg10 arg11 arg12 arg13 arg14 arg15 arg16 arg17 arg18 -∗ K ⟨⟩))
      ⊢ wp frame (wpE (defs₀ (F := F)) Variants.none c none) E (cc0_na_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_na_bwd_eq_skeleton]
  unfold cc0_na_bwd_skel
  simp only [wp_bind]
  iintro ⟨H, Hk⟩
  iapply (part1 c i _ _ _ _ _ _ _ _ _ _ _ _ _ _ _ _ _ _ _ _ _ _ _ _ _ _ _ _ _ _ _ _ _ _ E _)
  isplitl [H]; · iexact H
  iintro %r1 H
  try dsimp only
  iapply (part2 c i _ _ _ _ _ _ _ _ _ _ _ _ _ _ _ _ _ _ _ _ _ _ _ _ _ _ _ _ _ _ _ _ _ _ _ _ _ _ _ E _)
  isplitl [H]; · iexact H
  iintro %r2 H
  try dsimp only
  iapply (part3 c i _ _ _ _ _ _ _ _ _ _ _ _ _ _ _ _ _ _ _ _ _ _ _ _ _ _ _ _ _ _ _ _ _ _ _ _ _ _ _ _ _ _ _ E _)
  isplitl [H]; · iexact H
  iintro %r3 H
  try dsimp only
  iapply (part4 c i _ _ _ _ _ _ _ _ _ _ _ _ _ _ _ _ _ _ _ _ _ _ _ _ _ _ _ _ _ _ _ _ _ _ _ _ _ _ _ _ E _)
  isplitl [H]; · iexact H
  iintro %r4 H
  try dsimp only
  iapply (part5 c i _ _ _ _ _ _ _ _ _ _ _ _ _ _ _ _ _ _ _ _ _ _ _ _ _ _ _ _ _ _ _ _ _ _ _ _ _ _ _ E _)
  isplitl [H]; · iexact H
  iintro %r5 H
  try dsimp only
  iapply (part6 c i _ _ _ _ _ _ _ _ _ _ _ _ _ _ _ _ _ _ _ _ _ _ _ _ _ _ _ _ _ _ _ _ _ _ _ _ _ _ _ _ _ _ _ E _)
  isplitl [H]; · iexact H
  iintro %r6 H
  unfold held owns
  icases H with ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  sl_exec
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

/-! ## The run -/

variable (m : (ℓ : Loc nD τ sig) → Buf (Elt F) ℓ) (ρ : Dev nD → PrngReg)

/-- What the run around the kernel is told of its windows: their arrays as the host lines leave them, nothing of what the body makes of a window. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q := Pipeline.shareOf spec0
  owed _ := 0

/-- The body at one point, every window at any contents before and after. -/
theorem body (c : Dev nD) (t : Fin cfg0.N) :
    iprop((dats m 0 c).Φ t.castSucc ∗ (dats m 0 c).owesAt () t.castSucc ∗ held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)))
      ⊢ wp frame (wpE (defs₀ (F := F)) Variants.none c none) Set.univ (bodyAt0 t)
        (fun _ => iprop((dats m 0 c).Φ t.succ ∗ (dats m 0 c).owesAt () t.succ ∗ held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)))) := by
  rw [show (dats m 0 c).Φ t.succ = (dats m 0 c).Φ t.castSucc from rfl,
    show (dats m 0 c).owesAt () t.succ = (dats m 0 c).owesAt () t.castSucc from rfl]
  iintro ⟨HΦ, Ho, H⟩
  unfold bodyAt0
  iapply (kernel c (grid0.coords t) _ _ _ _ _ _ _ _ _ _ _ _ _ _ _ _ _ _ _ _ _ _ _ _ _ _ _ _ _ _ _ _ _ _ Set.univ _)
  isplitl [H]; · iexact H
  iintro H
  isplitl [HΦ]; · iexact HΦ
  isplitl [Ho]; · iexact Ho
  iexact H

/-- The body the table names at a point. -/
theorem row (t : Fin cfg0.N) : defs₀ (F := F) .tc cfg0.body (cfg0.bodyArgs t (cfg0.slots t)) = bodyAt0 t := by
  unfold defs₀; rw [Defs.onTc_tc]

/-- What the library asks of the body, at every point, with every window forgotten. -/
theorem obligation (c : Dev nD) : BodyObligation (dats (F := F) m 0 c) (defs₀ (F := F)) Variants.none () Set.univ (fun _ => true) := fun t => by
  rw [row, bigSep_W0]
  have h := body m c t
  unfold held at h
  exact h

/-- The buffers the host lines after the kernel write. -/
def tail : Finset (Ref sig .tc) :=
  {main_v264, main_v265, main_v266, main_v267, main_v268, main_v269, main_v270, main_v271, main_v272, main_v273, main_v274, main_v275, main_v276}

/-- The host lines after the kernel write those buffers and no others. -/
theorem tail_writes : ∀ ops ∈ ([hostOps1] : List (List (HloOp τ sig (Elt F)))), ∀ op ∈ ops, ∀ b : Ref sig .tc, Proc.devRef .tc b ∈ op.writes → b ∈ tail := by
  intro ops hops op hop b hb
  rw [List.mem_singleton.mp hops] at hop
  simp only [hostOps1, List.mem_cons, List.mem_nil_iff, or_false] at hop
  rcases hop with rfl | rfl | rfl | rfl | rfl | rfl | rfl | rfl | rfl | rfl | rfl | rfl | rfl
  all_goals
    simp only [StableHlo.nullary_writes, StableHlo.unary_writes, StableHlo.binary_writes, StableHlo.reshape_writes, StableHlo.nary_writes, Finset.mem_singleton] at hb
    refine Decidable.by_contra fun hn => StableHlo.devRef_ne_of_ne ?_ hb
    rintro rfl
    exact hn (by decide)

set_option maxHeartbeats 1600000 in
set_option backward.isDefEq.respectTransparency.types false in
/-- The whole program runs: the buffers neither staged nor written by the host lines after the kernel end as the host lines before it left them, and every counter at zero. -/
theorem launched : θ_run defs (onTc (τ := τ) (main (F := F))) (s₀ m ρ) (fun r => (Pipeline.RDat.FramePostR cfg0 (fun c => (dats m 0 c).toRForget (fun _ => true)) tail (V m)) r ∧ r.2.sem = fun _ => 0) :=
  Pipeline.θ_run_frame_around_T_forget_shared (Q' := _) cfgs (dats m) (0 : Fin 1) launch₀0 defs₀ Variants.none (fun _ => true) tail m ρ main
    (hbody := fun c => (obligation m c).loose) (hq := fun _ _ _ => rfl)
    (howed := fun _ _ => rfl) (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c)⟩, h.2⟩) (launched m ρ)

end Cert.NaIdeal.Body

end
-- ==== Proof.NaBody.lean ====
/- Hand-written, untrusted: the windowed attention's backward at the machine's own floats. Its program has the text of the one over the reals, whose run is proved over any floats. -/
module

public import proofs.«01_k».proof.Proof.NaIdealBody
public import proofs.«01_k».proof.Proof.Gen.Na.Frame
public import Idealize.ShloMosaic.Lib.Tactic
public import Idealize.ShloMosaic.Lib.Claim

@[expose] public section

set_option maxRecDepth 16384

noncomputable section

namespace Cert.Na.Body

open Cert.Na Cert.Na.Gen
open Idealize.ShloMosaic Idealize.ShloMosaic.Tactic Idealize.ShloMosaic.TcCoe Idealize.SL.Sem

variable {F : FTy → Type} [FloatOps F]
variable (m : (ℓ : Loc nD τ sig) → Buf (Elt F) ℓ) (ρ : Dev nD → PrngReg)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Eq.mpr (by sl_kernel_rfl) (Cert.NaIdeal.Body.frame m ρ)

end Cert.Na.Body

end
-- ==== Proof.FwdIdealBody.lean ====
/- Hand-written, untrusted: what one grid point of the attention forward kernel leaves in its outputs, from any contents of its scratch buffer. -/
module

public import proofs.«01_k».proof.Proof.Gen.FwdIdeal.Frame
public import proofs.«01_k».proof.Proof.Gen.FwdIdeal.Skeleton
public import proofs.«01_k».proof.Proof.Gen.FwdIdeal.Points
public import Idealize.ShloMosaic.Lib.Tactic
public import Idealize.ShloMosaic.Lib.Pipeline.ReadBack
public import Idealize.ShloMosaic.Lib.VecWindow
public import Idealize.ShloMosaic.Lib.Claim

@[expose] public section

set_option maxRecDepth 16384

noncomputable section

namespace Cert.FwdIdeal.Body

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the kernel computes, as a recursion over the chunks of keys -/

/-- The `b`-th block of 256 keys. -/
abbrev keyRect (b : Fin 33) : Rect S1x8448x64 :=
  Rect.unit ![0, 256 * b.val, 0] S1x256x64.size (by intro a; fin_cases a <;> simp <;> omega)

/-- The `b`-th block of values, transposed, with a row of ones. -/
abbrev valRect (b : Fin 33) : Rect S1x33x80x256 :=
  Rect.unit ![0, b.val, 0, 0] S1x1x80x256.size (by intro a; fin_cases a <;> simp <;> omega)

/-- A slot of the scratch buffer: half `a`, block `j` of a chunk. -/
abbrev slot (a : Fin 2) (j : Fin 3) : Rect S2x3x256x1024 :=
  Rect.unit ![a.val, j.val, 0, 0] S1x1x256x1024.size (by intro x; fin_cases x <;> simp <;> omega)

/-- The `j`-th block of the `n`-th chunk. -/
def blkOf (n : ℕ) (j : Fin 3) : Fin 33 := ⟨(3 * n + j.val) % 33, Nat.mod_lt _ (by decide)⟩

/-- The scores of a block of keys. -/
def sco (q : FVec F S64x1024 .bf16) (K : Vec F S1x8448x64 .bf16) (n : ℕ) (j : Fin 3) : FVec F S1x1x256x1024 .f32 :=
  k0_pay5 q (View.ld K (keyRect (blkOf n j)))

/-- A block of values. -/
def val (V : Vec F S1x33x80x256 .bf16) (n : ℕ) (j : Fin 3) : Vec F S1x1x80x256 .bf16 := View.ld V (valRect (blkOf n j))

/-- The running maximum and the running sums after one more chunk with scores `S` and values `W`. -/
def con (a : FVec F S1x1024 .f32 × FVec F S80x1024 .f32) (S : Fin 3 → FVec F S1x1x256x1024 .f32) (W : Fin 3 → Vec F S1x1x80x256 .bf16) :
    FVec F S1x1024 .f32 × FVec F S80x1024 .f32 :=
  (k0_pay11 a.1 (S 0) (S 1) (S 2),
    k0_pay16 (k0_pay12 a.1 (S 0) (S 1) (S 2)) (k0_pay13 a.1 (S 0) (S 1) (S 2)) (k0_pay14 a.1 (S 0) (S 1) (S 2)) (k0_pay15 a.1 a.2 (S 0) (S 1) (S 2))
      (W 0) (W 1) (W 2))

/-- The running maximum and the running sums after the first `n` chunks. -/
def run (q : FVec F S64x1024 .bf16) (K : Vec F S1x8448x64 .bf16) (V : Vec F S1x33x80x256 .bf16) : ℕ → FVec F S1x1024 .f32 × FVec F S80x1024 .f32
  | 0 => (k0_pay34, k0_pay35)
  | n + 1 => con (run q K V n) (sco q K n) (val V n)

theorem off1 : ∀ (k : Fin k0_t1_loop.trips) (r₁ : Fin 2) (r₂ : Fin 3), k0_off1 k (BitVec.ofNat 32 (1 + r₁.val)) (BitVec.ofNat 32 r₂.val)
    = ![0, 256 * (blkOf (2 * k.val + 1 + r₁.val) r₂).val, 0] := by decide +kernel

theorem off2 : ∀ (k : Fin k0_t1_loop.trips) (r : Fin 3), k0_off2 k (BitVec.ofNat 32 r.val) = ![0, (blkOf (2 * k.val) r).val, 0, 0] := by decide +kernel

theorem off3 : ∀ (k : Fin k0_t1_loop.trips) (r : Fin 3), k0_off3 k (BitVec.ofNat 32 r.val) = ![0, (blkOf (2 * k.val + 1) r).val, 0, 0] := by decide +kernel

/-- A load of the rectangle just stored reads what was stored. -/
theorem readAt_hit {s : Shape} {e : EltTy} {sp : Space} (v : View sig .tc sp s e) (f : v.ty.Contents (Elt F)) (r : Rect s) (w : r.shape.Idx → Elt F e)
    (L : List (View.Piece (Elt F) s e)) : v.readAt (Elt F) r.toLoadRect (v.writes (Elt F) f (⟨r, w⟩ :: L)) = w :=
  funext fun x => View.read_writes_cons_emb v f r w L x

/-- A load apart from the rectangle just stored reads what was there before. -/
theorem readAt_miss {s : Shape} {e : EltTy} {sp : Space} (v : View sig .tc sp s e) (f : v.ty.Contents (Elt F)) (r : Rect s) (w : r.shape.Idx → Elt F e)
    (L : List (View.Piece (Elt F) s e)) (B : LoadRect s) (h : LoadRect.disj r B = true) :
    v.readAt (Elt F) B (v.writes (Elt F) f (⟨r, w⟩ :: L)) = v.readAt (Elt F) B (v.writes (Elt F) f L) :=
  funext fun x => View.read_writes_cons_miss v f ⟨r, w⟩ L _ (LoadRect.idx_not_mem_of_disj h x)

/-- The scores of a block, however its offset is spelt. -/
theorem sco_of (v : View sig .tc .vmem S1x8448x64 .bf16) (f : v.ty.Contents (Elt F)) (q : FVec F S64x1024 .bf16) (n : ℕ) (j : Fin 3) (off : Fin 3 → ℕ)
    (h : off = ![0, 256 * (blkOf n j).val, 0]) (p : ∀ a, off a + S1x256x64.size a ≤ S1x8448x64.size a) :
    k0_pay5 q (v.readAt (Elt F) (Rect.unit (s := S1x8448x64) off S1x256x64.size p).toLoadRect f) = sco q (v.read (Elt F) f) n j := by
  subst h; rfl

/-- A block of values, however its offset is spelt. -/
theorem val_of (v : View sig .tc .vmem S1x33x80x256 .bf16) (f : v.ty.Contents (Elt F)) (n : ℕ) (j : Fin 3) (off : Fin 4 → ℕ)
    (h : off = ![0, (blkOf n j).val, 0, 0]) (p : ∀ a, off a + S1x1x80x256.size a ≤ S1x33x80x256.size a) :
    v.readAt (Elt F) (Rect.unit (s := S1x33x80x256) off S1x1x80x256.size p).toLoadRect f = val (v.read (Elt F) f) n j := by
  subst h; rfl

set_option maxHeartbeats 1000000 in
/-- One trip of the loop: it consumes two chunks and leaves the scores of the chunk after them in the first half of the scratch buffer. -/
theorem trip (𝒱 : Variants) (c : Dev nD) (bd : Option 𝒱.V) (E : Set ℕ) (i : grid0.Coords) (arg2 : Memref sig .tc .vmem S1x64x1024 .bf16) (harg2 : arg2.IsWhole)
    (arg3 : Memref sig .tc .vmem S1x8448x64 .bf16) (harg3 : arg3.IsWhole) (arg4 : Memref sig .tc .vmem S1x33x80x256 .bf16) (harg4 : arg4.IsWhole)
    (arg5 : Memref sig .tc .vmem S1x64x1024 .f32) (harg5 : arg5.IsWhole) (arg6 : Memref sig .tc .vmem S1x1x1024 .f32) (harg6 : arg6.IsWhole)
    (arg7 : Memref sig .tc .vmem S2x3x256x1024 .f32) (harg7 : arg7.IsWhole) (v3 : FVec F S64x1024 .bf16) (v27 : FVec F S1x1x256x1024 .f32)
    (X3 : BufTy.Contents (Elt F) arg3.view.ty) (X4 : BufTy.Contents (Elt F) arg4.view.ty) (k : Fin k0_t1_loop.trips)
    (acc : FVec F S1x1024 .f32 × FVec F S80x1024 .f32) (f : BufTy.Contents (Elt F) arg7.view.ty) (S : Fin 3 → FVec F S1x1x256x1024 .f32)
    (hf : ∀ j, arg7.view.readAt (Elt F) (slot 0 j).toLoadRect f = S j) :
    iprop((arg3.view.loc (c : Thread nD τ) ↦[arg3.view.set]{fullShare} X3) ∗ (arg4.view.loc (c : Thread nD τ) ↦[arg4.view.set]{fullShare} X4)
        ∗ (arg7.view.loc (c : Thread nD τ) ↦[arg7.view.set]{fullShare} f))
      ⊢ (wp frame (wpE (defs₀ (F := F)) 𝒱 (c : Thread nD τ) bd) E (k0_t1_body (F := F) i arg2 harg2 arg3 harg3 arg4 harg4 arg5 harg5 arg6 harg6 arg7 harg7 v3 v27 k acc)
          (fun yld => iprop((arg3.view.loc (c : Thread nD τ) ↦[arg3.view.set]{fullShare} X3) ∗ (arg4.view.loc (c : Thread nD τ) ↦[arg4.view.set]{fullShare} X4)
            ∗ (∃ g, (arg7.view.loc (c : Thread nD τ) ↦[arg7.view.set]{fullShare} g)
              ∗ ⌜∀ j, arg7.view.readAt (Elt F) (slot 0 j).toLoadRect g = sco v3 (arg3.view.read (Elt F) X3) (2 * k.val + 2) j⌝)
            ∗ ⌜yld = con (con acc S (val (arg4.view.read (Elt F) X4) (2 * k.val)))
                (sco v3 (arg3.view.read (Elt F) X3) (2 * k.val + 1)) (val (arg4.view.read (Elt F) X4) (2 * k.val + 1))⌝)) : sProp 𝕄) := by
  have hk : k.val < 5 := Nat.lt_of_lt_of_le k.isLt k0_t1_abs.2.1
  unfold k0_t1_body
  iintro ⟨H3, H4, H7⟩
  sl_exec
  sl_step
  isplitl [H3]; · iexact H3
  isplitl [H4]; · iexact H4
  isplitl [H7]
  · iexists _; isplitl [H7]; · iexact H7
    ipureintro
    intro j
    unfold trip.sl.H7_6
    fin_cases j
    · refine (readAt_miss _ _ _ _ _ _ (by decide)).trans ((readAt_miss _ _ _ _ _ _ (by decide)).trans ((readAt_hit _ _ _ _ _).trans ?_))
      exact sco_of arg3.view X3 v3 _ 0 _ (off1 k 1 0) _
    · refine (readAt_miss _ _ _ _ _ _ (by decide)).trans ((readAt_hit _ _ _ _ _).trans ?_)
      exact sco_of arg3.view X3 v3 _ 1 _ (off1 k 1 1) _
    · refine (readAt_hit _ _ _ _ _).trans ?_
      exact sco_of arg3.view X3 v3 _ 2 _ (off1 k 1 2) _
  ipureintro
  have a0 : trip.sl.v124 arg7 f = S 0 := hf 0
  have a1 : trip.sl.v126 arg7 f = S 1 := hf 1
  have a2 : trip.sl.v128 arg7 f = S 2 := hf 2
  have b0 : trip.sl.v213 arg3 arg7 v3 X3 k = sco v3 (arg3.view.read (Elt F) X3) (2 * k.val + 1) 0 := by
    unfold trip.sl.v213 trip.sl.H7_6
    refine (View.readCov_skip _ _ _ _ _ (by decide)).trans ((View.readCov_skip _ _ _ _ _ (by decide)).trans ((View.readCov_skip _ _ _ _ _ (by decide)).trans ?_))
    refine (View.readCov_skip _ _ _ _ _ (by decide)).trans ((View.readCov_skip _ _ _ _ _ (by decide)).trans ((View.readCov_cons_toLoadRect _ _ _ _).trans ?_))
    exact sco_of arg3.view X3 v3 _ 0 _ (off1 k 0 0) _
  have b1 : trip.sl.v215 arg3 arg7 v3 X3 k = sco v3 (arg3.view.read (Elt F) X3) (2 * k.val + 1) 1 := by
    unfold trip.sl.v215 trip.sl.H7_6
    refine (View.readCov_skip _ _ _ _ _ (by decide)).trans ((View.readCov_skip _ _ _ _ _ (by decide)).trans ((View.readCov_skip _ _ _ _ _ (by decide)).trans ?_))
    refine (View.readCov_skip _ _ _ _ _ (by decide)).trans ((View.readCov_cons_toLoadRect _ _ _ _).trans ?_)
    exact sco_of arg3.view X3 v3 _ 1 _ (off1 k 0 1) _
  have b2 : trip.sl.v217 arg3 arg7 v3 X3 k = sco v3 (arg3.view.read (Elt F) X3) (2 * k.val + 1) 2 := by
    unfold trip.sl.v217 trip.sl.H7_6
    refine (View.readCov_skip _ _ _ _ _ (by decide)).trans ((View.readCov_skip _ _ _ _ _ (by decide)).trans ((View.readCov_skip _ _ _ _ _ (by decide)).trans ?_))
    refine (View.readCov_cons_toLoadRect _ _ _ _).trans ?_
    exact sco_of arg3.view X3 v3 _ 2 _ (off1 k 0 2) _
  have c0 : arg4.view.readAt (Elt F) (Rect.unit (s := S1x33x80x256) (k0_off2 k 0#32) S1x1x80x256.size (k0_off2_inb k 0)).toLoadRect X4
      = val (arg4.view.read (Elt F) X4) (2 * k.val) 0 := val_of arg4.view X4 _ 0 _ (off2 k 0) _
  have c1 : arg4.view.readAt (Elt F) (Rect.unit (s := S1x33x80x256) (k0_off2 k 1#32) S1x1x80x256.size (k0_off2_inb k 1)).toLoadRect X4
      = val (arg4.view.read (Elt F) X4) (2 * k.val) 1 := val_of arg4.view X4 _ 1 _ (off2 k 1) _
  have c2 : arg4.view.readAt (Elt F) (Rect.unit (s := S1x33x80x256) (k0_off2 k 2#32) S1x1x80x256.size (k0_off2_inb k 2)).toLoadRect X4
      = val (arg4.view.read (Elt F) X4) (2 * k.val) 2 := val_of arg4.view X4 _ 2 _ (off2 k 2) _
  have d0 : arg4.view.readAt (Elt F) (Rect.unit (s := S1x33x80x256) (k0_off3 k 0#32) S1x1x80x256.size (k0_off3_inb k 0)).toLoadRect X4
      = val (arg4.view.read (Elt F) X4) (2 * k.val + 1) 0 := val_of arg4.view X4 _ 0 _ (off3 k 0) _
  have d1 : arg4.view.readAt (Elt F) (Rect.unit (s := S1x33x80x256) (k0_off3 k 1#32) S1x1x80x256.size (k0_off3_inb k 1)).toLoadRect X4
      = val (arg4.view.read (Elt F) X4) (2 * k.val + 1) 1 := val_of arg4.view X4 _ 1 _ (off3 k 1) _
  have d2 : arg4.view.readAt (Elt F) (Rect.unit (s := S1x33x80x256) (k0_off3 k 2#32) S1x1x80x256.size (k0_off3_inb k 2)).toLoadRect X4
      = val (arg4.view.read (Elt F) X4) (2 * k.val + 1) 2 := val_of arg4.view X4 _ 2 _ (off3 k 2) _
  refine Prod.ext ?_ ?_
  · change k0_pay24 (k0_pay11 acc.1 (trip.sl.v124 arg7 f) (trip.sl.v126 arg7 f) (trip.sl.v128 arg7 f)) (k0_pay21 (trip.sl.v213 arg3 arg7 v3 X3 k))
      (trip.sl.v215 arg3 arg7 v3 X3 k) (trip.sl.v217 arg3 arg7 v3 X3 k) = _
    rw [a0, a1, a2, b0, b1, b2]
    rfl
  · unfold trip.sl.r_10 trip.sl.r_11 trip.sl.r_12 trip.sl.r_13 trip.sl.r_14 trip.sl.cst_182 trip.sl.r_8 trip.sl.r_1
    unfold trip.sl.r_6 trip.sl.r_2 trip.sl.r_3 trip.sl.r_4 trip.sl.r_5
    rw [a0, a1, a2, b0, b1, b2]
    rw [c0, c1, c2, d0, d1, d2]
    rfl

set_option warn.classDefReducibility false in
/-- The loop by its invariant: before trip `k` the first half of the scratch buffer holds the scores of chunk `2 k`, and the
carried values are those of the chunks before. -/
def loop (𝒱 : Variants) (c : Dev nD) (bd : Option 𝒱.V) (E : Set ℕ) (i : grid0.Coords) (arg2 : Memref sig .tc .vmem S1x64x1024 .bf16) (harg2 : arg2.IsWhole)
    (arg3 : Memref sig .tc .vmem S1x8448x64 .bf16) (harg3 : arg3.IsWhole) (arg4 : Memref sig .tc .vmem S1x33x80x256 .bf16) (harg4 : arg4.IsWhole)
    (arg5 : Memref sig .tc .vmem S1x64x1024 .f32) (harg5 : arg5.IsWhole) (arg6 : Memref sig .tc .vmem S1x1x1024 .f32) (harg6 : arg6.IsWhole)
    (arg7 : Memref sig .tc .vmem S2x3x256x1024 .f32) (harg7 : arg7.IsWhole) (v3 : FVec F S64x1024 .bf16) (v27 : FVec F S1x1x256x1024 .f32)
    (X3 : BufTy.Contents (Elt F) arg3.view.ty) (X4 : BufTy.Contents (Elt F) arg4.view.ty) (init : FVec F S1x1024 .f32 × FVec F S80x1024 .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init (k0_t1_body (F := F) i arg2 harg2 arg3 harg3 arg4 harg4 arg5 harg5 arg6 harg6 arg7 harg7 v3 v27) where
  inv k acc := iprop((arg3.view.loc (c : Thread nD τ) ↦[arg3.view.set]{fullShare} X3) ∗ (arg4.view.loc (c : Thread nD τ) ↦[arg4.view.set]{fullShare} X4)
    ∗ (∃ g, (arg7.view.loc (c : Thread nD τ) ↦[arg7.view.set]{fullShare} g)
      ∗ ⌜∀ j, arg7.view.readAt (Elt F) (slot 0 j).toLoadRect g = sco v3 (arg3.view.read (Elt F) X3) (2 * k) j⌝)
    ∗ ⌜acc = run v3 (arg3.view.read (Elt F) X3) (arg4.view.read (Elt F) X4) (2 * k)⌝)
  step k acc := by
    iintro ⟨H3, H4, ⟨%g, H7, %hg⟩, %hacc⟩
    subst hacc
    iapply (wp_wand_r Idealize.ShloMosaic.frame (wpE (defs₀ (F := F)) 𝒱 (c : Thread nD τ) bd) E)
    isplitl [H3 H4 H7]
    · iapply (trip 𝒱 c bd E i arg2 harg2 arg3 harg3 arg4 harg4 arg5 harg5 arg6 harg6 arg7 harg7 v3 v27 X3 X4 k _ g _ hg)
      isplitl [H3]; · iexact H3
      isplitl [H4]; · iexact H4
      iexact H7
    · iintro %yld ⟨H3, H4, ⟨%g', H7, %hg'⟩, %hy⟩
      isplitl [H3]; · iexact H3
      isplitl [H4]; · iexact H4
      isplitl [H7]
      · iexists _; isplitl [H7]; · iexact H7
        ipureintro; exact hg'
      ipureintro; exact hy

/-- The attention output of a block of queries. -/
def outO (x0 : Vec F S1x64x1024 .bf16) (x1 : Vec F S1x8448x64 .bf16) (x2 : Vec F S1x33x80x256 .bf16) : Vec F S1x64x1024 .f32 :=
  k0_pay3 (k0_pay41 (run (k0_pay30 x0) x1 x2 10).1 (sco (k0_pay30 x0) x1 10 0) (sco (k0_pay30 x0) x1 10 1) (sco (k0_pay30 x0) x1 10 2))
    (k0_pay42 (run (k0_pay30 x0) x1 x2 10).1 (sco (k0_pay30 x0) x1 10 0) (sco (k0_pay30 x0) x1 10 1) (sco (k0_pay30 x0) x1 10 2))
    (k0_pay43 (run (k0_pay30 x0) x1 x2 10).1 (sco (k0_pay30 x0) x1 10 0) (sco (k0_pay30 x0) x1 10 1) (sco (k0_pay30 x0) x1 10 2))
    (k0_pay44 (run (k0_pay30 x0) x1 x2 10).1 (run (k0_pay30 x0) x1 x2 10).2 (sco (k0_pay30 x0) x1 10 0) (sco (k0_pay30 x0) x1 10 1) (sco (k0_pay30 x0) x1 10 2))
    (k0_pay45 (val x2 10 0)) (val x2 10 1) (val x2 10 2)

/-- The logarithms of the softmax denominators of a block of queries. -/
def outL (x0 : Vec F S1x64x1024 .bf16) (x1 : Vec F S1x8448x64 .bf16) (x2 : Vec F S1x33x80x256 .bf16) : Vec F S1x1x1024 .f32 :=
  k0_pay4 (k0_pay40 (run (k0_pay30 x0) x1 x2 10).1 (sco (k0_pay30 x0) x1 10 0) (sco (k0_pay30 x0) x1 10 1) (sco (k0_pay30 x0) x1 10 2))
    (k0_pay41 (run (k0_pay30 x0) x1 x2 10).1 (sco (k0_pay30 x0) x1 10 0) (sco (k0_pay30 x0) x1 10 1) (sco (k0_pay30 x0) x1 10 2))
    (k0_pay42 (run (k0_pay30 x0) x1 x2 10).1 (sco (k0_pay30 x0) x1 10 0) (sco (k0_pay30 x0) x1 10 1) (sco (k0_pay30 x0) x1 10 2))
    (k0_pay43 (run (k0_pay30 x0) x1 x2 10).1 (sco (k0_pay30 x0) x1 10 0) (sco (k0_pay30 x0) x1 10 1) (sco (k0_pay30 x0) x1 10 2))
    (k0_pay44 (run (k0_pay30 x0) x1 x2 10).1 (run (k0_pay30 x0) x1 x2 10).2 (sco (k0_pay30 x0) x1 10 0) (sco (k0_pay30 x0) x1 10 1) (sco (k0_pay30 x0) x1 10 2))
    (k0_pay45 (val x2 10 0)) (val x2 10 1) (val x2 10 2)

set_option maxHeartbeats 1000000 in
/-- The kernel at one grid point, from any contents of the scratch buffer. -/
theorem kernel (c : Dev nD) (i : grid0.Coords) (arg2 : Memref sig .tc .vmem S1x64x1024 .bf16) (harg2 : arg2.IsWhole)
    (arg3 : Memref sig .tc .vmem S1x8448x64 .bf16) (harg3 : arg3.IsWhole) (arg4 : Memref sig .tc .vmem S1x33x80x256 .bf16) (harg4 : arg4.IsWhole)
    (arg5 : Memref sig .tc .vmem S1x64x1024 .f32) (harg5 : arg5.IsWhole) (arg6 : Memref sig .tc .vmem S1x1x1024 .f32) (harg6 : arg6.IsWhole)
    (arg7 : Memref sig .tc .vmem S2x3x256x1024 .f32) (harg7 : arg7.IsWhole)
    (x0 : Vec F S1x64x1024 .bf16) (x1 : Vec F S1x8448x64 .bf16) (x2 : Vec F S1x33x80x256 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outO x0 x1 x2) ∗ owns (c : Thread nD τ) arg6 fullShare (outL x0 x1 x2)
            ∗ (∃ d, owns (c : Thread nD τ) arg7 fullShare d)) -∗ K ⟨⟩))
      ⊢ wp frame (wpE (defs₀ (F := F)) Variants.none c none) E (cc0_flash_fwd (F := F) i arg2 harg2 arg3 harg3 arg4 harg4 arg5 harg5 arg6 harg6 arg7 harg7) K := by
  simp only [cc0_flash_fwd_eq_skeleton]
  unfold cc0_flash_fwd_skel
  simp only [k0_part7_eq_skeleton]
  unfold k0_part7_skel
  simp only [bind_assoc]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := hf2
  obtain rfl := hf3
  obtain rfl := hf4
  sl_exec
  sl_for (loop Variants.none c none E i arg2 harg2 arg3 harg3 arg4 harg4 arg5 harg5 arg6 harg6 arg7 harg7 (kernel.sl.r c arg2 f2)
    (kernel.sl.r_1 c arg2 arg3 f2 f3) f3 f4 (k0_pay34, k0_pay35)).inv $$ [H3 H4 H7]
  case region =>
    intro k acc
    exact (loop Variants.none c none E i arg2 harg2 arg3 harg3 arg4 harg4 arg5 harg5 arg6 harg6 arg7 harg7 _ _ f3 f4 (k0_pay34, k0_pay35)).step k acc
  · unfold loop
    dsimp only
    isplitl [H3]; · iexact H3
    isplitl [H4]; · iexact H4
    isplitl [H7]
    · iexists _; isplitl [H7]; · iexact H7
      ipureintro
      intro j
      fin_cases j
      · refine (readAt_miss _ _ _ _ _ _ (by decide)).trans ((readAt_miss _ _ _ _ _ _ (by decide)).trans ((readAt_hit _ _ _ _ _).trans ?_))
        exact sco_of arg3.view f3 _ 0 0 _ rfl _
      · refine (readAt_miss _ _ _ _ _ _ (by decide)).trans ((readAt_hit _ _ _ _ _).trans ?_)
        exact sco_of arg3.view f3 _ 0 1 _ rfl _
      · refine (readAt_hit _ _ _ _ _).trans ?_
        exact sco_of arg3.view f3 _ 0 2 _ rfl _
    ipureintro; rfl
  unfold loop
  dsimp only
  iintro %acc ⟨H3, H4, ⟨%g, H7, %hg⟩, %hacc⟩
  have h10 : 2 * Scf.trips k0_t1_loop.lb k0_t1_loop.ub k0_t1_loop.st = 10 := by decide
  rw [h10] at hg hacc
  have hq : kernel.sl.r c arg2 f2 = k0_pay30 (arg2.view.read (Elt F) f2) := congrArg k0_pay30 (View.readAt_full arg2.view f2 _)
  rw [hq] at hg hacc
  subst hacc
  have e0 : arg7.view.readAt (Elt F) (Rect.unit ![0, 0, 0, 0] ![1, 1, 256, 1024] inb_S2x3x256x1024_S1x1x256x1024_0_0_0_0).toLoadRect g
      = sco (k0_pay30 (arg2.view.read (Elt F) f2)) (arg3.view.read (Elt F) f3) 10 0 := hg 0
  have e1 : arg7.view.readAt (Elt F) (Rect.unit ![0, 1, 0, 0] ![1, 1, 256, 1024] inb_S2x3x256x1024_S1x1x256x1024_0_1_0_0).toLoadRect g
      = sco (k0_pay30 (arg2.view.read (Elt F) f2)) (arg3.view.read (Elt F) f3) 10 1 := hg 1
  have e2 : arg7.view.readAt (Elt F) (Rect.unit ![0, 2, 0, 0] ![1, 1, 256, 1024] inb_S2x3x256x1024_S1x1x256x1024_0_2_0_0).toLoadRect g
      = sco (k0_pay30 (arg2.view.read (Elt F) f2)) (arg3.view.read (Elt F) f3) 10 2 := hg 2
  sl_exec
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  have c0 : arg4.view.readAt (Elt F) (Rect.unit ![0, 30, 0, 0] ![1, 1, 80, 256] inb_S1x33x80x256_S1x1x80x256_0_30_0_0).toLoadRect f4
      = val (arg4.view.read (Elt F) f4) 10 0 := val_of arg4.view f4 10 0 _ rfl _
  have c1 : arg4.view.readAt (Elt F) (Rect.unit ![0, 31, 0, 0] ![1, 1, 80, 256] inb_S1x33x80x256_S1x1x80x256_0_31_0_0).toLoadRect f4
      = val (arg4.view.read (Elt F) f4) 10 1 := val_of arg4.view f4 10 1 _ rfl _
  have c2 : arg4.view.readAt (Elt F) (Rect.unit ![0, 32, 0, 0] ![1, 1, 80, 256] inb_S1x33x80x256_S1x1x80x256_0_32_0_0).toLoadRect f4
      = val (arg4.view.read (Elt F) f4) 10 2 := val_of arg4.view f4 10 2 _ rfl _
  unfold outO outL
  isplitl [H5]
  · iexists _; isplitr; swap; · iexact H5
    ipureintro
    refine (View.read_writes_full arg5.view _ _ _ _).trans ?_
    dsimp only
    rw [c0, c1, c2]
  isplitl [H6]
  · iexists _; isplitr; swap; · iexact H6
    ipureintro
    refine (View.read_writes_full arg6.view _ _ _ _).trans ?_
    dsimp only
    rw [c0, c1, c2]
  iexists _; iexists _; isplitr; swap; · iexact H7
  ipureintro; rfl

/-! ## The run -/

variable (m : (ℓ : Loc nD τ sig) → Buf (Elt F) ℓ) (ρ : Dev nD → PrngReg)

/-- What the staged windows hold before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (iblk m c 1 t) (iblk m c 2 t)
    | ⟨4, _⟩ => outL (iblk m c 0 t) (iblk m c 1 t) (iblk m c 2 t)
  Φ _ := Pipeline.ΦA spec0 c
  q _ := fullShare
  owed _ := 0

/-- The arrays are those the host lines leave. -/
theorem arrays (c : Dev nD) (w : Fin cfg0.W) : (dats m 0 c).A w = V m c (Pipeline.arrRef spec0 w) := by dsimp only [dats]

/-- Window 0 is not written. -/
theorem after_0 (c : Dev nD) (t : Fin cfg0.N) : (dats m 0 c).after 0 t = iblk m c 0 t := by dsimp only [dats]
/-- Window 1 is not written. -/
theorem after_1 (c : Dev nD) (t : Fin cfg0.N) : (dats m 0 c).after 1 t = iblk m c 1 t := by dsimp only [dats]
/-- Window 2 is not written. -/
theorem after_2 (c : Dev nD) (t : Fin cfg0.N) : (dats m 0 c).after 2 t = iblk m c 2 t := by dsimp only [dats]
/-- Window 3 is left at the attention output of the block. -/
theorem after_3 (c : Dev nD) (t : Fin cfg0.N) : (dats m 0 c).after 3 t = outO (iblk m c 0 t) (iblk m c 1 t) (iblk m c 2 t) := by dsimp only [dats]
/-- Window 4 is left at the logarithms of the block's denominators. -/
theorem after_4 (c : Dev nD) (t : Fin cfg0.N) : (dats m 0 c).after 4 t = outL (iblk m c 0 t) (iblk m c 1 t) (iblk m c 2 t) := by dsimp only [dats]
/-- Window 0 holds its block. -/
theorem before_0 (c : Dev nD) (t : Fin cfg0.N) (d) : (dats m 0 c).before 0 t d = iblk m c 0 t := before0_0_of m (dats m 0 c) (arrays m c 0) (after_0 m c) t d
/-- Window 1 holds its block. -/
theorem before_1 (c : Dev nD) (t : Fin cfg0.N) (d) : (dats m 0 c).before 1 t d = iblk m c 1 t := before0_1_of m (dats m 0 c) (arrays m c 1) (after_1 m c) t d
/-- Window 2 holds its block. -/
theorem before_2 (c : Dev nD) (t : Fin cfg0.N) (d) : (dats m 0 c).before 2 t d = iblk m c 2 t := before0_2_of m (dats m 0 c) (arrays m c 2) (after_2 m c) t d

/-- What the body finds at a point, window by window. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What the body leaves at a point. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- The scratch buffer as the body's memref holds it. -/
theorem scratch (c : Dev nD) (f : Buf (Elt F) ((c : Thread nD τ).loc cc0_scratch0)) :
    owns (c : Thread nD τ) (Memref.whole cc0_scratch0) fullShare f = (iprop(((c : Thread nD τ).loc cc0_scratch0) ↦{fullShare} f) : sProp 𝕄) :=
  owns_whole _ _ _ _

set_option maxHeartbeats 1000000 in
/-- The body at a point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2, after_3, after_4]
  unfold Pipeline.ΦA
  rw [scopedRest0_eq]
  iintro ⟨⟨⟨%f, HS⟩, Hr⟩, Ho, ⟨%d0, H0⟩, ⟨%d1, H1⟩, ⟨%d2, H2⟩, ⟨%d3, H3⟩, ⟨%d4, H4⟩⟩
  iapply (kernel c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [HS]
  · iexists _; rw [scratch]; iexact HS
  iintro ⟨H0, H1, H2, H3, H4, ⟨%e, HS⟩⟩
  isplitl [HS Hr]
  · isplitl [HS]
    · iexists _; rw [← scratch]; iexact HS
    · iexact Hr
  isplitl [Ho]; · iexact Ho
  isplitl [H0]; · iexact H0
  isplitl [H1]; · iexact H1
  isplitl [H2]; · iexact H2
  isplitl [H3]; · iexact H3
  iexact H4

/-- The body the table names at a point. -/
theorem row (t : Fin cfg0.N) : defs₀ (F := F) .tc cfg0.body (cfg0.bodyArgs t (cfg0.slots t)) = bodyAt0 t := by
  unfold defs₀; rw [Defs.onTc_tc]

/-- What the library asks of the body, at every point. -/
theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- The whole program runs: the arrays end as the windows left them and every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The arrays alone. -/
theorem run_main : θ_run defs (onTc (τ := τ) (main (F := F))) (s₀ m ρ) (Pipeline.FramePost cfgs (dats m) 0 (V m)) :=
  (θ_run defs _ _).mono (fun _ h => h.1) (launched m ρ)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) (run_main m ρ)) ((θ_run defs _ _).mono (fun _ h => h.2) (launched m ρ))

end Cert.FwdIdeal.Body

end
-- ==== Proof.FwdBody.lean ====
/- Hand-written, untrusted: the attention's forward at the machine's own floats. Its program has the text of the one over the reals, whose run is proved over any floats. -/
module

public import proofs.«01_k».proof.Proof.FwdIdealBody
public import proofs.«01_k».proof.Proof.Gen.Fwd.Frame
public import Idealize.ShloMosaic.Lib.Tactic
public import Idealize.ShloMosaic.Lib.Claim

@[expose] public section

set_option maxRecDepth 16384

noncomputable section

namespace Cert.Fwd.Body

open Cert.Fwd Cert.Fwd.Gen
open Idealize.ShloMosaic Idealize.ShloMosaic.Tactic Idealize.ShloMosaic.TcCoe Idealize.SL.Sem

variable {F : FTy → Type} [FloatOps F]
variable (m : (ℓ : Loc nD τ sig) → Buf (Elt F) ℓ) (ρ : Dev nD → PrngReg)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Eq.mpr (by sl_kernel_rfl) (Cert.FwdIdeal.Body.frame m ρ)

end Cert.Fwd.Body

end
-- ==== Proof.Reals.lean ====
/- Hand-written, untrusted: extended reals that are real numbers — sums, the constants' values, and a precondition's
   `jnp.all(jnp.abs(x) < jnp.inf)` read back. -/
module

public import Idealize.ShloMosaic.PureOps.Ideal.Laws
public import Idealize.ShloMosaic.Lib.ReduceAll
public import Idealize.ShloMosaic.Lib.Pointwise

@[expose] public section

noncomputable section

open Idealize.ShloMosaic
open scoped BigOperators

namespace Cert.Reals

/-- A finite sum of real numbers, taken among the extended reals, is their real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a finite sum of extended reals. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- 1/2 as the f32 pattern of `0.5`. -/
theorem ofBits_half : Ideal.ofBits .f32 0x3F000000#32 = ((1 / 2 : ℝ) : EReal) := by
  simp [Ideal.ofBits, Ideal.ieee]; rw [← EReal.coe_mul]; norm_num

/-- 2 as an f32 pattern. -/
theorem ofBits_two : Ideal.ofBits .f32 0x40000000#32 = ((2 : ℝ) : EReal) := by
  simp [Ideal.ofBits, Ideal.ieee]; rw [← EReal.coe_mul]; norm_num

/-- 1024 as an f32 pattern. -/
theorem ofBits_1024 : Ideal.ofBits .f32 0x44800000#32 = ((1024 : ℝ) : EReal) := by
  simp [Ideal.ofBits, Ideal.ieee]; rw [← EReal.coe_mul]; norm_num

/-- 1/1024 as an f32 pattern. -/
theorem ofBits_inv1024 : Ideal.ofBits .f32 0x3A800000#32 = ((1 / 1024 : ℝ) : EReal) := by
  simp [Ideal.ofBits, Ideal.ieee]; rw [← EReal.coe_mul]; norm_num

/-- 64 as an f32 pattern. -/
theorem ofBits_64 : Ideal.ofBits .f32 0x42800000#32 = ((64 : ℝ) : EReal) := by
  simp [Ideal.ofBits, Ideal.ieee]; rw [← EReal.coe_mul]; norm_num

/-- 1/8 as an f32 pattern. -/
theorem ofBits_eighth : Ideal.ofBits .f32 0x3E000000#32 = ((1 / 8 : ℝ) : EReal) := by
  simp [Ideal.ofBits, Ideal.ieee]; rw [← EReal.coe_mul]; norm_num

/-- 1/8 as a bf16 pattern. -/
theorem ofBits_eighth_bf16 : Ideal.ofBits .bf16 0x3E00#16 = ((1 / 8 : ℝ) : EReal) := by
  simp [Ideal.ofBits, Ideal.ieee]; rw [← EReal.coe_mul]; norm_num

/-- The f32 pattern of `+inf`. -/
theorem ofBits_top : Ideal.ofBits .f32 0x7F800000#32 = ⊤ := by
  simp [Ideal.ofBits, Ideal.ieee]

/-- The f32 pattern of `-inf`. -/
theorem ofBits_bot : Ideal.ofBits .f32 0xFF800000#32 = ⊥ := by
  simp [Ideal.ofBits, Ideal.ieee]

/-- 2⁻²⁰ rounded to f32's `1e-6`. -/
def eps : ℝ := 8796093 / 8796093022208

/-- `1e-6` as an f32 pattern. -/
theorem ofBits_eps : Ideal.ofBits .f32 0x358637BD#32 = (eps : EReal) := by
  simp [Ideal.ofBits, Ideal.ieee, eps]; rw [← EReal.coe_mul]; norm_num

/-- -1/2 as an f32 pattern. -/
theorem ofBits_neg_half : Ideal.ofBits .f32 0xBF000000#32 = ((-1 / 2 : ℝ) : EReal) := by
  simp [Ideal.ofBits, Ideal.ieee]; rw [← EReal.coe_mul, ← EReal.coe_neg]; norm_num

/-- The mean square of a vector plus `eps`. -/
def ms {n : ℕ} (x : Fin n → ℝ) : ℝ := (∑ l, x l * x l) * (1 / n) + eps

theorem ms_pos {n : ℕ} (x : Fin n → ℝ) : 0 < ms x := by
  have h : 0 ≤ (∑ l, x l * x l) * (1 / (n : ℝ)) :=
    mul_nonneg (Finset.sum_nonneg fun l _ => mul_self_nonneg (x l)) (by positivity)
  have : (0 : ℝ) < eps := by norm_num [eps]
  unfold ms; linarith

/-- The reciprocal root mean square of a vector. -/
def inv {n : ℕ} (x : Fin n → ℝ) : ℝ := (Real.sqrt (ms x))⁻¹

theorem inv_mul_inv {n : ℕ} (x : Fin n → ℝ) : inv x * inv x = 1 / ms x := by
  unfold inv
  rw [← mul_inv, Real.mul_self_sqrt (ms_pos x).le, one_div]

theorem rsqrt_ms {n : ℕ} (x : Fin n → ℝ) : Ideal.rsqrt (ms x : EReal) = (inv x : EReal) := by
  rw [Ideal.rsqrt_coe, if_neg (not_lt.mpr (ms_pos x).le), if_neg (ms_pos x).ne']; rfl

theorem div_ms {n : ℕ} (a : EReal) (x : Fin n → ℝ) : Ideal.div a (ms x : EReal) = a * ((1 / ms x : ℝ) : EReal) :=
  Ideal.div_coe (ms_pos x).ne' a

/-- A mean square plus `eps` of 1024 real numbers, as computed. -/
theorem ms_1024 (x : Fin 1024 → ℝ) :
    Ideal.div (∑ l, (x l : EReal) * (x l : EReal)) (Ideal.ofBits .f32 0x44800000#32) + Ideal.ofBits .f32 0x358637BD#32
      = (ms x : EReal) := by
  rw [ofBits_1024, ofBits_eps, Ideal.div_coe (by norm_num)]
  simp only [← EReal.coe_mul, ← coe_sum, ← EReal.coe_add, ms]
  norm_num

/-- A mean square plus `eps` of 64 real numbers, as computed. -/
theorem ms_64 (x : Fin 64 → ℝ) :
    Ideal.div (∑ l, (x l : EReal) * (x l : EReal)) (Ideal.ofBits .f32 0x42800000#32) + Ideal.ofBits .f32 0x358637BD#32
      = (ms x : EReal) := by
  rw [ofBits_64, ofBits_eps, Ideal.div_coe (by norm_num)]
  simp only [← EReal.coe_mul, ← coe_sum, ← EReal.coe_add, ms]
  norm_num

/-- An array of extended reals all of whose entries are real numbers. -/
def Real {ι : Type} (x : ι → EReal) : Prop := ∃ r : ι → ℝ, x = fun i => (r i : EReal)

/-- The real numbers an array of extended reals stands for. -/
def re {ι : Type} (x : ι → EReal) : ι → ℝ := fun i => (x i).toReal

theorem re_coe {ι : Type} (x : ι → ℝ) : re (fun i => (x i : EReal)) = x := rfl

theorem Real.eq {ι : Type} {x : ι → EReal} (h : Real x) : x = fun i => (re x i : EReal) := by
  obtain ⟨r, rfl⟩ := h
  rfl

/-- An extended real whose absolute value is below `⊤` is a real number. -/
theorem coe_of_abs_lt (x : EReal) (h : max x (-x) < ⊤) : ((x.toReal : ℝ) : EReal) = x := by
  refine EReal.coe_toReal (fun e => ?_) fun e => ?_
  · rw [e] at h; simp at h
  · rw [e] at h; simp at h

/-- The comparison `|x| < inf` gives 1 only at a real number. -/
theorem coe_of_olt (x : EReal) (h : FloatOps.cmpf (F := Ideal) (φ := .f32) .olt (max x (-x)) (Ideal.ofBits .f32 0x7F800000#32) = 1#1) :
    ((x.toReal : ℝ) : EReal) = x := by
  rw [ofBits_top] at h
  change Ideal.cmp .olt _ _ = _ at h
  refine coe_of_abs_lt x ?_
  by_contra hn
  simp [Ideal.cmp, hn] at h

/-- An array whose `jnp.all(jnp.abs(x) < jnp.inf)` is true holds real numbers. -/
theorem real_of_all {s t : Shape} {axes : List (Fin s.rank)} [Subsingleton t.Idx] (x : FVec Ideal s .f32)
    (hb : (⟨0, ![]⟩ : Shape).BroadcastsInDim s ![]) (init : (⟨0, ![]⟩ : Shape).Idx → BitVec 1) (h : s.ReducesTo axes t)
    (hu : 0 < (⟨0, ![]⟩ : Shape).numel) (j : t.Idx)
    (e : Host.reduce IntOp.andi (cmpf .olt (Host.absf x) (broadcastInDim s ![] hb (constant (F := Ideal) ⟨0, ![]⟩ .f32 0x7F800000#32))) init h hu j = 1#1) :
    Real x :=
  ⟨fun i => (x i).toReal, funext fun i => (coe_of_olt (x i) (Host.reduce_andi_all _ init h hu j e i)).symm⟩

/-- A host sum along a one-row first axis and a one-column last. -/
theorem hostReduceAdd_a02 {n : ℕ} (h : (⟨3, ![1, n, 1]⟩ : Shape).ReducesTo [0, 2] ⟨1, ![n]⟩) (v : (⟨3, ![1, n, 1]⟩ : Shape).Idx → EReal) (z : EReal)
    (j : (⟨1, ![n]⟩ : Shape).Idx) : Ideal.hostReduceAdd h v z j = z + v (ix3 (0 : Fin 1) (j 0 : Fin n) (0 : Fin 1)) := by
  unfold Ideal.hostReduceAdd
  congr 1
  refine Finset.sum_eq_single_of_mem _ (Finset.mem_filter.mpr ⟨Finset.mem_univ _, ?_⟩) fun i hi hne => absurd ?_ hne
  · funext b; apply Fin.ext; match b with
      | ⟨0, _⟩ => rfl
  · have e := (Finset.mem_filter.mp hi).2
    funext a; apply Fin.ext; match a with
      | ⟨0, _⟩ => exact Nat.lt_one_iff.mp (i 0).isLt
      | ⟨1, _⟩ => exact congrArg Fin.val (congrFun e 0)
      | ⟨2, _⟩ => exact Nat.lt_one_iff.mp (i 2).isLt

/-- A host sum along two one-entry leading axes. -/
theorem hostReduceAdd_a01 {n : ℕ} (h : (⟨3, ![1, 1, n]⟩ : Shape).ReducesTo [0, 1] ⟨1, ![n]⟩) (v : (⟨3, ![1, 1, n]⟩ : Shape).Idx → EReal) (z : EReal)
    (j : (⟨1, ![n]⟩ : Shape).Idx) : Ideal.hostReduceAdd h v z j = z + v (ix3 (0 : Fin 1) (0 : Fin 1) (j 0 : Fin n)) := by
  unfold Ideal.hostReduceAdd
  congr 1
  refine Finset.sum_eq_single_of_mem _ (Finset.mem_filter.mpr ⟨Finset.mem_univ _, ?_⟩) fun i hi hne => absurd ?_ hne
  · funext b; apply Fin.ext; match b with
      | ⟨0, _⟩ => rfl
  · have e := (Finset.mem_filter.mp hi).2
    funext a; apply Fin.ext; match a with
      | ⟨0, _⟩ => exact Nat.lt_one_iff.mp (i 0).isLt
      | ⟨1, _⟩ => exact Nat.lt_one_iff.mp (i 1).isLt
      | ⟨2, _⟩ => exact congrArg Fin.val (congrFun e 0)

end Cert.Reals

end
-- ==== Proof.Loss.lean ====
/- Hand-written, untrusted: the loss head. Both programs compute half the sum over the rows of the mean square error, and
   the error divided by the row length; no argument needs to be finite. -/
module

public import proofs.«01_k».proof.Defs
public import proofs.«01_k».proof.Proof.Reals
public import proofs.«01_k».proof.Proof.Gen.LossIdeal.Value
public import proofs.«01_k».proof.Proof.Gen.LossRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LossIdeal.Value

open Cert.LossIdeal Cert.LossIdeal.Gen Cert.Reals

variable (m : (ℓ : Loc nD τ sig) → Buf (Elt Ideal) ℓ)

/-- The loss: half the sum over the rows of the mean over the row of the squared error. -/
def lossOf (y t : FVec Ideal S8192x1024 .f32) : FVec Ideal S1x1 .f32 := fun _ =>
  ((1 / 2 : ℝ) : EReal) * ∑ i : Fin 8192,
    (∑ l : Fin 1024, (y (ix2 i l) - t (ix2 i l)) * (y (ix2 i l) - t (ix2 i l))) * ((1 / 1024 : ℝ) : EReal)

/-- The loss's gradient: the error over the row length. -/
def gradOf (y t : FVec Ideal S8192x1024 .f32) : FVec Ideal S8192x1024 .f32 := fun j => (y j - t j) * ((1 / 1024 : ℝ) : EReal)

/-- Every window's block index, at every grid point. -/
theorem idx_val : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The first point clears the loss. -/
theorem hzero (j : S1x1.Idx) : k0_pay1 (F := Ideal) j = 0 := by pointwise! [k0_pay1]

/-- A point adds half of the sum, over its rows, of the mean squared errors. -/
theorem hpay (v3 v4 : Vec Ideal S512x1024 .f32) (v9 : Vec Ideal S1x1 .f32) (j : S1x1.Idx) :
    k0_pay4 v3 v4 v9 j = v9 j + ∑ i : Fin 512, ((1 / 2 : ℝ) : EReal) *
      ((∑ l : Fin 1024, (v3 (ix2 i l) - v4 (ix2 i l)) * (v3 (ix2 i l) - v4 (ix2 i l))) * ((1 / 1024 : ℝ) : EReal)) := by
  idx_vars j
  pointwise [k0_pay4, k0_pay2]
  simp only [ofBits_half, ofBits_1024, Ideal.div_coe (by norm_num : (1024 : ℝ) ≠ 0)]
  rw [mul_sum _ _ (by norm_num)]

/-- The loss array after the run. -/
theorem final_2 (c : Dev nD) : (dats m 0 c).arrAt 2 (cfgs 0).N
    = lossOf (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; rw [hpay, hzero])
    (fun t h j => by rw [outsAt0_B m c t h]; frame_out; rw [hpay])
    (le_of_eq N_0) t0_15 rfl j, zero_add]
  unfold lossOf
  rw [mul_sum _ _ (by norm_num)]
  refine Fin.sum_mul_add_congr fun s k hl => ?_
  blk_point [iblk, V, idx_val s]

/-- The gradient array after the run. -/
theorem final_3 (c : Dev nD) : (dats m 0 c).arrAt 3 (cfgs 0).N
    = gradOf (m ((c : Thread nD τ).loc main_arg0)) (m ((c : Thread nD τ).loc main_arg1)) := by
  refine (dats m 0 c).arrAt_eq_of_covers 3 _ (by decide +kernel) fun t hf y => ?_
  blk_simp; rw [after0_3]
  by_cases h : t.val % 16 = 0
  · rw [outsAt0_A m c t h]; frame_out
    pointwise [k0_pay3, k0_pay2, gradOf]
    rw [ofBits_inv1024]
    blk_point [iblk, V, idx_val t]
  · rw [outsAt0_B m c t h]; frame_out
    pointwise [k0_pay3, k0_pay2, gradOf]
    rw [ofBits_inv1024]
    blk_point [iblk, V, idx_val t]

/-- The reference's two results are the same two functions of its arguments. -/
theorem ref_run (m' : (ℓ : Loc Cert.LossRefIdeal.nD Cert.LossRefIdeal.τ Cert.LossRefIdeal.sig) → Buf (Elt Ideal) ℓ)
    (g : Dev Cert.LossRefIdeal.nD → PrngReg) :
    θ_run (Cert.LossRefIdeal.defs (F := Ideal)) (onTc (τ := Cert.LossRefIdeal.τ) (Cert.LossRefIdeal.main (F := Ideal)))
      ⟨m', fun _ => 0, g⟩ fun r => ∀ c : Dev Cert.LossRefIdeal.nD,
      r.2.mem ((c.tc : Thread Cert.LossRefIdeal.nD Cert.LossRefIdeal.τ).loc Cert.LossRefIdeal.main_v9)
        = lossOf (m' ((c.tc : Thread Cert.LossRefIdeal.nD Cert.LossRefIdeal.τ).loc Cert.LossRefIdeal.main_arg0))
            (m' ((c.tc : Thread Cert.LossRefIdeal.nD Cert.LossRefIdeal.τ).loc Cert.LossRefIdeal.main_arg1))
      ∧ r.2.mem ((c.tc : Thread Cert.LossRefIdeal.nD Cert.LossRefIdeal.τ).loc Cert.LossRefIdeal.main_v15)
        = gradOf (m' ((c.tc : Thread Cert.LossRefIdeal.nD Cert.LossRefIdeal.τ).loc Cert.LossRefIdeal.main_arg0))
            (m' ((c.tc : Thread Cert.LossRefIdeal.nD Cert.LossRefIdeal.τ).loc Cert.LossRefIdeal.main_arg1))
      ∧ r.2.mem ((c.tc : Thread Cert.LossRefIdeal.nD Cert.LossRefIdeal.τ).loc Cert.LossRefIdeal.main_arg0)
        = m' ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1)
        = m' ((c.tc : Thread Cert.LossRefIdeal.nD Cert.LossRefIdeal.τ).loc Cert.LossRefIdeal.main_arg1) := by
  refine (θ_run Cert.LossRefIdeal.defs _ _).mono (fun r h c => ?_) (Cert.LossRefIdeal.Value.run m' g)
  obtain ⟨h1, h2, h3, h4⟩ := h c
  refine ⟨h1.trans ?_, h2.trans ?_, h3, h4⟩
  · generalize m' ((c.tc : Thread Cert.LossRefIdeal.nD Cert.LossRefIdeal.τ).loc Cert.LossRefIdeal.main_arg0) = y
    generalize m' ((c.tc : Thread Cert.LossRefIdeal.nD Cert.LossRefIdeal.τ).loc Cert.LossRefIdeal.main_arg1) = t
    funext j
    pointwise [lossOf]
    simp only [ofBits_half, ofBits_1024, Ideal.div_coe (by norm_num : (1024 : ℝ) ≠ 0)]
  · generalize m' ((c.tc : Thread Cert.LossRefIdeal.nD Cert.LossRefIdeal.τ).loc Cert.LossRefIdeal.main_arg0) = y
    generalize m' ((c.tc : Thread Cert.LossRefIdeal.nD Cert.LossRefIdeal.τ).loc Cert.LossRefIdeal.main_arg1) = t
    funext j
    pointwise [gradOf]
    rw [ofBits_half, ofBits_1024, ofBits_two, Ideal.div_coe (by norm_num : (1024 : ℝ) ≠ 0), ← mul_assoc, ← EReal.coe_mul,
      ← EReal.coe_mul, mul_comm]
    norm_num

/-- The loss head and its reference end with equal results. -/
theorem algebraic : Cert.algebraic_LossIdeal_LossRefIdeal := by
  pair_intro
  · run_from Cert.LossIdeal.Gen.run_main m g
  · run_from ref_run m' g'
    · exact (final_2 m c).symm
    · exact (final_3 m c).symm

end Cert.LossIdeal.Value

end
-- ==== Proof.Pieces.lean ====
/- Hand-written, untrusted: what a list of writes to a whole buffer leaves, at one index, where a later write may cover an
   earlier one. -/
module

public import Idealize.ShloMosaic.Lib.Pipeline.ValueKit
public import Idealize.ShloMosaic.Lib.Pointwise

@[expose] public section

noncomputable section

open Idealize.ShloMosaic

namespace Cert.Pieces

variable {Val : EltTy → Type} {s : Shape} {e : EltTy} [∀ e, Nonempty (Val e)]

/-- The last write at an index it covers. -/
theorem canon_hit {off sz : Fin s.rank → ℕ} {inb} (w : (Rect.unit off sz inb).shape.Idx → Val e) (L : List (View.Piece Val s e))
    (y : s.Idx) (x : (Rect.unit off sz inb).shape.Idx) (h : ∀ a, (y a : ℕ) = off a + (x a : ℕ)) :
    View.canon (⟨Rect.unit off sz inb, w⟩ :: L) y = w x := by
  have e : (Rect.unit off sz inb).emb x = y := funext fun a => Fin.ext (by
    rw [h a]; simp [Rect.emb_apply])
  rw [← e]; exact View.canon_cons_emb _ w L x

/-- The last write does not matter at an index it does not cover. -/
theorem canon_miss {off sz : Fin s.rank → ℕ} {inb} (w : (Rect.unit off sz inb).shape.Idx → Val e) (L : List (View.Piece Val s e))
    (y : s.Idx) (a : Fin s.rank) (h : (y a : ℕ) < off a ∨ off a + sz a ≤ (y a : ℕ)) :
    View.canon (⟨Rect.unit off sz inb, w⟩ :: L) y = View.canon L y :=
  View.canon_cons_of_not_mem _ L fun hm => by
    have := (Rect.mem_set_unit (inb := inb)).mp hm a
    omega

/-- A load after a list of writes. -/
theorem readCov_hit {sig : RefSig} {κ : Kind} {sp : Space} (v : View sig κ sp s e) (L : List (View.Piece Val s e))
    {off sz : Fin s.rank → ℕ} {inb} (x : (Rect.unit off sz inb).shape.Idx) (y : s.Idx) (h : ∀ a, (y a : ℕ) = off a + (x a : ℕ)) :
    v.readCov L (Rect.unit off sz inb).toLoadRect x = View.canon L y := by
  have e : (Rect.unit off sz inb).toLoadRect.idx x = y := funext fun a => Fin.ext (by
    rw [h a]; simp [LoadRect.idx])
  rw [View.readCov_eq_canon', ← e]

section rows

variable {n : ℕ} {sig : RefSig} {κ : Kind} {sp : Space}

/-- Two rows written one after the other. -/
theorem canon_rows {i0 : ∀ b, (![0, 0] : Fin 2 → ℕ) b + (![1, n] : Fin 2 → ℕ) b ≤ (⟨2, ![2, n]⟩ : Shape).size b} {i1 : ∀ b, (![1, 0] : Fin 2 → ℕ) b + (![1, n] : Fin 2 → ℕ) b ≤ (⟨2, ![2, n]⟩ : Shape).size b} (p0 : (Rect.unit (s := (⟨2, ![2, n]⟩ : Shape)) ![0, 0] ![1, n] i0).shape.Idx → Val e)
    (p1 : (Rect.unit (s := (⟨2, ![2, n]⟩ : Shape)) ![1, 0] ![1, n] i1).shape.Idx → Val e) (L : List (View.Piece Val (⟨2, ![2, n]⟩ : Shape) e))
    (j : (⟨2, ![2, n]⟩ : Shape).Idx) :
    View.canon (⟨Rect.unit ![1, 0] ![1, n] i1, p1⟩ :: ⟨Rect.unit ![0, 0] ![1, n] i0, p0⟩ :: L) j
      = if (j 0).val = 0 then p0 (ix2 (0 : Fin 1) (j 1 : Fin n)) else p1 (ix2 (0 : Fin 1) (j 1 : Fin n)) := by
  have h2 : (j 0).val < 2 := (j 0).isLt
  by_cases h : (j 0).val = 0
  · rw [if_pos h, canon_miss p1 _ j 0 (Or.inl (by rw [h]; exact Nat.one_pos)), canon_hit p0 L j (ix2 (0 : Fin 1) (j 1 : Fin n))]
    intro a; fin_cases a
    · exact h
    · exact (Nat.zero_add _).symm
  · rw [if_neg h, canon_hit p1 _ j (ix2 (0 : Fin 1) (j 1 : Fin n))]
    intro a; fin_cases a
    · change (j 0).val = 1 + 0; omega
    · exact (Nat.zero_add _).symm

/-- Two planes written one after the other. -/
theorem canon_planes {k : ℕ} {i0 : ∀ b, (![0, 0, 0] : Fin 3 → ℕ) b + (![1, n, k] : Fin 3 → ℕ) b ≤ (⟨3, ![2, n, k]⟩ : Shape).size b} {i1 : ∀ b, (![1, 0, 0] : Fin 3 → ℕ) b + (![1, n, k] : Fin 3 → ℕ) b ≤ (⟨3, ![2, n, k]⟩ : Shape).size b} (p0 : (Rect.unit (s := (⟨3, ![2, n, k]⟩ : Shape)) ![0, 0, 0] ![1, n, k] i0).shape.Idx → Val e)
    (p1 : (Rect.unit (s := (⟨3, ![2, n, k]⟩ : Shape)) ![1, 0, 0] ![1, n, k] i1).shape.Idx → Val e) (L : List (View.Piece Val (⟨3, ![2, n, k]⟩ : Shape) e))
    (j : (⟨3, ![2, n, k]⟩ : Shape).Idx) :
    View.canon (⟨Rect.unit ![1, 0, 0] ![1, n, k] i1, p1⟩ :: ⟨Rect.unit ![0, 0, 0] ![1, n, k] i0, p0⟩ :: L) j
      = if (j 0).val = 0 then p0 (ix3 (0 : Fin 1) (j 1 : Fin n) (j 2 : Fin k)) else p1 (ix3 (0 : Fin 1) (j 1 : Fin n) (j 2 : Fin k)) := by
  have h2 : (j 0).val < 2 := (j 0).isLt
  by_cases h : (j 0).val = 0
  · rw [if_pos h, canon_miss p1 _ j 0 (Or.inl (by rw [h]; exact Nat.one_pos)), canon_hit p0 L j (ix3 (0 : Fin 1) (j 1 : Fin n) (j 2 : Fin k))]
    intro a; fin_cases a
    · exact h
    · exact (Nat.zero_add _).symm
    · exact (Nat.zero_add _).symm
  · rw [if_neg h, canon_hit p1 _ j (ix3 (0 : Fin 1) (j 1 : Fin n) (j 2 : Fin k))]
    intro a; fin_cases a
    · change (j 0).val = 1 + 0; omega
    · exact (Nat.zero_add _).symm
    · exact (Nat.zero_add _).symm

/-- A load of one row after a write of the whole. -/
theorem readCov_row {iz : ∀ b, (![0, 0] : Fin 2 → ℕ) b + (![2, n] : Fin 2 → ℕ) b ≤ (⟨2, ![2, n]⟩ : Shape).size b} (a : ℕ) (ha : a < 2) {i : ∀ b, (![a, 0] : Fin 2 → ℕ) b + (![1, n] : Fin 2 → ℕ) b ≤ (⟨2, ![2, n]⟩ : Shape).size b} (v : View sig κ sp (⟨2, ![2, n]⟩ : Shape) e) (z : (Rect.unit (s := (⟨2, ![2, n]⟩ : Shape)) ![0, 0] ![2, n] iz).shape.Idx → Val e) :
    v.readCov [⟨Rect.unit ![0, 0] ![2, n] iz, z⟩] (Rect.unit (s := (⟨2, ![2, n]⟩ : Shape)) ![a, 0] ![1, n] i).toLoadRect
      = fun y => z (ix2 (⟨a, ha⟩ : Fin 2) ((y 1 : Fin n) : Fin n)) := by
  funext y
  have hy : (y 0).val < 1 := (y 0).isLt
  rw [readCov_hit v _ y (ix2 (⟨a, ha⟩ : Fin 2) (y 1 : Fin n)), canon_hit z [] _ (ix2 (⟨a, ha⟩ : Fin 2) (y 1 : Fin n))]
  · intro b; fin_cases b <;> exact (Nat.zero_add _).symm
  · intro b; fin_cases b
    · change a = a + (y 0).val; omega
    · exact (Nat.zero_add _).symm

/-- A load of the second row does not see a write of the first. -/
theorem readCov_over {i : ∀ b, (![1, 0] : Fin 2 → ℕ) b + (![1, n] : Fin 2 → ℕ) b ≤ (⟨2, ![2, n]⟩ : Shape).size b} {i0 : ∀ b, (![0, 0] : Fin 2 → ℕ) b + (![1, n] : Fin 2 → ℕ) b ≤ (⟨2, ![2, n]⟩ : Shape).size b} (v : View sig κ sp (⟨2, ![2, n]⟩ : Shape) e) (w : (Rect.unit (s := (⟨2, ![2, n]⟩ : Shape)) ![0, 0] ![1, n] i0).shape.Idx → Val e)
    (L : List (View.Piece Val (⟨2, ![2, n]⟩ : Shape) e)) :
    v.readCov (⟨Rect.unit ![0, 0] ![1, n] i0, w⟩ :: L) (Rect.unit (s := (⟨2, ![2, n]⟩ : Shape)) ![1, 0] ![1, n] i).toLoadRect
      = v.readCov L (Rect.unit (s := (⟨2, ![2, n]⟩ : Shape)) ![1, 0] ![1, n] i).toLoadRect := by
  rw [View.readCov_eq_canon', View.readCov_eq_canon']
  funext y
  refine canon_miss w L _ 0 (Or.inr ?_)
  change 0 + 1 ≤ 1 + 1 * (y 0).val
  omega

end rows

end Cert.Pieces

end
-- ==== Proof.Norm.lean ====
/- Hand-written, untrusted: the gradient of the modulated root-mean-square norm. The kernel's closed form and the chain rule
   of the reference agree at real arguments. -/
module

public import proofs.«01_k».proof.Defs
public import proofs.«01_k».proof.Proof.Reals
public import proofs.«01_k».proof.Proof.Pieces
public import proofs.«01_k».proof.Proof.Gen.NormIdeal.Value
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.NormIdeal.Value

open Cert.NormIdeal Cert.NormIdeal.Gen Cert.Reals Cert.Pieces

variable (m : (ℓ : Loc nD τ sig) → Buf (Elt Ideal) ℓ)

/-- Every window's block index, at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0]
    ∧ win0_7.index t = ![0, 0] :=
  (by decide +kernel : ∀ t : Fin grid0.N, _)

/-- The rows of the latents followed by those of the contexts. -/
def cat (x : S8192x1024.Idx → ℝ) (k : S256x1024.Idx → ℝ) (i : Fin 8448) (l : Fin 1024) : ℝ :=
  if h : i.val < 8192 then x (ix2 ⟨i.val, h⟩ l) else k (ix2 ⟨i.val - 8192, by omega⟩ l)

/-- The scale of the latents and that of the contexts. -/
def two (sc : S1x1x1024.Idx → ℝ) (csc : S1024.Idx → ℝ) (s : Fin 2) (l : Fin 1024) : ℝ :=
  if s.val < 1 then sc (ix3 0 0 l) else csc (ix1 l)

/-- Which of the two gains a row takes: 0 for a latent, 1 for a context. -/
def seg (i : Fin 8448) : Fin 2 := if i.val < 8192 then 0 else 1

/-- The row of the array that is row `r` of block `t`. -/
def row (t : Fin cfg0.N) (r : Fin 768) : Fin 8448 :=
  ⟨t.val * 768 + r.val, by have := t.isLt; have : cfg0.N = 11 := N_0; omega⟩

/-- One row of the norm's gradient in its input: `x` the input, `d` the cotangent, `g` the gain, `s` the scale. -/
def dxRow (x d g s : Fin 1024 → ℝ) (l : Fin 1024) : ℝ :=
  inv x * (d l * (1 + s l) * g l - x l * inv x * ((∑ k, d k * (1 + s k) * g k * (x k * inv x)) * (1 / 1024)))

/-- The array index of an index of the input's block. -/
theorem emb0 (t : Fin cfg0.N) (y) : ((View.whole main_v0).slice (win0_0.rect t)).emb y = ix2 (row t (y 0)) (y 1) := by
  blk_ext [idx_val t, row]

/-- The array index of an index of the gain's block. -/
theorem emb1 (t : Fin cfg0.N) (y) : ((View.whole main_v7).slice (win0_1.rect t)).emb y = ix2 (y 0) (y 1) := by
  blk_ext [idx_val t]

/-- The array index of an index of the scale's block. -/
theorem emb2 (t : Fin cfg0.N) (y) : ((View.whole main_v4).slice (win0_2.rect t)).emb y = ix2 (y 0) (y 1) := by
  blk_ext [idx_val t]

/-- The array index of an index of the cotangent's block. -/
theorem emb3 (t : Fin cfg0.N) (y) : ((View.whole main_v6).slice (win0_3.rect t)).emb y = ix2 (row t (y 0)) (y 1) := by
  blk_ext [idx_val t, row]

/-- The selected scale. -/
theorem two_seg (sc : S1x1x1024.Idx → ℝ) (csc : S1024.Idx → ℝ) (i : Fin 8448) (l : Fin 1024) :
    (if 8192 ≤ i.val then (two sc csc 1 l : EReal) else (two sc csc 0 l : EReal)) = (two sc csc (seg i) l : EReal) := by
  unfold seg
  by_cases h : 8192 ≤ i.val
  · rw [if_pos h, if_neg (not_lt.mpr h)]
  · rw [if_neg h, if_pos (not_le.mp h)]

/-- The sum of a quantity over the rows of a block that take gain `s`. -/
def part (F : Fin 8448 → ℝ) (s : Fin 2) (t : Fin cfg0.N) : ℝ := ∑ r : Fin 768, if seg (row t r) = s then F (row t r) else 0

/-- The sum over a block's context rows. -/
theorem ctx_part (F : Fin 8448 → ℝ) (t : Fin cfg0.N) :
    (∑ r : Fin 768, if 8192 ≤ (row t r).val then (F (row t r) : EReal) else 0) = (part F 1 t : EReal) := by
  rw [part, coe_sum]
  refine Finset.sum_congr rfl fun r _ => ?_
  unfold seg
  by_cases h : 8192 ≤ (row t r).val
  · rw [if_pos h, if_neg (not_lt.mpr h), if_pos rfl]
  · rw [if_neg h, if_pos (not_le.mp h), if_neg (by decide)]; rfl

/-- The sum over a block's latent rows, as the kernel takes it: all less the context rows. -/
theorem lat_part (F : Fin 8448 → ℝ) (t : Fin cfg0.N) :
    (∑ r : Fin 768, (F (row t r) : EReal)) - (∑ r : Fin 768, if 8192 ≤ (row t r).val then (F (row t r) : EReal) else 0)
      = (part F 0 t : EReal) := by
  rw [ctx_part, ← coe_sum, ← EReal.coe_sub, part, part, ← Finset.sum_sub_distrib]
  congr 1
  refine Finset.sum_congr rfl fun r _ => ?_
  unfold seg
  by_cases h : (row t r).val < 8192
  · rw [if_pos h, if_neg (by decide), if_pos rfl, sub_zero]
  · rw [if_neg h, if_pos rfl, if_neg (by decide), sub_self]

/-- The sum of a quantity over all rows that take gain `s`. -/
def sel (F : Fin 8448 → ℝ) (s : Fin 2) : ℝ := ∑ i, if seg i = s then F i else 0

/-- The parts of all blocks are the sum over all rows. -/
theorem sum_part (F : Fin 8448 → ℝ) (s : Fin 2) : (∑ t : Fin cfg0.N, (part F s t : EReal)) = (sel F s : EReal) := by
  rw [← coe_sum, sel]
  congr 1
  refine Fin.sum_mul_add_congr fun t r hl => ?_
  have e : row t r = ⟨t.val * 768 + r.val, hl⟩ := rfl
  rw [e]

section blocks

variable {m} {x : S8192x1024.Idx → ℝ} {k : S256x1024.Idx → ℝ} {g : S1024.Idx → ℝ} {sc : S1x1x1024.Idx → ℝ} {csc : S1024.Idx → ℝ}
  {dy : S8192x1024.Idx → ℝ} {dk : S256x1024.Idx → ℝ} {c : Dev nD}

/-- A row of the concatenation, read at real arguments. -/
theorem cat_at (x : S8192x1024.Idx → ℝ) (k : S256x1024.Idx → ℝ) (i : Fin 8448) (l : Fin 1024) :
    (if h : i.val < 8192 then (x (ix2 ⟨i.val, h⟩ l) : EReal) else (k (ix2 ⟨i.val - 8192, by omega⟩ l) : EReal)) = (cat x k i l : EReal) := by
  unfold cat; split <;> rfl

/-- The input's block at a point. -/
theorem blk0 (h0 : m ((c : Thread nD τ).loc main_arg0) = fun i => (x i : EReal))
    (h1 : m ((c : Thread nD τ).loc main_arg1) = fun i => (k i : EReal)) (t : Fin cfg0.N) :
    (iblk m c 0 t : FVec Ideal S768x1024 .f32) = fun y => (cat x k (row t (y 0)) (y 1) : EReal) := by
  funext y
  blk_simp [iblk, idx_val t]
  entry_read
  pointwise
  rw [emb0, h0, h1]
  exact cat_at x k _ _

/-- The gain's block at a point. -/
theorem blk1 (h2 : m ((c : Thread nD τ).loc main_arg2) = fun i => (g i : EReal)) (t : Fin cfg0.N) :
    (iblk m c 1 t : FVec Ideal S1x1024 .f32) = fun y => (g (ix1 (y 1)) : EReal) := by
  funext y
  blk_simp [iblk, idx_val t]
  entry_read
  pointwise
  rw [emb1, h2]
  rfl

/-- The scale's block at a point. -/
theorem blk2 (h3 : m ((c : Thread nD τ).loc main_arg3) = fun i => (sc i : EReal))
    (h4 : m ((c : Thread nD τ).loc main_arg4) = fun i => (csc i : EReal)) (t : Fin cfg0.N) :
    (iblk m c 2 t : FVec Ideal S2x1024 .f32) = fun y => (two sc csc (y 0) (y 1) : EReal) := by
  funext y
  blk_simp [iblk, idx_val t]
  entry_read
  pointwise
  rw [emb2, h3, h4]
  unfold two
  change (if (y 0).val < 1 then (sc (ix3 0 0 (y 1)) : EReal) else (csc (ix1 (y 1)) : EReal)) = _
  by_cases h : (y 0).val < 1
  · rw [if_pos h, if_pos h]
  · rw [if_neg h, if_neg h]

/-- The cotangent's block at a point. -/
theorem blk3 (h5 : m ((c : Thread nD τ).loc main_arg5) = fun i => (dy i : EReal))
    (h6 : m ((c : Thread nD τ).loc main_arg6) = fun i => (dk i : EReal)) (t : Fin cfg0.N) :
    (iblk m c 3 t : FVec Ideal S768x1024 .bf16) = fun y => (cat dy dk (row t (y 0)) (y 1) : EReal) := by
  funext y
  blk_simp [iblk, idx_val t]
  entry_read
  pointwise
  rw [emb3, h5, h6]
  exact cat_at dy dk _ _

end blocks

/-- The mask of the context rows. -/
theorem ctx_at (t : Fin cfg0.N) (r : Fin 768) (a : Fin 1) : k0_pay4 (grid0.coords t) (ix2 r a) = if 8192 ≤ (row t r).val then 1#1 else 0#1 := by
  pointwise [k0_pay4]
  have e : (grid0.coords t 0).val = t.val := (by decide +kernel : ∀ t : Fin grid0.N, (grid0.coords t 0).val = t.val) t
  have ht : t.val < 11 := lt_of_lt_of_eq t.isLt N_0
  have hr : ((row t r).val : ℕ) = t.val * 768 + r.val := rfl
  rw [e, hr]
  have : (IntOp.addi (Scalar.muli (BitVec.ofNat 32 t.val) 768#32) (BitVec.ofNat 32 r.val)) = BitVec.ofNat 32 (t.val * 768 + r.val) := by
    simp [IntOp.addi, Scalar.muli, IntOp.muli, BitVec.ofNat_add, BitVec.ofNat_mul]
  rw [this]
  simp only [IntOp.cmpi, BitVec.sle, BitVec.toInt_eq_toNat_cond, BitVec.toNat_ofNat]
  have h1 : (t.val * 768 + r.val) % 2 ^ 32 = t.val * 768 + r.val := Nat.mod_eq_of_lt (by omega)
  rw [h1, if_pos (by norm_num), if_pos (by omega)]
  by_cases h : 8192 ≤ t.val * 768 + r.val
  · rw [if_pos h, decide_eq_true (by exact_mod_cast h)]; rfl
  · rw [if_neg h, decide_eq_false (by exact_mod_cast h)]; rfl

/-- A selection on a mask given as a condition. -/
theorem select_ite {α : Type} (p : Prop) [Decidable p] (a b : α) : Scalar.select (if p then 1#1 else 0#1) a b = if p then a else b := by
  by_cases h : p <;> simp [h, Scalar.select]

section values

variable {m} {x : S8192x1024.Idx → ℝ} {k : S256x1024.Idx → ℝ} {g : S1024.Idx → ℝ} {sc : S1x1x1024.Idx → ℝ} {csc : S1024.Idx → ℝ}
  {dy : S8192x1024.Idx → ℝ} {dk : S256x1024.Idx → ℝ} {c : Dev nD}
  (h0 : m ((c : Thread nD τ).loc main_arg0) = fun i => (x i : EReal))
  (h1 : m ((c : Thread nD τ).loc main_arg1) = fun i => (k i : EReal))
  (h2 : m ((c : Thread nD τ).loc main_arg2) = fun i => (g i : EReal))
  (h3 : m ((c : Thread nD τ).loc main_arg3) = fun i => (sc i : EReal))
  (h4 : m ((c : Thread nD τ).loc main_arg4) = fun i => (csc i : EReal))
  (h5 : m ((c : Thread nD τ).loc main_arg5) = fun i => (dy i : EReal))
  (h6 : m ((c : Thread nD τ).loc main_arg6) = fun i => (dk i : EReal))

include h0 h1 h2 h5 h6 in
/-- The body's input gradient at one index of its block. -/
theorem pay3_at (t : Fin cfg0.N) (s1 s0 : FVec Ideal S1x1024 .f32) (r : Fin 768) (l : Fin 1024)
    (e1 : ∀ l, s1 (ix2 0 l) = (two sc csc 1 l : EReal)) (e0 : ∀ l, s0 (ix2 0 l) = (two sc csc 0 l : EReal)) :
    k0_pay3 (F := Ideal) (k0_pay9 (iblk m c 3 t)) (k0_pay10 (iblk m c 1 t)) (k0_pay11 (iblk m c 0 t)) (k0_pay12 (iblk m c 0 t))
      (k0_pay22 (k0_pay4 (grid0.coords t)) s1 s0) (FloatOps.ofBits FTy.f32 0x3F800000#32) (ix2 r l)
      = (dxRow (cat x k (row t r)) (cat dy dk (row t r)) (fun l => g (ix1 l)) (two sc csc (seg (row t r))) l : EReal) := by
  rw [blk0 h0 h1, blk1 h2, blk3 h5 h6]
  pointwise [k0_pay3, k0_pay1, k0_pay9, k0_pay8, k0_pay11, k0_pay10, k0_pay12, k0_pay22]
  simp only [ctx_at, select_ite, e1, e0, two_seg, ms_1024, rsqrt_ms]
  simp only [ ofBits_1024, Ideal.div_coe (by norm_num : (1024 : ℝ) ≠ 0), ← EReal.coe_one, ← EReal.coe_mul, ← EReal.coe_add,
    ← EReal.coe_sub, ← coe_sum, dxRow]

/-- The gain's gradient, one row's term. -/
def dgRow (x dy : S8192x1024.Idx → ℝ) (k dk : S256x1024.Idx → ℝ) (sc : S1x1x1024.Idx → ℝ) (csc : S1024.Idx → ℝ) (l : Fin 1024) (i : Fin 8448) : ℝ :=
  cat dy dk i l * (1 + two sc csc (seg i) l) * (cat x k i l * inv (cat x k i))

/-- The scale's gradient, one row's term. -/
def dsRow (x dy : S8192x1024.Idx → ℝ) (k dk : S256x1024.Idx → ℝ) (g : S1024.Idx → ℝ) (l : Fin 1024) (i : Fin 8448) : ℝ :=
  cat dy dk i l * (cat x k i l * inv (cat x k i) * g (ix1 l))

include h0 h1 h5 h6 in
/-- A point adds its rows' terms to the gain's gradient. -/
theorem pay2_at (t : Fin cfg0.N) (s1 s0 v : FVec Ideal S1x1024 .f32) (j : S1x1024.Idx)
    (e1 : ∀ l, s1 (ix2 0 l) = (two sc csc 1 l : EReal)) (e0 : ∀ l, s0 (ix2 0 l) = (two sc csc 0 l : EReal)) :
    k0_pay2 (F := Ideal) (k0_pay9 (iblk m c 3 t)) (k0_pay12 (iblk m c 0 t)) (k0_pay22 (k0_pay4 (grid0.coords t)) s1 s0)
      (FloatOps.ofBits FTy.f32 0x3F800000#32) v j = v j + ((∑ r : Fin 768, dgRow x dy k dk sc csc (j 1) (row t r) : ℝ) : EReal) := by
  rw [blk0 h0 h1, blk3 h5 h6]
  idx_vars j
  pointwise [k0_pay2, k0_pay1, k0_pay9, k0_pay8, k0_pay11, k0_pay12, k0_pay22]
  simp only [ctx_at, select_ite, e1, e0, two_seg, ms_1024, rsqrt_ms]
  simp only [ ← EReal.coe_one, ← EReal.coe_mul, ← EReal.coe_add, ← coe_sum, dgRow]

include h5 h6 in
/-- A point adds its latent rows' cotangents to the first row of the shift's gradient, -/
theorem pay16_at (t : Fin cfg0.N) (j : S1x1024.Idx) :
    k0_pay16 (F := Ideal) (grid0.coords t) (iblk m c 3 t) j = (part (fun i => cat dy dk i (j 1)) 0 t : EReal) := by
  rw [blk3 h5 h6]
  pointwise [k0_pay16, k0_pay14, k0_pay9]
  simp only [ctx_at, select_ite]
  exact lat_part (fun i => cat dy dk i (j 1)) t

include h5 h6 in
/-- and its context rows' to the second. -/
theorem pay14_at (t : Fin cfg0.N) (j : S1x1024.Idx) :
    k0_pay14 (F := Ideal) (grid0.coords t) (iblk m c 3 t) j = (part (fun i => cat dy dk i (j 1)) 1 t : EReal) := by
  rw [blk3 h5 h6]
  pointwise [k0_pay14, k0_pay9]
  simp only [ctx_at, select_ite]
  exact ctx_part (fun i => cat dy dk i (j 1)) t

include h0 h1 h2 h5 h6 in
/-- The product of the cotangent and the normalised, gained input. -/
theorem pay13_at (t : Fin cfg0.N) (r : Fin 768) (l : Fin 1024) :
    k0_pay13 (F := Ideal) (iblk m c 0 t) (iblk m c 3 t) (iblk m c 1 t) (ix2 r l) = (dsRow x dy k dk g l (row t r) : EReal) := by
  rw [blk0 h0 h1, blk1 h2, blk3 h5 h6]
  pointwise [k0_pay13, k0_pay9, k0_pay8, k0_pay11, k0_pay10, k0_pay12]
  simp only [ms_1024, rsqrt_ms]
  simp only [← EReal.coe_mul, dsRow]

include h0 h1 h2 h5 h6 in
/-- A point adds its latent rows' terms to the first row of the scale's gradient, -/
theorem pay20_at (t : Fin cfg0.N) (v : FVec Ideal S1x1024 .f32) (j : S1x1024.Idx) :
    k0_pay20 (F := Ideal) (k0_pay4 (grid0.coords t)) (k0_pay13 (iblk m c 0 t) (iblk m c 3 t) (iblk m c 1 t)) v j
      = v j + (part (dsRow x dy k dk g (j 1)) 0 t : EReal) := by
  idx_vars j
  pointwise [k0_pay20, k0_pay19]
  simp only [ctx_at, select_ite, pay13_at h0 h1 h2 h5 h6]
  rw [lat_part (dsRow x dy k dk g _)]

include h0 h1 h2 h5 h6 in
/-- and its context rows' to the second. -/
theorem pay21_at (t : Fin cfg0.N) (v : FVec Ideal S1x1024 .f32) (j : S1x1024.Idx) :
    k0_pay21 (F := Ideal) (k0_pay4 (grid0.coords t)) (k0_pay13 (iblk m c 0 t) (iblk m c 3 t) (iblk m c 1 t)) v j
      = v j + (part (dsRow x dy k dk g (j 1)) 1 t : EReal) := by
  idx_vars j
  pointwise [k0_pay21, k0_pay19]
  simp only [ctx_at, select_ite, pay13_at h0 h1 h2 h5 h6]
  rw [ctx_part (dsRow x dy k dk g _)]

include h0 h1 h2 h3 h4 h5 h6 in
/-- The input's gradient after the run. -/
theorem final_4 : (dats m 0 c).arrAt 4 (cfgs 0).N = (fun j => (dxRow (cat x k (j 0)) (cat dy dk (j 0)) (fun l => g (ix1 l)) (two sc csc (seg (j 0))) (j 1) : EReal) : FVec Ideal S8448x1024 .f32) := by
  refine (dats m 0 c).arrAt_eq_of_covers 4 _ (by decide +kernel) fun t hf y => ?_
  blk_simp; rw [after0_4]
  have e : ((View.whole main_v8_0).slice (win0_4.rect t)).emb y = ix2 (row t (y 0)) (y 1) := by blk_ext [idx_val t, row]
  have ey : y = ix2 (y 0 : Fin 768) (y 1 : Fin 1024) := by funext a; fin_cases a <;> rfl
  rw [e, ey]
  by_cases h : t.val % 11 = 0
  · rw [outsAt0_A m c t h]; frame_out
    refine pay3_at h0 h1 h2 h5 h6 t _ _ _ _ (fun l => ?_) fun l => ?_ <;> rw [blk2 h3 h4] <;> pointwise
  · rw [outsAt0_B m c t h]; frame_out
    refine pay3_at h0 h1 h2 h5 h6 t _ _ _ _ (fun l => ?_) fun l => ?_ <;> rw [blk2 h3 h4] <;> pointwise

include h0 h1 h3 h4 h5 h6 in
/-- The gain's gradient after the run. -/
theorem final_5 : (dats m 0 c).arrAt 5 (cfgs 0).N = (fun j => ((∑ i, dgRow x dy k dk sc csc (j 1) i : ℝ) : EReal) : FVec Ideal S1x1024 .f32) := by
  refine (dats m 0 c).arrAt_eq_of_after_last 5 t0_10 (by decide +kernel) _ fun j => ?_
  blk_simp
  rw [after0_5, Pipeline.eq_sum_fin_of_reset_step_apply_last (fun n h => (outsAt0 m c n h).2.1) 11 (fun _ => (0 : EReal))
    (fun t (j : S1x1024.Idx) => ((∑ r : Fin 768, dgRow x dy k dk sc csc (j 1) (row t r) : ℝ) : EReal))
    (fun t h j => by
      rw [outsAt0_A m c t h]; frame_out
      refine (pay2_at (sc := sc) (csc := csc) h0 h1 h5 h6 t _ _ _ _ (fun l => ?_) fun l => ?_).trans ?_
      · rw [blk2 h3 h4]; pointwise
      · rw [blk2 h3 h4]; pointwise
      · pointwise [k0_pay5])
    (fun t h j => by
      rw [outsAt0_B m c t h]; frame_out
      refine (pay2_at h0 h1 h5 h6 t _ _ _ _ (fun l => ?_) fun l => ?_) <;> rw [blk2 h3 h4] <;> pointwise)
    (le_of_eq N_0) t0_10 rfl j, zero_add]
  rw [← coe_sum]
  congr 1
  refine Fin.sum_mul_add_congr fun t r hl => ?_
  rfl

/-- The index of a row's entry. -/
theorem row_ix (s : Fin 2) (j : S2x1024.Idx) (h : j 0 = s) : ix2 s (j 1 : Fin 1024) = j := by
  funext a; fin_cases a
  · exact h.symm
  · rfl

include h5 h6 in
/-- The shifts' gradient after the run. -/
theorem final_6 : (dats m 0 c).arrAt 6 (cfgs 0).N = (fun j => (sel (fun i => cat dy dk i (j 1)) (j 0) : EReal) : FVec Ideal S2x1024 .f32) := by
  refine (dats m 0 c).arrAt_eq_of_after_last 6 t0_10 (by decide +kernel) _ fun j => ?_
  blk_simp
  rw [after0_6, Pipeline.eq_sum_fin_of_reset_step_apply_last (fun n h => (outsAt0 m c n h).2.2.1) 11 (fun _ => (0 : EReal))
    (fun t (j : S2x1024.Idx) => (part (fun i => cat dy dk i (j 1)) (j 0) t : EReal))
    (fun t h j => by
      rw [outsAt0_A m c t h]; frame_out
      rw [canon_rows, readCov_over, readCov_row 0 (by decide), readCov_row 1 (by decide)]
      have hlt : (j 0).val < 2 := (j 0).isLt
      by_cases hj : (j 0).val = 0
      · have hj' : j 0 = (0 : Fin 2) := Fin.ext hj
        rw [if_pos hj, hj']
        pointwise [k0_pay17, k0_pay15, k0_pay6]
        rw [pay16_at h5 h6]
        rfl
      · have hj' : j 0 = (1 : Fin 2) := Fin.ext (by change (j 0).val = 1; omega)
        rw [if_neg hj, hj']
        pointwise [k0_pay18, k0_pay6]
        rw [pay14_at h5 h6]
        rfl)
    (fun t h j => by
      rw [outsAt0_B m c t h]; frame_out
      rw [canon_rows]
      have hlt : (j 0).val < 2 := (j 0).isLt
      by_cases hj : (j 0).val = 0
      · have hj' : j 0 = (0 : Fin 2) := Fin.ext hj
        rw [if_pos hj]
        pointwise [k0_pay17, k0_pay15]
        rw [pay16_at h5 h6]
        refine congrArg₂ (· + ·) (congrArg _ (row_ix 0 j hj')) ?_
        rw [hj']; rfl
      · have hj' : j 0 = (1 : Fin 2) := Fin.ext (by change (j 0).val = 1; omega)
        rw [if_neg hj]
        pointwise [k0_pay18]
        rw [pay14_at h5 h6]
        refine congrArg₂ (· + ·) (congrArg _ (row_ix 1 j hj')) ?_
        rw [hj']; rfl)
    (le_of_eq N_0) t0_10 rfl j, zero_add]
  exact sum_part _ _

include h0 h1 h2 h5 h6 in
/-- The scales' gradient after the run. -/
theorem final_7 : (dats m 0 c).arrAt 7 (cfgs 0).N = (fun j => (sel (dsRow x dy k dk g (j 1)) (j 0) : EReal) : FVec Ideal S2x1024 .f32) := by
  refine (dats m 0 c).arrAt_eq_of_after_last 7 t0_10 (by decide +kernel) _ fun j => ?_
  blk_simp
  rw [after0_7, Pipeline.eq_sum_fin_of_reset_step_apply_last (fun n h => (outsAt0 m c n h).2.2.2) 11 (fun _ => (0 : EReal))
    (fun t (j : S2x1024.Idx) => (part (dsRow x dy k dk g (j 1)) (j 0) t : EReal))
    (fun t h j => by
      rw [outsAt0_A m c t h]; frame_out
      rw [canon_rows, readCov_over, readCov_row 0 (by decide), readCov_row 1 (by decide)]
      have hlt : (j 0).val < 2 := (j 0).isLt
      by_cases hj : (j 0).val = 0
      · have hj' : j 0 = (0 : Fin 2) := Fin.ext hj
        rw [if_pos hj, hj']
        refine (pay20_at h0 h1 h2 h5 h6 t _ _).trans ?_
        pointwise [k0_pay7]
        try rfl
      · have hj' : j 0 = (1 : Fin 2) := Fin.ext (by change (j 0).val = 1; omega)
        rw [if_neg hj, hj']
        refine (pay21_at h0 h1 h2 h5 h6 t _ _).trans ?_
        pointwise [k0_pay7]
        try rfl)
    (fun t h j => by
      rw [outsAt0_B m c t h]; frame_out
      rw [canon_rows]
      have hlt : (j 0).val < 2 := (j 0).isLt
      by_cases hj : (j 0).val = 0
      · have hj' : j 0 = (0 : Fin 2) := Fin.ext hj
        rw [if_pos hj]
        refine (pay20_at h0 h1 h2 h5 h6 t _ _).trans ?_
        pointwise
        refine congrArg₂ (· + ·) (congrArg _ (row_ix 0 j hj')) ?_
        rw [hj']
      · have hj' : j 0 = (1 : Fin 2) := Fin.ext (by change (j 0).val = 1; omega)
        rw [if_neg hj]
        refine (pay21_at h0 h1 h2 h5 h6 t _ _).trans ?_
        pointwise
        refine congrArg₂ (· + ·) (congrArg _ (row_ix 1 j hj')) ?_
        rw [hj'])
    (le_of_eq N_0) t0_10 rfl j, zero_add]
  exact sum_part _ _

end values

end Cert.NormIdeal.Value

end
-- ==== Proof.NormRef.lean ====
/- Hand-written, untrusted: the reference of the norm's gradient at real arguments, and the equality with the kernel. -/
module

public import proofs.«01_k».proof.Proof.Norm
public import proofs.«01_k».proof.Proof.Gen.NormRefIdeal.Run

@[expose] public section

set_option maxRecDepth 16384

noncomputable section

open Idealize.ShloMosaic Idealize.ShloMosaic.TcCoe Idealize.SL.Sem
open Idealize.ShloMosaic.Pipeline (Dat)
open scoped BigOperators

namespace Cert.NormIdeal.Value

open Cert.NormIdeal Cert.NormIdeal.Gen Cert.Reals Cert.Pieces

/-- The chain rule through the inverse root mean square is the kernel's closed form. -/
theorem chain_dx (x d g s : Fin 1024 → ℝ) (l : Fin 1024) :
    (d l : EReal) * (1 + (s l : EReal)) * (g l : EReal)
        * Ideal.rsqrt (Ideal.div (∑ i, (x i : EReal) * (x i : EReal)) (Ideal.ofBits .f32 0x44800000#32) + Ideal.ofBits .f32 0x358637BD#32)
      + (x l : EReal) * Ideal.div ((∑ i, (x i : EReal) * ((d i : EReal) * (1 + (s i : EReal)) * (g i : EReal))) * (Ideal.ofBits .f32 0xBF000000#32
        * Ideal.div (Ideal.rsqrt (Ideal.div (∑ i, (x i : EReal) * (x i : EReal)) (Ideal.ofBits .f32 0x44800000#32) + Ideal.ofBits .f32 0x358637BD#32))
            (Ideal.div (∑ i, (x i : EReal) * (x i : EReal)) (Ideal.ofBits .f32 0x44800000#32) + Ideal.ofBits .f32 0x358637BD#32)))
          (Ideal.ofBits .f32 0x44800000#32)
      + Ideal.div ((∑ i, (x i : EReal) * ((d i : EReal) * (1 + (s i : EReal)) * (g i : EReal))) * (Ideal.ofBits .f32 0xBF000000#32
        * Ideal.div (Ideal.rsqrt (Ideal.div (∑ i, (x i : EReal) * (x i : EReal)) (Ideal.ofBits .f32 0x44800000#32) + Ideal.ofBits .f32 0x358637BD#32))
            (Ideal.div (∑ i, (x i : EReal) * (x i : EReal)) (Ideal.ofBits .f32 0x44800000#32) + Ideal.ofBits .f32 0x358637BD#32)))
          (Ideal.ofBits .f32 0x44800000#32) * (x l : EReal)
      = (dxRow x d g s l : EReal) := by
  simp only [ms_1024, rsqrt_ms, div_ms]
  simp only [ofBits_neg_half, ofBits_1024, Ideal.div_coe (by norm_num : (1024 : ℝ) ≠ 0), ← EReal.coe_one, ← EReal.coe_mul, ← EReal.coe_add, ← coe_sum]
  congr 1
  have e : (∑ i, d i * (1 + s i) * g i * (x i * inv x)) = (∑ i, x i * (d i * (1 + s i) * g i)) * inv x := by
    rw [Finset.sum_mul]
    exact Finset.sum_congr rfl fun i _ => by ring
  rw [dxRow, e, ← inv_mul_inv]
  ring

/-- A row of the latents. -/
def lat (a : Fin 8192) : Fin 8448 := ⟨a.val, by omega⟩

/-- A row of the contexts. -/
def con (b : Fin 256) : Fin 8448 := ⟨8192 + b.val, by omega⟩

theorem seg_lat (a : Fin 8192) : seg (lat a) = 0 := if_pos a.isLt

theorem seg_con (b : Fin 256) : seg (con b) = 1 := if_neg (by simp [con])

theorem cat_lat (x : S8192x1024.Idx → ℝ) (k : S256x1024.Idx → ℝ) (a : Fin 8192) : cat x k (lat a) = fun l => x (ix2 a l) :=
  funext fun _ => dif_pos a.isLt

theorem cat_con (x : S8192x1024.Idx → ℝ) (k : S256x1024.Idx → ℝ) (b : Fin 256) : cat x k (con b) = fun l => k (ix2 b l) := by
  funext l
  exact (dif_neg (by simp [con])).trans (congrArg (fun i => k (ix2 i l)) (Fin.ext (Nat.add_sub_cancel_left ..)))

/-- A sum over all rows is the latents' and the contexts'. -/
theorem sum_rows (F : Fin 8448 → ℝ) : ∑ i, F i = ∑ a, F (lat a) + ∑ b, F (con b) := by
  rw [← Fin.sum_congr' F (by norm_num : 8192 + 256 = 8448), Fin.sum_univ_add]
  rfl

theorem sel_0 (F : Fin 8448 → ℝ) : sel F 0 = ∑ a, F (lat a) := by
  rw [sel, sum_rows]
  simp [seg_lat, seg_con]

theorem sel_1 (F : Fin 8448 → ℝ) : sel F 1 = ∑ b, F (con b) := by
  rw [sel, sum_rows]
  simp [seg_lat, seg_con]

section reference

variable (x : FVec Ideal S8192x1024 .f32) (k : FVec Ideal S256x1024 .f32) (g : FVec Ideal S1024 .f32) (sc : FVec Ideal S1x1x1024 .f32) (csc : FVec Ideal S1024 .f32) (dy : FVec Ideal S8192x1024 .f32) (dk : FVec Ideal S256x1024 .f32)

/-- The input's gradient as a function of the arguments. -/
def dxOf : FVec Ideal S8448x1024 .f32 := fun j =>
  (dxRow (cat (re x) (re k) (j 0)) (cat (re dy) (re dk) (j 0)) (fun l => re g (ix1 l)) (two (re sc) (re csc) (seg (j 0))) (j 1) : EReal)

/-- The gain's gradient as a function of the arguments. -/
def dgOf : FVec Ideal S1x1024 .f32 := fun j => ((∑ i, dgRow (re x) (re dy) (re k) (re dk) (re sc) (re csc) (j 1) i : ℝ) : EReal)

/-- The shifts' gradient as a function of the arguments. -/
def dshOf : FVec Ideal S2x1024 .f32 := fun j => (sel (fun i => cat (re dy) (re dk) i (j 1)) (j 0) : EReal)

/-- The scales' gradient as a function of the arguments. -/
def dscOf : FVec Ideal S2x1024 .f32 := fun j => (sel (dsRow (re x) (re dy) (re k) (re dk) (re g) (j 1)) (j 0) : EReal)

/-- Every argument is an array of real numbers. -/
def AllReal : Prop := Real x ∧ Real k ∧ Real g ∧ Real sc ∧ Real csc ∧ Real dy ∧ Real dk

variable {x k g sc csc dy dk}

/-- The precondition says so. -/
theorem real_of_pre [Cert.Pre_norm_finite.Facts] (h : Cert.Pre_norm_finite.fn (F := Ideal) x k g sc csc dy dk = fun _ => 1#1) : AllReal x k g sc csc dy dk := by
  have e := congrFun h ix0
  dsimp only [Cert.Pre_norm_finite.fn, Cert.Pre_norm_finite.fn_part1, andi] at e
  simp only [IntOp.andi_eq_one] at e
  obtain ⟨⟨⟨⟨⟨⟨a, b⟩, d⟩, e⟩, f⟩, i⟩, j⟩ := e
  exact ⟨real_of_all _ _ _ _ _ _ a, real_of_all _ _ _ _ _ _ b, real_of_all _ _ _ _ _ _ d, real_of_all _ _ _ _ _ _ e, real_of_all _ _ _ _ _ _ f, real_of_all _ _ _ _ _ _ i, real_of_all _ _ _ _ _ _ j⟩

end reference

/-- The reference's run. -/
theorem ref_run (m' : (ℓ : Loc Cert.NormRefIdeal.nD Cert.NormRefIdeal.τ Cert.NormRefIdeal.sig) → Buf (Elt Ideal) ℓ)
    (g' : Dev Cert.NormRefIdeal.nD → PrngReg) (hr : ∀ c : Dev Cert.NormRefIdeal.nD, AllReal (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg4)) (m' ((c.tc : Thread Cert.NormRefIdeal.nD Cert.NormRefIdeal.τ).loc Cert.NormRefIdeal.main_arg5)) (m' ((c.tc : Thread Cert.NormRefIdeal.nD Cert.NormRefIdeal.τ).loc Cert.NormRefIdeal.main_arg6))) :
    θ_run (Cert.NormRefIdeal.defs (F := Ideal)) (onTc (τ := Cert.NormRefIdeal.τ) (Cert.NormRefIdeal.main (F := Ideal)))
      ⟨m', fun _ => 0, g'⟩ fun r => ∀ c : Dev Cert.NormRefIdeal.nD,
      r.2.mem ((c.tc : Thread Cert.NormRefIdeal.nD Cert.NormRefIdeal.τ).loc Cert.NormRefIdeal.main_v113)
        = dxOf (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg4)) (m' ((c.tc : Thread Cert.NormRefIdeal.nD Cert.NormRefIdeal.τ).loc Cert.NormRefIdeal.main_arg5)) (m' ((c.tc : Thread Cert.NormRefIdeal.nD Cert.NormRefIdeal.τ).loc Cert.NormRefIdeal.main_arg6))
      ∧ r.2.mem ((c.tc : Thread Cert.NormRefIdeal.nD Cert.NormRefIdeal.τ).loc Cert.NormRefIdeal.main_v114)
        = dgOf (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg4)) (m' ((c.tc : Thread Cert.NormRefIdeal.nD Cert.NormRefIdeal.τ).loc Cert.NormRefIdeal.main_arg5)) (m' ((c.tc : Thread Cert.NormRefIdeal.nD Cert.NormRefIdeal.τ).loc Cert.NormRefIdeal.main_arg6))
      ∧ r.2.mem ((c.tc : Thread Cert.NormRefIdeal.nD Cert.NormRefIdeal.τ).loc Cert.NormRefIdeal.main_v118)
        = dshOf (m' ((c.tc : Thread Cert.NormRefIdeal.nD Cert.NormRefIdeal.τ).loc Cert.NormRefIdeal.main_arg5)) (m' ((c.tc : Thread Cert.NormRefIdeal.nD Cert.NormRefIdeal.τ).loc Cert.NormRefIdeal.main_arg6))
      ∧ r.2.mem ((c.tc : Thread Cert.NormRefIdeal.nD Cert.NormRefIdeal.τ).loc Cert.NormRefIdeal.main_v122)
        = dscOf (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg5)) (m' ((c.tc : Thread Cert.NormRefIdeal.nD Cert.NormRefIdeal.τ).loc Cert.NormRefIdeal.main_arg6))
      ∧ r.2.mem ((c.tc : Thread Cert.NormRefIdeal.nD Cert.NormRefIdeal.τ).loc Cert.NormRefIdeal.main_arg0) = (m' ((c.tc : Thread Cert.NormRefIdeal.nD Cert.NormRefIdeal.τ).loc Cert.NormRefIdeal.main_arg0))
      ∧ r.2.mem ((c.tc : Thread Cert.NormRefIdeal.nD Cert.NormRefIdeal.τ).loc Cert.NormRefIdeal.main_arg1) = (m' ((c.tc : Thread Cert.NormRefIdeal.nD Cert.NormRefIdeal.τ).loc Cert.NormRefIdeal.main_arg1))
      ∧ r.2.mem ((c.tc : Thread Cert.NormRefIdeal.nD Cert.NormRefIdeal.τ).loc Cert.NormRefIdeal.main_arg2) = (m' ((c.tc : Thread Cert.NormRefIdeal.nD Cert.NormRefIdeal.τ).loc Cert.NormRefIdeal.main_arg2))
      ∧ r.2.mem ((c.tc : Thread Cert.NormRefIdeal.nD Cert.NormRefIdeal.τ).loc Cert.NormRefIdeal.main_arg3) = (m' ((c.tc : Thread Cert.NormRefIdeal.nD Cert.NormRefIdeal.τ).loc Cert.NormRefIdeal.main_arg3))
      ∧ r.2.mem ((c.tc : Thread Cert.NormRefIdeal.nD Cert.NormRefIdeal.τ).loc Cert.NormRefIdeal.main_arg4) = (m' ((c.tc : Thread Cert.NormRefIdeal.nD Cert.NormRefIdeal.τ).loc Cert.NormRefIdeal.main_arg4))
      ∧ r.2.mem ((c.tc : Thread Cert.NormRefIdeal.nD Cert.NormRefIdeal.τ).loc Cert.NormRefIdeal.main_arg5) = (m' ((c.tc : Thread Cert.NormRefIdeal.nD Cert.NormRefIdeal.τ).loc Cert.NormRefIdeal.main_arg5))
      ∧ r.2.mem ((c.tc : Thread Cert.NormRefIdeal.nD Cert.NormRefIdeal.τ).loc Cert.NormRefIdeal.main_arg6) = (m' ((c.tc : Thread Cert.NormRefIdeal.nD Cert.NormRefIdeal.τ).loc Cert.NormRefIdeal.main_arg6)) := by
  refine (θ_run Cert.NormRefIdeal.defs _ _).mono (fun r h c => ?_) (Cert.NormRefIdeal.Value.run m' g')
  obtain ⟨r0, r1, r2, r3, rest⟩ := h c
  obtain ⟨h0, h1, h2, h3, h4, h5, h6⟩ := hr c
  unfold Cert.NormRefIdeal.Value.res_main_v113 at r0
  refine ⟨r0.trans ?_, r1.trans ?_, r2.trans ?_, r3.trans ?_, rest⟩
  all_goals
    clear r0 r1 r2 r3 rest h hr
    generalize m' ((c.tc : Thread Cert.NormRefIdeal.nD Cert.NormRefIdeal.τ).loc Cert.NormRefIdeal.main_arg0) = x at h0 ⊢
    generalize m' ((c.tc : Thread Cert.NormRefIdeal.nD Cert.NormRefIdeal.τ).loc Cert.NormRefIdeal.main_arg1) = k at h1 ⊢
    generalize m' ((c.tc : Thread Cert.NormRefIdeal.nD Cert.NormRefIdeal.τ).loc Cert.NormRefIdeal.main_arg2) = g at h2 ⊢
    generalize m' ((c.tc : Thread Cert.NormRefIdeal.nD Cert.NormRefIdeal.τ).loc Cert.NormRefIdeal.main_arg3) = sc at h3 ⊢
    generalize m' ((c.tc : Thread Cert.NormRefIdeal.nD Cert.NormRefIdeal.τ).loc Cert.NormRefIdeal.main_arg4) = csc at h4 ⊢
    generalize m' ((c.tc : Thread Cert.NormRefIdeal.nD Cert.NormRefIdeal.τ).loc Cert.NormRefIdeal.main_arg5) = dy at h5 ⊢
    generalize m' ((c.tc : Thread Cert.NormRefIdeal.nD Cert.NormRefIdeal.τ).loc Cert.NormRefIdeal.main_arg6) = dk at h6 ⊢
    obtain ⟨x, rfl⟩ := h0
    obtain ⟨k, rfl⟩ := h1
    obtain ⟨g, rfl⟩ := h2
    obtain ⟨sc, rfl⟩ := h3
    obtain ⟨csc, rfl⟩ := h4
    obtain ⟨dy, rfl⟩ := h5
    obtain ⟨dk, rfl⟩ := h6
    funext j
    idx_vars j
    pointwise [Cert.NormRefIdeal.Value.fn_main_v113, hostReduceAdd_a02, hostReduceAdd_a01, dxOf, dgOf, dshOf, dscOf, re_coe]
  · by_cases hj : j0.val < 8192
    · refine (dif_pos hj).trans ((show ∑ _ : Fin 1, (_ : EReal) = _ from Fin.sum_univ_one _).trans ((chain_dx (fun l => x (ix2 ⟨j0.val, hj⟩ l)) (fun l => dy (ix2 ⟨j0.val, hj⟩ l)) (fun l => g (ix1 l)) (two sc csc 0) j1).trans ?_))
      have e1 : cat x k j0 = fun l => x (ix2 ⟨j0.val, hj⟩ l) := funext fun _ => dif_pos hj
      have e2 : cat dy dk j0 = fun l => dy (ix2 ⟨j0.val, hj⟩ l) := funext fun _ => dif_pos hj
      have e3 : seg j0 = 0 := if_pos hj
      rw [e1, e2, e3]
    · refine (dif_neg hj).trans ((show ∑ _ : Fin 1, (_ : EReal) = _ from Fin.sum_univ_one _).trans ((chain_dx (fun l => k (ix2 ⟨j0.val - 8192, by omega⟩ l)) (fun l => dk (ix2 ⟨j0.val - 8192, by omega⟩ l)) (fun l => g (ix1 l)) (two sc csc 1) j1).trans ?_))
      have e1 : cat x k j0 = fun l => k (ix2 ⟨j0.val - 8192, by omega⟩ l) := funext fun _ => dif_neg hj
      have e2 : cat dy dk j0 = fun l => dk (ix2 ⟨j0.val - 8192, by omega⟩ l) := funext fun _ => dif_neg hj
      have e3 : seg j0 = 1 := if_neg hj
      rw [e1, e2, e3]
  · simp only [ms_1024, rsqrt_ms]
    simp only [← EReal.coe_one, ← EReal.coe_mul, ← EReal.coe_add, ← coe_sum]
    rw [sum_rows, add_comm]
    simp only [dgRow, seg_lat, seg_con, cat_lat, cat_con]
    congr 2
    · exact Finset.sum_congr rfl fun _ _ => mul_comm _ _
    · exact Finset.sum_congr rfl fun _ _ => mul_comm _ _
  · by_cases hj : j0.val < 1
    · have e : j0 = 0 := Fin.ext (Nat.lt_one_iff.mp hj)
      subst e
      rw [sel_0, dif_pos hj]
      simp only [cat_lat, ← coe_sum]
    · have e : j0 = 1 := Fin.ext (by change j0.val = 1; omega)
      subst e
      rw [sel_1, dif_neg hj]
      simp only [cat_con, ← coe_sum]
  · simp only [ms_1024, rsqrt_ms]
    simp only [← EReal.coe_mul, ← coe_sum]
    by_cases hj : j0.val < 1
    · have e : j0 = 0 := Fin.ext (Nat.lt_one_iff.mp hj)
      subst e
      rw [sel_0, dif_pos hj]
      simp only [dsRow, cat_lat]
      congr 1
      exact Finset.sum_congr rfl fun _ _ => mul_comm _ _
    · have e : j0 = 1 := Fin.ext (by change j0.val = 1; omega)
      subst e
      rw [sel_1, dif_neg hj]
      simp only [dsRow, cat_con]
      congr 1
      exact Finset.sum_congr rfl fun _ _ => mul_comm _ _

/-- The norm's gradient and its reference end with equal results. -/
theorem algebraic [Cert.Pre_norm_finite.Facts] : Cert.algebraic_NormIdeal_NormRefIdeal_pre_norm_finite := by
  pair_intro
  · run_from Cert.NormIdeal.Gen.run_main m g
  · have hr := fun c => real_of_pre (hpre c)
    run_from ref_run m' g' (fun c => by
      obtain ⟨e0, e1, e2, e3, e4, e5, e6⟩ := hagree c
      rw [e0, e1, e2, e3, e4, e5, e6]
      exact hr c)
    all_goals obtain ⟨h0, h1, h2, h3, h4, h5, h6⟩ := hr c
    · exact (final_4 h0.eq h1.eq h2.eq h3.eq h4.eq h5.eq h6.eq).symm
    · exact (final_5 h0.eq h1.eq h3.eq h4.eq h5.eq h6.eq).symm
    · exact (final_6 h5.eq h6.eq).symm
    · exact (final_7 h0.eq h1.eq h2.eq h5.eq h6.eq).symm

end Cert.NormIdeal.Value

end
-- ==== Proof.Rope.lean ====
/- Hand-written, untrusted: the gradient of the per-head norm followed by the rotary embedding. The kernel rotates the cotangent back by a
   product with a matrix of signs, adds the gains' gradients up over the grid, and takes the norm's gradient in closed form. -/
module

public import proofs.«01_k».proof.Defs
public import proofs.«01_k».proof.Proof.Reals
public import proofs.«01_k».proof.Proof.Pieces
public import proofs.«01_k».proof.Proof.Gen.RopeIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.RopeIdeal.Value

open Cert.RopeIdeal Cert.RopeIdeal.Gen Cert.Reals Cert.Pieces

variable (m : (ℓ : Loc nD τ sig) → Buf (Elt Ideal) ℓ)

/-- Host operations one stretch after another. -/
theorem after_two (l k : List (HloOp τ sig (Elt Ideal))) (v : Valuation τ sig (Elt Ideal)) :
    StableHlo.after (l ++ k) v = StableHlo.after k (StableHlo.after l v) := by
  induction l generalizing v with
  | nil => rfl
  | cons a l ih => exact ih _

/-- The buffers after the integer divisions that give every token its place on the grid. -/
def places (c : Dev nD) : Valuation τ sig (Elt Ideal) :=
  StableHlo.after hostOps0_3 (StableHlo.after hostOps0_2 (StableHlo.after hostOps0_1 (StableHlo.after hostOps0 fun b => m (c, b))))

/-- The buffers at the kernel's entry are those after the tables are made. -/
theorem V_eq (c : Dev nD) (b : Ref sig .tc) : V m c b = StableHlo.after hostOps0_4 (places m c) b := by
  rw [V, List.flatten_cons, List.flatten_cons, List.flatten_cons, List.flatten_cons, List.flatten_cons, List.flatten_nil, List.append_nil,
    after_two, after_two, after_two, after_two]
  rfl

/-- Every window's block index, at every grid point. -/
theorem idx_val : ∀ t : Fin cfg0.N, win0_0.index t = ![t.val / 3, t.val % 3, 0]
    ∧ win0_1.index t = ![0, 0]
    ∧ win0_2.index t = ![t.val % 3, 0]
    ∧ win0_3.index t = ![t.val % 3, 0]
    ∧ win0_4.index t = ![0, 0]
    ∧ win0_5.index t = ![t.val / 3, t.val % 3, 0]
    ∧ win0_6.index t = ![t.val / 3, t.val % 3, 0]
    ∧ win0_7.index t = ![0, 0] :=
  (by decide +kernel : ∀ t : Fin grid0.N, _)

/-- The row of the array that is row `r` of block `t`. -/
def row (t : Fin cfg0.N) (r : Fin 2816) : Fin 8448 := ⟨t.val % 3 * 2816 + r.val, by omega⟩

/-- The head of block `t`. -/
def head (t : Fin cfg0.N) : Fin 10 := ⟨t.val / 3, by have := t.isLt; have : cfg0.N = 30 := N_0; omega⟩

/-- Which gain a head takes: 0 for the queries' eight heads, 1 for the keys' two. -/
def kind (h : Fin 10) : Fin 2 := if h.val < 8 then 0 else 1

/-- The queries' gain and the keys'. -/
def gains (qg kg : S64.Idx → ℝ) (s : Fin 2) (l : Fin 64) : ℝ := if s.val < 1 then qg (ix1 l) else kg (ix1 l)

/-- The cosines of a row, one for each feature: a pair shares an angle, a context's are 1. -/
def tabC (th : S8192x32.Idx → ℝ) (i : Fin 8448) (l : Fin 64) : ℝ :=
  if h : i.val < 8192 then Real.cos (th (ix2 ⟨i.val, h⟩ ⟨l.val / 2, by omega⟩)) else 1

/-- The sines of a row, one for each feature: a pair shares an angle, a context's are 0. -/
def tabS (th : S8192x32.Idx → ℝ) (i : Fin 8448) (l : Fin 64) : ℝ :=
  if h : i.val < 8192 then Real.sin (th (ix2 ⟨i.val, h⟩ ⟨l.val / 2, by omega⟩)) else 0

/-- The other feature of a pair. -/
def mate (l : Fin 64) : Fin 64 := if h : l.val % 2 = 0 then ⟨l.val + 1, by omega⟩ else ⟨l.val - 1, by omega⟩

/-- The sign with which a pair's other feature enters. -/
def sign (l : Fin 64) : ℝ := if l.val % 2 = 0 then -1 else 1

/-- The matrix of signs. -/
def rot (k l : Fin 64) : ℝ := if k = mate l then sign l else 0

/-- A product with the matrix of signs. -/
theorem sum_rot (f : Fin 64 → ℝ) (l : Fin 64) : ∑ k, f k * rot k l = f (mate l) * sign l := by
  simp only [rot, mul_ite, mul_zero]
  rw [Finset.sum_ite_eq' Finset.univ (mate l)]
  simp

/-- The cotangent of a row, rotated back. -/
def back (d c s : Fin 64 → ℝ) (l : Fin 64) : ℝ := d l * c l - d (mate l) * s (mate l) * sign l

/-- One row of the norm's gradient in its input: `x` the input, `d` the cotangent, `g` the gain. -/
def dxRow (x d g : Fin 64 → ℝ) (l : Fin 64) : ℝ :=
  inv x * (d l * g l - x l * inv x * ((∑ k, d k * g k * (x k * inv x)) * (1 / 64)))

/-- The bits of the matrix of signs. -/
theorem lit_val : ∀ k l : Fin 64, lit0 (S64x64.rowMajor (ix2 k l))
    = if k = mate l then (if l.val % 2 = 0 then 0xBF800000#32 else 0x3F800000#32) else 0#32 := by
  decide +kernel

/-- The matrix of signs, read. -/
theorem rot_at (k l : Fin 64) : Ideal.ofBits .f32 (lit0 (S64x64.rowMajor (ix2 k l))) = (rot k l : EReal) := by
  rw [lit_val, rot, sign]
  have e1 : Ideal.ofBits .f32 0xBF800000#32 = ((-1 : ℝ) : EReal) := by
    simp [Ideal.ofBits, Ideal.ieee]; rw [← EReal.coe_mul, ← EReal.coe_one]; norm_num
  have e2 : Ideal.ofBits .f32 0x3F800000#32 = ((1 : ℝ) : EReal) := by
    simp [Ideal.ofBits, Ideal.ieee]; rw [← EReal.coe_mul]; norm_num
  have e3 : Ideal.ofBits .f32 0#32 = ((0 : ℝ) : EReal) := by
    simp [Ideal.ofBits, Ideal.ieee]
  split
  · split
    · exact e1
    · exact e2
  · exact e3

section blocks

variable {m} {x dy : S10x8448x64.Idx → ℝ} {qg kg : S64.Idx → ℝ} {th : S8192x32.Idx → ℝ} {c : Dev nD}

/-- The array index of an index of the input's block. -/
theorem emb0 (t : Fin cfg0.N) (y) : ((View.whole main_arg0).slice (win0_0.rect t)).emb y = ix3 (head t) (row t (y 1)) (y 2) := by
  blk_ext [idx_val t, row, head]

/-- The array index of an index of the gains' block. -/
theorem emb1 (t : Fin cfg0.N) (y) : ((View.whole main_v38).slice (win0_1.rect t)).emb y = ix2 (y 0) (y 1) := by
  blk_ext [idx_val t]

/-- The array index of an index of the cosines' block. -/
theorem emb2 (t : Fin cfg0.N) (y) : ((View.whole main_v33).slice (win0_2.rect t)).emb y = ix2 (row t (y 0)) (y 1) := by
  blk_ext [idx_val t, row]

/-- The array index of an index of the sines' block. -/
theorem emb3 (t : Fin cfg0.N) (y) : ((View.whole main_v35).slice (win0_3.rect t)).emb y = ix2 (row t (y 0)) (y 1) := by
  blk_ext [idx_val t, row]

/-- The array index of an index of the sign matrix's block. -/
theorem emb4 (t : Fin cfg0.N) (y) : ((View.whole main_cst).slice (win0_4.rect t)).emb y = ix2 (y 0) (y 1) := by
  blk_ext [idx_val t]

/-- The array index of an index of the cotangent's block. -/
theorem emb5 (t : Fin cfg0.N) (y) : ((View.whole main_arg3).slice (win0_5.rect t)).emb y = ix3 (head t) (row t (y 1)) (y 2) := by
  blk_ext [idx_val t, row, head]

/-- The gains' array, as the host makes it. -/
theorem tab_gains (v : Valuation τ sig (Elt Ideal)) : @Eq (FVec Ideal S2x64 .f32) (StableHlo.after hostOps0_4 v main_v38) (concatenate S2x64 0 [⟨S1x64, broadcastInDim S1x64 ![1] bcast_S64_S1x64_1 (v main_arg1 : FVec Ideal S64 .f32)⟩, ⟨S1x64, broadcastInDim S1x64 ![1] bcast_S64_S1x64_1 (v main_arg2 : FVec Ideal S64 .f32)⟩] concatenates_S1x64_S1x64_S2x64_d0) := by
  entry_read
  rfl

/-- The tables' lines leave the queries' gain alone, -/
theorem keep_1 (v : Valuation τ sig (Elt Ideal)) : StableHlo.after hostOps0_4 v main_arg1 = v main_arg1 := by
  entry_read
  rfl

/-- and the keys'. -/
theorem keep_2 (v : Valuation τ sig (Elt Ideal)) : StableHlo.after hostOps0_4 v main_arg2 = v main_arg2 := by
  entry_read
  rfl

/-- The gains' array at the kernel's entry. -/
theorem gains_arr : @Eq (FVec Ideal S2x64 .f32) (V m c main_v38) (concatenate S2x64 0 [⟨S1x64, broadcastInDim S1x64 ![1] bcast_S64_S1x64_1 (m ((c : Thread nD τ).loc main_arg1) : FVec Ideal S64 .f32)⟩, ⟨S1x64, broadcastInDim S1x64 ![1] bcast_S64_S1x64_1 (m ((c : Thread nD τ).loc main_arg2) : FVec Ideal S64 .f32)⟩] concatenates_S1x64_S1x64_S2x64_d0) := by
  have e1 : places m c main_arg1 = m ((c : Thread nD τ).loc main_arg1) := (keep_1 _).symm.trans ((V_eq m c main_arg1).symm.trans (V_main_arg1 m c))
  have e2 : places m c main_arg2 = m ((c : Thread nD τ).loc main_arg2) := (keep_2 _).symm.trans ((V_eq m c main_arg2).symm.trans (V_main_arg2 m c))
  rw [← e1, ← e2]
  exact (V_eq m c main_v38).trans (tab_gains _)

/-- The matrix of signs, as the host makes it. -/
theorem rot_arr : @Eq (FVec Ideal S64x64 .f32) (V m c main_cst) (fun i => Ideal.ofBits .f32 (lit0 (S64x64.rowMajor i))) := by
  refine (V_eq m c main_cst).trans ?_
  unfold places
  entry_read
  rfl

/-- The input's block at a point. -/
theorem blk0 (h0 : m ((c : Thread nD τ).loc main_arg0) = fun i => (x i : EReal)) (t : Fin cfg0.N) :
    (iblk m c 0 t : FVec Ideal S1x2816x64 .f32) = fun y => (x (ix3 (head t) (row t (y 1)) (y 2)) : EReal) := by
  funext y
  blk_simp [iblk, idx_val t]
  rw [V_main_arg0, h0]
  exact congrArg (fun i => (x i : EReal)) (emb0 t y)

/-- The gains' block at a point. -/
theorem blk1 (h1 : m ((c : Thread nD τ).loc main_arg1) = fun i => (qg i : EReal))
    (h2 : m ((c : Thread nD τ).loc main_arg2) = fun i => (kg i : EReal)) (t : Fin cfg0.N) :
    (iblk m c 1 t : FVec Ideal S2x64 .f32) = fun y => (gains qg kg (y 0) (y 1) : EReal) := by
  funext y
  blk_simp [iblk, idx_val t]
  refine (congrArg (V m c main_v38 : FVec Ideal S2x64 .f32) (emb1 t y)).trans ((congrFun gains_arr _).trans ?_)
  pointwise
  rw [h1, h2]
  unfold gains
  change (if (y 0).val < 1 then (qg (ix1 (y 1)) : EReal) else (kg (ix1 (y 1)) : EReal)) = _
  by_cases h : (y 0).val < 1
  · rw [if_pos h, if_pos h]
  · rw [if_neg h, if_neg h]

/-- The cotangent's block at a point. -/
theorem blk5 (h3 : m ((c : Thread nD τ).loc main_arg3) = fun i => (dy i : EReal)) (t : Fin cfg0.N) :
    (iblk m c 5 t : FVec Ideal S1x2816x64 .f32) = fun y => (dy (ix3 (head t) (row t (y 1)) (y 2)) : EReal) := by
  funext y
  blk_simp [iblk, idx_val t]
  rw [V_main_arg3, h3]
  exact congrArg (fun i => (dy i : EReal)) (emb5 t y)

/-- The sign matrix's block at a point. -/
theorem blk4 (t : Fin cfg0.N) : (iblk m c 4 t : FVec Ideal S64x64 .f32) = fun y => (rot (y 0) (y 1) : EReal) := by
  funext y
  blk_simp [iblk, idx_val t]
  refine (congrArg (V m c main_cst : FVec Ideal S64x64 .f32) (emb4 t y)).trans ((congrFun rot_arr _).trans ?_)
  exact rot_at _ _

/-- The table of cosines, as the host makes it from the angles. -/
theorem tab_cos (v : Valuation τ sig (Elt Ideal)) : @Eq (FVec Ideal S8448x64 .f32) (StableHlo.after hostOps0_4 v main_v33) (concatenate S8448x64 0 [⟨S8192x64, shapeCast _ (broadcastInDim S8192x32x2 ![0, 1] bcast_S8192x32_S8192x32x2_0_1 (Host.cos (StableHlo.after hostOps0_4 v main_v25 : FVec Ideal S8192x32 .f32))) shapeCasts_S8192x32x2_S8192x64⟩, ⟨S256x64, broadcastInDim S256x64 ![] bcast_S_S256x64 (constant S_ .f32 0x3F800000#32)⟩] concatenates_S8192x64_S256x64_S8448x64_d0) := by
  entry_read
  rfl

/-- The table of sines, likewise. -/
theorem tab_sin (v : Valuation τ sig (Elt Ideal)) : @Eq (FVec Ideal S8448x64 .f32) (StableHlo.after hostOps0_4 v main_v35) (concatenate S8448x64 0 [⟨S8192x64, shapeCast _ (broadcastInDim S8192x32x2 ![0, 1] bcast_S8192x32_S8192x32x2_0_1 (Host.sin (StableHlo.after hostOps0_4 v main_v25 : FVec Ideal S8192x32 .f32))) shapeCasts_S8192x32x2_S8192x64⟩, ⟨S256x64, broadcastInDim S256x64 ![] bcast_S_S256x64 (constant S_ .f32 0x00000000#32)⟩] concatenates_S8192x64_S256x64_S8448x64_d0) := by
  entry_read
  rfl

/-- The cosines' block at a point. -/
theorem blk2 (ha : (V m c main_v25 : FVec Ideal S8192x32 .f32) = fun i => (th i : EReal)) (t : Fin cfg0.N) :
    (iblk m c 2 t : FVec Ideal S2816x64 .f32) = fun y => (tabC th (row t (y 0)) (y 1) : EReal) := by
  funext y
  blk_simp [iblk, idx_val t]
  refine (congrArg (V m c main_v33 : FVec Ideal S8448x64 .f32) (emb2 t y)).trans ((congrFun ((V_eq m c main_v33).trans (tab_cos (places m c))) _).trans ?_)
  rw [(V_eq m c main_v25).symm.trans ha]
  pointwise
  unfold tabC
  split
  · rfl
  · rfl

/-- The sines' block at a point. -/
theorem blk3 (ha : (V m c main_v25 : FVec Ideal S8192x32 .f32) = fun i => (th i : EReal)) (t : Fin cfg0.N) :
    (iblk m c 3 t : FVec Ideal S2816x64 .f32) = fun y => (tabS th (row t (y 0)) (y 1) : EReal) := by
  funext y
  blk_simp [iblk, idx_val t]
  refine (congrArg (V m c main_v35 : FVec Ideal S8448x64 .f32) (emb3 t y)).trans ((congrFun ((V_eq m c main_v35).trans (tab_sin (places m c))) _).trans ?_)
  rw [(V_eq m c main_v25).symm.trans ha]
  pointwise
  unfold tabS
  split
  · rfl
  · rfl

end blocks

section values

variable {m} {x dy : S10x8448x64.Idx → ℝ} {qg kg : S64.Idx → ℝ} {th : S8192x32.Idx → ℝ} {c : Dev nD}
  (h0 : m ((c : Thread nD τ).loc main_arg0) = fun i => (x i : EReal))
  (h1 : m ((c : Thread nD τ).loc main_arg1) = fun i => (qg i : EReal))
  (h2 : m ((c : Thread nD τ).loc main_arg2) = fun i => (kg i : EReal))
  (h3 : m ((c : Thread nD τ).loc main_arg3) = fun i => (dy i : EReal))
  (ha : (V m c main_v25 : FVec Ideal S8192x32 .f32) = fun i => (th i : EReal))

/-- The input's rows, as vectors. -/
def xr (x : S10x8448x64.Idx → ℝ) (h : Fin 10) (i : Fin 8448) (l : Fin 64) : ℝ := x (ix3 h i l)

/-- The cotangent's rows, rotated back. -/
def dr (dy : S10x8448x64.Idx → ℝ) (th : S8192x32.Idx → ℝ) (h : Fin 10) (i : Fin 8448) : Fin 64 → ℝ :=
  back (fun l => dy (ix3 h i l)) (tabC th i) (tabS th i)

/-- A gain's gradient, one row's term. -/
def dgRow (x dy : S10x8448x64.Idx → ℝ) (th : S8192x32.Idx → ℝ) (l : Fin 64) (h : Fin 10) (i : Fin 8448) : ℝ :=
  dr dy th h i l * (xr x h i l * inv (xr x h i))

include h3 ha in
/-- The rotated cotangent of a block. -/
theorem pay1_at (t : Fin cfg0.N) (r : Fin 2816) (l : Fin 64) :
    k0_pay1 (F := Ideal) (k0_pay10 (iblk m c 5 t) (iblk m c 2 t)) (k0_pay11 (iblk m c 5 t) (iblk m c 3 t) (iblk m c 4 t)) (ix2 r l)
      = (dr dy th (head t) (row t r) l : EReal) := by
  rw [blk5 h3, blk2 ha, blk3 ha, blk4]
  pointwise [k0_pay1, k0_pay10, k0_pay11, k0_pay7]
  simp only [← EReal.coe_mul, ← coe_sum, ← EReal.coe_sub, dr, back, sum_rot]

include h0 in
/-- The normalised input of a block. -/
theorem pay9_at (t : Fin cfg0.N) (r : Fin 2816) (l : Fin 64) :
    k0_pay9 (F := Ideal) (iblk m c 0 t) (ix2 r l) = (xr x (head t) (row t r) l * inv (xr x (head t) (row t r)) : ℝ) := by
  rw [blk0 h0]
  pointwise [k0_pay9, k0_pay8, k0_pay6]
  simp only [ms_64, rsqrt_ms]
  simp only [← EReal.coe_mul]
  rfl

/-- A block is of the keys' heads or of the queries'. -/
theorem is_k (t : Fin cfg0.N) : Scalar.cmpi .sge (BitVec.ofNat 32 (grid0.coords t 0).val) 8#32 = if kind (head t) = 1 then 1#1 else 0#1 :=
  (by decide +kernel : ∀ t : Fin grid0.N, Scalar.cmpi .sge (BitVec.ofNat 32 (grid0.coords t 0).val) 8#32
    = if (if t.val / 3 < 8 then (0 : Fin 2) else 1) = 1 then 1#1 else 0#1) t

/-- The gain that a block's head takes. -/
theorem pay5_at (t : Fin cfg0.N) (v1 v0 : FVec Ideal S1x64 .f32) (l : Fin 64) :
    k0_pay5 (F := Ideal) (grid0.coords t) v1 v0 (ix2 0 l) = if kind (head t) = 1 then v1 (ix2 0 l) else v0 (ix2 0 l) := by
  pointwise [k0_pay5]
  rw [is_k]
  by_cases h : kind (head t) = 1 <;> simp [h, Scalar.select]

include h0 h3 ha in
/-- The body's input gradient at one index of its block. -/
theorem pay3_at (t : Fin cfg0.N) (v1 v0 : FVec Ideal S1x64 .f32) (r : Fin 2816) (l : Fin 64)
    (e1 : ∀ l, v1 (ix2 0 l) = (gains qg kg 1 l : EReal)) (e0 : ∀ l, v0 (ix2 0 l) = (gains qg kg 0 l : EReal)) :
    k0_pay3 (F := Ideal) (k0_pay5 (grid0.coords t) v1 v0) (k0_pay8 (iblk m c 0 t)) (k0_pay9 (iblk m c 0 t))
      (k0_pay10 (iblk m c 5 t) (iblk m c 2 t)) (k0_pay11 (iblk m c 5 t) (iblk m c 3 t) (iblk m c 4 t)) (ix3 0 r l)
      = (dxRow (xr x (head t) (row t r)) (dr dy th (head t) (row t r)) (gains qg kg (kind (head t))) l : EReal) := by
  have g : ∀ l, k0_pay5 (F := Ideal) (grid0.coords t) v1 v0 (ix2 0 l) = (gains qg kg (kind (head t)) l : EReal) := fun l => by
    rw [pay5_at, e1, e0]
    have : kind (head t) = 0 ∨ kind (head t) = 1 := by generalize kind (head t) = k; revert k; decide
    obtain h | h := this <;> simp [h]
  have n : k0_pay8 (F := Ideal) (iblk m c 0 t) (ix2 r 0) = (inv (xr x (head t) (row t r)) : EReal) := by
    rw [blk0 h0]
    pointwise [k0_pay8, k0_pay6]
    simp only [ms_64, rsqrt_ms]
    rfl
  pointwise [k0_pay3]
  simp only [pay1_at h3 ha, pay9_at h0, g, n]
  simp only [ofBits_64, Ideal.div_coe (by norm_num : (64 : ℝ) ≠ 0), ← EReal.coe_mul, ← EReal.coe_sub, ← coe_sum, dxRow]

/-- The row of a one-hot column that a block's gain takes. -/
theorem one_hot : ∀ k s : Fin 2, FloatOps.sitofp (F := Ideal) FTy.f32 (BitVec.setWidth 32 (IntOp.cmpi CmpIPredicate.eq (BitVec.ofNat 32 s.val)
    (Scalar.extui (if k = 1 then 1#1 else 0#1) : BitVec 32))) = ((if k = s then 1 else 0 : ℝ) : EReal) := by
  intro k s
  have h : (BitVec.setWidth 32 (IntOp.cmpi CmpIPredicate.eq (BitVec.ofNat 32 s.val) (Scalar.extui (if k = 1 then 1#1 else 0#1) : BitVec 32))).toInt
      = if k = s then 1 else 0 := by
    revert k s; decide
  change ((BitVec.toInt _ : ℝ) : EReal) = _
  rw [h]
  split <;> simp

/-- A quantity of gain `k`, as it enters gain `s`'s sum. -/
def pick (k s : Fin 2) (a : ℝ) : ℝ := if k = s then a else 0

include h0 h3 ha in
/-- A point adds its rows' terms to the gradient of its gain. -/
theorem pay2_at (t : Fin cfg0.N) (v : FVec Ideal S2x64 .f32) (j : S2x64.Idx) :
    k0_pay2 (F := Ideal) (Scalar.cmpi .sge (BitVec.ofNat 32 (grid0.coords t 0).val) 8#32) (k0_pay9 (iblk m c 0 t))
      (k0_pay10 (iblk m c 5 t) (iblk m c 2 t)) (k0_pay11 (iblk m c 5 t) (iblk m c 3 t) (iblk m c 4 t)) v j
      = v j + (pick (kind (head t)) (j 0) (∑ r : Fin 2816, dgRow x dy th (j 1) (head t) (row t r)) : EReal) := by
  idx_vars j
  pointwise [k0_pay2]
  simp only [pay1_at h3 ha, pay9_at h0, ← EReal.coe_mul, ← coe_sum]
  rw [is_k, one_hot]
  change _ + (_ : EReal) * _ = _ + (pick (kind (head t)) j0 (∑ r : Fin 2816, dgRow x dy th j1 (head t) (row t r)) : EReal)
  unfold pick
  split
  · rw [← EReal.coe_mul, one_mul]; rfl
  · rw [← EReal.coe_mul, zero_mul]

include h0 h1 h2 h3 ha in
/-- The input's gradient after the run. -/
theorem final_6 : (dats m 0 c).arrAt 6 (cfgs 0).N = (fun j => (dxRow (xr x (j 0) (j 1)) (dr dy th (j 0) (j 1)) (gains qg kg (kind (j 0))) (j 2) : EReal) : FVec Ideal S10x8448x64 .f32) := by
  refine (dats m 0 c).arrAt_eq_of_covers 6 _ (by decide +kernel) fun t hf y => ?_
  blk_simp; rw [after0_6]
  have e : ((View.whole main_v39_0).slice (win0_6.rect t)).emb y = ix3 (head t) (row t (y 1)) (y 2) := by blk_ext [idx_val t, row, head]
  have ey : y = ix3 (0 : Fin 1) (y 1 : Fin 2816) (y 2 : Fin 64) := by
    funext a; fin_cases a
    · exact Fin.ext (Nat.lt_one_iff.mp (y 0).isLt)
    · rfl
    · rfl
  rw [e, ey]
  by_cases h : t.val % 30 = 0
  · rw [outsAt0_A m c t h]; frame_out
    refine pay3_at h0 h3 ha t _ _ _ _ (fun l => ?_) fun l => ?_ <;> rw [blk1 h1 h2] <;> pointwise
  · rw [outsAt0_B m c t h]; frame_out
    refine pay3_at h0 h3 ha t _ _ _ _ (fun l => ?_) fun l => ?_ <;> rw [blk1 h1 h2] <;> pointwise

/-- The sum of a quantity over the heads that take gain `s`. -/
def sel (F : Fin 10 → Fin 8448 → ℝ) (s : Fin 2) : ℝ := ∑ h, pick (kind h) s (∑ i, F h i)

/-- The parts of all blocks are the sum over all heads and rows. -/
theorem sum_part (F : Fin 10 → Fin 8448 → ℝ) (s : Fin 2) :
    ∑ t : Fin cfg0.N, (pick (kind (head t)) s (∑ r : Fin 2816, F (head t) (row t r)) : EReal) = (sel F s : EReal) := by
  have a : ∀ (k : Fin 2) (n : ℕ) (f : Fin n → ℝ), pick k s (∑ i, f i) = ∑ i, pick k s (f i) := fun k n f => by
    unfold pick
    split
    · rfl
    · simp
  rw [← coe_sum, sel]
  refine congrArg (fun r : ℝ => (r : EReal)) ?_
  simp only [a]
  exact Fin.sum_points_lanes_congr 3 fun t r ha hl => rfl

/-- The last point. -/
def t0_last : Fin cfg0.N := ⟨29, by decide⟩

include h0 h3 ha in
/-- The gains' gradients after the run. -/
theorem final_7 : (dats m 0 c).arrAt 7 (cfgs 0).N = (fun j => (sel (dgRow x dy th (j 1)) (j 0) : EReal) : FVec Ideal S2x64 .f32) := by
  refine (dats m 0 c).arrAt_eq_of_after_last 7 t0_last (by decide +kernel) _ fun j => ?_
  blk_simp
  rw [after0_7, Pipeline.eq_sum_fin_of_reset_step_apply_last (fun n h => (outsAt0 m c n h).2) 30 (fun _ => (0 : EReal))
    (fun t (j : S2x64.Idx) => (pick (kind (head t)) (j 0) (∑ r : Fin 2816, dgRow x dy th (j 1) (head t) (row t r)) : EReal))
    (fun t h j => by
      rw [outsAt0_A m c t h]; frame_out
      refine (pay2_at h0 h3 ha t _ _).trans ?_
      pointwise [k0_pay4])
    (fun t h j => by
      rw [outsAt0_B m c t h]; frame_out
      exact pay2_at h0 h3 ha t _ _)
    (le_of_eq N_0) t0_last rfl j, zero_add]
  exact sum_part _ _

end values

end Cert.RopeIdeal.Value

end
-- ==== Proof.RopeRef.lean ====
/- Hand-written, untrusted: the reference of the rotated norm's gradient at real arguments, and the equality with the kernel. -/
module

public import proofs.«01_k».proof.Proof.Rope
public import proofs.«01_k».proof.Proof.NormRef
public import proofs.«01_k».proof.Proof.Gen.RopeRefIdeal.Run

@[expose] public section

set_option maxRecDepth 16384

noncomputable section

open Idealize.ShloMosaic Idealize.ShloMosaic.TcCoe Idealize.SL.Sem
open scoped BigOperators

namespace Cert.RopeRefIdeal.Value

open Cert.RopeRefIdeal Cert.RopeRefIdeal.Gen Cert.Reals
open Cert.RopeIdeal.Value (dr back dxRow dgRow xr tabC tabS mate sign gains kind sel pick)
open Cert.NormIdeal.Value (lat con sum_rows)

/-- A head of the queries. -/
def hq (s : Fin 8) : Fin 10 := ⟨s.val, by omega⟩

/-- A head of the keys. -/
def hk (s : Fin 2) : Fin 10 := ⟨8 + s.val, by omega⟩

/-- A sum over the heads is the queries' and the keys'. -/
theorem sum_heads (F : Fin 10 → ℝ) : ∑ h, F h = ∑ s, F (hq s) + ∑ s, F (hk s) := by
  rw [← Fin.sum_congr' F (by norm_num : 8 + 2 = 10), Fin.sum_univ_add]
  rfl

/-- What the queries' gain collects. -/
theorem sel_q (F : Fin 10 → Fin 8448 → ℝ) : sel F 0 = ∑ s, ∑ r, F (hq s) (con r) + ∑ s, ∑ r, F (hq s) (lat r) := by
  rw [sel, sum_heads]
  simp [kind, pick, hq, hk, sum_rows, Finset.sum_add_distrib, add_comm]

/-- What the keys' gain collects. -/
theorem sel_k (F : Fin 10 → Fin 8448 → ℝ) : sel F 1 = ∑ s, ∑ r, F (hk s) (con r) + ∑ s, ∑ r, F (hk s) (lat r) := by
  rw [sel, sum_heads]
  simp [kind, pick, hq, hk, sum_rows, Finset.sum_add_distrib, add_comm]

/-- A host sum along the two leading axes. -/
theorem hostReduceAdd_d01 {p n k : ℕ} (h : (⟨3, ![p, n, k]⟩ : Shape).ReducesTo [0, 1] ⟨1, ![k]⟩) (v : (⟨3, ![p, n, k]⟩ : Shape).Idx → EReal) (z : EReal)
    (j : (⟨1, ![k]⟩ : Shape).Idx) : Ideal.hostReduceAdd h v z j = z + ∑ a : Fin p, ∑ b : Fin n, v (ix3 a b (j 0 : Fin k)) := by
  unfold Ideal.hostReduceAdd
  congr 1
  rw [← Finset.sum_product' (f := fun (a : Fin p) (b : Fin n) => v (ix3 a b (j 0 : Fin k)))]
  have back : ∀ i ∈ Finset.univ.filter (fun i => h.drop i = j), ix3 (i 0 : Fin p) (i 1 : Fin n) (j 0 : Fin k) = i := fun i hi => by
    have e := (Finset.mem_filter.mp hi).2
    funext a; apply Fin.ext; match a with
      | ⟨0, _⟩ => rfl
      | ⟨1, _⟩ => rfl
      | ⟨2, _⟩ => exact (congrArg Fin.val (congrFun e 0)).symm
  refine Finset.sum_nbij' (fun i => ((i 0 : Fin p), (i 1 : Fin n))) (fun q => ix3 q.1 q.2 (j 0 : Fin k)) (fun i _ => by simp)
    (fun q _ => Finset.mem_filter.mpr ⟨Finset.mem_univ _, ?_⟩) back (fun q _ => rfl) (fun i hi => congrArg v (back i hi).symm)
  funext b; apply Fin.ext; match b with
    | ⟨0, _⟩ => rfl

variable {V0 : Valuation τ sig (Elt Ideal)} {x dy : S10x8448x64.Idx → ℝ} {qg kg : S64.Idx → ℝ} {th : S8192x32.Idx → ℝ}

section

variable (hx : (V0 (Proc.devRef .tc main_arg0) : FVec Ideal S10x8448x64 .f32) = fun i => (x i : EReal))
  (hq1 : (V0 (Proc.devRef .tc main_arg1) : FVec Ideal S64 .f32) = fun i => (qg i : EReal))
  (hk1 : (V0 (Proc.devRef .tc main_arg2) : FVec Ideal S64 .f32) = fun i => (kg i : EReal))
  (hd : (V0 (Proc.devRef .tc main_arg3) : FVec Ideal S10x8448x64 .f32) = fun i => (dy i : EReal))
  (ha : (res_main_v25 V0 : FVec Ideal S8192x32 .f32) = fun i => (th i : EReal))

/-- Among a context's rows the rotation does nothing. -/
theorem dr_con (h : Fin 10) (r : Fin 256) (l : Fin 64) : dr dy th h (con r) l = dy (ix3 h (con r) l) := by
  have hn : ¬ (con r).val < 8192 := by simp [con]
  simp [dr, back, tabC, tabS, hn]

/-- A pair's first feature, turned by the transposed rotation. -/
theorem turn_even (h : Fin 10) (r : Fin 8192) (l : Fin 64) (h2 : l.val % 2 = 0) : dr dy th h (lat r) l
    = dy (ix3 h (lat r) ⟨l.val / 2 * 2 + 1, by omega⟩) * Real.sin (th (ix2 r ⟨l.val / 2, by omega⟩))
      + dy (ix3 h (lat r) ⟨l.val / 2 * 2, by omega⟩) * Real.cos (th (ix2 r ⟨l.val / 2, by omega⟩)) := by
  have e1 : mate l = ⟨l.val / 2 * 2 + 1, by omega⟩ := by rw [mate, dif_pos h2]; exact Fin.ext (by simp; omega)
  have e0 : l = ⟨l.val / 2 * 2, by omega⟩ := Fin.ext (by simp; omega)
  have hc : tabC th (lat r) l = Real.cos (th (ix2 r ⟨l.val / 2, by omega⟩)) := dif_pos r.isLt
  have hs : tabS th (lat r) (mate l) = Real.sin (th (ix2 r ⟨l.val / 2, by omega⟩)) := by
    refine (dif_pos r.isLt).trans ?_
    have e : (⟨(mate l).val / 2, by omega⟩ : Fin 32) = ⟨l.val / 2, by omega⟩ := Fin.ext (show (mate l).val / 2 = l.val / 2 by have e := congrArg Fin.val e1; change (mate l).val = l.val / 2 * 2 + 1 at e; omega)
    exact congrArg (fun i => Real.sin (th (ix2 r i))) e
  rw [dr, back, hc, hs, sign, if_pos h2, e1, ← e0]
  ring

/-- A pair's second feature, likewise. -/
theorem turn_odd (h : Fin 10) (r : Fin 8192) (l : Fin 64) (h2 : ¬ l.val % 2 = 0) : dr dy th h (lat r) l
    = dy (ix3 h (lat r) ⟨l.val / 2 * 2 + 1, by omega⟩) * Real.cos (th (ix2 r ⟨l.val / 2, by omega⟩))
      + -dy (ix3 h (lat r) ⟨l.val / 2 * 2, by omega⟩) * Real.sin (th (ix2 r ⟨l.val / 2, by omega⟩)) := by
  have e1 : mate l = ⟨l.val / 2 * 2, by omega⟩ := by rw [mate, dif_neg h2]; exact Fin.ext (by simp; omega)
  have e0 : l = ⟨l.val / 2 * 2 + 1, by omega⟩ := Fin.ext (by simp; omega)
  have hc : tabC th (lat r) l = Real.cos (th (ix2 r ⟨l.val / 2, by omega⟩)) := dif_pos r.isLt
  have hs : tabS th (lat r) (mate l) = Real.sin (th (ix2 r ⟨l.val / 2, by omega⟩)) := by
    refine (dif_pos r.isLt).trans ?_
    have e : (⟨(mate l).val / 2, by omega⟩ : Fin 32) = ⟨l.val / 2, by omega⟩ := Fin.ext (show (mate l).val / 2 = l.val / 2 by have e := congrArg Fin.val e1; change (mate l).val = l.val / 2 * 2 at e; omega)
    exact congrArg (fun i => Real.sin (th (ix2 r i))) e
  rw [dr, back, hc, hs, sign, if_neg h2, e1, ← e0]
  ring

/-- The first feature as computed among the extended reals, -/
theorem even_coe (h : Fin 10) (r : Fin 8192) (l : Fin 64) (h2 : l.val % 2 = 0) :
    0 + ((dy (ix3 h (lat r) ⟨l.val / 2 * 2 + 1, by omega⟩) : EReal) * Ideal.sin (th (ix2 r ⟨l.val / 2, by omega⟩) : EReal)
      + (dy (ix3 h (lat r) ⟨l.val / 2 * 2, by omega⟩) : EReal) * Ideal.cos (th (ix2 r ⟨l.val / 2, by omega⟩) : EReal)) = (dr dy th h (lat r) l : EReal) := by
  rw [turn_even h r l h2, zero_add, EReal.coe_add, EReal.coe_mul, EReal.coe_mul]
  rfl

/-- and the second. -/
theorem odd_coe (h : Fin 10) (r : Fin 8192) (l : Fin 64) (h2 : ¬ l.val % 2 = 0) :
    (dy (ix3 h (lat r) ⟨l.val / 2 * 2 + 1, by omega⟩) : EReal) * Ideal.cos (th (ix2 r ⟨l.val / 2, by omega⟩) : EReal)
      + -(dy (ix3 h (lat r) ⟨l.val / 2 * 2, by omega⟩) : EReal) * Ideal.sin (th (ix2 r ⟨l.val / 2, by omega⟩) : EReal) + 0 = (dr dy th h (lat r) l : EReal) := by
  rw [turn_odd h r l h2, add_zero, EReal.coe_add, EReal.coe_mul, EReal.coe_mul, EReal.coe_neg]
  rfl

/-- The queries' gain, -/
theorem gains_q (l : Fin 64) : gains qg kg 0 l = qg (ix1 l) := if_pos (by decide)

/-- and the keys'. -/
theorem gains_k (l : Fin 64) : gains qg kg 1 l = kg (ix1 l) := if_neg (by decide)

/-- The chain rule through the inverse root mean square is the kernel's closed form. -/
theorem chain_dx (x d g : Fin 64 → ℝ) (l : Fin 64) :
    (d l : EReal) * (g l : EReal)
        * Ideal.rsqrt (Ideal.div (∑ i, (x i : EReal) * (x i : EReal)) (Ideal.ofBits .f32 0x42800000#32) + Ideal.ofBits .f32 0x358637BD#32)
      + (x l : EReal) * Ideal.div ((∑ i, (x i : EReal) * ((d i : EReal) * (g i : EReal))) * (Ideal.ofBits .f32 0xBF000000#32
        * Ideal.div (Ideal.rsqrt (Ideal.div (∑ i, (x i : EReal) * (x i : EReal)) (Ideal.ofBits .f32 0x42800000#32) + Ideal.ofBits .f32 0x358637BD#32))
            (Ideal.div (∑ i, (x i : EReal) * (x i : EReal)) (Ideal.ofBits .f32 0x42800000#32) + Ideal.ofBits .f32 0x358637BD#32)))
          (Ideal.ofBits .f32 0x42800000#32)
      + Ideal.div ((∑ i, (x i : EReal) * ((d i : EReal) * (g i : EReal))) * (Ideal.ofBits .f32 0xBF000000#32
        * Ideal.div (Ideal.rsqrt (Ideal.div (∑ i, (x i : EReal) * (x i : EReal)) (Ideal.ofBits .f32 0x42800000#32) + Ideal.ofBits .f32 0x358637BD#32))
            (Ideal.div (∑ i, (x i : EReal) * (x i : EReal)) (Ideal.ofBits .f32 0x42800000#32) + Ideal.ofBits .f32 0x358637BD#32)))
          (Ideal.ofBits .f32 0x42800000#32) * (x l : EReal)
      = (dxRow x d g l : EReal) := by
  simp only [ms_64, rsqrt_ms, div_ms]
  simp only [ofBits_neg_half, ofBits_64, Ideal.div_coe (by norm_num : (64 : ℝ) ≠ 0), ← EReal.coe_mul, ← EReal.coe_add, ← coe_sum]
  refine congrArg (fun r : ℝ => (r : EReal)) ?_
  have e : (∑ i, d i * g i * (x i * inv x)) = (∑ i, x i * (d i * g i)) * inv x := by
    rw [Finset.sum_mul]
    exact Finset.sum_congr rfl fun i _ => by ring
  rw [dxRow, e, ← inv_mul_inv]
  ring

/-- Mean squares of the queries' latents. -/
def ms_v28 (X : FVec Ideal S8x8192x64 .f32) : FVec Ideal S8x8192x1 .f32 :=
  addf (Host.divf (broadcastInDim S8x8192x1 ![0, 1] bcast_S8x8192_S8x8192x1_0_1 (Host.reduceAdd (mulf X X) (constant S_ .f32 0x00000000#32) reducesTo_S8x8192x64_S8x8192_d2 h_S_)) (broadcastInDim S8x8192x1 ![] bcast_S_S8x8192x1 (constant S_ .f32 0x42800000#32))) (broadcastInDim S8x8192x1 ![] bcast_S_S8x8192x1 (constant S_ .f32 0x358637BD#32))

/-- The part of the gradient that comes through them. -/
def thru_v28 (X D : FVec Ideal S8x8192x64 .f32) (G : FVec Ideal S64 .f32) : FVec Ideal S8x8192x64 .f32 :=
  broadcastInDim S8x8192x64 ![0, 1] bcast_S8x8192_S8x8192x64_0_1 (Host.reduceAdd (Host.divf (mulf (shapeCast _ (Host.reduceAdd (mulf X (mulf D (broadcastInDim S8x8192x64 ![0, 1, 2] bcast_S1x1x64_S8x8192x64_0_1_2 (broadcastInDim S1x1x64 ![2] bcast_S64_S1x1x64_2 G)))) (constant S_ .f32 0x00000000#32) reducesTo_S8x8192x64_S8x8192_d2 h_S_) shapeCasts_S8x8192_S8x8192x1) (mulf (broadcastInDim S8x8192x1 ![] bcast_S_S8x8192x1 (constant S_ .f32 0xBF000000#32)) (Host.divf (Host.rsqrt (ms_v28 X)) (ms_v28 X)))) (broadcastInDim S8x8192x1 ![] bcast_S_S8x8192x1 (constant S_ .f32 0x42800000#32))) (constant S_ .f32 0x00000000#32) reducesTo_S8x8192x1_S8x8192_d2 h_S_)

/-- The gradient of the queries' latents: `X` the input, `D` the cotangent, `G` the gain. -/
theorem core_v28 (X D : FVec Ideal S8x8192x64 .f32) (G : FVec Ideal S64 .f32) (x d : Fin 8 → Fin 8192 → Fin 64 → ℝ) (g : Fin 64 → ℝ)
    (hX : X = fun y => (x (y 0) (y 1) (y 2) : EReal)) (hD : D = fun y => (d (y 0) (y 1) (y 2) : EReal)) (hG : G = fun y => (g (y 0) : EReal)) :
    addf (addf (mulf (mulf D (broadcastInDim S8x8192x64 ![0, 1, 2] bcast_S1x1x64_S8x8192x64_0_1_2 (broadcastInDim S1x1x64 ![2] bcast_S64_S1x1x64_2 G))) (broadcastInDim S8x8192x64 ![0, 1, 2] bcast_S8x8192x1_S8x8192x64_0_1_2 (Host.rsqrt (ms_v28 X)))) (mulf X (thru_v28 X D G))) (mulf (thru_v28 X D G) X)
      = fun y => (dxRow (x (y 0) (y 1)) (d (y 0) (y 1)) g (y 2) : EReal) := by
  subst hX hD hG
  funext y
  idx_vars y
  pointwise [thru_v28, ms_v28]
  exact (congrArg₂ (· + ·) (congrArg₂ (· + ·) rfl (congrArg₂ (· * ·) rfl (Fin.sum_univ_one _))) (congrArg₂ (· * ·) (Fin.sum_univ_one _) rfl)).trans (chain_dx _ _ _ _)

/-- Their part of their gain's gradient. -/
theorem gain_v28 (X D : FVec Ideal S8x8192x64 .f32) (x d : Fin 8 → Fin 8192 → Fin 64 → ℝ)
    (hX : X = fun y => (x (y 0) (y 1) (y 2) : EReal)) (hD : D = fun y => (d (y 0) (y 1) (y 2) : EReal)) :
    Host.reduceAdd (mulf (mulf X (broadcastInDim S8x8192x64 ![0, 1, 2] bcast_S8x8192x1_S8x8192x64_0_1_2 (Host.rsqrt (ms_v28 X)))) D) (constant S_ .f32 0x00000000#32) reducesTo_S8x8192x64_S64_d0_1 h_S_
      = (fun j => ((∑ s, ∑ r, d s r (j 0) * (x s r (j 0) * Reals.inv (x s r)) : ℝ) : EReal) : FVec Ideal S64 .f32) := by
  subst hX hD
  funext j
  idx_vars j
  pointwise [ms_v28]
  rw [hostReduceAdd_d01, zero_add]
  pointwise
  simp only [ms_64, rsqrt_ms]
  simp only [← EReal.coe_mul, ← coe_sum]
  exact congrArg (fun r : ℝ => (r : EReal)) (Finset.sum_congr rfl fun s _ => Finset.sum_congr rfl fun r _ => mul_comm _ _)

/-- Mean squares of the keys' latents. -/
def ms_v68 (X : FVec Ideal S2x8192x64 .f32) : FVec Ideal S2x8192x1 .f32 :=
  addf (Host.divf (broadcastInDim S2x8192x1 ![0, 1] bcast_S2x8192_S2x8192x1_0_1 (Host.reduceAdd (mulf X X) (constant S_ .f32 0x00000000#32) reducesTo_S2x8192x64_S2x8192_d2 h_S_)) (broadcastInDim S2x8192x1 ![] bcast_S_S2x8192x1 (constant S_ .f32 0x42800000#32))) (broadcastInDim S2x8192x1 ![] bcast_S_S2x8192x1 (constant S_ .f32 0x358637BD#32))

/-- The part of the gradient that comes through them. -/
def thru_v68 (X D : FVec Ideal S2x8192x64 .f32) (G : FVec Ideal S64 .f32) : FVec Ideal S2x8192x64 .f32 :=
  broadcastInDim S2x8192x64 ![0, 1] bcast_S2x8192_S2x8192x64_0_1 (Host.reduceAdd (Host.divf (mulf (shapeCast _ (Host.reduceAdd (mulf X (mulf D (broadcastInDim S2x8192x64 ![0, 1, 2] bcast_S1x1x64_S2x8192x64_0_1_2 (broadcastInDim S1x1x64 ![2] bcast_S64_S1x1x64_2 G)))) (constant S_ .f32 0x00000000#32) reducesTo_S2x8192x64_S2x8192_d2 h_S_) shapeCasts_S2x8192_S2x8192x1) (mulf (broadcastInDim S2x8192x1 ![] bcast_S_S2x8192x1 (constant S_ .f32 0xBF000000#32)) (Host.divf (Host.rsqrt (ms_v68 X)) (ms_v68 X)))) (broadcastInDim S2x8192x1 ![] bcast_S_S2x8192x1 (constant S_ .f32 0x42800000#32))) (constant S_ .f32 0x00000000#32) reducesTo_S2x8192x1_S2x8192_d2 h_S_)

/-- The gradient of the keys' latents: `X` the input, `D` the cotangent, `G` the gain. -/
theorem core_v68 (X D : FVec Ideal S2x8192x64 .f32) (G : FVec Ideal S64 .f32) (x d : Fin 2 → Fin 8192 → Fin 64 → ℝ) (g : Fin 64 → ℝ)
    (hX : X = fun y => (x (y 0) (y 1) (y 2) : EReal)) (hD : D = fun y => (d (y 0) (y 1) (y 2) : EReal)) (hG : G = fun y => (g (y 0) : EReal)) :
    addf (addf (mulf (mulf D (broadcastInDim S2x8192x64 ![0, 1, 2] bcast_S1x1x64_S2x8192x64_0_1_2 (broadcastInDim S1x1x64 ![2] bcast_S64_S1x1x64_2 G))) (broadcastInDim S2x8192x64 ![0, 1, 2] bcast_S2x8192x1_S2x8192x64_0_1_2 (Host.rsqrt (ms_v68 X)))) (mulf X (thru_v68 X D G))) (mulf (thru_v68 X D G) X)
      = fun y => (dxRow (x (y 0) (y 1)) (d (y 0) (y 1)) g (y 2) : EReal) := by
  subst hX hD hG
  funext y
  idx_vars y
  pointwise [thru_v68, ms_v68]
  exact (congrArg₂ (· + ·) (congrArg₂ (· + ·) rfl (congrArg₂ (· * ·) rfl (Fin.sum_univ_one _))) (congrArg₂ (· * ·) (Fin.sum_univ_one _) rfl)).trans (chain_dx _ _ _ _)

/-- Their part of their gain's gradient. -/
theorem gain_v68 (X D : FVec Ideal S2x8192x64 .f32) (x d : Fin 2 → Fin 8192 → Fin 64 → ℝ)
    (hX : X = fun y => (x (y 0) (y 1) (y 2) : EReal)) (hD : D = fun y => (d (y 0) (y 1) (y 2) : EReal)) :
    Host.reduceAdd (mulf (mulf X (broadcastInDim S2x8192x64 ![0, 1, 2] bcast_S2x8192x1_S2x8192x64_0_1_2 (Host.rsqrt (ms_v68 X)))) D) (constant S_ .f32 0x00000000#32) reducesTo_S2x8192x64_S64_d0_1 h_S_
      = (fun j => ((∑ s, ∑ r, d s r (j 0) * (x s r (j 0) * Reals.inv (x s r)) : ℝ) : EReal) : FVec Ideal S64 .f32) := by
  subst hX hD
  funext j
  idx_vars j
  pointwise [ms_v68]
  rw [hostReduceAdd_d01, zero_add]
  pointwise
  simp only [ms_64, rsqrt_ms]
  simp only [← EReal.coe_mul, ← coe_sum]
  exact congrArg (fun r : ℝ => (r : EReal)) (Finset.sum_congr rfl fun s _ => Finset.sum_congr rfl fun r _ => mul_comm _ _)

/-- Mean squares of the queries' contexts. -/
def ms_v108 (X : FVec Ideal S8x256x64 .f32) : FVec Ideal S8x256x1 .f32 :=
  addf (Host.divf (broadcastInDim S8x256x1 ![0, 1] bcast_S8x256_S8x256x1_0_1 (Host.reduceAdd (mulf X X) (constant S_ .f32 0x00000000#32) reducesTo_S8x256x64_S8x256_d2 h_S_)) (broadcastInDim S8x256x1 ![] bcast_S_S8x256x1 (constant S_ .f32 0x42800000#32))) (broadcastInDim S8x256x1 ![] bcast_S_S8x256x1 (constant S_ .f32 0x358637BD#32))

/-- The part of the gradient that comes through them. -/
def thru_v108 (X D : FVec Ideal S8x256x64 .f32) (G : FVec Ideal S64 .f32) : FVec Ideal S8x256x64 .f32 :=
  broadcastInDim S8x256x64 ![0, 1] bcast_S8x256_S8x256x64_0_1 (Host.reduceAdd (Host.divf (mulf (shapeCast _ (Host.reduceAdd (mulf X (mulf D (broadcastInDim S8x256x64 ![0, 1, 2] bcast_S1x1x64_S8x256x64_0_1_2 (broadcastInDim S1x1x64 ![2] bcast_S64_S1x1x64_2 G)))) (constant S_ .f32 0x00000000#32) reducesTo_S8x256x64_S8x256_d2 h_S_) shapeCasts_S8x256_S8x256x1) (mulf (broadcastInDim S8x256x1 ![] bcast_S_S8x256x1 (constant S_ .f32 0xBF000000#32)) (Host.divf (Host.rsqrt (ms_v108 X)) (ms_v108 X)))) (broadcastInDim S8x256x1 ![] bcast_S_S8x256x1 (constant S_ .f32 0x42800000#32))) (constant S_ .f32 0x00000000#32) reducesTo_S8x256x1_S8x256_d2 h_S_)

/-- The gradient of the queries' contexts: `X` the input, `D` the cotangent, `G` the gain. -/
theorem core_v108 (X D : FVec Ideal S8x256x64 .f32) (G : FVec Ideal S64 .f32) (x d : Fin 8 → Fin 256 → Fin 64 → ℝ) (g : Fin 64 → ℝ)
    (hX : X = fun y => (x (y 0) (y 1) (y 2) : EReal)) (hD : D = fun y => (d (y 0) (y 1) (y 2) : EReal)) (hG : G = fun y => (g (y 0) : EReal)) :
    addf (addf (mulf (mulf D (broadcastInDim S8x256x64 ![0, 1, 2] bcast_S1x1x64_S8x256x64_0_1_2 (broadcastInDim S1x1x64 ![2] bcast_S64_S1x1x64_2 G))) (broadcastInDim S8x256x64 ![0, 1, 2] bcast_S8x256x1_S8x256x64_0_1_2 (Host.rsqrt (ms_v108 X)))) (mulf X (thru_v108 X D G))) (mulf (thru_v108 X D G) X)
      = fun y => (dxRow (x (y 0) (y 1)) (d (y 0) (y 1)) g (y 2) : EReal) := by
  subst hX hD hG
  funext y
  idx_vars y
  pointwise [thru_v108, ms_v108]
  exact (congrArg₂ (· + ·) (congrArg₂ (· + ·) rfl (congrArg₂ (· * ·) rfl (Fin.sum_univ_one _))) (congrArg₂ (· * ·) (Fin.sum_univ_one _) rfl)).trans (chain_dx _ _ _ _)

/-- Their part of their gain's gradient. -/
theorem gain_v108 (X D : FVec Ideal S8x256x64 .f32) (x d : Fin 8 → Fin 256 → Fin 64 → ℝ)
    (hX : X = fun y => (x (y 0) (y 1) (y 2) : EReal)) (hD : D = fun y => (d (y 0) (y 1) (y 2) : EReal)) :
    Host.reduceAdd (mulf (mulf X (broadcastInDim S8x256x64 ![0, 1, 2] bcast_S8x256x1_S8x256x64_0_1_2 (Host.rsqrt (ms_v108 X)))) D) (constant S_ .f32 0x00000000#32) reducesTo_S8x256x64_S64_d0_1 h_S_
      = (fun j => ((∑ s, ∑ r, d s r (j 0) * (x s r (j 0) * Reals.inv (x s r)) : ℝ) : EReal) : FVec Ideal S64 .f32) := by
  subst hX hD
  funext j
  idx_vars j
  pointwise [ms_v108]
  rw [hostReduceAdd_d01, zero_add]
  pointwise
  simp only [ms_64, rsqrt_ms]
  simp only [← EReal.coe_mul, ← coe_sum]
  exact congrArg (fun r : ℝ => (r : EReal)) (Finset.sum_congr rfl fun s _ => Finset.sum_congr rfl fun r _ => mul_comm _ _)

/-- Mean squares of the keys' contexts. -/
def ms_v125 (X : FVec Ideal S2x256x64 .f32) : FVec Ideal S2x256x1 .f32 :=
  addf (Host.divf (broadcastInDim S2x256x1 ![0, 1] bcast_S2x256_S2x256x1_0_1 (Host.reduceAdd (mulf X X) (constant S_ .f32 0x00000000#32) reducesTo_S2x256x64_S2x256_d2 h_S_)) (broadcastInDim S2x256x1 ![] bcast_S_S2x256x1 (constant S_ .f32 0x42800000#32))) (broadcastInDim S2x256x1 ![] bcast_S_S2x256x1 (constant S_ .f32 0x358637BD#32))

/-- The part of the gradient that comes through them. -/
def thru_v125 (X D : FVec Ideal S2x256x64 .f32) (G : FVec Ideal S64 .f32) : FVec Ideal S2x256x64 .f32 :=
  broadcastInDim S2x256x64 ![0, 1] bcast_S2x256_S2x256x64_0_1 (Host.reduceAdd (Host.divf (mulf (shapeCast _ (Host.reduceAdd (mulf X (mulf D (broadcastInDim S2x256x64 ![0, 1, 2] bcast_S1x1x64_S2x256x64_0_1_2 (broadcastInDim S1x1x64 ![2] bcast_S64_S1x1x64_2 G)))) (constant S_ .f32 0x00000000#32) reducesTo_S2x256x64_S2x256_d2 h_S_) shapeCasts_S2x256_S2x256x1) (mulf (broadcastInDim S2x256x1 ![] bcast_S_S2x256x1 (constant S_ .f32 0xBF000000#32)) (Host.divf (Host.rsqrt (ms_v125 X)) (ms_v125 X)))) (broadcastInDim S2x256x1 ![] bcast_S_S2x256x1 (constant S_ .f32 0x42800000#32))) (constant S_ .f32 0x00000000#32) reducesTo_S2x256x1_S2x256_d2 h_S_)

/-- The gradient of the keys' contexts: `X` the input, `D` the cotangent, `G` the gain. -/
theorem core_v125 (X D : FVec Ideal S2x256x64 .f32) (G : FVec Ideal S64 .f32) (x d : Fin 2 → Fin 256 → Fin 64 → ℝ) (g : Fin 64 → ℝ)
    (hX : X = fun y => (x (y 0) (y 1) (y 2) : EReal)) (hD : D = fun y => (d (y 0) (y 1) (y 2) : EReal)) (hG : G = fun y => (g (y 0) : EReal)) :
    addf (addf (mulf (mulf D (broadcastInDim S2x256x64 ![0, 1, 2] bcast_S1x1x64_S2x256x64_0_1_2 (broadcastInDim S1x1x64 ![2] bcast_S64_S1x1x64_2 G))) (broadcastInDim S2x256x64 ![0, 1, 2] bcast_S2x256x1_S2x256x64_0_1_2 (Host.rsqrt (ms_v125 X)))) (mulf X (thru_v125 X D G))) (mulf (thru_v125 X D G) X)
      = fun y => (dxRow (x (y 0) (y 1)) (d (y 0) (y 1)) g (y 2) : EReal) := by
  subst hX hD hG
  funext y
  idx_vars y
  pointwise [thru_v125, ms_v125]
  exact (congrArg₂ (· + ·) (congrArg₂ (· + ·) rfl (congrArg₂ (· * ·) rfl (Fin.sum_univ_one _))) (congrArg₂ (· * ·) (Fin.sum_univ_one _) rfl)).trans (chain_dx _ _ _ _)

/-- Their part of their gain's gradient. -/
theorem gain_v125 (X D : FVec Ideal S2x256x64 .f32) (x d : Fin 2 → Fin 256 → Fin 64 → ℝ)
    (hX : X = fun y => (x (y 0) (y 1) (y 2) : EReal)) (hD : D = fun y => (d (y 0) (y 1) (y 2) : EReal)) :
    Host.reduceAdd (mulf (mulf X (broadcastInDim S2x256x64 ![0, 1, 2] bcast_S2x256x1_S2x256x64_0_1_2 (Host.rsqrt (ms_v125 X)))) D) (constant S_ .f32 0x00000000#32) reducesTo_S2x256x64_S64_d0_1 h_S_
      = (fun j => ((∑ s, ∑ r, d s r (j 0) * (x s r (j 0) * Reals.inv (x s r)) : ℝ) : EReal) : FVec Ideal S64 .f32) := by
  subst hX hD
  funext j
  idx_vars j
  pointwise [ms_v125]
  rw [hostReduceAdd_d01, zero_add]
  pointwise
  simp only [ms_64, rsqrt_ms]
  simp only [← EReal.coe_mul, ← coe_sum]
  exact congrArg (fun r : ℝ => (r : EReal)) (Finset.sum_congr rfl fun s _ => Finset.sum_congr rfl fun r _ => mul_comm _ _)

include hx in
/-- The queries' latents. -/
theorem v28_eq : (res_main_v28 V0 : FVec Ideal S8x8192x64 .f32) = fun y => (xr x (hq (y 0)) (lat (y 1)) (y 2) : EReal) := by
  funext y
  idx_vars y
  pointwise [res_main_v28, hx]
  rfl

include hd ha in
/-- Their cotangent, rotated back. -/
theorem v260_eq : (res_main_v260 V0 : FVec Ideal S8x8192x64 .f32) = fun y => (dr dy th (hq (y 0)) (lat (y 1)) (y 2) : EReal) := by
  funext y
  idx_vars y
  pointwise [res_main_v260, res_main_v243, res_main_v241, res_main_v239, res_main_v145, res_main_v60, res_main_v53, res_main_v57, res_main_v50, res_main_v26, res_main_v27, hd, ha]
  by_cases h2 : y2.val % 2 = 0
  · have n1 : ¬ (y2.val / 2 < 32 ∧ 1 ≤ y2.val % 2 ∧ y2.val % 2 - 1 < 1) := by omega
    have n2 : y2.val / 2 < 32 ∧ y2.val % 2 < 1 := by omega
    exact (congrArg₂ (· + ·) (dif_neg n1) (dif_pos n2)).trans (even_coe (hq y0) y1 y2 h2)
  · have n1 : y2.val / 2 < 32 ∧ 1 ≤ y2.val % 2 ∧ y2.val % 2 - 1 < 1 := by omega
    have n2 : ¬ (y2.val / 2 < 32 ∧ y2.val % 2 < 1) := by omega
    exact (congrArg₂ (· + ·) (dif_pos n1) (dif_neg n2)).trans (odd_coe (hq y0) y1 y2 h2)

include hx hq1 hd ha in
/-- Their gradient. -/
theorem seg_v28 : @Eq (FVec Ideal S8x8192x64 .f32) (addf (addf (mulf (res_main_v265 V0) (broadcastInDim S8x8192x64 ![0, 1, 2] bcast_S8x8192x1_S8x8192x64_0_1_2 (res_main_v36 V0))) (mulf (res_main_v28 V0) (res_main_v277 V0))) (mulf (res_main_v277 V0) (res_main_v28 V0)))
    (fun y => (dxRow (xr x (hq (y 0)) (lat (y 1))) (dr dy th (hq (y 0)) (lat (y 1))) (gains qg kg 0) (y 2) : EReal)) :=
  core_v28 (res_main_v28 V0) (res_main_v260 V0) (V0 (Proc.devRef .tc main_arg1)) (fun s r => xr x (hq s) (lat r)) (fun s r => dr dy th (hq s) (lat r)) (gains qg kg 0)
    (v28_eq hx) (v260_eq hd ha) (hq1.trans (funext fun y => by idx_vars y; exact congrArg (fun r : ℝ => (r : EReal)) (gains_q y0).symm))

include hx hd ha in
/-- Their part of their gain's gradient. -/
theorem dg_v28 : @Eq (FVec Ideal S64 .f32) (Host.reduceAdd (mulf (res_main_v41 V0) (res_main_v260 V0)) (constant S_ .f32 0x00000000#32) reducesTo_S8x8192x64_S64_d0_1 h_S_)
    (fun j => ((∑ s, ∑ r, dgRow x dy th (j 0) (hq s) (lat r) : ℝ) : EReal)) :=
  gain_v28 (res_main_v28 V0) (res_main_v260 V0) (fun s r => xr x (hq s) (lat r)) (fun s r => dr dy th (hq s) (lat r)) (v28_eq hx) (v260_eq hd ha)

include hx in
/-- The keys' latents. -/
theorem v68_eq : (res_main_v68 V0 : FVec Ideal S2x8192x64 .f32) = fun y => (xr x (hk (y 0)) (lat (y 1)) (y 2) : EReal) := by
  funext y
  idx_vars y
  pointwise [res_main_v68, hx]
  rfl

include hd ha in
/-- Their cotangent, rotated back. -/
theorem v215_eq : (res_main_v215 V0 : FVec Ideal S2x8192x64 .f32) = fun y => (dr dy th (hk (y 0)) (lat (y 1)) (y 2) : EReal) := by
  funext y
  idx_vars y
  pointwise [res_main_v215, res_main_v198, res_main_v196, res_main_v194, res_main_v146, res_main_v100, res_main_v93, res_main_v97, res_main_v90, res_main_v26, res_main_v27, hd, ha]
  by_cases h2 : y2.val % 2 = 0
  · have n1 : ¬ (y2.val / 2 < 32 ∧ 1 ≤ y2.val % 2 ∧ y2.val % 2 - 1 < 1) := by omega
    have n2 : y2.val / 2 < 32 ∧ y2.val % 2 < 1 := by omega
    exact (congrArg₂ (· + ·) (dif_neg n1) (dif_pos n2)).trans (even_coe (hk y0) y1 y2 h2)
  · have n1 : y2.val / 2 < 32 ∧ 1 ≤ y2.val % 2 ∧ y2.val % 2 - 1 < 1 := by omega
    have n2 : ¬ (y2.val / 2 < 32 ∧ y2.val % 2 < 1) := by omega
    exact (congrArg₂ (· + ·) (dif_pos n1) (dif_neg n2)).trans (odd_coe (hk y0) y1 y2 h2)

include hx hk1 hd ha in
/-- Their gradient. -/
theorem seg_v68 : @Eq (FVec Ideal S2x8192x64 .f32) (addf (addf (mulf (res_main_v220 V0) (broadcastInDim S2x8192x64 ![0, 1, 2] bcast_S2x8192x1_S2x8192x64_0_1_2 (res_main_v76 V0))) (mulf (res_main_v68 V0) (res_main_v232 V0))) (mulf (res_main_v232 V0) (res_main_v68 V0)))
    (fun y => (dxRow (xr x (hk (y 0)) (lat (y 1))) (dr dy th (hk (y 0)) (lat (y 1))) (gains qg kg 1) (y 2) : EReal)) :=
  core_v68 (res_main_v68 V0) (res_main_v215 V0) (V0 (Proc.devRef .tc main_arg2)) (fun s r => xr x (hk s) (lat r)) (fun s r => dr dy th (hk s) (lat r)) (gains qg kg 1)
    (v68_eq hx) (v215_eq hd ha) (hk1.trans (funext fun y => by idx_vars y; exact congrArg (fun r : ℝ => (r : EReal)) (gains_k y0).symm))

include hx hd ha in
/-- Their part of their gain's gradient. -/
theorem dg_v68 : @Eq (FVec Ideal S64 .f32) (Host.reduceAdd (mulf (res_main_v81 V0) (res_main_v215 V0)) (constant S_ .f32 0x00000000#32) reducesTo_S2x8192x64_S64_d0_1 h_S_)
    (fun j => ((∑ s, ∑ r, dgRow x dy th (j 0) (hk s) (lat r) : ℝ) : EReal)) :=
  gain_v68 (res_main_v68 V0) (res_main_v215 V0) (fun s r => xr x (hk s) (lat r)) (fun s r => dr dy th (hk s) (lat r)) (v68_eq hx) (v215_eq hd ha)

include hx in
/-- The queries' contexts. -/
theorem v108_eq : (res_main_v108 V0 : FVec Ideal S8x256x64 .f32) = fun y => (xr x (hq (y 0)) (con (y 1)) (y 2) : EReal) := by
  funext y
  idx_vars y
  pointwise [res_main_v108, hx]
  rfl

include hd in
/-- Their cotangent, rotated back. -/
theorem v150_eq : (res_main_v150 V0 : FVec Ideal S8x256x64 .f32) = fun y => (dr dy th (hq (y 0)) (con (y 1)) (y 2) : EReal) := by
  funext y
  idx_vars y
  pointwise [res_main_v150, res_main_v145, hd]
  exact congrArg (fun r : ℝ => (r : EReal)) (dr_con (hq y0) y1 y2).symm

include hx hq1 hd in
/-- Their gradient. -/
theorem seg_v108 : @Eq (FVec Ideal S8x256x64 .f32) (addf (addf (mulf (res_main_v176 V0) (broadcastInDim S8x256x64 ![0, 1, 2] bcast_S8x256x1_S8x256x64_0_1_2 (res_main_v116 V0))) (mulf (res_main_v108 V0) (res_main_v187 V0))) (mulf (res_main_v187 V0) (res_main_v108 V0)))
    (fun y => (dxRow (xr x (hq (y 0)) (con (y 1))) (dr dy th (hq (y 0)) (con (y 1))) (gains qg kg 0) (y 2) : EReal)) :=
  core_v108 (res_main_v108 V0) (res_main_v150 V0) (V0 (Proc.devRef .tc main_arg1)) (fun s r => xr x (hq s) (con r)) (fun s r => dr dy th (hq s) (con r)) (gains qg kg 0)
    (v108_eq hx) (v150_eq hd) (hq1.trans (funext fun y => by idx_vars y; exact congrArg (fun r : ℝ => (r : EReal)) (gains_q y0).symm))

include hx hd in
/-- Their part of their gain's gradient. -/
theorem dg_v108 : @Eq (FVec Ideal S64 .f32) (Host.reduceAdd (mulf (res_main_v121 V0) (res_main_v150 V0)) (constant S_ .f32 0x00000000#32) reducesTo_S8x256x64_S64_d0_1 h_S_)
    (fun j => ((∑ s, ∑ r, dgRow x dy th (j 0) (hq s) (con r) : ℝ) : EReal)) :=
  gain_v108 (res_main_v108 V0) (res_main_v150 V0) (fun s r => xr x (hq s) (con r)) (fun s r => dr dy th (hq s) (con r)) (v108_eq hx) (v150_eq hd)

include hx in
/-- The keys' contexts. -/
theorem v125_eq : (res_main_v125 V0 : FVec Ideal S2x256x64 .f32) = fun y => (xr x (hk (y 0)) (con (y 1)) (y 2) : EReal) := by
  funext y
  idx_vars y
  pointwise [res_main_v125, hx]
  rfl

include hd in
/-- Their cotangent, rotated back. -/
theorem v148_eq : (res_main_v148 V0 : FVec Ideal S2x256x64 .f32) = fun y => (dr dy th (hk (y 0)) (con (y 1)) (y 2) : EReal) := by
  funext y
  idx_vars y
  pointwise [res_main_v148, res_main_v146, hd]
  exact congrArg (fun r : ℝ => (r : EReal)) (dr_con (hk y0) y1 y2).symm

include hx hk1 hd in
/-- Their gradient. -/
theorem seg_v125 : @Eq (FVec Ideal S2x256x64 .f32) (addf (addf (mulf (res_main_v155 V0) (broadcastInDim S2x256x64 ![0, 1, 2] bcast_S2x256x1_S2x256x64_0_1_2 (res_main_v133 V0))) (mulf (res_main_v125 V0) (res_main_v166 V0))) (mulf (res_main_v166 V0) (res_main_v125 V0)))
    (fun y => (dxRow (xr x (hk (y 0)) (con (y 1))) (dr dy th (hk (y 0)) (con (y 1))) (gains qg kg 1) (y 2) : EReal)) :=
  core_v125 (res_main_v125 V0) (res_main_v148 V0) (V0 (Proc.devRef .tc main_arg2)) (fun s r => xr x (hk s) (con r)) (fun s r => dr dy th (hk s) (con r)) (gains qg kg 1)
    (v125_eq hx) (v148_eq hd) (hk1.trans (funext fun y => by idx_vars y; exact congrArg (fun r : ℝ => (r : EReal)) (gains_k y0).symm))

include hx hd in
/-- Their part of their gain's gradient. -/
theorem dg_v125 : @Eq (FVec Ideal S64 .f32) (Host.reduceAdd (mulf (res_main_v138 V0) (res_main_v148 V0)) (constant S_ .f32 0x00000000#32) reducesTo_S2x256x64_S64_d0_1 h_S_)
    (fun j => ((∑ s, ∑ r, dgRow x dy th (j 0) (hk s) (con r) : ℝ) : EReal)) :=
  gain_v125 (res_main_v125 V0) (res_main_v148 V0) (fun s r => xr x (hk s) (con r)) (fun s r => dr dy th (hk s) (con r)) (v125_eq hx) (v148_eq hd)

/-- The f32 pattern of 32. -/
theorem ofBits_32 : Ideal.ofBits .f32 0x42000000#32 = ((32 : ℝ) : EReal) := by
  simp [Ideal.ofBits, Ideal.ieee]; rw [← EReal.coe_mul]; norm_num

/-- The f32 pattern of 10000. -/
theorem ofBits_10000 : Ideal.ofBits .f32 0x461C4000#32 = ((10000 : ℝ) : EReal) := by
  simp [Ideal.ofBits, Ideal.ieee]; rw [← EReal.coe_mul]; norm_num

/-- An angle is a real number. -/
theorem angle (a b : BitVec 32) : ∃ r : ℝ, FloatOps.sitofp (F := Ideal) FTy.f32 a * Ideal.pow (Ideal.ofBits .f32 0x461C4000#32)
    (Ideal.div (-(Ideal.ofBits .f32 0x40000000#32 * FloatOps.sitofp (F := Ideal) FTy.f32 b)) (Ideal.ofBits .f32 0x42000000#32)) = (r : EReal) := by
  refine ⟨(a.toInt : ℝ) * (10000 : ℝ) ^ (-(2 * (b.toInt : ℝ)) * (1 / 32)), ?_⟩
  change ((a.toInt : ℝ) : EReal) * Ideal.pow _ (Ideal.div (-(_ * ((b.toInt : ℝ) : EReal))) _) = _
  rw [ofBits_10000, ofBits_two, ofBits_32, Ideal.div_coe (by norm_num), ← EReal.coe_mul, ← EReal.coe_neg, ← EReal.coe_mul, EReal.coe_mul]
  rfl

/-- The angles are real numbers. -/
theorem ang_real : Real (res_main_v25 V0 : FVec Ideal S8192x32 .f32) := by
  have h : ∀ j, ∃ r : ℝ, (res_main_v25 V0 : FVec Ideal S8192x32 .f32) j = (r : EReal) := fun j => by
    idx_vars j
    pointwise [res_main_v25, res_main_v14]
    split
    · exact angle _ _
    · exact angle _ _
  choose f hf using h
  exact ⟨f, funext hf⟩

theorem kind_hq (s : Fin 8) : kind (hq s) = 0 := if_pos s.isLt

theorem kind_hk (s : Fin 2) : kind (hk s) = 1 := if_neg (by simp [hk])

/-- Four arrays padded with zeros and added are put side by side. -/
theorem join (f : Fin 10 → Fin 8448 → Fin 64 → ℝ) (A : FVec Ideal S2x256x64 .f32) (B : FVec Ideal S8x256x64 .f32) (C : FVec Ideal S2x8192x64 .f32) (D : FVec Ideal S8x8192x64 .f32)
    (hA : A = fun y => (f (hk (y 0)) (con (y 1)) (y 2) : EReal)) (hB : B = fun y => (f (hq (y 0)) (con (y 1)) (y 2) : EReal))
    (hC : C = fun y => (f (hk (y 0)) (lat (y 1)) (y 2) : EReal)) (hD : D = fun y => (f (hq (y 0)) (lat (y 1)) (y 2) : EReal)) :
    addf (addf (addf (pad S10x8448x64 ![8, 8192, 0] ![0, 0, 0] ![0, 0, 0] A (constant S_ .f32 0x00000000#32) pads_S2x256x64_S10x8448x64_800_819200_000 h_S_) (pad S10x8448x64 ![0, 8192, 0] ![2, 0, 0] ![0, 0, 0] B (constant S_ .f32 0x00000000#32) pads_S8x256x64_S10x8448x64_020_819200_000 h_S_)) (pad S10x8448x64 ![8, 0, 0] ![0, 256, 0] ![0, 0, 0] C (constant S_ .f32 0x00000000#32) pads_S2x8192x64_S10x8448x64_800_02560_000 h_S_)) (pad S10x8448x64 ![0, 0, 0] ![2, 256, 0] ![0, 0, 0] D (constant S_ .f32 0x00000000#32) pads_S8x8192x64_S10x8448x64_020_02560_000 h_S_)
      = fun j => (f (j 0) (j 1) (j 2) : EReal) := by
  subst hA hB hC hD
  funext j
  idx_vars j
  pointwise
  by_cases h0 : j0.val < 8 <;> by_cases h1 : j1.val < 8192
  · rw [dif_neg (by omega), dif_neg (by omega), dif_neg (by omega), dif_pos (by omega), zero_add, zero_add, zero_add]
    rfl
  · rw [dif_neg (by omega), dif_pos (by omega), dif_neg (by omega), dif_neg (by omega), zero_add, add_zero, add_zero]
    exact congrArg (fun i => (f j0 i j2 : EReal)) (Fin.ext (by change 8192 + (j1.val - 8192) = j1.val; omega))
  · rw [dif_neg (by omega), dif_neg (by omega), dif_pos (by omega), dif_neg (by omega), zero_add, zero_add, add_zero]
    exact congrArg (fun i => (f i j1 j2 : EReal)) (Fin.ext (by change 8 + (j0.val - 8) = j0.val; omega))
  · rw [dif_pos (by omega), dif_neg (by omega), dif_neg (by omega), dif_neg (by omega), add_zero, add_zero, add_zero]
    exact congrArg₂ (fun h i => (f h i j2 : EReal)) (Fin.ext (by change 8 + (j0.val - 8) = j0.val; omega)) (Fin.ext (by change 8192 + (j1.val - 8192) = j1.val; omega))

include hx hq1 hk1 hd ha in
/-- The input's gradient, put together from its four parts. -/
theorem dx_all : @Eq (FVec Ideal S10x8448x64 .f32) (addf (addf (addf (pad S10x8448x64 ![8, 8192, 0] ![0, 0, 0] ![0, 0, 0] (addf (addf (mulf (res_main_v155 V0) (broadcastInDim S2x256x64 ![0, 1, 2] bcast_S2x256x1_S2x256x64_0_1_2 (res_main_v133 V0))) (mulf (res_main_v125 V0) (res_main_v166 V0))) (mulf (res_main_v166 V0) (res_main_v125 V0))) (constant S_ .f32 0x00000000#32) pads_S2x256x64_S10x8448x64_800_819200_000 h_S_) (pad S10x8448x64 ![0, 8192, 0] ![2, 0, 0] ![0, 0, 0] (addf (addf (mulf (res_main_v176 V0) (broadcastInDim S8x256x64 ![0, 1, 2] bcast_S8x256x1_S8x256x64_0_1_2 (res_main_v116 V0))) (mulf (res_main_v108 V0) (res_main_v187 V0))) (mulf (res_main_v187 V0) (res_main_v108 V0))) (constant S_ .f32 0x00000000#32) pads_S8x256x64_S10x8448x64_020_819200_000 h_S_)) (pad S10x8448x64 ![8, 0, 0] ![0, 256, 0] ![0, 0, 0] (addf (addf (mulf (res_main_v220 V0) (broadcastInDim S2x8192x64 ![0, 1, 2] bcast_S2x8192x1_S2x8192x64_0_1_2 (res_main_v76 V0))) (mulf (res_main_v68 V0) (res_main_v232 V0))) (mulf (res_main_v232 V0) (res_main_v68 V0))) (constant S_ .f32 0x00000000#32) pads_S2x8192x64_S10x8448x64_800_02560_000 h_S_)) (pad S10x8448x64 ![0, 0, 0] ![2, 256, 0] ![0, 0, 0] (addf (addf (mulf (res_main_v265 V0) (broadcastInDim S8x8192x64 ![0, 1, 2] bcast_S8x8192x1_S8x8192x64_0_1_2 (res_main_v36 V0))) (mulf (res_main_v28 V0) (res_main_v277 V0))) (mulf (res_main_v277 V0) (res_main_v28 V0))) (constant S_ .f32 0x00000000#32) pads_S8x8192x64_S10x8448x64_020_02560_000 h_S_))
    (fun j => (dxRow (xr x (j 0) (j 1)) (dr dy th (j 0) (j 1)) (gains qg kg (kind (j 0))) (j 2) : EReal)) :=
  join (fun h i => dxRow (xr x h i) (dr dy th h i) (gains qg kg (kind h))) _ _ _ _
    ((seg_v125 (qg := qg) (th := th) hx hk1 hd).trans (funext fun y => by idx_vars y; exact congrArg (fun k => (dxRow _ _ (gains qg kg k) _ : EReal)) (kind_hk y0).symm))
    ((seg_v108 (kg := kg) (th := th) hx hq1 hd).trans (funext fun y => by idx_vars y; exact congrArg (fun k => (dxRow _ _ (gains qg kg k) _ : EReal)) (kind_hq y0).symm))
    ((seg_v68 (qg := qg) hx hk1 hd ha).trans (funext fun y => by idx_vars y; exact congrArg (fun k => (dxRow _ _ (gains qg kg k) _ : EReal)) (kind_hk y0).symm))
    ((seg_v28 (kg := kg) hx hq1 hd ha).trans (funext fun y => by idx_vars y; exact congrArg (fun k => (dxRow _ _ (gains qg kg k) _ : EReal)) (kind_hq y0).symm))

include hx hd ha in
/-- The gains' gradients, put together from their parts. -/
theorem dg_all : @Eq (FVec Ideal S2x64 .f32) (concatenate S2x64 0 [⟨S1x64, (broadcastInDim S1x64 ![1] bcast_S64_S1x64_1 (addf (Host.reduceAdd (shapeCast _ (Host.reduceAdd (mulf (res_main_v121 V0) (res_main_v150 V0)) (constant S_ .f32 0x00000000#32) reducesTo_S8x256x64_S64_d0_1 h_S_) shapeCasts_S64_S1x1x64) (constant S_ .f32 0x00000000#32) reducesTo_S1x1x64_S64_d0_1 h_S_) (Host.reduceAdd (shapeCast _ (Host.reduceAdd (mulf (res_main_v41 V0) (res_main_v260 V0)) (constant S_ .f32 0x00000000#32) reducesTo_S8x8192x64_S64_d0_1 h_S_) shapeCasts_S64_S1x1x64) (constant S_ .f32 0x00000000#32) reducesTo_S1x1x64_S64_d0_1 h_S_)))⟩, ⟨S1x64, (broadcastInDim S1x64 ![1] bcast_S64_S1x64_1 (addf (Host.reduceAdd (shapeCast _ (Host.reduceAdd (mulf (res_main_v138 V0) (res_main_v148 V0)) (constant S_ .f32 0x00000000#32) reducesTo_S2x256x64_S64_d0_1 h_S_) shapeCasts_S64_S1x1x64) (constant S_ .f32 0x00000000#32) reducesTo_S1x1x64_S64_d0_1 h_S_) (Host.reduceAdd (shapeCast _ (Host.reduceAdd (mulf (res_main_v81 V0) (res_main_v215 V0)) (constant S_ .f32 0x00000000#32) reducesTo_S2x8192x64_S64_d0_1 h_S_) shapeCasts_S64_S1x1x64) (constant S_ .f32 0x00000000#32) reducesTo_S1x1x64_S64_d0_1 h_S_)))⟩] concatenates_S1x64_S1x64_S2x64_d0)
    (fun j => (sel (dgRow x dy th (j 1)) (j 0) : EReal)) := by
  rw [dg_v28 hx hd ha, dg_v68 hx hd ha, dg_v108 (th := th) hx hd, dg_v125 (th := th) hx hd]
  funext j
  idx_vars j
  pointwise [hostReduceAdd_a01]
  by_cases h : j0.val < 1
  · have e : j0 = 0 := Fin.ext (Nat.lt_one_iff.mp h)
    subst e
    rw [sel_q, EReal.coe_add]
    exact dif_pos h
  · have e : j0 = 1 := Fin.ext (by change j0.val = 1; omega)
    subst e
    rw [sel_k, EReal.coe_add]
    exact dif_neg h

end

end Cert.RopeRefIdeal.Value

namespace Cert.RopeIdeal.Value

open Cert.RopeIdeal Cert.RopeIdeal.Gen Cert.Reals

variable (m : (ℓ : Loc nD τ sig) → Buf (Elt Ideal) ℓ)

/-- The angles are the reference's. -/
theorem ang_arr (c : Dev nD) (V0 : Valuation Cert.RopeRefIdeal.τ Cert.RopeRefIdeal.sig (Elt Ideal)) :
    @Eq (FVec Ideal S8192x32 .f32) (V m c main_v25) (Cert.RopeRefIdeal.Value.res_main_v25 V0) := by
  refine (V_eq m c main_v25).trans ?_
  unfold places
  entry_read
  rfl

section reference

variable (x : FVec Ideal S10x8448x64 .f32) (qg kg : FVec Ideal S64 .f32) (dy : FVec Ideal S10x8448x64 .f32) (th : FVec Ideal S8192x32 .f32)

/-- The input's gradient as a function of the arguments. -/
def dxOf : FVec Ideal S10x8448x64 .f32 := fun j =>
  (dxRow (xr (re x) (j 0) (j 1)) (dr (re dy) (re th) (j 0) (j 1)) (gains (re qg) (re kg) (kind (j 0))) (j 2) : EReal)

/-- The gains' gradients as a function of the arguments. -/
def dgOf : FVec Ideal S2x64 .f32 := fun j => (sel (dgRow (re x) (re dy) (re th) (j 1)) (j 0) : EReal)

/-- Every argument is an array of real numbers. -/
def AllReal : Prop := Real x ∧ Real qg ∧ Real kg ∧ Real dy

variable {x qg kg dy}

/-- The precondition says so. -/
theorem real_of_pre [Cert.Pre_rope_finite.Facts] (h : Cert.Pre_rope_finite.fn (F := Ideal) x qg kg dy = fun _ => 1#1) : AllReal x qg kg dy := by
  have e := congrFun h ix0
  dsimp only [Cert.Pre_rope_finite.fn, Cert.Pre_rope_finite.fn_part1, andi] at e
  simp only [IntOp.andi_eq_one] at e
  obtain ⟨⟨⟨a, b⟩, d⟩, f⟩ := e
  exact ⟨real_of_all _ _ _ _ _ _ a, real_of_all _ _ _ _ _ _ b, real_of_all _ _ _ _ _ _ d, real_of_all _ _ _ _ _ _ f⟩

end reference

/-- The reference's run. -/
theorem ref_run (m' : (ℓ : Loc Cert.RopeRefIdeal.nD Cert.RopeRefIdeal.τ Cert.RopeRefIdeal.sig) → Buf (Elt Ideal) ℓ)
    (g' : Dev Cert.RopeRefIdeal.nD → PrngReg) (hr : ∀ c : Dev Cert.RopeRefIdeal.nD, AllReal (m' ((c.tc : Thread Cert.RopeRefIdeal.nD Cert.RopeRefIdeal.τ).loc Cert.RopeRefIdeal.main_arg0)) (m' ((c.tc : Thread Cert.RopeRefIdeal.nD Cert.RopeRefIdeal.τ).loc Cert.RopeRefIdeal.main_arg1)) (m' ((c.tc : Thread Cert.RopeRefIdeal.nD Cert.RopeRefIdeal.τ).loc Cert.RopeRefIdeal.main_arg2)) (m' ((c.tc : Thread Cert.RopeRefIdeal.nD Cert.RopeRefIdeal.τ).loc Cert.RopeRefIdeal.main_arg3))) :
    θ_run (Cert.RopeRefIdeal.defs (F := Ideal)) (onTc (τ := Cert.RopeRefIdeal.τ) (Cert.RopeRefIdeal.main (F := Ideal)))
      ⟨m', fun _ => 0, g'⟩ fun r => ∀ c : Dev Cert.RopeRefIdeal.nD,
      r.2.mem ((c.tc : Thread Cert.RopeRefIdeal.nD Cert.RopeRefIdeal.τ).loc Cert.RopeRefIdeal.main_v283) = dxOf (m' ((c.tc : Thread Cert.RopeRefIdeal.nD Cert.RopeRefIdeal.τ).loc Cert.RopeRefIdeal.main_arg0)) (m' ((c.tc : Thread Cert.RopeRefIdeal.nD Cert.RopeRefIdeal.τ).loc Cert.RopeRefIdeal.main_arg1)) (m' ((c.tc : Thread Cert.RopeRefIdeal.nD Cert.RopeRefIdeal.τ).loc Cert.RopeRefIdeal.main_arg2)) (m' ((c.tc : Thread Cert.RopeRefIdeal.nD Cert.RopeRefIdeal.τ).loc Cert.RopeRefIdeal.main_arg3)) (Cert.RopeRefIdeal.Value.res_main_v25 (StableHlo.launchContents m' c))
      ∧ r.2.mem ((c.tc : Thread Cert.RopeRefIdeal.nD Cert.RopeRefIdeal.τ).loc Cert.RopeRefIdeal.main_v286) = dgOf (m' ((c.tc : Thread Cert.RopeRefIdeal.nD Cert.RopeRefIdeal.τ).loc Cert.RopeRefIdeal.main_arg0)) (m' ((c.tc : Thread Cert.RopeRefIdeal.nD Cert.RopeRefIdeal.τ).loc Cert.RopeRefIdeal.main_arg3)) (Cert.RopeRefIdeal.Value.res_main_v25 (StableHlo.launchContents m' c))
      ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3) := by
  refine (θ_run Cert.RopeRefIdeal.defs _ _).mono (fun r h c => ?_) (Cert.RopeRefIdeal.Value.run m' g')
  obtain ⟨r0, r1, rest⟩ := h c
  obtain ⟨h0, h1, h2, h3⟩ := hr c
  have ha := (Cert.RopeRefIdeal.Value.ang_real (V0 := StableHlo.launchContents m' c)).eq
  exact ⟨r0.trans (Cert.RopeRefIdeal.Value.dx_all h0.eq h1.eq h2.eq h3.eq ha), r1.trans (Cert.RopeRefIdeal.Value.dg_all h0.eq h3.eq ha), rest⟩

set_option maxHeartbeats 4000000 in
/-- The rotated norm's gradient and its reference end with equal results. -/
theorem algebraic [Cert.Pre_rope_finite.Facts] : Cert.algebraic_RopeIdeal_RopeRefIdeal_pre_rope_finite := by
  pair_intro
  · run_from Cert.RopeIdeal.Gen.run_main m g
    · exact V_main_arg1 m c
    · exact V_main_arg2 m c
  · have hr := fun c => real_of_pre (hpre c)
    run_from ref_run m' g' (fun c => by
      obtain ⟨e0, e1, e2, e3⟩ := hagree c
      rw [e0, e1, e2, e3]
      exact hr c)
    all_goals
      obtain ⟨h0, h1, h2, h3⟩ := hr c
      have ha := (ang_arr m c (StableHlo.launchContents m' c)).trans (Cert.RopeRefIdeal.Value.ang_real (V0 := StableHlo.launchContents m' c)).eq
    · exact (final_6 h0.eq h1.eq h2.eq h3.eq ha).symm
    · exact (final_7 h0.eq h3.eq ha).symm

end Cert.RopeIdeal.Value

end
-- ==== Proof.FlashTrip.lean ====
/- Hand-written, untrusted: what one trip of the loop over the keys writes and carries on. -/
module

public import proofs.«01_k».proof.Proof.Gen.FlashIdeal.Loops
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem

namespace Cert.FlashIdeal.Value

open Cert.FlashIdeal Cert.FlashIdeal.Gen

variable {F : FTy → Type} [FloatOps F]

/-- The rows the `u`-th stretch of trip `k` works on. -/
abbrev seg (k : Fin k0_t1_loop.trips) (u : Fin 11) : Rect S1x8448x64 :=
  Rect.unit (k0_off1 k (BitVec.ofNat 32 u.val)) S1x256x64.size (k0_off1_inb k u)

/-- The key block the `u`-th stretch of trip `k` works on. -/
abbrev blk (k : Fin k0_t1_loop.trips) (u : Fin 11) : Rect S1x33x64x256 :=
  Rect.unit (k0_off2 k (BitVec.ofNat 32 u.val)) S1x1x64x256.size (k0_off2_inb k u)

/-- Where the rows of a stretch begin. -/
theorem off_eq : ∀ (k : Fin k0_t1_loop.trips) (u : Fin 11), k0_off1 k (BitVec.ofNat 32 u.val) = ![0, 2816 * k.val + 256 * u.val, 0] := by
  decide +kernel

/-- Which key block a stretch reads. -/
theorem blk_eq : ∀ (k : Fin k0_t1_loop.trips) (u : Fin 11), k0_off2 k (BitVec.ofNat 32 u.val) = ![0, 11 * k.val + u.val, 0, 0] := by
  decide +kernel

/-- The writes of the first `n` stretches of trip `k`, last first. -/
def segs {e : EltTy} (v : View sig .tc .vmem S1x8448x64 e) (f : v.ty.Contents (Elt F)) (g : Fin 11 → Vec F S1x256x64 e → Vec F S1x256x64 e)
    (k : Fin k0_t1_loop.trips) : (n : ℕ) → n ≤ 11 → List (View.Piece (Elt F) S1x8448x64 e)
  | 0, _ => []
  | n + 1, h => ⟨seg k ⟨n, h⟩, g ⟨n, h⟩ (v.readAt (Elt F) (seg k ⟨n, h⟩).toLoadRect f)⟩ :: segs v f g k n (Nat.le_of_succ_le h)

/-- What a stretch writes into the gradient of the keys. -/
abbrev keysPay (v3 : Vec F S1x512x64 .bf16) (v7 : Vec F S1x64x512 .bf16) (v13 : Vec F S1x64x512 .bf16) (v16 : Vec F S1x64x512 .f32)
    (v21 : Vec F S1x1x512 .f32) (K V : Vec F S1x256x64 .bf16) (L : Vec F S1x256x64 .f32) : Vec F S1x256x64 .f32 :=
  k0_pay5 (k0_pay65 v3) (k0_pay66 v7) (k0_pay68 v13) (k0_pay69 v13 v16) (k0_pay70 v21) K V L

/-- What a stretch writes into the gradient of the values. -/
abbrev valuesPay (v7 : Vec F S1x64x512 .bf16) (v11 : Vec F S1x512x64 .bf16)
    (v21 : Vec F S1x1x512 .f32) (K : Vec F S1x256x64 .bf16) (L : Vec F S1x256x64 .f32) : Vec F S1x256x64 .f32 :=
  k0_pay4 (k0_pay66 v7) (k0_pay67 v11) (k0_pay70 v21) K L

/-- The writes of one trip into the gradient of the keys. -/
theorem trip_keys (𝒱 : Variants) (c : Dev nD) (bd : Option 𝒱.V) (i : grid0.Coords) (arg2 : Memref sig .tc .vmem S1x512x64 .bf16) (harg2
    : arg2.IsWhole) (arg3 : Memref sig .tc .vmem S1x64x512 .bf16) (harg3 : arg3.IsWhole) (arg4 : Memref sig .tc .vmem
    S1x8448x64 .bf16) (harg4 : arg4.IsWhole) (arg5 : Memref sig .tc .vmem S1x33x64x256 .bf16) (harg5 : arg5.IsWhole) (arg6
    : Memref sig .tc .vmem S1x8448x64 .bf16) (harg6 : arg6.IsWhole) (arg7 : Memref sig .tc .vmem S1x512x64 .bf16) (harg7 :
    arg7.IsWhole) (arg8 : Memref sig .tc .vmem S1x64x512 .bf16) (harg8 : arg8.IsWhole) (arg9 : Memref sig .tc .vmem
    S1x64x512 .f32) (harg9 : arg9.IsWhole) (arg10 : Memref sig .tc .vmem S1x1x512 .f32) (harg10 : arg10.IsWhole) (arg11 :
    Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec F S1x512x64 .bf16)
    (v7 : Vec F S1x64x512 .bf16) (v11 : Vec F S1x512x64 .bf16) (v13 : Vec F S1x64x512 .bf16) (v16 : Vec F S1x64x512 .f32)
    (v21 : Vec F S1x1x512 .f32) (X_arg4 : BufTy.Contents (Elt F) arg4.view.ty) (X_arg5 : BufTy.Contents (Elt F)
    arg5.view.ty) (X_arg6 : BufTy.Contents (Elt F) arg6.view.ty) (k : Fin k0_t1_loop.trips) (acc : FVec F S64x512 .f32) (f12 : BufTy.Contents (Elt F) arg12.view.ty) (f13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10
      arg11 harg11 arg12 harg12 arg13 harg13 v3 v7 v11 v13 v16 v21 X_arg4 X_arg5 X_arg6 k).2.1 acc f12 f13
      = segs arg12.view f12 (fun u => keysPay v3 v7 v13 v16 v21
          (arg4.view.readAt (Elt F) (seg k u).toLoadRect X_arg4) (arg6.view.readAt (Elt F) (seg k u).toLoadRect X_arg6)) k 11 le_rfl := by
  unfold trip_k0_t1
  refine congrArg₂ List.cons (congrArg (Sigma.mk (seg k 10)) ?_) ?_
  · rfl
  refine congrArg₂ List.cons (congrArg (Sigma.mk (seg k 9)) ?_) ?_
  · rfl
  refine congrArg₂ List.cons (congrArg (Sigma.mk (seg k 8)) ?_) ?_
  · rfl
  refine congrArg₂ List.cons (congrArg (Sigma.mk (seg k 7)) ?_) ?_
  · rfl
  refine congrArg₂ List.cons (congrArg (Sigma.mk (seg k 6)) ?_) ?_
  · rfl
  refine congrArg₂ List.cons (congrArg (Sigma.mk (seg k 5)) ?_) ?_
  · rfl
  refine congrArg₂ List.cons (congrArg (Sigma.mk (seg k 4)) ?_) ?_
  · rfl
  refine congrArg₂ List.cons (congrArg (Sigma.mk (seg k 3)) ?_) ?_
  · rfl
  refine congrArg₂ List.cons (congrArg (Sigma.mk (seg k 2)) ?_) ?_
  · rfl
  refine congrArg₂ List.cons (congrArg (Sigma.mk (seg k 1)) ?_) ?_
  · rfl
  refine congrArg₂ List.cons (congrArg (Sigma.mk (seg k 0)) ?_) ?_
  · rfl
  rfl

/-- The writes of one trip into the gradient of the values. -/
theorem trip_values (𝒱 : Variants) (c : Dev nD) (bd : Option 𝒱.V) (i : grid0.Coords) (arg2 : Memref sig .tc .vmem S1x512x64 .bf16) (harg2
    : arg2.IsWhole) (arg3 : Memref sig .tc .vmem S1x64x512 .bf16) (harg3 : arg3.IsWhole) (arg4 : Memref sig .tc .vmem
    S1x8448x64 .bf16) (harg4 : arg4.IsWhole) (arg5 : Memref sig .tc .vmem S1x33x64x256 .bf16) (harg5 : arg5.IsWhole) (arg6
    : Memref sig .tc .vmem S1x8448x64 .bf16) (harg6 : arg6.IsWhole) (arg7 : Memref sig .tc .vmem S1x512x64 .bf16) (harg7 :
    arg7.IsWhole) (arg8 : Memref sig .tc .vmem S1x64x512 .bf16) (harg8 : arg8.IsWhole) (arg9 : Memref sig .tc .vmem
    S1x64x512 .f32) (harg9 : arg9.IsWhole) (arg10 : Memref sig .tc .vmem S1x1x512 .f32) (harg10 : arg10.IsWhole) (arg11 :
    Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec F S1x512x64 .bf16)
    (v7 : Vec F S1x64x512 .bf16) (v11 : Vec F S1x512x64 .bf16) (v13 : Vec F S1x64x512 .bf16) (v16 : Vec F S1x64x512 .f32)
    (v21 : Vec F S1x1x512 .f32) (X_arg4 : BufTy.Contents (Elt F) arg4.view.ty) (X_arg5 : BufTy.Contents (Elt F)
    arg5.view.ty) (X_arg6 : BufTy.Contents (Elt F) arg6.view.ty) (k : Fin k0_t1_loop.trips) (acc : FVec F S64x512 .f32) (f12 : BufTy.Contents (Elt F) arg12.view.ty) (f13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10
      arg11 harg11 arg12 harg12 arg13 harg13 v3 v7 v11 v13 v16 v21 X_arg4 X_arg5 X_arg6 k).2.2.1 acc f12 f13
      = segs arg13.view f13 (fun u => valuesPay v7 v11 v21
          (arg4.view.readAt (Elt F) (seg k u).toLoadRect X_arg4)) k 11 le_rfl := by
  unfold trip_k0_t1
  refine congrArg₂ List.cons (congrArg (Sigma.mk (seg k 10)) ?_) ?_
  · rfl
  refine congrArg₂ List.cons (congrArg (Sigma.mk (seg k 9)) ?_) ?_
  · rfl
  refine congrArg₂ List.cons (congrArg (Sigma.mk (seg k 8)) ?_) ?_
  · rfl
  refine congrArg₂ List.cons (congrArg (Sigma.mk (seg k 7)) ?_) ?_
  · rfl
  refine congrArg₂ List.cons (congrArg (Sigma.mk (seg k 6)) ?_) ?_
  · rfl
  refine congrArg₂ List.cons (congrArg (Sigma.mk (seg k 5)) ?_) ?_
  · rfl
  refine congrArg₂ List.cons (congrArg (Sigma.mk (seg k 4)) ?_) ?_
  · rfl
  refine congrArg₂ List.cons (congrArg (Sigma.mk (seg k 3)) ?_) ?_
  · rfl
  refine congrArg₂ List.cons (congrArg (Sigma.mk (seg k 2)) ?_) ?_
  · rfl
  refine congrArg₂ List.cons (congrArg (Sigma.mk (seg k 1)) ?_) ?_
  · rfl
  refine congrArg₂ List.cons (congrArg (Sigma.mk (seg k 0)) ?_) ?_
  · rfl
  rfl

/-- What the first `n` stretches of trip `k` add to the gradient of the queries. -/
def adds (g : Fin 11 → FVec F S64x512 .f32 → FVec F S64x512 .f32) (acc : FVec F S64x512 .f32) : (n : ℕ) → n ≤ 11 → FVec F S64x512 .f32
  | 0, _ => acc
  | n + 1, h => g ⟨n, h⟩ (adds g acc n (Nat.le_of_succ_le h))

/-- What a stretch adds to the gradient of the queries. -/
abbrev queriesPay (v7 : Vec F S1x64x512 .bf16) (v13 : Vec F S1x64x512 .bf16) (v16 : Vec F S1x64x512 .f32)
    (v21 : Vec F S1x1x512 .f32) (K V : Vec F S1x256x64 .bf16) (T : Vec F S1x1x64x256 .bf16) (a : FVec F S64x512 .f32) : FVec F S64x512 .f32 :=
  k0_pay6 a (k0_pay3 (k0_pay66 v7) (k0_pay68 v13) (k0_pay69 v13 v16) (k0_pay70 v21) K V) T

/-- What one trip carries on. -/
theorem trip_queries (𝒱 : Variants) (c : Dev nD) (bd : Option 𝒱.V) (i : grid0.Coords) (arg2 : Memref sig .tc .vmem S1x512x64 .bf16) (harg2
    : arg2.IsWhole) (arg3 : Memref sig .tc .vmem S1x64x512 .bf16) (harg3 : arg3.IsWhole) (arg4 : Memref sig .tc .vmem
    S1x8448x64 .bf16) (harg4 : arg4.IsWhole) (arg5 : Memref sig .tc .vmem S1x33x64x256 .bf16) (harg5 : arg5.IsWhole) (arg6
    : Memref sig .tc .vmem S1x8448x64 .bf16) (harg6 : arg6.IsWhole) (arg7 : Memref sig .tc .vmem S1x512x64 .bf16) (harg7 :
    arg7.IsWhole) (arg8 : Memref sig .tc .vmem S1x64x512 .bf16) (harg8 : arg8.IsWhole) (arg9 : Memref sig .tc .vmem
    S1x64x512 .f32) (harg9 : arg9.IsWhole) (arg10 : Memref sig .tc .vmem S1x1x512 .f32) (harg10 : arg10.IsWhole) (arg11 :
    Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec F S1x512x64 .bf16)
    (v7 : Vec F S1x64x512 .bf16) (v11 : Vec F S1x512x64 .bf16) (v13 : Vec F S1x64x512 .bf16) (v16 : Vec F S1x64x512 .f32)
    (v21 : Vec F S1x1x512 .f32) (X_arg4 : BufTy.Contents (Elt F) arg4.view.ty) (X_arg5 : BufTy.Contents (Elt F)
    arg5.view.ty) (X_arg6 : BufTy.Contents (Elt F) arg6.view.ty) (k : Fin k0_t1_loop.trips) (acc : FVec F S64x512 .f32) (f12 : BufTy.Contents (Elt F) arg12.view.ty) (f13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10
      arg11 harg11 arg12 harg12 arg13 harg13 v3 v7 v11 v13 v16 v21 X_arg4 X_arg5 X_arg6 k).1 acc f12 f13
      = adds (fun u => queriesPay v7 v13 v16 v21
          (arg4.view.readAt (Elt F) (seg k u).toLoadRect X_arg4) (arg6.view.readAt (Elt F) (seg k u).toLoadRect X_arg6)
          (arg5.view.readAt (Elt F) (blk k u).toLoadRect X_arg5)) acc 11 le_rfl := by
  unfold trip_k0_t1
  rfl

end Cert.FlashIdeal.Value

end
-- ==== Proof.FlashLoop.lean ====
/- Hand-written, untrusted: what the loop over the keys leaves, at the ideal values. -/
module

public import proofs.«01_k».proof.Proof.FlashTrip
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.FlashIdeal.Value

open Cert.FlashIdeal Cert.FlashIdeal.Gen

/-- The softmax weight of key `n` for query `q` of a block, from the saved row constants. -/
def Wt (K : Vec Ideal S1x8448x64 .bf16) (v7 : Vec Ideal S1x64x512 .bf16) (v21 : Vec Ideal S1x1x512 .f32) (n : Fin 8448) (q : Fin 512) : EReal :=
  Ideal.exp (∑ e : Fin 64, K (ix3 (0 : Fin 1) n e) * (v7 (ix3 (0 : Fin 1) e q) * Ideal.ofBits FTy.bf16 15872#16) - v21 (ix3 (0 : Fin 1) (0 : Fin 1) q))

/-- The gradient of the score of key `n` for query `q` of a block. -/
def Gs (K V : Vec Ideal S1x8448x64 .bf16) (v7 v13 : Vec Ideal S1x64x512 .bf16) (v16 : Vec Ideal S1x64x512 .f32) (v21 : Vec Ideal S1x1x512 .f32)
    (n : Fin 8448) (q : Fin 512) : EReal :=
  Wt K v7 v21 n q * (∑ e : Fin 64, V (ix3 (0 : Fin 1) n e) * v13 (ix3 (0 : Fin 1) e q) - ∑ e : Fin 64, v13 (ix3 (0 : Fin 1) e q) * v16 (ix3 (0 : Fin 1) e q))

/-- What a block adds to the gradient of the keys. -/
def Tk (K V : Vec Ideal S1x8448x64 .bf16) (v3 : Vec Ideal S1x512x64 .bf16) (v7 v13 : Vec Ideal S1x64x512 .bf16) (v16 : Vec Ideal S1x64x512 .f32) (v21
  : Vec Ideal S1x1x512 .f32)
    (n : Fin 8448) (d : Fin 64) : EReal :=
  ∑ q : Fin 512, Gs K V v7 v13 v16 v21 n q * (v3 (ix3 (0 : Fin 1) q d) * Ideal.ofBits FTy.bf16 15872#16)

/-- What a block adds to the gradient of the values. -/
def Tv (K : Vec Ideal S1x8448x64 .bf16) (v7 : Vec Ideal S1x64x512 .bf16) (v11 : Vec Ideal S1x512x64 .bf16) (v21 : Vec Ideal S1x1x512 .f32)
    (n : Fin 8448) (d : Fin 64) : EReal :=
  ∑ q : Fin 512, Wt K v7 v21 n q * v11 (ix3 (0 : Fin 1) q d)

theorem trips_eq : k0_t1_loop.trips = 3 := by decide +kernel

theorem trip_lt (k : Fin k0_t1_loop.trips) : k.val < 3 := trips_eq ▸ k.isLt

/-- Row `r` of a stretch among all the rows. -/
def row (k : Fin k0_t1_loop.trips) (u : Fin 11) (r : Fin 256) : Fin 8448 :=
  ⟨2816 * k.val + 256 * u.val + r.val, by have := trip_lt k; omega⟩

/-- A load of a stretch is its rows. -/
theorem readAt_seg {e : EltTy} (v : View sig .tc .vmem S1x8448x64 e) (f : v.ty.Contents (Elt Ideal)) (k : Fin k0_t1_loop.trips) (u : Fin 11)
    (r : Fin 256) (d : Fin 64) :
    (v.readAt (Elt Ideal) (seg k u).toLoadRect f : Vec Ideal S1x256x64 e) (ix3 (0 : Fin 1) r d) = v.read (Elt Ideal) f (ix3 (0 : Fin 1) (row k u r) d) := by
  refine congrArg (v.read (Elt Ideal) f) (funext fun a => Fin.ext ?_)
  change k0_off1 k (BitVec.ofNat 32 u.val) a + 1 * ((ix3 (0 : Fin 1) r d : (⟨3, ![1, 256, 64]⟩ : Shape).Idx) a).val = _
  rw [off_eq]
  fin_cases a
  · rfl
  · exact congrArg (_ + ·) (Nat.one_mul _)
  · change 0 + 1 * d.val = d.val; omega

/-- A load of a key block is that block. -/
theorem readAt_blk {e : EltTy} (v : View sig .tc .vmem S1x33x64x256 e) (f : v.ty.Contents (Elt Ideal)) (k : Fin k0_t1_loop.trips) (u : Fin 11)
    (d : Fin 64) (l : Fin 256) :
    (v.readAt (Elt Ideal) (blk k u).toLoadRect f : Vec Ideal S1x1x64x256 e) (ix4 (0 : Fin 1) (0 : Fin 1) d l)
      = v.read (Elt Ideal) f (ix4 (0 : Fin 1) (⟨11 * k.val + u.val, by have := trip_lt k; omega⟩ : Fin 33) d l) := by
  refine congrArg (v.read (Elt Ideal) f) (funext fun a => Fin.ext ?_)
  change k0_off2 k (BitVec.ofNat 32 u.val) a + 1 * ((ix4 (0 : Fin 1) (0 : Fin 1) d l : (⟨4, ![1, 1, 64, 256]⟩ : Shape).Idx) a).val = _
  rw [blk_eq]
  fin_cases a
  · rfl
  · rfl
  · change 0 + 1 * d.val = d.val; omega
  · change 0 + 1 * l.val = l.val; omega

/-- What a stretch writes into the gradient of the keys, at one element. -/
theorem keysPay_apply (K V : Vec Ideal S1x8448x64 .bf16) (k : Fin k0_t1_loop.trips) (u : Fin 11) (v3 : Vec Ideal S1x512x64 .bf16) (v7 : Vec Ideal
    S1x64x512 .bf16) (v13 : Vec Ideal S1x64x512 .bf16) (v16 : Vec Ideal S1x64x512 .f32)
    (v21 : Vec Ideal S1x1x512 .f32) (Kb Vb : Vec Ideal S1x256x64 .bf16) (hK : ∀ r e, Kb (ix3 (0 : Fin 1) r e) = K (ix3 (0 : Fin 1) (row k u r) e))
    (hV : ∀ r e, Vb (ix3 (0 : Fin 1) r e) = V (ix3 (0 : Fin 1) (row k u r) e)) (L : Vec Ideal S1x256x64 .f32) (r : Fin 256) (d : Fin 64) :
    keysPay v3 v7 v13 v16 v21 Kb Vb L (ix3 (0 : Fin 1) r d) = L (ix3 (0 : Fin 1) r d) + Tk K V v3 v7 v13 v16 v21 (row k u r) d := by
  pointwise [keysPay, k0_pay5, k0_pay3, k0_pay2, k0_pay65, k0_pay66, k0_pay68, k0_pay69, k0_pay70]
  simp only [Tk, Gs, Wt, hK, hV]

/-- What a stretch writes into the gradient of the values, at one element. -/
theorem valuesPay_apply (K : Vec Ideal S1x8448x64 .bf16) (k : Fin k0_t1_loop.trips) (u : Fin 11) (v7 : Vec Ideal S1x64x512 .bf16) (v11 : Vec Ideal
    S1x512x64 .bf16)
    (v21 : Vec Ideal S1x1x512 .f32) (Kb : Vec Ideal S1x256x64 .bf16) (hK : ∀ r e, Kb (ix3 (0 : Fin 1) r e) = K (ix3 (0 : Fin 1) (row k u r) e))
    (L : Vec Ideal S1x256x64 .f32) (r : Fin 256) (d : Fin 64) :
    valuesPay v7 v11 v21 Kb L (ix3 (0 : Fin 1) r d) = L (ix3 (0 : Fin 1) r d) + Tv K v7 v11 v21 (row k u r) d := by
  pointwise [valuesPay, k0_pay4, k0_pay2, k0_pay66, k0_pay67, k0_pay70]
  simp only [Tv, Wt, hK]

/-- What a stretch adds to the gradient of the queries, at one element. -/
theorem queriesPay_apply (K V : Vec Ideal S1x8448x64 .bf16) (X : Vec Ideal S1x33x64x256 .bf16) (k : Fin k0_t1_loop.trips) (u : Fin 11) (v7 : Vec Ideal
    S1x64x512 .bf16) (v13 : Vec Ideal S1x64x512 .bf16) (v16 : Vec Ideal S1x64x512 .f32)
        (v21 : Vec Ideal S1x1x512 .f32) (Kb Vb : Vec Ideal S1x256x64 .bf16) (T : Vec Ideal S1x1x64x256 .bf16) (hK : ∀ r e, Kb (ix3 (0 : Fin 1) r e) =
      K (ix3 (0 : Fin 1) (row k u r) e))
    (hV : ∀ r e, Vb (ix3 (0 : Fin 1) r e) = V (ix3 (0 : Fin 1) (row k u r) e))
    (hT : ∀ d l, T (ix4 (0 : Fin 1) (0 : Fin 1) d l) = K (ix3 (0 : Fin 1) (row k u l) d)) (a : FVec Ideal S64x512 .f32) (d : Fin 64) (q : Fin 512) :
    queriesPay v7 v13 v16 v21 Kb Vb T a (ix2 d q) = a (ix2 d q) + ∑ l : Fin 256, K (ix3 (0 : Fin 1) (row k u l) d) * Gs K V v7 v13 v16 v21 (row k u l) q := by
  pointwise [queriesPay, k0_pay6, k0_pay3, k0_pay2, k0_pay65, k0_pay66, k0_pay68, k0_pay69, k0_pay70]
  simp only [Gs, Wt, hK, hV, hT]

/-- What the first stretches of a trip leave of a gradient: each of their rows has its term added. -/
theorem read_segs (v : View sig .tc .vmem S1x8448x64 .f32) (f : v.ty.Contents (Elt Ideal)) (g : Fin 11 → Vec Ideal S1x256x64 .f32 → Vec Ideal S1x256x64 .f32)
    (k : Fin k0_t1_loop.trips) (T : Fin 8448 → Fin 64 → EReal)
    (hg : ∀ u L r d, g u L (ix3 (0 : Fin 1) r d) = L (ix3 (0 : Fin 1) r d) + T (row k u r) d) :
    ∀ (n : ℕ) (h : n ≤ 11) (y : Fin 8448) (d : Fin 64), v.read (Elt Ideal) (v.writes (Elt Ideal) f (segs v f g k n h)) (ix3 (0 : Fin 1) y d)
      = if 2816 * k.val ≤ y.val ∧ y.val < 2816 * k.val + 256 * n then v.read (Elt Ideal) f (ix3 (0 : Fin 1) y d) + T y d
        else v.read (Elt Ideal) f (ix3 (0 : Fin 1) y d)
  | 0, h, y, d => by
    rw [if_neg (by omega)]; rfl
  | n + 1, h, y, d => by
    have o : (seg k ⟨n, h⟩).off 1 = 2816 * k.val + 256 * n := congrFun (off_eq k ⟨n, h⟩) 1
    by_cases c : 2816 * k.val + 256 * n ≤ y.val ∧ y.val < 2816 * k.val + 256 * n + 256
    · rw [if_pos (by omega)]
      have e : row k ⟨n, h⟩ ⟨y.val - (2816 * k.val + 256 * n), by omega⟩ = y := Fin.ext (by simp only [row]; omega)
      refine (v.read_writes_cons_hit_of_coords f (seg k ⟨n, h⟩) _ _ (ix3 (0 : Fin 1) (⟨y.val - (2816 * k.val + 256 * n), by omega⟩ : Fin 256) d) _ fun a => ?_).trans ?_
      · change _ = k0_off1 k (BitVec.ofNat 32 n) a + 1 * _
        rw [show k0_off1 k (BitVec.ofNat 32 n) = _ from off_eq k ⟨n, h⟩]
        fin_cases a
        · rfl
        · change y.val = 2816 * k.val + 256 * n + 1 * (y.val - (2816 * k.val + 256 * n)); omega
        · change d.val = 0 + 1 * d.val; omega
      · refine (hg _ _ _ _).trans ?_
        rw [readAt_seg, e]
    · refine (v.read_writes_cons_miss_of_axis f _ _ _ 1 _ 256 o rfl rfl ?_).trans ?_
      · change y.val < _ ∨ _ ≤ y.val; omega
      · rw [read_segs v f g k T hg n]
        refine if_congr ?_ rfl rfl
        omega

/-- What the first stretches of a trip carry on. -/
theorem adds_apply (g : Fin 11 → FVec Ideal S64x512 .f32 → FVec Ideal S64x512 .f32) (acc : FVec Ideal S64x512 .f32) (i : S64x512.Idx) (C : Fin 11 → EReal)
    (hg : ∀ u a, g u a i = a i + C u) : ∀ (n : ℕ) (h : n ≤ 11), adds g acc n h i = acc i + ∑ u : Fin n, C (Fin.castLE h u)
  | 0, _ => (add_zero _).symm
  | n + 1, h => by
    rw [Fin.sum_univ_castSucc, ← add_assoc]
    refine (hg _ _).trans ?_
    rw [adds_apply g acc i C hg n]
    rfl

/-- One trip more, in the gradient of the keys. -/
theorem st_keys (𝒱 : Variants) (c : Dev nD) (bd : Option 𝒱.V) (i : grid0.Coords) (arg2 : Memref sig .tc .vmem S1x512x64 .bf16) (harg2 : arg2.IsWhole)
    (arg3 : Memref sig .tc .vmem S1x64x512 .bf16) (harg3 : arg3.IsWhole) (arg4 : Memref sig .tc .vmem S1x8448x64 .bf16) (harg4 : arg4.IsWhole) (arg5 :
    Memref sig .tc .vmem S1x33x64x256 .bf16) (harg5 : arg5.IsWhole) (arg6 : Memref sig .tc .vmem S1x8448x64 .bf16) (harg6 : arg6.IsWhole) (arg7 :
    Memref sig .tc .vmem S1x512x64 .bf16) (harg7 : arg7.IsWhole) (arg8 : Memref sig .tc .vmem S1x64x512 .bf16) (harg8 : arg8.IsWhole) (arg9 : Memref
    sig .tc .vmem S1x64x512 .f32) (harg9 : arg9.IsWhole) (arg10 : Memref sig .tc .vmem S1x1x512 .f32) (harg10 : arg10.IsWhole) (arg11 : Memref sig .tc
    .vmem S1x64x512 .f32) (harg11 : arg11.IsWhole) (arg12 : Memref sig .tc .vmem S1x8448x64 .f32) (harg12 : arg12.IsWhole) (arg13 : Memref sig .tc
    .vmem S1x8448x64 .f32) (harg13 : arg13.IsWhole) (v3 : Vec Ideal S1x512x64 .bf16) (v7 : Vec Ideal S1x64x512 .bf16) (v11 : Vec Ideal S1x512x64
    .bf16) (v13 : Vec Ideal S1x64x512 .bf16) (v16 : Vec Ideal S1x64x512 .f32) (v21 : Vec Ideal S1x1x512 .f32) (X_arg4 : BufTy.Contents (Elt Ideal)
    arg4.view.ty) (X_arg5 : BufTy.Contents (Elt Ideal) arg5.view.ty) (X_arg6 : BufTy.Contents (Elt Ideal) arg6.view.ty) (G_arg12 : BufTy.Contents (Elt
    Ideal) arg12.view.ty) (G_arg13 : BufTy.Contents (Elt Ideal) arg13.view.ty) (init : FVec Ideal S64x512 .f32)
    (k : Fin k0_t1_loop.trips) (y : Fin 8448) (d : Fin 64) :
        arg12.view.read (Elt Ideal) (arg12.view.writes (Elt Ideal) G_arg12 (st_k0_t1 (F := Ideal) 𝒱 c bd i arg2 harg2 arg3 harg3 arg4 harg4 arg5 harg5
      arg6 harg6 arg7 harg7 arg8 harg8 arg9 harg9 arg10 harg10 arg11 harg11 arg12 harg12 arg13 harg13 v3 v7 v11 v13 v16 v21 X_arg4 X_arg5 X_arg6
      G_arg12 G_arg13 init (k.val + 1)).2.1) (ix3 (0 : Fin 1) y d)
      = if 2816 * k.val ≤ y.val ∧ y.val < 2816 * k.val + 256 * 11
                then arg12.view.read (Elt Ideal) (arg12.view.writes (Elt Ideal) G_arg12 (st_k0_t1 (F := Ideal) 𝒱 c bd i arg2 harg2 arg3 harg3 arg4
          harg4 arg5 harg5 arg6 harg6 arg7 harg7 arg8 harg8 arg9 harg9 arg10 harg10 arg11 harg11 arg12 harg12 arg13 harg13 v3 v7 v11 v13 v16 v21
          X_arg4 X_arg5 X_arg6 G_arg12 G_arg13 init k.val).2.1) (ix3 (0 : Fin 1) y d)
          + Tk (arg4.view.read (Elt Ideal) X_arg4) (arg6.view.read (Elt Ideal) X_arg6) v3 v7 v13 v16 v21 y d
                else arg12.view.read (Elt Ideal) (arg12.view.writes (Elt Ideal) G_arg12 (st_k0_t1 (F := Ideal) 𝒱 c bd i arg2 harg2 arg3 harg3 arg4
          harg4 arg5 harg5 arg6 harg6 arg7 harg7 arg8 harg8 arg9 harg9 arg10 harg10 arg11 harg11 arg12 harg12 arg13 harg13 v3 v7 v11 v13 v16 v21
          X_arg4 X_arg5 X_arg6 G_arg12 G_arg13 init k.val).2.1) (ix3 (0 : Fin 1) y d) := by
  rw [st_k0_t1_succ]
  dsimp only
  rw [View.writes_append, trip_keys]
  exact read_segs arg12.view _ _ k (Tk (arg4.view.read (Elt Ideal) X_arg4) (arg6.view.read (Elt Ideal) X_arg6) v3 v7 v13 v16 v21)
    (fun u L r d => keysPay_apply _ _ k u v3 v7 v13 v16 v21 _ _ (fun r e => readAt_seg arg4.view X_arg4 k u r e) (fun r e => readAt_seg arg6.view X_arg6 k u r e) L r d) 11 le_rfl y d

/-- One trip more, in the gradient of the values. -/
theorem st_values (𝒱 : Variants) (c : Dev nD) (bd : Option 𝒱.V) (i : grid0.Coords) (arg2 : Memref sig .tc .vmem S1x512x64 .bf16) (harg2 :
    arg2.IsWhole) (arg3 : Memref sig .tc .vmem S1x64x512 .bf16) (harg3 : arg3.IsWhole) (arg4 : Memref sig .tc .vmem S1x8448x64 .bf16) (harg4 :
    arg4.IsWhole) (arg5 : Memref sig .tc .vmem S1x33x64x256 .bf16) (harg5 : arg5.IsWhole) (arg6 : Memref sig .tc .vmem S1x8448x64 .bf16) (harg6 :
    arg6.IsWhole) (arg7 : Memref sig .tc .vmem S1x512x64 .bf16) (harg7 : arg7.IsWhole) (arg8 : Memref sig .tc .vmem S1x64x512 .bf16) (harg8 :
    arg8.IsWhole) (arg9 : Memref sig .tc .vmem S1x64x512 .f32) (harg9 : arg9.IsWhole) (arg10 : Memref sig .tc .vmem S1x1x512 .f32) (harg10 :
    arg10.IsWhole) (arg11 : Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec Ideal S1x512x64 .bf16) (v7 : Vec Ideal S1x64x512
    .bf16) (v11 : Vec Ideal S1x512x64 .bf16) (v13 : Vec Ideal S1x64x512 .bf16) (v16 : Vec Ideal S1x64x512 .f32) (v21 : Vec Ideal S1x1x512 .f32)
    (X_arg4 : BufTy.Contents (Elt Ideal) arg4.view.ty) (X_arg5 : BufTy.Contents (Elt Ideal) arg5.view.ty) (X_arg6 : BufTy.Contents (Elt Ideal)
    arg6.view.ty) (G_arg12 : BufTy.Contents (Elt Ideal) arg12.view.ty) (G_arg13 : BufTy.Contents (Elt Ideal) arg13.view.ty) (init : FVec Ideal S64x512
    .f32)
    (k : Fin k0_t1_loop.trips) (y : Fin 8448) (d : Fin 64) :
        arg13.view.read (Elt Ideal) (arg13.view.writes (Elt Ideal) G_arg13 (st_k0_t1 (F := Ideal) 𝒱 c bd i arg2 harg2 arg3 harg3 arg4 harg4 arg5 harg5
      arg6 harg6 arg7 harg7 arg8 harg8 arg9 harg9 arg10 harg10 arg11 harg11 arg12 harg12 arg13 harg13 v3 v7 v11 v13 v16 v21 X_arg4 X_arg5 X_arg6
      G_arg12 G_arg13 init (k.val + 1)).2.2) (ix3 (0 : Fin 1) y d)
      = if 2816 * k.val ≤ y.val ∧ y.val < 2816 * k.val + 256 * 11
                then arg13.view.read (Elt Ideal) (arg13.view.writes (Elt Ideal) G_arg13 (st_k0_t1 (F := Ideal) 𝒱 c bd i arg2 harg2 arg3 harg3 arg4
          harg4 arg5 harg5 arg6 harg6 arg7 harg7 arg8 harg8 arg9 harg9 arg10 harg10 arg11 harg11 arg12 harg12 arg13 harg13 v3 v7 v11 v13 v16 v21
          X_arg4 X_arg5 X_arg6 G_arg12 G_arg13 init k.val).2.2) (ix3 (0 : Fin 1) y d)
          + Tv (arg4.view.read (Elt Ideal) X_arg4) v7 v11 v21 y d
                else arg13.view.read (Elt Ideal) (arg13.view.writes (Elt Ideal) G_arg13 (st_k0_t1 (F := Ideal) 𝒱 c bd i arg2 harg2 arg3 harg3 arg4
          harg4 arg5 harg5 arg6 harg6 arg7 harg7 arg8 harg8 arg9 harg9 arg10 harg10 arg11 harg11 arg12 harg12 arg13 harg13 v3 v7 v11 v13 v16 v21
          X_arg4 X_arg5 X_arg6 G_arg12 G_arg13 init k.val).2.2) (ix3 (0 : Fin 1) y d) := by
  rw [st_k0_t1_succ]
  dsimp only
  rw [View.writes_append, trip_values]
  exact read_segs arg13.view _ _ k (Tv (arg4.view.read (Elt Ideal) X_arg4) v7 v11 v21)
    (fun u L r d => valuesPay_apply _ k u v7 v11 v21 _ (fun r e => readAt_seg arg4.view X_arg4 k u r e) L r d) 11 le_rfl y d

/-- One trip more, in the gradient of the queries. -/
theorem st_queries (𝒱 : Variants) (c : Dev nD) (bd : Option 𝒱.V) (i : grid0.Coords) (arg2 : Memref sig .tc .vmem S1x512x64 .bf16) (harg2 :
    arg2.IsWhole) (arg3 : Memref sig .tc .vmem S1x64x512 .bf16) (harg3 : arg3.IsWhole) (arg4 : Memref sig .tc .vmem S1x8448x64 .bf16) (harg4 :
    arg4.IsWhole) (arg5 : Memref sig .tc .vmem S1x33x64x256 .bf16) (harg5 : arg5.IsWhole) (arg6 : Memref sig .tc .vmem S1x8448x64 .bf16) (harg6 :
    arg6.IsWhole) (arg7 : Memref sig .tc .vmem S1x512x64 .bf16) (harg7 : arg7.IsWhole) (arg8 : Memref sig .tc .vmem S1x64x512 .bf16) (harg8 :
    arg8.IsWhole) (arg9 : Memref sig .tc .vmem S1x64x512 .f32) (harg9 : arg9.IsWhole) (arg10 : Memref sig .tc .vmem S1x1x512 .f32) (harg10 :
    arg10.IsWhole) (arg11 : Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec Ideal S1x512x64 .bf16) (v7 : Vec Ideal S1x64x512
    .bf16) (v11 : Vec Ideal S1x512x64 .bf16) (v13 : Vec Ideal S1x64x512 .bf16) (v16 : Vec Ideal S1x64x512 .f32) (v21 : Vec Ideal S1x1x512 .f32)
    (X_arg4 : BufTy.Contents (Elt Ideal) arg4.view.ty) (X_arg5 : BufTy.Contents (Elt Ideal) arg5.view.ty) (X_arg6 : BufTy.Contents (Elt Ideal)
    arg6.view.ty) (G_arg12 : BufTy.Contents (Elt Ideal) arg12.view.ty) (G_arg13 : BufTy.Contents (Elt Ideal) arg13.view.ty) (init : FVec Ideal S64x512
    .f32)
        (hT : ∀ (j : Fin 33) (d : Fin 64) (l : Fin 256), arg5.view.read (Elt Ideal) X_arg5 (ix4 (0 : Fin 1) j d l) = arg4.view.read (Elt Ideal) X_arg4
      (ix3 (0 : Fin 1) (⟨256 * j.val + l.val, by omega⟩ : Fin 8448) d))
    (k : Fin k0_t1_loop.trips) (d : Fin 64) (q : Fin 512) :
        (st_k0_t1 (F := Ideal) 𝒱 c bd i arg2 harg2 arg3 harg3 arg4 harg4 arg5 harg5 arg6 harg6 arg7 harg7 arg8 harg8 arg9 harg9 arg10 harg10 arg11
      harg11 arg12 harg12 arg13 harg13 v3 v7 v11 v13 v16 v21 X_arg4 X_arg5 X_arg6 G_arg12 G_arg13 init (k.val + 1)).1 (ix2 d q)
            = (st_k0_t1 (F := Ideal) 𝒱 c bd i arg2 harg2 arg3 harg3 arg4 harg4 arg5 harg5 arg6 harg6 arg7 harg7 arg8 harg8 arg9 harg9 arg10 harg10
        arg11 harg11 arg12 harg12 arg13 harg13 v3 v7 v11 v13 v16 v21 X_arg4 X_arg5 X_arg6 G_arg12 G_arg13 init k.val).1 (ix2 d q)
                + ∑ u : Fin 11, ∑ l : Fin 256, (arg4.view.read (Elt Ideal) X_arg4) (ix3 (0 : Fin 1) (row k u l) d) * Gs (arg4.view.read (Elt Ideal)
          X_arg4) (arg6.view.read (Elt Ideal) X_arg6) v7 v13 v16 v21 (row k u l) q := by
  rw [st_k0_t1_succ]
  dsimp only
  refine (congrFun (trip_queries 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X_arg4 X_arg5 X_arg6 k _ _ _) _).trans ?_
  exact adds_apply _ _ _ (fun u => ∑ l : Fin 256, (arg4.view.read (Elt Ideal) X_arg4) (ix3 (0 : Fin 1) (row k u l) d) * Gs (arg4.view.read (Elt Ideal) X_arg4) (arg6.view.read (Elt Ideal) X_arg6) v7 v13 v16 v21 (row k u l) q)
    (fun u a => queriesPay_apply _ _ (arg5.view.read (Elt Ideal) X_arg5) k u v7 v13 v16 v21 _ _ _ (fun r e => readAt_seg arg4.view X_arg4 k u r e) (fun r e => readAt_seg arg6.view X_arg6 k u r e)
      (fun d l => (readAt_blk arg5.view X_arg5 k u d l).trans ((hT _ d l).trans (congrArg (fun n : Fin 8448 => (arg4.view.read (Elt Ideal) X_arg4) (ix3 (0 : Fin 1) n d)) (Fin.ext (by simp only [row]; omega))))) a d q) 11 le_rfl

/-- The gradient of the keys after the loop. -/
theorem loop_keys (𝒱 : Variants) (c : Dev nD) (bd : Option 𝒱.V) (i : grid0.Coords) (arg2 : Memref sig .tc .vmem S1x512x64 .bf16) (harg2 :
    arg2.IsWhole) (arg3 : Memref sig .tc .vmem S1x64x512 .bf16) (harg3 : arg3.IsWhole) (arg4 : Memref sig .tc .vmem S1x8448x64 .bf16) (harg4 :
    arg4.IsWhole) (arg5 : Memref sig .tc .vmem S1x33x64x256 .bf16) (harg5 : arg5.IsWhole) (arg6 : Memref sig .tc .vmem S1x8448x64 .bf16) (harg6 :
    arg6.IsWhole) (arg7 : Memref sig .tc .vmem S1x512x64 .bf16) (harg7 : arg7.IsWhole) (arg8 : Memref sig .tc .vmem S1x64x512 .bf16) (harg8 :
    arg8.IsWhole) (arg9 : Memref sig .tc .vmem S1x64x512 .f32) (harg9 : arg9.IsWhole) (arg10 : Memref sig .tc .vmem S1x1x512 .f32) (harg10 :
    arg10.IsWhole) (arg11 : Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec Ideal S1x512x64 .bf16) (v7 : Vec Ideal S1x64x512
    .bf16) (v11 : Vec Ideal S1x512x64 .bf16) (v13 : Vec Ideal S1x64x512 .bf16) (v16 : Vec Ideal S1x64x512 .f32) (v21 : Vec Ideal S1x1x512 .f32)
    (X_arg4 : BufTy.Contents (Elt Ideal) arg4.view.ty) (X_arg5 : BufTy.Contents (Elt Ideal) arg5.view.ty) (X_arg6 : BufTy.Contents (Elt Ideal)
    arg6.view.ty) (G_arg12 : BufTy.Contents (Elt Ideal) arg12.view.ty) (G_arg13 : BufTy.Contents (Elt Ideal) arg13.view.ty) (init : FVec Ideal S64x512
    .f32) (y : Fin 8448) (d : Fin 64) :
        arg12.view.read (Elt Ideal) (arg12.view.writes (Elt Ideal) G_arg12 (st_k0_t1 (F := Ideal) 𝒱 c bd i arg2 harg2 arg3 harg3 arg4 harg4 arg5 harg5
      arg6 harg6 arg7 harg7 arg8 harg8 arg9 harg9 arg10 harg10 arg11 harg11 arg12 harg12 arg13 harg13 v3 v7 v11 v13 v16 v21 X_arg4 X_arg5 X_arg6
      G_arg12 G_arg13 init 3).2.1) (ix3 (0 : Fin 1) y d)
            = arg12.view.read (Elt Ideal) G_arg12 (ix3 (0 : Fin 1) y d) + Tk (arg4.view.read (Elt Ideal) X_arg4) (arg6.view.read (Elt Ideal) X_arg6)
        v3 v7 v13 v16 v21 y d := by
  have h : (3 : ℕ) = k0_t1_loop.trips := trips_eq.symm
  rw [show (3 : ℕ) = (⟨2, by rw [← h]; decide⟩ : Fin k0_t1_loop.trips).val + 1 from rfl, st_keys,
    show (⟨2, by rw [← h]; decide⟩ : Fin k0_t1_loop.trips).val = (⟨1, by rw [← h]; decide⟩ : Fin k0_t1_loop.trips).val + 1 from rfl, st_keys,
    show (⟨1, by rw [← h]; decide⟩ : Fin k0_t1_loop.trips).val = (⟨0, by rw [← h]; decide⟩ : Fin k0_t1_loop.trips).val + 1 from rfl, st_keys]
  have z : arg12.view.writes (Elt Ideal) G_arg12 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X_arg4 X_arg5 X_arg6 G_arg12 G_arg13 init (⟨0, by rw [← h]; decide⟩ : Fin k0_t1_loop.trips).val).2.1 = G_arg12 := rfl
  rw [z]
  dsimp only
  have := y.isLt
  split_ifs <;> first | rfl | omega

/-- The gradient of the values after the loop. -/
theorem loop_values (𝒱 : Variants) (c : Dev nD) (bd : Option 𝒱.V) (i : grid0.Coords) (arg2 : Memref sig .tc .vmem S1x512x64 .bf16) (harg2 :
    arg2.IsWhole) (arg3 : Memref sig .tc .vmem S1x64x512 .bf16) (harg3 : arg3.IsWhole) (arg4 : Memref sig .tc .vmem S1x8448x64 .bf16) (harg4 :
    arg4.IsWhole) (arg5 : Memref sig .tc .vmem S1x33x64x256 .bf16) (harg5 : arg5.IsWhole) (arg6 : Memref sig .tc .vmem S1x8448x64 .bf16) (harg6 :
    arg6.IsWhole) (arg7 : Memref sig .tc .vmem S1x512x64 .bf16) (harg7 : arg7.IsWhole) (arg8 : Memref sig .tc .vmem S1x64x512 .bf16) (harg8 :
    arg8.IsWhole) (arg9 : Memref sig .tc .vmem S1x64x512 .f32) (harg9 : arg9.IsWhole) (arg10 : Memref sig .tc .vmem S1x1x512 .f32) (harg10 :
    arg10.IsWhole) (arg11 : Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec Ideal S1x512x64 .bf16) (v7 : Vec Ideal S1x64x512
    .bf16) (v11 : Vec Ideal S1x512x64 .bf16) (v13 : Vec Ideal S1x64x512 .bf16) (v16 : Vec Ideal S1x64x512 .f32) (v21 : Vec Ideal S1x1x512 .f32)
    (X_arg4 : BufTy.Contents (Elt Ideal) arg4.view.ty) (X_arg5 : BufTy.Contents (Elt Ideal) arg5.view.ty) (X_arg6 : BufTy.Contents (Elt Ideal)
    arg6.view.ty) (G_arg12 : BufTy.Contents (Elt Ideal) arg12.view.ty) (G_arg13 : BufTy.Contents (Elt Ideal) arg13.view.ty) (init : FVec Ideal S64x512
    .f32) (y : Fin 8448) (d : Fin 64) :
        arg13.view.read (Elt Ideal) (arg13.view.writes (Elt Ideal) G_arg13 (st_k0_t1 (F := Ideal) 𝒱 c bd i arg2 harg2 arg3 harg3 arg4 harg4 arg5 harg5
      arg6 harg6 arg7 harg7 arg8 harg8 arg9 harg9 arg10 harg10 arg11 harg11 arg12 harg12 arg13 harg13 v3 v7 v11 v13 v16 v21 X_arg4 X_arg5 X_arg6
      G_arg12 G_arg13 init 3).2.2) (ix3 (0 : Fin 1) y d)
      = arg13.view.read (Elt Ideal) G_arg13 (ix3 (0 : Fin 1) y d) + Tv (arg4.view.read (Elt Ideal) X_arg4) v7 v11 v21 y d := by
  have h : (3 : ℕ) = k0_t1_loop.trips := trips_eq.symm
  rw [show (3 : ℕ) = (⟨2, by rw [← h]; decide⟩ : Fin k0_t1_loop.trips).val + 1 from rfl, st_values,
    show (⟨2, by rw [← h]; decide⟩ : Fin k0_t1_loop.trips).val = (⟨1, by rw [← h]; decide⟩ : Fin k0_t1_loop.trips).val + 1 from rfl, st_values,
    show (⟨1, by rw [← h]; decide⟩ : Fin k0_t1_loop.trips).val = (⟨0, by rw [← h]; decide⟩ : Fin k0_t1_loop.trips).val + 1 from rfl, st_values]
  have z : arg13.view.writes (Elt Ideal) G_arg13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X_arg4 X_arg5 X_arg6 G_arg12 G_arg13 init (⟨0, by rw [← h]; decide⟩ : Fin k0_t1_loop.trips).val).2.2 = G_arg13 := rfl
  rw [z]
  dsimp only
  have := y.isLt
  split_ifs <;> first | rfl | omega

/-- The sum over the trips, the stretches and their rows is the sum over the keys. -/
theorem sum_rows (f : Fin 8448 → EReal) (h0 h1 h2) :
    (∑ u : Fin 11, ∑ l : Fin 256, f (row ⟨0, h0⟩ u l)) + (∑ u : Fin 11, ∑ l : Fin 256, f (row ⟨1, h1⟩ u l)) + (∑ u : Fin 11, ∑ l : Fin 256, f (row ⟨2, h2⟩ u l))
      = ∑ n : Fin 8448, f n := by
  rw [← Fin.sum_mul_add_fin 3 2816 f, Fin.sum_univ_three]
  refine congrArg₂ (· + ·) (congrArg₂ (· + ·) ?_ ?_) ?_ <;>
  · rw [← Fin.sum_mul_add_fin (L := 2816) 11 256]
    refine Finset.sum_congr rfl fun u _ => Finset.sum_congr rfl fun l _ => congrArg f (Fin.ext ?_)
    simp only [row]
    omega

/-- The gradient of the queries after the loop. -/
theorem loop_queries (𝒱 : Variants) (c : Dev nD) (bd : Option 𝒱.V) (i : grid0.Coords) (arg2 : Memref sig .tc .vmem S1x512x64 .bf16) (harg2 :
    arg2.IsWhole) (arg3 : Memref sig .tc .vmem S1x64x512 .bf16) (harg3 : arg3.IsWhole) (arg4 : Memref sig .tc .vmem S1x8448x64 .bf16) (harg4 :
    arg4.IsWhole) (arg5 : Memref sig .tc .vmem S1x33x64x256 .bf16) (harg5 : arg5.IsWhole) (arg6 : Memref sig .tc .vmem S1x8448x64 .bf16) (harg6 :
    arg6.IsWhole) (arg7 : Memref sig .tc .vmem S1x512x64 .bf16) (harg7 : arg7.IsWhole) (arg8 : Memref sig .tc .vmem S1x64x512 .bf16) (harg8 :
    arg8.IsWhole) (arg9 : Memref sig .tc .vmem S1x64x512 .f32) (harg9 : arg9.IsWhole) (arg10 : Memref sig .tc .vmem S1x1x512 .f32) (harg10 :
    arg10.IsWhole) (arg11 : Memref sig .tc .vmem S1x64x512 .f32) (harg11 : arg11.IsWhole) (arg12 : Memref sig .tc .vmem S1x8448x64 .f32) (harg12 :
    arg12.IsWhole) (arg13 : Memref sig .tc .vmem S1x8448x64 .f32) (harg13 : arg13.IsWhole) (v3 : Vec Ideal S1x512x64 .bf16) (v7 : Vec Ideal S1x64x512
    .bf16) (v11 : Vec Ideal S1x512x64 .bf16) (v13 : Vec Ideal S1x64x512 .bf16) (v16 : Vec Ideal S1x64x512 .f32) (v21 : Vec Ideal S1x1x512 .f32)
    (X_arg4 : BufTy.Contents (Elt Ideal) arg4.view.ty) (X_arg5 : BufTy.Contents (Elt Ideal) arg5.view.ty) (X_arg6 : BufTy.Contents (Elt Ideal)
    arg6.view.ty) (G_arg12 : BufTy.Contents (Elt Ideal) arg12.view.ty) (G_arg13 : BufTy.Contents (Elt Ideal) arg13.view.ty) (init : FVec Ideal S64x512
    .f32)
        (hT : ∀ (j : Fin 33) (d : Fin 64) (l : Fin 256), arg5.view.read (Elt Ideal) X_arg5 (ix4 (0 : Fin 1) j d l) = arg4.view.read (Elt Ideal) X_arg4
      (ix3 (0 : Fin 1) (⟨256 * j.val + l.val, by omega⟩ : Fin 8448) d))
    (hi : ∀ i, init i = 0) (d : Fin 64) (q : Fin 512) :
        (st_k0_t1 (F := Ideal) 𝒱 c bd i arg2 harg2 arg3 harg3 arg4 harg4 arg5 harg5 arg6 harg6 arg7 harg7 arg8 harg8 arg9 harg9 arg10 harg10 arg11
      harg11 arg12 harg12 arg13 harg13 v3 v7 v11 v13 v16 v21 X_arg4 X_arg5 X_arg6 G_arg12 G_arg13 init 3).1 (ix2 d q)
            = ∑ n : Fin 8448, (arg4.view.read (Elt Ideal) X_arg4) (ix3 (0 : Fin 1) n d) * Gs (arg4.view.read (Elt Ideal) X_arg4) (arg6.view.read (Elt
        Ideal) X_arg6) v7 v13 v16 v21 n q := by
  have h : (3 : ℕ) = k0_t1_loop.trips := trips_eq.symm
  rw [show (3 : ℕ) = (⟨2, by rw [← h]; decide⟩ : Fin k0_t1_loop.trips).val + 1 from rfl, st_queries (hT := hT),
    show (⟨2, by rw [← h]; decide⟩ : Fin k0_t1_loop.trips).val = (⟨1, by rw [← h]; decide⟩ : Fin k0_t1_loop.trips).val + 1 from rfl, st_queries (hT := hT),
    show (⟨1, by rw [← h]; decide⟩ : Fin k0_t1_loop.trips).val = (⟨0, by rw [← h]; decide⟩ : Fin k0_t1_loop.trips).val + 1 from rfl, st_queries (hT := hT)]
  have z : (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X_arg4 X_arg5 X_arg6 G_arg12 G_arg13 init (⟨0, by rw [← h]; decide⟩ : Fin k0_t1_loop.trips).val).1 = init := rfl
  rw [z, hi, zero_add]
  exact sum_rows (fun n => (arg4.view.read (Elt Ideal) X_arg4) (ix3 (0 : Fin 1) n d) * Gs (arg4.view.read (Elt Ideal) X_arg4) (arg6.view.read (Elt Ideal) X_arg6) v7 v13 v16 v21 n q) _ _ _

end Cert.FlashIdeal.Value

end
-- ==== Proof.FlashReal.lean ====
/- Hand-written, untrusted: softmax attention and its gradient in real numbers, for grouped queries. -/
module

public import proofs.«01_k».proof.Proof.Reals
public import proofs.«01_k».proof.Proof.Pieces
public import proofs.«01_k».proof.Proof.Gen.FlashIdeal.Value
public import proofs.«01_k».proof.Proof.Gen.FlashRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.Attention

open Cert.Reals

/-- The queries' indices: group, head in the group, position, channel. -/
abbrev Qs : Shape := ⟨4, ![2, 4, 8192, 64]⟩

/-- The keys' indices: group, position, channel. -/
abbrev Ks : Shape := ⟨3, ![2, 8448, 64]⟩

variable (q : Qs.Idx → ℝ) (k v : Ks.Idx → ℝ) (g : Qs.Idx → ℝ)

/-- The score of a query and a key. -/
def sc (a : Fin 2) (r : Fin 4) (n : Fin 8192) (j : Fin 8448) : ℝ := (∑ e : Fin 64, q (ix4 a r n e) * k (ix3 a j e)) * (1 / 8)

/-- The largest of finitely many real numbers. -/
def top {n : ℕ} (f : Fin (n + 1) → ℝ) : ℝ := Finset.univ.sup' Finset.univ_nonempty f

/-- The largest score of a query. -/
def mx (a : Fin 2) (r : Fin 4) (n : Fin 8192) : ℝ := top (n := 8447) (sc q k a r n)

/-- The exponential of a score less the largest. -/
def ex (a : Fin 2) (r : Fin 4) (n : Fin 8192) (j : Fin 8448) : ℝ := Real.exp (sc q k a r n j - mx q k a r n)

/-- The sum of a query's exponentials. -/
def ls (a : Fin 2) (r : Fin 4) (n : Fin 8192) : ℝ := ∑ j : Fin 8448, ex q k a r n j

/-- The softmax weight. -/
def pr (a : Fin 2) (r : Fin 4) (n : Fin 8192) (j : Fin 8448) : ℝ := ex q k a r n j / ls q k a r n

/-- The output. -/
def ou (a : Fin 2) (r : Fin 4) (n : Fin 8192) (e : Fin 64) : ℝ := ∑ j : Fin 8448, pr q k a r n j * v (ix3 a j e)

/-- The gradient of the weight. -/
def dp (a : Fin 2) (r : Fin 4) (n : Fin 8192) (j : Fin 8448) : ℝ := ∑ e : Fin 64, g (ix4 a r n e) * v (ix3 a j e)

/-- The gradient of the score. -/
def gs (a : Fin 2) (r : Fin 4) (n : Fin 8192) (j : Fin 8448) : ℝ :=
  pr q k a r n j * (dp v g a r n j - ∑ i : Fin 8448, pr q k a r n i * dp v g a r n i)

/-- The gradient of the keys. -/
def dk (a : Fin 2) (j : Fin 8448) (e : Fin 64) : ℝ := ∑ r : Fin 4, ∑ n : Fin 8192, gs q k v g a r n j * (1 / 8) * q (ix4 a r n e)

/-- The gradient of the values. -/
def dv (a : Fin 2) (j : Fin 8448) (e : Fin 64) : ℝ := ∑ r : Fin 4, ∑ n : Fin 8192, g (ix4 a r n e) * pr q k a r n j

/-- The gradient of the queries. -/
def dq (a : Fin 2) (r : Fin 4) (n : Fin 8192) (e : Fin 64) : ℝ := ∑ j : Fin 8448, gs q k v g a r n j * (1 / 8) * k (ix3 a j e)

theorem ls_pos (a : Fin 2) (r : Fin 4) (n : Fin 8192) : 0 < ls q k a r n :=
  Finset.sum_pos (fun _ _ => Real.exp_pos _) ⟨0, Finset.mem_univ _⟩

/-- The weight from the largest score and the logarithm of the sum. -/
theorem pr_eq (a : Fin 2) (r : Fin 4) (n : Fin 8192) (j : Fin 8448) :
    Real.exp (sc q k a r n j - (mx q k a r n + Real.log (ls q k a r n))) = pr q k a r n j := by
  rw [pr, ex, ← sub_sub, Real.exp_sub, Real.exp_log (ls_pos q k a r n)]

/-- The output times its gradient is the weights times theirs. -/
theorem delta_eq (a : Fin 2) (r : Fin 4) (n : Fin 8192) :
    ∑ e : Fin 64, g (ix4 a r n e) * ou q k v a r n e = ∑ i : Fin 8448, pr q k a r n i * dp v g a r n i := by
  simp only [ou, dp, Finset.mul_sum]
  rw [Finset.sum_comm]
  exact Finset.sum_congr rfl fun _ _ => Finset.sum_congr rfl fun _ _ => by ring

/-- The fold of the maximum from `-∞` over real numbers is the largest of them. -/
theorem fold_max {n : ℕ} (f : Fin (n + 1) → ℝ) : Finset.fold max (⊥ : EReal) (fun j => (f j : EReal)) Finset.univ = (top f : EReal) := by
  change Finset.univ.sup (fun j => (f j : EReal)) = _
  rw [← Finset.sup'_eq_sup Finset.univ_nonempty, top]
  exact (Finset.comp_sup'_eq_sup'_comp Finset.univ_nonempty (fun x : ℝ => (x : EReal)) fun a b => EReal.coe_strictMono.monotone.map_max).symm

end Cert.Attention

namespace Cert.FlashIdeal.Value

open Cert.FlashIdeal Cert.FlashIdeal.Gen Cert.Reals Cert.Attention

section host

variable (q : Qs.Idx → ℝ) (k v : Ks.Idx → ℝ) (g : Qs.Idx → ℝ)

/-- The scores. -/
theorem host_sc : (mulf (Host.dotGeneral dot_S2x4x8192x64_S2x8448x64_S2x4x8192x8448_3_2_12_1_0_0 none (φ₁ := .f32) (φ₂ := .f32)
    (fun i => (q i : EReal) : FVec Ideal S2x4x8192x64 .f32) (fun i => (k i : EReal) : FVec Ideal S2x8448x64 .f32))
    (broadcastInDim S2x4x8192x8448 ![] bcast_S_S2x4x8192x8448 (constant S_ FTy.f32 1040187392#32)) : FVec Ideal S2x4x8192x8448 .f32)
    = fun i => (sc q k (i 0) (i 1) (i 2) (i 3) : EReal) := by
  funext i
  idx_vars i
  pointwise
  rw [ofBits_eighth]
  simp only [← EReal.coe_mul, ← coe_sum, sc]

/-- The largest scores. -/
theorem host_mx : (Host.reduce FloatOps.maximumf (fun i => (sc q k (i 0) (i 1) (i 2) (i 3) : EReal) : FVec Ideal S2x4x8192x8448 .f32)
    (constant S_ FTy.f32 4286578688#32) reducesTo_S2x4x8192x8448_S2x4x8192_d3 h_S_ : FVec Ideal S2x4x8192 .f32)
    = fun i => (mx q k (i 0) (i 1) (i 2) : EReal) := by
  funext i
  idx_vars i
  pointwise
  rw [ofBits_bot]
  exact fold_max _

/-- The largest scores against `-∞`. -/
theorem host_max : (maximumf (broadcastInDim S2x4x8192 ![] bcast_S_S2x4x8192 (constant S_ FTy.f32 4286578688#32))
    (fun i => (mx q k (i 0) (i 1) (i 2) : EReal)) : FVec Ideal S2x4x8192 .f32) = fun i => (mx q k (i 0) (i 1) (i 2) : EReal) := by
  funext i
  idx_vars i
  pointwise
  rw [ofBits_bot, bot_sup_eq]

/-- The exponentials. -/
theorem host_ex : (Host.exp (subf (fun i => (sc q k (i 0) (i 1) (i 2) (i 3) : EReal) : FVec Ideal S2x4x8192x8448 .f32)
    (broadcastInDim S2x4x8192x8448 ![0, 1, 2, 3] bcast_S2x4x8192x1_S2x4x8192x8448_0_1_2_3
            (broadcastInDim S2x4x8192x1 ![0, 1, 2] bcast_S2x4x8192_S2x4x8192x1_0_1_2 (fun i => (mx q k (i 0) (i 1) (i 2) : EReal) : FVec Ideal
          S2x4x8192 .f32)))) : FVec Ideal S2x4x8192x8448 .f32)
    = fun i => (ex q k (i 0) (i 1) (i 2) (i 3) : EReal) := by
  funext i
  idx_vars i
  pointwise
  rfl

/-- The sums of the exponentials. -/
theorem host_ls : (Host.reduceAdd (fun i => (ex q k (i 0) (i 1) (i 2) (i 3) : EReal) : FVec Ideal S2x4x8192x8448 .f32)
    (constant S_ FTy.f32 0#32) reducesTo_S2x4x8192x8448_S2x4x8192_d3 h_S_ : FVec Ideal S2x4x8192 .f32)
    = fun i => (ls q k (i 0) (i 1) (i 2) : EReal) := by
  funext i
  idx_vars i
  pointwise
  rw [← coe_sum, ls]

/-- The weights. -/
theorem host_pr : (Host.divf (fun i => (ex q k (i 0) (i 1) (i 2) (i 3) : EReal) : FVec Ideal S2x4x8192x8448 .f32)
    (broadcastInDim S2x4x8192x8448 ![0, 1, 2, 3] bcast_S2x4x8192x1_S2x4x8192x8448_0_1_2_3
            (broadcastInDim S2x4x8192x1 ![0, 1, 2] bcast_S2x4x8192_S2x4x8192x1_0_1_2 (fun i => (ls q k (i 0) (i 1) (i 2) : EReal) : FVec Ideal
          S2x4x8192 .f32))) : FVec Ideal S2x4x8192x8448 .f32)
    = fun i => (pr q k (i 0) (i 1) (i 2) (i 3) : EReal) := by
  funext i
  idx_vars i
  pointwise
  rw [Ideal.div_coe (ls_pos q k _ _ _).ne', ← EReal.coe_mul, pr, mul_one_div]

/-- The outputs. -/
theorem host_ou : (Host.dotGeneral dot_S2x4x8192x8448_S2x8448x64_S2x4x8192x64_3_1_12_2_0_0 none (φ₁ := .f32) (φ₂ := .f32)
        (fun i => (pr q k (i 0) (i 1) (i 2) (i 3) : EReal) : FVec Ideal S2x4x8192x8448 .f32) (fun i => (v i : EReal) : FVec Ideal S2x8448x64 .f32) :
        FVec Ideal S2x4x8192x64 .f32)
    = fun i => (ou q k v (i 0) (i 1) (i 2) (i 3) : EReal) := by
  funext i
  idx_vars i
  pointwise
  simp only [← EReal.coe_mul, ← coe_sum, ou]

/-- The row constants. -/
theorem host_lse : (addf (fun i => (mx q k (i 0) (i 1) (i 2) : EReal)) (Host.log (fun i => (ls q k (i 0) (i 1) (i 2) : EReal) : FVec Ideal S2x4x8192
    .f32)) : FVec Ideal S2x4x8192 .f32)
    = fun i => ((mx q k (i 0) (i 1) (i 2) + Real.log (ls q k (i 0) (i 1) (i 2)) : ℝ) : EReal) := by
  funext i
  idx_vars i
  pointwise
  rw [Ideal.log_coe, if_neg (not_le.mpr (ls_pos q k _ _ _))]
  rfl

end host

end Cert.FlashIdeal.Value

namespace Cert.FlashRefIdeal.Value

open Cert.FlashRefIdeal Cert.FlashRefIdeal.Gen Cert.Reals Cert.Attention

section host

variable (q : Qs.Idx → ℝ) (k v : Ks.Idx → ℝ) (g : Qs.Idx → ℝ)

/-- The scores. -/
theorem host_sc : (mulf (Host.dotGeneral dot_S2x4x8192x64_S2x8448x64_S2x4x8192x8448_3_2_12_1_0_0 none (φ₁ := .f32) (φ₂ := .f32)
    (fun i => (q i : EReal) : FVec Ideal S2x4x8192x64 .f32) (fun i => (k i : EReal) : FVec Ideal S2x8448x64 .f32))
    (broadcastInDim S2x4x8192x8448 ![] bcast_S_S2x4x8192x8448 (constant S_ FTy.f32 1040187392#32)) : FVec Ideal S2x4x8192x8448 .f32)
    = fun i => (sc q k (i 0) (i 1) (i 2) (i 3) : EReal) := by
  funext i
  idx_vars i
  pointwise
  rw [ofBits_eighth]
  simp only [← EReal.coe_mul, ← coe_sum, sc]

/-- The largest scores. -/
theorem host_mx : (Host.reduce FloatOps.maximumf (fun i => (sc q k (i 0) (i 1) (i 2) (i 3) : EReal) : FVec Ideal S2x4x8192x8448 .f32)
    (constant S_ FTy.f32 4286578688#32) reducesTo_S2x4x8192x8448_S2x4x8192_d3 h_S_ : FVec Ideal S2x4x8192 .f32)
    = fun i => (mx q k (i 0) (i 1) (i 2) : EReal) := by
  funext i
  idx_vars i
  pointwise
  rw [ofBits_bot]
  exact fold_max _

/-- The largest scores against `-∞`. -/
theorem host_max : (maximumf (broadcastInDim S2x4x8192 ![] bcast_S_S2x4x8192 (constant S_ FTy.f32 4286578688#32))
    (fun i => (mx q k (i 0) (i 1) (i 2) : EReal)) : FVec Ideal S2x4x8192 .f32) = fun i => (mx q k (i 0) (i 1) (i 2) : EReal) := by
  funext i
  idx_vars i
  pointwise
  rw [ofBits_bot, bot_sup_eq]

/-- The exponentials. -/
theorem host_ex : (Host.exp (subf (fun i => (sc q k (i 0) (i 1) (i 2) (i 3) : EReal) : FVec Ideal S2x4x8192x8448 .f32)
    (broadcastInDim S2x4x8192x8448 ![0, 1, 2, 3] bcast_S2x4x8192x1_S2x4x8192x8448_0_1_2_3
            (broadcastInDim S2x4x8192x1 ![0, 1, 2] bcast_S2x4x8192_S2x4x8192x1_0_1_2 (fun i => (mx q k (i 0) (i 1) (i 2) : EReal) : FVec Ideal
          S2x4x8192 .f32)))) : FVec Ideal S2x4x8192x8448 .f32)
    = fun i => (ex q k (i 0) (i 1) (i 2) (i 3) : EReal) := by
  funext i
  idx_vars i
  pointwise
  rfl

/-- The sums of the exponentials. -/
theorem host_ls : (Host.reduceAdd (fun i => (ex q k (i 0) (i 1) (i 2) (i 3) : EReal) : FVec Ideal S2x4x8192x8448 .f32)
    (constant S_ FTy.f32 0#32) reducesTo_S2x4x8192x8448_S2x4x8192_d3 h_S_ : FVec Ideal S2x4x8192 .f32)
    = fun i => (ls q k (i 0) (i 1) (i 2) : EReal) := by
  funext i
  idx_vars i
  pointwise
  rw [← coe_sum, ls]

/-- The weights. -/
theorem host_pr : (Host.divf (fun i => (ex q k (i 0) (i 1) (i 2) (i 3) : EReal) : FVec Ideal S2x4x8192x8448 .f32)
    (broadcastInDim S2x4x8192x8448 ![0, 1, 2, 3] bcast_S2x4x8192x1_S2x4x8192x8448_0_1_2_3
            (broadcastInDim S2x4x8192x1 ![0, 1, 2] bcast_S2x4x8192_S2x4x8192x1_0_1_2 (fun i => (ls q k (i 0) (i 1) (i 2) : EReal) : FVec Ideal
          S2x4x8192 .f32))) : FVec Ideal S2x4x8192x8448 .f32)
    = fun i => (pr q k (i 0) (i 1) (i 2) (i 3) : EReal) := by
  funext i
  idx_vars i
  pointwise
  rw [Ideal.div_coe (ls_pos q k _ _ _).ne', ← EReal.coe_mul, pr, mul_one_div]

/-- The gradients of the weights. -/
theorem host_dp : (Host.dotGeneral dot_S2x4x8192x64_S2x8448x64_S2x4x8192x8448_3_2_12_1_0_0 none (φ₁ := .f32) (φ₂ := .f32)
    (fun i => (g i : EReal) : FVec Ideal S2x4x8192x64 .f32) (fun i => (v i : EReal) : FVec Ideal S2x8448x64 .f32) : FVec Ideal S2x4x8192x8448 .f32)
    = fun i => (dp v g (i 0) (i 1) (i 2) (i 3) : EReal) := by
  funext i
  idx_vars i
  pointwise
  simp only [← EReal.coe_mul, ← coe_sum, dp]

/-- The correction of a row. -/
theorem host_delta : (Host.reduceAdd (mulf (mulf (fun i => (dp v g (i 0) (i 1) (i 2) (i 3) : EReal) : FVec Ideal S2x4x8192x8448 .f32)
    (broadcastInDim S2x4x8192x8448 ![0, 1, 2, 3] bcast_S2x4x8192x1_S2x4x8192x8448_0_1_2_3
      (Host.divf (broadcastInDim S2x4x8192x1 ![] bcast_S_S2x4x8192x1 (constant S_ FTy.f32 0x3F800000#32))
        (mulf (broadcastInDim S2x4x8192x1 ![0, 1, 2] bcast_S2x4x8192_S2x4x8192x1_0_1_2 (fun i => (ls q k (i 0) (i 1) (i 2) : EReal) : FVec Ideal S2x4x8192 .f32))
          (broadcastInDim S2x4x8192x1 ![0, 1, 2] bcast_S2x4x8192_S2x4x8192x1_0_1_2 (fun i => (ls q k (i 0) (i 1) (i 2) : EReal) : FVec Ideal S2x4x8192 .f32))))))
    (fun i => (ex q k (i 0) (i 1) (i 2) (i 3) : EReal) : FVec Ideal S2x4x8192x8448 .f32))
    (constant S_ FTy.f32 0#32) reducesTo_S2x4x8192x8448_S2x4x8192_d3 h_S_ : FVec Ideal S2x4x8192 .f32)
    = fun i => (((∑ j : Fin 8448, pr q k (i 0) (i 1) (i 2) j * dp v g (i 0) (i 1) (i 2) j) / ls q k (i 0) (i 1) (i 2) : ℝ) : EReal) := by
  funext i
  idx_vars i
  pointwise
  have h := (ls_pos q k i0 i1 i2).ne'
  simp only [← EReal.coe_mul]
  simp only [← EReal.coe_one, Ideal.div_coe (mul_ne_zero h h)]
  simp only [← EReal.coe_mul, ← coe_sum]
  congr 1
  rw [Finset.sum_div]
  refine Finset.sum_congr rfl fun j _ => ?_
  rw [pr]
  field_simp

/-- The gradients of the scores, scaled. -/
theorem host_gs : (mulf (mulf (addf (Host.divf (fun i => (dp v g (i 0) (i 1) (i 2) (i 3) : EReal) : FVec Ideal S2x4x8192x8448 .f32)
      (broadcastInDim S2x4x8192x8448 ![0, 1, 2, 3] bcast_S2x4x8192x1_S2x4x8192x8448_0_1_2_3
        (broadcastInDim S2x4x8192x1 ![0, 1, 2] bcast_S2x4x8192_S2x4x8192x1_0_1_2 (fun i => (ls q k (i 0) (i 1) (i 2) : EReal) : FVec Ideal S2x4x8192 .f32))))
      (broadcastInDim S2x4x8192x8448 ![0, 1, 2] bcast_S2x4x8192_S2x4x8192x8448_0_1_2
        (Host.reduceAdd (Host.negf (shapeCast S2x4x8192x1
          (fun i => (((∑ j : Fin 8448, pr q k (i 0) (i 1) (i 2) j * dp v g (i 0) (i 1) (i 2) j) / ls q k (i 0) (i 1) (i 2) : ℝ) : EReal) : FVec Ideal S2x4x8192 .f32)
          shapeCasts_S2x4x8192_S2x4x8192x1)) (constant S_ FTy.f32 0#32) reducesTo_S2x4x8192x1_S2x4x8192_d3 h_S_)))
    (fun i => (ex q k (i 0) (i 1) (i 2) (i 3) : EReal) : FVec Ideal S2x4x8192x8448 .f32))
    (broadcastInDim S2x4x8192x8448 ![] bcast_S_S2x4x8192x8448 (constant S_ FTy.f32 1040187392#32)) : FVec Ideal S2x4x8192x8448 .f32)
    = fun i => ((gs q k v g (i 0) (i 1) (i 2) (i 3) * (1 / 8) : ℝ) : EReal) := by
  funext i
  idx_vars i
  pointwise
  rw [ofBits_eighth, Ideal.div_coe (ls_pos q k _ _ _).ne']
  simp only [← EReal.coe_neg, ← EReal.coe_mul, ← coe_sum, ← EReal.coe_add]
  congr 1
  simp only [Finset.univ_unique, Finset.sum_const, Finset.card_singleton, one_smul]
  rw [gs, pr]
  field_simp
  ring

/-- The gradient of the keys. -/
theorem host_dk : (Host.dotGeneral dot_S2x4x8192x8448_S2x4x8192x64_S2x8448x64_12_12_3_3_0_0 none (φ₁ := .f32) (φ₂ := .f32)
        (fun i => ((gs q k v g (i 0) (i 1) (i 2) (i 3) * (1 / 8) : ℝ) : EReal) : FVec Ideal S2x4x8192x8448 .f32) (fun i => (q i : EReal) : FVec Ideal
        S2x4x8192x64 .f32) : FVec Ideal S2x8448x64 .f32)
    = fun i => (dk q k v g (i 0) (i 1) (i 2) : EReal) := by
  funext i
  idx_vars i
  pointwise
  simp only [← EReal.coe_mul, ← coe_sum, dk]

/-- The gradient of the values, stored by columns. -/
theorem host_dv : (transpose S2x8448x64 [0, 2, 1]
    (Host.dotGeneral dot_S2x4x8192x64_S2x4x8192x8448_S2x64x8448_12_12_3_3_0_0 none (φ₁ := .f32) (φ₂ := .f32)
    (fun i => (g i : EReal) : FVec Ideal S2x4x8192x64 .f32)
    (fun i => (pr q k (i 0) (i 1) (i 2) (i 3) : EReal) : FVec Ideal S2x4x8192x8448 .f32) : FVec Ideal S2x64x8448 .f32)
    transposes_S2x64x8448_S2x8448x64_0_2_1 : FVec Ideal S2x8448x64 .f32)
    = fun i => (dv q k g (i 0) (i 1) (i 2) : EReal) := by
  funext i
  idx_vars i
  pointwise
  simp only [← EReal.coe_mul, ← coe_sum, dv]

/-- The gradient of the queries, before it is stored by columns. -/
theorem host_dq : (Host.dotGeneral dot_S2x4x8192x8448_S2x8448x64_S2x4x8192x64_3_1_12_2_0_0 none (φ₁ := .f32) (φ₂ := .f32)
    (fun i => ((gs q k v g (i 0) (i 1) (i 2) (i 3) * (1 / 8) : ℝ) : EReal) : FVec Ideal S2x4x8192x8448 .f32)
    (fun i => (k i : EReal) : FVec Ideal S2x8448x64 .f32) : FVec Ideal S2x4x8192x64 .f32)
    = fun i => (dq q k v g (i 0) (i 1) (i 2) (i 3) : EReal) := by
  funext i
  idx_vars i
  pointwise
  simp only [← EReal.coe_mul, ← coe_sum, dq]

end host

end Cert.FlashRefIdeal.Value

end
-- ==== Proof.FlashBlocks.lean ====
/- Hand-written, untrusted: the gradient of grouped-query softmax attention. What the kernel leaves, at real arguments. -/
module

public import proofs.«01_k».proof.Proof.Reals
public import proofs.«01_k».proof.Proof.Pieces
public import proofs.«01_k».proof.Proof.FlashLoop
public import proofs.«01_k».proof.Proof.FlashReal
public import proofs.«01_k».proof.Proof.Gen.FlashIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FlashIdeal.Value

open Cert.FlashIdeal Cert.FlashIdeal.Gen Cert.Reals Cert.Pieces Cert.Attention

variable (m : (ℓ : Loc nD τ sig) → Buf (Elt Ideal) ℓ)

/-- Every window's block index, at every grid point. -/
theorem idx_val : ∀ t : Fin cfg0.N, win0_0.index t = ![t.val / 64, t.val % 64, 0]
    ∧ win0_1.index t = ![t.val / 64, 0, t.val % 64]
    ∧ win0_2.index t = ![t.val / 64, 0, 0]
    ∧ win0_3.index t = ![t.val / 64, 0, 0, 0]
    ∧ win0_4.index t = ![t.val / 64, 0, 0]
    ∧ win0_5.index t = ![t.val / 64, t.val % 64, 0]
    ∧ win0_6.index t = ![t.val / 64, 0, t.val % 64]
    ∧ win0_7.index t = ![t.val / 64, 0, t.val % 64]
    ∧ win0_8.index t = ![t.val / 64, 0, t.val % 64]
    ∧ win0_9.index t = ![t.val / 64, 0, t.val % 64]
    ∧ win0_10.index t = ![t.val / 64, 0, 0]
    ∧ win0_11.index t = ![t.val / 64, 0, 0] :=
  (by decide +kernel : ∀ t : Fin grid0.N, _)

/-- The group of a grid point. -/
def grp (t : Fin cfg0.N) : Fin 2 := ⟨t.val / 64, by have := t.isLt; have : cfg0.N = 128 := N_0; omega⟩

/-- The query that is query `q` of a grid point's block. -/
def qry (t : Fin cfg0.N) (q : Fin 512) : Fin 32768 := ⟨t.val % 64 * 512 + q.val, by omega⟩

/-- The head of query `Q` of a group, the heads of a group one after another. -/
def hd (Q : Fin 32768) : Fin 4 := ⟨Q.val / 8192, by omega⟩

/-- The position of query `Q` of a group. -/
def po (Q : Fin 32768) : Fin 8192 := ⟨Q.val % 8192, by omega⟩

section blocks

theorem seg_lt (j : Fin 33) (l : Fin 256) : 256 * j.val + l.val < 8448 := by omega

variable {m : (ℓ : Loc nD τ sig) → Buf (Elt Ideal) ℓ} {c : Dev nD} {q g : Qs.Idx → ℝ} {k v : Ks.Idx → ℝ}

theorem emb0 (t : Fin cfg0.N) (y) : ((View.whole main_v30).slice (win0_0.rect t)).emb y = ix3 (grp t) (qry t (y 1)) (y 2) := by
  blk_ext [idx_val t, grp, qry]

/-- The host's array of window 0. -/
theorem host30 (h0 : m ((c : Thread nD τ).loc main_arg0) = fun i => (q i : EReal)) (i : S2x32768x64.Idx) :
    V m c main_v30 i = (q (ix4 (i 0) (hd (i 1)) (po (i 1)) (i 2)) : EReal) := by
  idx_vars i
  entry_read
  pointwise
  rw [h0]
  rfl

/-- The block of window 0 at a point. -/
theorem blk0 (h0 : m ((c : Thread nD τ).loc main_arg0) = fun i => (q i : EReal)) (t : Fin cfg0.N) :
    iblk m c 0 t = fun y => ((q (ix4 (grp t) (hd (qry t (y 1))) (po (qry t (y 1))) (y 2)) : ℝ) : EReal) := by
  funext y
  refine (?_ : _ = V m c main_v30 (((View.whole main_v30).slice (win0_0.rect t)).emb y)).trans ?_
  · rfl
  · exact (congrArg (V m c main_v30) (emb0 t y)).trans (host30 h0 (ix3 (grp t) (qry t (y 1)) (y 2)))

theorem emb1 (t : Fin cfg0.N) (y) : ((View.whole main_v35).slice (win0_1.rect t)).emb y = ix3 (grp t) (y 1) (qry t (y 2)) := by
  blk_ext [idx_val t, grp, qry]

/-- The host's array of window 1. -/
theorem host35 (h0 : m ((c : Thread nD τ).loc main_arg0) = fun i => (q i : EReal)) (i : S2x64x32768.Idx) :
    V m c main_v35 i = (q (ix4 (i 0) (hd (i 2)) (po (i 2)) (i 1)) : EReal) := by
  idx_vars i
  entry_read
  pointwise
  rw [h0]
  rfl

/-- The block of window 1 at a point. -/
theorem blk1 (h0 : m ((c : Thread nD τ).loc main_arg0) = fun i => (q i : EReal)) (t : Fin cfg0.N) :
    iblk m c 1 t = fun y => ((q (ix4 (grp t) (hd (qry t (y 2))) (po (qry t (y 2))) (y 1)) : ℝ) : EReal) := by
  funext y
  refine (?_ : _ = V m c main_v35 (((View.whole main_v35).slice (win0_1.rect t)).emb y)).trans ?_
  · rfl
  · exact (congrArg (V m c main_v35) (emb1 t y)).trans (host35 h0 (ix3 (grp t) (y 1) (qry t (y 2))))

theorem emb2 (t : Fin cfg0.N) (y) : ((View.whole main_v31).slice (win0_2.rect t)).emb y = ix3 (grp t) (y 1) (y 2) := by
  blk_ext [idx_val t, grp]

/-- The host's array of window 2. -/
theorem host31 (h1 : m ((c : Thread nD τ).loc main_arg1) = fun i => (k i : EReal)) (i : S2x8448x64.Idx) :
    V m c main_v31 i = (k (ix3 (i 0) (i 1) (i 2)) : EReal) := by
  idx_vars i
  entry_read
  pointwise
  rw [h1]

/-- The block of window 2 at a point. -/
theorem blk2 (h1 : m ((c : Thread nD τ).loc main_arg1) = fun i => (k i : EReal)) (t : Fin cfg0.N) :
    iblk m c 2 t = fun y => ((k (ix3 (grp t) (y 1) (y 2)) : ℝ) : EReal) := by
  funext y
  refine (?_ : _ = V m c main_v31 (((View.whole main_v31).slice (win0_2.rect t)).emb y)).trans ?_
  · rfl
  · exact (congrArg (V m c main_v31) (emb2 t y)).trans (host31 h1 (ix3 (grp t) (y 1) (y 2)))

theorem emb3 (t : Fin cfg0.N) (y) : ((View.whole main_v37).slice (win0_3.rect t)).emb y = ix4 (grp t) (y 1) (y 2) (y 3) := by
  blk_ext [idx_val t, grp]

/-- The host's array of window 3. -/
theorem host37 (h1 : m ((c : Thread nD τ).loc main_arg1) = fun i => (k i : EReal)) (i : S2x33x64x256.Idx) :
    V m c main_v37 i = (k (ix3 (i 0) (⟨256 * (i 1).val + (i 3).val, seg_lt (i 1) (i 3)⟩ : Fin 8448) (i 2)) : EReal) := by
  idx_vars i
  entry_read
  pointwise
  rw [h1]
  exact congrArg (fun j => (k (ix3 i0 j i2) : EReal)) (Fin.ext (congrArg (· + i3.val) (Nat.mul_comm _ _)))

/-- The block of window 3 at a point. -/
theorem blk3 (h1 : m ((c : Thread nD τ).loc main_arg1) = fun i => (k i : EReal)) (t : Fin cfg0.N) :
    iblk m c 3 t = fun y => ((k (ix3 (grp t) (⟨256 * (y 1).val + (y 3).val, seg_lt (y 1) (y 3)⟩ : Fin 8448) (y 2)) : ℝ) : EReal) := by
  funext y
  refine (?_ : _ = V m c main_v37 (((View.whole main_v37).slice (win0_3.rect t)).emb y)).trans ?_
  · rfl
  · exact (congrArg (V m c main_v37) (emb3 t y)).trans (host37 h1 (ix4 (grp t) (y 1) (y 2) (y 3)))

theorem emb4 (t : Fin cfg0.N) (y) : ((View.whole main_v32).slice (win0_4.rect t)).emb y = ix3 (grp t) (y 1) (y 2) := by
  blk_ext [idx_val t, grp]

/-- The host's array of window 4. -/
theorem host32 (h2 : m ((c : Thread nD τ).loc main_arg2) = fun i => (v i : EReal)) (i : S2x8448x64.Idx) :
    V m c main_v32 i = (v (ix3 (i 0) (i 1) (i 2)) : EReal) := by
  idx_vars i
  entry_read
  pointwise
  rw [h2]

/-- The block of window 4 at a point. -/
theorem blk4 (h2 : m ((c : Thread nD τ).loc main_arg2) = fun i => (v i : EReal)) (t : Fin cfg0.N) :
    iblk m c 4 t = fun y => ((v (ix3 (grp t) (y 1) (y 2)) : ℝ) : EReal) := by
  funext y
  refine (?_ : _ = V m c main_v32 (((View.whole main_v32).slice (win0_4.rect t)).emb y)).trans ?_
  · rfl
  · exact (congrArg (V m c main_v32) (emb4 t y)).trans (host32 h2 (ix3 (grp t) (y 1) (y 2)))

theorem emb5 (t : Fin cfg0.N) (y) : ((View.whole main_v34).slice (win0_5.rect t)).emb y = ix3 (grp t) (qry t (y 1)) (y 2) := by
  blk_ext [idx_val t, grp, qry]

/-- The host's array of window 5. -/
theorem host34 (h3 : m ((c : Thread nD τ).loc main_arg3) = fun i => (g i : EReal)) (i : S2x32768x64.Idx) :
    V m c main_v34 i = (g (ix4 (i 0) (hd (i 1)) (po (i 1)) (i 2)) : EReal) := by
  idx_vars i
  entry_read
  pointwise
  rw [h3]
  rfl

/-- The block of window 5 at a point. -/
theorem blk5 (h3 : m ((c : Thread nD τ).loc main_arg3) = fun i => (g i : EReal)) (t : Fin cfg0.N) :
    iblk m c 5 t = fun y => ((g (ix4 (grp t) (hd (qry t (y 1))) (po (qry t (y 1))) (y 2)) : ℝ) : EReal) := by
  funext y
  refine (?_ : _ = V m c main_v34 (((View.whole main_v34).slice (win0_5.rect t)).emb y)).trans ?_
  · rfl
  · exact (congrArg (V m c main_v34) (emb5 t y)).trans (host34 h3 (ix3 (grp t) (qry t (y 1)) (y 2)))

theorem emb6 (t : Fin cfg0.N) (y) : ((View.whole main_v38).slice (win0_6.rect t)).emb y = ix3 (grp t) (y 1) (qry t (y 2)) := by
  blk_ext [idx_val t, grp, qry]

/-- The host's array of window 6. -/
theorem host38 (h3 : m ((c : Thread nD τ).loc main_arg3) = fun i => (g i : EReal)) (i : S2x64x32768.Idx) :
    V m c main_v38 i = (g (ix4 (i 0) (hd (i 2)) (po (i 2)) (i 1)) : EReal) := by
  idx_vars i
  entry_read
  pointwise
  rw [h3]
  rfl

/-- The block of window 6 at a point. -/
theorem blk6 (h3 : m ((c : Thread nD τ).loc main_arg3) = fun i => (g i : EReal)) (t : Fin cfg0.N) :
    iblk m c 6 t = fun y => ((g (ix4 (grp t) (hd (qry t (y 2))) (po (qry t (y 2))) (y 1)) : ℝ) : EReal) := by
  funext y
  refine (?_ : _ = V m c main_v38 (((View.whole main_v38).slice (win0_6.rect t)).emb y)).trans ?_
  · rfl
  · exact (congrArg (V m c main_v38) (emb6 t y)).trans (host38 h3 (ix3 (grp t) (y 1) (qry t (y 2))))

theorem emb7 (t : Fin cfg0.N) (y) : ((View.whole main_v28).slice (win0_7.rect t)).emb y = ix3 (grp t) (y 1) (qry t (y 2)) := by
  blk_ext [idx_val t, grp, qry]

theorem emb8 (t : Fin cfg0.N) (y) : ((View.whole main_v26).slice (win0_8.rect t)).emb y = ix3 (grp t) 0 (qry t (y 2)) := by
  blk_ext [idx_val t, grp, qry]

/-- The forward's output, at real arguments. -/
def oF (q : Qs.Idx → ℝ) (k v : Ks.Idx → ℝ) (i : S2x64x32768.Idx) : EReal := (ou q k v (i 0) (hd (i 2)) (po (i 2)) (i 1) : EReal)

/-- A point's block of it. -/
def oB (q : Qs.Idx → ℝ) (k v : Ks.Idx → ℝ) (t : Fin cfg0.N) : S1x64x512.Idx → EReal := fun y => oF q k v (ix3 (grp t) (y 1) (qry t (y 2)))

/-- The host's array of window 7: the forward's output. -/
theorem host28 (h0 : m ((c : Thread nD τ).loc main_arg0) = fun i => (q i : EReal)) (h1 : m ((c : Thread nD τ).loc main_arg1) = fun i => (k i : EReal))
    (h2 : m ((c : Thread nD τ).loc main_arg2) = fun i => (v i : EReal)) :
    V m c main_v28 = oF q k v := by
  funext i
  idx_vars i
  entry_read
  rw [h0, h1, h2]
  rw [host_sc, host_mx, host_max, host_ex, host_ls, host_pr, host_ou]
  pointwise
  rfl

/-- The forward's log-sum-exp, at real arguments. -/
def lF (q : Qs.Idx → ℝ) (k : Ks.Idx → ℝ) (i : S2x1x32768.Idx) : EReal :=
  ((mx q k (i 0) (hd (i 2)) (po (i 2)) + Real.log (ls q k (i 0) (hd (i 2)) (po (i 2))) : ℝ) : EReal)

/-- A point's block of it. -/
def lB (q : Qs.Idx → ℝ) (k : Ks.Idx → ℝ) (t : Fin cfg0.N) : S1x1x512.Idx → EReal := fun y => lF q k (ix3 (grp t) 0 (qry t (y 2)))

/-- The host's array of window 8: the forward's log-sum-exp. -/
theorem host26 (h0 : m ((c : Thread nD τ).loc main_arg0) = fun i => (q i : EReal)) (h1 : m ((c : Thread nD τ).loc main_arg1) = fun i => (k i : EReal)) :
    V m c main_v26 = lF q k := by
  funext i
  idx_vars i
  entry_read
  rw [h0, h1]
  rw [host_sc, host_mx, host_ex, host_ls, host_lse]
  pointwise
  rfl

theorem rd7 (t : Fin cfg0.N) (A : S2x64x32768.Idx → EReal) (y) : ((cfg0.win 7).blk t).view.read (Elt Ideal) A y = A (ix3 (grp t) (y 1) (qry t (y 2))) := by
  refine (?_ : _ = A (((View.whole main_v28).slice (win0_7.rect t)).emb y)).trans (congrArg A (emb7 t y))
  rfl

theorem rd8 (t : Fin cfg0.N) (A : S2x1x32768.Idx → EReal) (y) : ((cfg0.win 8).blk t).view.read (Elt Ideal) A y = A (ix3 (grp t) 0 (qry t (y 2))) := by
  refine (?_ : _ = A (((View.whole main_v26).slice (win0_8.rect t)).emb y)).trans (congrArg A (emb8 t y))
  rfl

/-- The block of window 7 at a point. -/
theorem blk7 (h0 : m ((c : Thread nD τ).loc main_arg0) = fun i => (q i : EReal)) (h1 : m ((c : Thread nD τ).loc main_arg1) = fun i => (k i : EReal))
    (h2 : m ((c : Thread nD τ).loc main_arg2) = fun i => (v i : EReal)) (t : Fin cfg0.N) :
    iblk m c 7 t = oB q k v t := by
  refine (congrArg (((cfg0.win 7).blk t).view.read (Elt Ideal)) (host28 h0 h1 h2)).trans ?_
  funext y
  exact rd7 t (oF q k v) y

/-- The block of window 8 at a point. -/
theorem blk8 (h0 : m ((c : Thread nD τ).loc main_arg0) = fun i => (q i : EReal)) (h1 : m ((c : Thread nD τ).loc main_arg1) = fun i => (k i : EReal))
    (t : Fin cfg0.N) :
    iblk m c 8 t = lB q k t := by
  refine (congrArg (((cfg0.win 8).blk t).view.read (Elt Ideal)) (host26 h0 h1)).trans ?_
  funext y
  exact rd8 t (lF q k) y

end blocks

section point

variable {q g : Qs.Idx → ℝ} {k v : Ks.Idx → ℝ}

/-- The blocks of a point, at real arguments. -/
def kB (k : Ks.Idx → ℝ) (t : Fin cfg0.N) : S1x8448x64.Idx → EReal := fun y => (k (ix3 (grp t) (y 1) (y 2)) : EReal)
/-- Rows. -/
def rB (q : Qs.Idx → ℝ) (t : Fin cfg0.N) : S1x512x64.Idx → EReal := fun y => (q (ix4 (grp t) (hd (qry t (y 1))) (po (qry t (y 1))) (y 2)) : EReal)
/-- Columns. -/
def cB (q : Qs.Idx → ℝ) (t : Fin cfg0.N) : S1x64x512.Idx → EReal := fun y => (q (ix4 (grp t) (hd (qry t (y 2))) (po (qry t (y 2))) (y 1)) : EReal)
/-- A weight, at real arguments. -/
theorem wt_eq (t : Fin cfg0.N) (n : Fin 8448) (j : Fin 512) :
    Wt (kB k t) (cB q t) (lB q k t) n j = (pr q k (grp t) (hd (qry t j)) (po (qry t j)) n : EReal) := by
  have e : (∑ e : Fin 64, k (ix3 (grp t) n e) * (q (ix4 (grp t) (hd (qry t j)) (po (qry t j)) e) * (1 / 8)))
      = sc q k (grp t) (hd (qry t j)) (po (qry t j)) n := by
    rw [sc, Finset.sum_mul]
    exact Finset.sum_congr rfl fun _ _ => by ring
  rw [← pr_eq, ← e, Wt, ofBits_eighth_bf16]
  simp only [kB, cB, lB, lF, ix3_0, ix3_2, ← EReal.coe_mul, ← coe_sum, ← EReal.coe_sub]
  rfl

/-- A score's gradient, at real arguments. -/
theorem gs_eq (t : Fin cfg0.N) (n : Fin 8448) (j : Fin 512) :
    Gs (kB k t) (kB v t) (cB q t) (cB g t) (oB q k v t) (lB q k t) n j = (gs q k v g (grp t) (hd (qry t j)) (po (qry t j)) n : EReal) := by
  rw [Gs, wt_eq, gs, ← delta_eq, dp]
  simp only [kB, cB, oB, oF, ix3_0, ix3_1, ix3_2, ← EReal.coe_mul, ← coe_sum, ← EReal.coe_sub]
  congr 3
  exact Finset.sum_congr rfl fun _ _ => mul_comm _ _

/-- A point's addend to the keys' gradient. -/
theorem tk_eq (t : Fin cfg0.N) (n : Fin 8448) (d : Fin 64) :
    Tk (kB k t) (kB v t) (rB q t) (cB q t) (cB g t) (oB q k v t) (lB q k t) n d
      = ((∑ j : Fin 512, gs q k v g (grp t) (hd (qry t j)) (po (qry t j)) n * (1 / 8) * q (ix4 (grp t) (hd (qry t j)) (po (qry t j)) d) : ℝ) : EReal) := by
  rw [Tk, ofBits_eighth_bf16, coe_sum]
  refine Finset.sum_congr rfl fun j _ => ?_
  rw [gs_eq]
  simp only [rB, ← EReal.coe_mul]
  congr 1
  exact (mul_assoc _ _ _).symm.trans (mul_right_comm _ _ _)

/-- A point's addend to the values' gradient. -/
theorem tv_eq (t : Fin cfg0.N) (n : Fin 8448) (d : Fin 64) :
    Tv (kB k t) (cB q t) (rB g t) (lB q k t) n d
      = ((∑ j : Fin 512, g (ix4 (grp t) (hd (qry t j)) (po (qry t j)) d) * pr q k (grp t) (hd (qry t j)) (po (qry t j)) n : ℝ) : EReal) := by
  rw [Tv, coe_sum]
  refine Finset.sum_congr rfl fun j _ => ?_
  rw [wt_eq]
  simp only [rB, ← EReal.coe_mul]
  congr 1
  exact mul_comm _ _

end point

section blocks2

variable {m : (ℓ : Loc nD τ sig) → Buf (Elt Ideal) ℓ} {c : Dev nD} {q g : Qs.Idx → ℝ} {k v : Ks.Idx → ℝ}
  (h0 : m ((c : Thread nD τ).loc main_arg0) = fun i => (q i : EReal)) (h1 : m ((c : Thread nD τ).loc main_arg1) = fun i => (k i : EReal))
  (h2 : m ((c : Thread nD τ).loc main_arg2) = fun i => (v i : EReal)) (h3 : m ((c : Thread nD τ).loc main_arg3) = fun i => (g i : EReal))

include h0 in
theorem bk0 (t : Fin cfg0.N) : iblk m c 0 t = rB q t := blk0 h0 t
include h0 in
theorem bk1 (t : Fin cfg0.N) : iblk m c 1 t = cB q t := blk1 h0 t
include h1 in
theorem bk2 (t : Fin cfg0.N) : iblk m c 2 t = kB k t := blk2 h1 t
include h2 in
theorem bk4 (t : Fin cfg0.N) : iblk m c 4 t = kB v t := blk4 h2 t
include h3 in
theorem bk5 (t : Fin cfg0.N) : iblk m c 5 t = rB g t := blk5 h3 t
include h3 in
theorem bk6 (t : Fin cfg0.N) : iblk m c 6 t = cB g t := blk6 h3 t
include h0 h1 h2 in
theorem bk7 (t : Fin cfg0.N) : iblk m c 7 t = oB q k v t := blk7 h0 h1 h2 t
include h0 h1 in
theorem bk8 (t : Fin cfg0.N) : iblk m c 8 t = lB q k t := blk8 h0 h1 t

end blocks2

/-- A sum over the blocks of queries, then over a block, is one over the heads, then over the positions. -/
theorem sum_blocks (f : Fin 4 → Fin 8192 → ℝ) (F : Fin 64 → ℝ)
    (h : ∀ s : Fin 64, F s = ∑ j : Fin 512, f (hd ⟨s.val * 512 + j.val, by omega⟩) (po ⟨s.val * 512 + j.val, by omega⟩)) :
    ∑ s, F s = ∑ r, ∑ n, f r n := by
  simp only [h]
  rw [Fin.sum_mul_add_fin 64 512 fun Q : Fin 32768 => f (hd Q) (po Q), ← Fin.sum_mul_add_fin 4 8192 fun Q : Fin 32768 => f (hd Q) (po Q)]
  refine Finset.sum_congr rfl fun r _ => Finset.sum_congr rfl fun n _ => ?_
  congr 1 <;> refine Fin.ext ?_ <;> simp only [hd, po] <;> omega

end Cert.FlashIdeal.Value

end
-- ==== Proof.Flash.lean ====
/- Hand-written, untrusted: the gradient of grouped-query softmax attention. What the kernel leaves, at real arguments. -/
module

public import proofs.«01_k».proof.Proof.Reals
public import proofs.«01_k».proof.Proof.Pieces
public import proofs.«01_k».proof.Proof.FlashLoop
public import proofs.«01_k».proof.Proof.FlashReal
public import proofs.«01_k».proof.Proof.Gen.FlashIdeal.Value
public import proofs.«01_k».proof.Proof.FlashBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FlashIdeal.Value

open Cert.FlashIdeal Cert.FlashIdeal.Gen Cert.Reals Cert.Pieces Cert.Attention

section finals

variable {m : (ℓ : Loc nD τ sig) → Buf (Elt Ideal) ℓ} {c : Dev nD} {q g : Qs.Idx → ℝ} {k v : Ks.Idx → ℝ}
  (h0 : m ((c : Thread nD τ).loc main_arg0) = fun i => (q i : EReal)) (h1 : m ((c : Thread nD τ).loc main_arg1) = fun i => (k i : EReal))
  (h2 : m ((c : Thread nD τ).loc main_arg2) = fun i => (v i : EReal)) (h3 : m ((c : Thread nD τ).loc main_arg3) = fun i => (g i : EReal))

theorem trips_val : Scf.trips 0#32 (Scalar.addi 0#32 3#32) 1#32 = 3 := by decide +kernel

theorem grp_run (t : Fin cfg0.N) (s : Fin 64) (h : 64 * (t.val / 64) + s.val < cfg0.N) : grp ⟨64 * (t.val / 64) + s.val, h⟩ = grp t :=
  Fin.ext (by simp only [grp]; omega)

theorem qry_run (t : Fin cfg0.N) (s : Fin 64) (h : 64 * (t.val / 64) + s.val < cfg0.N) (j : Fin 512) :
    qry ⟨64 * (t.val / 64) + s.val, h⟩ j = ⟨s.val * 512 + j.val, by omega⟩ :=
  Fin.ext (by simp only [qry]; omega)

include h0 h1 h2 h3

/-- What a point stores of the queries' gradient. -/
theorem point_9 (t : Fin cfg0.N) (G12 : BufTy.Contents (Elt Ideal) (ms0_10 t).view.ty) (G13 : BufTy.Contents (Elt Ideal) (ms0_11 t).view.ty) (y : S1x64x512.Idx) :
    (k0_pay1 (k0_pay75 (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 5 t) (iblk m c 6 t) (iblk m c 7 t) (iblk m c 8 t) ((hs0_2 t).unread (iblk m c 2 t)) ((hs0_3 t).unread (iblk m c 3 t)) ((hs0_4 t).unread (iblk m c 4 t)) G12 G13 k0_pay71 3).1) : FVec Ideal S1x64x512 .f32) y
      = (dq q k v g (grp t) (hd (qry t (y 2))) (po (qry t (y 2))) (y 1) : EReal) := by
  idx_vars y
  have hT : ∀ (j : Fin 33) (d : Fin 64) (l : Fin 256), (ms0_3 t).view.read (Elt Ideal) ((hs0_3 t).unread (iblk m c 3 t)) (ix4 (0 : Fin 1) j d l)
      = (ms0_2 t).view.read (Elt Ideal) ((hs0_2 t).unread (iblk m c 2 t)) (ix3 (0 : Fin 1) (⟨256 * j.val + l.val, by omega⟩ : Fin 8448) d) := by
    intro j d l
    rw [Memref.IsWhole.read_unread, Memref.IsWhole.read_unread, blk3 h1 t, blk2 h1 t]
    rfl
  pointwise [k0_pay1, k0_pay75]
  rw [loop_queries (hT := hT)]
  · rw [Memref.IsWhole.read_unread, Memref.IsWhole.read_unread, bk1 h0 t, bk2 h1 t, bk4 h2 t, bk6 h3 t, bk7 h0 h1 h2 t, bk8 h0 h1 t, ofBits_eighth]
    simp only [gs_eq]
    simp only [kB, ← EReal.coe_mul, ← coe_sum]
    congr 1
    rw [dq, Finset.sum_mul]
    exact Finset.sum_congr rfl fun _ _ => (mul_assoc _ _ _).trans (mul_comm _ _)
  · intro i
    pointwise [k0_pay71]

/-- The queries' gradient. -/
theorem final_9 : (dats m 0 c).arrAt 9 (cfgs 0).N
    = fun i => (dq q k v g (i 0) (hd (i 2)) (po (i 2)) (i 1) : EReal) := by
  refine (dats m 0 c).arrAt_eq_of_covers 9 _ (by decide +kernel) fun t hf y => ?_
  have e : ((View.whole main_v39_0).slice (win0_9.rect t)).emb y = ix3 (grp t) (y 1) (qry t (y 2)) := by
    blk_ext [idx_val t, grp, qry]
  refine Eq.trans ?_ (congrArg (fun i : S2x64x32768.Idx => (dq q k v g (i 0) (hd (i 2)) (po (i 2)) (i 1) : EReal)) e.symm)
  blk_simp; rw [after0_9]
  by_cases h : t.val % 64 = 0
  · rw [outsAt0_A m c t h]; dsimp only
    frame_out
    rw [trips_val]
    exact point_9 h0 h1 h2 h3 t _ _ y
  · rw [outsAt0_B m c t h]; dsimp only
    frame_out
    rw [trips_val]
    exact point_9 h0 h1 h2 h3 t _ _ y

/-- What a point leaves of the keys' gradient. -/
theorem point_10 (t : Fin cfg0.N) (G12 : BufTy.Contents (Elt Ideal) (ms0_10 t).view.ty) (G13 : BufTy.Contents (Elt Ideal) (ms0_11 t).view.ty) (y : S1x8448x64.Idx) :
    (ms0_10 t).view.read (Elt Ideal) ((ms0_10 t).view.writes (Elt Ideal) G12 (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 5 t) (iblk m c 6 t) (iblk m c 7 t) (iblk m c 8 t) ((hs0_2 t).unread (iblk m c 2 t)) ((hs0_3 t).unread (iblk m c 3 t)) ((hs0_4 t).unread (iblk m c 4 t)) G12 G13 k0_pay71 3).2.1) y
      = (ms0_10 t).view.read (Elt Ideal) G12 y + ((∑ j : Fin 512, gs q k v g (grp t) (hd (qry t j)) (po (qry t j)) (y 1) * (1 / 8) * q (ix4 (grp t) (hd (qry t j)) (po (qry t j)) (y 2)) : ℝ) : EReal) := by
  idx_vars y
  rw [Subsingleton.elim y0 0, loop_keys, Memref.IsWhole.read_unread, Memref.IsWhole.read_unread, bk0 h0 t, bk1 h0 t, bk2 h1 t, bk4 h2 t, bk6 h3 t, bk7 h0 h1 h2 t, bk8 h0 h1 t, tk_eq]

/-- What a point leaves of the values' gradient. -/
theorem point_11 (t : Fin cfg0.N) (G12 : BufTy.Contents (Elt Ideal) (ms0_10 t).view.ty) (G13 : BufTy.Contents (Elt Ideal) (ms0_11 t).view.ty) (y : S1x8448x64.Idx) :
    (ms0_11 t).view.read (Elt Ideal) ((ms0_11 t).view.writes (Elt Ideal) G13 (st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 5 t) (iblk m c 6 t) (iblk m c 7 t) (iblk m c 8 t) ((hs0_2 t).unread (iblk m c 2 t)) ((hs0_3 t).unread (iblk m c 3 t)) ((hs0_4 t).unread (iblk m c 4 t)) G12 G13 k0_pay71 3).2.2) y
      = (ms0_11 t).view.read (Elt Ideal) G13 y + ((∑ j : Fin 512, g (ix4 (grp t) (hd (qry t j)) (po (qry t j)) (y 2)) * pr q k (grp t) (hd (qry t j)) (po (qry t j)) (y 1) : ℝ) : EReal) := by
  idx_vars y
  rw [Subsingleton.elim y0 0, loop_values, Memref.IsWhole.read_unread, bk1 h0 t, bk2 h1 t, bk5 h3 t, bk8 h0 h1 t, tv_eq]

/-- The first point of a group starts the keys' gradient anew. -/
theorem first_10 (t : Fin cfg0.N) (h : t.val % 64 = 0) (y : S1x8448x64.Idx) :
    (outsAt0 m c t.val t.isLt).2.1 y = ((∑ j : Fin 512, gs q k v g (grp t) (hd (qry t j)) (po (qry t j)) (y 1) * (1 / 8) * q (ix4 (grp t) (hd (qry t j)) (po (qry t j)) (y 2)) : ℝ) : EReal) := by
  rw [outsAt0_A m c t h]; dsimp only
  frame_out
  rw [trips_val, ← View.read_writes_junk_eq_canon (ms0_10 t).view, View.writes_append]
  refine (point_10 h0 h1 h2 h3 t _ _ y).trans ?_
  have z : (ms0_10 t).view.read (Elt Ideal) ((ms0_10 t).view.writes (Elt Ideal) (ms0_10 t).view.junk
      [⟨Rect.unit ![0, 0, 0] ![1, 8448, 64] inb_S1x8448x64_S1x8448x64_0_0_0, (k0_pay63 : FVec Ideal S1x8448x64 .f32)⟩]) y = (0 : EReal) := by
    refine ((ms0_10 t).view.read_writes_cons_hit_of_coords _ _ _ _ y _ fun a => ?_).trans ?_
    · fin_cases a <;> exact (Nat.zero_add _).symm.trans (congrArg (0 + ·) (Nat.one_mul _).symm)
    · pointwise [k0_pay63]
  rw [z, zero_add]

/-- A later point of a group adds to the keys' gradient. -/
theorem later_10 (t : Fin cfg0.N) (h : ¬t.val % 64 = 0) (y : S1x8448x64.Idx) :
    (outsAt0 m c t.val t.isLt).2.1 y
      = (outsAt0 m c (t.val - 1) (Nat.lt_of_le_of_lt (Nat.sub_le _ _) t.isLt)).2.1 y + ((∑ j : Fin 512, gs q k v g (grp t) (hd (qry t j)) (po (qry t j)) (y 1) * (1 / 8) * q (ix4 (grp t) (hd (qry t j)) (po (qry t j)) (y 2)) : ℝ) : EReal) := by
  rw [outsAt0_B m c t h]; dsimp only
  frame_out
  rw [trips_val]
  refine (point_10 h0 h1 h2 h3 t _ _ y).trans ?_
  rw [Memref.IsWhole.read_unread]

/-- The keys' gradient, of all the points. -/
theorem final_10 : (dats m 0 c).arrAt 10 (cfgs 0).N = fun i => (dk q k v g (i 0) (i 1) (i 2) : EReal) := by
  refine (dats m 0 c).arrAt_eq_of_covers 10 _ (by decide +kernel) fun t hf y => ?_
  have e : ((View.whole main_v39_1).slice (win0_10.rect t)).emb y = ix3 (grp t) (y 1) (y 2) := by
    blk_ext [idx_val t, grp]
  refine Eq.trans ?_ (congrArg (fun i : S2x8448x64.Idx => (dk q k v g (i 0) (i 1) (i 2) : EReal)) e.symm)
  blk_simp
  rw [after0_10]
  refine (Pipeline.eq_sum_fin_of_reset_step_apply_of_flush (fun n h => (outsAt0 m c n h).2.1) 64 (fun _ => (0 : EReal))
    (fun (t : Fin cfg0.N) (y : S1x8448x64.Idx) => ((∑ j : Fin 512, gs q k v g (grp t) (hd (qry t j)) (po (qry t j)) (y 1) * (1 / 8) * q (ix4 (grp t) (hd (qry t j)) (po (qry t j)) (y 2)) : ℝ) : EReal))
    (fun t h y => (first_10 h0 h1 h2 h3 t h y).trans (zero_add _).symm)
    (fun t h y => later_10 h0 h1 h2 h3 t h y)
    t ((flush0_10 t).mp hf) y).trans ?_
  rw [zero_add, ← coe_sum]
  refine congrArg _ ?_
  change _ = (∑ r : Fin 4, ∑ n : Fin 8192, gs q k v g (grp t) r n (y 1) * (1 / 8) * q (ix4 (grp t) r n (y 2)))
  refine (sum_blocks (fun r n => gs q k v g (grp t) r n (y 1) * (1 / 8) * q (ix4 (grp t) r n (y 2))) _ fun s => ?_)
  exact Finset.sum_congr rfl fun j _ => by rw [grp_run, qry_run]

/-- The first point of a group starts the values' gradient anew. -/
theorem first_11 (t : Fin cfg0.N) (h : t.val % 64 = 0) (y : S1x8448x64.Idx) :
    (outsAt0 m c t.val t.isLt).2.2 y = ((∑ j : Fin 512, g (ix4 (grp t) (hd (qry t j)) (po (qry t j)) (y 2)) * pr q k (grp t) (hd (qry t j)) (po (qry t j)) (y 1) : ℝ) : EReal) := by
  rw [outsAt0_A m c t h]; dsimp only
  frame_out
  rw [trips_val, ← View.read_writes_junk_eq_canon (ms0_11 t).view, View.writes_append]
  refine (point_11 h0 h1 h2 h3 t _ _ y).trans ?_
  have z : (ms0_11 t).view.read (Elt Ideal) ((ms0_11 t).view.writes (Elt Ideal) (ms0_11 t).view.junk
      [⟨Rect.unit ![0, 0, 0] ![1, 8448, 64] inb_S1x8448x64_S1x8448x64_0_0_0, (k0_pay64 : FVec Ideal S1x8448x64 .f32)⟩]) y = (0 : EReal) := by
    refine ((ms0_11 t).view.read_writes_cons_hit_of_coords _ _ _ _ y _ fun a => ?_).trans ?_
    · fin_cases a <;> exact (Nat.zero_add _).symm.trans (congrArg (0 + ·) (Nat.one_mul _).symm)
    · pointwise [k0_pay64]
  rw [z, zero_add]

/-- A later point of a group adds to the values' gradient. -/
theorem later_11 (t : Fin cfg0.N) (h : ¬t.val % 64 = 0) (y : S1x8448x64.Idx) :
    (outsAt0 m c t.val t.isLt).2.2 y
      = (outsAt0 m c (t.val - 1) (Nat.lt_of_le_of_lt (Nat.sub_le _ _) t.isLt)).2.2 y + ((∑ j : Fin 512, g (ix4 (grp t) (hd (qry t j)) (po (qry t j)) (y 2)) * pr q k (grp t) (hd (qry t j)) (po (qry t j)) (y 1) : ℝ) : EReal) := by
  rw [outsAt0_B m c t h]; dsimp only
  frame_out
  rw [trips_val]
  refine (point_11 h0 h1 h2 h3 t _ _ y).trans ?_
  rw [Memref.IsWhole.read_unread]

/-- The values' gradient, of all the points. -/
theorem final_11 : (dats m 0 c).arrAt 11 (cfgs 0).N = fun i => (dv q k g (i 0) (i 1) (i 2) : EReal) := by
  refine (dats m 0 c).arrAt_eq_of_covers 11 _ (by decide +kernel) fun t hf y => ?_
  have e : ((View.whole main_v39_2).slice (win0_11.rect t)).emb y = ix3 (grp t) (y 1) (y 2) := by
    blk_ext [idx_val t, grp]
  refine Eq.trans ?_ (congrArg (fun i : S2x8448x64.Idx => (dv q k g (i 0) (i 1) (i 2) : EReal)) e.symm)
  blk_simp
  rw [after0_11]
  refine (Pipeline.eq_sum_fin_of_reset_step_apply_of_flush (fun n h => (outsAt0 m c n h).2.2) 64 (fun _ => (0 : EReal))
    (fun (t : Fin cfg0.N) (y : S1x8448x64.Idx) => ((∑ j : Fin 512, g (ix4 (grp t) (hd (qry t j)) (po (qry t j)) (y 2)) * pr q k (grp t) (hd (qry t j)) (po (qry t j)) (y 1) : ℝ) : EReal))
    (fun t h y => (first_11 h0 h1 h2 h3 t h y).trans (zero_add _).symm)
    (fun t h y => later_11 h0 h1 h2 h3 t h y)
    t ((flush0_11 t).mp hf) y).trans ?_
  rw [zero_add, ← coe_sum]
  refine congrArg _ ?_
  change _ = (∑ r : Fin 4, ∑ n : Fin 8192, g (ix4 (grp t) r n (y 2)) * pr q k (grp t) r n (y 1))
  refine (sum_blocks (fun r n => g (ix4 (grp t) r n (y 2)) * pr q k (grp t) r n (y 1)) _ fun s => ?_)
  exact Finset.sum_congr rfl fun j _ => by rw [grp_run, qry_run]

end finals

end Cert.FlashIdeal.Value

end
-- ==== Proof.FlashRef.lean ====
/- Hand-written, untrusted: the reference of the attention's gradient at real arguments, and the equality with the kernel. -/
module

public import proofs.«01_k».proof.Defs
public import proofs.«01_k».proof.Proof.Flash
public import Idealize.ShloMosaic.Lib.Claim
public import proofs.«01_k».proof.Proof.Gen.FlashRefIdeal.Run

@[expose] public section

set_option maxRecDepth 16384

noncomputable section

open Idealize.ShloMosaic Idealize.ShloMosaic.TcCoe Idealize.SL.Sem
open Idealize.ShloMosaic.Pipeline (Dat)
open scoped BigOperators

namespace Cert.FlashIdeal.Value

open Cert.Reals Cert.Pieces Cert.Attention

section reference

variable (x0 x3 : FVec Ideal Qs .f32) (x1 x2 : FVec Ideal Ks .f32)

/-- Every argument is an array of real numbers. -/
def AllReal : Prop := Real x0 ∧ Real x1 ∧ Real x2 ∧ Real x3

variable {x0 x1 x2 x3}

/-- The precondition says so. -/
theorem real_of_pre [Cert.Pre_flash_finite.Facts] (h : Cert.Pre_flash_finite.fn (F := Ideal) x0 x1 x2 x3 = fun _ => 1#1) : AllReal x0 x3 x1 x2 := by
  have e := congrFun h ix0
  dsimp only [Cert.Pre_flash_finite.fn, Cert.Pre_flash_finite.fn_part1, andi] at e
  simp only [IntOp.andi_eq_one] at e
  obtain ⟨⟨⟨a, b⟩, d⟩, e⟩ := e
  exact ⟨real_of_all _ _ _ _ _ _ a, real_of_all _ _ _ _ _ _ b, real_of_all _ _ _ _ _ _ d, real_of_all _ _ _ _ _ _ e⟩

end reference

/-- The queries' gradient, stored by columns. -/
def dqOf (x0 x3 : FVec Ideal Qs .f32) (x1 x2 : FVec Ideal Ks .f32) : FVec Ideal Cert.FlashIdeal.S2x64x32768 .f32 :=
  fun i => (dq (re x0) (re x1) (re x2) (re x3) (i 0) (hd (i 2)) (po (i 2)) (i 1) : EReal)
/-- The keys' gradient. -/
def dkOf (x0 x3 : FVec Ideal Qs .f32) (x1 x2 : FVec Ideal Ks .f32) : FVec Ideal Ks .f32 :=
  fun i => (dk (re x0) (re x1) (re x2) (re x3) (i 0) (i 1) (i 2) : EReal)
/-- The values' gradient. -/
def dvOf (x0 x3 : FVec Ideal Qs .f32) (x1 : FVec Ideal Ks .f32) : FVec Ideal Ks .f32 :=
  fun i => (dv (re x0) (re x1) (re x3) (i 0) (i 1) (i 2) : EReal)

/-- The reference's run. -/
theorem ref_run (m' : (ℓ : Loc Cert.FlashRefIdeal.nD Cert.FlashRefIdeal.τ Cert.FlashRefIdeal.sig) → Buf (Elt Ideal) ℓ)
    (g' : Dev Cert.FlashRefIdeal.nD → PrngReg) (hr : ∀ c : Dev Cert.FlashRefIdeal.nD, AllReal (m' ((c.tc : Thread Cert.FlashRefIdeal.nD Cert.FlashRefIdeal.τ).loc Cert.FlashRefIdeal.main_arg0)) (m' ((c.tc : Thread Cert.FlashRefIdeal.nD Cert.FlashRefIdeal.τ).loc Cert.FlashRefIdeal.main_arg3)) (m' ((c.tc : Thread Cert.FlashRefIdeal.nD Cert.FlashRefIdeal.τ).loc Cert.FlashRefIdeal.main_arg1)) (m' ((c.tc : Thread Cert.FlashRefIdeal.nD Cert.FlashRefIdeal.τ).loc Cert.FlashRefIdeal.main_arg2))) :
    θ_run (Cert.FlashRefIdeal.defs (F := Ideal)) (onTc (τ := Cert.FlashRefIdeal.τ) (Cert.FlashRefIdeal.main (F := Ideal)))
      ⟨m', fun _ => 0, g'⟩ fun r => ∀ c : Dev Cert.FlashRefIdeal.nD,
      r.2.mem ((c.tc : Thread Cert.FlashRefIdeal.nD Cert.FlashRefIdeal.τ).loc Cert.FlashRefIdeal.main_v52) = dqOf (m' ((c.tc : Thread Cert.FlashRefIdeal.nD Cert.FlashRefIdeal.τ).loc Cert.FlashRefIdeal.main_arg0)) (m' ((c.tc : Thread Cert.FlashRefIdeal.nD Cert.FlashRefIdeal.τ).loc Cert.FlashRefIdeal.main_arg3)) (m' ((c.tc : Thread Cert.FlashRefIdeal.nD Cert.FlashRefIdeal.τ).loc Cert.FlashRefIdeal.main_arg1)) (m' ((c.tc : Thread Cert.FlashRefIdeal.nD Cert.FlashRefIdeal.τ).loc Cert.FlashRefIdeal.main_arg2))
      ∧ r.2.mem ((c.tc : Thread Cert.FlashRefIdeal.nD Cert.FlashRefIdeal.τ).loc Cert.FlashRefIdeal.main_v49) = dkOf (m' ((c.tc : Thread Cert.FlashRefIdeal.nD Cert.FlashRefIdeal.τ).loc Cert.FlashRefIdeal.main_arg0)) (m' ((c.tc : Thread Cert.FlashRefIdeal.nD Cert.FlashRefIdeal.τ).loc Cert.FlashRefIdeal.main_arg3)) (m' ((c.tc : Thread Cert.FlashRefIdeal.nD Cert.FlashRefIdeal.τ).loc Cert.FlashRefIdeal.main_arg1)) (m' ((c.tc : Thread Cert.FlashRefIdeal.nD Cert.FlashRefIdeal.τ).loc Cert.FlashRefIdeal.main_arg2))
      ∧ r.2.mem ((c.tc : Thread Cert.FlashRefIdeal.nD Cert.FlashRefIdeal.τ).loc Cert.FlashRefIdeal.main_v33) = dvOf (m' ((c.tc : Thread Cert.FlashRefIdeal.nD Cert.FlashRefIdeal.τ).loc Cert.FlashRefIdeal.main_arg0)) (m' ((c.tc : Thread Cert.FlashRefIdeal.nD Cert.FlashRefIdeal.τ).loc Cert.FlashRefIdeal.main_arg3)) (m' ((c.tc : Thread Cert.FlashRefIdeal.nD Cert.FlashRefIdeal.τ).loc Cert.FlashRefIdeal.main_arg1))
      ∧ r.2.mem ((c.tc : Thread Cert.FlashRefIdeal.nD Cert.FlashRefIdeal.τ).loc Cert.FlashRefIdeal.main_arg0) = (m' ((c.tc : Thread Cert.FlashRefIdeal.nD Cert.FlashRefIdeal.τ).loc Cert.FlashRefIdeal.main_arg0))
      ∧ r.2.mem ((c.tc : Thread Cert.FlashRefIdeal.nD Cert.FlashRefIdeal.τ).loc Cert.FlashRefIdeal.main_arg1) = (m' ((c.tc : Thread Cert.FlashRefIdeal.nD Cert.FlashRefIdeal.τ).loc Cert.FlashRefIdeal.main_arg1))
      ∧ r.2.mem ((c.tc : Thread Cert.FlashRefIdeal.nD Cert.FlashRefIdeal.τ).loc Cert.FlashRefIdeal.main_arg2) = (m' ((c.tc : Thread Cert.FlashRefIdeal.nD Cert.FlashRefIdeal.τ).loc Cert.FlashRefIdeal.main_arg2))
      ∧ r.2.mem ((c.tc : Thread Cert.FlashRefIdeal.nD Cert.FlashRefIdeal.τ).loc Cert.FlashRefIdeal.main_arg3) = (m' ((c.tc : Thread Cert.FlashRefIdeal.nD Cert.FlashRefIdeal.τ).loc Cert.FlashRefIdeal.main_arg3)) := by
  refine (θ_run Cert.FlashRefIdeal.defs _ _).mono (fun r h c => ?_) (Cert.FlashRefIdeal.Value.run m' g')
  obtain ⟨r0, r1, r2, rest⟩ := h c
  obtain ⟨h0, h1, h2, h3⟩ := hr c
  unfold Cert.FlashRefIdeal.Value.res_main_v52 at r0
  unfold Cert.FlashRefIdeal.Value.res_main_v49 at r1
  refine ⟨r0.trans ?_, r1.trans ?_, r2.trans ?_, rest⟩
  all_goals
    clear r0 r1 r2 rest h hr
    generalize (m' ((c.tc : Thread Cert.FlashRefIdeal.nD Cert.FlashRefIdeal.τ).loc Cert.FlashRefIdeal.main_arg0)) = x0 at h0 ⊢
    generalize (m' ((c.tc : Thread Cert.FlashRefIdeal.nD Cert.FlashRefIdeal.τ).loc Cert.FlashRefIdeal.main_arg1)) = x1 at h1 ⊢
    generalize (m' ((c.tc : Thread Cert.FlashRefIdeal.nD Cert.FlashRefIdeal.τ).loc Cert.FlashRefIdeal.main_arg2)) = x2 at h2 ⊢
    generalize (m' ((c.tc : Thread Cert.FlashRefIdeal.nD Cert.FlashRefIdeal.τ).loc Cert.FlashRefIdeal.main_arg3)) = x3 at h3 ⊢
    obtain ⟨q, rfl⟩ := h0
    obtain ⟨k, rfl⟩ := h1
    obtain ⟨v, rfl⟩ := h2
    obtain ⟨g, rfl⟩ := h3
    rw [Cert.FlashRefIdeal.Value.host_sc, Cert.FlashRefIdeal.Value.host_mx, Cert.FlashRefIdeal.Value.host_max, Cert.FlashRefIdeal.Value.host_ex, Cert.FlashRefIdeal.Value.host_ls]
  · rw [Cert.FlashRefIdeal.Value.host_dp, Cert.FlashRefIdeal.Value.host_delta, Cert.FlashRefIdeal.Value.host_gs, Cert.FlashRefIdeal.Value.host_dq]
    funext i
    idx_vars i
    pointwise [dqOf, re_coe]
    rfl
  · rw [Cert.FlashRefIdeal.Value.host_dp, Cert.FlashRefIdeal.Value.host_delta, Cert.FlashRefIdeal.Value.host_gs, Cert.FlashRefIdeal.Value.host_dk]
    funext i
    simp only [dkOf, re_coe]
  · rw [Cert.FlashRefIdeal.Value.host_pr, Cert.FlashRefIdeal.Value.host_dv]
    funext i
    simp only [dvOf, re_coe]

set_option maxHeartbeats 4000000 in
/-- The attention's gradient and its reference end with equal results. -/
theorem algebraic [Cert.Pre_flash_finite.Facts] : Cert.algebraic_FlashIdeal_FlashRefIdeal_pre_flash_finite := by
  pair_intro
  · run_from Cert.FlashIdeal.Gen.run_main m g
  · have hr := fun c => real_of_pre (hpre c)
    run_from ref_run m' g' (fun c => by
      obtain ⟨e0, e1, e2, e3⟩ := hagree c
      rw [e0, e1, e2, e3]
      exact hr c)
    all_goals obtain ⟨h0, h1, h2, h3⟩ := hr c
    · exact (final_9 h0.eq h1.eq h2.eq h3.eq).symm
    · exact (final_10 h0.eq h1.eq h2.eq h3.eq).symm
    · exact (final_11 h0.eq h1.eq h2.eq h3.eq).symm

end Cert.FlashIdeal.Value

end
-- ==== Proof.Fwd.lean ====
/- Hand-written, untrusted: grouped-query softmax attention. What one grid point of the kernel leaves, at real arguments. -/
module

public import proofs.«01_k».proof.Proof.Reals
public import proofs.«01_k».proof.Proof.FlashReal
public import proofs.«01_k».proof.Proof.FwdIdealBody
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.FwdIdeal.Value

open Cert.FwdIdeal Cert.FwdIdeal.Gen Cert.FwdIdeal.Body Cert.Reals Cert.Attention

theorem key_lt (b : Fin 33) (l : Fin 256) : 256 * b.val + l.val < 8448 := by omega

/-- The `l`-th key of a block. -/
def key (b : Fin 33) (l : Fin 256) : Fin 8448 := ⟨256 * b.val + l.val, key_lt b l⟩

/-- The scores of a block of keys, at real queries and keys. -/
theorem sco_apply (x : Fin 64 → Fin 1024 → ℝ) (y : Fin 8448 → Fin 64 → ℝ) (q : FVec Ideal S64x1024 .bf16) (K : Vec Ideal S1x8448x64 .bf16)
    (hq : q = fun i => (x (i 0) (i 1) : EReal)) (hK : K = fun i => (y (i 1) (i 2) : EReal)) (n : ℕ) (j : Fin 3) :
    sco q K n j = fun i => ((∑ e : Fin 64, y (key (blkOf n j) (i 2)) e * x e (i 3) : ℝ) : EReal) := by
  subst hq hK
  funext i
  idx_vars i
  unfold sco
  pointwise [k0_pay5]
  simp only [coe_sum, EReal.coe_mul]
  rfl

/-- A row of a block of values. -/
theorem val_apply (V : Vec Ideal S1x33x80x256 .bf16) (n : ℕ) (j : Fin 3) (d : Fin 80) (l : Fin 256) :
    val V n j (ix4 (0 : Fin 1) (0 : Fin 1) d l) = V (ix4 (0 : Fin 1) (blkOf n j) d l) := by
  unfold val
  pointwise

/-- The larger of the running maximum and the largest scores of three blocks. -/
def nm (μ : Fin 1024 → ℝ) (σ : Fin 3 → Fin 256 → Fin 1024 → ℝ) (c : Fin 1024) : ℝ :=
  max (max (max (μ c) (top (n := 255) fun l => σ 0 l c)) (top (n := 255) fun l => σ 1 l c)) (top (n := 255) fun l => σ 2 l c)

section step

variable {μ : Fin 1024 → ℝ} {σ : Fin 3 → Fin 256 → Fin 1024 → ℝ} {a : FVec Ideal S1x1024 .f32 × FVec Ideal S80x1024 .f32}
  {S : Fin 3 → FVec Ideal S1x1x256x1024 .f32} {W : Fin 3 → Vec Ideal S1x1x80x256 .bf16}

theorem max_apply (hm : a.1 = fun i => (μ (i 1) : EReal)) (hS : ∀ j, S j = fun i => (σ j (i 2) (i 3) : EReal)) :
    (k0_pay11 a.1 (S 0) (S 1) (S 2) : FVec Ideal S1x1024 .f32) = fun i => (nm μ σ (i 1) : EReal) := by
  rw [hm, hS, hS, hS]
  funext i
  idx_vars i
  pointwise [k0_pay11, k0_pay8, k0_pay9, k0_pay10]
  rw [ofBits_bot, fold_max, fold_max, fold_max, ← EReal.coe_strictMono.monotone.map_max, ← EReal.coe_strictMono.monotone.map_max,
    ← EReal.coe_strictMono.monotone.map_max]
  rfl

/-- The exponentials of a block of scores. -/
theorem ex_apply (hm : a.1 = fun i => (μ (i 1) : EReal)) (hS : ∀ j, S j = fun i => (σ j (i 2) (i 3) : EReal)) :
    (k0_pay12 a.1 (S 0) (S 1) (S 2) : FVec Ideal S256x1024 .f32) = (fun i => (Real.exp (σ 0 (i 0) (i 1) - nm μ σ (i 1)) : EReal))
      ∧ (k0_pay13 a.1 (S 0) (S 1) (S 2) : FVec Ideal S256x1024 .f32) = (fun i => (Real.exp (σ 1 (i 0) (i 1) - nm μ σ (i 1)) : EReal))
      ∧ (k0_pay14 a.1 (S 0) (S 1) (S 2) : FVec Ideal S256x1024 .f32) = (fun i => (Real.exp (σ 2 (i 0) (i 1) - nm μ σ (i 1)) : EReal)) := by
  unfold k0_pay12 k0_pay13 k0_pay14
  rw [max_apply hm hS, hS, hS, hS]
  refine ⟨?_, ?_, ?_⟩
  all_goals
    funext i
    idx_vars i
    pointwise [k0_pay8, k0_pay9, k0_pay10]
    rfl

/-- The running sums, scaled to the new maximum. -/
theorem old_apply (hm : a.1 = fun i => (μ (i 1) : EReal)) (hS : ∀ j, S j = fun i => (σ j (i 2) (i 3) : EReal)) (d : Fin 80) (c : Fin 1024)
    (α : ℝ) (hα : a.2 (ix2 d c) = (α : EReal)) :
    (k0_pay15 a.1 a.2 (S 0) (S 1) (S 2) : FVec Ideal S80x1024 .f32) (ix2 d c) = ((Real.exp (μ c - nm μ σ c) * α : ℝ) : EReal) := by
  unfold k0_pay15
  rw [max_apply hm hS, hm]
  pointwise
  rw [hα, EReal.coe_mul]
  rfl

/-- One more chunk: the new running sum of a row. -/
theorem con_apply (hm : a.1 = fun i => (μ (i 1) : EReal)) (hS : ∀ j, S j = fun i => (σ j (i 2) (i 3) : EReal)) (d : Fin 80) (c : Fin 1024)
    (α : ℝ) (hα : a.2 (ix2 d c) = (α : EReal)) (ω : Fin 3 → Fin 256 → ℝ)
    (hW : ∀ j l, W j (ix4 (0 : Fin 1) (0 : Fin 1) d l) = (ω j l : EReal)) :
    (con a S W).2 (ix2 d c) = ((Real.exp (μ c - nm μ σ c) * α
      + (0 + ∑ l, ω 0 l * Real.exp (σ 0 l c - nm μ σ c) + ∑ l, ω 1 l * Real.exp (σ 1 l c - nm μ σ c) + ∑ l, ω 2 l * Real.exp (σ 2 l c - nm μ σ c)) : ℝ) : EReal) := by
  unfold con
  obtain ⟨e0, e1, e2⟩ := ex_apply hm hS
  dsimp only
  have eo := old_apply hm hS d c α hα
  rw [e0, e1, e2]
  generalize k0_pay15 a.1 a.2 (S 0) (S 1) (S 2) = A at eo ⊢
  pointwise [k0_pay16]
  simp only [eo, hW, EReal.coe_add, EReal.coe_mul, coe_sum]

end step

/-- The sum over the first `n` chunks of keys of their weights, each times the exponential of its score less `M`. -/
def part (s w : Fin 8448 → ℝ) (n : ℕ) (M : ℝ) : ℝ :=
  ∑ p ∈ Finset.range n, ∑ j : Fin 3, ∑ l : Fin 256, w (key (blkOf p j) l) * Real.exp (s (key (blkOf p j) l) - M)

/-- One more chunk, the maximum moving from `M` to `N`. -/
theorem part_succ (s w : Fin 8448 → ℝ) (n : ℕ) (M N : ℝ) :
    Real.exp (M - N) * part s w n M
      + (0 + ∑ l, w (key (blkOf n 0) l) * Real.exp (s (key (blkOf n 0) l) - N) + ∑ l, w (key (blkOf n 1) l) * Real.exp (s (key (blkOf n 1) l) - N)
        + ∑ l, w (key (blkOf n 2) l) * Real.exp (s (key (blkOf n 2) l) - N)) = part s w (n + 1) N := by
  rw [part, part, Finset.sum_range_succ, Fin.sum_univ_three, zero_add]
  congr 1
  rw [Finset.mul_sum]
  refine Finset.sum_congr rfl fun p _ => ?_
  rw [Finset.mul_sum]
  refine Finset.sum_congr rfl fun j _ => ?_
  rw [Finset.mul_sum]
  refine Finset.sum_congr rfl fun l _ => ?_
  rw [mul_left_comm, ← Real.exp_add, add_comm, sub_add_sub_cancel]

/-- After all chunks the sum is over all keys. -/
theorem part_all (s w : Fin 8448 → ℝ) (M : ℝ) : part s w 11 M = ∑ n, w n * Real.exp (s n - M) := by
  rw [part, ← Fin.sum_mul_add_fin 33 256 fun n : Fin 8448 => w n * Real.exp (s n - M),
    ← Fin.sum_mul_add_fin 11 3 fun b : Fin 33 => ∑ l : Fin 256, w ⟨b.val * 256 + l.val, by omega⟩ * Real.exp (s ⟨b.val * 256 + l.val, by omega⟩ - M), Finset.sum_range]
  refine Finset.sum_congr rfl fun p _ => Finset.sum_congr rfl fun j _ => Finset.sum_congr rfl fun l _ => ?_
  have e : key (blkOf p.val j) l = ⟨(p.val * 3 + j.val) * 256 + l.val, by omega⟩ := Fin.ext (by simp only [key, blkOf]; omega)
  rw [e]

/-- The first running maximum is a real number. -/
theorem first_real : ∃ z : ℝ, Ideal.ofBits .f32 0xF149F2CA#32 = (z : EReal) :=
  by
    simp [Ideal.ofBits, Ideal.ieee]
    rw [← EReal.coe_pow, ← EReal.coe_mul, ← EReal.coe_neg]
    exact ⟨_, rfl⟩

/-- The running maximum and the running sums after `n` chunks. -/
theorem run_apply (x : Fin 64 → Fin 1024 → ℝ) (y : Fin 8448 → Fin 64 → ℝ) (q : FVec Ideal S64x1024 .bf16) (K : Vec Ideal S1x8448x64 .bf16)
    (V : Vec Ideal S1x33x80x256 .bf16) (hq : q = fun i => (x (i 0) (i 1) : EReal)) (hK : K = fun i => (y (i 1) (i 2) : EReal)) (n : ℕ) :
    ∃ μ : Fin 1024 → ℝ, (Body.run q K V n).1 = (fun i => (μ (i 1) : EReal)) ∧ ∀ (d : Fin 80) (w : Fin 8448 → ℝ),
      (∀ b l, V (ix4 (0 : Fin 1) b d l) = (w (key b l) : EReal)) → ∀ c : Fin 1024,
        (Body.run q K V n).2 (ix2 d c) = ((part (fun j => ∑ e, y j e * x e c) w n (μ c) : ℝ) : EReal) := by
  induction n with
  | zero =>
    obtain ⟨z, hz⟩ := first_real
    refine ⟨fun _ => z, ?_, fun d w _ c => ?_⟩
    · exact funext fun _ => hz
    · unfold Body.run
      pointwise [k0_pay35]
      rw [part, Finset.sum_range_zero]
      rfl
  | succ n ih =>
    obtain ⟨μ, hm, hs⟩ := ih
    have hS := sco_apply x y q K hq hK n
    refine ⟨nm μ fun j l c => ∑ e, y (key (blkOf n j) l) e * x e c, ?_, fun d w hw c => ?_⟩
    · exact max_apply (σ := fun j l c => ∑ e, y (key (blkOf n j) l) e * x e c) hm hS
    · have h := con_apply (σ := fun j l c => ∑ e, y (key (blkOf n j) l) e * x e c) (W := val V n) hm hS d c _ (hs d w hw c)
        (fun j l => w (key (blkOf n j) l)) (fun j l => (val_apply V n j d l).trans (hw _ _))
      exact h.trans (congrArg _ (part_succ (fun j => ∑ e, y j e * x e c) w n (μ c) _))

/-- The last chunk's sums are a step of the recursion. -/
theorem last_sums (a : FVec Ideal S1x1024 .f32 × FVec Ideal S80x1024 .f32) (S : Fin 3 → FVec Ideal S1x1x256x1024 .f32) (W : Fin 3 → Vec Ideal S1x1x80x256 .bf16) :
    k0_pay1 (k0_pay41 a.1 (S 0) (S 1) (S 2)) (k0_pay42 a.1 (S 0) (S 1) (S 2)) (k0_pay43 a.1 (S 0) (S 1) (S 2)) (k0_pay44 a.1 a.2 (S 0) (S 1) (S 2))
      (k0_pay45 (W 0)) (W 1) (W 2) = (con a S W).2 := rfl

/-- The last chunk's maximum is a step of the recursion. -/
theorem last_max (a : FVec Ideal S1x1024 .f32 × FVec Ideal S80x1024 .f32) (S : Fin 3 → FVec Ideal S1x1x256x1024 .f32) (W : Fin 3 → Vec Ideal S1x1x80x256 .bf16) :
    k0_pay40 a.1 (S 0) (S 1) (S 2) = (con a S W).1 := rfl

/-- What is left in the output, from the running sums. -/
theorem outO_apply (x0 : Vec Ideal S1x64x1024 .bf16) (x1 : Vec Ideal S1x8448x64 .bf16) (x2 : Vec Ideal S1x33x80x256 .bf16) (d : Fin 64) (c : Fin 1024) :
    outO x0 x1 x2 (ix3 (0 : Fin 1) d c) = Ideal.div ((Body.run (k0_pay30 x0) x1 x2 11).2 (ix2 (⟨d.val, by omega⟩ : Fin 80) c))
      ((Body.run (k0_pay30 x0) x1 x2 11).2 (ix2 (64 : Fin 80) c)) := by
  unfold outO
  pointwise [k0_pay3, k0_pay2]
  exact congrArg₂ Ideal.div (congrFun (last_sums _ _ _) _) (congrFun (last_sums _ _ _) _)

/-- What is left in the logarithms of the sums. -/
theorem outL_apply (x0 : Vec Ideal S1x64x1024 .bf16) (x1 : Vec Ideal S1x8448x64 .bf16) (x2 : Vec Ideal S1x33x80x256 .bf16) (c : Fin 1024) :
    outL x0 x1 x2 (ix3 (0 : Fin 1) (0 : Fin 1) c) = (Body.run (k0_pay30 x0) x1 x2 11).1 (ix2 (0 : Fin 1) c)
      + Ideal.log ((Body.run (k0_pay30 x0) x1 x2 11).2 (ix2 (64 : Fin 80) c)) := by
  unfold outL
  pointwise [k0_pay4, k0_pay2]
  exact congrArg₂ (· + Ideal.log ·) (congrFun (last_max _ _ (val x2 10)) _) (congrFun (last_sums _ _ _) _)

/-! ## Real numbers: the running maximum drops out -/

section real

variable (q : Qs.Idx → ℝ) (k v : Ks.Idx → ℝ)

/-- The logarithm of the sum of a query's exponentials. -/
def lo (a : Fin 2) (r : Fin 4) (n : Fin 8192) : ℝ := Real.log (∑ j : Fin 8448, Real.exp (sc q k a r n j))

theorem sum_pos (M : ℝ) (s : Fin 8448 → ℝ) : 0 < ∑ j, Real.exp (s j - M) :=
  Finset.sum_pos (fun _ _ => Real.exp_pos _) ⟨0, Finset.mem_univ _⟩

theorem one_sum_pos (M : ℝ) (s : Fin 8448 → ℝ) : 0 < ∑ j, 1 * Real.exp (s j - M) := by
  simp only [one_mul]
  exact sum_pos M s

/-- The sums of exponentials less two different numbers are proportional. -/
theorem shift (M N : ℝ) (s w : Fin 8448 → ℝ) :
    ∑ j, w j * Real.exp (s j - M) = (∑ j, w j * Real.exp (s j - N)) * Real.exp (N - M) := by
  rw [Finset.sum_mul]
  refine Finset.sum_congr rfl fun j _ => ?_
  rw [mul_assoc, ← Real.exp_add, sub_add_sub_cancel]

/-- Whatever number was subtracted, the quotient of the sums is the output. -/
theorem ou_of (M : ℝ) (a : Fin 2) (r : Fin 4) (n : Fin 8192) (e : Fin 64) :
    (∑ j, v (ix3 a j e) * Real.exp (sc q k a r n j - M)) * (1 / ∑ j, 1 * Real.exp (sc q k a r n j - M)) = ou q k v a r n e := by
  rw [shift M (mx q k a r n), shift M (mx q k a r n) _ fun _ => 1, mul_one_div, mul_div_mul_right _ _ (Real.exp_pos _).ne', Finset.sum_div, ou]
  refine Finset.sum_congr rfl fun j _ => ?_
  rw [pr, ls]
  simp only [one_mul]
  change v (ix3 a j e) * ex q k a r n j / (∑ i, ex q k a r n i) = _
  ring

/-- Whatever number was subtracted, the logarithm of the sum with it added back is the logarithm of the sum. -/
theorem lo_of (M : ℝ) (a : Fin 2) (r : Fin 4) (n : Fin 8192) :
    M + Real.log (∑ j, 1 * Real.exp (sc q k a r n j - M)) = lo q k a r n := by
  have h := sum_pos 0 (sc q k a r n)
  rw [shift M 0 _ fun _ => 1]
  simp only [one_mul]
  rw [Real.log_mul h.ne' (Real.exp_pos _).ne', Real.log_exp, lo]
  simp only [sub_zero]
  ring

end real

end Cert.FwdIdeal.Value

end
-- ==== Proof.FwdVal.lean ====
/- Hand-written, untrusted: grouped-query softmax attention. The kernel's blocks, and the arrays it leaves. -/
module

public import proofs.«01_k».proof.Proof.Fwd
public import proofs.«01_k».proof.Proof.FlashBlocks
public import Idealize.ShloMosaic.Lib.Routing.OpsPair
public import Idealize.ShloMosaic.Lib.Routing.OpsSet
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.Routing
open scoped BigOperators

namespace Cert.FwdIdeal.Value

open Cert.FwdIdeal Cert.FwdIdeal.Gen Cert.FwdIdeal.Body Cert.Reals Cert.Attention
open Cert.FlashIdeal.Value (hd po)

/-- Every window's block index, at every grid point. -/
theorem idx_val : ∀ t : Fin cfg0.N, win0_0.index t = ![t.val / 32, 0, t.val % 32]
    ∧ win0_1.index t = ![t.val / 32, 0, 0]
    ∧ win0_2.index t = ![t.val / 32, 0, 0, 0]
    ∧ win0_3.index t = ![t.val / 32, 0, t.val % 32]
    ∧ win0_4.index t = ![t.val / 32, 0, t.val % 32] :=
  (by decide +kernel : ∀ t : Fin grid0.N, _)

/-- The group of a grid point. -/
def grp (t : Fin cfg0.N) : Fin 2 := ⟨t.val / 32, by have := t.isLt; have : cfg0.N = 64 := N_0; omega⟩

/-- The query that is query `q` of a grid point's block. -/
def qry (t : Fin cfg0.N) (q : Fin 1024) : Fin 32768 := ⟨t.val % 32 * 1024 + q.val, by omega⟩

section blocks

variable {m : (ℓ : Loc nD τ sig) → Buf (Elt Ideal) ℓ} {c : Dev nD} {q : Qs.Idx → ℝ} {k v : Ks.Idx → ℝ}

theorem emb0 (t : Fin cfg0.N) (y) : ((View.whole main_v4).slice (win0_0.rect t)).emb y = ix3 (grp t) (y 1) (qry t (y 2)) := by
  blk_ext [idx_val t, grp, qry]

/-- The host's array of window 0. -/
theorem host4 (h0 : m ((c : Thread nD τ).loc main_arg0) = fun i => (q i : EReal)) (i : S2x64x32768.Idx) :
    V m c main_v4 i = (q (ix4 (i 0) (hd (i 2)) (po (i 2)) (i 1)) : EReal) := by
  idx_vars i
  entry_read
  pointwise
  rw [h0]
  rfl

/-- The block of window 0 at a point. -/
theorem blk0 (h0 : m ((c : Thread nD τ).loc main_arg0) = fun i => (q i : EReal)) (t : Fin cfg0.N) :
    iblk m c 0 t = fun y => ((q (ix4 (grp t) (hd (qry t (y 2))) (po (qry t (y 2))) (y 1)) : ℝ) : EReal) := by
  funext y
  refine (?_ : _ = V m c main_v4 (((View.whole main_v4).slice (win0_0.rect t)).emb y)).trans ?_
  · rfl
  · exact (congrArg (V m c main_v4) (emb0 t y)).trans (host4 h0 (ix3 (grp t) (y 1) (qry t (y 2))))

theorem emb1 (t : Fin cfg0.N) (y) : ((View.whole main_v2).slice (win0_1.rect t)).emb y = ix3 (grp t) (y 1) (y 2) := by
  blk_ext [idx_val t, grp]

/-- The host's array of window 1. -/
theorem host2 (h1 : m ((c : Thread nD τ).loc main_arg1) = fun i => (k i : EReal)) (i : S2x8448x64.Idx) :
    V m c main_v2 i = (k (ix3 (i 0) (i 1) (i 2)) : EReal) := by
  idx_vars i
  entry_read
  pointwise
  rw [h1]

/-- The block of window 1 at a point. -/
theorem blk1 (h1 : m ((c : Thread nD τ).loc main_arg1) = fun i => (k i : EReal)) (t : Fin cfg0.N) :
    iblk m c 1 t = fun y => ((k (ix3 (grp t) (y 1) (y 2)) : ℝ) : EReal) := by
  funext y
  refine (?_ : _ = V m c main_v2 (((View.whole main_v2).slice (win0_1.rect t)).emb y)).trans ?_
  · rfl
  · exact (congrArg (V m c main_v2) (emb1 t y)).trans (host2 h1 (ix3 (grp t) (y 1) (y 2)))

theorem emb2 (t : Fin cfg0.N) (y) : ((View.whole main_v11).slice (win0_2.rect t)).emb y = ix4 (grp t) (y 1) (y 2) (y 3) := by
  blk_ext [idx_val t, grp]

/-- The first row of the rows set to one. -/
theorem ones (x : FVec Ideal S2x33x16x256 .bf16) (u : FVec Ideal S2x33x256 .bf16) (idx : IVec S1 32) (hi : idx = fun _ => 0#32)
    (hu : u = fun _ => ((1 : ℝ) : EReal)) (a : Fin 2) (b : Fin 33) (l : Fin 256) :
    Host.scatter scatter_S2x33x16x256_S1_S2x33x256_012_2_2_0 (fun _ b => b) x idx u (ix4 a b (0 : Fin 16) l) = ((1 : ℝ) : EReal) := by
  subst hi hu
  refine scatter_set_hit _ _ _ _ _ _ (fun _ _ => rfl) (ix3 a b l) ?_
  rw [resultIdx?_eq_some]
  intro d
  refine Eq.trans (congrArg₂ (· + ·) (?_ : _ = (0 : ℤ)) rfl) (zero_add _) |>.trans ?_
  · fin_cases d <;> rfl
  · fin_cases d <;> rfl

set_option maxRecDepth 200000 in
/-- The host's array of window 2, at the values. -/
theorem host11 (h2 : m ((c : Thread nD τ).loc main_arg2) = fun i => (v i : EReal)) (a : Fin 2) (b : Fin 33) (d : Fin 64) (l : Fin 256) :
    V m c main_v11 (ix4 a b (⟨d.val, by omega⟩ : Fin 80) l) = (v (ix3 a (key b l) d) : EReal) := by
  entry_read
  pointwise
  rw [h2]
  exact congrArg (fun n => (v (ix3 a n d) : EReal)) (Fin.ext (congrArg (· + l.val) (Nat.mul_comm _ _)))

set_option maxRecDepth 200000 in
/-- The host's array of window 2, at the row of ones. -/
theorem host11_one (a : Fin 2) (b : Fin 33) (l : Fin 256) :
    V m c main_v11 (ix4 a b (64 : Fin 80) l) = ((1 : ℝ) : EReal) := by
  entry_read
  pointwise
  refine ones _ _ _ ?_ ?_ a b l
  · funext i
    pointwise
  · funext i
    pointwise
    exact EReal.coe_one.symm

theorem rd2 (t : Fin cfg0.N) (A : S2x33x80x256.Idx → EReal) (y) :
    ((cfg0.win 2).blk t).view.read (Elt Ideal) A y = A (ix4 (grp t) (y 1) (y 2) (y 3)) := by
  refine (?_ : _ = A (((View.whole main_v11).slice (win0_2.rect t)).emb y)).trans (congrArg A (emb2 t y))
  rfl

/-- The block of window 2 at a point, at the values. -/
theorem blk2 (h2 : m ((c : Thread nD τ).loc main_arg2) = fun i => (v i : EReal)) (t : Fin cfg0.N) (b : Fin 33) (d : Fin 64) (l : Fin 256) :
    iblk m c 2 t (ix4 (0 : Fin 1) b (⟨d.val, by omega⟩ : Fin 80) l) = (v (ix3 (grp t) (key b l) d) : EReal) :=
  (rd2 t (V m c main_v11) _).trans (host11 h2 (grp t) b d l)

/-- The block of window 2 at a point, at the row of ones. -/
theorem blk2_one (t : Fin cfg0.N) (b : Fin 33) (l : Fin 256) : iblk m c 2 t (ix4 (0 : Fin 1) b (64 : Fin 80) l) = ((1 : ℝ) : EReal) :=
  (rd2 t (V m c main_v11) _).trans (host11_one (grp t) b l)

variable (h0 : m ((c : Thread nD τ).loc main_arg0) = fun i => (q i : EReal)) (h1 : m ((c : Thread nD τ).loc main_arg1) = fun i => (k i : EReal))
  (h2 : m ((c : Thread nD τ).loc main_arg2) = fun i => (v i : EReal))

/-- The queries, scaled. -/
theorem scaled (t : Fin cfg0.N) (h0 : m ((c : Thread nD τ).loc main_arg0) = fun i => (q i : EReal)) :
    (k0_pay30 (iblk m c 0 t) : FVec Ideal S64x1024 .bf16)
      = fun i => ((q (ix4 (grp t) (hd (qry t (i 1))) (po (qry t (i 1))) (i 0)) * (1 / 8) : ℝ) : EReal) := by
  funext i
  idx_vars i
  pointwise [k0_pay30]
  rw [blk0 h0 t, ofBits_eighth_bf16, EReal.coe_mul]
  rfl

theorem score (t : Fin cfg0.N) (n : Fin 1024) (j : Fin 8448) :
    ∑ e : Fin 64, k (ix3 (grp t) j e) * (q (ix4 (grp t) (hd (qry t n)) (po (qry t n)) e) * (1 / 8)) = sc q k (grp t) (hd (qry t n)) (po (qry t n)) j := by
  rw [sc, Finset.sum_mul]
  exact Finset.sum_congr rfl fun _ _ => by ring

include h0 h1 h2

/-- The running maximum is some real number, and the sums are those of the exponentials less it. -/
theorem sums (t : Fin cfg0.N) : ∃ μ : Fin 1024 → ℝ, (Body.run (k0_pay30 (iblk m c 0 t)) (iblk m c 1 t) (iblk m c 2 t) 11).1 = (fun i => (μ (i 1) : EReal))
    ∧ (∀ (d : Fin 64) (n : Fin 1024), (Body.run (k0_pay30 (iblk m c 0 t)) (iblk m c 1 t) (iblk m c 2 t) 11).2 (ix2 (⟨d.val, by omega⟩ : Fin 80) n)
        = ((∑ j, v (ix3 (grp t) j d) * Real.exp (sc q k (grp t) (hd (qry t n)) (po (qry t n)) j - μ n) : ℝ) : EReal))
    ∧ ∀ n : Fin 1024, (Body.run (k0_pay30 (iblk m c 0 t)) (iblk m c 1 t) (iblk m c 2 t) 11).2 (ix2 (64 : Fin 80) n)
        = ((∑ j, 1 * Real.exp (sc q k (grp t) (hd (qry t n)) (po (qry t n)) j - μ n) : ℝ) : EReal) := by
  obtain ⟨μ, hm, hs⟩ := run_apply (fun e n => q (ix4 (grp t) (hd (qry t n)) (po (qry t n)) e) * (1 / 8)) (fun j e => k (ix3 (grp t) j e)) _ _
    (iblk m c 2 t) (scaled t h0) (blk1 h1 t) 11
  simp only [score, part_all] at hs
  exact ⟨μ, hm, fun d n => hs _ (fun j => v (ix3 (grp t) j d)) (fun b l => blk2 h2 t b d l) n, fun n => hs _ (fun _ => 1) (fun b l => blk2_one t b l) n⟩

/-- What a point leaves in the output. -/
theorem point_3 (t : Fin cfg0.N) (y : S1x64x1024.Idx) :
    outO (iblk m c 0 t) (iblk m c 1 t) (iblk m c 2 t) y = (ou q k v (grp t) (hd (qry t (y 2))) (po (qry t (y 2))) (y 1) : EReal) := by
  obtain ⟨μ, hm, hs, ho⟩ := sums h0 h1 h2 t
  idx_vars y
  fin_cases y0
  refine (outO_apply _ _ _ y1 y2).trans ?_
  rw [hs, ho, Ideal.div_coe (one_sum_pos _ _).ne', ← EReal.coe_mul, ou_of]

/-- What a point leaves in the logarithms of the sums. -/
theorem point_4 (t : Fin cfg0.N) (y : S1x1x1024.Idx) :
    outL (iblk m c 0 t) (iblk m c 1 t) (iblk m c 2 t) y = (lo q k (grp t) (hd (qry t (y 2))) (po (qry t (y 2))) : EReal) := by
  obtain ⟨μ, hm, hs, ho⟩ := sums h0 h1 h2 t
  idx_vars y
  fin_cases y0
  fin_cases y1
  refine (outL_apply _ _ _ y2).trans ?_
  have hm' := congrFun hm (ix2 (0 : Fin 1) y2)
  rw [hm', ho, Ideal.log_coe, if_neg (not_le.mpr (one_sum_pos _ _))]
  exact (EReal.coe_add _ _).symm.trans (congrArg _ (lo_of q k (μ y2) _ _ _))

/-- The output's array at the end. -/
theorem final_3 : (dats m 0 c).arrAt 3 (cfgs 0).N = fun i => (ou q k v (i 0) (hd (i 2)) (po (i 2)) (i 1) : EReal) := by
  refine (dats m 0 c).arrAt_eq_of_covers 3 _ (by decide +kernel) fun t hf y => ?_
  have e : ((View.whole main_v12_0).slice (win0_3.rect t)).emb y = ix3 (grp t) (y 1) (qry t (y 2)) := by
    blk_ext [idx_val t, grp, qry]
  refine Eq.trans ?_ (congrArg (fun i : S2x64x32768.Idx => (ou q k v (i 0) (hd (i 2)) (po (i 2)) (i 1) : EReal)) e.symm)
  blk_simp
  rw [after_3]
  exact point_3 h0 h1 h2 t y

/-- The array of the logarithms at the end. -/
theorem final_4 : (dats m 0 c).arrAt 4 (cfgs 0).N = fun i => (lo q k (i 0) (hd (i 2)) (po (i 2)) : EReal) := by
  refine (dats m 0 c).arrAt_eq_of_covers 4 _ (by decide +kernel) fun t hf y => ?_
  have e : ((View.whole main_v12_1).slice (win0_4.rect t)).emb y = ix3 (grp t) 0 (qry t (y 2)) := by
    blk_ext [idx_val t, grp, qry]
  refine Eq.trans ?_ (congrArg (fun i : S2x1x32768.Idx => (lo q k (i 0) (hd (i 2)) (po (i 2)) : EReal)) e.symm)
  blk_simp
  rw [after_4]
  exact point_4 h0 h1 h2 t y

end blocks

end Cert.FwdIdeal.Value

end
-- ==== Proof.FwdRef.lean ====
/- Hand-written, untrusted: the reference of grouped-query softmax attention at real arguments, and the equality with the kernel. -/
module

public import proofs.«01_k».proof.Defs
public import proofs.«01_k».proof.Proof.FwdVal
public import Idealize.ShloMosaic.Lib.Claim
public import proofs.«01_k».proof.Proof.Gen.FwdRefIdeal.Run

@[expose] public section

set_option maxRecDepth 16384

noncomputable section

open Idealize.ShloMosaic Idealize.ShloMosaic.TcCoe Idealize.SL.Sem
open Idealize.ShloMosaic.Pipeline (Dat)
open scoped BigOperators

namespace Cert.FwdRefIdeal.Value

open Cert.FwdRefIdeal Cert.FwdRefIdeal.Gen Cert.Reals Cert.Attention
open Cert.FlashIdeal.Value (hd po)

section host

variable (q : Qs.Idx → ℝ) (k v : Ks.Idx → ℝ)

/-- The scores. -/
theorem host_sc : (mulf (Host.dotGeneral dot_S2x4x8192x64_S2x8448x64_S2x4x8192x8448_3_2_12_1_0_0 none (φ₁ := .f32) (φ₂ := .f32)
    (fun i => (q i : EReal) : FVec Ideal S2x4x8192x64 .f32) (fun i => (k i : EReal) : FVec Ideal S2x8448x64 .f32))
    (broadcastInDim S2x4x8192x8448 ![] bcast_S_S2x4x8192x8448 (constant S_ FTy.f32 1040187392#32)) : FVec Ideal S2x4x8192x8448 .f32)
    = fun i => (sc q k (i 0) (i 1) (i 2) (i 3) : EReal) := by
  funext i
  idx_vars i
  pointwise
  rw [ofBits_eighth]
  simp only [← EReal.coe_mul, ← coe_sum, sc]

/-- The largest scores. -/
theorem host_mx : (Host.reduce FloatOps.maximumf (fun i => (sc q k (i 0) (i 1) (i 2) (i 3) : EReal) : FVec Ideal S2x4x8192x8448 .f32)
    (constant S_ FTy.f32 4286578688#32) reducesTo_S2x4x8192x8448_S2x4x8192_d3 h_S_ : FVec Ideal S2x4x8192 .f32)
    = fun i => (mx q k (i 0) (i 1) (i 2) : EReal) := by
  funext i
  idx_vars i
  pointwise
  rw [ofBits_bot]
  exact fold_max _

/-- The largest scores against `-∞`. -/
theorem host_max : (maximumf (broadcastInDim S2x4x8192 ![] bcast_S_S2x4x8192 (constant S_ FTy.f32 4286578688#32))
    (fun i => (mx q k (i 0) (i 1) (i 2) : EReal)) : FVec Ideal S2x4x8192 .f32) = fun i => (mx q k (i 0) (i 1) (i 2) : EReal) := by
  funext i
  idx_vars i
  pointwise
  rw [ofBits_bot, bot_sup_eq]

/-- The exponentials. -/
theorem host_ex : (Host.exp (subf (fun i => (sc q k (i 0) (i 1) (i 2) (i 3) : EReal) : FVec Ideal S2x4x8192x8448 .f32)
    (broadcastInDim S2x4x8192x8448 ![0, 1, 2, 3] bcast_S2x4x8192x1_S2x4x8192x8448_0_1_2_3
            (broadcastInDim S2x4x8192x1 ![0, 1, 2] bcast_S2x4x8192_S2x4x8192x1_0_1_2 (fun i => (mx q k (i 0) (i 1) (i 2) : EReal) : FVec Ideal
          S2x4x8192 .f32)))) : FVec Ideal S2x4x8192x8448 .f32)
    = fun i => (ex q k (i 0) (i 1) (i 2) (i 3) : EReal) := by
  funext i
  idx_vars i
  pointwise
  rfl

/-- The sums of the exponentials. -/
theorem host_ls : (Host.reduceAdd (fun i => (ex q k (i 0) (i 1) (i 2) (i 3) : EReal) : FVec Ideal S2x4x8192x8448 .f32)
    (constant S_ FTy.f32 0#32) reducesTo_S2x4x8192x8448_S2x4x8192_d3 h_S_ : FVec Ideal S2x4x8192 .f32)
    = fun i => (ls q k (i 0) (i 1) (i 2) : EReal) := by
  funext i
  idx_vars i
  pointwise
  rw [← coe_sum, ls]

/-- The weights. -/
theorem host_pr : (Host.divf (fun i => (ex q k (i 0) (i 1) (i 2) (i 3) : EReal) : FVec Ideal S2x4x8192x8448 .f32)
    (broadcastInDim S2x4x8192x8448 ![0, 1, 2, 3] bcast_S2x4x8192x1_S2x4x8192x8448_0_1_2_3
            (broadcastInDim S2x4x8192x1 ![0, 1, 2] bcast_S2x4x8192_S2x4x8192x1_0_1_2 (fun i => (ls q k (i 0) (i 1) (i 2) : EReal) : FVec Ideal
          S2x4x8192 .f32))) : FVec Ideal S2x4x8192x8448 .f32)
    = fun i => (pr q k (i 0) (i 1) (i 2) (i 3) : EReal) := by
  funext i
  idx_vars i
  pointwise
  rw [Ideal.div_coe (ls_pos q k _ _ _).ne', ← EReal.coe_mul, pr, mul_one_div]

/-- The outputs. -/
theorem host_ou : (Host.dotGeneral dot_S2x4x8192x8448_S2x8448x64_S2x4x8192x64_3_1_12_2_0_0 none (φ₁ := .f32) (φ₂ := .f32)
        (fun i => (pr q k (i 0) (i 1) (i 2) (i 3) : EReal) : FVec Ideal S2x4x8192x8448 .f32) (fun i => (v i : EReal) : FVec Ideal S2x8448x64 .f32) :
        FVec Ideal S2x4x8192x64 .f32)
    = fun i => (ou q k v (i 0) (i 1) (i 2) (i 3) : EReal) := by
  funext i
  idx_vars i
  pointwise
  simp only [← EReal.coe_mul, ← coe_sum, ou]

/-- The logarithms of the sums of the exponentials. -/
theorem host_lo : (Host.log (Host.reduceAdd (Host.exp (fun i => (sc q k (i 0) (i 1) (i 2) (i 3) : EReal) : FVec Ideal S2x4x8192x8448 .f32))
    (constant S_ FTy.f32 0#32) reducesTo_S2x4x8192x8448_S2x4x8192_d3 h_S_) : FVec Ideal S2x4x8192 .f32)
    = fun i => (Cert.FwdIdeal.Value.lo q k (i 0) (i 1) (i 2) : EReal) := by
  funext i
  idx_vars i
  pointwise
  have e : ∑ j : Fin 8448, Ideal.exp (sc q k i0 i1 i2 j : EReal) = ((∑ j : Fin 8448, Real.exp (sc q k i0 i1 i2 j) : ℝ) : EReal) := (coe_sum _ _).symm
  have h : 0 < ∑ j : Fin 8448, Real.exp (sc q k i0 i1 i2 j) := Finset.sum_pos (fun _ _ => Real.exp_pos _) ⟨0, Finset.mem_univ _⟩
  rw [e, Ideal.log_coe, if_neg (not_le.mpr h)]
  rfl

end host

end Cert.FwdRefIdeal.Value

namespace Cert.FwdIdeal.Value

open Cert.Reals Cert.Attention
open Cert.FlashIdeal.Value (hd po)

section reference

variable (x0 : FVec Ideal Qs .f32) (x1 x2 : FVec Ideal Ks .f32)

/-- Every argument is an array of real numbers. -/
def AllReal : Prop := Real x0 ∧ Real x1 ∧ Real x2

variable {x0 x1 x2}

/-- The precondition says so. -/
theorem real_of_pre [Cert.Pre_fwd_finite.Facts] (h : Cert.Pre_fwd_finite.fn (F := Ideal) x0 x1 x2 = fun _ => 1#1) : AllReal x0 x1 x2 := by
  have e := congrFun h ix0
  dsimp only [Cert.Pre_fwd_finite.fn, andi] at e
  simp only [IntOp.andi_eq_one] at e
  obtain ⟨⟨a, b⟩, d⟩ := e
  exact ⟨real_of_all _ _ _ _ _ _ a, real_of_all _ _ _ _ _ _ b, real_of_all _ _ _ _ _ _ d⟩

end reference

/-- The output, stored by columns. -/
def ouOf (x0 : FVec Ideal Qs .f32) (x1 x2 : FVec Ideal Ks .f32) : FVec Ideal Cert.FwdIdeal.S2x64x32768 .f32 :=
  fun i => (ou (re x0) (re x1) (re x2) (i 0) (hd (i 2)) (po (i 2)) (i 1) : EReal)
/-- The logarithms of the sums. -/
def loOf (x0 : FVec Ideal Qs .f32) (x1 : FVec Ideal Ks .f32) : FVec Ideal Cert.FwdIdeal.S2x1x32768 .f32 :=
  fun i => (lo (re x0) (re x1) (i 0) (hd (i 2)) (po (i 2)) : EReal)

/-- The reference's run. -/
theorem ref_run (m' : (ℓ : Loc Cert.FwdRefIdeal.nD Cert.FwdRefIdeal.τ Cert.FwdRefIdeal.sig) → Buf (Elt Ideal) ℓ)
    (g' : Dev Cert.FwdRefIdeal.nD → PrngReg) (hr : ∀ c : Dev Cert.FwdRefIdeal.nD, AllReal (m' ((c.tc : Thread Cert.FwdRefIdeal.nD Cert.FwdRefIdeal.τ).loc Cert.FwdRefIdeal.main_arg0)) (m' ((c.tc : Thread Cert.FwdRefIdeal.nD Cert.FwdRefIdeal.τ).loc Cert.FwdRefIdeal.main_arg1)) (m' ((c.tc : Thread Cert.FwdRefIdeal.nD Cert.FwdRefIdeal.τ).loc Cert.FwdRefIdeal.main_arg2))) :
    θ_run (Cert.FwdRefIdeal.defs (F := Ideal)) (onTc (τ := Cert.FwdRefIdeal.τ) (Cert.FwdRefIdeal.main (F := Ideal)))
      ⟨m', fun _ => 0, g'⟩ fun r => ∀ c : Dev Cert.FwdRefIdeal.nD,
      r.2.mem ((c.tc : Thread Cert.FwdRefIdeal.nD Cert.FwdRefIdeal.τ).loc Cert.FwdRefIdeal.main_v22) = ouOf (m' ((c.tc : Thread Cert.FwdRefIdeal.nD Cert.FwdRefIdeal.τ).loc Cert.FwdRefIdeal.main_arg0)) (m' ((c.tc : Thread Cert.FwdRefIdeal.nD Cert.FwdRefIdeal.τ).loc Cert.FwdRefIdeal.main_arg1)) (m' ((c.tc : Thread Cert.FwdRefIdeal.nD Cert.FwdRefIdeal.τ).loc Cert.FwdRefIdeal.main_arg2))
      ∧ r.2.mem ((c.tc : Thread Cert.FwdRefIdeal.nD Cert.FwdRefIdeal.τ).loc Cert.FwdRefIdeal.main_v23) = loOf (m' ((c.tc : Thread Cert.FwdRefIdeal.nD Cert.FwdRefIdeal.τ).loc Cert.FwdRefIdeal.main_arg0)) (m' ((c.tc : Thread Cert.FwdRefIdeal.nD Cert.FwdRefIdeal.τ).loc Cert.FwdRefIdeal.main_arg1))
      ∧ r.2.mem ((c.tc : Thread Cert.FwdRefIdeal.nD Cert.FwdRefIdeal.τ).loc Cert.FwdRefIdeal.main_arg0) = (m' ((c.tc : Thread Cert.FwdRefIdeal.nD Cert.FwdRefIdeal.τ).loc Cert.FwdRefIdeal.main_arg0))
      ∧ r.2.mem ((c.tc : Thread Cert.FwdRefIdeal.nD Cert.FwdRefIdeal.τ).loc Cert.FwdRefIdeal.main_arg1) = (m' ((c.tc : Thread Cert.FwdRefIdeal.nD Cert.FwdRefIdeal.τ).loc Cert.FwdRefIdeal.main_arg1))
      ∧ r.2.mem ((c.tc : Thread Cert.FwdRefIdeal.nD Cert.FwdRefIdeal.τ).loc Cert.FwdRefIdeal.main_arg2) = (m' ((c.tc : Thread Cert.FwdRefIdeal.nD Cert.FwdRefIdeal.τ).loc Cert.FwdRefIdeal.main_arg2)) := by
  refine (θ_run Cert.FwdRefIdeal.defs _ _).mono (fun r h c => ?_) (Cert.FwdRefIdeal.Value.run m' g')
  obtain ⟨r0, r1, rest⟩ := h c
  obtain ⟨h0, h1, h2⟩ := hr c
  refine ⟨r0.trans ?_, r1.trans ?_, rest⟩
  all_goals
    clear r0 r1 rest h hr
    generalize (m' ((c.tc : Thread Cert.FwdRefIdeal.nD Cert.FwdRefIdeal.τ).loc Cert.FwdRefIdeal.main_arg0)) = x0 at h0 ⊢
    generalize (m' ((c.tc : Thread Cert.FwdRefIdeal.nD Cert.FwdRefIdeal.τ).loc Cert.FwdRefIdeal.main_arg1)) = x1 at h1 ⊢
    generalize (m' ((c.tc : Thread Cert.FwdRefIdeal.nD Cert.FwdRefIdeal.τ).loc Cert.FwdRefIdeal.main_arg2)) = x2 at h2 ⊢
    obtain ⟨q, rfl⟩ := h0
    obtain ⟨k, rfl⟩ := h1
    obtain ⟨v, rfl⟩ := h2
    rw [Cert.FwdRefIdeal.Value.host_sc]
  · rw [Cert.FwdRefIdeal.Value.host_mx, Cert.FwdRefIdeal.Value.host_max, Cert.FwdRefIdeal.Value.host_ex, Cert.FwdRefIdeal.Value.host_ls,
      Cert.FwdRefIdeal.Value.host_pr, Cert.FwdRefIdeal.Value.host_ou]
    funext i
    idx_vars i
    pointwise [ouOf, re_coe]
    rfl
  · rw [Cert.FwdRefIdeal.Value.host_lo]
    funext i
    idx_vars i
    pointwise [loOf, re_coe]
    rfl

set_option maxHeartbeats 4000000 in
/-- The attention and its reference end with equal results. -/
theorem algebraic [Cert.Pre_fwd_finite.Facts] : Cert.algebraic_FwdIdeal_FwdRefIdeal_pre_fwd_finite := by
  pair_intro
  · run_from Cert.FwdIdeal.Body.run_main m g
  · have hr := fun c => real_of_pre (hpre c)
    run_from ref_run m' g' (fun c => by
      obtain ⟨e0, e1, e2⟩ := hagree c
      rw [e0, e1, e2]
      exact hr c)
    all_goals obtain ⟨h0, h1, h2⟩ := hr c
    · exact (final_3 h0.eq h1.eq h2.eq).symm
    · exact (final_4 h0.eq h1.eq h2.eq).symm

end Cert.FwdIdeal.Value

end
-- ==== Proof.Ffn.lean ====
/- Hand-written, untrusted: the gradient at the feed-forward's gate. The kernel's closed form of the derivative of
   `a · sigmoid a · u` and the chain rule of the reference agree at real arguments. -/
module

public import proofs.«01_k».proof.Defs
public import proofs.«01_k».proof.Proof.Reals
public import proofs.«01_k».proof.Proof.Pieces
public import proofs.«01_k».proof.Proof.Gen.FfnIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen Cert.Reals Cert.Pieces

variable (m : (ℓ : Loc nD τ sig) → Buf (Elt Ideal) ℓ)

/-- Every window's block index, at every grid point. -/
theorem idx_val : ∀ t : Fin cfg0.N, win0_0.index t = ![t.val % 22, 0]
    ∧ win0_1.index t = ![t.val / 22, 0]
    ∧ win0_2.index t = ![0, t.val % 22, t.val / 22]
    ∧ win0_3.index t = ![0, t.val % 22, t.val / 22] :=
  (by decide +kernel : ∀ t : Fin grid0.N, _)

/-- The logistic function. -/
def sg (a : ℝ) : ℝ := (1 + Real.exp (-a))⁻¹

/-- The logistic function as both programs write it. -/
theorem logistic_coe (a : ℝ) : Ideal.div 1 (1 + Ideal.exp (-(a : EReal))) = (sg a : EReal) := by
  have h : (1 + Real.exp (-a)) ≠ 0 := by positivity
  rw [← EReal.coe_neg, Ideal.exp_coe, ← EReal.coe_one, ← EReal.coe_add, Ideal.div_coe h, ← EReal.coe_mul, one_mul, one_div, sg]

/-- The row of the array that is row `r` of block `t`. -/
def row (t : Fin cfg0.N) (r : Fin 384) : Fin 8448 :=
  ⟨t.val % 22 * 384 + r.val, by omega⟩

/-- The column of the array that is column `l` of block `t`. -/
def col (t : Fin cfg0.N) (l : Fin 1408) : Fin 2816 :=
  ⟨t.val / 22 * 1408 + l.val, by have := t.isLt; have : cfg0.N = 44 := N_0; omega⟩

/-- A column of one of the two halves of the input's weights. -/
def half (s : Fin 2) (f : Fin 2816) : Fin 5632 := ⟨s.val * 2816 + f.val, by omega⟩

/-- The pre-activations: the gate's (`s = 0`) and the value's (`s = 1`). -/
def au (h : S8448x1024.Idx → ℝ) (w : S1024x5632.Idx → ℝ) (s : Fin 2) (i : Fin 8448) (f : Fin 2816) : ℝ :=
  ∑ k : Fin 1024, h (ix2 i k) * w (ix2 k (half s f))

/-- The cotangent of the activations. -/
def dact (v : S2816x1024.Idx → ℝ) (dy : S8448x1024.Idx → ℝ) (i : Fin 8448) (f : Fin 2816) : ℝ :=
  ∑ k : Fin 1024, dy (ix2 i k) * v (ix2 f k)

/-- The gradient at the gate (`s = 0`) and at the value (`s = 1`). -/
def dau (h : S8448x1024.Idx → ℝ) (w : S1024x5632.Idx → ℝ) (v : S2816x1024.Idx → ℝ) (dy : S8448x1024.Idx → ℝ) (s : Fin 2) (i : Fin 8448) (f : Fin 2816) : ℝ :=
  if s.val < 1 then dact v dy i f * au h w 1 i f * (sg (au h w 0 i f) * (1 + au h w 0 i f * (1 - sg (au h w 0 i f))))
  else dact v dy i f * (au h w 0 i f * sg (au h w 0 i f))

/-- The gate's pre-activation as a sum over a row of the left columns. -/
theorem au_0 (h : S8448x1024.Idx → ℝ) (w : S1024x5632.Idx → ℝ) (i : Fin 8448) (f : Fin 2816) (hf : f.val < 5632) :
    ∑ x : Fin 1024, (h (ix2 i x) : EReal) * (w (ix2 x ⟨f.val, hf⟩) : EReal) = (au h w 0 i f : EReal) := by
  have e : half 0 f = ⟨f.val, hf⟩ := Fin.ext (by simp [half])
  simp only [au, e, coe_sum, EReal.coe_mul]

/-- The value's pre-activation as a sum over a row of the right columns. -/
theorem au_1 (h : S8448x1024.Idx → ℝ) (w : S1024x5632.Idx → ℝ) (i : Fin 8448) (f : Fin 2816) (hf : 2816 + f.val < 5632) :
    ∑ x : Fin 1024, (h (ix2 i x) : EReal) * (w (ix2 x ⟨2816 + f.val, hf⟩) : EReal) = (au h w 1 i f : EReal) := by
  have e : half 1 f = ⟨2816 + f.val, hf⟩ := Fin.ext (by simp [half])
  simp only [au, e, coe_sum, EReal.coe_mul]

/-- The cotangent of the activations as a sum. -/
theorem dact_at (v : S2816x1024.Idx → ℝ) (dy : S8448x1024.Idx → ℝ) (i : Fin 8448) (f : Fin 2816) :
    ∑ x : Fin 1024, (dy (ix2 i x) : EReal) * (v (ix2 f x) : EReal) = (dact v dy i f : EReal) := by
  simp only [dact, coe_sum, EReal.coe_mul]

/-- The array index of an index of the cotangent's block. -/
theorem emb0 (t : Fin cfg0.N) (y) : ((View.whole main_v5).slice (win0_0.rect t)).emb y = ix2 (row t (y 0)) (y 1) := by
  blk_ext [idx_val t, row]

/-- The array index of an index of the output weights' block. -/
theorem emb1 (t : Fin cfg0.N) (y) : ((View.whole main_v6).slice (win0_1.rect t)).emb y = ix2 (col t (y 0)) (y 1) := by
  blk_ext [idx_val t, col]

/-- The array index of an index of the pre-activations' block. -/
theorem emb2 (t : Fin cfg0.N) (y) : ((View.whole main_v9).slice (win0_2.rect t)).emb y = ix3 (y 0) (row t (y 1)) (col t (y 2)) := by
  blk_ext [idx_val t, row, col]

section values

variable {m} {h : S8448x1024.Idx → ℝ} {w : S1024x5632.Idx → ℝ} {v : S2816x1024.Idx → ℝ} {dy : S8448x1024.Idx → ℝ} {c : Dev nD}
  (h0 : m ((c : Thread nD τ).loc main_arg0) = fun i => (h i : EReal))
  (h1 : m ((c : Thread nD τ).loc main_arg1) = fun i => (w i : EReal))
  (h2 : m ((c : Thread nD τ).loc main_arg2) = fun i => (v i : EReal))
  (h3 : m ((c : Thread nD τ).loc main_arg3) = fun i => (dy i : EReal))

include h3 in
/-- The cotangent's block at a point. -/
theorem blk0 (t : Fin cfg0.N) : (iblk m c 0 t : FVec Ideal S384x1024 .bf16) = fun y => (dy (ix2 (row t (y 0)) (y 1)) : EReal) := by
  funext y
  blk_simp [iblk, idx_val t]
  entry_read
  pointwise
  rw [emb0, h3]
  rfl

include h2 in
/-- The output weights' block at a point. -/
theorem blk1 (t : Fin cfg0.N) : (iblk m c 1 t : FVec Ideal S1408x1024 .bf16) = fun y => (v (ix2 (col t (y 0)) (y 1)) : EReal) := by
  funext y
  blk_simp [iblk, idx_val t]
  entry_read
  pointwise
  rw [emb1, h2]
  rfl

include h0 h1 in
/-- The pre-activations' block at a point. -/
theorem blk2 (t : Fin cfg0.N) : (iblk m c 2 t : FVec Ideal S2x384x1408 .f32) = fun y => (au h w (y 0) (row t (y 1)) (col t (y 2)) : EReal) := by
  funext y
  blk_simp [iblk, idx_val t]
  entry_read
  pointwise
  rw [emb2, h0, h1]
  change (if _ : (y 0).val < 1 then ∑ x, (h (ix2 (row t (y 1)) x) : EReal) * (w (ix2 x ⟨(col t (y 2)).val, _⟩) : EReal)
    else ∑ x, (h (ix2 (row t (y 1)) x) : EReal) * (w (ix2 x ⟨2816 + (col t (y 2)).val, _⟩) : EReal)) = _
  have hy2 : (y 0).val < 2 := (y 0).isLt
  by_cases hy : (y 0).val < 1
  · have e0 : (y 0 : Fin 2) = (0 : Fin 2) := Fin.ext (Nat.lt_one_iff.mp hy)
    exact (dif_pos hy).trans ((au_0 h w (row t (y 1)) (col t (y 2)) _).trans (congrArg (fun s : Fin 2 => (au h w s (row t (y 1)) (col t (y 2)) : EReal)) e0.symm))
  · have e0 : (y 0 : Fin 2) = (1 : Fin 2) := Fin.ext (by change (y 0).val = 1; omega)
    exact (dif_neg hy).trans ((au_1 h w (row t (y 1)) (col t (y 2)) _).trans (congrArg (fun s : Fin 2 => (au h w s (row t (y 1)) (col t (y 2)) : EReal)) e0.symm))

include h0 h1 h2 h3 in
/-- The first half of the block written at a point. -/
theorem pay4_at (t : Fin cfg0.N) (r : Fin 384) (l : Fin 1408) :
    k0_pay4 (View.ld (iblk m c 0 t : FVec Ideal S384x1024 .bf16) r0_0) (View.ld (iblk m c 1 t : FVec Ideal S1408x1024 .bf16) r0_1)
      (View.ld (iblk m c 2 t : FVec Ideal S2x384x1408 .f32) r0_2) (View.ld (iblk m c 2 t : FVec Ideal S2x384x1408 .f32) r0_3) (ix3 (0 : Fin 1) r l)
      = (dau h w v dy 0 (row t r) (col t l) : EReal) := by
  rw [blk0 h3, blk1 h2, blk2 h0 h1]
  pointwise [k0_pay4, k0_pay1, k0_pay2, k0_pay3, r0_0, r0_1, r0_2, r0_3]
  simp only [Ideal.logistic, logistic_coe, dact_at]
  simp only [← EReal.coe_one, ← EReal.coe_mul, ← EReal.coe_add, ← EReal.coe_sub]
  rfl

include h0 h1 h2 h3 in
/-- The second half of the block written at a point. -/
theorem pay5_at (t : Fin cfg0.N) (r : Fin 384) (l : Fin 1408) :
    k0_pay5 (View.ld (iblk m c 0 t : FVec Ideal S384x1024 .bf16) r0_0) (View.ld (iblk m c 1 t : FVec Ideal S1408x1024 .bf16) r0_1)
      (View.ld (iblk m c 2 t : FVec Ideal S2x384x1408 .f32) r0_2) (ix3 (0 : Fin 1) r l)
      = (dau h w v dy 1 (row t r) (col t l) : EReal) := by
  rw [blk0 h3, blk1 h2, blk2 h0 h1]
  pointwise [k0_pay5, k0_pay1, k0_pay2, k0_pay3, r0_0, r0_1, r0_2]
  simp only [Ideal.logistic, logistic_coe, dact_at]
  simp only [← EReal.coe_mul]
  rfl

include h0 h1 h2 h3 in
/-- The block written at a point. -/
theorem out_at (t : Fin cfg0.N) (s : Fin 2) (r : Fin 384) (l : Fin 1408) :
    out0_3 (iblk m c 0 t : FVec Ideal S384x1024 .bf16) (iblk m c 1 t : FVec Ideal S1408x1024 .bf16) (iblk m c 2 t : FVec Ideal S2x384x1408 .f32) (ix3 s r l)
      = (dau h w v dy s (row t r) (col t l) : EReal) := by
  refine (canon_planes (n := 384) (k := 1408) _ _ [] (ix3 s r l)).trans ?_
  match s with
  | ⟨0, _⟩ => exact (if_pos rfl).trans (pay4_at h0 h1 h2 h3 t r l)
  | ⟨1, _⟩ => exact (if_neg Nat.one_ne_zero).trans (pay5_at h0 h1 h2 h3 t r l)

include h0 h1 h2 h3 in
/-- The array after the run. -/
theorem final_3 : (dats m 0 c).arrAt 3 (cfgs 0).N = (fun j => (dau h w v dy (j 0) (j 1) (j 2) : EReal) : FVec Ideal S2x8448x2816 .bf16) := by
  refine (dats m 0 c).arrAt_eq_of_covers 3 _ (by decide +kernel) fun t hf y => ?_
  blk_simp; rw [after0_3]
  have e : ((View.whole main_v10).slice (win0_3.rect t)).emb y = ix3 (y 0) (row t (y 1)) (col t (y 2)) := by blk_ext [idx_val t, row, col]
  have ey : y = ix3 (y 0 : Fin 2) (y 1 : Fin 384) (y 2 : Fin 1408) := by funext a; fin_cases a <;> rfl
  rw [e, ey]
  exact out_at h0 h1 h2 h3 t (y 0) (y 1) (y 2)

end values

end Cert.FfnIdeal.Value

end
-- ==== Proof.FfnRef.lean ====
/- Hand-written, untrusted: the reference of the gradient at the feed-forward's gate at real arguments, and the equality with
   the kernel. -/
module

public import proofs.«01_k».proof.Proof.Ffn
public import proofs.«01_k».proof.Proof.Gen.FfnRefIdeal.Run

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen Cert.Reals Cert.Pieces

/-- The chain rule through `a · sigmoid a` is the kernel's closed form. -/
theorem chain_gate (d u a : ℝ) : (d : EReal) * (u : EReal) * (sg a : EReal) + (a : EReal) * ((d : EReal) * (u : EReal)) * ((sg a : EReal) * (1 - (sg a : EReal)))
    = ((d * u * (sg a * (1 + a * (1 - sg a))) : ℝ) : EReal) := by
  simp only [← EReal.coe_one, ← EReal.coe_mul, ← EReal.coe_add, ← EReal.coe_sub]
  congr 1
  ring

/-- The reference's result as a function of its arguments. -/
def dauOf (h : FVec Ideal S8448x1024 .f32) (w : FVec Ideal S1024x5632 .f32) (v : FVec Ideal S2816x1024 .f32) (dy : FVec Ideal S8448x1024 .f32) :
    FVec Ideal S2x8448x2816 .bf16 := fun j => (dau (re h) (re w) (re v) (re dy) (j 0) (j 1) (j 2) : EReal)

/-- Every argument is an array of real numbers. -/
def AllReal (h : FVec Ideal S8448x1024 .f32) (w : FVec Ideal S1024x5632 .f32) (v : FVec Ideal S2816x1024 .f32) (dy : FVec Ideal S8448x1024 .f32) : Prop :=
  Real h ∧ Real w ∧ Real v ∧ Real dy

/-- The precondition says so. -/
theorem real_of_pre [Cert.Pre_ffn_finite.Facts] {h : FVec Ideal S8448x1024 .f32} {w : FVec Ideal S1024x5632 .f32} {v : FVec Ideal S2816x1024 .f32}
    {dy : FVec Ideal S8448x1024 .f32} (hp : Cert.Pre_ffn_finite.fn (F := Ideal) h w v dy = fun _ => 1#1) : AllReal h w v dy := by
  have e := congrFun hp ix0
  unfold Cert.Pre_ffn_finite.fn at e
  dsimp only [Cert.Pre_ffn_finite.fn_part1, andi] at e
  simp only [IntOp.andi_eq_one] at e
  obtain ⟨⟨⟨a, b⟩, d⟩, e⟩ := e
  exact ⟨real_of_all _ _ _ _ _ _ a, real_of_all _ _ _ _ _ _ b, real_of_all _ _ _ _ _ _ d, real_of_all _ _ _ _ _ _ e⟩

/-- The reference's run. -/
theorem ref_run (m' : (ℓ : Loc Cert.FfnRefIdeal.nD Cert.FfnRefIdeal.τ Cert.FfnRefIdeal.sig) → Buf (Elt Ideal) ℓ)
    (g' : Dev Cert.FfnRefIdeal.nD → PrngReg) (hr : ∀ c : Dev Cert.FfnRefIdeal.nD, AllReal (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))) :
    θ_run (Cert.FfnRefIdeal.defs (F := Ideal)) (onTc (τ := Cert.FfnRefIdeal.τ) (Cert.FfnRefIdeal.main (F := Ideal)))
      ⟨m', fun _ => 0, g'⟩ fun r => ∀ c : Dev Cert.FfnRefIdeal.nD,
      r.2.mem ((c.tc : Thread Cert.FfnRefIdeal.nD Cert.FfnRefIdeal.τ).loc Cert.FfnRefIdeal.main_v13)
        = dauOf (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))
      ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3) := by
  refine (θ_run Cert.FfnRefIdeal.defs _ _).mono (fun r h c => ?_) (Cert.FfnRefIdeal.Value.run m' g')
  obtain ⟨r0, rest⟩ := h c
  obtain ⟨h0, h1, h2, h3⟩ := hr c
  refine ⟨r0.trans ?_, rest⟩
  clear r0 rest h hr
  generalize m' ((c.tc : Thread Cert.FfnRefIdeal.nD Cert.FfnRefIdeal.τ).loc Cert.FfnRefIdeal.main_arg0) = h at h0 ⊢
  generalize m' ((c.tc : Thread Cert.FfnRefIdeal.nD Cert.FfnRefIdeal.τ).loc Cert.FfnRefIdeal.main_arg1) = w at h1 ⊢
  generalize m' ((c.tc : Thread Cert.FfnRefIdeal.nD Cert.FfnRefIdeal.τ).loc Cert.FfnRefIdeal.main_arg2) = v at h2 ⊢
  generalize m' ((c.tc : Thread Cert.FfnRefIdeal.nD Cert.FfnRefIdeal.τ).loc Cert.FfnRefIdeal.main_arg3) = dy at h3 ⊢
  obtain ⟨h, rfl⟩ := h0
  obtain ⟨w, rfl⟩ := h1
  obtain ⟨v, rfl⟩ := h2
  obtain ⟨dy, rfl⟩ := h3
  funext j
  idx_vars j
  pointwise [dauOf, re_coe]
  have h2 : j0.val < 2 := j0.isLt
  simp only [au_0, au_1, dact_at, logistic_coe]
  by_cases hj : j0.val < 1
  · have e0 : j0 = 0 := Fin.ext (Nat.lt_one_iff.mp hj)
    subst e0
    exact (dif_pos hj).trans (chain_gate _ _ _)
  · have e0 : j0 = 1 := Fin.ext (by change j0.val = 1; omega)
    subst e0
    refine (dif_neg hj).trans ?_
    rw [← EReal.coe_mul, ← EReal.coe_mul, mul_comm]
    rfl

/-- The gate's gradient and its reference end with equal results. -/
theorem algebraic [Cert.Pre_ffn_finite.Facts] : Cert.algebraic_FfnIdeal_FfnRefIdeal_pre_ffn_finite := by
  pair_intro
  · run_from Cert.FfnIdeal.Gen.run_main m g
  · have hr := fun c => real_of_pre (hpre c)
    run_from ref_run m' g' (fun c => by
      obtain ⟨e0, e1, e2, e3⟩ := hagree c
      rw [e0, e1, e2, e3]
      exact hr c)
    obtain ⟨h0, h1, h2, h3⟩ := hr c
    exact (final_3 h0.eq h1.eq h2.eq h3.eq).symm

end Cert.FfnIdeal.Value

end
-- ==== Proof.ActRef.lean ====
/- Hand-written, untrusted: the forward of the feed-forward's gate, with the pre-activations it saves: the kernel's tiles, the
   reference at real arguments, and their equality. -/
module

public import proofs.«01_k».proof.Proof.Ffn
public import proofs.«01_k».proof.Proof.Gen.ActIdeal.Value
public import proofs.«01_k».proof.Proof.Gen.ActRefIdeal.Run

@[expose] public section

set_option maxRecDepth 16384

noncomputable section

open Idealize.ShloMosaic Idealize.ShloMosaic.TcCoe Idealize.SL.Sem
open Idealize.ShloMosaic.Pipeline (Dat)
open scoped BigOperators

namespace Cert.ActIdeal.Value

open Cert.ActIdeal Cert.ActIdeal.Gen Cert.Reals Cert.Pieces
open Cert.FfnIdeal.Value (sg logistic_coe half au au_0 au_1)

variable (m : (ℓ : Loc nD τ sig) → Buf (Elt Ideal) ℓ)

/-- Every window's block index, at every grid point. -/
theorem idx_val : ∀ t : Fin cfg0.N, win0_0.index t = ![t.val % 22, 0]
    ∧ win0_1.index t = ![0, t.val / 22]
    ∧ win0_2.index t = ![0, t.val / 22 + 2]
    ∧ win0_3.index t = ![t.val % 22, t.val / 22]
    ∧ win0_4.index t = ![0, t.val % 22, t.val / 22] :=
  (by decide +kernel : ∀ t : Fin grid0.N, _)

/-- The row of the array that is row `r` of block `t`. -/
def row (t : Fin cfg0.N) (r : Fin 384) : Fin 8448 :=
  ⟨t.val % 22 * 384 + r.val, by omega⟩

/-- The column of the array that is column `l` of block `t`. -/
def col (t : Fin cfg0.N) (l : Fin 1408) : Fin 2816 :=
  ⟨t.val / 22 * 1408 + l.val, by have := t.isLt; have : cfg0.N = 44 := N_0; omega⟩

/-- The gated activation. -/
def act (h : S8448x1024.Idx → ℝ) (w : S1024x5632.Idx → ℝ) (i : Fin 8448) (f : Fin 2816) : ℝ :=
  au h w 0 i f * sg (au h w 0 i f) * au h w 1 i f

/-- A pre-activation as a sum over a row. -/
theorem au_at (h : S8448x1024.Idx → ℝ) (w : S1024x5632.Idx → ℝ) (s : Fin 2) (i : Fin 8448) (f : Fin 2816) :
    ∑ x : Fin 1024, (h (ix2 i x) : EReal) * (w (ix2 x (half s f)) : EReal) = (au h w s i f : EReal) := by
  simp only [au, coe_sum, EReal.coe_mul]

/-- The array index of an index of the input's block. -/
theorem emb0 (t : Fin cfg0.N) (y) : ((View.whole main_v0).slice (win0_0.rect t)).emb y = ix2 (row t (y 0)) (y 1) := by
  blk_ext [idx_val t, row]

/-- The array index of an index of the gate's weights' block. -/
theorem emb1 (t : Fin cfg0.N) (y) : ((View.whole main_v1).slice (win0_1.rect t)).emb y = ix2 (y 0) (half 0 (col t (y 1))) := by
  blk_ext [idx_val t, col, half]

/-- The array index of an index of the value's weights' block. -/
theorem emb2 (t : Fin cfg0.N) (y) : ((View.whole main_v1).slice (win0_2.rect t)).emb y = ix2 (y 0) (half 1 (col t (y 1))) := by
  blk_ext [idx_val t, col, half]

section values

variable {m} {h : S8448x1024.Idx → ℝ} {w : S1024x5632.Idx → ℝ} {c : Dev nD}
  (h0 : m ((c : Thread nD τ).loc main_arg0) = fun i => (h i : EReal))
  (h1 : m ((c : Thread nD τ).loc main_arg1) = fun i => (w i : EReal))

include h0 in
/-- The input's block at a point. -/
theorem blk0 (t : Fin cfg0.N) : (iblk m c 0 t : FVec Ideal S384x1024 .bf16) = fun y => (h (ix2 (row t (y 0)) (y 1)) : EReal) := by
  funext y
  blk_simp [iblk, idx_val t]
  entry_read
  pointwise
  rw [emb0, h0]
  rfl

include h1 in
/-- The gate's weights' block at a point. -/
theorem blk1 (t : Fin cfg0.N) : (iblk m c 1 t : FVec Ideal S1024x1408 .bf16) = fun y => (w (ix2 (y 0) (half 0 (col t (y 1)))) : EReal) := by
  funext y
  blk_simp [iblk, idx_val t]
  entry_read
  pointwise
  rw [emb1, h1]
  rfl

include h1 in
/-- The value's weights' block at a point. -/
theorem blk2 (t : Fin cfg0.N) : (iblk m c 2 t : FVec Ideal S1024x1408 .bf16) = fun y => (w (ix2 (y 0) (half 1 (col t (y 1)))) : EReal) := by
  funext y
  blk_simp [iblk, idx_val t]
  entry_read
  pointwise
  rw [emb2, h1]
  rfl

include h0 h1 in
/-- The gate's pre-activations of a block. -/
theorem pay4_at (t : Fin cfg0.N) (r : Fin 384) (l : Fin 1408) :
    k0_pay4 (View.ld (iblk m c 0 t : FVec Ideal S384x1024 .bf16) r0_0) (View.ld (iblk m c 1 t : FVec Ideal S1024x1408 .bf16) r0_1) (ix3 (0 : Fin 1) r l)
      = (au h w 0 (row t r) (col t l) : EReal) := by
  rw [blk0 h0, blk1 h1]
  pointwise [k0_pay4, k0_pay1, k0_pay2, r0_0, r0_1]
  exact au_at h w 0 _ _

include h0 h1 in
/-- The value's pre-activations of a block. -/
theorem pay5_at (t : Fin cfg0.N) (r : Fin 384) (l : Fin 1408) :
    k0_pay5 (View.ld (iblk m c 0 t : FVec Ideal S384x1024 .bf16) r0_0) (View.ld (iblk m c 2 t : FVec Ideal S1024x1408 .bf16) r0_1) (ix3 (0 : Fin 1) r l)
      = (au h w 1 (row t r) (col t l) : EReal) := by
  rw [blk0 h0, blk2 h1]
  pointwise [k0_pay5, k0_pay1, k0_pay3, r0_0, r0_1]
  exact au_at h w 1 _ _

include h0 h1 in
/-- The activations of a block. -/
theorem pay6_at (t : Fin cfg0.N) (r : Fin 384) (l : Fin 1408) :
    k0_pay6 (F := Ideal) (iblk m c 0 t) (iblk m c 1 t)
      (iblk m c 2 t) (ix2 r l) = (act h w (row t r) (col t l) : EReal) := by
  rw [blk0 h0, blk1 h1, blk2 h1]
  pointwise [k0_pay6, k0_pay1, k0_pay2, k0_pay3]
  simp only [Ideal.logistic, au_at, logistic_coe]
  simp only [← EReal.coe_mul]
  rfl

include h0 h1 in
/-- The activations after the run. -/
theorem final_3 : (dats m 0 c).arrAt 3 (cfgs 0).N = (fun j => (act h w (j 0) (j 1) : EReal) : FVec Ideal S8448x2816 .bf16) := by
  refine (dats m 0 c).arrAt_eq_of_covers 3 _ (by decide +kernel) fun t hf y => ?_
  blk_simp; rw [after0_3]
  have e : ((View.whole main_v2_0).slice (win0_3.rect t)).emb y = ix2 (row t (y 0)) (col t (y 1)) := by blk_ext [idx_val t, row, col]
  have ey : y = ix2 (y 0 : Fin 384) (y 1 : Fin 1408) := by funext a; fin_cases a <;> rfl
  rw [e, ey]
  frame_out
  exact pay6_at h0 h1 t (y 0) (y 1)

include h0 h1 in
/-- The saved pre-activations after the run. -/
theorem final_4 : (dats m 0 c).arrAt 4 (cfgs 0).N = (fun j => (au h w (j 0) (j 1) (j 2) : EReal) : FVec Ideal S2x8448x2816 .f32) := by
  refine (dats m 0 c).arrAt_eq_of_covers 4 _ (by decide +kernel) fun t hf y => ?_
  blk_simp; rw [after0_4]
  have e : ((View.whole main_v2_1).slice (win0_4.rect t)).emb y = ix3 (y 0) (row t (y 1)) (col t (y 2)) := by blk_ext [idx_val t, row, col]
  have ey : y = ix3 (y 0 : Fin 2) (y 1 : Fin 384) (y 2 : Fin 1408) := by funext a; fin_cases a <;> rfl
  rw [e, ey]
  refine (canon_planes (n := 384) (k := 1408) _ _ [] (ix3 (y 0 : Fin 2) (y 1 : Fin 384) (y 2 : Fin 1408))).trans ?_
  generalize (y 0 : Fin 2) = s
  match s with
  | ⟨0, _⟩ => exact (if_pos rfl).trans (pay4_at h0 h1 t (y 1) (y 2))
  | ⟨1, _⟩ => exact (if_neg Nat.one_ne_zero).trans (pay5_at h0 h1 t (y 1) (y 2))

end values

/-- The reference's activations as a function of its arguments. -/
def actOf (h : FVec Ideal S8448x1024 .f32) (w : FVec Ideal S1024x5632 .f32) : FVec Ideal S8448x2816 .bf16 := fun j => (act (re h) (re w) (j 0) (j 1) : EReal)

/-- The reference's pre-activations as a function of its arguments. -/
def auOf (h : FVec Ideal S8448x1024 .f32) (w : FVec Ideal S1024x5632 .f32) : FVec Ideal S2x8448x2816 .f32 := fun j => (au (re h) (re w) (j 0) (j 1) (j 2) : EReal)

/-- The precondition says that both arguments are arrays of real numbers. -/
theorem real_of_pre [Cert.Pre_act_finite.Facts] {h : FVec Ideal S8448x1024 .f32} {w : FVec Ideal S1024x5632 .f32}
    (hp : Cert.Pre_act_finite.fn (F := Ideal) h w = fun _ => 1#1) : Real h ∧ Real w := by
  have e := congrFun hp ix0
  unfold Cert.Pre_act_finite.fn at e
  dsimp only [andi] at e
  simp only [IntOp.andi_eq_one] at e
  exact ⟨real_of_all _ _ _ _ _ _ e.1, real_of_all _ _ _ _ _ _ e.2⟩

/-- The reference's run. -/
theorem ref_run (m' : (ℓ : Loc Cert.ActRefIdeal.nD Cert.ActRefIdeal.τ Cert.ActRefIdeal.sig) → Buf (Elt Ideal) ℓ)
    (g' : Dev Cert.ActRefIdeal.nD → PrngReg) (hr : ∀ c : Dev Cert.ActRefIdeal.nD, Real (m' ((c.tc : Thread Cert.ActRefIdeal.nD Cert.ActRefIdeal.τ).loc Cert.ActRefIdeal.main_arg0)) ∧ Real (m' ((c.tc : Thread Cert.ActRefIdeal.nD Cert.ActRefIdeal.τ).loc Cert.ActRefIdeal.main_arg1))) :
    θ_run (Cert.ActRefIdeal.defs (F := Ideal)) (onTc (τ := Cert.ActRefIdeal.τ) (Cert.ActRefIdeal.main (F := Ideal)))
      ⟨m', fun _ => 0, g'⟩ fun r => ∀ c : Dev Cert.ActRefIdeal.nD,
      r.2.mem ((c.tc : Thread Cert.ActRefIdeal.nD Cert.ActRefIdeal.τ).loc Cert.ActRefIdeal.main_v5) = actOf (m' ((c.tc : Thread Cert.ActRefIdeal.nD Cert.ActRefIdeal.τ).loc Cert.ActRefIdeal.main_arg0)) (m' ((c.tc : Thread Cert.ActRefIdeal.nD Cert.ActRefIdeal.τ).loc Cert.ActRefIdeal.main_arg1))
      ∧ r.2.mem ((c.tc : Thread Cert.ActRefIdeal.nD Cert.ActRefIdeal.τ).loc Cert.ActRefIdeal.main_v8) = auOf (m' ((c.tc : Thread Cert.ActRefIdeal.nD Cert.ActRefIdeal.τ).loc Cert.ActRefIdeal.main_arg0)) (m' ((c.tc : Thread Cert.ActRefIdeal.nD Cert.ActRefIdeal.τ).loc Cert.ActRefIdeal.main_arg1))
      ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1) := by
  refine (θ_run Cert.ActRefIdeal.defs _ _).mono (fun r h c => ?_) (Cert.ActRefIdeal.Value.run m' g')
  obtain ⟨r0, r1, rest⟩ := h c
  obtain ⟨h0, h1⟩ := hr c
  refine ⟨r0.trans ?_, r1.trans ?_, rest⟩
  all_goals
    clear r0 r1 rest h hr
    generalize m' ((c.tc : Thread Cert.ActRefIdeal.nD Cert.ActRefIdeal.τ).loc Cert.ActRefIdeal.main_arg0) = h at h0 ⊢
    generalize m' ((c.tc : Thread Cert.ActRefIdeal.nD Cert.ActRefIdeal.τ).loc Cert.ActRefIdeal.main_arg1) = w at h1 ⊢
    obtain ⟨h, rfl⟩ := h0
    obtain ⟨w, rfl⟩ := h1
    funext j
    idx_vars j
    pointwise [actOf, auOf, re_coe]
    simp only [au_0, au_1, logistic_coe]
  · simp only [← EReal.coe_mul]
    rfl
  · have h2 : j0.val < 2 := j0.isLt
    by_cases hj : j0.val < 1
    · have e0 : j0 = 0 := Fin.ext (Nat.lt_one_iff.mp hj)
      subst e0
      exact dif_pos hj
    · have e0 : j0 = 1 := Fin.ext (by change j0.val = 1; omega)
      subst e0
      exact dif_neg hj

/-- The forward of the gate and its reference end with equal results. -/
theorem algebraic [Cert.Pre_act_finite.Facts] : Cert.algebraic_ActIdeal_ActRefIdeal_pre_act_finite := by
  pair_intro
  · run_from Cert.ActIdeal.Gen.run_main m g
  · have hr := fun c => real_of_pre (hpre c)
    run_from ref_run m' g' (fun c => by
      obtain ⟨e0, e1⟩ := hagree c
      rw [e0, e1]
      exact hr c)
    all_goals obtain ⟨h0, h1⟩ := hr c
    · exact (final_3 h0.eq h1.eq).symm
    · exact (final_4 h0.eq h1.eq).symm

end Cert.ActIdeal.Value

end
-- ==== Proof.ModRef.lean ====
/- Hand-written, untrusted: the forward of the modulated root-mean-square norm: the kernel's blocks, the reference at real
   arguments, and their equality. -/
module

public import proofs.«01_k».proof.Proof.Norm
public import proofs.«01_k».proof.Proof.Gen.ModIdeal.Value
public import proofs.«01_k».proof.Proof.Gen.ModRefIdeal.Run

@[expose] public section

set_option maxRecDepth 16384

noncomputable section

open Idealize.ShloMosaic Idealize.ShloMosaic.TcCoe Idealize.SL.Sem
open Idealize.ShloMosaic.Pipeline (Dat)
open scoped BigOperators

namespace Cert.ModIdeal.Value

open Cert.ModIdeal Cert.ModIdeal.Gen Cert.Reals Cert.Pieces
open Cert.NormIdeal.Value (cat two seg cat_at two_seg select_ite)

variable (m : (ℓ : Loc nD τ sig) → Buf (Elt Ideal) ℓ)

/-- Every window's block index, at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- A grid point, as one of the gradient's. -/
def pt (t : Fin cfg0.N) : Fin Cert.NormIdeal.cfg0.N := ⟨t.val, lt_of_lt_of_eq t.isLt (N_0.trans Cert.NormIdeal.Gen.N_0.symm)⟩

/-- The row of the array that is row `r` of block `t`. -/
def row (t : Fin cfg0.N) (r : Fin 768) : Fin 8448 := Cert.NormIdeal.Value.row (pt t) r

/-- One row of the modulated norm: `x` the input, `g` the gain, `s` the scale, `h` the shift. -/
def modRow (x g s h : Fin 1024 → ℝ) (l : Fin 1024) : ℝ := x l * inv x * g l * (1 + s l) + h l

/-- One row as both programs write it. -/
theorem mod_at (x g s h : Fin 1024 → ℝ) (l : Fin 1024) :
    (x l : EReal) * Ideal.rsqrt (Ideal.div (∑ i, (x i : EReal) * (x i : EReal)) (Ideal.ofBits .f32 0x44800000#32) + Ideal.ofBits .f32 0x358637BD#32)
      * (g l : EReal) * (1 + (s l : EReal)) + (h l : EReal) = (modRow x g s h l : EReal) := by
  simp only [ms_1024, rsqrt_ms]
  simp only [← EReal.coe_one, ← EReal.coe_mul, ← EReal.coe_add, modRow]

/-- The array index of an index of the input's block. -/
theorem emb0 (t : Fin cfg0.N) (y) : ((View.whole main_v0).slice (win0_0.rect t)).emb y = ix2 (row t (y 0)) (y 1) := by
  blk_ext [idx_val t, row, pt, Cert.NormIdeal.Value.row]

/-- The array index of an index of the gain's block. -/
theorem emb1 (t : Fin cfg0.N) (y) : ((View.whole main_v1).slice (win0_1.rect t)).emb y = ix2 (y 0) (y 1) := by
  blk_ext [idx_val t]

/-- The array index of an index of the shift's block. -/
theorem emb2 (t : Fin cfg0.N) (y) : ((View.whole main_v5).slice (win0_2.rect t)).emb y = ix2 (y 0) (y 1) := by
  blk_ext [idx_val t]

/-- The array index of an index of the scale's block. -/
theorem emb3 (t : Fin cfg0.N) (y) : ((View.whole main_v9).slice (win0_3.rect t)).emb y = ix2 (y 0) (y 1) := by
  blk_ext [idx_val t]

/-- The mask of the context rows. -/
theorem ctx_at (t : Fin cfg0.N) (r : Fin 768) (a : Fin 1) : k0_pay2 (grid0.coords t) (ix2 r a) = if 8192 ≤ (row t r).val then 1#1 else 0#1 :=
  Cert.NormIdeal.Value.ctx_at (pt t) r a

/-- One of the two rows of a stacked array. -/
theorem two_at (sc : S1x1x1024.Idx → ℝ) (csc : S1024.Idx → ℝ) (s : Fin 2) (l : Fin 1024) :
    (if s.val < 1 then (sc (ix3 0 0 l) : EReal) else (csc (ix1 l) : EReal)) = (two sc csc s l : EReal) := by
  unfold two; split <;> rfl

section values

variable {m} {x : S8192x1024.Idx → ℝ} {k : S256x1024.Idx → ℝ} {g : S1024.Idx → ℝ} {sh : S1x1x1024.Idx → ℝ} {csh : S1024.Idx → ℝ}
  {sc : S1x1x1024.Idx → ℝ} {csc : S1024.Idx → ℝ} {c : Dev nD}
  (h0 : m ((c : Thread nD τ).loc main_arg0) = fun i => (x i : EReal))
  (h1 : m ((c : Thread nD τ).loc main_arg1) = fun i => (k i : EReal))
  (h2 : m ((c : Thread nD τ).loc main_arg2) = fun i => (g i : EReal))
  (h3 : m ((c : Thread nD τ).loc main_arg3) = fun i => (sh i : EReal))
  (h4 : m ((c : Thread nD τ).loc main_arg4) = fun i => (csh i : EReal))
  (h5 : m ((c : Thread nD τ).loc main_arg5) = fun i => (sc i : EReal))
  (h6 : m ((c : Thread nD τ).loc main_arg6) = fun i => (csc i : EReal))

include h0 h1 in
/-- The input's block at a point. -/
theorem blk0 (t : Fin cfg0.N) : (iblk m c 0 t : FVec Ideal S768x1024 .f32) = fun y => (cat x k (row t (y 0)) (y 1) : EReal) := by
  funext y
  blk_simp [iblk, idx_val t]
  entry_read
  pointwise
  rw [emb0, h0, h1]
  exact cat_at x k _ _

include h2 in
/-- The gain's block at a point. -/
theorem blk1 (t : Fin cfg0.N) : (iblk m c 1 t : FVec Ideal S1x1024 .f32) = fun y => (g (ix1 (y 1)) : EReal) := by
  funext y
  blk_simp [iblk, idx_val t]
  entry_read
  pointwise
  rw [emb1, h2]
  rfl

include h3 h4 in
/-- The shift's block at a point. -/
theorem blk2 (t : Fin cfg0.N) : (iblk m c 2 t : FVec Ideal S2x1024 .f32) = fun y => (two sh csh (y 0) (y 1) : EReal) := by
  funext y
  blk_simp [iblk, idx_val t]
  entry_read
  pointwise
  rw [emb2, h3, h4]
  exact two_at sh csh (y 0) (y 1)

include h5 h6 in
/-- The scale's block at a point. -/
theorem blk3 (t : Fin cfg0.N) : (iblk m c 3 t : FVec Ideal S2x1024 .f32) = fun y => (two sc csc (y 0) (y 1) : EReal) := by
  funext y
  blk_simp [iblk, idx_val t]
  entry_read
  pointwise
  rw [emb3, h5, h6]
  exact two_at sc csc (y 0) (y 1)

include h0 h1 h2 h3 h4 h5 h6 in
/-- The body's result at one index of its block. -/
theorem out_at (t : Fin cfg0.N) (r : Fin 768) (l : Fin 1024) :
    k0_pay1 (F := Ideal) (k0_pay3 (grid0.coords t) (iblk m c 0 t) (iblk m c 1 t)
        (View.ld (iblk m c 3 t : FVec Ideal S2x1024 .f32) r0_2) (View.ld (iblk m c 3 t : FVec Ideal S2x1024 .f32) r0_3))
      (k0_pay4 (View.ld (iblk m c 2 t : FVec Ideal S2x1024 .f32) r0_2)) (k0_pay5 (View.ld (iblk m c 2 t : FVec Ideal S2x1024 .f32) r0_3)) (k0_pay6 (grid0.coords t)) (ix2 r l)
      = (modRow (cat x k (row t r)) (fun l => g (ix1 l)) (two sc csc (seg (row t r))) (two sh csh (seg (row t r))) l : EReal) := by
  rw [blk0 h0 h1, blk1 h2, blk2 h3 h4, blk3 h5 h6]
  pointwise [k0_pay1, k0_pay3, k0_pay4, k0_pay5, k0_pay6, r0_2, r0_3]
  simp only [ctx_at, select_ite]
  rw [two_seg, two_seg]
  exact mod_at _ (fun l => g (ix1 l)) _ _ l

include h0 h1 h2 h3 h4 h5 h6 in
/-- The array after the run. -/
theorem final_4 : (dats m 0 c).arrAt 4 (cfgs 0).N = (fun j => (modRow (cat x k (j 0)) (fun l => g (ix1 l)) (two sc csc (seg (j 0))) (two sh csh (seg (j 0))) (j 1) : EReal) : FVec Ideal S8448x1024 .bf16) := by
  refine (dats m 0 c).arrAt_eq_of_covers 4 _ (by decide +kernel) fun t hf y => ?_
  blk_simp; rw [after0_4]
  have e : ((View.whole main_v10).slice (win0_4.rect t)).emb y = ix2 (row t (y 0)) (y 1) := by blk_ext [idx_val t, row, pt, Cert.NormIdeal.Value.row]
  have ey : y = ix2 (y 0 : Fin 768) (y 1 : Fin 1024) := by funext a; fin_cases a <;> rfl
  rw [e, ey]
  frame_out
  exact out_at h0 h1 h2 h3 h4 h5 h6 t (y 0) (y 1)

end values

section reference

variable (x : FVec Ideal S8192x1024 .f32) (k : FVec Ideal S256x1024 .f32) (g : FVec Ideal S1024 .f32) (sh : FVec Ideal S1x1x1024 .f32) (csh : FVec Ideal S1024 .f32)
  (sc : FVec Ideal S1x1x1024 .f32) (csc : FVec Ideal S1024 .f32)

/-- The result as a function of the arguments. -/
def modOf : FVec Ideal S8448x1024 .bf16 := fun j =>
  (modRow (cat (re x) (re k) (j 0)) (fun l => re g (ix1 l)) (two (re sc) (re csc) (seg (j 0))) (two (re sh) (re csh) (seg (j 0))) (j 1) : EReal)

/-- Every argument is an array of real numbers. -/
def AllReal : Prop := Real x ∧ Real k ∧ Real g ∧ Real sh ∧ Real csh ∧ Real sc ∧ Real csc

variable {x k g sh csh sc csc}

/-- The precondition says so. -/
theorem real_of_pre [Cert.Pre_mod_finite.Facts] (h : Cert.Pre_mod_finite.fn (F := Ideal) x k g sh csh sc csc = fun _ => 1#1) : AllReal x k g sh csh sc csc := by
  have e := congrFun h ix0
  dsimp only [Cert.Pre_mod_finite.fn, Cert.Pre_mod_finite.fn_part1, andi] at e
  simp only [IntOp.andi_eq_one] at e
  obtain ⟨⟨⟨⟨⟨⟨a, b⟩, d⟩, e⟩, f⟩, i⟩, j⟩ := e
  exact ⟨real_of_all _ _ _ _ _ _ a, real_of_all _ _ _ _ _ _ b, real_of_all _ _ _ _ _ _ d, real_of_all _ _ _ _ _ _ e, real_of_all _ _ _ _ _ _ f, real_of_all _ _ _ _ _ _ i, real_of_all _ _ _ _ _ _ j⟩

end reference

/-- The reference's run. -/
theorem ref_run (m' : (ℓ : Loc Cert.ModRefIdeal.nD Cert.ModRefIdeal.τ Cert.ModRefIdeal.sig) → Buf (Elt Ideal) ℓ)
    (g' : Dev Cert.ModRefIdeal.nD → PrngReg) (hr : ∀ c : Dev Cert.ModRefIdeal.nD, AllReal (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) (m' ((c.tc : Thread Cert.ModRefIdeal.nD Cert.ModRefIdeal.τ).loc Cert.ModRefIdeal.main_arg3)) (m' ((c.tc : Thread Cert.ModRefIdeal.nD Cert.ModRefIdeal.τ).loc Cert.ModRefIdeal.main_arg4)) (m' ((c.tc : Thread Cert.ModRefIdeal.nD Cert.ModRefIdeal.τ).loc Cert.ModRefIdeal.main_arg5)) (m' ((c.tc : Thread Cert.ModRefIdeal.nD Cert.ModRefIdeal.τ).loc Cert.ModRefIdeal.main_arg6))) :
    θ_run (Cert.ModRefIdeal.defs (F := Ideal)) (onTc (τ := Cert.ModRefIdeal.τ) (Cert.ModRefIdeal.main (F := Ideal)))
      ⟨m', fun _ => 0, g'⟩ fun r => ∀ c : Dev Cert.ModRefIdeal.nD,
      r.2.mem ((c.tc : Thread Cert.ModRefIdeal.nD Cert.ModRefIdeal.τ).loc Cert.ModRefIdeal.main_v43) = modOf (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) (m' ((c.tc : Thread Cert.ModRefIdeal.nD Cert.ModRefIdeal.τ).loc Cert.ModRefIdeal.main_arg3)) (m' ((c.tc : Thread Cert.ModRefIdeal.nD Cert.ModRefIdeal.τ).loc Cert.ModRefIdeal.main_arg4)) (m' ((c.tc : Thread Cert.ModRefIdeal.nD Cert.ModRefIdeal.τ).loc Cert.ModRefIdeal.main_arg5)) (m' ((c.tc : Thread Cert.ModRefIdeal.nD Cert.ModRefIdeal.τ).loc Cert.ModRefIdeal.main_arg6))
      ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m' ((c.tc : Thread Cert.ModRefIdeal.nD Cert.ModRefIdeal.τ).loc Cert.ModRefIdeal.main_arg5)
      ∧ r.2.mem ((c.tc : Thread Cert.ModRefIdeal.nD Cert.ModRefIdeal.τ).loc Cert.ModRefIdeal.main_arg6) = m' ((c.tc : Thread Cert.ModRefIdeal.nD Cert.ModRefIdeal.τ).loc Cert.ModRefIdeal.main_arg6) := by
  refine (θ_run Cert.ModRefIdeal.defs _ _).mono (fun r h c => ?_) (Cert.ModRefIdeal.Value.run m' g')
  obtain ⟨r0, rest⟩ := h c
  obtain ⟨h0, h1, h2, h3, h4, h5, h6⟩ := hr c
  refine ⟨r0.trans ?_, rest⟩
  clear r0 rest h hr
  generalize m' ((c.tc : Thread Cert.ModRefIdeal.nD Cert.ModRefIdeal.τ).loc Cert.ModRefIdeal.main_arg0) = x at h0 ⊢
  generalize m' ((c.tc : Thread Cert.ModRefIdeal.nD Cert.ModRefIdeal.τ).loc Cert.ModRefIdeal.main_arg1) = k at h1 ⊢
  generalize m' ((c.tc : Thread Cert.ModRefIdeal.nD Cert.ModRefIdeal.τ).loc Cert.ModRefIdeal.main_arg2) = g at h2 ⊢
  generalize m' ((c.tc : Thread Cert.ModRefIdeal.nD Cert.ModRefIdeal.τ).loc Cert.ModRefIdeal.main_arg3) = sh at h3 ⊢
  generalize m' ((c.tc : Thread Cert.ModRefIdeal.nD Cert.ModRefIdeal.τ).loc Cert.ModRefIdeal.main_arg4) = csh at h4 ⊢
  generalize m' ((c.tc : Thread Cert.ModRefIdeal.nD Cert.ModRefIdeal.τ).loc Cert.ModRefIdeal.main_arg5) = sc at h5 ⊢
  generalize m' ((c.tc : Thread Cert.ModRefIdeal.nD Cert.ModRefIdeal.τ).loc Cert.ModRefIdeal.main_arg6) = csc at h6 ⊢
  obtain ⟨x, rfl⟩ := h0
  obtain ⟨k, rfl⟩ := h1
  obtain ⟨g, rfl⟩ := h2
  obtain ⟨sh, rfl⟩ := h3
  obtain ⟨csh, rfl⟩ := h4
  obtain ⟨sc, rfl⟩ := h5
  obtain ⟨csc, rfl⟩ := h6
  funext j
  idx_vars j
  pointwise [modOf, re_coe]
  by_cases hj : j0.val < 8192
  · refine (dif_pos hj).trans ((mod_at (fun l => x (ix2 ⟨j0.val, hj⟩ l)) (fun l => g (ix1 l)) (two sc csc 0) (two sh csh 0) j1).trans ?_)
    have e1 : cat x k j0 = fun l => x (ix2 ⟨j0.val, hj⟩ l) := funext fun _ => dif_pos hj
    have e3 : seg j0 = 0 := if_pos hj
    rw [e1, e3]
  · refine (dif_neg hj).trans ((mod_at (fun l => k (ix2 ⟨j0.val - 8192, by omega⟩ l)) (fun l => g (ix1 l)) (two sc csc 1) (two sh csh 1) j1).trans ?_)
    have e1 : cat x k j0 = fun l => k (ix2 ⟨j0.val - 8192, by omega⟩ l) := funext fun _ => dif_neg hj
    have e3 : seg j0 = 1 := if_neg hj
    rw [e1, e3]

/-- The forward of the norm and its reference end with equal results. -/
theorem algebraic [Cert.Pre_mod_finite.Facts] : Cert.algebraic_ModIdeal_ModRefIdeal_pre_mod_finite := by
  pair_intro
  · run_from Cert.ModIdeal.Gen.run_main m g
  · have hr := fun c => real_of_pre (hpre c)
    run_from ref_run m' g' (fun c => by
      obtain ⟨e0, e1, e2, e3, e4, e5, e6⟩ := hagree c
      rw [e0, e1, e2, e3, e4, e5, e6]
      exact hr c)
    obtain ⟨h0, h1, h2, h3, h4, h5, h6⟩ := hr c
    exact (final_4 h0.eq h1.eq h2.eq h3.eq h4.eq h5.eq h6.eq).symm

end Cert.ModIdeal.Value

end
-- ==== Proof.Rot.lean ====
/- Hand-written, untrusted: the per-head norm followed by the rotary embedding. The kernel turns a pair of features by a product with a matrix of
   signs; the reference turns the even features and the odd ones apart. -/
module

public import proofs.«01_k».proof.Defs
public import proofs.«01_k».proof.Proof.Rope
public import proofs.«01_k».proof.Proof.Gen.RotIdeal.Value

@[expose] public section

set_option maxRecDepth 16384

noncomputable section

open Idealize.ShloMosaic Idealize.ShloMosaic.TcCoe Idealize.SL.Sem
open Idealize.ShloMosaic.Pipeline (Dat)
open scoped BigOperators

namespace Cert.RotIdeal.Value

open Cert.RotIdeal Cert.RotIdeal.Gen Cert.Reals Cert.Pieces
open Cert.RopeIdeal.Value (kind gains tabC tabS mate sign rot sum_rot xr)

variable (m : (ℓ : Loc nD τ sig) → Buf (Elt Ideal) ℓ)

/-- Host operations one stretch after another. -/
theorem after_two (l k : List (HloOp τ sig (Elt Ideal))) (v : Valuation τ sig (Elt Ideal)) :
    StableHlo.after (l ++ k) v = StableHlo.after k (StableHlo.after l v) := by
  induction l generalizing v with
  | nil => rfl
  | cons a l ih => exact ih _

/-- The buffers after the integer divisions that give every token its place on the grid. -/
def places (c : Dev nD) : Valuation τ sig (Elt Ideal) :=
  StableHlo.after hostOps0_3 (StableHlo.after hostOps0_2 (StableHlo.after hostOps0_1 (StableHlo.after hostOps0 fun b => m (c, b))))

/-- The buffers at the kernel's entry are those after the tables are made. -/
theorem V_eq (c : Dev nD) (b : Ref sig .tc) : V m c b = StableHlo.after hostOps0_4 (places m c) b := by
  rw [V, List.flatten_cons, List.flatten_cons, List.flatten_cons, List.flatten_cons, List.flatten_cons, List.flatten_nil, List.append_nil,
    after_two, after_two, after_two, after_two]
  rfl

/-- Every window's block index, at every grid point. -/
theorem idx_val : ∀ t : Fin cfg0.N, win0_0.index t = ![t.val / 3, t.val % 3, 0]
    ∧ win0_1.index t = ![0, 0]
    ∧ win0_2.index t = ![t.val % 3, 0]
    ∧ win0_3.index t = ![t.val % 3, 0]
    ∧ win0_4.index t = ![0, 0]
    ∧ win0_5.index t = ![t.val / 3, t.val % 3, 0] :=
  (by decide +kernel : ∀ t : Fin grid0.N, _)

/-- The row of the array that is row `r` of block `t`. -/
def row (t : Fin cfg0.N) (r : Fin 2816) : Fin 8448 := ⟨t.val % 3 * 2816 + r.val, by omega⟩

/-- The head of block `t`. -/
def head (t : Fin cfg0.N) : Fin 10 := ⟨t.val / 3, by have := t.isLt; have : cfg0.N = 30 := N_0; omega⟩

/-- A row normalised and multiplied by its gain. -/
def unit (x g : Fin 64 → ℝ) (l : Fin 64) : ℝ := x l * inv x * g l

/-- A row turned by its angles. -/
def turn (z c s : Fin 64 → ℝ) (l : Fin 64) : ℝ := z l * c l + z (mate l) * sign l * s l

section blocks

variable {m} {x : S10x8448x64.Idx → ℝ} {qg kg : S64.Idx → ℝ} {th : S8192x32.Idx → ℝ} {c : Dev nD}

/-- The array index of an index of the input's block. -/
theorem emb0 (t : Fin cfg0.N) (y) : ((View.whole main_arg0).slice (win0_0.rect t)).emb y = ix3 (head t) (row t (y 1)) (y 2) := by
  blk_ext [idx_val t, row, head]

/-- The array index of an index of the gains' block. -/
theorem emb1 (t : Fin cfg0.N) (y) : ((View.whole main_v38).slice (win0_1.rect t)).emb y = ix2 (y 0) (y 1) := by
  blk_ext [idx_val t]

/-- The array index of an index of the cosines' block. -/
theorem emb2 (t : Fin cfg0.N) (y) : ((View.whole main_v33).slice (win0_2.rect t)).emb y = ix2 (row t (y 0)) (y 1) := by
  blk_ext [idx_val t, row]

/-- The array index of an index of the sines' block. -/
theorem emb3 (t : Fin cfg0.N) (y) : ((View.whole main_v35).slice (win0_3.rect t)).emb y = ix2 (row t (y 0)) (y 1) := by
  blk_ext [idx_val t, row]

/-- The array index of an index of the sign matrix's block. -/
theorem emb4 (t : Fin cfg0.N) (y) : ((View.whole main_cst).slice (win0_4.rect t)).emb y = ix2 (y 0) (y 1) := by
  blk_ext [idx_val t]

/-- The gains' array, as the host makes it. -/
theorem tab_gains (v : Valuation τ sig (Elt Ideal)) : @Eq (FVec Ideal S2x64 .f32) (StableHlo.after hostOps0_4 v main_v38) (concatenate S2x64 0 [⟨S1x64, broadcastInDim S1x64 ![1] bcast_S64_S1x64_1 (v main_arg1 : FVec Ideal S64 .f32)⟩, ⟨S1x64, broadcastInDim S1x64 ![1] bcast_S64_S1x64_1 (v main_arg2 : FVec Ideal S64 .f32)⟩] concatenates_S1x64_S1x64_S2x64_d0) := by
  entry_read
  rfl

/-- The tables' lines leave the queries' gain alone, -/
theorem keep_1 (v : Valuation τ sig (Elt Ideal)) : StableHlo.after hostOps0_4 v main_arg1 = v main_arg1 := by
  entry_read
  rfl

/-- and the keys'. -/
theorem keep_2 (v : Valuation τ sig (Elt Ideal)) : StableHlo.after hostOps0_4 v main_arg2 = v main_arg2 := by
  entry_read
  rfl

/-- The gains' array at the kernel's entry. -/
theorem gains_arr : @Eq (FVec Ideal S2x64 .f32) (V m c main_v38) (concatenate S2x64 0 [⟨S1x64, broadcastInDim S1x64 ![1] bcast_S64_S1x64_1 (m ((c : Thread nD τ).loc main_arg1) : FVec Ideal S64 .f32)⟩, ⟨S1x64, broadcastInDim S1x64 ![1] bcast_S64_S1x64_1 (m ((c : Thread nD τ).loc main_arg2) : FVec Ideal S64 .f32)⟩] concatenates_S1x64_S1x64_S2x64_d0) := by
  have e1 : places m c main_arg1 = m ((c : Thread nD τ).loc main_arg1) := (keep_1 _).symm.trans ((V_eq m c main_arg1).symm.trans (V_main_arg1 m c))
  have e2 : places m c main_arg2 = m ((c : Thread nD τ).loc main_arg2) := (keep_2 _).symm.trans ((V_eq m c main_arg2).symm.trans (V_main_arg2 m c))
  rw [← e1, ← e2]
  exact (V_eq m c main_v38).trans (tab_gains _)

/-- The matrix of signs, as the host makes it. -/
theorem rot_arr : @Eq (FVec Ideal S64x64 .f32) (V m c main_cst) (fun i => Ideal.ofBits .f32 (lit0 (S64x64.rowMajor i))) := by
  refine (V_eq m c main_cst).trans ?_
  unfold places
  entry_read
  rfl

/-- The input's block at a point. -/
theorem blk0 (h0 : m ((c : Thread nD τ).loc main_arg0) = fun i => (x i : EReal)) (t : Fin cfg0.N) :
    (iblk m c 0 t : FVec Ideal S1x2816x64 .f32) = fun y => (x (ix3 (head t) (row t (y 1)) (y 2)) : EReal) := by
  funext y
  blk_simp [iblk, idx_val t]
  rw [V_main_arg0, h0]
  exact congrArg (fun i => (x i : EReal)) (emb0 t y)

/-- The gains' block at a point. -/
theorem blk1 (h1 : m ((c : Thread nD τ).loc main_arg1) = fun i => (qg i : EReal))
    (h2 : m ((c : Thread nD τ).loc main_arg2) = fun i => (kg i : EReal)) (t : Fin cfg0.N) :
    (iblk m c 1 t : FVec Ideal S2x64 .f32) = fun y => (gains qg kg (y 0) (y 1) : EReal) := by
  funext y
  blk_simp [iblk, idx_val t]
  refine (congrArg (V m c main_v38 : FVec Ideal S2x64 .f32) (emb1 t y)).trans ((congrFun gains_arr _).trans ?_)
  pointwise
  rw [h1, h2]
  unfold gains
  change (if (y 0).val < 1 then (qg (ix1 (y 1)) : EReal) else (kg (ix1 (y 1)) : EReal)) = _
  by_cases h : (y 0).val < 1
  · rw [if_pos h, if_pos h]
  · rw [if_neg h, if_neg h]

/-- The sign matrix's block at a point. -/
theorem blk4 (t : Fin cfg0.N) : (iblk m c 4 t : FVec Ideal S64x64 .f32) = fun y => (rot (y 0) (y 1) : EReal) := by
  funext y
  blk_simp [iblk, idx_val t]
  refine (congrArg (V m c main_cst : FVec Ideal S64x64 .f32) (emb4 t y)).trans ((congrFun rot_arr _).trans ?_)
  exact Cert.RopeIdeal.Value.rot_at _ _

/-- The table of cosines, as the host makes it from the angles. -/
theorem tab_cos (v : Valuation τ sig (Elt Ideal)) : @Eq (FVec Ideal S8448x64 .f32) (StableHlo.after hostOps0_4 v main_v33) (concatenate S8448x64 0 [⟨S8192x64, shapeCast _ (broadcastInDim S8192x32x2 ![0, 1] bcast_S8192x32_S8192x32x2_0_1 (Host.cos (StableHlo.after hostOps0_4 v main_v25 : FVec Ideal S8192x32 .f32))) shapeCasts_S8192x32x2_S8192x64⟩, ⟨S256x64, broadcastInDim S256x64 ![] bcast_S_S256x64 (constant S_ .f32 0x3F800000#32)⟩] concatenates_S8192x64_S256x64_S8448x64_d0) := by
  entry_read
  rfl

/-- The table of sines, likewise. -/
theorem tab_sin (v : Valuation τ sig (Elt Ideal)) : @Eq (FVec Ideal S8448x64 .f32) (StableHlo.after hostOps0_4 v main_v35) (concatenate S8448x64 0 [⟨S8192x64, shapeCast _ (broadcastInDim S8192x32x2 ![0, 1] bcast_S8192x32_S8192x32x2_0_1 (Host.sin (StableHlo.after hostOps0_4 v main_v25 : FVec Ideal S8192x32 .f32))) shapeCasts_S8192x32x2_S8192x64⟩, ⟨S256x64, broadcastInDim S256x64 ![] bcast_S_S256x64 (constant S_ .f32 0x00000000#32)⟩] concatenates_S8192x64_S256x64_S8448x64_d0) := by
  entry_read
  rfl

/-- The cosines' block at a point. -/
theorem blk2 (ha : (V m c main_v25 : FVec Ideal S8192x32 .f32) = fun i => (th i : EReal)) (t : Fin cfg0.N) :
    (iblk m c 2 t : FVec Ideal S2816x64 .f32) = fun y => (tabC th (row t (y 0)) (y 1) : EReal) := by
  funext y
  blk_simp [iblk, idx_val t]
  refine (congrArg (V m c main_v33 : FVec Ideal S8448x64 .f32) (emb2 t y)).trans ((congrFun ((V_eq m c main_v33).trans (tab_cos (places m c))) _).trans ?_)
  rw [(V_eq m c main_v25).symm.trans ha]
  pointwise
  unfold tabC
  split
  · rfl
  · rfl

/-- The sines' block at a point. -/
theorem blk3 (ha : (V m c main_v25 : FVec Ideal S8192x32 .f32) = fun i => (th i : EReal)) (t : Fin cfg0.N) :
    (iblk m c 3 t : FVec Ideal S2816x64 .f32) = fun y => (tabS th (row t (y 0)) (y 1) : EReal) := by
  funext y
  blk_simp [iblk, idx_val t]
  refine (congrArg (V m c main_v35 : FVec Ideal S8448x64 .f32) (emb3 t y)).trans ((congrFun ((V_eq m c main_v35).trans (tab_sin (places m c))) _).trans ?_)
  rw [(V_eq m c main_v25).symm.trans ha]
  pointwise
  unfold tabS
  split
  · rfl
  · rfl

end blocks

section values

variable {m} {x : S10x8448x64.Idx → ℝ} {qg kg : S64.Idx → ℝ} {th : S8192x32.Idx → ℝ} {c : Dev nD}
  (h0 : m ((c : Thread nD τ).loc main_arg0) = fun i => (x i : EReal))
  (h1 : m ((c : Thread nD τ).loc main_arg1) = fun i => (qg i : EReal))
  (h2 : m ((c : Thread nD τ).loc main_arg2) = fun i => (kg i : EReal))
  (ha : (V m c main_v25 : FVec Ideal S8192x32 .f32) = fun i => (th i : EReal))

/-- A block is of the keys' heads or of the queries'. -/
theorem is_k (t : Fin cfg0.N) : Scalar.cmpi .sge (BitVec.ofNat 32 (grid0.coords t 0).val) 8#32 = if kind (head t) = 1 then 1#1 else 0#1 :=
  Cert.RopeIdeal.Value.is_k t

/-- One of two gains, chosen. -/
theorem pick_gain (k : Fin 2) (l : Fin 64) : Scalar.select (if k = 1 then 1#1 else 0#1) (gains qg kg 1 l : EReal) (gains qg kg 0 l : EReal) = (gains qg kg k l : EReal) := by
  have : k = 0 ∨ k = 1 := by revert k; decide
  obtain rfl | rfl := this <;> simp [Scalar.select]

/-- The normalised row, turned. -/
def out (x : S10x8448x64.Idx → ℝ) (qg kg : S64.Idx → ℝ) (th : S8192x32.Idx → ℝ) (h : Fin 10) (i : Fin 8448) : Fin 64 → ℝ :=
  turn (unit (xr x h i) (gains qg kg (kind h))) (tabC th i) (tabS th i)

include h0 h1 h2 ha in
/-- The body's result at one index of its block. -/
theorem pay1_at (t : Fin cfg0.N) (v1 v0 : FVec Ideal S1x64 .f32) (r : Fin 2816) (l : Fin 64)
    (e1 : ∀ l, v1 (ix2 0 l) = (gains qg kg 1 l : EReal)) (e0 : ∀ l, v0 (ix2 0 l) = (gains qg kg 0 l : EReal)) :
    k0_pay1 (F := Ideal) (grid0.coords t) v1 v0 (iblk m c 0 t) (iblk m c 4 t) (iblk m c 2 t) (iblk m c 3 t) (ix3 0 r l)
      = (out x qg kg th (head t) (row t r) l : EReal) := by
  rw [blk0 h0, blk2 ha, blk3 ha, blk4]
  pointwise [k0_pay1]
  rw [is_k]
  simp only [e1, e0, pick_gain, ms_64, rsqrt_ms]
  simp only [← EReal.coe_mul, ← coe_sum, ← EReal.coe_add, sum_rot]
  rfl

include h0 h1 h2 ha in
/-- The array after the run. -/
theorem final_5 : (dats m 0 c).arrAt 5 (cfgs 0).N = (fun j => (out x qg kg th (j 0) (j 1) (j 2) : EReal) : FVec Ideal S10x8448x64 .f32) := by
  refine (dats m 0 c).arrAt_eq_of_covers 5 _ (by decide +kernel) fun t hf y => ?_
  blk_simp; rw [after0_5]
  have e : ((View.whole main_v39).slice (win0_5.rect t)).emb y = ix3 (head t) (row t (y 1)) (y 2) := by blk_ext [idx_val t, row, head]
  have ey : y = ix3 (0 : Fin 1) (y 1 : Fin 2816) (y 2 : Fin 64) := by
    funext a; fin_cases a
    · exact Fin.ext (Nat.lt_one_iff.mp (y 0).isLt)
    · rfl
    · rfl
  rw [e, ey]
  frame_out
  refine pay1_at h0 h1 h2 ha t _ _ (y 1) (y 2) (fun l => ?_) fun l => ?_ <;> rw [blk1 h1 h2] <;> pointwise

end values

end Cert.RotIdeal.Value

end
-- ==== Proof.RotRef.lean ====
/- Hand-written, untrusted: the reference of the per-head norm and rotary embedding at real arguments, and the equality with the kernel. -/
module

public import proofs.«01_k».proof.Proof.Rot
public import proofs.«01_k».proof.Proof.RopeRef
public import proofs.«01_k».proof.Proof.Gen.RotRefIdeal.Run

@[expose] public section

set_option maxRecDepth 16384

noncomputable section

open Idealize.ShloMosaic Idealize.ShloMosaic.TcCoe Idealize.SL.Sem
open scoped BigOperators

namespace Cert.RotRefIdeal.Value

open Cert.RotRefIdeal Cert.RotRefIdeal.Gen Cert.Reals
open Cert.RopeIdeal.Value (xr tabC tabS mate sign gains kind)
open Cert.RotIdeal.Value (turn unit out)
open Cert.NormIdeal.Value (lat con)
open Cert.RopeRefIdeal.Value (hq hk kind_hq kind_hk angle)

/-- A context's row is not turned. -/
theorem turn_con (z : Fin 64 → ℝ) (th : S8192x32.Idx → ℝ) (r : Fin 256) (l : Fin 64) : turn z (tabC th (con r)) (tabS th (con r)) l = z l := by
  have hn : ¬ (con r).val < 8192 := by simp [con]
  simp [turn, tabC, tabS, hn]

/-- A pair's first feature, turned, as computed among the extended reals, -/
theorem even_coe (z : Fin 64 → ℝ) (th : S8192x32.Idx → ℝ) (r : Fin 8192) (l : Fin 64) (h2 : l.val % 2 = 0) :
    (z ⟨l.val / 2 * 2, by omega⟩ : EReal) * Ideal.cos (th (ix2 r ⟨l.val / 2, by omega⟩) : EReal)
      - (z ⟨l.val / 2 * 2 + 1, by omega⟩ : EReal) * Ideal.sin (th (ix2 r ⟨l.val / 2, by omega⟩) : EReal) = (turn z (tabC th (lat r)) (tabS th (lat r)) l : EReal) := by
  have e1 : mate l = ⟨l.val / 2 * 2 + 1, by omega⟩ := by rw [mate, dif_pos h2]; exact Fin.ext (by simp; omega)
  have e0 : l = ⟨l.val / 2 * 2, by omega⟩ := Fin.ext (by simp; omega)
  have hc : tabC th (lat r) l = Real.cos (th (ix2 r ⟨l.val / 2, by omega⟩)) := dif_pos r.isLt
  have hs : tabS th (lat r) l = Real.sin (th (ix2 r ⟨l.val / 2, by omega⟩)) := dif_pos r.isLt
  rw [turn, hc, hs, sign, if_pos h2, e1, ← e0, mul_neg_one, neg_mul, ← sub_eq_add_neg, EReal.coe_sub, EReal.coe_mul, EReal.coe_mul]
  rfl

/-- and the second. -/
theorem odd_coe (z : Fin 64 → ℝ) (th : S8192x32.Idx → ℝ) (r : Fin 8192) (l : Fin 64) (h2 : ¬ l.val % 2 = 0) :
    (z ⟨l.val / 2 * 2, by omega⟩ : EReal) * Ideal.sin (th (ix2 r ⟨l.val / 2, by omega⟩) : EReal)
      + (z ⟨l.val / 2 * 2 + 1, by omega⟩ : EReal) * Ideal.cos (th (ix2 r ⟨l.val / 2, by omega⟩) : EReal) = (turn z (tabC th (lat r)) (tabS th (lat r)) l : EReal) := by
  have e1 : mate l = ⟨l.val / 2 * 2, by omega⟩ := by rw [mate, dif_neg h2]; exact Fin.ext (by simp; omega)
  have e0 : l = ⟨l.val / 2 * 2 + 1, by omega⟩ := Fin.ext (by simp; omega)
  have hc : tabC th (lat r) l = Real.cos (th (ix2 r ⟨l.val / 2, by omega⟩)) := dif_pos r.isLt
  have hs : tabS th (lat r) l = Real.sin (th (ix2 r ⟨l.val / 2, by omega⟩)) := dif_pos r.isLt
  rw [turn, hc, hs, sign, if_neg h2, e1, ← e0, mul_one, add_comm, EReal.coe_add, EReal.coe_mul, EReal.coe_mul]
  rfl

/-- The normalised latents, in pairs. -/
def pairs_8 (X : FVec Ideal S8x8192x64 .f32) (G : FVec Ideal S64 .f32) : FVec Ideal S8x8192x32x2 .f32 :=
  shapeCast S8x8192x32x2 (mulf (mulf X (broadcastInDim S8x8192x64 ![0, 1, 2] bcast_S8x8192x1_S8x8192x64_0_1_2 (Host.rsqrt (addf (Host.divf (broadcastInDim S8x8192x1 ![0, 1] bcast_S8x8192_S8x8192x1_0_1 (Host.reduceAdd (mulf X X) (constant S_ .f32 0x00000000#32) reducesTo_S8x8192x64_S8x8192_d2 h_S_)) (broadcastInDim S8x8192x1 ![] bcast_S_S8x8192x1 (constant S_ .f32 0x42800000#32))) (broadcastInDim S8x8192x1 ![] bcast_S_S8x8192x1 (constant S_ .f32 0x358637BD#32)))))) (broadcastInDim S8x8192x64 ![0, 1, 2] bcast_S1x1x64_S8x8192x64_0_1_2 (broadcastInDim S1x1x64 ![2] bcast_S64_S1x1x64_2 G))) shapeCasts_S8x8192x64_S8x8192x32x2

/-- The first features. -/
def ev_8 (X : FVec Ideal S8x8192x64 .f32) (G : FVec Ideal S64 .f32) : FVec Ideal S8x8192x32 .f32 :=
  shapeCast S8x8192x32 (extractStridedSlice S8x8192x32x1 ![0, 0, 0, 0] (pairs_8 X G) slices_S8x8192x32x2_S8x8192x32x1_0_0_0_0) shapeCasts_S8x8192x32x1_S8x8192x32

/-- The second features. -/
def od_8 (X : FVec Ideal S8x8192x64 .f32) (G : FVec Ideal S64 .f32) : FVec Ideal S8x8192x32 .f32 :=
  shapeCast S8x8192x32 (extractStridedSlice S8x8192x32x1 ![0, 0, 0, 1] (pairs_8 X G) slices_S8x8192x32x2_S8x8192x32x1_0_0_0_1) shapeCasts_S8x8192x32x1_S8x8192x32

/-- The latents' rows, normalised and turned. -/
theorem lat_8 (X : FVec Ideal S8x8192x64 .f32) (G : FVec Ideal S64 .f32) (A : FVec Ideal S8192x32 .f32) (x : Fin 8 → Fin 8192 → Fin 64 → ℝ) (g : Fin 64 → ℝ) (th : S8192x32.Idx → ℝ)
    (hX : X = fun y => (x (y 0) (y 1) (y 2) : EReal)) (hG : G = fun y => (g (y 0) : EReal)) (hA : A = fun y => (th y : EReal)) :
    @Eq (FVec Ideal S8x8192x64 .f32) (shapeCast S8x8192x64 (concatenate S8x8192x32x2 3 [⟨S8x8192x32x1, (broadcastInDim S8x8192x32x1 ![0, 1, 2] bcast_S8x8192x32_S8x8192x32x1_0_1_2 (subf (mulf (ev_8 X G) (broadcastInDim S8x8192x32 ![0, 1, 2] bcast_S1x8192x32_S8x8192x32_0_1_2 (broadcastInDim S1x8192x32 ![1, 2] bcast_S8192x32_S1x8192x32_1_2 (Host.cos A)))) (mulf (od_8 X G) (broadcastInDim S8x8192x32 ![0, 1, 2] bcast_S1x8192x32_S8x8192x32_0_1_2 (broadcastInDim S1x8192x32 ![1, 2] bcast_S8192x32_S1x8192x32_1_2 (Host.sin A))))))⟩, ⟨S8x8192x32x1, (broadcastInDim S8x8192x32x1 ![0, 1, 2] bcast_S8x8192x32_S8x8192x32x1_0_1_2 (addf (mulf (ev_8 X G) (broadcastInDim S8x8192x32 ![0, 1, 2] bcast_S1x8192x32_S8x8192x32_0_1_2 (broadcastInDim S1x8192x32 ![1, 2] bcast_S8192x32_S1x8192x32_1_2 (Host.sin A)))) (mulf (od_8 X G) (broadcastInDim S8x8192x32 ![0, 1, 2] bcast_S1x8192x32_S8x8192x32_0_1_2 (broadcastInDim S1x8192x32 ![1, 2] bcast_S8192x32_S1x8192x32_1_2 (Host.cos A))))))⟩] concatenates_S8x8192x32x1_S8x8192x32x1_S8x8192x32x2_d3) shapeCasts_S8x8192x32x2_S8x8192x64)
      (fun y => (turn (unit (x (y 0) (y 1)) g) (tabC th (lat (y 1))) (tabS th (lat (y 1))) (y 2) : EReal)) := by
  subst hX hG hA
  funext y
  idx_vars y
  pointwise [ev_8, od_8, pairs_8]
  simp only [ms_64, rsqrt_ms]
  by_cases h2 : y2.val % 2 = 0
  · refine (dif_pos (by omega)).trans ?_
    exact even_coe (unit (x y0 y1) g) th y1 y2 h2
  · refine (dif_neg (by omega)).trans ?_
    exact odd_coe (unit (x y0 y1) g) th y1 y2 h2

/-- The contexts' rows, normalised. -/
theorem con_8 (X : FVec Ideal S8x256x64 .f32) (G : FVec Ideal S64 .f32) (x : Fin 8 → Fin 256 → Fin 64 → ℝ) (g : Fin 64 → ℝ) (th : S8192x32.Idx → ℝ)
    (hX : X = fun y => (x (y 0) (y 1) (y 2) : EReal)) (hG : G = fun y => (g (y 0) : EReal)) :
    @Eq (FVec Ideal S8x256x64 .f32) (mulf (mulf X (broadcastInDim S8x256x64 ![0, 1, 2] bcast_S8x256x1_S8x256x64_0_1_2 (Host.rsqrt (addf (Host.divf (broadcastInDim S8x256x1 ![0, 1] bcast_S8x256_S8x256x1_0_1 (Host.reduceAdd (mulf X X) (constant S_ .f32 0x00000000#32) reducesTo_S8x256x64_S8x256_d2 h_S_)) (broadcastInDim S8x256x1 ![] bcast_S_S8x256x1 (constant S_ .f32 0x42800000#32))) (broadcastInDim S8x256x1 ![] bcast_S_S8x256x1 (constant S_ .f32 0x358637BD#32)))))) (broadcastInDim S8x256x64 ![0, 1, 2] bcast_S1x1x64_S8x256x64_0_1_2 (broadcastInDim S1x1x64 ![2] bcast_S64_S1x1x64_2 G)))
      (fun y => (turn (unit (x (y 0) (y 1)) g) (tabC th (con (y 1))) (tabS th (con (y 1))) (y 2) : EReal)) := by
  subst hX hG
  funext y
  idx_vars y
  pointwise
  simp only [ms_64, rsqrt_ms, turn_con, unit, EReal.coe_mul]

/-- The normalised latents, in pairs. -/
def pairs_2 (X : FVec Ideal S2x8192x64 .f32) (G : FVec Ideal S64 .f32) : FVec Ideal S2x8192x32x2 .f32 :=
  shapeCast S2x8192x32x2 (mulf (mulf X (broadcastInDim S2x8192x64 ![0, 1, 2] bcast_S2x8192x1_S2x8192x64_0_1_2 (Host.rsqrt (addf (Host.divf (broadcastInDim S2x8192x1 ![0, 1] bcast_S2x8192_S2x8192x1_0_1 (Host.reduceAdd (mulf X X) (constant S_ .f32 0x00000000#32) reducesTo_S2x8192x64_S2x8192_d2 h_S_)) (broadcastInDim S2x8192x1 ![] bcast_S_S2x8192x1 (constant S_ .f32 0x42800000#32))) (broadcastInDim S2x8192x1 ![] bcast_S_S2x8192x1 (constant S_ .f32 0x358637BD#32)))))) (broadcastInDim S2x8192x64 ![0, 1, 2] bcast_S1x1x64_S2x8192x64_0_1_2 (broadcastInDim S1x1x64 ![2] bcast_S64_S1x1x64_2 G))) shapeCasts_S2x8192x64_S2x8192x32x2

/-- The first features. -/
def ev_2 (X : FVec Ideal S2x8192x64 .f32) (G : FVec Ideal S64 .f32) : FVec Ideal S2x8192x32 .f32 :=
  shapeCast S2x8192x32 (extractStridedSlice S2x8192x32x1 ![0, 0, 0, 0] (pairs_2 X G) slices_S2x8192x32x2_S2x8192x32x1_0_0_0_0) shapeCasts_S2x8192x32x1_S2x8192x32

/-- The second features. -/
def od_2 (X : FVec Ideal S2x8192x64 .f32) (G : FVec Ideal S64 .f32) : FVec Ideal S2x8192x32 .f32 :=
  shapeCast S2x8192x32 (extractStridedSlice S2x8192x32x1 ![0, 0, 0, 1] (pairs_2 X G) slices_S2x8192x32x2_S2x8192x32x1_0_0_0_1) shapeCasts_S2x8192x32x1_S2x8192x32

/-- The latents' rows, normalised and turned. -/
theorem lat_2 (X : FVec Ideal S2x8192x64 .f32) (G : FVec Ideal S64 .f32) (A : FVec Ideal S8192x32 .f32) (x : Fin 2 → Fin 8192 → Fin 64 → ℝ) (g : Fin 64 → ℝ) (th : S8192x32.Idx → ℝ)
    (hX : X = fun y => (x (y 0) (y 1) (y 2) : EReal)) (hG : G = fun y => (g (y 0) : EReal)) (hA : A = fun y => (th y : EReal)) :
    @Eq (FVec Ideal S2x8192x64 .f32) (shapeCast S2x8192x64 (concatenate S2x8192x32x2 3 [⟨S2x8192x32x1, (broadcastInDim S2x8192x32x1 ![0, 1, 2] bcast_S2x8192x32_S2x8192x32x1_0_1_2 (subf (mulf (ev_2 X G) (broadcastInDim S2x8192x32 ![0, 1, 2] bcast_S1x8192x32_S2x8192x32_0_1_2 (broadcastInDim S1x8192x32 ![1, 2] bcast_S8192x32_S1x8192x32_1_2 (Host.cos A)))) (mulf (od_2 X G) (broadcastInDim S2x8192x32 ![0, 1, 2] bcast_S1x8192x32_S2x8192x32_0_1_2 (broadcastInDim S1x8192x32 ![1, 2] bcast_S8192x32_S1x8192x32_1_2 (Host.sin A))))))⟩, ⟨S2x8192x32x1, (broadcastInDim S2x8192x32x1 ![0, 1, 2] bcast_S2x8192x32_S2x8192x32x1_0_1_2 (addf (mulf (ev_2 X G) (broadcastInDim S2x8192x32 ![0, 1, 2] bcast_S1x8192x32_S2x8192x32_0_1_2 (broadcastInDim S1x8192x32 ![1, 2] bcast_S8192x32_S1x8192x32_1_2 (Host.sin A)))) (mulf (od_2 X G) (broadcastInDim S2x8192x32 ![0, 1, 2] bcast_S1x8192x32_S2x8192x32_0_1_2 (broadcastInDim S1x8192x32 ![1, 2] bcast_S8192x32_S1x8192x32_1_2 (Host.cos A))))))⟩] concatenates_S2x8192x32x1_S2x8192x32x1_S2x8192x32x2_d3) shapeCasts_S2x8192x32x2_S2x8192x64)
      (fun y => (turn (unit (x (y 0) (y 1)) g) (tabC th (lat (y 1))) (tabS th (lat (y 1))) (y 2) : EReal)) := by
  subst hX hG hA
  funext y
  idx_vars y
  pointwise [ev_2, od_2, pairs_2]
  simp only [ms_64, rsqrt_ms]
  by_cases h2 : y2.val % 2 = 0
  · refine (dif_pos (by omega)).trans ?_
    exact even_coe (unit (x y0 y1) g) th y1 y2 h2
  · refine (dif_neg (by omega)).trans ?_
    exact odd_coe (unit (x y0 y1) g) th y1 y2 h2

/-- The contexts' rows, normalised. -/
theorem con_2 (X : FVec Ideal S2x256x64 .f32) (G : FVec Ideal S64 .f32) (x : Fin 2 → Fin 256 → Fin 64 → ℝ) (g : Fin 64 → ℝ) (th : S8192x32.Idx → ℝ)
    (hX : X = fun y => (x (y 0) (y 1) (y 2) : EReal)) (hG : G = fun y => (g (y 0) : EReal)) :
    @Eq (FVec Ideal S2x256x64 .f32) (mulf (mulf X (broadcastInDim S2x256x64 ![0, 1, 2] bcast_S2x256x1_S2x256x64_0_1_2 (Host.rsqrt (addf (Host.divf (broadcastInDim S2x256x1 ![0, 1] bcast_S2x256_S2x256x1_0_1 (Host.reduceAdd (mulf X X) (constant S_ .f32 0x00000000#32) reducesTo_S2x256x64_S2x256_d2 h_S_)) (broadcastInDim S2x256x1 ![] bcast_S_S2x256x1 (constant S_ .f32 0x42800000#32))) (broadcastInDim S2x256x1 ![] bcast_S_S2x256x1 (constant S_ .f32 0x358637BD#32)))))) (broadcastInDim S2x256x64 ![0, 1, 2] bcast_S1x1x64_S2x256x64_0_1_2 (broadcastInDim S1x1x64 ![2] bcast_S64_S1x1x64_2 G)))
      (fun y => (turn (unit (x (y 0) (y 1)) g) (tabC th (con (y 1))) (tabS th (con (y 1))) (y 2) : EReal)) := by
  subst hX hG
  funext y
  idx_vars y
  pointwise
  simp only [ms_64, rsqrt_ms, turn_con, unit, EReal.coe_mul]

/-- Four arrays put side by side. -/
theorem join (f : Fin 10 → Fin 8448 → Fin 64 → ℝ) (A : FVec Ideal S2x256x64 .f32) (B : FVec Ideal S8x256x64 .f32) (C : FVec Ideal S2x8192x64 .f32) (D : FVec Ideal S8x8192x64 .f32)
    (hA : A = fun y => (f (hk (y 0)) (con (y 1)) (y 2) : EReal)) (hB : B = fun y => (f (hq (y 0)) (con (y 1)) (y 2) : EReal))
    (hC : C = fun y => (f (hk (y 0)) (lat (y 1)) (y 2) : EReal)) (hD : D = fun y => (f (hq (y 0)) (lat (y 1)) (y 2) : EReal)) :
    @Eq (FVec Ideal S10x8448x64 .f32) (concatenate S10x8448x64 0 [⟨S8x8448x64, (concatenate S8x8448x64 1 [⟨S8x8192x64, D⟩, ⟨S8x256x64, B⟩] concatenates_S8x8192x64_S8x256x64_S8x8448x64_d1)⟩, ⟨S2x8448x64, (concatenate S2x8448x64 1 [⟨S2x8192x64, C⟩, ⟨S2x256x64, A⟩] concatenates_S2x8192x64_S2x256x64_S2x8448x64_d1)⟩] concatenates_S8x8448x64_S2x8448x64_S10x8448x64_d0)
      (fun j => (f (j 0) (j 1) (j 2) : EReal)) := by
  subst hA hB hC hD
  funext j
  idx_vars j
  pointwise
  by_cases h0 : j0.val < 8 <;> by_cases h1 : j1.val < 8192
  · rw [dif_pos h0, dif_pos h1]
    rfl
  · rw [dif_pos h0, dif_neg h1]
    exact congrArg (fun i => (f j0 i j2 : EReal)) (Fin.ext (by change 8192 + (j1.val - 8192) = j1.val; omega))
  · rw [dif_neg h0, dif_pos h1]
    exact congrArg (fun i => (f i j1 j2 : EReal)) (Fin.ext (by change 8 + (j0.val - 8) = j0.val; omega))
  · rw [dif_neg h0, dif_neg h1]
    exact congrArg₂ (fun h i => (f h i j2 : EReal)) (Fin.ext (by change 8 + (j0.val - 8) = j0.val; omega)) (Fin.ext (by change 8192 + (j1.val - 8192) = j1.val; omega))

variable {V0 : Valuation τ sig (Elt Ideal)} {x : S10x8448x64.Idx → ℝ} {qg kg : S64.Idx → ℝ} {th : S8192x32.Idx → ℝ}

/-- The angles are real numbers. -/
theorem ang_real : Real (res_main_v25 V0 : FVec Ideal S8192x32 .f32) := by
  have h : ∀ j, ∃ r : ℝ, (res_main_v25 V0 : FVec Ideal S8192x32 .f32) j = (r : EReal) := fun j => by
    idx_vars j
    pointwise [res_main_v25, res_main_v14]
    split
    · exact angle _ _
    · exact angle _ _
  choose f hf using h
  exact ⟨f, funext hf⟩

section

variable (hx : (V0 (Proc.devRef .tc main_arg0) : FVec Ideal S10x8448x64 .f32) = fun i => (x i : EReal))
  (hq1 : (V0 (Proc.devRef .tc main_arg1) : FVec Ideal S64 .f32) = fun i => (qg i : EReal))
  (hk1 : (V0 (Proc.devRef .tc main_arg2) : FVec Ideal S64 .f32) = fun i => (kg i : EReal))
  (ha : (res_main_v25 V0 : FVec Ideal S8192x32 .f32) = fun i => (th i : EReal))

include hx in
/-- The queries' latents. -/
theorem v28_eq : (res_main_v28 V0 : FVec Ideal S8x8192x64 .f32) = fun y => (xr x (hq (y 0)) (lat (y 1)) (y 2) : EReal) := by
  funext y
  idx_vars y
  pointwise [res_main_v28, hx]
  rfl

include hx in
/-- The keys' latents. -/
theorem v65_eq : (res_main_v65 V0 : FVec Ideal S2x8192x64 .f32) = fun y => (xr x (hk (y 0)) (lat (y 1)) (y 2) : EReal) := by
  funext y
  idx_vars y
  pointwise [res_main_v65, hx]
  rfl

include hx in
/-- The queries' contexts. -/
theorem v102_eq : (res_main_v102 V0 : FVec Ideal S8x256x64 .f32) = fun y => (xr x (hq (y 0)) (con (y 1)) (y 2) : EReal) := by
  funext y
  idx_vars y
  pointwise [res_main_v102, hx]
  rfl

include hx in
/-- The keys' contexts. -/
theorem v116_eq : (res_main_v116 V0 : FVec Ideal S2x256x64 .f32) = fun y => (xr x (hk (y 0)) (con (y 1)) (y 2) : EReal) := by
  funext y
  idx_vars y
  pointwise [res_main_v116, hx]
  rfl

/-- The queries' gain, from the two. -/
theorem gains_hq (s : Fin 8) : gains qg kg (kind (hq s)) = fun l => qg (ix1 l) := by rw [kind_hq]; rfl

/-- The keys' gain, from the two. -/
theorem gains_hk (s : Fin 2) : gains qg kg (kind (hk s)) = fun l => kg (ix1 l) := by rw [kind_hk]; rfl

/-- A gain by its feature. -/
theorem by_feature (g : S64.Idx → ℝ) : (fun i => (g i : EReal)) = (fun y : S64.Idx => ((fun l : Fin 64 => g (ix1 l)) (y 0) : EReal)) :=
  funext fun y => congrArg (fun i => (g i : EReal)) (funext fun a => by fin_cases a; rfl)

include hx hq1 hk1 ha in
/-- The reference's result, put together from its four parts. -/
theorem out_all : @Eq (FVec Ideal S10x8448x64 .f32) (concatenate S10x8448x64 0 [⟨S8x8448x64, (concatenate S8x8448x64 1 [⟨S8x8192x64, (shapeCast _ (concatenate S8x8192x32x2 3 [⟨S8x8192x32x1, (broadcastInDim S8x8192x32x1 ![0, 1, 2] bcast_S8x8192x32_S8x8192x32x1_0_1_2 (subf (mulf (res_main_v44 V0) (broadcastInDim S8x8192x32 ![0, 1, 2] bcast_S1x8192x32_S8x8192x32_0_1_2 (broadcastInDim S1x8192x32 ![1, 2] bcast_S8192x32_S1x8192x32_1_2 (res_main_v26 V0)))) (mulf (res_main_v46 V0) (broadcastInDim S8x8192x32 ![0, 1, 2] bcast_S1x8192x32_S8x8192x32_0_1_2 (broadcastInDim S1x8192x32 ![1, 2] bcast_S8192x32_S1x8192x32_1_2 (res_main_v27 V0))))))⟩, ⟨S8x8192x32x1, (broadcastInDim S8x8192x32x1 ![0, 1, 2] bcast_S8x8192x32_S8x8192x32x1_0_1_2 (addf (mulf (res_main_v44 V0) (broadcastInDim S8x8192x32 ![0, 1, 2] bcast_S1x8192x32_S8x8192x32_0_1_2 (broadcastInDim S1x8192x32 ![1, 2] bcast_S8192x32_S1x8192x32_1_2 (res_main_v27 V0)))) (mulf (res_main_v46 V0) (broadcastInDim S8x8192x32 ![0, 1, 2] bcast_S1x8192x32_S8x8192x32_0_1_2 (broadcastInDim S1x8192x32 ![1, 2] bcast_S8192x32_S1x8192x32_1_2 (res_main_v26 V0))))))⟩] concatenates_S8x8192x32x1_S8x8192x32x1_S8x8192x32x2_d3) shapeCasts_S8x8192x32x2_S8x8192x64)⟩, ⟨S8x256x64, (mulf (mulf (res_main_v102 V0) (broadcastInDim S8x256x64 ![0, 1, 2] bcast_S8x256x1_S8x256x64_0_1_2 (Host.rsqrt (addf (Host.divf (broadcastInDim S8x256x1 ![0, 1] bcast_S8x256_S8x256x1_0_1 (Host.reduceAdd (mulf (res_main_v102 V0) (res_main_v102 V0)) (constant S_ .f32 0x00000000#32) reducesTo_S8x256x64_S8x256_d2 h_S_)) (broadcastInDim S8x256x1 ![] bcast_S_S8x256x1 (constant S_ .f32 0x42800000#32))) (broadcastInDim S8x256x1 ![] bcast_S_S8x256x1 (constant S_ .f32 0x358637BD#32)))))) (broadcastInDim S8x256x64 ![0, 1, 2] bcast_S1x1x64_S8x256x64_0_1_2 (broadcastInDim S1x1x64 ![2] bcast_S64_S1x1x64_2 (V0 (Proc.devRef .tc main_arg1)))))⟩] concatenates_S8x8192x64_S8x256x64_S8x8448x64_d1)⟩, ⟨S2x8448x64, (concatenate S2x8448x64 1 [⟨S2x8192x64, (shapeCast _ (concatenate S2x8192x32x2 3 [⟨S2x8192x32x1, (broadcastInDim S2x8192x32x1 ![0, 1, 2] bcast_S2x8192x32_S2x8192x32x1_0_1_2 (subf (mulf (res_main_v81 V0) (broadcastInDim S2x8192x32 ![0, 1, 2] bcast_S1x8192x32_S2x8192x32_0_1_2 (broadcastInDim S1x8192x32 ![1, 2] bcast_S8192x32_S1x8192x32_1_2 (res_main_v26 V0)))) (mulf (res_main_v83 V0) (broadcastInDim S2x8192x32 ![0, 1, 2] bcast_S1x8192x32_S2x8192x32_0_1_2 (broadcastInDim S1x8192x32 ![1, 2] bcast_S8192x32_S1x8192x32_1_2 (res_main_v27 V0))))))⟩, ⟨S2x8192x32x1, (broadcastInDim S2x8192x32x1 ![0, 1, 2] bcast_S2x8192x32_S2x8192x32x1_0_1_2 (addf (mulf (res_main_v81 V0) (broadcastInDim S2x8192x32 ![0, 1, 2] bcast_S1x8192x32_S2x8192x32_0_1_2 (broadcastInDim S1x8192x32 ![1, 2] bcast_S8192x32_S1x8192x32_1_2 (res_main_v27 V0)))) (mulf (res_main_v83 V0) (broadcastInDim S2x8192x32 ![0, 1, 2] bcast_S1x8192x32_S2x8192x32_0_1_2 (broadcastInDim S1x8192x32 ![1, 2] bcast_S8192x32_S1x8192x32_1_2 (res_main_v26 V0))))))⟩] concatenates_S2x8192x32x1_S2x8192x32x1_S2x8192x32x2_d3) shapeCasts_S2x8192x32x2_S2x8192x64)⟩, ⟨S2x256x64, (mulf (mulf (res_main_v116 V0) (broadcastInDim S2x256x64 ![0, 1, 2] bcast_S2x256x1_S2x256x64_0_1_2 (Host.rsqrt (addf (Host.divf (broadcastInDim S2x256x1 ![0, 1] bcast_S2x256_S2x256x1_0_1 (Host.reduceAdd (mulf (res_main_v116 V0) (res_main_v116 V0)) (constant S_ .f32 0x00000000#32) reducesTo_S2x256x64_S2x256_d2 h_S_)) (broadcastInDim S2x256x1 ![] bcast_S_S2x256x1 (constant S_ .f32 0x42800000#32))) (broadcastInDim S2x256x1 ![] bcast_S_S2x256x1 (constant S_ .f32 0x358637BD#32)))))) (broadcastInDim S2x256x64 ![0, 1, 2] bcast_S1x1x64_S2x256x64_0_1_2 (broadcastInDim S1x1x64 ![2] bcast_S64_S1x1x64_2 (V0 (Proc.devRef .tc main_arg2)))))⟩] concatenates_S2x8192x64_S2x256x64_S2x8448x64_d1)⟩] concatenates_S8x8448x64_S2x8448x64_S10x8448x64_d0)
    (fun j => (out x qg kg th (j 0) (j 1) (j 2) : EReal)) :=
  join (out x qg kg th) _ _ _ _
    ((con_2 _ _ (fun s r => xr x (hk s) (con r)) (fun l => kg (ix1 l)) th (v116_eq hx) (hk1.trans (by_feature kg))).trans
      (funext fun y => by idx_vars y; exact congrArg (fun g => (turn (unit (xr x (hk y0) (con y1)) g) _ _ _ : EReal)) (gains_hk y0).symm))
    ((con_8 _ _ (fun s r => xr x (hq s) (con r)) (fun l => qg (ix1 l)) th (v102_eq hx) (hq1.trans (by_feature qg))).trans
      (funext fun y => by idx_vars y; exact congrArg (fun g => (turn (unit (xr x (hq y0) (con y1)) g) _ _ _ : EReal)) (gains_hq y0).symm))
    ((lat_2 _ _ _ (fun s r => xr x (hk s) (lat r)) (fun l => kg (ix1 l)) th (v65_eq hx) (hk1.trans (by_feature kg)) ha).trans
      (funext fun y => by idx_vars y; exact congrArg (fun g => (turn (unit (xr x (hk y0) (lat y1)) g) _ _ _ : EReal)) (gains_hk y0).symm))
    ((lat_8 _ _ _ (fun s r => xr x (hq s) (lat r)) (fun l => qg (ix1 l)) th (v28_eq hx) (hq1.trans (by_feature qg)) ha).trans
      (funext fun y => by idx_vars y; exact congrArg (fun g => (turn (unit (xr x (hq y0) (lat y1)) g) _ _ _ : EReal)) (gains_hq y0).symm))

end

end Cert.RotRefIdeal.Value

namespace Cert.RotIdeal.Value

open Cert.RotIdeal Cert.RotIdeal.Gen Cert.Reals

variable (m : (ℓ : Loc nD τ sig) → Buf (Elt Ideal) ℓ)

/-- The angles are the reference's. -/
theorem ang_arr (c : Dev nD) (V0 : Valuation Cert.RotRefIdeal.τ Cert.RotRefIdeal.sig (Elt Ideal)) :
    @Eq (FVec Ideal S8192x32 .f32) (V m c main_v25) (Cert.RotRefIdeal.Value.res_main_v25 V0) := by
  refine (V_eq m c main_v25).trans ?_
  unfold places
  entry_read
  rfl

/-- The result as a function of the arguments. -/
def outOf (x : FVec Ideal S10x8448x64 .f32) (qg kg : FVec Ideal S64 .f32) (th : FVec Ideal S8192x32 .f32) : FVec Ideal S10x8448x64 .f32 := fun j =>
  (out (re x) (re qg) (re kg) (re th) (j 0) (j 1) (j 2) : EReal)

/-- Every argument is an array of real numbers. -/
def AllReal (x : FVec Ideal S10x8448x64 .f32) (qg kg : FVec Ideal S64 .f32) : Prop := Real x ∧ Real qg ∧ Real kg

/-- The precondition says so. -/
theorem real_of_pre [Cert.Pre_rot_finite.Facts] {x : FVec Ideal S10x8448x64 .f32} {qg kg : FVec Ideal S64 .f32}
    (h : Cert.Pre_rot_finite.fn (F := Ideal) x qg kg = fun _ => 1#1) : AllReal x qg kg := by
  have e := congrFun h ix0
  dsimp only [Cert.Pre_rot_finite.fn, andi] at e
  simp only [IntOp.andi_eq_one] at e
  obtain ⟨⟨a, b⟩, d⟩ := e
  exact ⟨real_of_all _ _ _ _ _ _ a, real_of_all _ _ _ _ _ _ b, real_of_all _ _ _ _ _ _ d⟩

/-- The reference's run. -/
theorem ref_run (m' : (ℓ : Loc Cert.RotRefIdeal.nD Cert.RotRefIdeal.τ Cert.RotRefIdeal.sig) → Buf (Elt Ideal) ℓ)
    (g' : Dev Cert.RotRefIdeal.nD → PrngReg) (hr : ∀ c : Dev Cert.RotRefIdeal.nD, AllReal (m' ((c.tc : Thread Cert.RotRefIdeal.nD Cert.RotRefIdeal.τ).loc Cert.RotRefIdeal.main_arg0)) (m' ((c.tc : Thread Cert.RotRefIdeal.nD Cert.RotRefIdeal.τ).loc Cert.RotRefIdeal.main_arg1)) (m' ((c.tc : Thread Cert.RotRefIdeal.nD Cert.RotRefIdeal.τ).loc Cert.RotRefIdeal.main_arg2))) :
    θ_run (Cert.RotRefIdeal.defs (F := Ideal)) (onTc (τ := Cert.RotRefIdeal.τ) (Cert.RotRefIdeal.main (F := Ideal)))
      ⟨m', fun _ => 0, g'⟩ fun r => ∀ c : Dev Cert.RotRefIdeal.nD,
      r.2.mem ((c.tc : Thread Cert.RotRefIdeal.nD Cert.RotRefIdeal.τ).loc Cert.RotRefIdeal.main_v132) = outOf (m' ((c.tc : Thread Cert.RotRefIdeal.nD Cert.RotRefIdeal.τ).loc Cert.RotRefIdeal.main_arg0)) (m' ((c.tc : Thread Cert.RotRefIdeal.nD Cert.RotRefIdeal.τ).loc Cert.RotRefIdeal.main_arg1)) (m' ((c.tc : Thread Cert.RotRefIdeal.nD Cert.RotRefIdeal.τ).loc Cert.RotRefIdeal.main_arg2)) (Cert.RotRefIdeal.Value.res_main_v25 (StableHlo.launchContents m' c))
      ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2) := by
  refine (θ_run Cert.RotRefIdeal.defs _ _).mono (fun r h c => ?_) (Cert.RotRefIdeal.Value.run m' g')
  obtain ⟨r0, rest⟩ := h c
  obtain ⟨h0, h1, h2⟩ := hr c
  have ha := (Cert.RotRefIdeal.Value.ang_real (V0 := StableHlo.launchContents m' c)).eq
  exact ⟨r0.trans (Cert.RotRefIdeal.Value.out_all h0.eq h1.eq h2.eq ha), rest⟩

set_option maxHeartbeats 4000000 in
/-- The rotated norm and its reference end with equal results. -/
theorem algebraic [Cert.Pre_rot_finite.Facts] : Cert.algebraic_RotIdeal_RotRefIdeal_pre_rot_finite := by
  pair_intro
  · run_from Cert.RotIdeal.Gen.run_main m g
    · exact V_main_arg1 m c
    · exact V_main_arg2 m c
  · have hr := fun c => real_of_pre (hpre c)
    run_from ref_run m' g' (fun c => by
      obtain ⟨e0, e1, e2⟩ := hagree c
      rw [e0, e1, e2]
      exact hr c)
    obtain ⟨h0, h1, h2⟩ := hr c
    have ha := (ang_arr m c (StableHlo.launchContents m' c)).trans (Cert.RotRefIdeal.Value.ang_real (V0 := StableHlo.launchContents m' c)).eq
    exact (final_5 h0.eq h1.eq h2.eq ha).symm

end Cert.RotIdeal.Value

end
-- ==== Proof.Prod.lean ====
/- Hand-written, untrusted: the product with an output weight: the kernel takes it by blocks of rows, the reference at once. -/
module

public import proofs.«01_k».proof.Defs
public import proofs.«01_k».proof.Proof.Reals
public import proofs.«01_k».proof.Proof.Pieces
public import proofs.«01_k».proof.Proof.Gen.ProdIdeal.Value
public import proofs.«01_k».proof.Proof.Gen.ProdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ProdIdeal.Value

open Cert.ProdIdeal Cert.ProdIdeal.Gen Cert.Reals Cert.Pieces

variable (m : (ℓ : Loc nD τ sig) → Buf (Elt Ideal) ℓ)

/-- Every window's block index, at every grid point. -/
theorem idx_val : ∀ t : Fin cfg0.N, win0_0.index t = ![t.val % 11, 0] ∧ win0_1.index t = ![0, t.val / 11] ∧ win0_2.index t = ![t.val % 11, t.val / 11] :=
  (by decide +kernel : ∀ t : Fin grid0.N, _)

/-- The row of the array that is row `r` of the block at point `t`. -/
def row (t : Fin cfg0.N) (r : Fin 768) : Fin 8448 := ⟨t.val % 11 * 768 + r.val, by omega⟩

/-- The column of the weights that is column `l` of the point's block. -/
def col (t : Fin cfg0.N) (l : Fin 2176) : Fin 4352 :=
  ⟨t.val / 11 * 2176 + l.val, by have := t.isLt; have : cfg0.N = 22 := N_0; omega⟩

/-- The product. -/
def prodOf (x : FVec Ideal S8448x1024 .f32) (w : FVec Ideal S1024x4352 .f32) : FVec Ideal S8448x4352 .f32 := fun j => ∑ k : Fin 1024, x (ix2 (j 0) k) * w (ix2 k (j 1))

/-- The array index of an index of the rows' block. -/
theorem emb0 (t : Fin cfg0.N) (y) : ((View.whole main_v0).slice (win0_0.rect t)).emb y = ix2 (row t (y 0)) (y 1) := by
  blk_ext [idx_val t, row]

/-- The array index of an index of the weights' block. -/
theorem emb1 (t : Fin cfg0.N) (y) : ((View.whole main_v1).slice (win0_1.rect t)).emb y = ix2 (y 0) (col t (y 1)) := by
  blk_ext [idx_val t, col]

/-- The rows' block at a point. -/
theorem blk0 (c : Dev nD) (t : Fin cfg0.N) : (iblk m c 0 t : FVec Ideal S768x1024 .bf16) = fun y => (m ((c : Thread nD τ).loc main_arg0) : FVec Ideal S8448x1024 .f32) (ix2 (row t (y 0)) (y 1)) := by
  funext y
  blk_simp [iblk, idx_val t]
  entry_read
  pointwise
  rw [emb0]
  rfl

/-- The weights' block at a point. -/
theorem blk1 (c : Dev nD) (t : Fin cfg0.N) : (iblk m c 1 t : FVec Ideal S1024x2176 .bf16) = fun y => (m ((c : Thread nD τ).loc main_arg1) : FVec Ideal S1024x4352 .f32) (ix2 (y 0) (col t (y 1))) := by
  funext y
  blk_simp [iblk, idx_val t]
  entry_read
  pointwise
  rw [emb1]
  rfl

/-- The block written at a point. -/
theorem pay_at (c : Dev nD) (t : Fin cfg0.N) (r : Fin 768) (l : Fin 2176) :
    k0_pay1 (F := Ideal) (iblk m c 0 t) (iblk m c 1 t) (ix2 r l) = prodOf (m ((c : Thread nD τ).loc main_arg0)) (m ((c : Thread nD τ).loc main_arg1)) (ix2 (row t r) (col t l)) := by
  rw [blk0, blk1]
  pointwise [k0_pay1, prodOf]

/-- The array after the run. -/
theorem final_2 (c : Dev nD) : (dats m 0 c).arrAt 2 (cfgs 0).N = prodOf (m ((c : Thread nD τ).loc main_arg0)) (m ((c : Thread nD τ).loc main_arg1)) := by
  refine (dats m 0 c).arrAt_eq_of_covers 2 _ (by decide +kernel) fun t hf y => ?_
  blk_simp; rw [after0_2]
  have e : ((View.whole main_v2).slice (win0_2.rect t)).emb y = ix2 (row t (y 0)) (col t (y 1)) := by blk_ext [idx_val t, row, col]
  have ey : y = ix2 (y 0 : Fin 768) (y 1 : Fin 2176) := by funext a; fin_cases a <;> rfl
  rw [e, ey]
  frame_out
  exact pay_at m c t (y 0) (y 1)

/-- The reference's run. -/
theorem ref_run (m' : (ℓ : Loc Cert.ProdRefIdeal.nD Cert.ProdRefIdeal.τ Cert.ProdRefIdeal.sig) → Buf (Elt Ideal) ℓ) (g' : Dev Cert.ProdRefIdeal.nD → PrngReg) :
    θ_run (Cert.ProdRefIdeal.defs (F := Ideal)) (onTc (τ := Cert.ProdRefIdeal.τ) (Cert.ProdRefIdeal.main (F := Ideal)))
      ⟨m', fun _ => 0, g'⟩ fun r => ∀ c : Dev Cert.ProdRefIdeal.nD,
      r.2.mem ((c.tc : Thread Cert.ProdRefIdeal.nD Cert.ProdRefIdeal.τ).loc Cert.ProdRefIdeal.main_v0) = prodOf (m' ((c.tc : Thread Cert.ProdRefIdeal.nD Cert.ProdRefIdeal.τ).loc Cert.ProdRefIdeal.main_arg0)) (m' ((c.tc : Thread Cert.ProdRefIdeal.nD Cert.ProdRefIdeal.τ).loc Cert.ProdRefIdeal.main_arg1))
      ∧ r.2.mem ((c.tc : Thread Cert.ProdRefIdeal.nD Cert.ProdRefIdeal.τ).loc Cert.ProdRefIdeal.main_arg0) = m' ((c.tc : Thread Cert.ProdRefIdeal.nD Cert.ProdRefIdeal.τ).loc Cert.ProdRefIdeal.main_arg0)
      ∧ r.2.mem ((c.tc : Thread Cert.ProdRefIdeal.nD Cert.ProdRefIdeal.τ).loc Cert.ProdRefIdeal.main_arg1) = m' ((c.tc : Thread Cert.ProdRefIdeal.nD Cert.ProdRefIdeal.τ).loc Cert.ProdRefIdeal.main_arg1) := by
  refine (θ_run Cert.ProdRefIdeal.defs _ _).mono (fun r h c => ?_) (Cert.ProdRefIdeal.Value.run m' g')
  obtain ⟨r0, rest⟩ := h c
  refine ⟨r0.trans ?_, rest⟩
  · clear r0 rest h
    generalize m' ((c.tc : Thread Cert.ProdRefIdeal.nD Cert.ProdRefIdeal.τ).loc Cert.ProdRefIdeal.main_arg0) = a0
    generalize m' ((c.tc : Thread Cert.ProdRefIdeal.nD Cert.ProdRefIdeal.τ).loc Cert.ProdRefIdeal.main_arg1) = a1
    funext j
    idx_vars j
    pointwise [prodOf]

/-- The product and its reference end with equal results. -/
theorem algebraic : Cert.algebraic_ProdIdeal_ProdRefIdeal := by
  pair_intro
  · run_from Cert.ProdIdeal.Gen.run_main m g
  · run_from ref_run m' g'
    · exact (final_2 m c).symm

end Cert.ProdIdeal.Value

end
-- ==== Proof.Dx.lean ====
/- Hand-written, untrusted: the gradient of a product in its left factor: the kernel gathers it over two groups of columns, the reference takes it at once. -/
module

public import proofs.«01_k».proof.Defs
public import proofs.«01_k».proof.Proof.Reals
public import proofs.«01_k».proof.Proof.Pieces
public import proofs.«01_k».proof.Proof.Gen.DxIdeal.Value
public import proofs.«01_k».proof.Proof.Gen.DxRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DxIdeal.Value

open Cert.DxIdeal Cert.DxIdeal.Gen Cert.Reals Cert.Pieces

variable (m : (ℓ : Loc nD τ sig) → Buf (Elt Ideal) ℓ)

/-- Every window's block index, at every grid point. -/
theorem idx_val : ∀ t : Fin cfg0.N, win0_0.index t = ![t.val / 2, t.val % 2] ∧ win0_1.index t = ![0, t.val % 2] ∧ win0_2.index t = ![t.val / 2, 0] :=
  (by decide +kernel : ∀ t : Fin grid0.N, _)

/-- The row of the array that is row `r` of the point's block. -/
def row (t : Fin cfg0.N) (r : Fin 768) : Fin 8448 :=
  ⟨t.val / 2 * 768 + r.val, by have := t.isLt; have : cfg0.N = 22 := N_0; omega⟩

/-- The column of the arrays that is column `k` of the point's group. -/
def kcol (t : Fin cfg0.N) (k : Fin 2176) : Fin 4352 := ⟨t.val % 2 * 2176 + k.val, by omega⟩

/-- The gradient at the left factor. -/
def dxOf (w : FVec Ideal S1024x4352 .f32) (dy : FVec Ideal S8448x4352 .f32) : FVec Ideal S8448x1024 .bf16 := fun j => ∑ k : Fin 4352, dy (ix2 (j 0) k) * w (ix2 (j 1) k)

/-- What one point adds. -/
def part (w : FVec Ideal S1024x4352 .f32) (dy : FVec Ideal S8448x4352 .f32) (t : Fin cfg0.N) (r : Fin 768) (l : Fin 1024) : EReal :=
  ∑ k : Fin 2176, dy (ix2 (row t r) (kcol t k)) * w (ix2 l (kcol t k))

/-- The array index of an index of the gradient's block. -/
theorem emb0 (t : Fin cfg0.N) (y) : ((View.whole main_v0).slice (win0_0.rect t)).emb y = ix2 (row t (y 0)) (kcol t (y 1)) := by
  blk_ext [idx_val t, row, kcol]

/-- The array index of an index of the weights' block. -/
theorem emb1 (t : Fin cfg0.N) (y) : ((View.whole main_v1).slice (win0_1.rect t)).emb y = ix2 (y 0) (kcol t (y 1)) := by
  blk_ext [idx_val t, kcol]

/-- The gradient's block at a point. -/
theorem blk0 (c : Dev nD) (t : Fin cfg0.N) : (iblk m c 0 t : FVec Ideal S768x2176 .bf16) = fun y => (m ((c : Thread nD τ).loc main_arg1) : FVec Ideal S8448x4352 .f32) (ix2 (row t (y 0)) (kcol t (y 1))) := by
  funext y
  blk_simp [iblk, idx_val t]
  entry_read
  pointwise
  exact congrArg _ (emb0 t y)

/-- The weights' block at a point. -/
theorem blk1 (c : Dev nD) (t : Fin cfg0.N) : (iblk m c 1 t : FVec Ideal S1024x2176 .bf16) = fun y => (m ((c : Thread nD τ).loc main_arg0) : FVec Ideal S1024x4352 .f32) (ix2 (y 0) (kcol t (y 1))) := by
  funext y
  blk_simp [iblk, idx_val t]
  entry_read
  pointwise
  exact congrArg _ (emb1 t y)

/-- The product of a point's blocks. -/
theorem pay_at (c : Dev nD) (t : Fin cfg0.N) (r : Fin 768) (l : Fin 1024) :
    k0_pay1 (F := Ideal) (iblk m c 0 t) (iblk m c 1 t) (ix2 r l) = part (m ((c : Thread nD τ).loc main_arg0)) (m ((c : Thread nD τ).loc main_arg1)) t r l := by
  rw [blk0, blk1]
  pointwise [k0_pay1, part]

/-- The first store is the product. -/
theorem store_at (a : Vec Ideal S768x2176 .bf16) (b : Vec Ideal S1024x2176 .bf16) (y) :
    k0_pay2 (F := Ideal) a b y = k0_pay1 (F := Ideal) a b y := by
  rw [k0_pay2]
  generalize k0_pay1 (F := Ideal) a b = p
  idx_vars y
  pointwise

/-- The later stores add the product to what is there. -/
theorem add_at (a : Vec Ideal S768x2176 .bf16) (b : Vec Ideal S1024x2176 .bf16) (v : Vec Ideal S768x1024 .f32) (y) :
    k0_pay3 (F := Ideal) a b v y = v y + k0_pay1 (F := Ideal) a b y := by
  rw [k0_pay3]
  generalize k0_pay1 (F := Ideal) a b = p
  idx_vars y
  pointwise

/-- The last store rounds nothing. -/
theorem last_at (v : Vec Ideal S768x1024 .f32) (y) : k0_pay4 (F := Ideal) v y = v y := by
  idx_vars y
  pointwise [k0_pay4]

/-- The gathered sum after the first group. -/
theorem acc_A (c : Dev nD) (t : Fin cfg0.N) (h : t.val % 2 = 0) (r : Fin 768) (l : Fin 1024) :
    (outsAt0 m c t.val t.isLt).2 (ix2 r l) = part (m ((c : Thread nD τ).loc main_arg0)) (m ((c : Thread nD τ).loc main_arg1)) t r l := by
  rw [outsAt0_A m c t h (by omega) (by omega)]
  frame_out
  exact (store_at _ _ _).trans (pay_at m c t r l)

/-- The block written after the second group. -/
theorem out_B (c : Dev nD) (t : Fin cfg0.N) (h : t.val % 2 = 1) (r : Fin 768) (l : Fin 1024) :
    (outsAt0 m c t.val t.isLt).1 (ix2 r l) = (outsAt0 m c (t.val - 1) (lt_of_le_of_lt (Nat.sub_le _ _) t.isLt)).2 (ix2 r l) + part (m ((c : Thread nD τ).loc main_arg0)) (m ((c : Thread nD τ).loc main_arg1)) t r l := by
  rw [outsAt0_B m c t (by omega) h h]
  frame_out
  exact (last_at _ _).trans ((add_at _ _ _ _).trans (congrArg₂ (· + ·) (congrFun (Memref.IsWhole.read_unread (Memref.isWhole_whole cc0_scratch0) _) _) (pay_at m c t r l)))

/-- The two groups make the whole sum. -/
theorem parts (w : FVec Ideal S1024x4352 .f32) (dy : FVec Ideal S8448x4352 .f32) (t : Fin cfg0.N) (h : t.val % 2 = 1) (r : Fin 768) (l : Fin 1024) :
    part w dy ⟨t.val - 1, by omega⟩ r l + part w dy t r l = dxOf w dy (ix2 (row t r) l) := by
  have e : ∀ (u : Fin cfg0.N) (s : Fin 2), u.val % 2 = s.val → u.val / 2 = t.val / 2 →
      part w dy u r l = ∑ k : Fin 2176, dy (ix2 (row t r) (⟨s.val * 2176 + k.val, by omega⟩ : Fin 4352)) * w (ix2 l (⟨s.val * 2176 + k.val, by omega⟩ : Fin 4352)) := by
    intro u s h1 h2
    simp only [part, kcol, row, h1, h2]
  rw [e ⟨t.val - 1, by omega⟩ 0 (by show (t.val - 1) % 2 = 0; omega) (by show (t.val - 1) / 2 = _; omega), e t 1 h rfl]
  refine Eq.trans ?_ (Fin.sum_mul_add_fin 2 2176 fun k : Fin 4352 => dy (ix2 (row t r) k) * w (ix2 l k))
  rw [Fin.sum_univ_two]

/-- The array after the run. -/
theorem final_2 (c : Dev nD) : (dats m 0 c).arrAt 2 (cfgs 0).N = dxOf (m ((c : Thread nD τ).loc main_arg0)) (m ((c : Thread nD τ).loc main_arg1)) := by
  refine (dats m 0 c).arrAt_eq_of_covers 2 _ (by decide +kernel) fun t hf y => ?_
  have h := (flush0_2 t).mp hf
  blk_simp; rw [after0_2]
  have e : ((View.whole main_v2).slice (win0_2.rect t)).emb y = ix2 (row t (y 0)) (y 1) := by blk_ext [idx_val t, row]
  have ey : y = ix2 (y 0 : Fin 768) (y 1 : Fin 1024) := by funext a; fin_cases a <;> rfl
  rw [e, ey]
  have hA := acc_A m c ⟨t.val - 1, by omega⟩ (by show (t.val - 1) % 2 = 0; omega) (y 0) (y 1)
  refine (out_B m c t h (y 0) (y 1)).trans ?_
  refine Eq.trans ?_ (parts _ _ t h (y 0) (y 1))
  exact congrArg (· + _) hA

/-- The reference's run. -/
theorem ref_run (m' : (ℓ : Loc Cert.DxRefIdeal.nD Cert.DxRefIdeal.τ Cert.DxRefIdeal.sig) → Buf (Elt Ideal) ℓ) (g' : Dev Cert.DxRefIdeal.nD → PrngReg) :
    θ_run (Cert.DxRefIdeal.defs (F := Ideal)) (onTc (τ := Cert.DxRefIdeal.τ) (Cert.DxRefIdeal.main (F := Ideal)))
      ⟨m', fun _ => 0, g'⟩ fun r => ∀ c : Dev Cert.DxRefIdeal.nD,
      r.2.mem ((c.tc : Thread Cert.DxRefIdeal.nD Cert.DxRefIdeal.τ).loc Cert.DxRefIdeal.main_v3) = dxOf (m' ((c.tc : Thread Cert.DxRefIdeal.nD Cert.DxRefIdeal.τ).loc Cert.DxRefIdeal.main_arg0)) (m' ((c.tc : Thread Cert.DxRefIdeal.nD Cert.DxRefIdeal.τ).loc Cert.DxRefIdeal.main_arg1))
      ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1) := by
  refine (θ_run Cert.DxRefIdeal.defs _ _).mono (fun r h c => ?_) (Cert.DxRefIdeal.Value.run m' g')
  obtain ⟨r0, rest⟩ := h c
  refine ⟨r0.trans ?_, rest⟩
  · clear r0 rest h
    generalize m' ((c.tc : Thread Cert.DxRefIdeal.nD Cert.DxRefIdeal.τ).loc Cert.DxRefIdeal.main_arg0) = a0
    generalize m' ((c.tc : Thread Cert.DxRefIdeal.nD Cert.DxRefIdeal.τ).loc Cert.DxRefIdeal.main_arg1) = a1
    funext j
    idx_vars j
    pointwise [dxOf]

/-- The gradient and its reference end with equal results. -/
theorem algebraic : Cert.algebraic_DxIdeal_DxRefIdeal := by
  pair_intro
  · run_from Cert.DxIdeal.Gen.run_main m g
  · run_from ref_run m' g'
    · exact (final_2 m c).symm

end Cert.DxIdeal.Value

end
-- ==== Proof.Dw.lean ====
/- Hand-written, untrusted: the gradient of a product in its right factor: the kernel gathers it over six groups of rows, the reference takes it at once. -/
module

public import proofs.«01_k».proof.Defs
public import proofs.«01_k».proof.Proof.Reals
public import proofs.«01_k».proof.Proof.Pieces
public import proofs.«01_k».proof.Proof.Gen.DwIdeal.Value
public import proofs.«01_k».proof.Proof.Gen.DwRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DwIdeal.Value

open Cert.DwIdeal Cert.DwIdeal.Gen Cert.Reals Cert.Pieces

variable (m : (ℓ : Loc nD τ sig) → Buf (Elt Ideal) ℓ)

/-- Every window's block index, at every grid point. -/
theorem idx_val : ∀ t : Fin cfg0.N, win0_0.index t = ![t.val % 6, t.val / 12] ∧ win0_1.index t = ![t.val % 6, t.val / 6 % 2] ∧ win0_2.index t = ![t.val / 12, t.val / 6 % 2] :=
  (by decide +kernel : ∀ t : Fin grid0.N, _)

/-- The row of the arrays that is row `k` of the point's group. -/
def krow (t : Fin cfg0.N) (k : Fin 1408) : Fin 8448 := ⟨t.val % 6 * 1408 + k.val, by omega⟩

/-- The column of the left factor that is column `r` of the point's block. -/
def col (t : Fin cfg0.N) (r : Fin 512) : Fin 1024 :=
  ⟨t.val / 12 * 512 + r.val, by have := t.isLt; have : cfg0.N = 24 := N_0; omega⟩

/-- The column of the gradient that is column `l` of the point's block. -/
def gcol (t : Fin cfg0.N) (l : Fin 2176) : Fin 4352 := ⟨t.val / 6 % 2 * 2176 + l.val, by omega⟩

/-- The gradient at the right factor. -/
def dwOf (x : FVec Ideal S8448x1024 .f32) (dy : FVec Ideal S8448x4352 .f32) : FVec Ideal S1024x4352 .bf16 := fun j => ∑ k : Fin 8448, x (ix2 k (j 0)) * dy (ix2 k (j 1))

/-- What one point adds. -/
def part (x : FVec Ideal S8448x1024 .f32) (dy : FVec Ideal S8448x4352 .f32) (t : Fin cfg0.N) (r : Fin 512) (l : Fin 2176) : EReal :=
  ∑ k : Fin 1408, x (ix2 (krow t k) (col t r)) * dy (ix2 (krow t k) (gcol t l))

/-- The array index of an index of the left factor's block. -/
theorem emb0 (t : Fin cfg0.N) (y) : ((View.whole main_v0).slice (win0_0.rect t)).emb y = ix2 (krow t (y 0)) (col t (y 1)) := by
  blk_ext [idx_val t, krow, col]

/-- The array index of an index of the gradient's block. -/
theorem emb1 (t : Fin cfg0.N) (y) : ((View.whole main_v1).slice (win0_1.rect t)).emb y = ix2 (krow t (y 0)) (gcol t (y 1)) := by
  blk_ext [idx_val t, krow, gcol]

/-- The left factor's block at a point. -/
theorem blk0 (c : Dev nD) (t : Fin cfg0.N) : (iblk m c 0 t : FVec Ideal S1408x512 .bf16) = fun y => (m ((c : Thread nD τ).loc main_arg0) : FVec Ideal S8448x1024 .f32) (ix2 (krow t (y 0)) (col t (y 1))) := by
  funext y
  blk_simp [iblk, idx_val t]
  entry_read
  pointwise
  exact congrArg _ (emb0 t y)

/-- The gradient's block at a point. -/
theorem blk1 (c : Dev nD) (t : Fin cfg0.N) : (iblk m c 1 t : FVec Ideal S1408x2176 .bf16) = fun y => (m ((c : Thread nD τ).loc main_arg1) : FVec Ideal S8448x4352 .f32) (ix2 (krow t (y 0)) (gcol t (y 1))) := by
  funext y
  blk_simp [iblk, idx_val t]
  entry_read
  pointwise
  exact congrArg _ (emb1 t y)

/-- The product of a point's blocks. -/
theorem pay_at (c : Dev nD) (t : Fin cfg0.N) (r : Fin 512) (l : Fin 2176) :
    k0_pay1 (F := Ideal) (iblk m c 0 t) (iblk m c 1 t) (ix2 r l) = part (m ((c : Thread nD τ).loc main_arg0)) (m ((c : Thread nD τ).loc main_arg1)) t r l := by
  rw [blk0, blk1]
  pointwise [k0_pay1, part]

/-- The first store is the product. -/
theorem store_at (a : Vec Ideal S1408x512 .bf16) (b : Vec Ideal S1408x2176 .bf16) (y) :
    k0_pay2 (F := Ideal) a b y = k0_pay1 (F := Ideal) a b y := by
  rw [k0_pay2]
  generalize k0_pay1 (F := Ideal) a b = p
  idx_vars y
  pointwise

/-- The later stores add the product to what is there. -/
theorem add_at (a : Vec Ideal S1408x512 .bf16) (b : Vec Ideal S1408x2176 .bf16) (v : Vec Ideal S512x2176 .f32) (y) :
    k0_pay3 (F := Ideal) a b v y = v y + k0_pay1 (F := Ideal) a b y := by
  rw [k0_pay3]
  generalize k0_pay1 (F := Ideal) a b = p
  idx_vars y
  pointwise

/-- The last store rounds nothing. -/
theorem last_at (v : Vec Ideal S512x2176 .f32) (y) : k0_pay4 (F := Ideal) v y = v y := by
  idx_vars y
  pointwise [k0_pay4]

/-- The gathered sum after the first group. -/
theorem acc_A (c : Dev nD) (t : Fin cfg0.N) (h : t.val % 6 = 0) (r : Fin 512) (l : Fin 2176) :
    (outsAt0 m c t.val t.isLt).2 (ix2 r l) = part (m ((c : Thread nD τ).loc main_arg0)) (m ((c : Thread nD τ).loc main_arg1)) t r l := by
  rw [outsAt0_A m c t h (by omega) (by omega)]
  frame_out
  exact (store_at _ _ _).trans (pay_at m c t r l)

/-- The gathered sum after each of the next four groups. -/
theorem acc_B (c : Dev nD) (t : Fin cfg0.N) (h : 1 ≤ t.val % 6) (h' : ¬t.val % 6 = 5) (r : Fin 512) (l : Fin 2176) :
    (outsAt0 m c t.val t.isLt).2 (ix2 r l) = (outsAt0 m c (t.val - 1) (lt_of_le_of_lt (Nat.sub_le _ _) t.isLt)).2 (ix2 r l) + part (m ((c : Thread nD τ).loc main_arg0)) (m ((c : Thread nD τ).loc main_arg1)) t r l := by
  rw [outsAt0_B m c t (by omega) h h']
  frame_out
  exact (add_at _ _ _ _).trans (congrArg₂ (· + ·) (congrFun (Memref.IsWhole.read_unread (Memref.isWhole_whole cc0_scratch0) _) _) (pay_at m c t r l))

/-- The block written after the last group. -/
theorem out_C (c : Dev nD) (t : Fin cfg0.N) (h : t.val % 6 = 5) (r : Fin 512) (l : Fin 2176) :
    (outsAt0 m c t.val t.isLt).1 (ix2 r l) = (outsAt0 m c (t.val - 1) (lt_of_le_of_lt (Nat.sub_le _ _) t.isLt)).2 (ix2 r l) + part (m ((c : Thread nD τ).loc main_arg0)) (m ((c : Thread nD τ).loc main_arg1)) t r l := by
  rw [outsAt0_C m c t (by omega) (by omega) h]
  frame_out
  exact (last_at _ _).trans ((add_at _ _ _ _).trans (congrArg₂ (· + ·) (congrFun (Memref.IsWhole.read_unread (Memref.isWhole_whole cc0_scratch0) _) _) (pay_at m c t r l)))

/-- The six groups make the whole sum. -/
theorem parts (x : FVec Ideal S8448x1024 .f32) (dy : FVec Ideal S8448x4352 .f32) (t : Fin cfg0.N) (h : t.val % 6 = 5) (r : Fin 512) (l : Fin 2176) :
    part x dy ⟨t.val - 1 - 1 - 1 - 1 - 1, by omega⟩ r l + part x dy ⟨t.val - 1 - 1 - 1 - 1, by omega⟩ r l + part x dy ⟨t.val - 1 - 1 - 1, by omega⟩ r l + part x dy ⟨t.val - 1 - 1, by omega⟩ r l + part x dy ⟨t.val - 1, by omega⟩ r l + part x dy t r l = dwOf x dy (ix2 (col t r) (gcol t l)) := by
  have e : ∀ (u : Fin cfg0.N) (s : Fin 6), u.val % 6 = s.val → u.val / 6 = t.val / 6 →
      part x dy u r l = ∑ k : Fin 1408, x (ix2 (⟨s.val * 1408 + k.val, by omega⟩ : Fin 8448) (col t r)) * dy (ix2 (⟨s.val * 1408 + k.val, by omega⟩ : Fin 8448) (gcol t l)) := by
    intro u s h1 h2
    have h3 : u.val / 12 = t.val / 12 := by omega
    simp only [part, krow, col, gcol, h1, h2, h3]
  rw [e ⟨t.val - 1 - 1 - 1 - 1 - 1, by omega⟩ 0 (by show (t.val - 1 - 1 - 1 - 1 - 1) % 6 = 0; omega) (by show (t.val - 1 - 1 - 1 - 1 - 1) / 6 = _; omega),
    e ⟨t.val - 1 - 1 - 1 - 1, by omega⟩ 1 (by show (t.val - 1 - 1 - 1 - 1) % 6 = 1; omega) (by show (t.val - 1 - 1 - 1 - 1) / 6 = _; omega),
    e ⟨t.val - 1 - 1 - 1, by omega⟩ 2 (by show (t.val - 1 - 1 - 1) % 6 = 2; omega) (by show (t.val - 1 - 1 - 1) / 6 = _; omega),
    e ⟨t.val - 1 - 1, by omega⟩ 3 (by show (t.val - 1 - 1) % 6 = 3; omega) (by show (t.val - 1 - 1) / 6 = _; omega),
    e ⟨t.val - 1, by omega⟩ 4 (by show (t.val - 1) % 6 = 4; omega) (by show (t.val - 1) / 6 = _; omega), e t 5 h rfl]
  refine Eq.trans ?_ (Fin.sum_mul_add_fin 6 1408 fun k : Fin 8448 => x (ix2 k (col t r)) * dy (ix2 k (gcol t l)))
  rw [Fin.sum_univ_six]

/-- The array after the run. -/
theorem final_2 (c : Dev nD) : (dats m 0 c).arrAt 2 (cfgs 0).N = dwOf (m ((c : Thread nD τ).loc main_arg0)) (m ((c : Thread nD τ).loc main_arg1)) := by
  refine (dats m 0 c).arrAt_eq_of_covers 2 _ (by decide +kernel) fun t hf y => ?_
  have h := (flush0_2 t).mp hf
  blk_simp; rw [after0_2]
  have e : ((View.whole main_v2).slice (win0_2.rect t)).emb y = ix2 (col t (y 0)) (gcol t (y 1)) := by blk_ext [idx_val t, col, gcol]
  have ey : y = ix2 (y 0 : Fin 512) (y 1 : Fin 2176) := by funext a; fin_cases a <;> rfl
  rw [e, ey]
  have h1 := acc_B m c ⟨t.val - 1, by omega⟩ (by show 1 ≤ (t.val - 1) % 6; omega) (by show ¬(t.val - 1) % 6 = 5; omega) (y 0) (y 1)
  have h2 := acc_B m c ⟨t.val - 1 - 1, by omega⟩ (by show 1 ≤ (t.val - 1 - 1) % 6; omega) (by show ¬(t.val - 1 - 1) % 6 = 5; omega) (y 0) (y 1)
  have h3 := acc_B m c ⟨t.val - 1 - 1 - 1, by omega⟩ (by show 1 ≤ (t.val - 1 - 1 - 1) % 6; omega) (by show ¬(t.val - 1 - 1 - 1) % 6 = 5; omega) (y 0) (y 1)
  have h4 := acc_B m c ⟨t.val - 1 - 1 - 1 - 1, by omega⟩ (by show 1 ≤ (t.val - 1 - 1 - 1 - 1) % 6; omega) (by show ¬(t.val - 1 - 1 - 1 - 1) % 6 = 5; omega) (y 0) (y 1)
  have h5 := acc_A m c ⟨t.val - 1 - 1 - 1 - 1 - 1, by omega⟩ (by show (t.val - 1 - 1 - 1 - 1 - 1) % 6 = 0; omega) (y 0) (y 1)
  refine (out_C m c t h (y 0) (y 1)).trans ?_
  refine Eq.trans ?_ (parts _ _ t h (y 0) (y 1))
  exact congrArg (· + _) (h1.trans (congrArg (· + _) (h2.trans (congrArg (· + _) (h3.trans (congrArg (· + _) (h4.trans (congrArg (· + _) h5))))))))

/-- The reference's run. -/
theorem ref_run (m' : (ℓ : Loc Cert.DwRefIdeal.nD Cert.DwRefIdeal.τ Cert.DwRefIdeal.sig) → Buf (Elt Ideal) ℓ) (g' : Dev Cert.DwRefIdeal.nD → PrngReg) :
    θ_run (Cert.DwRefIdeal.defs (F := Ideal)) (onTc (τ := Cert.DwRefIdeal.τ) (Cert.DwRefIdeal.main (F := Ideal)))
      ⟨m', fun _ => 0, g'⟩ fun r => ∀ c : Dev Cert.DwRefIdeal.nD,
      r.2.mem ((c.tc : Thread Cert.DwRefIdeal.nD Cert.DwRefIdeal.τ).loc Cert.DwRefIdeal.main_v4) = dwOf (m' ((c.tc : Thread Cert.DwRefIdeal.nD Cert.DwRefIdeal.τ).loc Cert.DwRefIdeal.main_arg0)) (m' ((c.tc : Thread Cert.DwRefIdeal.nD Cert.DwRefIdeal.τ).loc Cert.DwRefIdeal.main_arg1))
      ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1) := by
  refine (θ_run Cert.DwRefIdeal.defs _ _).mono (fun r h c => ?_) (Cert.DwRefIdeal.Value.run m' g')
  obtain ⟨r0, rest⟩ := h c
  refine ⟨r0.trans ?_, rest⟩
  · clear r0 rest h
    generalize m' ((c.tc : Thread Cert.DwRefIdeal.nD Cert.DwRefIdeal.τ).loc Cert.DwRefIdeal.main_arg0) = a0
    generalize m' ((c.tc : Thread Cert.DwRefIdeal.nD Cert.DwRefIdeal.τ).loc Cert.DwRefIdeal.main_arg1) = a1
    funext j
    idx_vars j
    pointwise [dwOf]
    exact Finset.sum_congr rfl fun k _ => mul_comm _ _

/-- The gradient and its reference end with equal results. -/
theorem algebraic : Cert.algebraic_DwIdeal_DwRefIdeal := by
  pair_intro
  · run_from Cert.DwIdeal.Gen.run_main m g
  · run_from ref_run m' g'
    · exact (final_2 m c).symm

end Cert.DwIdeal.Value

end
-- ==== Proof.Dh.lean ====
/- Hand-written, untrusted: the gradient at the feed-forward's input: the kernel adds four products, the reference takes one product with the two gradients joined. -/
module

public import proofs.«01_k».proof.Defs
public import proofs.«01_k».proof.Proof.Reals
public import proofs.«01_k».proof.Proof.Pieces
public import proofs.«01_k».proof.Proof.Gen.DhIdeal.Value
public import proofs.«01_k».proof.Proof.Gen.DhRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DhIdeal.Value

open Cert.DhIdeal Cert.DhIdeal.Gen Cert.Reals Cert.Pieces

variable (m : (ℓ : Loc nD τ sig) → Buf (Elt Ideal) ℓ)

/-- Every window's block index, at every grid point. -/
theorem idx_val : ∀ t : Fin cfg0.N, win0_0.index t = ![0, t.val, 0] ∧ win0_1.index t = ![0, 0] ∧ win0_2.index t = ![t.val, 0] :=
  (by decide +kernel : ∀ t : Fin grid0.N, _)

/-- The row of the arrays that is row `r` of block `t`. -/
def row (t : Fin cfg0.N) (r : Fin 384) : Fin 8448 :=
  ⟨t.val * 384 + r.val, by have := t.isLt; have : cfg0.N = 22 := N_0; omega⟩

/-- A row of the two gradients, one after the other. -/
def joined (da du : FVec Ideal S8448x2816 .f32) (i : Fin 8448) (k : Fin 5632) : EReal :=
  if h : k.val < 2816 then da (ix2 i ⟨k.val, h⟩) else du (ix2 i ⟨k.val - 2816, by omega⟩)

/-- The gradient at the feed-forward's input. -/
def dhOf (w : FVec Ideal S1024x5632 .f32) (da du : FVec Ideal S8448x2816 .f32) : FVec Ideal S8448x1024 .bf16 :=
  fun j => ∑ k : Fin 5632, joined da du (j 0) k * w (ix2 (j 1) k)

/-- The array index of an index of the gradients' block. -/
theorem emb0 (t : Fin cfg0.N) (y) : ((View.whole main_v3).slice (win0_0.rect t)).emb y = ix3 (y 0) (row t (y 1)) (y 2) := by
  blk_ext [idx_val t, row]

/-- The array index of an index of the weights' block. -/
theorem emb1 (t : Fin cfg0.N) (y) : ((View.whole main_v4).slice (win0_1.rect t)).emb y = ix2 (y 0) (y 1) := by
  blk_ext [idx_val t]

/-- The gradients' block at a point. -/
theorem blk0 (c : Dev nD) (t : Fin cfg0.N) (d : Fin 2) (r : Fin 384) (k : Fin 2816) : (iblk m c 0 t : FVec Ideal S2x384x2816 .bf16) (ix3 d r k)
    = if d = 0 then (m ((c : Thread nD τ).loc main_arg1) : FVec Ideal S8448x2816 .f32) (ix2 (row t r) k) else (m ((c : Thread nD τ).loc main_arg2) : FVec Ideal S8448x2816 .f32) (ix2 (row t r) k) := by
  blk_simp [iblk, idx_val t]
  entry_read
  rw [emb0]
  fin_cases d
  · pointwise
  · pointwise

/-- The weights' block at a point. -/
theorem blk1 (c : Dev nD) (t : Fin cfg0.N) : (iblk m c 1 t : FVec Ideal S1024x5632 .bf16) = fun y => (m ((c : Thread nD τ).loc main_arg0) : FVec Ideal S1024x5632 .f32) (ix2 (y 0) (y 1)) := by
  funext y
  blk_simp [iblk, idx_val t]
  entry_read
  pointwise
  rw [emb1]
  exact congrArg _ (funext fun a => by fin_cases a <;> rfl)

/-- Four quarters make the whole sum. -/
theorem quarters (f : Fin 5632 → EReal) : ∑ k : Fin 1408, f ⟨k.val, by omega⟩ + ∑ k : Fin 1408, f ⟨1408 + k.val, by omega⟩ + ∑ k : Fin 1408, f ⟨2816 + k.val, by omega⟩ + ∑ k : Fin 1408, f ⟨4224 + k.val, by omega⟩ = ∑ k : Fin 5632, f k := by
  rw [← Fin.sum_mul_add_fin 4 1408 f, Fin.sum_univ_four]
  congr 1

/-- The block written at a point. -/
theorem pay_at (c : Dev nD) (t : Fin cfg0.N) (r : Fin 384) (l : Fin 1024) :
    k0_pay1 (F := Ideal) (View.ld (iblk m c 0 t : FVec Ideal S2x384x2816 .bf16) r0_0) (View.ld (iblk m c 1 t : FVec Ideal S1024x5632 .bf16) r0_1) (View.ld (iblk m c 0 t : FVec Ideal S2x384x2816 .bf16) r0_2) (View.ld (iblk m c 1 t : FVec Ideal S1024x5632 .bf16) r0_3) (View.ld (iblk m c 0 t : FVec Ideal S2x384x2816 .bf16) r0_4) (View.ld (iblk m c 1 t : FVec Ideal S1024x5632 .bf16) r0_5) (View.ld (iblk m c 0 t : FVec Ideal S2x384x2816 .bf16) r0_6) (View.ld (iblk m c 1 t : FVec Ideal S1024x5632 .bf16) r0_7) (ix2 r l) = dhOf (m ((c : Thread nD τ).loc main_arg0)) (m ((c : Thread nD τ).loc main_arg1)) (m ((c : Thread nD τ).loc main_arg2)) (ix2 (row t r) l) := by
  rw [blk1]
  have hb := blk0 m c t
  generalize (iblk m c 0 t : FVec Ideal S2x384x2816 .bf16) = b at hb
  rw [dhOf, ← quarters]
  pointwise [k0_pay1, r0_0, r0_1, r0_2, r0_3, r0_4, r0_5, r0_6, r0_7]
  simp only [hb, joined]
  refine congrArg₂ (· + ·) (congrArg₂ (· + ·) (congrArg₂ (· + ·) ?_ ?_) ?_) ?_
  · exact Finset.sum_congr rfl fun k _ => by rw [if_pos trivial, dif_pos (by omega)]
  · exact Finset.sum_congr rfl fun k _ => by rw [if_pos trivial, dif_pos (by omega)]
  · refine Finset.sum_congr rfl fun k _ => ?_
    rw [if_neg (by decide), dif_neg (by omega)]
    rw [show (⟨2816 + k.val - 2816, by omega⟩ : Fin 2816) = ⟨k.val, by omega⟩ from Fin.ext (by show 2816 + k.val - 2816 = k.val; omega)]
  · refine Finset.sum_congr rfl fun k _ => ?_
    rw [if_neg (by decide), dif_neg (by omega)]
    rw [show (⟨4224 + k.val - 2816, by omega⟩ : Fin 2816) = ⟨1408 + k.val, by omega⟩ from Fin.ext (by show 4224 + k.val - 2816 = 1408 + k.val; omega)]

/-- The array after the run. -/
theorem final_2 (c : Dev nD) : (dats m 0 c).arrAt 2 (cfgs 0).N = dhOf (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp; rw [after0_2]
  have e : ((View.whole main_v5).slice (win0_2.rect t)).emb y = ix2 (row t (y 0)) (y 1) := by blk_ext [idx_val t, row]
  have ey : y = ix2 (y 0 : Fin 384) (y 1 : Fin 1024) := by funext a; fin_cases a <;> rfl
  rw [e, ey]
  frame_out
  exact pay_at m c t (y 0) (y 1)

/-- The reference's run. -/
theorem ref_run (m' : (ℓ : Loc Cert.DhRefIdeal.nD Cert.DhRefIdeal.τ Cert.DhRefIdeal.sig) → Buf (Elt Ideal) ℓ) (g' : Dev Cert.DhRefIdeal.nD → PrngReg) :
    θ_run (Cert.DhRefIdeal.defs (F := Ideal)) (onTc (τ := Cert.DhRefIdeal.τ) (Cert.DhRefIdeal.main (F := Ideal)))
      ⟨m', fun _ => 0, g'⟩ fun r => ∀ c : Dev Cert.DhRefIdeal.nD,
      r.2.mem ((c.tc : Thread Cert.DhRefIdeal.nD Cert.DhRefIdeal.τ).loc Cert.DhRefIdeal.main_v6) = dhOf (m' ((c.tc : Thread Cert.DhRefIdeal.nD Cert.DhRefIdeal.τ).loc Cert.DhRefIdeal.main_arg0)) (m' ((c.tc : Thread Cert.DhRefIdeal.nD Cert.DhRefIdeal.τ).loc Cert.DhRefIdeal.main_arg1)) (m' ((c.tc : Thread Cert.DhRefIdeal.nD Cert.DhRefIdeal.τ).loc Cert.DhRefIdeal.main_arg2))
      ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2) := by
  refine (θ_run Cert.DhRefIdeal.defs _ _).mono (fun r h c => ?_) (Cert.DhRefIdeal.Value.run m' g')
  obtain ⟨r0, rest⟩ := h c
  refine ⟨r0.trans ?_, rest⟩
  · clear r0 rest h
    generalize m' ((c.tc : Thread Cert.DhRefIdeal.nD Cert.DhRefIdeal.τ).loc Cert.DhRefIdeal.main_arg0) = a0
    generalize m' ((c.tc : Thread Cert.DhRefIdeal.nD Cert.DhRefIdeal.τ).loc Cert.DhRefIdeal.main_arg1) = a1
    generalize m' ((c.tc : Thread Cert.DhRefIdeal.nD Cert.DhRefIdeal.τ).loc Cert.DhRefIdeal.main_arg2) = a2
    funext j
    idx_vars j
    pointwise [dhOf, joined]

/-- The gradient and its reference end with equal results. -/
theorem algebraic : Cert.algebraic_DhIdeal_DhRefIdeal := by
  pair_intro
  · run_from Cert.DhIdeal.Gen.run_main m g
  · run_from ref_run m' g'
    · exact (final_2 m c).symm

end Cert.DhIdeal.Value

end
-- ==== Proof.Sum.lean ====
/- Hand-written, untrusted: the sum of the devices' gradients: the kernel adds eight planes in turn, the reference sums over the first axis. -/
module

public import proofs.«01_k».proof.Defs
public import proofs.«01_k».proof.Proof.Reals
public import proofs.«01_k».proof.Proof.Pieces
public import proofs.«01_k».proof.Proof.Gen.SumIdeal.Value
public import proofs.«01_k».proof.Proof.Gen.SumRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumIdeal.Value

open Cert.SumIdeal Cert.SumIdeal.Gen Cert.Reals Cert.Pieces

variable (m : (ℓ : Loc nD τ sig) → Buf (Elt Ideal) ℓ)

/-- Every window's block index, at every grid point. -/
theorem idx_val : ∀ t : Fin cfg0.N, win0_0.index t = ![0, t.val, 0] ∧ win0_1.index t = ![t.val, 0] :=
  (by decide +kernel : ∀ t : Fin grid0.N, _)

/-- The row of the array that is row `r` of block `t`. -/
def row (t : Fin cfg0.N) (r : Fin 328) : Fin 1312 :=
  ⟨t.val * 328 + r.val, by have := t.isLt; have : cfg0.N = 4 := N_0; omega⟩

/-- The sum over the devices. -/
def sumOf (p : FVec Ideal S8x1312x1024 .f32) : FVec Ideal S1312x1024 .f32 := fun j => ∑ d : Fin 8, p (ix3 d (j 0) (j 1))

/-- The array index of an index of the block. -/
theorem emb0 (t : Fin cfg0.N) (y) : ((View.whole main_v0).slice (win0_0.rect t)).emb y = ix3 (y 0) (row t (y 1)) (y 2) := by
  blk_ext [idx_val t, row]

/-- The block at a point. -/
theorem blk0 (c : Dev nD) (t : Fin cfg0.N) : (iblk m c 0 t : FVec Ideal S8x328x1024 .bf16) = fun y => (m ((c : Thread nD τ).loc main_arg0) : FVec Ideal S8x1312x1024 .f32) (ix3 (y 0) (row t (y 1)) (y 2)) := by
  funext y
  blk_simp [iblk, idx_val t]
  entry_read
  pointwise
  rw [emb0]
  rfl

/-- The block written at a point. -/
theorem pay_at (c : Dev nD) (t : Fin cfg0.N) (r : Fin 328) (l : Fin 1024) :
    k0_pay1 (F := Ideal) (View.ld (iblk m c 0 t : FVec Ideal S8x328x1024 .bf16) r0_0) (View.ld (iblk m c 0 t : FVec Ideal S8x328x1024 .bf16) r0_1) (View.ld (iblk m c 0 t : FVec Ideal S8x328x1024 .bf16) r0_2) (View.ld (iblk m c 0 t : FVec Ideal S8x328x1024 .bf16) r0_3) (View.ld (iblk m c 0 t : FVec Ideal S8x328x1024 .bf16) r0_4) (View.ld (iblk m c 0 t : FVec Ideal S8x328x1024 .bf16) r0_5) (View.ld (iblk m c 0 t : FVec Ideal S8x328x1024 .bf16) r0_6) (View.ld (iblk m c 0 t : FVec Ideal S8x328x1024 .bf16) r0_7) (ix2 r l) = sumOf (m ((c : Thread nD τ).loc main_arg0)) (ix2 (row t r) l) := by
  rw [blk0]
  pointwise [k0_pay1, sumOf, r0_0, r0_1, r0_2, r0_3, r0_4, r0_5, r0_6, r0_7]
  simp only [Fin.sum_univ_eight]

/-- The array after the run. -/
theorem final_1 (c : Dev nD) : (dats m 0 c).arrAt 1 (cfgs 0).N = sumOf (m ((c : Thread nD τ).loc main_arg0)) := by
  refine (dats m 0 c).arrAt_eq_of_covers 1 _ (by decide +kernel) fun t hf y => ?_
  blk_simp; rw [after0_1]
  have e : ((View.whole main_v1).slice (win0_1.rect t)).emb y = ix2 (row t (y 0)) (y 1) := by blk_ext [idx_val t, row]
  have ey : y = ix2 (y 0 : Fin 328) (y 1 : Fin 1024) := by funext a; fin_cases a <;> rfl
  rw [e, ey]
  frame_out
  exact pay_at m c t (y 0) (y 1)

/-- The reference's run. -/
theorem ref_run (m' : (ℓ : Loc Cert.SumRefIdeal.nD Cert.SumRefIdeal.τ Cert.SumRefIdeal.sig) → Buf (Elt Ideal) ℓ) (g' : Dev Cert.SumRefIdeal.nD → PrngReg) :
    θ_run (Cert.SumRefIdeal.defs (F := Ideal)) (onTc (τ := Cert.SumRefIdeal.τ) (Cert.SumRefIdeal.main (F := Ideal)))
      ⟨m', fun _ => 0, g'⟩ fun r => ∀ c : Dev Cert.SumRefIdeal.nD,
      r.2.mem ((c.tc : Thread Cert.SumRefIdeal.nD Cert.SumRefIdeal.τ).loc Cert.SumRefIdeal.main_v0) = sumOf (m' ((c.tc : Thread Cert.SumRefIdeal.nD Cert.SumRefIdeal.τ).loc Cert.SumRefIdeal.main_arg0))
      ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0) := by
  refine (θ_run Cert.SumRefIdeal.defs _ _).mono (fun r h c => ?_) (Cert.SumRefIdeal.Value.run m' g')
  obtain ⟨r0, rest⟩ := h c
  refine ⟨r0.trans ?_, rest⟩
  · clear r0 rest h
    generalize m' ((c.tc : Thread Cert.SumRefIdeal.nD Cert.SumRefIdeal.τ).loc Cert.SumRefIdeal.main_arg0) = a0
    funext j
    idx_vars j
    pointwise [sumOf]

/-- The sum and its reference end with equal results. -/
theorem algebraic : Cert.algebraic_SumIdeal_SumRefIdeal := by
  pair_intro
  · run_from Cert.SumIdeal.Gen.run_main m g
  · run_from ref_run m' g'
    · exact (final_1 m c).symm

end Cert.SumIdeal.Value

end
-- ==== Proof.Adam.lean ====
/- Hand-written, untrusted: one step of the optimiser, entry by entry the same formula in the kernel and in the reference. -/
module

public import proofs.«01_k».proof.Defs
public import proofs.«01_k».proof.Proof.Reals
public import proofs.«01_k».proof.Proof.Pieces
public import proofs.«01_k».proof.Proof.Gen.AdamIdeal.Value
public import proofs.«01_k».proof.Proof.Gen.AdamRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamIdeal.Value

open Cert.AdamIdeal Cert.AdamIdeal.Gen Cert.Reals Cert.Pieces

variable (m : (ℓ : Loc nD τ sig) → Buf (Elt Ideal) ℓ)

/-- Every window's block index, at every grid point. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment of an entry. -/
def mom (g m : EReal) : EReal := Ideal.ofBits .f32 0x3F666666#32 * m + Ideal.ofBits .f32 0x3DCCCCCD#32 * g

/-- The new second moment of an entry. -/
def var (g v : EReal) : EReal := Ideal.ofBits .f32 0x3F7FBE77#32 * v + Ideal.ofBits .f32 0x3A83126F#32 * (g * g)

/-- The new first moment. -/
def momOf (g w m v : FVec Ideal S4096x704 .f32) : FVec Ideal S4096x704 .f32 := fun j => mom (g j) (m j)

/-- The new second moment. -/
def varOf (g w m v : FVec Ideal S4096x704 .f32) : FVec Ideal S4096x704 .f32 := fun j => var (g j) (v j)

/-- The update of the weights. -/
def updOf (g w m v : FVec Ideal S4096x704 .f32) : FVec Ideal S4096x704 .f32 := fun j =>
  Ideal.ofBits .f32 0xBA83126F#32 * (Ideal.div (Ideal.div (mom (g j) (m j)) (Ideal.ofBits .f32 0x3F26BD02#32))
    (Ideal.sqrt (Ideal.div (var (g j) (v j)) (Ideal.ofBits .f32 0x3C231ACC#32)) + Ideal.ofBits .f32 0x322BCC77#32)
      + Ideal.ofBits .f32 0x3C23D70A#32 * w j)

/-- The array of window 4 after the run. -/
theorem final_4 (c : Dev nD) : (dats m 0 c).arrAt 4 (cfgs 0).N = updOf (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  frame_out
  pointwise [k0_pay3, k0_pay1, k0_pay2, updOf, mom, var]
  blk_point [iblk, V, idx_val t]

/-- The array of window 5 after the run. -/
theorem final_5 (c : Dev nD) : (dats m 0 c).arrAt 5 (cfgs 0).N = momOf (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  frame_out
  pointwise [k0_pay1, momOf, mom]
  blk_point [iblk, V, idx_val t]

/-- The array of window 6 after the run. -/
theorem final_6 (c : Dev nD) : (dats m 0 c).arrAt 6 (cfgs 0).N = varOf (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  frame_out
  pointwise [k0_pay2, varOf, var]
  blk_point [iblk, V, idx_val t]

/-- The reference's run. -/
theorem ref_run (m' : (ℓ : Loc Cert.AdamRefIdeal.nD Cert.AdamRefIdeal.τ Cert.AdamRefIdeal.sig) → Buf (Elt Ideal) ℓ) (g' : Dev Cert.AdamRefIdeal.nD → PrngReg) :
    θ_run (Cert.AdamRefIdeal.defs (F := Ideal)) (onTc (τ := Cert.AdamRefIdeal.τ) (Cert.AdamRefIdeal.main (F := Ideal)))
      ⟨m', fun _ => 0, g'⟩ fun r => ∀ c : Dev Cert.AdamRefIdeal.nD,
      r.2.mem ((c.tc : Thread Cert.AdamRefIdeal.nD Cert.AdamRefIdeal.τ).loc Cert.AdamRefIdeal.main_v23) = updOf (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))
      ∧ r.2.mem ((c.tc : Thread Cert.AdamRefIdeal.nD Cert.AdamRefIdeal.τ).loc Cert.AdamRefIdeal.main_v4) = momOf (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))
      ∧ r.2.mem ((c.tc : Thread Cert.AdamRefIdeal.nD Cert.AdamRefIdeal.τ).loc Cert.AdamRefIdeal.main_v10) = varOf (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))
      ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3) := by
  refine (θ_run Cert.AdamRefIdeal.defs _ _).mono (fun r h c => ?_) (Cert.AdamRefIdeal.Value.run m' g')
  obtain ⟨r0, r1, r2, rest⟩ := h c
  refine ⟨r0.trans ?_, r1.trans ?_, r2.trans ?_, rest⟩
  · clear r0 r1 r2 rest h
    generalize m' ((c.tc : Thread Cert.AdamRefIdeal.nD Cert.AdamRefIdeal.τ).loc Cert.AdamRefIdeal.main_arg0) = a0
    generalize m' ((c.tc : Thread Cert.AdamRefIdeal.nD Cert.AdamRefIdeal.τ).loc Cert.AdamRefIdeal.main_arg1) = a1
    generalize m' ((c.tc : Thread Cert.AdamRefIdeal.nD Cert.AdamRefIdeal.τ).loc Cert.AdamRefIdeal.main_arg2) = a2
    generalize m' ((c.tc : Thread Cert.AdamRefIdeal.nD Cert.AdamRefIdeal.τ).loc Cert.AdamRefIdeal.main_arg3) = a3
    funext j
    pointwise [updOf, mom, var]
  · clear r0 r1 r2 rest h
    generalize m' ((c.tc : Thread Cert.AdamRefIdeal.nD Cert.AdamRefIdeal.τ).loc Cert.AdamRefIdeal.main_arg0) = a0
    generalize m' ((c.tc : Thread Cert.AdamRefIdeal.nD Cert.AdamRefIdeal.τ).loc Cert.AdamRefIdeal.main_arg1) = a1
    generalize m' ((c.tc : Thread Cert.AdamRefIdeal.nD Cert.AdamRefIdeal.τ).loc Cert.AdamRefIdeal.main_arg2) = a2
    generalize m' ((c.tc : Thread Cert.AdamRefIdeal.nD Cert.AdamRefIdeal.τ).loc Cert.AdamRefIdeal.main_arg3) = a3
    funext j
    pointwise [momOf, mom]
  · clear r0 r1 r2 rest h
    generalize m' ((c.tc : Thread Cert.AdamRefIdeal.nD Cert.AdamRefIdeal.τ).loc Cert.AdamRefIdeal.main_arg0) = a0
    generalize m' ((c.tc : Thread Cert.AdamRefIdeal.nD Cert.AdamRefIdeal.τ).loc Cert.AdamRefIdeal.main_arg1) = a1
    generalize m' ((c.tc : Thread Cert.AdamRefIdeal.nD Cert.AdamRefIdeal.τ).loc Cert.AdamRefIdeal.main_arg2) = a2
    generalize m' ((c.tc : Thread Cert.AdamRefIdeal.nD Cert.AdamRefIdeal.τ).loc Cert.AdamRefIdeal.main_arg3) = a3
    funext j
    pointwise [varOf, var]

/-- The optimiser and its reference end with equal results. -/
theorem algebraic : Cert.algebraic_AdamIdeal_AdamRefIdeal := by
  pair_intro
  · run_from Cert.AdamIdeal.Gen.run_main m g
  · run_from ref_run m' g'
    · exact (final_4 m c).symm
    · exact (final_5 m c).symm
    · exact (final_6 m c).symm

end Cert.AdamIdeal.Value

end
-- ==== Proof.lean ====
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.Rope.Frame
public import proofs.«01_k».proof.Proof.Gen.RopeIdeal.Frame
public import proofs.«01_k».proof.Proof.Gen.RopeIdeal.Value
public import proofs.«01_k».proof.Proof.Gen.RopeRefIdeal.Run
public import proofs.«01_k».proof.Proof.NaBody
public import proofs.«01_k».proof.Proof.NaIdealBody
public import proofs.«01_k».proof.Proof.Gen.NaRefIdeal.Run
public import proofs.«01_k».proof.Proof.Gen.Flash.Frame
public import proofs.«01_k».proof.Proof.Gen.FlashIdeal.Frame
public import proofs.«01_k».proof.Proof.Gen.FlashIdeal.Value
public import proofs.«01_k».proof.Proof.Gen.FlashRefIdeal.Run
public import proofs.«01_k».proof.Proof.FwdBody
public import proofs.«01_k».proof.Proof.FwdIdealBody
public import proofs.«01_k».proof.Proof.Gen.FwdRefIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Act.Frame
public import proofs.«01_k».proof.Proof.Gen.ActIdeal.Frame
public import proofs.«01_k».proof.Proof.Gen.ActIdeal.Value
public import proofs.«01_k».proof.Proof.Gen.ActRefIdeal.Run
public import proofs.«01_k».proof.Proof.Gen.Mod.Frame
public import proofs.«01_k».proof.Proof.Gen.ModIdeal.Frame
public import proofs.«01_k».proof.Proof.Gen.ModIdeal.Value
public import proofs.«01_k».proof.Proof.Gen.ModRefIdeal.Run
public import proofs.«01_k».proof.Proof.Gen.Rot.Frame
public import proofs.«01_k».proof.Proof.Gen.RotIdeal.Frame
public import proofs.«01_k».proof.Proof.Gen.RotIdeal.Value
public import proofs.«01_k».proof.Proof.Gen.RotRefIdeal.Run
public import proofs.«01_k».proof.Proof.Gen.Win.Frame
public import proofs.«01_k».proof.Proof.Gen.WinIdeal.Frame
public import proofs.«01_k».proof.Proof.Gen.WinIdeal.Value
public import proofs.«01_k».proof.Proof.Gen.WinRefIdeal.Run
public import proofs.«01_k».proof.Proof.Gen.Prod.Frame
public import proofs.«01_k».proof.Proof.Gen.ProdIdeal.Frame
public import proofs.«01_k».proof.Proof.Gen.ProdIdeal.Value
public import proofs.«01_k».proof.Proof.Gen.ProdRefIdeal.Run
public import proofs.«01_k».proof.Proof.Gen.Dx.Frame
public import proofs.«01_k».proof.Proof.Gen.DxIdeal.Frame
public import proofs.«01_k».proof.Proof.Gen.DxIdeal.Value
public import proofs.«01_k».proof.Proof.Gen.DxRefIdeal.Run
public import proofs.«01_k».proof.Proof.Gen.Dw.Frame
public import proofs.«01_k».proof.Proof.Gen.DwIdeal.Frame
public import proofs.«01_k».proof.Proof.Gen.DwIdeal.Value
public import proofs.«01_k».proof.Proof.Gen.DwRefIdeal.Run
public import proofs.«01_k».proof.Proof.Gen.Dh.Frame
public import proofs.«01_k».proof.Proof.Gen.DhIdeal.Frame
public import proofs.«01_k».proof.Proof.Gen.DhIdeal.Value
public import proofs.«01_k».proof.Proof.Gen.DhRefIdeal.Run
public import proofs.«01_k».proof.Proof.Gen.Sum.Frame
public import proofs.«01_k».proof.Proof.Gen.SumIdeal.Frame
public import proofs.«01_k».proof.Proof.Gen.SumIdeal.Value
public import proofs.«01_k».proof.Proof.Gen.SumRefIdeal.Run
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Loss
public import proofs.«01_k».proof.Proof.NormRef
public import proofs.«01_k».proof.Proof.RopeRef
public import proofs.«01_k».proof.Proof.FlashRef
public import proofs.«01_k».proof.Proof.FwdRef
public import proofs.«01_k».proof.Proof.FfnRef
public import proofs.«01_k».proof.Proof.ActRef
public import proofs.«01_k».proof.Proof.ModRef
public import proofs.«01_k».proof.Proof.RotRef
public import proofs.«01_k».proof.Proof.Prod
public import proofs.«01_k».proof.Proof.Dx
public import proofs.«01_k».proof.Proof.Dw
public import proofs.«01_k».proof.Proof.Dh
public import proofs.«01_k».proof.Proof.Sum
public import proofs.«01_k».proof.Proof.Adam
public import proofs.«01_k».proof.Proof.Gen.Loss
public import proofs.«01_k».proof.Proof.Gen.LossIdeal
public import proofs.«01_k».proof.Proof.Gen.LossRefIdeal
public import proofs.«01_k».proof.Proof.Gen.Norm
public import proofs.«01_k».proof.Proof.Gen.NormIdeal
public import proofs.«01_k».proof.Proof.Gen.NormRefIdeal
public import proofs.«01_k».proof.Proof.Gen.Rope
public import proofs.«01_k».proof.Proof.Gen.RopeIdeal
public import proofs.«01_k».proof.Proof.Gen.RopeRefIdeal
public import proofs.«01_k».proof.Proof.Gen.Na
public import proofs.«01_k».proof.Proof.Gen.NaIdeal
public import proofs.«01_k».proof.Proof.Gen.NaRefIdeal
public import proofs.«01_k».proof.Proof.Gen.Flash
public import proofs.«01_k».proof.Proof.Gen.FlashIdeal
public import proofs.«01_k».proof.Proof.Gen.FlashRefIdeal
public import proofs.«01_k».proof.Proof.Gen.Fwd
public import proofs.«01_k».proof.Proof.Gen.FwdIdeal
public import proofs.«01_k».proof.Proof.Gen.FwdRefIdeal
public import proofs.«01_k».proof.Proof.Gen.Ffn
public import proofs.«01_k».proof.Proof.Gen.FfnIdeal
public import proofs.«01_k».proof.Proof.Gen.FfnRefIdeal
public import proofs.«01_k».proof.Proof.Gen.Act
public import proofs.«01_k».proof.Proof.Gen.ActIdeal
public import proofs.«01_k».proof.Proof.Gen.ActRefIdeal
public import proofs.«01_k».proof.Proof.Gen.Mod
public import proofs.«01_k».proof.Proof.Gen.ModIdeal
public import proofs.«01_k».proof.Proof.Gen.ModRefIdeal
public import proofs.«01_k».proof.Proof.Gen.Rot
public import proofs.«01_k».proof.Proof.Gen.RotIdeal
public import proofs.«01_k».proof.Proof.Gen.RotRefIdeal
public import proofs.«01_k».proof.Proof.Gen.Win
public import proofs.«01_k».proof.Proof.Gen.WinIdeal
public import proofs.«01_k».proof.Proof.Gen.WinRefIdeal
public import proofs.«01_k».proof.Proof.Gen.Prod
public import proofs.«01_k».proof.Proof.Gen.ProdIdeal
public import proofs.«01_k».proof.Proof.Gen.ProdRefIdeal
public import proofs.«01_k».proof.Proof.Gen.Dx
public import proofs.«01_k».proof.Proof.Gen.DxIdeal
public import proofs.«01_k».proof.Proof.Gen.DxRefIdeal
public import proofs.«01_k».proof.Proof.Gen.Dw
public import proofs.«01_k».proof.Proof.Gen.DwIdeal
public import proofs.«01_k».proof.Proof.Gen.DwRefIdeal
public import proofs.«01_k».proof.Proof.Gen.Dh
public import proofs.«01_k».proof.Proof.Gen.DhIdeal
public import proofs.«01_k».proof.Proof.Gen.DhRefIdeal
public import proofs.«01_k».proof.Proof.Gen.Sum
public import proofs.«01_k».proof.Proof.Gen.SumIdeal
public import proofs.«01_k».proof.Proof.Gen.SumRefIdeal
public import proofs.«01_k».proof.Proof.Gen.Adam
public import proofs.«01_k».proof.Proof.Gen.AdamIdeal
public import proofs.«01_k».proof.Proof.Gen.AdamRefIdeal
public import proofs.«01_k».proof.Proof.Gen.Pre_norm_finite
public import proofs.«01_k».proof.Proof.Gen.Pre_rope_finite
public import proofs.«01_k».proof.Proof.Gen.Pre_flash_finite
public import proofs.«01_k».proof.Proof.Gen.Pre_fwd_finite
public import proofs.«01_k».proof.Proof.Gen.Pre_ffn_finite
public import proofs.«01_k».proof.Proof.Gen.Pre_act_finite
public import proofs.«01_k».proof.Proof.Gen.Pre_mod_finite
public import proofs.«01_k».proof.Proof.Gen.Pre_rot_finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference LossRefIdeal runs, leaves its arguments as they were and every counter at zero. -/
theorem frame_LossRefIdeal : Cert.quiescent_LossRefIdeal := by
  intro m g _
  exact (θ_run Cert.LossRefIdeal.defs _ _).mono (fun r h => ⟨fun c => (h c).2.2, sem_eq_zero_of_no_sems (by decide) r.2⟩) (Cert.LossRefIdeal.Value.run m g)

/-- The reference NormRefIdeal runs, leaves its arguments as they were and every counter at zero. -/
theorem frame_NormRefIdeal : Cert.quiescent_NormRefIdeal := by
  intro m g _
  exact (θ_run Cert.NormRefIdeal.defs _ _).mono (fun r h => ⟨fun c => (h c).2.2.2.2, sem_eq_zero_of_no_sems (by decide) r.2⟩) (Cert.NormRefIdeal.Value.run m g)

/-- The reference RopeRefIdeal runs, leaves its arguments as they were and every counter at zero. -/
theorem frame_RopeRefIdeal : Cert.quiescent_RopeRefIdeal := by
  intro m g _
  exact (θ_run Cert.RopeRefIdeal.defs _ _).mono (fun r h => ⟨fun c => (h c).2.2, sem_eq_zero_of_no_sems (by decide) r.2⟩) (Cert.RopeRefIdeal.Value.run m g)

/-- The reference NaRefIdeal runs, leaves its arguments as they were and every counter at zero. -/
theorem frame_NaRefIdeal : Cert.quiescent_NaRefIdeal := by
  intro m g _
  exact (θ_run Cert.NaRefIdeal.defs _ _).mono (fun r h => ⟨fun c => (h c).2.2.2.2.2, sem_eq_zero_of_no_sems (by decide) r.2⟩) (Cert.NaRefIdeal.Value.run m g)

/-- The reference FlashRefIdeal runs, leaves its arguments as they were and every counter at zero. -/
theorem frame_FlashRefIdeal : Cert.quiescent_FlashRefIdeal := by
  intro m g _
  exact (θ_run Cert.FlashRefIdeal.defs _ _).mono (fun r h => ⟨fun c => (h c).2.2.2, sem_eq_zero_of_no_sems (by decide) r.2⟩) (Cert.FlashRefIdeal.Value.run m g)

/-- The reference FwdRefIdeal runs, leaves its arguments as they were and every counter at zero. -/
theorem frame_FwdRefIdeal : Cert.quiescent_FwdRefIdeal := by
  intro m g _
  exact (θ_run Cert.FwdRefIdeal.defs _ _).mono (fun r h => ⟨fun c => (h c).2.2, sem_eq_zero_of_no_sems (by decide) r.2⟩) (Cert.FwdRefIdeal.Value.run m g)

/-- The reference FfnRefIdeal runs, leaves its arguments as they were and every counter at zero. -/
theorem frame_FfnRefIdeal : Cert.quiescent_FfnRefIdeal := by
  intro m g _
  exact (θ_run Cert.FfnRefIdeal.defs _ _).mono (fun r h => ⟨fun c => (h c).2, sem_eq_zero_of_no_sems (by decide) r.2⟩) (Cert.FfnRefIdeal.Value.run m g)

/-- The reference ActRefIdeal runs, leaves its arguments as they were and every counter at zero. -/
theorem frame_ActRefIdeal : Cert.quiescent_ActRefIdeal := by
  intro m g _
  exact (θ_run Cert.ActRefIdeal.defs _ _).mono (fun r h => ⟨fun c => (h c).2.2, sem_eq_zero_of_no_sems (by decide) r.2⟩) (Cert.ActRefIdeal.Value.run m g)

/-- The reference ModRefIdeal runs, leaves its arguments as they were and every counter at zero. -/
theorem frame_ModRefIdeal : Cert.quiescent_ModRefIdeal := by
  intro m g _
  exact (θ_run Cert.ModRefIdeal.defs _ _).mono (fun r h => ⟨fun c => (h c).2, sem_eq_zero_of_no_sems (by decide) r.2⟩) (Cert.ModRefIdeal.Value.run m g)

/-- The reference RotRefIdeal runs, leaves its arguments as they were and every counter at zero. -/
theorem frame_RotRefIdeal : Cert.quiescent_RotRefIdeal := by
  intro m g _
  exact (θ_run Cert.RotRefIdeal.defs _ _).mono (fun r h => ⟨fun c => (h c).2, sem_eq_zero_of_no_sems (by decide) r.2⟩) (Cert.RotRefIdeal.Value.run m g)

/-- The reference WinRefIdeal runs, leaves its arguments as they were and every counter at zero. -/
theorem frame_WinRefIdeal : Cert.quiescent_WinRefIdeal := by
  intro m g _
  exact (θ_run Cert.WinRefIdeal.defs _ _).mono (fun r h => ⟨fun c => (h c).2, sem_eq_zero_of_no_sems (by decide) r.2⟩) (Cert.WinRefIdeal.Value.run m g)

/-- The reference ProdRefIdeal runs, leaves its arguments as they were and every counter at zero. -/
theorem frame_ProdRefIdeal : Cert.quiescent_ProdRefIdeal := by
  intro m g _
  exact (θ_run Cert.ProdRefIdeal.defs _ _).mono (fun r h => ⟨fun c => (h c).2, sem_eq_zero_of_no_sems (by decide) r.2⟩) (Cert.ProdRefIdeal.Value.run m g)

/-- The reference DxRefIdeal runs, leaves its arguments as they were and every counter at zero. -/
theorem frame_DxRefIdeal : Cert.quiescent_DxRefIdeal := by
  intro m g _
  exact (θ_run Cert.DxRefIdeal.defs _ _).mono (fun r h => ⟨fun c => (h c).2, sem_eq_zero_of_no_sems (by decide) r.2⟩) (Cert.DxRefIdeal.Value.run m g)

/-- The reference DwRefIdeal runs, leaves its arguments as they were and every counter at zero. -/
theorem frame_DwRefIdeal : Cert.quiescent_DwRefIdeal := by
  intro m g _
  exact (θ_run Cert.DwRefIdeal.defs _ _).mono (fun r h => ⟨fun c => (h c).2, sem_eq_zero_of_no_sems (by decide) r.2⟩) (Cert.DwRefIdeal.Value.run m g)

/-- The reference DhRefIdeal runs, leaves its arguments as they were and every counter at zero. -/
theorem frame_DhRefIdeal : Cert.quiescent_DhRefIdeal := by
  intro m g _
  exact (θ_run Cert.DhRefIdeal.defs _ _).mono (fun r h => ⟨fun c => (h c).2, sem_eq_zero_of_no_sems (by decide) r.2⟩) (Cert.DhRefIdeal.Value.run m g)

/-- The reference SumRefIdeal runs, leaves its arguments as they were and every counter at zero. -/
theorem frame_SumRefIdeal : Cert.quiescent_SumRefIdeal := by
  intro m g _
  exact (θ_run Cert.SumRefIdeal.defs _ _).mono (fun r h => ⟨fun c => (h c).2, sem_eq_zero_of_no_sems (by decide) r.2⟩) (Cert.SumRefIdeal.Value.run m g)

/-- The reference AdamRefIdeal runs, leaves its arguments as they were and every counter at zero. -/
theorem frame_AdamRefIdeal : Cert.quiescent_AdamRefIdeal := by
  intro m g _
  exact (θ_run Cert.AdamRefIdeal.defs _ _).mono (fun r h => ⟨fun c => (h c).2.2.2, sem_eq_zero_of_no_sems (by decide) r.2⟩) (Cert.AdamRefIdeal.Value.run m g)

/-- Every claim of the certificate. -/
theorem claim : Cert.Claim :=
  ⟨Cert.Loss.Gen.facts, Cert.LossIdeal.Gen.facts, Cert.LossRefIdeal.Gen.facts, Cert.Norm.Gen.facts, Cert.NormIdeal.Gen.facts, Cert.NormRefIdeal.Gen.facts, Cert.Rope.Gen.facts, Cert.RopeIdeal.Gen.facts, Cert.RopeRefIdeal.Gen.facts, Cert.Na.Gen.facts, Cert.NaIdeal.Gen.facts, Cert.NaRefIdeal.Gen.facts, Cert.Flash.Gen.facts, Cert.FlashIdeal.Gen.facts, Cert.FlashRefIdeal.Gen.facts, Cert.Fwd.Gen.facts, Cert.FwdIdeal.Gen.facts, Cert.FwdRefIdeal.Gen.facts, Cert.Ffn.Gen.facts, Cert.FfnIdeal.Gen.facts, Cert.FfnRefIdeal.Gen.facts, Cert.Act.Gen.facts, Cert.ActIdeal.Gen.facts, Cert.ActRefIdeal.Gen.facts, Cert.Mod.Gen.facts, Cert.ModIdeal.Gen.facts, Cert.ModRefIdeal.Gen.facts, Cert.Rot.Gen.facts, Cert.RotIdeal.Gen.facts, Cert.RotRefIdeal.Gen.facts, Cert.Win.Gen.facts, Cert.WinIdeal.Gen.facts, Cert.WinRefIdeal.Gen.facts, Cert.Prod.Gen.facts, Cert.ProdIdeal.Gen.facts, Cert.ProdRefIdeal.Gen.facts, Cert.Dx.Gen.facts, Cert.DxIdeal.Gen.facts, Cert.DxRefIdeal.Gen.facts, Cert.Dw.Gen.facts, Cert.DwIdeal.Gen.facts, Cert.DwRefIdeal.Gen.facts, Cert.Dh.Gen.facts, Cert.DhIdeal.Gen.facts, Cert.DhRefIdeal.Gen.facts, Cert.Sum.Gen.facts, Cert.SumIdeal.Gen.facts, Cert.SumRefIdeal.Gen.facts, Cert.Adam.Gen.facts, Cert.AdamIdeal.Gen.facts, Cert.AdamRefIdeal.Gen.facts, Cert.Pre_norm_finite.Gen.facts, Cert.Pre_rope_finite.Gen.facts, Cert.Pre_flash_finite.Gen.facts, Cert.Pre_fwd_finite.Gen.facts, Cert.Pre_ffn_finite.Gen.facts, Cert.Pre_act_finite.Gen.facts, Cert.Pre_mod_finite.Gen.facts, Cert.Pre_rot_finite.Gen.facts,
    fun m ρ _ => Cert.Loss.Gen.frame m ρ,
    fun m ρ _ => Cert.LossIdeal.Gen.frame m ρ,
    fun m g _ => frame_LossRefIdeal m g trivial,
    fun m ρ _ => Cert.Norm.Gen.frame m ρ,
    fun m ρ _ => Cert.NormIdeal.Gen.frame m ρ,
    fun m ρ _ => Cert.NormIdeal.Gen.frame m ρ,
    fun m g _ => frame_NormRefIdeal m g trivial,
    fun m g _ => frame_NormRefIdeal m g trivial,
    fun m ρ _ => Cert.Rope.Gen.frame m ρ,
    fun m ρ _ => Cert.RopeIdeal.Gen.frame m ρ,
    fun m ρ _ => Cert.RopeIdeal.Gen.frame m ρ,
    fun m g _ => frame_RopeRefIdeal m g trivial,
    fun m g _ => frame_RopeRefIdeal m g trivial,
    fun m ρ _ => Cert.Na.Body.frame m ρ,
    fun m ρ _ => Cert.NaIdeal.Body.frame m ρ,
    fun m g _ => frame_NaRefIdeal m g trivial,
    fun m ρ _ => Cert.Flash.Gen.frame m ρ,
    fun m ρ _ => Cert.FlashIdeal.Gen.frame m ρ,
    fun m ρ _ => Cert.FlashIdeal.Gen.frame m ρ,
    fun m g _ => frame_FlashRefIdeal m g trivial,
    fun m g _ => frame_FlashRefIdeal m g trivial,
    fun m ρ _ => Cert.Fwd.Body.frame m ρ,
    fun m ρ _ => Cert.FwdIdeal.Body.frame m ρ,
    fun m ρ _ => Cert.FwdIdeal.Body.frame m ρ,
    fun m g _ => frame_FwdRefIdeal m g trivial,
    fun m g _ => frame_FwdRefIdeal m g trivial,
    fun m ρ _ => Cert.Ffn.Gen.frame m ρ,
    fun m ρ _ => Cert.FfnIdeal.Gen.frame m ρ,
    fun m ρ _ => Cert.FfnIdeal.Gen.frame m ρ,
    fun m g _ => frame_FfnRefIdeal m g trivial,
    fun m g _ => frame_FfnRefIdeal m g trivial,
    fun m ρ _ => Cert.Act.Gen.frame m ρ,
    fun m ρ _ => Cert.ActIdeal.Gen.frame m ρ,
    fun m ρ _ => Cert.ActIdeal.Gen.frame m ρ,
    fun m g _ => frame_ActRefIdeal m g trivial,
    fun m g _ => frame_ActRefIdeal m g trivial,
    fun m ρ _ => Cert.Mod.Gen.frame m ρ,
    fun m ρ _ => Cert.ModIdeal.Gen.frame m ρ,
    fun m ρ _ => Cert.ModIdeal.Gen.frame m ρ,
    fun m g _ => frame_ModRefIdeal m g trivial,
    fun m g _ => frame_ModRefIdeal m g trivial,
    fun m ρ _ => Cert.Rot.Gen.frame m ρ,
    fun m ρ _ => Cert.RotIdeal.Gen.frame m ρ,
    fun m ρ _ => Cert.RotIdeal.Gen.frame m ρ,
    fun m g _ => frame_RotRefIdeal m g trivial,
    fun m g _ => frame_RotRefIdeal m g trivial,
    fun m ρ _ => Cert.Win.Gen.frame m ρ,
    fun m ρ _ => Cert.WinIdeal.Gen.frame m ρ,
    fun m g _ => frame_WinRefIdeal m g trivial,
    fun m ρ _ => Cert.Prod.Gen.frame m ρ,
    fun m ρ _ => Cert.ProdIdeal.Gen.frame m ρ,
    fun m g _ => frame_ProdRefIdeal m g trivial,
    fun m ρ _ => Cert.Dx.Gen.frame m ρ,
    fun m ρ _ => Cert.DxIdeal.Gen.frame m ρ,
    fun m g _ => frame_DxRefIdeal m g trivial,
    fun m ρ _ => Cert.Dw.Gen.frame m ρ,
    fun m ρ _ => Cert.DwIdeal.Gen.frame m ρ,
    fun m g _ => frame_DwRefIdeal m g trivial,
    fun m ρ _ => Cert.Dh.Gen.frame m ρ,
    fun m ρ _ => Cert.DhIdeal.Gen.frame m ρ,
    fun m g _ => frame_DhRefIdeal m g trivial,
    fun m ρ _ => Cert.Sum.Gen.frame m ρ,
    fun m ρ _ => Cert.SumIdeal.Gen.frame m ρ,
    fun m g _ => frame_SumRefIdeal m g trivial,
    fun m ρ _ => Cert.Adam.Gen.frame m ρ,
    fun m ρ _ => Cert.AdamIdeal.Gen.frame m ρ,
    fun m g _ => frame_AdamRefIdeal m g trivial,
    trivial,
    Cert.LossIdeal.Value.algebraic,
    trivial,
    Cert.NormIdeal.Value.algebraic,
    trivial,
    Cert.RopeIdeal.Value.algebraic,
    trivial,
    trivial,
    Cert.FlashIdeal.Value.algebraic,
    trivial,
    Cert.FwdIdeal.Value.algebraic,
    trivial,
    Cert.FfnIdeal.Value.algebraic,
    trivial,
    Cert.ActIdeal.Value.algebraic,
    trivial,
    Cert.ModIdeal.Value.algebraic,
    trivial,
    Cert.RotIdeal.Value.algebraic,
    trivial,
    trivial,
    Cert.ProdIdeal.Value.algebraic,
    trivial,
    Cert.DxIdeal.Value.algebraic,
    trivial,
    Cert.DwIdeal.Value.algebraic,
    trivial,
    Cert.DhIdeal.Value.algebraic,
    trivial,
    Cert.SumIdeal.Value.algebraic,
    trivial,
    Cert.AdamIdeal.Value.algebraic⟩

end Cert.Proof

end
